-- ==== Defs.lean ====
def Pre_KernelZmain (m : (ℓ : Loc Cert.KernelZmain.nD Cert.KernelZmain.τ Cert.KernelZmain.sig) → Buf (Elt Bits) ℓ) : Prop :=
  True

def Pre_KernelZmainIdeal (m : (ℓ : Loc Cert.KernelZmainIdeal.nD Cert.KernelZmainIdeal.τ Cert.KernelZmainIdeal.sig) → Buf (Elt Ideal) ℓ) : Prop :=
  True

def Pre_ReferenceZmainIdeal (m : (ℓ : Loc Cert.ReferenceZmainIdeal.nD Cert.ReferenceZmainIdeal.τ Cert.ReferenceZmainIdeal.sig) → Buf (Elt Ideal) ℓ) : Prop :=
  True

def Pre_KernelZg (m : (ℓ : Loc Cert.KernelZg.nD Cert.KernelZg.τ Cert.KernelZg.sig) → Buf (Elt Bits) ℓ) : Prop :=
  True

def Pre_KernelZgIdeal (m : (ℓ : Loc Cert.KernelZgIdeal.nD Cert.KernelZgIdeal.τ Cert.KernelZgIdeal.sig) → Buf (Elt Ideal) ℓ) : Prop :=
  True

def Pre_ReferenceZgIdeal (m : (ℓ : Loc Cert.ReferenceZgIdeal.nD Cert.ReferenceZgIdeal.τ Cert.ReferenceZgIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDdown (m : (ℓ : Loc Cert.KernelDdown.nD Cert.KernelDdown.τ Cert.KernelDdown.sig) → Buf (Elt Bits) ℓ) : Prop :=
  True

def Pre_KernelDdownIdeal (m : (ℓ : Loc Cert.KernelDdownIdeal.nD Cert.KernelDdownIdeal.τ Cert.KernelDdownIdeal.sig) → Buf (Elt Ideal) ℓ) : Prop :=
  True

def Pre_ReferenceDdownIdeal (m : (ℓ : Loc Cert.ReferenceDdownIdeal.nD Cert.ReferenceDdownIdeal.τ Cert.ReferenceDdownIdeal.sig) → Buf (Elt Ideal) ℓ) : Prop :=
  True

def Pre_KernelDup (m : (ℓ : Loc Cert.KernelDup.nD Cert.KernelDup.τ Cert.KernelDup.sig) → Buf (Elt Bits) ℓ) : Prop :=
  True

def Pre_KernelDupIdeal (m : (ℓ : Loc Cert.KernelDupIdeal.nD Cert.KernelDupIdeal.τ Cert.KernelDupIdeal.sig) → Buf (Elt Ideal) ℓ) : Prop :=
  True

def Pre_ReferenceDupIdeal (m : (ℓ : Loc Cert.ReferenceDupIdeal.nD Cert.ReferenceDupIdeal.τ Cert.ReferenceDupIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelDbranch (m : (ℓ : Loc Cert.KernelDbranch.nD Cert.KernelDbranch.τ Cert.KernelDbranch.sig) → Buf (Elt Bits) ℓ) : Prop :=
  True

def Pre_KernelDbranchIdeal (m : (ℓ : Loc Cert.KernelDbranchIdeal.nD Cert.KernelDbranchIdeal.τ Cert.KernelDbranchIdeal.sig) → Buf (Elt Ideal) ℓ) : Prop :=
  True

def Pre_ReferenceDbranchIdeal (m : (ℓ : Loc Cert.ReferenceDbranchIdeal.nD Cert.ReferenceDbranchIdeal.τ Cert.ReferenceDbranchIdeal.sig) → Buf (Elt Ideal) ℓ) : Prop :=
  True

def Pre_KernelDmain (m : (ℓ : Loc Cert.KernelDmain.nD Cert.KernelDmain.τ Cert.KernelDmain.sig) → Buf (Elt Bits) ℓ) : Prop :=
  True

def Pre_KernelDmainIdeal (m : (ℓ : Loc Cert.KernelDmainIdeal.nD Cert.KernelDmainIdeal.τ Cert.KernelDmainIdeal.sig) → Buf (Elt Ideal) ℓ) : Prop :=
  True

def Pre_ReferenceDmainIdeal (m : (ℓ : Loc Cert.ReferenceDmainIdeal.nD Cert.ReferenceDmainIdeal.τ Cert.ReferenceDmainIdeal.sig) → Buf (Elt Ideal) ℓ) : Prop :=
  True

def Pre_KernelDg (m : (ℓ : Loc Cert.KernelDg.nD Cert.KernelDg.τ Cert.KernelDg.sig) → Buf (Elt Bits) ℓ) : Prop :=
  True

def Pre_KernelDgIdeal (m : (ℓ : Loc Cert.KernelDgIdeal.nD Cert.KernelDgIdeal.τ Cert.KernelDgIdeal.sig) → Buf (Elt Ideal) ℓ) : Prop :=
  True

def Pre_ReferenceDgIdeal (m : (ℓ : Loc Cert.ReferenceDgIdeal.nD Cert.ReferenceDgIdeal.τ Cert.ReferenceDgIdeal.sig) → Buf (Elt Ideal) ℓ) : Prop :=
  True

def Pre_KernelMdown (m : (ℓ : Loc Cert.KernelMdown.nD Cert.KernelMdown.τ Cert.KernelMdown.sig) → Buf (Elt Bits) ℓ) : Prop :=
  True

def Pre_KernelMdownIdeal (m : (ℓ : Loc Cert.KernelMdownIdeal.nD Cert.KernelMdownIdeal.τ Cert.KernelMdownIdeal.sig) → Buf (Elt Ideal) ℓ) : Prop :=
  True

def Pre_ReferenceMdownIdeal (m : (ℓ : Loc Cert.ReferenceMdownIdeal.nD Cert.ReferenceMdownIdeal.τ Cert.ReferenceMdownIdeal.sig) → Buf (Elt Ideal) ℓ) : Prop :=
  True

def Pre_KernelMup (m : (ℓ : Loc Cert.KernelMup.nD Cert.KernelMup.τ Cert.KernelMup.sig) → Buf (Elt Bits) ℓ) : Prop :=
  True

def Pre_KernelMupIdeal (m : (ℓ : Loc Cert.KernelMupIdeal.nD Cert.KernelMupIdeal.τ Cert.KernelMupIdeal.sig) → Buf (Elt Ideal) ℓ) : Prop :=
  True

def Pre_ReferenceMupIdeal (m : (ℓ : Loc Cert.ReferenceMupIdeal.nD Cert.ReferenceMupIdeal.τ Cert.ReferenceMupIdeal.sig) → Buf (Elt Ideal) ℓ) : Prop :=
  True

def Pre_KernelMout (m : (ℓ : Loc Cert.KernelMout.nD Cert.KernelMout.τ Cert.KernelMout.sig) → Buf (Elt Bits) ℓ) : Prop :=
  True

def Pre_KernelMoutIdeal (m : (ℓ : Loc Cert.KernelMoutIdeal.nD Cert.KernelMoutIdeal.τ Cert.KernelMoutIdeal.sig) → Buf (Elt Ideal) ℓ) : Prop :=
  True

def Pre_ReferenceMoutIdeal (m : (ℓ : Loc Cert.ReferenceMoutIdeal.nD Cert.ReferenceMoutIdeal.τ Cert.ReferenceMoutIdeal.sig) → Buf (Elt Ideal) ℓ) : Prop :=
  True

def Pre_KernelMbranch (m : (ℓ : Loc Cert.KernelMbranch.nD Cert.KernelMbranch.τ Cert.KernelMbranch.sig) → Buf (Elt Bits) ℓ) : Prop :=
  True

def Pre_KernelMbranchIdeal (m : (ℓ : Loc Cert.KernelMbranchIdeal.nD Cert.KernelMbranchIdeal.τ Cert.KernelMbranchIdeal.sig) → Buf (Elt Ideal) ℓ) : Prop :=
  True

def Pre_ReferenceMbranchIdeal (m : (ℓ : Loc Cert.ReferenceMbranchIdeal.nD Cert.ReferenceMbranchIdeal.τ Cert.ReferenceMbranchIdeal.sig) → Buf (Elt Ideal) ℓ) : Prop :=
  True

def Pre_KernelMmain (m : (ℓ : Loc Cert.KernelMmain.nD Cert.KernelMmain.τ Cert.KernelMmain.sig) → Buf (Elt Bits) ℓ) : Prop :=
  True

def Pre_KernelMmainIdeal (m : (ℓ : Loc Cert.KernelMmainIdeal.nD Cert.KernelMmainIdeal.τ Cert.KernelMmainIdeal.sig) → Buf (Elt Ideal) ℓ) : Prop :=
  True

def Pre_ReferenceMmainIdeal (m : (ℓ : Loc Cert.ReferenceMmainIdeal.nD Cert.ReferenceMmainIdeal.τ Cert.ReferenceMmainIdeal.sig) → Buf (Elt Ideal) ℓ) : Prop :=
  True

def Pre_KernelMg (m : (ℓ : Loc Cert.KernelMg.nD Cert.KernelMg.τ Cert.KernelMg.sig) → Buf (Elt Bits) ℓ) : Prop :=
  True

def Pre_KernelMgIdeal (m : (ℓ : Loc Cert.KernelMgIdeal.nD Cert.KernelMgIdeal.τ Cert.KernelMgIdeal.sig) → Buf (Elt Ideal) ℓ) : Prop :=
  True

def Pre_ReferenceMgIdeal (m : (ℓ : Loc Cert.ReferenceMgIdeal.nD Cert.ReferenceMgIdeal.τ Cert.ReferenceMgIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_KernelAmod (m : (ℓ : Loc Cert.KernelAmod.nD Cert.KernelAmod.τ Cert.KernelAmod.sig) → Buf (Elt Bits) ℓ) : Prop :=
  True

def Pre_KernelAmodIdeal (m : (ℓ : Loc Cert.KernelAmodIdeal.nD Cert.KernelAmodIdeal.τ Cert.KernelAmodIdeal.sig) → Buf (Elt Ideal) ℓ) : Prop :=
  True

def Pre_ReferenceAmodIdeal (m : (ℓ : Loc Cert.ReferenceAmodIdeal.nD Cert.ReferenceAmodIdeal.τ Cert.ReferenceAmodIdeal.sig) → Buf (Elt Ideal) ℓ) : Prop :=
  True

def Pre_KernelAin (m : (ℓ : Loc Cert.KernelAin.nD Cert.KernelAin.τ Cert.KernelAin.sig) → Buf (Elt Bits) ℓ) : Prop :=
  True

def Pre_KernelAinIdeal (m : (ℓ : Loc Cert.KernelAinIdeal.nD Cert.KernelAinIdeal.τ Cert.KernelAinIdeal.sig) → Buf (Elt Ideal) ℓ) : Prop :=
  True

def Pre_ReferenceAinIdeal (m : (ℓ : Loc Cert.ReferenceAinIdeal.nD Cert.ReferenceAinIdeal.τ Cert.ReferenceAinIdeal.sig) → Buf (Elt Ideal) ℓ) : Prop :=
  True

def Pre_KernelAbranch (m : (ℓ : Loc Cert.KernelAbranch.nD Cert.KernelAbranch.τ Cert.KernelAbranch.sig) → Buf (Elt Bits) ℓ) : Prop :=
  True

def Pre_KernelAbranchIdeal (m : (ℓ : Loc Cert.KernelAbranchIdeal.nD Cert.KernelAbranchIdeal.τ Cert.KernelAbranchIdeal.sig) → Buf (Elt Ideal) ℓ) : Prop :=
  True

def Pre_ReferenceAbranchIdeal (m : (ℓ : Loc Cert.ReferenceAbranchIdeal.nD Cert.ReferenceAbranchIdeal.τ Cert.ReferenceAbranchIdeal.sig) → Buf (Elt Ideal) ℓ) : Prop :=
  True

def Pre_KernelAup (m : (ℓ : Loc Cert.KernelAup.nD Cert.KernelAup.τ Cert.KernelAup.sig) → Buf (Elt Bits) ℓ) : Prop :=
  True

def Pre_KernelAupIdeal (m : (ℓ : Loc Cert.KernelAupIdeal.nD Cert.KernelAupIdeal.τ Cert.KernelAupIdeal.sig) → Buf (Elt Ideal) ℓ) : Prop :=
  True

def Pre_ReferenceAupIdeal (m : (ℓ : Loc Cert.ReferenceAupIdeal.nD Cert.ReferenceAupIdeal.τ Cert.ReferenceAupIdeal.sig) → Buf (Elt Ideal) ℓ) : Prop :=
  True

def Pre_KernelAdown (m : (ℓ : Loc Cert.KernelAdown.nD Cert.KernelAdown.τ Cert.KernelAdown.sig) → Buf (Elt Bits) ℓ) : Prop :=
  True

def Pre_KernelAdownIdeal (m : (ℓ : Loc Cert.KernelAdownIdeal.nD Cert.KernelAdownIdeal.τ Cert.KernelAdownIdeal.sig) → Buf (Elt Ideal) ℓ) : Prop :=
  True

def Pre_ReferenceAdownIdeal (m : (ℓ : Loc Cert.ReferenceAdownIdeal.nD Cert.ReferenceAdownIdeal.τ Cert.ReferenceAdownIdeal.sig) → Buf (Elt Ideal) ℓ) : Prop :=
  True

def Pre_KernelAsmall (m : (ℓ : Loc Cert.KernelAsmall.nD Cert.KernelAsmall.τ Cert.KernelAsmall.sig) → Buf (Elt Bits) ℓ) : Prop :=
  True

def Pre_KernelAsmallIdeal (m : (ℓ : Loc Cert.KernelAsmallIdeal.nD Cert.KernelAsmallIdeal.τ Cert.KernelAsmallIdeal.sig) → Buf (Elt Ideal) ℓ) : Prop :=
  True

def Pre_ReferenceAsmallIdeal (m : (ℓ : Loc Cert.ReferenceAsmallIdeal.nD Cert.ReferenceAsmallIdeal.τ Cert.ReferenceAsmallIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def Pre_KernelSmallSum (m : (ℓ : Loc Cert.KernelSmallSum.nD Cert.KernelSmallSum.τ Cert.KernelSmallSum.sig) → Buf (Elt Bits) ℓ) : Prop :=
  True

def Pre_KernelSmallSumIdeal (m : (ℓ : Loc Cert.KernelSmallSumIdeal.nD Cert.KernelSmallSumIdeal.τ Cert.KernelSmallSumIdeal.sig) → Buf (Elt Ideal) ℓ) : Prop :=
  True

def Pre_ReferenceSmallSumIdeal (m : (ℓ : Loc Cert.ReferenceSmallSumIdeal.nD Cert.ReferenceSmallSumIdeal.τ Cert.ReferenceSmallSumIdeal.sig) → Buf (Elt Ideal) ℓ) : Prop :=
  True

def Pre_KernelColSum (m : (ℓ : Loc Cert.KernelColSum.nD Cert.KernelColSum.τ Cert.KernelColSum.sig) → Buf (Elt Bits) ℓ) : Prop :=
  True

def Pre_KernelColSumIdeal (m : (ℓ : Loc Cert.KernelColSumIdeal.nD Cert.KernelColSumIdeal.τ Cert.KernelColSumIdeal.sig) → Buf (Elt Ideal) ℓ) : Prop :=
  True

def Pre_ReferenceColSumIdeal (m : (ℓ : Loc Cert.ReferenceColSumIdeal.nD Cert.ReferenceColSumIdeal.τ Cert.ReferenceColSumIdeal.sig) → Buf (Elt Ideal) ℓ) : Prop :=
  True

def Pre_KernelRowSum (m : (ℓ : Loc Cert.KernelRowSum.nD Cert.KernelRowSum.τ Cert.KernelRowSum.sig) → Buf (Elt Bits) ℓ) : Prop :=
  True

def Pre_KernelRowSumIdeal (m : (ℓ : Loc Cert.KernelRowSumIdeal.nD Cert.KernelRowSumIdeal.τ Cert.KernelRowSumIdeal.sig) → Buf (Elt Ideal) ℓ) : Prop :=
  True

def Pre_ReferenceRowSumIdeal (m : (ℓ : Loc Cert.ReferenceRowSumIdeal.nD Cert.ReferenceRowSumIdeal.τ Cert.ReferenceRowSumIdeal.sig) → Buf (Elt Ideal) ℓ) : Prop :=
  True

def Pre_KernelModW (m : (ℓ : Loc Cert.KernelModW.nD Cert.KernelModW.τ Cert.KernelModW.sig) → Buf (Elt Bits) ℓ) : Prop :=
  True

def Pre_KernelModWIdeal (m : (ℓ : Loc Cert.KernelModWIdeal.nD Cert.KernelModWIdeal.τ Cert.KernelModWIdeal.sig) → Buf (Elt Ideal) ℓ) : Prop :=
  True

def Pre_ReferenceModWIdeal (m : (ℓ : Loc Cert.ReferenceModWIdeal.nD Cert.ReferenceModWIdeal.τ Cert.ReferenceModWIdeal.sig) → Buf (Elt Ideal) ℓ) : Prop :=
  True

def Pre_KernelCctx (m : (ℓ : Loc Cert.KernelCctx.nD Cert.KernelCctx.τ Cert.KernelCctx.sig) → Buf (Elt Bits) ℓ) : Prop :=
  True

def Pre_KernelCctxIdeal (m : (ℓ : Loc Cert.KernelCctxIdeal.nD Cert.KernelCctxIdeal.τ Cert.KernelCctxIdeal.sig) → Buf (Elt Ideal) ℓ) : Prop :=
  True

def Pre_KernelCctxIdeal_finite_cctx [hPre_finite_cctx : Cert.Pre_finite_cctx.Facts] (m : (ℓ : Loc Cert.KernelCctxIdeal.nD Cert.KernelCctxIdeal.τ Cert.KernelCctxIdeal.sig) → Buf (Elt Ideal) ℓ) : Prop :=
  ∀ c : Dev Cert.KernelCctxIdeal.nD,
    (Cert.Pre_finite_cctx.fn (F := Ideal) (m ((c.tc : Thread Cert.KernelCctxIdeal.nD Cert.KernelCctxIdeal.τ).loc Cert.KernelCctxIdeal.main_arg0)) (m ((c.tc : Thread Cert.KernelCctxIdeal.nD Cert.KernelCctxIdeal.τ).loc Cert.KernelCctxIdeal.main_arg1)) (m ((c.tc : Thread Cert.KernelCctxIdeal.nD Cert.KernelCctxIdeal.τ).loc Cert.KernelCctxIdeal.main_arg2))).1 = (fun _ => 1#1)
    ∧ (Cert.Pre_finite_cctx.fn (F := Ideal) (m ((c.tc : Thread Cert.KernelCctxIdeal.nD Cert.KernelCctxIdeal.τ).loc Cert.KernelCctxIdeal.main_arg0)) (m ((c.tc : Thread Cert.KernelCctxIdeal.nD Cert.KernelCctxIdeal.τ).loc Cert.KernelCctxIdeal.main_arg1)) (m ((c.tc : Thread Cert.KernelCctxIdeal.nD Cert.KernelCctxIdeal.τ).loc Cert.KernelCctxIdeal.main_arg2))).2 = (fun _ => 1#1)

def Pre_ReferenceCctxIdeal (m : (ℓ : Loc Cert.ReferenceCctxIdeal.nD Cert.ReferenceCctxIdeal.τ Cert.ReferenceCctxIdeal.sig) → Buf (Elt Ideal) ℓ) : Prop :=
  True

def Pre_ReferenceCctxIdeal_finite_cctx [hPre_finite_cctx : Cert.Pre_finite_cctx.Facts] (m : (ℓ : Loc Cert.ReferenceCctxIdeal.nD Cert.ReferenceCctxIdeal.τ Cert.ReferenceCctxIdeal.sig) → Buf (Elt Ideal) ℓ) : Prop :=
  ∀ c : Dev Cert.ReferenceCctxIdeal.nD,
    (Cert.Pre_finite_cctx.fn (F := Ideal) (m ((c.tc : Thread Cert.ReferenceCctxIdeal.nD Cert.ReferenceCctxIdeal.τ).loc Cert.ReferenceCctxIdeal.main_arg0)) (m ((c.tc : Thread Cert.ReferenceCctxIdeal.nD Cert.ReferenceCctxIdeal.τ).loc Cert.ReferenceCctxIdeal.main_arg1)) (m ((c.tc : Thread Cert.ReferenceCctxIdeal.nD Cert.ReferenceCctxIdeal.τ).loc Cert.ReferenceCctxIdeal.main_arg2))).1 = (fun _ => 1#1)
    ∧ (Cert.Pre_finite_cctx.fn (F := Ideal) (m ((c.tc : Thread Cert.ReferenceCctxIdeal.nD Cert.ReferenceCctxIdeal.τ).loc Cert.ReferenceCctxIdeal.main_arg0)) (m ((c.tc : Thread Cert.ReferenceCctxIdeal.nD Cert.ReferenceCctxIdeal.τ).loc Cert.ReferenceCctxIdeal.main_arg1)) (m ((c.tc : Thread Cert.ReferenceCctxIdeal.nD Cert.ReferenceCctxIdeal.τ).loc Cert.ReferenceCctxIdeal.main_arg2))).2 = (fun _ => 1#1)

def Pre_KernelPairCol (m : (ℓ : Loc Cert.KernelPairCol.nD Cert.KernelPairCol.τ Cert.KernelPairCol.sig) → Buf (Elt Bits) ℓ) : Prop :=
  True

def Pre_KernelPairColIdeal (m : (ℓ : Loc Cert.KernelPairColIdeal.nD Cert.KernelPairColIdeal.τ Cert.KernelPairColIdeal.sig) → Buf (Elt Ideal) ℓ) : Prop :=
  True

def Pre_ReferencePairColIdeal (m : (ℓ : Loc Cert.ReferencePairColIdeal.nD Cert.ReferencePairColIdeal.τ Cert.ReferencePairColIdeal.sig) → Buf (Elt Ideal) ℓ) : Prop :=
  True

def Pre_KernelPairRow (m : (ℓ : Loc Cert.KernelPairRow.nD Cert.KernelPairRow.τ Cert.KernelPairRow.sig) → Buf (Elt Bits) ℓ) : Prop :=
  True

def Pre_KernelPairRowIdeal (m : (ℓ : Loc Cert.KernelPairRowIdeal.nD Cert.KernelPairRowIdeal.τ Cert.KernelPairRowIdeal.sig) → Buf (Elt Ideal) ℓ) : Prop :=
  True

def Pre_ReferencePairRowIdeal (m : (ℓ : Loc Cert.ReferencePairRowIdeal.nD Cert.ReferencePairRowIdeal.τ Cert.ReferencePairRowIdeal.sig) → Buf (Elt Ideal) ℓ) : Prop :=
  True

def Pre_KernelModF (m : (ℓ : Loc Cert.KernelModF.nD Cert.KernelModF.τ Cert.KernelModF.sig) → Buf (Elt Bits) ℓ) : Prop :=
  True

def Pre_KernelModFIdeal (m : (ℓ : Loc Cert.KernelModFIdeal.nD Cert.KernelModFIdeal.τ Cert.KernelModFIdeal.sig) → Buf (Elt Ideal) ℓ) : Prop :=
  True

def Pre_ReferenceModFIdeal (m : (ℓ : Loc Cert.ReferenceModFIdeal.nD Cert.ReferenceModFIdeal.τ Cert.ReferenceModFIdeal.sig) → Buf (Elt Ideal) ℓ) : Prop :=
  True

def Pre_KernelN1 (m : (ℓ : Loc Cert.KernelN1.nD Cert.KernelN1.τ Cert.KernelN1.sig) → Buf (Elt Bits) ℓ) : Prop :=
  True

def Pre_KernelN1Ideal (m : (ℓ : Loc Cert.KernelN1Ideal.nD Cert.KernelN1Ideal.τ Cert.KernelN1Ideal.sig) → Buf (Elt Ideal) ℓ) : Prop :=
  True

def Pre_ReferenceN1Ideal (m : (ℓ : Loc Cert.ReferenceN1Ideal.nD Cert.ReferenceN1Ideal.τ Cert.ReferenceN1Ideal.sig) → Buf (Elt Ideal) ℓ) : Prop :=
  True

def Pre_KernelN2 (m : (ℓ : Loc Cert.KernelN2.nD Cert.KernelN2.τ Cert.KernelN2.sig) → Buf (Elt Bits) ℓ) : Prop :=
  True

def Pre_KernelN2Ideal (m : (ℓ : Loc Cert.KernelN2Ideal.nD Cert.KernelN2Ideal.τ Cert.KernelN2Ideal.sig) → Buf (Elt Ideal) ℓ) : Prop :=
  True

def Pre_ReferenceN2Ideal (m : (ℓ : Loc Cert.ReferenceN2Ideal.nD Cert.ReferenceN2Ideal.τ Cert.ReferenceN2Ideal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMergeB (m : (ℓ : Loc Cert.KernelMergeB.nD Cert.KernelMergeB.τ Cert.KernelMergeB.sig) → Buf (Elt Bits) ℓ) : Prop :=
  True

def Pre_KernelMergeBIdeal (m : (ℓ : Loc Cert.KernelMergeBIdeal.nD Cert.KernelMergeBIdeal.τ Cert.KernelMergeBIdeal.sig) → Buf (Elt Ideal) ℓ) : Prop :=
  True

def Pre_ReferenceMergeBIdeal (m : (ℓ : Loc Cert.ReferenceMergeBIdeal.nD Cert.ReferenceMergeBIdeal.τ Cert.ReferenceMergeBIdeal.sig) → Buf (Elt Ideal) ℓ) : Prop :=
  True

def Pre_KernelActB (m : (ℓ : Loc Cert.KernelActB.nD Cert.KernelActB.τ Cert.KernelActB.sig) → Buf (Elt Bits) ℓ) : Prop :=
  True

def Pre_KernelActBIdeal (m : (ℓ : Loc Cert.KernelActBIdeal.nD Cert.KernelActBIdeal.τ Cert.KernelActBIdeal.sig) → Buf (Elt Ideal) ℓ) : Prop :=
  True

def Pre_KernelActBIdeal_finite_act [hPre_finite_act : Cert.Pre_finite_act.Facts] (m : (ℓ : Loc Cert.KernelActBIdeal.nD Cert.KernelActBIdeal.τ Cert.KernelActBIdeal.sig) → Buf (Elt Ideal) ℓ) : Prop :=
  ∀ c : Dev Cert.KernelActBIdeal.nD,
    (Cert.Pre_finite_act.fn (F := Ideal) (m ((c.tc : Thread Cert.KernelActBIdeal.nD Cert.KernelActBIdeal.τ).loc Cert.KernelActBIdeal.main_arg0)) (m ((c.tc : Thread Cert.KernelActBIdeal.nD Cert.KernelActBIdeal.τ).loc Cert.KernelActBIdeal.main_arg1)) (m ((c.tc : Thread Cert.KernelActBIdeal.nD Cert.KernelActBIdeal.τ).loc Cert.KernelActBIdeal.main_arg2))).1 = (fun _ => 1#1)
    ∧ (Cert.Pre_finite_act.fn (F := Ideal) (m ((c.tc : Thread Cert.KernelActBIdeal.nD Cert.KernelActBIdeal.τ).loc Cert.KernelActBIdeal.main_arg0)) (m ((c.tc : Thread Cert.KernelActBIdeal.nD Cert.KernelActBIdeal.τ).loc Cert.KernelActBIdeal.main_arg1)) (m ((c.tc : Thread Cert.KernelActBIdeal.nD Cert.KernelActBIdeal.τ).loc Cert.KernelActBIdeal.main_arg2))).2 = (fun _ => 1#1)

def Pre_ReferenceActBIdeal (m : (ℓ : Loc Cert.ReferenceActBIdeal.nD Cert.ReferenceActBIdeal.τ Cert.ReferenceActBIdeal.sig) → Buf (Elt Ideal) ℓ) : Prop :=
  True

def Pre_ReferenceActBIdeal_finite_act [hPre_finite_act : Cert.Pre_finite_act.Facts] (m : (ℓ : Loc Cert.ReferenceActBIdeal.nD Cert.ReferenceActBIdeal.τ Cert.ReferenceActBIdeal.sig) → Buf (Elt Ideal) ℓ) : Prop :=
  ∀ c : Dev Cert.ReferenceActBIdeal.nD,
    (Cert.Pre_finite_act.fn (F := Ideal) (m ((c.tc : Thread Cert.ReferenceActBIdeal.nD Cert.ReferenceActBIdeal.τ).loc Cert.ReferenceActBIdeal.main_arg0)) (m ((c.tc : Thread Cert.ReferenceActBIdeal.nD Cert.ReferenceActBIdeal.τ).loc Cert.ReferenceActBIdeal.main_arg1)) (m ((c.tc : Thread Cert.ReferenceActBIdeal.nD Cert.ReferenceActBIdeal.τ).loc Cert.ReferenceActBIdeal.main_arg2))).1 = (fun _ => 1#1)
    ∧ (Cert.Pre_finite_act.fn (F := Ideal) (m ((c.tc : Thread Cert.ReferenceActBIdeal.nD Cert.ReferenceActBIdeal.τ).loc Cert.ReferenceActBIdeal.main_arg0)) (m ((c.tc : Thread Cert.ReferenceActBIdeal.nD Cert.ReferenceActBIdeal.τ).loc Cert.ReferenceActBIdeal.main_arg1)) (m ((c.tc : Thread Cert.ReferenceActBIdeal.nD Cert.ReferenceActBIdeal.τ).loc Cert.ReferenceActBIdeal.main_arg2))).2 = (fun _ => 1#1)

def quiescent_KernelZmain [hKernelZmain : Cert.KernelZmain.Facts] : Prop :=
  ∀ (m : (ℓ : Loc Cert.KernelZmain.nD Cert.KernelZmain.τ Cert.KernelZmain.sig) → Buf (Elt Bits) ℓ) (g : Dev Cert.KernelZmain.nD → PrngReg), Pre_KernelZmain m →
    θ_run (Cert.KernelZmain.defs (F := Bits)) (onTc (τ := Cert.KernelZmain.τ) (Cert.KernelZmain.main (F := Bits))) ⟨m, fun _ => 0, g⟩ (fun r => (∀ c : Dev Cert.KernelZmain.nD,
      r.2.mem ((c.tc : Thread Cert.KernelZmain.nD Cert.KernelZmain.τ).loc Cert.KernelZmain.main_arg0) = m ((c.tc : Thread Cert.KernelZmain.nD Cert.KernelZmain.τ).loc Cert.KernelZmain.main_arg0)
      ∧ r.2.mem ((c.tc : Thread Cert.KernelZmain.nD Cert.KernelZmain.τ).loc Cert.KernelZmain.main_arg1) = m ((c.tc : Thread Cert.KernelZmain.nD Cert.KernelZmain.τ).loc Cert.KernelZmain.main_arg1))
      ∧ r.2.sem = fun _ => 0)

def quiescent_KernelZmainIdeal [hKernelZmainIdeal : Cert.KernelZmainIdeal.Facts] : Prop :=
  ∀ (m : (ℓ : Loc Cert.KernelZmainIdeal.nD Cert.KernelZmainIdeal.τ Cert.KernelZmainIdeal.sig) → Buf (Elt Ideal) ℓ) (g : Dev Cert.KernelZmainIdeal.nD → PrngReg), Pre_KernelZmainIdeal m →
    θ_run (Cert.KernelZmainIdeal.defs (F := Ideal)) (onTc (τ := Cert.KernelZmainIdeal.τ) (Cert.KernelZmainIdeal.main (F := Ideal))) ⟨m, fun _ => 0, g⟩ (fun r => (∀ c : Dev Cert.KernelZmainIdeal.nD,
      r.2.mem ((c.tc : Thread Cert.KernelZmainIdeal.nD Cert.KernelZmainIdeal.τ).loc Cert.KernelZmainIdeal.main_arg0) = m ((c.tc : Thread Cert.KernelZmainIdeal.nD Cert.KernelZmainIdeal.τ).loc Cert.KernelZmainIdeal.main_arg0)
      ∧ r.2.mem ((c.tc : Thread Cert.KernelZmainIdeal.nD Cert.KernelZmainIdeal.τ).loc Cert.KernelZmainIdeal.main_arg1) = m ((c.tc : Thread Cert.KernelZmainIdeal.nD Cert.KernelZmainIdeal.τ).loc Cert.KernelZmainIdeal.main_arg1))
      ∧ r.2.sem = fun _ => 0)

def quiescent_ReferenceZmainIdeal [hReferenceZmainIdeal : Cert.ReferenceZmainIdeal.Facts] : Prop :=
  ∀ (m : (ℓ : Loc Cert.ReferenceZmainIdeal.nD Cert.ReferenceZmainIdeal.τ Cert.ReferenceZmainIdeal.sig) → Buf (Elt Ideal) ℓ) (g : Dev Cert.ReferenceZmainIdeal.nD → PrngReg), Pre_ReferenceZmainIdeal m →
    θ_run (Cert.ReferenceZmainIdeal.defs (F := Ideal)) (onTc (τ := Cert.ReferenceZmainIdeal.τ) (Cert.ReferenceZmainIdeal.main (F := Ideal))) ⟨m, fun _ => 0, g⟩ (fun r => (∀ c : Dev Cert.ReferenceZmainIdeal.nD,
      r.2.mem ((c.tc : Thread Cert.ReferenceZmainIdeal.nD Cert.ReferenceZmainIdeal.τ).loc Cert.ReferenceZmainIdeal.main_arg0) = m ((c.tc : Thread Cert.ReferenceZmainIdeal.nD Cert.ReferenceZmainIdeal.τ).loc Cert.ReferenceZmainIdeal.main_arg0)
      ∧ r.2.mem ((c.tc : Thread Cert.ReferenceZmainIdeal.nD Cert.ReferenceZmainIdeal.τ).loc Cert.ReferenceZmainIdeal.main_arg1) = m ((c.tc : Thread Cert.ReferenceZmainIdeal.nD Cert.ReferenceZmainIdeal.τ).loc Cert.ReferenceZmainIdeal.main_arg1))
      ∧ r.2.sem = fun _ => 0)

def quiescent_KernelZg [hKernelZg : Cert.KernelZg.Facts] : Prop :=
  ∀ (m : (ℓ : Loc Cert.KernelZg.nD Cert.KernelZg.τ Cert.KernelZg.sig) → Buf (Elt Bits) ℓ) (g : Dev Cert.KernelZg.nD → PrngReg), Pre_KernelZg m →
    θ_run (Cert.KernelZg.defs (F := Bits)) (onTc (τ := Cert.KernelZg.τ) (Cert.KernelZg.main (F := Bits))) ⟨m, fun _ => 0, g⟩ (fun r => (∀ c : Dev Cert.KernelZg.nD,
      r.2.mem ((c.tc : Thread Cert.KernelZg.nD Cert.KernelZg.τ).loc Cert.KernelZg.main_arg0) = m ((c.tc : Thread Cert.KernelZg.nD Cert.KernelZg.τ).loc Cert.KernelZg.main_arg0)
      ∧ r.2.mem ((c.tc : Thread Cert.KernelZg.nD Cert.KernelZg.τ).loc Cert.KernelZg.main_arg1) = m ((c.tc : Thread Cert.KernelZg.nD Cert.KernelZg.τ).loc Cert.KernelZg.main_arg1))
      ∧ r.2.sem = fun _ => 0)

def quiescent_KernelZgIdeal [hKernelZgIdeal : Cert.KernelZgIdeal.Facts] : Prop :=
  ∀ (m : (ℓ : Loc Cert.KernelZgIdeal.nD Cert.KernelZgIdeal.τ Cert.KernelZgIdeal.sig) → Buf (Elt Ideal) ℓ) (g : Dev Cert.KernelZgIdeal.nD → PrngReg), Pre_KernelZgIdeal m →
    θ_run (Cert.KernelZgIdeal.defs (F := Ideal)) (onTc (τ := Cert.KernelZgIdeal.τ) (Cert.KernelZgIdeal.main (F := Ideal))) ⟨m, fun _ => 0, g⟩ (fun r => (∀ c : Dev Cert.KernelZgIdeal.nD,
      r.2.mem ((c.tc : Thread Cert.KernelZgIdeal.nD Cert.KernelZgIdeal.τ).loc Cert.KernelZgIdeal.main_arg0) = m ((c.tc : Thread Cert.KernelZgIdeal.nD Cert.KernelZgIdeal.τ).loc Cert.KernelZgIdeal.main_arg0)
      ∧ r.2.mem ((c.tc : Thread Cert.KernelZgIdeal.nD Cert.KernelZgIdeal.τ).loc Cert.KernelZgIdeal.main_arg1) = m ((c.tc : Thread Cert.KernelZgIdeal.nD Cert.KernelZgIdeal.τ).loc Cert.KernelZgIdeal.main_arg1))
      ∧ r.2.sem = fun _ => 0)

def quiescent_ReferenceZgIdeal [hReferenceZgIdeal : Cert.ReferenceZgIdeal.Facts] : Prop :=
  ∀ (m : (ℓ : Loc Cert.ReferenceZgIdeal.nD Cert.ReferenceZgIdeal.τ Cert.ReferenceZgIdeal.sig) → Buf (Elt Ideal) ℓ) (g : Dev Cert.ReferenceZgIdeal.nD → PrngReg), Pre_ReferenceZgIdeal m →
    θ_run (Cert.ReferenceZgIdeal.defs (F := Ideal)) (onTc (τ := Cert.ReferenceZgIdeal.τ) (Cert.ReferenceZgIdeal.main (F := Ideal))) ⟨m, fun _ => 0, g⟩ (fun r => (∀ c : Dev Cert.ReferenceZgIdeal.nD,
      r.2.mem ((c.tc : Thread Cert.ReferenceZgIdeal.nD Cert.ReferenceZgIdeal.τ).loc Cert.ReferenceZgIdeal.main_arg0) = m ((c.tc : Thread Cert.ReferenceZgIdeal.nD Cert.ReferenceZgIdeal.τ).loc Cert.ReferenceZgIdeal.main_arg0)
      ∧ r.2.mem ((c.tc : Thread Cert.ReferenceZgIdeal.nD Cert.ReferenceZgIdeal.τ).loc Cert.ReferenceZgIdeal.main_arg1) = m ((c.tc : Thread Cert.ReferenceZgIdeal.nD Cert.ReferenceZgIdeal.τ).loc Cert.ReferenceZgIdeal.main_arg1))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDdown [hKernelDdown : Cert.KernelDdown.Facts] : Prop :=
  ∀ (m : (ℓ : Loc Cert.KernelDdown.nD Cert.KernelDdown.τ Cert.KernelDdown.sig) → Buf (Elt Bits) ℓ) (g : Dev Cert.KernelDdown.nD → PrngReg), Pre_KernelDdown m →
    θ_run (Cert.KernelDdown.defs (F := Bits)) (onTc (τ := Cert.KernelDdown.τ) (Cert.KernelDdown.main (F := Bits))) ⟨m, fun _ => 0, g⟩ (fun r => (∀ c : Dev Cert.KernelDdown.nD,
      r.2.mem ((c.tc : Thread Cert.KernelDdown.nD Cert.KernelDdown.τ).loc Cert.KernelDdown.main_arg0) = m ((c.tc : Thread Cert.KernelDdown.nD Cert.KernelDdown.τ).loc Cert.KernelDdown.main_arg0)
      ∧ r.2.mem ((c.tc : Thread Cert.KernelDdown.nD Cert.KernelDdown.τ).loc Cert.KernelDdown.main_arg1) = m ((c.tc : Thread Cert.KernelDdown.nD Cert.KernelDdown.τ).loc Cert.KernelDdown.main_arg1))
      ∧ r.2.sem = fun _ => 0)

def quiescent_KernelDdownIdeal [hKernelDdownIdeal : Cert.KernelDdownIdeal.Facts] : Prop :=
  ∀ (m : (ℓ : Loc Cert.KernelDdownIdeal.nD Cert.KernelDdownIdeal.τ Cert.KernelDdownIdeal.sig) → Buf (Elt Ideal) ℓ) (g : Dev Cert.KernelDdownIdeal.nD → PrngReg), Pre_KernelDdownIdeal m →
    θ_run (Cert.KernelDdownIdeal.defs (F := Ideal)) (onTc (τ := Cert.KernelDdownIdeal.τ) (Cert.KernelDdownIdeal.main (F := Ideal))) ⟨m, fun _ => 0, g⟩ (fun r => (∀ c : Dev Cert.KernelDdownIdeal.nD,
      r.2.mem ((c.tc : Thread Cert.KernelDdownIdeal.nD Cert.KernelDdownIdeal.τ).loc Cert.KernelDdownIdeal.main_arg0) = m ((c.tc : Thread Cert.KernelDdownIdeal.nD Cert.KernelDdownIdeal.τ).loc Cert.KernelDdownIdeal.main_arg0)
      ∧ r.2.mem ((c.tc : Thread Cert.KernelDdownIdeal.nD Cert.KernelDdownIdeal.τ).loc Cert.KernelDdownIdeal.main_arg1) = m ((c.tc : Thread Cert.KernelDdownIdeal.nD Cert.KernelDdownIdeal.τ).loc Cert.KernelDdownIdeal.main_arg1))
      ∧ r.2.sem = fun _ => 0)

def quiescent_ReferenceDdownIdeal [hReferenceDdownIdeal : Cert.ReferenceDdownIdeal.Facts] : Prop :=
  ∀ (m : (ℓ : Loc Cert.ReferenceDdownIdeal.nD Cert.ReferenceDdownIdeal.τ Cert.ReferenceDdownIdeal.sig) → Buf (Elt Ideal) ℓ) (g : Dev Cert.ReferenceDdownIdeal.nD → PrngReg), Pre_ReferenceDdownIdeal m →
    θ_run (Cert.ReferenceDdownIdeal.defs (F := Ideal)) (onTc (τ := Cert.ReferenceDdownIdeal.τ) (Cert.ReferenceDdownIdeal.main (F := Ideal))) ⟨m, fun _ => 0, g⟩ (fun r => (∀ c : Dev Cert.ReferenceDdownIdeal.nD,
      r.2.mem ((c.tc : Thread Cert.ReferenceDdownIdeal.nD Cert.ReferenceDdownIdeal.τ).loc Cert.ReferenceDdownIdeal.main_arg0) = m ((c.tc : Thread Cert.ReferenceDdownIdeal.nD Cert.ReferenceDdownIdeal.τ).loc Cert.ReferenceDdownIdeal.main_arg0)
      ∧ r.2.mem ((c.tc : Thread Cert.ReferenceDdownIdeal.nD Cert.ReferenceDdownIdeal.τ).loc Cert.ReferenceDdownIdeal.main_arg1) = m ((c.tc : Thread Cert.ReferenceDdownIdeal.nD Cert.ReferenceDdownIdeal.τ).loc Cert.ReferenceDdownIdeal.main_arg1))
      ∧ r.2.sem = fun _ => 0)

def quiescent_KernelDup [hKernelDup : Cert.KernelDup.Facts] : Prop :=
  ∀ (m : (ℓ : Loc Cert.KernelDup.nD Cert.KernelDup.τ Cert.KernelDup.sig) → Buf (Elt Bits) ℓ) (g : Dev Cert.KernelDup.nD → PrngReg), Pre_KernelDup m →
    θ_run (Cert.KernelDup.defs (F := Bits)) (onTc (τ := Cert.KernelDup.τ) (Cert.KernelDup.main (F := Bits))) ⟨m, fun _ => 0, g⟩ (fun r => (∀ c : Dev Cert.KernelDup.nD,
      r.2.mem ((c.tc : Thread Cert.KernelDup.nD Cert.KernelDup.τ).loc Cert.KernelDup.main_arg0) = m ((c.tc : Thread Cert.KernelDup.nD Cert.KernelDup.τ).loc Cert.KernelDup.main_arg0)
      ∧ r.2.mem ((c.tc : Thread Cert.KernelDup.nD Cert.KernelDup.τ).loc Cert.KernelDup.main_arg1) = m ((c.tc : Thread Cert.KernelDup.nD Cert.KernelDup.τ).loc Cert.KernelDup.main_arg1))
      ∧ r.2.sem = fun _ => 0)

def quiescent_KernelDupIdeal [hKernelDupIdeal : Cert.KernelDupIdeal.Facts] : Prop :=
  ∀ (m : (ℓ : Loc Cert.KernelDupIdeal.nD Cert.KernelDupIdeal.τ Cert.KernelDupIdeal.sig) → Buf (Elt Ideal) ℓ) (g : Dev Cert.KernelDupIdeal.nD → PrngReg), Pre_KernelDupIdeal m →
    θ_run (Cert.KernelDupIdeal.defs (F := Ideal)) (onTc (τ := Cert.KernelDupIdeal.τ) (Cert.KernelDupIdeal.main (F := Ideal))) ⟨m, fun _ => 0, g⟩ (fun r => (∀ c : Dev Cert.KernelDupIdeal.nD,
      r.2.mem ((c.tc : Thread Cert.KernelDupIdeal.nD Cert.KernelDupIdeal.τ).loc Cert.KernelDupIdeal.main_arg0) = m ((c.tc : Thread Cert.KernelDupIdeal.nD Cert.KernelDupIdeal.τ).loc Cert.KernelDupIdeal.main_arg0)
      ∧ r.2.mem ((c.tc : Thread Cert.KernelDupIdeal.nD Cert.KernelDupIdeal.τ).loc Cert.KernelDupIdeal.main_arg1) = m ((c.tc : Thread Cert.KernelDupIdeal.nD Cert.KernelDupIdeal.τ).loc Cert.KernelDupIdeal.main_arg1))
      ∧ r.2.sem = fun _ => 0)

def quiescent_ReferenceDupIdeal [hReferenceDupIdeal : Cert.ReferenceDupIdeal.Facts] : Prop :=
  ∀ (m : (ℓ : Loc Cert.ReferenceDupIdeal.nD Cert.ReferenceDupIdeal.τ Cert.ReferenceDupIdeal.sig) → Buf (Elt Ideal) ℓ) (g : Dev Cert.ReferenceDupIdeal.nD → PrngReg), Pre_ReferenceDupIdeal m →
    θ_run (Cert.ReferenceDupIdeal.defs (F := Ideal)) (onTc (τ := Cert.ReferenceDupIdeal.τ) (Cert.ReferenceDupIdeal.main (F := Ideal))) ⟨m, fun _ => 0, g⟩ (fun r => (∀ c : Dev Cert.ReferenceDupIdeal.nD,
      r.2.mem ((c.tc : Thread Cert.ReferenceDupIdeal.nD Cert.ReferenceDupIdeal.τ).loc Cert.ReferenceDupIdeal.main_arg0) = m ((c.tc : Thread Cert.ReferenceDupIdeal.nD Cert.ReferenceDupIdeal.τ).loc Cert.ReferenceDupIdeal.main_arg0)
      ∧ r.2.mem ((c.tc : Thread Cert.ReferenceDupIdeal.nD Cert.ReferenceDupIdeal.τ).loc Cert.ReferenceDupIdeal.main_arg1) = m ((c.tc : Thread Cert.ReferenceDupIdeal.nD Cert.ReferenceDupIdeal.τ).loc Cert.ReferenceDupIdeal.main_arg1))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1))
      ∧ r.2.sem = fun _ => 0)

def quiescent_KernelDbranch [hKernelDbranch : Cert.KernelDbranch.Facts] : Prop :=
  ∀ (m : (ℓ : Loc Cert.KernelDbranch.nD Cert.KernelDbranch.τ Cert.KernelDbranch.sig) → Buf (Elt Bits) ℓ) (g : Dev Cert.KernelDbranch.nD → PrngReg), Pre_KernelDbranch m →
    θ_run (Cert.KernelDbranch.defs (F := Bits)) (onTc (τ := Cert.KernelDbranch.τ) (Cert.KernelDbranch.main (F := Bits))) ⟨m, fun _ => 0, g⟩ (fun r => (∀ c : Dev Cert.KernelDbranch.nD,
      r.2.mem ((c.tc : Thread Cert.KernelDbranch.nD Cert.KernelDbranch.τ).loc Cert.KernelDbranch.main_arg0) = m ((c.tc : Thread Cert.KernelDbranch.nD Cert.KernelDbranch.τ).loc Cert.KernelDbranch.main_arg0)
      ∧ r.2.mem ((c.tc : Thread Cert.KernelDbranch.nD Cert.KernelDbranch.τ).loc Cert.KernelDbranch.main_arg1) = m ((c.tc : Thread Cert.KernelDbranch.nD Cert.KernelDbranch.τ).loc Cert.KernelDbranch.main_arg1))
      ∧ r.2.sem = fun _ => 0)

def quiescent_KernelDbranchIdeal [hKernelDbranchIdeal : Cert.KernelDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg), Pre_KernelDbranchIdeal m →
    θ_run (Cert.KernelDbranchIdeal.defs (F := Ideal)) (onTc (τ := Cert.KernelDbranchIdeal.τ) (Cert.KernelDbranchIdeal.main (F := Ideal))) ⟨m, fun _ => 0, g⟩ (fun r => (∀ c : Dev Cert.KernelDbranchIdeal.nD,
      r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
      ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1))
      ∧ r.2.sem = fun _ => 0)

def quiescent_ReferenceDbranchIdeal [hReferenceDbranchIdeal : Cert.ReferenceDbranchIdeal.Facts] : Prop :=
  ∀ (m : (ℓ : Loc Cert.ReferenceDbranchIdeal.nD Cert.ReferenceDbranchIdeal.τ Cert.ReferenceDbranchIdeal.sig) → Buf (Elt Ideal) ℓ) (g : Dev Cert.ReferenceDbranchIdeal.nD → PrngReg), Pre_ReferenceDbranchIdeal m →
    θ_run (Cert.ReferenceDbranchIdeal.defs (F := Ideal)) (onTc (τ := Cert.ReferenceDbranchIdeal.τ) (Cert.ReferenceDbranchIdeal.main (F := Ideal))) ⟨m, fun _ => 0, g⟩ (fun r => (∀ c : Dev Cert.ReferenceDbranchIdeal.nD,
      r.2.mem ((c.tc : Thread Cert.ReferenceDbranchIdeal.nD Cert.ReferenceDbranchIdeal.τ).loc Cert.ReferenceDbranchIdeal.main_arg0) = m ((c.tc : Thread Cert.ReferenceDbranchIdeal.nD Cert.ReferenceDbranchIdeal.τ).loc Cert.ReferenceDbranchIdeal.main_arg0)
      ∧ r.2.mem ((c.tc : Thread Cert.ReferenceDbranchIdeal.nD Cert.ReferenceDbranchIdeal.τ).loc Cert.ReferenceDbranchIdeal.main_arg1) = m ((c.tc : Thread Cert.ReferenceDbranchIdeal.nD Cert.ReferenceDbranchIdeal.τ).loc Cert.ReferenceDbranchIdeal.main_arg1))
      ∧ r.2.sem = fun _ => 0)

def quiescent_KernelDmain [hKernelDmain : Cert.KernelDmain.Facts] : Prop :=
  ∀ (m : (ℓ : Loc Cert.KernelDmain.nD Cert.KernelDmain.τ Cert.KernelDmain.sig) → Buf (Elt Bits) ℓ) (g : Dev Cert.KernelDmain.nD → PrngReg), Pre_KernelDmain m →
    θ_run (Cert.KernelDmain.defs (F := Bits)) (onTc (τ := Cert.KernelDmain.τ) (Cert.KernelDmain.main (F := Bits))) ⟨m, fun _ => 0, g⟩ (fun r => (∀ c : Dev Cert.KernelDmain.nD,
      r.2.mem ((c.tc : Thread Cert.KernelDmain.nD Cert.KernelDmain.τ).loc Cert.KernelDmain.main_arg0) = m ((c.tc : Thread Cert.KernelDmain.nD Cert.KernelDmain.τ).loc Cert.KernelDmain.main_arg0)
      ∧ r.2.mem ((c.tc : Thread Cert.KernelDmain.nD Cert.KernelDmain.τ).loc Cert.KernelDmain.main_arg1) = m ((c.tc : Thread Cert.KernelDmain.nD Cert.KernelDmain.τ).loc Cert.KernelDmain.main_arg1))
      ∧ r.2.sem = fun _ => 0)

def quiescent_KernelDmainIdeal [hKernelDmainIdeal : Cert.KernelDmainIdeal.Facts] : Prop :=
  ∀ (m : (ℓ : Loc Cert.KernelDmainIdeal.nD Cert.KernelDmainIdeal.τ Cert.KernelDmainIdeal.sig) → Buf (Elt Ideal) ℓ) (g : Dev Cert.KernelDmainIdeal.nD → PrngReg), Pre_KernelDmainIdeal m →
    θ_run (Cert.KernelDmainIdeal.defs (F := Ideal)) (onTc (τ := Cert.KernelDmainIdeal.τ) (Cert.KernelDmainIdeal.main (F := Ideal))) ⟨m, fun _ => 0, g⟩ (fun r => (∀ c : Dev Cert.KernelDmainIdeal.nD,
      r.2.mem ((c.tc : Thread Cert.KernelDmainIdeal.nD Cert.KernelDmainIdeal.τ).loc Cert.KernelDmainIdeal.main_arg0) = m ((c.tc : Thread Cert.KernelDmainIdeal.nD Cert.KernelDmainIdeal.τ).loc Cert.KernelDmainIdeal.main_arg0)
      ∧ r.2.mem ((c.tc : Thread Cert.KernelDmainIdeal.nD Cert.KernelDmainIdeal.τ).loc Cert.KernelDmainIdeal.main_arg1) = m ((c.tc : Thread Cert.KernelDmainIdeal.nD Cert.KernelDmainIdeal.τ).loc Cert.KernelDmainIdeal.main_arg1))
      ∧ r.2.sem = fun _ => 0)

def quiescent_ReferenceDmainIdeal [hReferenceDmainIdeal : Cert.ReferenceDmainIdeal.Facts] : Prop :=
  ∀ (m : (ℓ : Loc Cert.ReferenceDmainIdeal.nD Cert.ReferenceDmainIdeal.τ Cert.ReferenceDmainIdeal.sig) → Buf (Elt Ideal) ℓ) (g : Dev Cert.ReferenceDmainIdeal.nD → PrngReg), Pre_ReferenceDmainIdeal m →
    θ_run (Cert.ReferenceDmainIdeal.defs (F := Ideal)) (onTc (τ := Cert.ReferenceDmainIdeal.τ) (Cert.ReferenceDmainIdeal.main (F := Ideal))) ⟨m, fun _ => 0, g⟩ (fun r => (∀ c : Dev Cert.ReferenceDmainIdeal.nD,
      r.2.mem ((c.tc : Thread Cert.ReferenceDmainIdeal.nD Cert.ReferenceDmainIdeal.τ).loc Cert.ReferenceDmainIdeal.main_arg0) = m ((c.tc : Thread Cert.ReferenceDmainIdeal.nD Cert.ReferenceDmainIdeal.τ).loc Cert.ReferenceDmainIdeal.main_arg0)
      ∧ r.2.mem ((c.tc : Thread Cert.ReferenceDmainIdeal.nD Cert.ReferenceDmainIdeal.τ).loc Cert.ReferenceDmainIdeal.main_arg1) = m ((c.tc : Thread Cert.ReferenceDmainIdeal.nD Cert.ReferenceDmainIdeal.τ).loc Cert.ReferenceDmainIdeal.main_arg1))
      ∧ r.2.sem = fun _ => 0)

def quiescent_KernelDg [hKernelDg : Cert.KernelDg.Facts] : Prop :=
  ∀ (m : (ℓ : Loc Cert.KernelDg.nD Cert.KernelDg.τ Cert.KernelDg.sig) → Buf (Elt Bits) ℓ) (g : Dev Cert.KernelDg.nD → PrngReg), Pre_KernelDg m →
    θ_run (Cert.KernelDg.defs (F := Bits)) (onTc (τ := Cert.KernelDg.τ) (Cert.KernelDg.main (F := Bits))) ⟨m, fun _ => 0, g⟩ (fun r => (∀ c : Dev Cert.KernelDg.nD,
      r.2.mem ((c.tc : Thread Cert.KernelDg.nD Cert.KernelDg.τ).loc Cert.KernelDg.main_arg0) = m ((c.tc : Thread Cert.KernelDg.nD Cert.KernelDg.τ).loc Cert.KernelDg.main_arg0)
      ∧ r.2.mem ((c.tc : Thread Cert.KernelDg.nD Cert.KernelDg.τ).loc Cert.KernelDg.main_arg1) = m ((c.tc : Thread Cert.KernelDg.nD Cert.KernelDg.τ).loc Cert.KernelDg.main_arg1))
      ∧ r.2.sem = fun _ => 0)

def quiescent_KernelDgIdeal [hKernelDgIdeal : Cert.KernelDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg), Pre_KernelDgIdeal m →
    θ_run (Cert.KernelDgIdeal.defs (F := Ideal)) (onTc (τ := Cert.KernelDgIdeal.τ) (Cert.KernelDgIdeal.main (F := Ideal))) ⟨m, fun _ => 0, g⟩ (fun r => (∀ c : Dev Cert.KernelDgIdeal.nD,
      r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
      ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1))
      ∧ r.2.sem = fun _ => 0)

def quiescent_ReferenceDgIdeal [hReferenceDgIdeal : Cert.ReferenceDgIdeal.Facts] : Prop :=
  ∀ (m : (ℓ : Loc Cert.ReferenceDgIdeal.nD Cert.ReferenceDgIdeal.τ Cert.ReferenceDgIdeal.sig) → Buf (Elt Ideal) ℓ) (g : Dev Cert.ReferenceDgIdeal.nD → PrngReg), Pre_ReferenceDgIdeal m →
    θ_run (Cert.ReferenceDgIdeal.defs (F := Ideal)) (onTc (τ := Cert.ReferenceDgIdeal.τ) (Cert.ReferenceDgIdeal.main (F := Ideal))) ⟨m, fun _ => 0, g⟩ (fun r => (∀ c : Dev Cert.ReferenceDgIdeal.nD,
      r.2.mem ((c.tc : Thread Cert.ReferenceDgIdeal.nD Cert.ReferenceDgIdeal.τ).loc Cert.ReferenceDgIdeal.main_arg0) = m ((c.tc : Thread Cert.ReferenceDgIdeal.nD Cert.ReferenceDgIdeal.τ).loc Cert.ReferenceDgIdeal.main_arg0)
      ∧ r.2.mem ((c.tc : Thread Cert.ReferenceDgIdeal.nD Cert.ReferenceDgIdeal.τ).loc Cert.ReferenceDgIdeal.main_arg1) = m ((c.tc : Thread Cert.ReferenceDgIdeal.nD Cert.ReferenceDgIdeal.τ).loc Cert.ReferenceDgIdeal.main_arg1))
      ∧ r.2.sem = fun _ => 0)

def quiescent_KernelMdown [hKernelMdown : Cert.KernelMdown.Facts] : Prop :=
  ∀ (m : (ℓ : Loc Cert.KernelMdown.nD Cert.KernelMdown.τ Cert.KernelMdown.sig) → Buf (Elt Bits) ℓ) (g : Dev Cert.KernelMdown.nD → PrngReg), Pre_KernelMdown m →
    θ_run (Cert.KernelMdown.defs (F := Bits)) (onTc (τ := Cert.KernelMdown.τ) (Cert.KernelMdown.main (F := Bits))) ⟨m, fun _ => 0, g⟩ (fun r => (∀ c : Dev Cert.KernelMdown.nD,
      r.2.mem ((c.tc : Thread Cert.KernelMdown.nD Cert.KernelMdown.τ).loc Cert.KernelMdown.main_arg0) = m ((c.tc : Thread Cert.KernelMdown.nD Cert.KernelMdown.τ).loc Cert.KernelMdown.main_arg0)
      ∧ r.2.mem ((c.tc : Thread Cert.KernelMdown.nD Cert.KernelMdown.τ).loc Cert.KernelMdown.main_arg1) = m ((c.tc : Thread Cert.KernelMdown.nD Cert.KernelMdown.τ).loc Cert.KernelMdown.main_arg1))
      ∧ r.2.sem = fun _ => 0)

def quiescent_KernelMdownIdeal [hKernelMdownIdeal : Cert.KernelMdownIdeal.Facts] : Prop :=
  ∀ (m : (ℓ : Loc Cert.KernelMdownIdeal.nD Cert.KernelMdownIdeal.τ Cert.KernelMdownIdeal.sig) → Buf (Elt Ideal) ℓ) (g : Dev Cert.KernelMdownIdeal.nD → PrngReg), Pre_KernelMdownIdeal m →
    θ_run (Cert.KernelMdownIdeal.defs (F := Ideal)) (onTc (τ := Cert.KernelMdownIdeal.τ) (Cert.KernelMdownIdeal.main (F := Ideal))) ⟨m, fun _ => 0, g⟩ (fun r => (∀ c : Dev Cert.KernelMdownIdeal.nD,
      r.2.mem ((c.tc : Thread Cert.KernelMdownIdeal.nD Cert.KernelMdownIdeal.τ).loc Cert.KernelMdownIdeal.main_arg0) = m ((c.tc : Thread Cert.KernelMdownIdeal.nD Cert.KernelMdownIdeal.τ).loc Cert.KernelMdownIdeal.main_arg0)
      ∧ r.2.mem ((c.tc : Thread Cert.KernelMdownIdeal.nD Cert.KernelMdownIdeal.τ).loc Cert.KernelMdownIdeal.main_arg1) = m ((c.tc : Thread Cert.KernelMdownIdeal.nD Cert.KernelMdownIdeal.τ).loc Cert.KernelMdownIdeal.main_arg1))
      ∧ r.2.sem = fun _ => 0)

def quiescent_ReferenceMdownIdeal [hReferenceMdownIdeal : Cert.ReferenceMdownIdeal.Facts] : Prop :=
  ∀ (m : (ℓ : Loc Cert.ReferenceMdownIdeal.nD Cert.ReferenceMdownIdeal.τ Cert.ReferenceMdownIdeal.sig) → Buf (Elt Ideal) ℓ) (g : Dev Cert.ReferenceMdownIdeal.nD → PrngReg), Pre_ReferenceMdownIdeal m →
    θ_run (Cert.ReferenceMdownIdeal.defs (F := Ideal)) (onTc (τ := Cert.ReferenceMdownIdeal.τ) (Cert.ReferenceMdownIdeal.main (F := Ideal))) ⟨m, fun _ => 0, g⟩ (fun r => (∀ c : Dev Cert.ReferenceMdownIdeal.nD,
      r.2.mem ((c.tc : Thread Cert.ReferenceMdownIdeal.nD Cert.ReferenceMdownIdeal.τ).loc Cert.ReferenceMdownIdeal.main_arg0) = m ((c.tc : Thread Cert.ReferenceMdownIdeal.nD Cert.ReferenceMdownIdeal.τ).loc Cert.ReferenceMdownIdeal.main_arg0)
      ∧ r.2.mem ((c.tc : Thread Cert.ReferenceMdownIdeal.nD Cert.ReferenceMdownIdeal.τ).loc Cert.ReferenceMdownIdeal.main_arg1) = m ((c.tc : Thread Cert.ReferenceMdownIdeal.nD Cert.ReferenceMdownIdeal.τ).loc Cert.ReferenceMdownIdeal.main_arg1))
      ∧ r.2.sem = fun _ => 0)

def quiescent_KernelMup [hKernelMup : Cert.KernelMup.Facts] : Prop :=
  ∀ (m : (ℓ : Loc Cert.KernelMup.nD Cert.KernelMup.τ Cert.KernelMup.sig) → Buf (Elt Bits) ℓ) (g : Dev Cert.KernelMup.nD → PrngReg), Pre_KernelMup m →
    θ_run (Cert.KernelMup.defs (F := Bits)) (onTc (τ := Cert.KernelMup.τ) (Cert.KernelMup.main (F := Bits))) ⟨m, fun _ => 0, g⟩ (fun r => (∀ c : Dev Cert.KernelMup.nD,
      r.2.mem ((c.tc : Thread Cert.KernelMup.nD Cert.KernelMup.τ).loc Cert.KernelMup.main_arg0) = m ((c.tc : Thread Cert.KernelMup.nD Cert.KernelMup.τ).loc Cert.KernelMup.main_arg0)
      ∧ r.2.mem ((c.tc : Thread Cert.KernelMup.nD Cert.KernelMup.τ).loc Cert.KernelMup.main_arg1) = m ((c.tc : Thread Cert.KernelMup.nD Cert.KernelMup.τ).loc Cert.KernelMup.main_arg1))
      ∧ r.2.sem = fun _ => 0)

def quiescent_KernelMupIdeal [hKernelMupIdeal : Cert.KernelMupIdeal.Facts] : Prop :=
  ∀ (m : (ℓ : Loc Cert.KernelMupIdeal.nD Cert.KernelMupIdeal.τ Cert.KernelMupIdeal.sig) → Buf (Elt Ideal) ℓ) (g : Dev Cert.KernelMupIdeal.nD → PrngReg), Pre_KernelMupIdeal m →
    θ_run (Cert.KernelMupIdeal.defs (F := Ideal)) (onTc (τ := Cert.KernelMupIdeal.τ) (Cert.KernelMupIdeal.main (F := Ideal))) ⟨m, fun _ => 0, g⟩ (fun r => (∀ c : Dev Cert.KernelMupIdeal.nD,
      r.2.mem ((c.tc : Thread Cert.KernelMupIdeal.nD Cert.KernelMupIdeal.τ).loc Cert.KernelMupIdeal.main_arg0) = m ((c.tc : Thread Cert.KernelMupIdeal.nD Cert.KernelMupIdeal.τ).loc Cert.KernelMupIdeal.main_arg0)
      ∧ r.2.mem ((c.tc : Thread Cert.KernelMupIdeal.nD Cert.KernelMupIdeal.τ).loc Cert.KernelMupIdeal.main_arg1) = m ((c.tc : Thread Cert.KernelMupIdeal.nD Cert.KernelMupIdeal.τ).loc Cert.KernelMupIdeal.main_arg1))
      ∧ r.2.sem = fun _ => 0)

def quiescent_ReferenceMupIdeal [hReferenceMupIdeal : Cert.ReferenceMupIdeal.Facts] : Prop :=
  ∀ (m : (ℓ : Loc Cert.ReferenceMupIdeal.nD Cert.ReferenceMupIdeal.τ Cert.ReferenceMupIdeal.sig) → Buf (Elt Ideal) ℓ) (g : Dev Cert.ReferenceMupIdeal.nD → PrngReg), Pre_ReferenceMupIdeal m →
    θ_run (Cert.ReferenceMupIdeal.defs (F := Ideal)) (onTc (τ := Cert.ReferenceMupIdeal.τ) (Cert.ReferenceMupIdeal.main (F := Ideal))) ⟨m, fun _ => 0, g⟩ (fun r => (∀ c : Dev Cert.ReferenceMupIdeal.nD,
      r.2.mem ((c.tc : Thread Cert.ReferenceMupIdeal.nD Cert.ReferenceMupIdeal.τ).loc Cert.ReferenceMupIdeal.main_arg0) = m ((c.tc : Thread Cert.ReferenceMupIdeal.nD Cert.ReferenceMupIdeal.τ).loc Cert.ReferenceMupIdeal.main_arg0)
      ∧ r.2.mem ((c.tc : Thread Cert.ReferenceMupIdeal.nD Cert.ReferenceMupIdeal.τ).loc Cert.ReferenceMupIdeal.main_arg1) = m ((c.tc : Thread Cert.ReferenceMupIdeal.nD Cert.ReferenceMupIdeal.τ).loc Cert.ReferenceMupIdeal.main_arg1))
      ∧ r.2.sem = fun _ => 0)

def quiescent_KernelMout [hKernelMout : Cert.KernelMout.Facts] : Prop :=
  ∀ (m : (ℓ : Loc Cert.KernelMout.nD Cert.KernelMout.τ Cert.KernelMout.sig) → Buf (Elt Bits) ℓ) (g : Dev Cert.KernelMout.nD → PrngReg), Pre_KernelMout m →
    θ_run (Cert.KernelMout.defs (F := Bits)) (onTc (τ := Cert.KernelMout.τ) (Cert.KernelMout.main (F := Bits))) ⟨m, fun _ => 0, g⟩ (fun r => (∀ c : Dev Cert.KernelMout.nD,
      r.2.mem ((c.tc : Thread Cert.KernelMout.nD Cert.KernelMout.τ).loc Cert.KernelMout.main_arg0) = m ((c.tc : Thread Cert.KernelMout.nD Cert.KernelMout.τ).loc Cert.KernelMout.main_arg0)
      ∧ r.2.mem ((c.tc : Thread Cert.KernelMout.nD Cert.KernelMout.τ).loc Cert.KernelMout.main_arg1) = m ((c.tc : Thread Cert.KernelMout.nD Cert.KernelMout.τ).loc Cert.KernelMout.main_arg1))
      ∧ r.2.sem = fun _ => 0)

def quiescent_KernelMoutIdeal [hKernelMoutIdeal : Cert.KernelMoutIdeal.Facts] : Prop :=
  ∀ (m : (ℓ : Loc Cert.KernelMoutIdeal.nD Cert.KernelMoutIdeal.τ Cert.KernelMoutIdeal.sig) → Buf (Elt Ideal) ℓ) (g : Dev Cert.KernelMoutIdeal.nD → PrngReg), Pre_KernelMoutIdeal m →
    θ_run (Cert.KernelMoutIdeal.defs (F := Ideal)) (onTc (τ := Cert.KernelMoutIdeal.τ) (Cert.KernelMoutIdeal.main (F := Ideal))) ⟨m, fun _ => 0, g⟩ (fun r => (∀ c : Dev Cert.KernelMoutIdeal.nD,
      r.2.mem ((c.tc : Thread Cert.KernelMoutIdeal.nD Cert.KernelMoutIdeal.τ).loc Cert.KernelMoutIdeal.main_arg0) = m ((c.tc : Thread Cert.KernelMoutIdeal.nD Cert.KernelMoutIdeal.τ).loc Cert.KernelMoutIdeal.main_arg0)
      ∧ r.2.mem ((c.tc : Thread Cert.KernelMoutIdeal.nD Cert.KernelMoutIdeal.τ).loc Cert.KernelMoutIdeal.main_arg1) = m ((c.tc : Thread Cert.KernelMoutIdeal.nD Cert.KernelMoutIdeal.τ).loc Cert.KernelMoutIdeal.main_arg1))
      ∧ r.2.sem = fun _ => 0)

def quiescent_ReferenceMoutIdeal [hReferenceMoutIdeal : Cert.ReferenceMoutIdeal.Facts] : Prop :=
  ∀ (m : (ℓ : Loc Cert.ReferenceMoutIdeal.nD Cert.ReferenceMoutIdeal.τ Cert.ReferenceMoutIdeal.sig) → Buf (Elt Ideal) ℓ) (g : Dev Cert.ReferenceMoutIdeal.nD → PrngReg), Pre_ReferenceMoutIdeal m →
    θ_run (Cert.ReferenceMoutIdeal.defs (F := Ideal)) (onTc (τ := Cert.ReferenceMoutIdeal.τ) (Cert.ReferenceMoutIdeal.main (F := Ideal))) ⟨m, fun _ => 0, g⟩ (fun r => (∀ c : Dev Cert.ReferenceMoutIdeal.nD,
      r.2.mem ((c.tc : Thread Cert.ReferenceMoutIdeal.nD Cert.ReferenceMoutIdeal.τ).loc Cert.ReferenceMoutIdeal.main_arg0) = m ((c.tc : Thread Cert.ReferenceMoutIdeal.nD Cert.ReferenceMoutIdeal.τ).loc Cert.ReferenceMoutIdeal.main_arg0)
      ∧ r.2.mem ((c.tc : Thread Cert.ReferenceMoutIdeal.nD Cert.ReferenceMoutIdeal.τ).loc Cert.ReferenceMoutIdeal.main_arg1) = m ((c.tc : Thread Cert.ReferenceMoutIdeal.nD Cert.ReferenceMoutIdeal.τ).loc Cert.ReferenceMoutIdeal.main_arg1))
      ∧ r.2.sem = fun _ => 0)

def quiescent_KernelMbranch [hKernelMbranch : Cert.KernelMbranch.Facts] : Prop :=
  ∀ (m : (ℓ : Loc Cert.KernelMbranch.nD Cert.KernelMbranch.τ Cert.KernelMbranch.sig) → Buf (Elt Bits) ℓ) (g : Dev Cert.KernelMbranch.nD → PrngReg), Pre_KernelMbranch m →
    θ_run (Cert.KernelMbranch.defs (F := Bits)) (onTc (τ := Cert.KernelMbranch.τ) (Cert.KernelMbranch.main (F := Bits))) ⟨m, fun _ => 0, g⟩ (fun r => (∀ c : Dev Cert.KernelMbranch.nD,
      r.2.mem ((c.tc : Thread Cert.KernelMbranch.nD Cert.KernelMbranch.τ).loc Cert.KernelMbranch.main_arg0) = m ((c.tc : Thread Cert.KernelMbranch.nD Cert.KernelMbranch.τ).loc Cert.KernelMbranch.main_arg0)
      ∧ r.2.mem ((c.tc : Thread Cert.KernelMbranch.nD Cert.KernelMbranch.τ).loc Cert.KernelMbranch.main_arg1) = m ((c.tc : Thread Cert.KernelMbranch.nD Cert.KernelMbranch.τ).loc Cert.KernelMbranch.main_arg1))
      ∧ r.2.sem = fun _ => 0)

def quiescent_KernelMbranchIdeal [hKernelMbranchIdeal : Cert.KernelMbranchIdeal.Facts] : Prop :=
  ∀ (m : (ℓ : Loc Cert.KernelMbranchIdeal.nD Cert.KernelMbranchIdeal.τ Cert.KernelMbranchIdeal.sig) → Buf (Elt Ideal) ℓ) (g : Dev Cert.KernelMbranchIdeal.nD → PrngReg), Pre_KernelMbranchIdeal m →
    θ_run (Cert.KernelMbranchIdeal.defs (F := Ideal)) (onTc (τ := Cert.KernelMbranchIdeal.τ) (Cert.KernelMbranchIdeal.main (F := Ideal))) ⟨m, fun _ => 0, g⟩ (fun r => (∀ c : Dev Cert.KernelMbranchIdeal.nD,
      r.2.mem ((c.tc : Thread Cert.KernelMbranchIdeal.nD Cert.KernelMbranchIdeal.τ).loc Cert.KernelMbranchIdeal.main_arg0) = m ((c.tc : Thread Cert.KernelMbranchIdeal.nD Cert.KernelMbranchIdeal.τ).loc Cert.KernelMbranchIdeal.main_arg0)
      ∧ r.2.mem ((c.tc : Thread Cert.KernelMbranchIdeal.nD Cert.KernelMbranchIdeal.τ).loc Cert.KernelMbranchIdeal.main_arg1) = m ((c.tc : Thread Cert.KernelMbranchIdeal.nD Cert.KernelMbranchIdeal.τ).loc Cert.KernelMbranchIdeal.main_arg1))
      ∧ r.2.sem = fun _ => 0)

def quiescent_ReferenceMbranchIdeal [hReferenceMbranchIdeal : Cert.ReferenceMbranchIdeal.Facts] : Prop :=
  ∀ (m : (ℓ : Loc Cert.ReferenceMbranchIdeal.nD Cert.ReferenceMbranchIdeal.τ Cert.ReferenceMbranchIdeal.sig) → Buf (Elt Ideal) ℓ) (g : Dev Cert.ReferenceMbranchIdeal.nD → PrngReg), Pre_ReferenceMbranchIdeal m →
    θ_run (Cert.ReferenceMbranchIdeal.defs (F := Ideal)) (onTc (τ := Cert.ReferenceMbranchIdeal.τ) (Cert.ReferenceMbranchIdeal.main (F := Ideal))) ⟨m, fun _ => 0, g⟩ (fun r => (∀ c : Dev Cert.ReferenceMbranchIdeal.nD,
      r.2.mem ((c.tc : Thread Cert.ReferenceMbranchIdeal.nD Cert.ReferenceMbranchIdeal.τ).loc Cert.ReferenceMbranchIdeal.main_arg0) = m ((c.tc : Thread Cert.ReferenceMbranchIdeal.nD Cert.ReferenceMbranchIdeal.τ).loc Cert.ReferenceMbranchIdeal.main_arg0)
      ∧ r.2.mem ((c.tc : Thread Cert.ReferenceMbranchIdeal.nD Cert.ReferenceMbranchIdeal.τ).loc Cert.ReferenceMbranchIdeal.main_arg1) = m ((c.tc : Thread Cert.ReferenceMbranchIdeal.nD Cert.ReferenceMbranchIdeal.τ).loc Cert.ReferenceMbranchIdeal.main_arg1))
      ∧ r.2.sem = fun _ => 0)

def quiescent_KernelMmain [hKernelMmain : Cert.KernelMmain.Facts] : Prop :=
  ∀ (m : (ℓ : Loc Cert.KernelMmain.nD Cert.KernelMmain.τ Cert.KernelMmain.sig) → Buf (Elt Bits) ℓ) (g : Dev Cert.KernelMmain.nD → PrngReg), Pre_KernelMmain m →
    θ_run (Cert.KernelMmain.defs (F := Bits)) (onTc (τ := Cert.KernelMmain.τ) (Cert.KernelMmain.main (F := Bits))) ⟨m, fun _ => 0, g⟩ (fun r => (∀ c : Dev Cert.KernelMmain.nD,
      r.2.mem ((c.tc : Thread Cert.KernelMmain.nD Cert.KernelMmain.τ).loc Cert.KernelMmain.main_arg0) = m ((c.tc : Thread Cert.KernelMmain.nD Cert.KernelMmain.τ).loc Cert.KernelMmain.main_arg0)
      ∧ r.2.mem ((c.tc : Thread Cert.KernelMmain.nD Cert.KernelMmain.τ).loc Cert.KernelMmain.main_arg1) = m ((c.tc : Thread Cert.KernelMmain.nD Cert.KernelMmain.τ).loc Cert.KernelMmain.main_arg1))
      ∧ r.2.sem = fun _ => 0)

def quiescent_KernelMmainIdeal [hKernelMmainIdeal : Cert.KernelMmainIdeal.Facts] : Prop :=
  ∀ (m : (ℓ : Loc Cert.KernelMmainIdeal.nD Cert.KernelMmainIdeal.τ Cert.KernelMmainIdeal.sig) → Buf (Elt Ideal) ℓ) (g : Dev Cert.KernelMmainIdeal.nD → PrngReg), Pre_KernelMmainIdeal m →
    θ_run (Cert.KernelMmainIdeal.defs (F := Ideal)) (onTc (τ := Cert.KernelMmainIdeal.τ) (Cert.KernelMmainIdeal.main (F := Ideal))) ⟨m, fun _ => 0, g⟩ (fun r => (∀ c : Dev Cert.KernelMmainIdeal.nD,
      r.2.mem ((c.tc : Thread Cert.KernelMmainIdeal.nD Cert.KernelMmainIdeal.τ).loc Cert.KernelMmainIdeal.main_arg0) = m ((c.tc : Thread Cert.KernelMmainIdeal.nD Cert.KernelMmainIdeal.τ).loc Cert.KernelMmainIdeal.main_arg0)
      ∧ r.2.mem ((c.tc : Thread Cert.KernelMmainIdeal.nD Cert.KernelMmainIdeal.τ).loc Cert.KernelMmainIdeal.main_arg1) = m ((c.tc : Thread Cert.KernelMmainIdeal.nD Cert.KernelMmainIdeal.τ).loc Cert.KernelMmainIdeal.main_arg1))
      ∧ r.2.sem = fun _ => 0)

def quiescent_ReferenceMmainIdeal [hReferenceMmainIdeal : Cert.ReferenceMmainIdeal.Facts] : Prop :=
  ∀ (m : (ℓ : Loc Cert.ReferenceMmainIdeal.nD Cert.ReferenceMmainIdeal.τ Cert.ReferenceMmainIdeal.sig) → Buf (Elt Ideal) ℓ) (g : Dev Cert.ReferenceMmainIdeal.nD → PrngReg), Pre_ReferenceMmainIdeal m →
    θ_run (Cert.ReferenceMmainIdeal.defs (F := Ideal)) (onTc (τ := Cert.ReferenceMmainIdeal.τ) (Cert.ReferenceMmainIdeal.main (F := Ideal))) ⟨m, fun _ => 0, g⟩ (fun r => (∀ c : Dev Cert.ReferenceMmainIdeal.nD,
      r.2.mem ((c.tc : Thread Cert.ReferenceMmainIdeal.nD Cert.ReferenceMmainIdeal.τ).loc Cert.ReferenceMmainIdeal.main_arg0) = m ((c.tc : Thread Cert.ReferenceMmainIdeal.nD Cert.ReferenceMmainIdeal.τ).loc Cert.ReferenceMmainIdeal.main_arg0)
      ∧ r.2.mem ((c.tc : Thread Cert.ReferenceMmainIdeal.nD Cert.ReferenceMmainIdeal.τ).loc Cert.ReferenceMmainIdeal.main_arg1) = m ((c.tc : Thread Cert.ReferenceMmainIdeal.nD Cert.ReferenceMmainIdeal.τ).loc Cert.ReferenceMmainIdeal.main_arg1))
      ∧ r.2.sem = fun _ => 0)

def quiescent_KernelMg [hKernelMg : Cert.KernelMg.Facts] : Prop :=
  ∀ (m : (ℓ : Loc Cert.KernelMg.nD Cert.KernelMg.τ Cert.KernelMg.sig) → Buf (Elt Bits) ℓ) (g : Dev Cert.KernelMg.nD → PrngReg), Pre_KernelMg m →
    θ_run (Cert.KernelMg.defs (F := Bits)) (onTc (τ := Cert.KernelMg.τ) (Cert.KernelMg.main (F := Bits))) ⟨m, fun _ => 0, g⟩ (fun r => (∀ c : Dev Cert.KernelMg.nD,
      r.2.mem ((c.tc : Thread Cert.KernelMg.nD Cert.KernelMg.τ).loc Cert.KernelMg.main_arg0) = m ((c.tc : Thread Cert.KernelMg.nD Cert.KernelMg.τ).loc Cert.KernelMg.main_arg0)
      ∧ r.2.mem ((c.tc : Thread Cert.KernelMg.nD Cert.KernelMg.τ).loc Cert.KernelMg.main_arg1) = m ((c.tc : Thread Cert.KernelMg.nD Cert.KernelMg.τ).loc Cert.KernelMg.main_arg1))
      ∧ r.2.sem = fun _ => 0)

def quiescent_KernelMgIdeal [hKernelMgIdeal : Cert.KernelMgIdeal.Facts] : Prop :=
  ∀ (m : (ℓ : Loc Cert.KernelMgIdeal.nD Cert.KernelMgIdeal.τ Cert.KernelMgIdeal.sig) → Buf (Elt Ideal) ℓ) (g : Dev Cert.KernelMgIdeal.nD → PrngReg), Pre_KernelMgIdeal m →
    θ_run (Cert.KernelMgIdeal.defs (F := Ideal)) (onTc (τ := Cert.KernelMgIdeal.τ) (Cert.KernelMgIdeal.main (F := Ideal))) ⟨m, fun _ => 0, g⟩ (fun r => (∀ c : Dev Cert.KernelMgIdeal.nD,
      r.2.mem ((c.tc : Thread Cert.KernelMgIdeal.nD Cert.KernelMgIdeal.τ).loc Cert.KernelMgIdeal.main_arg0) = m ((c.tc : Thread Cert.KernelMgIdeal.nD Cert.KernelMgIdeal.τ).loc Cert.KernelMgIdeal.main_arg0)
      ∧ r.2.mem ((c.tc : Thread Cert.KernelMgIdeal.nD Cert.KernelMgIdeal.τ).loc Cert.KernelMgIdeal.main_arg1) = m ((c.tc : Thread Cert.KernelMgIdeal.nD Cert.KernelMgIdeal.τ).loc Cert.KernelMgIdeal.main_arg1))
      ∧ r.2.sem = fun _ => 0)

def quiescent_ReferenceMgIdeal [hReferenceMgIdeal : Cert.ReferenceMgIdeal.Facts] : Prop :=
  ∀ (m : (ℓ : Loc Cert.ReferenceMgIdeal.nD Cert.ReferenceMgIdeal.τ Cert.ReferenceMgIdeal.sig) → Buf (Elt Ideal) ℓ) (g : Dev Cert.ReferenceMgIdeal.nD → PrngReg), Pre_ReferenceMgIdeal m →
    θ_run (Cert.ReferenceMgIdeal.defs (F := Ideal)) (onTc (τ := Cert.ReferenceMgIdeal.τ) (Cert.ReferenceMgIdeal.main (F := Ideal))) ⟨m, fun _ => 0, g⟩ (fun r => (∀ c : Dev Cert.ReferenceMgIdeal.nD,
      r.2.mem ((c.tc : Thread Cert.ReferenceMgIdeal.nD Cert.ReferenceMgIdeal.τ).loc Cert.ReferenceMgIdeal.main_arg0) = m ((c.tc : Thread Cert.ReferenceMgIdeal.nD Cert.ReferenceMgIdeal.τ).loc Cert.ReferenceMgIdeal.main_arg0)
      ∧ r.2.mem ((c.tc : Thread Cert.ReferenceMgIdeal.nD Cert.ReferenceMgIdeal.τ).loc Cert.ReferenceMgIdeal.main_arg1) = m ((c.tc : Thread Cert.ReferenceMgIdeal.nD Cert.ReferenceMgIdeal.τ).loc Cert.ReferenceMgIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6))
      ∧ r.2.sem = fun _ => 0)

def quiescent_KernelAmod [hKernelAmod : Cert.KernelAmod.Facts] : Prop :=
  ∀ (m : (ℓ : Loc Cert.KernelAmod.nD Cert.KernelAmod.τ Cert.KernelAmod.sig) → Buf (Elt Bits) ℓ) (g : Dev Cert.KernelAmod.nD → PrngReg), Pre_KernelAmod m →
    θ_run (Cert.KernelAmod.defs (F := Bits)) (onTc (τ := Cert.KernelAmod.τ) (Cert.KernelAmod.main (F := Bits))) ⟨m, fun _ => 0, g⟩ (fun r => (∀ c : Dev Cert.KernelAmod.nD,
      r.2.mem ((c.tc : Thread Cert.KernelAmod.nD Cert.KernelAmod.τ).loc Cert.KernelAmod.main_arg0) = m ((c.tc : Thread Cert.KernelAmod.nD Cert.KernelAmod.τ).loc Cert.KernelAmod.main_arg0)
      ∧ r.2.mem ((c.tc : Thread Cert.KernelAmod.nD Cert.KernelAmod.τ).loc Cert.KernelAmod.main_arg1) = m ((c.tc : Thread Cert.KernelAmod.nD Cert.KernelAmod.τ).loc Cert.KernelAmod.main_arg1)
      ∧ r.2.mem ((c.tc : Thread Cert.KernelAmod.nD Cert.KernelAmod.τ).loc Cert.KernelAmod.main_arg2) = m ((c.tc : Thread Cert.KernelAmod.nD Cert.KernelAmod.τ).loc Cert.KernelAmod.main_arg2)
      ∧ r.2.mem ((c.tc : Thread Cert.KernelAmod.nD Cert.KernelAmod.τ).loc Cert.KernelAmod.main_arg3) = m ((c.tc : Thread Cert.KernelAmod.nD Cert.KernelAmod.τ).loc Cert.KernelAmod.main_arg3))
      ∧ r.2.sem = fun _ => 0)

def quiescent_KernelAmodIdeal [hKernelAmodIdeal : Cert.KernelAmodIdeal.Facts] : Prop :=
  ∀ (m : (ℓ : Loc Cert.KernelAmodIdeal.nD Cert.KernelAmodIdeal.τ Cert.KernelAmodIdeal.sig) → Buf (Elt Ideal) ℓ) (g : Dev Cert.KernelAmodIdeal.nD → PrngReg), Pre_KernelAmodIdeal m →
    θ_run (Cert.KernelAmodIdeal.defs (F := Ideal)) (onTc (τ := Cert.KernelAmodIdeal.τ) (Cert.KernelAmodIdeal.main (F := Ideal))) ⟨m, fun _ => 0, g⟩ (fun r => (∀ c : Dev Cert.KernelAmodIdeal.nD,
      r.2.mem ((c.tc : Thread Cert.KernelAmodIdeal.nD Cert.KernelAmodIdeal.τ).loc Cert.KernelAmodIdeal.main_arg0) = m ((c.tc : Thread Cert.KernelAmodIdeal.nD Cert.KernelAmodIdeal.τ).loc Cert.KernelAmodIdeal.main_arg0)
      ∧ r.2.mem ((c.tc : Thread Cert.KernelAmodIdeal.nD Cert.KernelAmodIdeal.τ).loc Cert.KernelAmodIdeal.main_arg1) = m ((c.tc : Thread Cert.KernelAmodIdeal.nD Cert.KernelAmodIdeal.τ).loc Cert.KernelAmodIdeal.main_arg1)
      ∧ r.2.mem ((c.tc : Thread Cert.KernelAmodIdeal.nD Cert.KernelAmodIdeal.τ).loc Cert.KernelAmodIdeal.main_arg2) = m ((c.tc : Thread Cert.KernelAmodIdeal.nD Cert.KernelAmodIdeal.τ).loc Cert.KernelAmodIdeal.main_arg2)
      ∧ r.2.mem ((c.tc : Thread Cert.KernelAmodIdeal.nD Cert.KernelAmodIdeal.τ).loc Cert.KernelAmodIdeal.main_arg3) = m ((c.tc : Thread Cert.KernelAmodIdeal.nD Cert.KernelAmodIdeal.τ).loc Cert.KernelAmodIdeal.main_arg3))
      ∧ r.2.sem = fun _ => 0)

def quiescent_ReferenceAmodIdeal [hReferenceAmodIdeal : Cert.ReferenceAmodIdeal.Facts] : Prop :=
  ∀ (m : (ℓ : Loc Cert.ReferenceAmodIdeal.nD Cert.ReferenceAmodIdeal.τ Cert.ReferenceAmodIdeal.sig) → Buf (Elt Ideal) ℓ) (g : Dev Cert.ReferenceAmodIdeal.nD → PrngReg), Pre_ReferenceAmodIdeal m →
    θ_run (Cert.ReferenceAmodIdeal.defs (F := Ideal)) (onTc (τ := Cert.ReferenceAmodIdeal.τ) (Cert.ReferenceAmodIdeal.main (F := Ideal))) ⟨m, fun _ => 0, g⟩ (fun r => (∀ c : Dev Cert.ReferenceAmodIdeal.nD,
      r.2.mem ((c.tc : Thread Cert.ReferenceAmodIdeal.nD Cert.ReferenceAmodIdeal.τ).loc Cert.ReferenceAmodIdeal.main_arg0) = m ((c.tc : Thread Cert.ReferenceAmodIdeal.nD Cert.ReferenceAmodIdeal.τ).loc Cert.ReferenceAmodIdeal.main_arg0)
      ∧ r.2.mem ((c.tc : Thread Cert.ReferenceAmodIdeal.nD Cert.ReferenceAmodIdeal.τ).loc Cert.ReferenceAmodIdeal.main_arg1) = m ((c.tc : Thread Cert.ReferenceAmodIdeal.nD Cert.ReferenceAmodIdeal.τ).loc Cert.ReferenceAmodIdeal.main_arg1)
      ∧ r.2.mem ((c.tc : Thread Cert.ReferenceAmodIdeal.nD Cert.ReferenceAmodIdeal.τ).loc Cert.ReferenceAmodIdeal.main_arg2) = m ((c.tc : Thread Cert.ReferenceAmodIdeal.nD Cert.ReferenceAmodIdeal.τ).loc Cert.ReferenceAmodIdeal.main_arg2)
      ∧ r.2.mem ((c.tc : Thread Cert.ReferenceAmodIdeal.nD Cert.ReferenceAmodIdeal.τ).loc Cert.ReferenceAmodIdeal.main_arg3) = m ((c.tc : Thread Cert.ReferenceAmodIdeal.nD Cert.ReferenceAmodIdeal.τ).loc Cert.ReferenceAmodIdeal.main_arg3))
      ∧ r.2.sem = fun _ => 0)

def quiescent_KernelAin [hKernelAin : Cert.KernelAin.Facts] : Prop :=
  ∀ (m : (ℓ : Loc Cert.KernelAin.nD Cert.KernelAin.τ Cert.KernelAin.sig) → Buf (Elt Bits) ℓ) (g : Dev Cert.KernelAin.nD → PrngReg), Pre_KernelAin m →
    θ_run (Cert.KernelAin.defs (F := Bits)) (onTc (τ := Cert.KernelAin.τ) (Cert.KernelAin.main (F := Bits))) ⟨m, fun _ => 0, g⟩ (fun r => (∀ c : Dev Cert.KernelAin.nD,
      r.2.mem ((c.tc : Thread Cert.KernelAin.nD Cert.KernelAin.τ).loc Cert.KernelAin.main_arg0) = m ((c.tc : Thread Cert.KernelAin.nD Cert.KernelAin.τ).loc Cert.KernelAin.main_arg0)
      ∧ r.2.mem ((c.tc : Thread Cert.KernelAin.nD Cert.KernelAin.τ).loc Cert.KernelAin.main_arg1) = m ((c.tc : Thread Cert.KernelAin.nD Cert.KernelAin.τ).loc Cert.KernelAin.main_arg1)
      ∧ r.2.mem ((c.tc : Thread Cert.KernelAin.nD Cert.KernelAin.τ).loc Cert.KernelAin.main_arg2) = m ((c.tc : Thread Cert.KernelAin.nD Cert.KernelAin.τ).loc Cert.KernelAin.main_arg2)
      ∧ r.2.mem ((c.tc : Thread Cert.KernelAin.nD Cert.KernelAin.τ).loc Cert.KernelAin.main_arg3) = m ((c.tc : Thread Cert.KernelAin.nD Cert.KernelAin.τ).loc Cert.KernelAin.main_arg3))
      ∧ r.2.sem = fun _ => 0)

def quiescent_KernelAinIdeal [hKernelAinIdeal : Cert.KernelAinIdeal.Facts] : Prop :=
  ∀ (m : (ℓ : Loc Cert.KernelAinIdeal.nD Cert.KernelAinIdeal.τ Cert.KernelAinIdeal.sig) → Buf (Elt Ideal) ℓ) (g : Dev Cert.KernelAinIdeal.nD → PrngReg), Pre_KernelAinIdeal m →
    θ_run (Cert.KernelAinIdeal.defs (F := Ideal)) (onTc (τ := Cert.KernelAinIdeal.τ) (Cert.KernelAinIdeal.main (F := Ideal))) ⟨m, fun _ => 0, g⟩ (fun r => (∀ c : Dev Cert.KernelAinIdeal.nD,
      r.2.mem ((c.tc : Thread Cert.KernelAinIdeal.nD Cert.KernelAinIdeal.τ).loc Cert.KernelAinIdeal.main_arg0) = m ((c.tc : Thread Cert.KernelAinIdeal.nD Cert.KernelAinIdeal.τ).loc Cert.KernelAinIdeal.main_arg0)
      ∧ r.2.mem ((c.tc : Thread Cert.KernelAinIdeal.nD Cert.KernelAinIdeal.τ).loc Cert.KernelAinIdeal.main_arg1) = m ((c.tc : Thread Cert.KernelAinIdeal.nD Cert.KernelAinIdeal.τ).loc Cert.KernelAinIdeal.main_arg1)
      ∧ r.2.mem ((c.tc : Thread Cert.KernelAinIdeal.nD Cert.KernelAinIdeal.τ).loc Cert.KernelAinIdeal.main_arg2) = m ((c.tc : Thread Cert.KernelAinIdeal.nD Cert.KernelAinIdeal.τ).loc Cert.KernelAinIdeal.main_arg2)
      ∧ r.2.mem ((c.tc : Thread Cert.KernelAinIdeal.nD Cert.KernelAinIdeal.τ).loc Cert.KernelAinIdeal.main_arg3) = m ((c.tc : Thread Cert.KernelAinIdeal.nD Cert.KernelAinIdeal.τ).loc Cert.KernelAinIdeal.main_arg3))
      ∧ r.2.sem = fun _ => 0)

def quiescent_ReferenceAinIdeal [hReferenceAinIdeal : Cert.ReferenceAinIdeal.Facts] : Prop :=
  ∀ (m : (ℓ : Loc Cert.ReferenceAinIdeal.nD Cert.ReferenceAinIdeal.τ Cert.ReferenceAinIdeal.sig) → Buf (Elt Ideal) ℓ) (g : Dev Cert.ReferenceAinIdeal.nD → PrngReg), Pre_ReferenceAinIdeal m →
    θ_run (Cert.ReferenceAinIdeal.defs (F := Ideal)) (onTc (τ := Cert.ReferenceAinIdeal.τ) (Cert.ReferenceAinIdeal.main (F := Ideal))) ⟨m, fun _ => 0, g⟩ (fun r => (∀ c : Dev Cert.ReferenceAinIdeal.nD,
      r.2.mem ((c.tc : Thread Cert.ReferenceAinIdeal.nD Cert.ReferenceAinIdeal.τ).loc Cert.ReferenceAinIdeal.main_arg0) = m ((c.tc : Thread Cert.ReferenceAinIdeal.nD Cert.ReferenceAinIdeal.τ).loc Cert.ReferenceAinIdeal.main_arg0)
      ∧ r.2.mem ((c.tc : Thread Cert.ReferenceAinIdeal.nD Cert.ReferenceAinIdeal.τ).loc Cert.ReferenceAinIdeal.main_arg1) = m ((c.tc : Thread Cert.ReferenceAinIdeal.nD Cert.ReferenceAinIdeal.τ).loc Cert.ReferenceAinIdeal.main_arg1)
      ∧ r.2.mem ((c.tc : Thread Cert.ReferenceAinIdeal.nD Cert.ReferenceAinIdeal.τ).loc Cert.ReferenceAinIdeal.main_arg2) = m ((c.tc : Thread Cert.ReferenceAinIdeal.nD Cert.ReferenceAinIdeal.τ).loc Cert.ReferenceAinIdeal.main_arg2)
      ∧ r.2.mem ((c.tc : Thread Cert.ReferenceAinIdeal.nD Cert.ReferenceAinIdeal.τ).loc Cert.ReferenceAinIdeal.main_arg3) = m ((c.tc : Thread Cert.ReferenceAinIdeal.nD Cert.ReferenceAinIdeal.τ).loc Cert.ReferenceAinIdeal.main_arg3))
      ∧ r.2.sem = fun _ => 0)

def quiescent_KernelAbranch [hKernelAbranch : Cert.KernelAbranch.Facts] : Prop :=
  ∀ (m : (ℓ : Loc Cert.KernelAbranch.nD Cert.KernelAbranch.τ Cert.KernelAbranch.sig) → Buf (Elt Bits) ℓ) (g : Dev Cert.KernelAbranch.nD → PrngReg), Pre_KernelAbranch m →
    θ_run (Cert.KernelAbranch.defs (F := Bits)) (onTc (τ := Cert.KernelAbranch.τ) (Cert.KernelAbranch.main (F := Bits))) ⟨m, fun _ => 0, g⟩ (fun r => (∀ c : Dev Cert.KernelAbranch.nD,
      r.2.mem ((c.tc : Thread Cert.KernelAbranch.nD Cert.KernelAbranch.τ).loc Cert.KernelAbranch.main_arg0) = m ((c.tc : Thread Cert.KernelAbranch.nD Cert.KernelAbranch.τ).loc Cert.KernelAbranch.main_arg0)
      ∧ r.2.mem ((c.tc : Thread Cert.KernelAbranch.nD Cert.KernelAbranch.τ).loc Cert.KernelAbranch.main_arg1) = m ((c.tc : Thread Cert.KernelAbranch.nD Cert.KernelAbranch.τ).loc Cert.KernelAbranch.main_arg1)
      ∧ r.2.mem ((c.tc : Thread Cert.KernelAbranch.nD Cert.KernelAbranch.τ).loc Cert.KernelAbranch.main_arg2) = m ((c.tc : Thread Cert.KernelAbranch.nD Cert.KernelAbranch.τ).loc Cert.KernelAbranch.main_arg2)
      ∧ r.2.mem ((c.tc : Thread Cert.KernelAbranch.nD Cert.KernelAbranch.τ).loc Cert.KernelAbranch.main_arg3) = m ((c.tc : Thread Cert.KernelAbranch.nD Cert.KernelAbranch.τ).loc Cert.KernelAbranch.main_arg3))
      ∧ r.2.sem = fun _ => 0)

def quiescent_KernelAbranchIdeal [hKernelAbranchIdeal : Cert.KernelAbranchIdeal.Facts] : Prop :=
  ∀ (m : (ℓ : Loc Cert.KernelAbranchIdeal.nD Cert.KernelAbranchIdeal.τ Cert.KernelAbranchIdeal.sig) → Buf (Elt Ideal) ℓ) (g : Dev Cert.KernelAbranchIdeal.nD → PrngReg), Pre_KernelAbranchIdeal m →
    θ_run (Cert.KernelAbranchIdeal.defs (F := Ideal)) (onTc (τ := Cert.KernelAbranchIdeal.τ) (Cert.KernelAbranchIdeal.main (F := Ideal))) ⟨m, fun _ => 0, g⟩ (fun r => (∀ c : Dev Cert.KernelAbranchIdeal.nD,
      r.2.mem ((c.tc : Thread Cert.KernelAbranchIdeal.nD Cert.KernelAbranchIdeal.τ).loc Cert.KernelAbranchIdeal.main_arg0) = m ((c.tc : Thread Cert.KernelAbranchIdeal.nD Cert.KernelAbranchIdeal.τ).loc Cert.KernelAbranchIdeal.main_arg0)
      ∧ r.2.mem ((c.tc : Thread Cert.KernelAbranchIdeal.nD Cert.KernelAbranchIdeal.τ).loc Cert.KernelAbranchIdeal.main_arg1) = m ((c.tc : Thread Cert.KernelAbranchIdeal.nD Cert.KernelAbranchIdeal.τ).loc Cert.KernelAbranchIdeal.main_arg1)
      ∧ r.2.mem ((c.tc : Thread Cert.KernelAbranchIdeal.nD Cert.KernelAbranchIdeal.τ).loc Cert.KernelAbranchIdeal.main_arg2) = m ((c.tc : Thread Cert.KernelAbranchIdeal.nD Cert.KernelAbranchIdeal.τ).loc Cert.KernelAbranchIdeal.main_arg2)
      ∧ r.2.mem ((c.tc : Thread Cert.KernelAbranchIdeal.nD Cert.KernelAbranchIdeal.τ).loc Cert.KernelAbranchIdeal.main_arg3) = m ((c.tc : Thread Cert.KernelAbranchIdeal.nD Cert.KernelAbranchIdeal.τ).loc Cert.KernelAbranchIdeal.main_arg3))
      ∧ r.2.sem = fun _ => 0)

def quiescent_ReferenceAbranchIdeal [hReferenceAbranchIdeal : Cert.ReferenceAbranchIdeal.Facts] : Prop :=
  ∀ (m : (ℓ : Loc Cert.ReferenceAbranchIdeal.nD Cert.ReferenceAbranchIdeal.τ Cert.ReferenceAbranchIdeal.sig) → Buf (Elt Ideal) ℓ) (g : Dev Cert.ReferenceAbranchIdeal.nD → PrngReg), Pre_ReferenceAbranchIdeal m →
    θ_run (Cert.ReferenceAbranchIdeal.defs (F := Ideal)) (onTc (τ := Cert.ReferenceAbranchIdeal.τ) (Cert.ReferenceAbranchIdeal.main (F := Ideal))) ⟨m, fun _ => 0, g⟩ (fun r => (∀ c : Dev Cert.ReferenceAbranchIdeal.nD,
      r.2.mem ((c.tc : Thread Cert.ReferenceAbranchIdeal.nD Cert.ReferenceAbranchIdeal.τ).loc Cert.ReferenceAbranchIdeal.main_arg0) = m ((c.tc : Thread Cert.ReferenceAbranchIdeal.nD Cert.ReferenceAbranchIdeal.τ).loc Cert.ReferenceAbranchIdeal.main_arg0)
      ∧ r.2.mem ((c.tc : Thread Cert.ReferenceAbranchIdeal.nD Cert.ReferenceAbranchIdeal.τ).loc Cert.ReferenceAbranchIdeal.main_arg1) = m ((c.tc : Thread Cert.ReferenceAbranchIdeal.nD Cert.ReferenceAbranchIdeal.τ).loc Cert.ReferenceAbranchIdeal.main_arg1)
      ∧ r.2.mem ((c.tc : Thread Cert.ReferenceAbranchIdeal.nD Cert.ReferenceAbranchIdeal.τ).loc Cert.ReferenceAbranchIdeal.main_arg2) = m ((c.tc : Thread Cert.ReferenceAbranchIdeal.nD Cert.ReferenceAbranchIdeal.τ).loc Cert.ReferenceAbranchIdeal.main_arg2)
      ∧ r.2.mem ((c.tc : Thread Cert.ReferenceAbranchIdeal.nD Cert.ReferenceAbranchIdeal.τ).loc Cert.ReferenceAbranchIdeal.main_arg3) = m ((c.tc : Thread Cert.ReferenceAbranchIdeal.nD Cert.ReferenceAbranchIdeal.τ).loc Cert.ReferenceAbranchIdeal.main_arg3))
      ∧ r.2.sem = fun _ => 0)

def quiescent_KernelAup [hKernelAup : Cert.KernelAup.Facts] : Prop :=
  ∀ (m : (ℓ : Loc Cert.KernelAup.nD Cert.KernelAup.τ Cert.KernelAup.sig) → Buf (Elt Bits) ℓ) (g : Dev Cert.KernelAup.nD → PrngReg), Pre_KernelAup m →
    θ_run (Cert.KernelAup.defs (F := Bits)) (onTc (τ := Cert.KernelAup.τ) (Cert.KernelAup.main (F := Bits))) ⟨m, fun _ => 0, g⟩ (fun r => (∀ c : Dev Cert.KernelAup.nD,
      r.2.mem ((c.tc : Thread Cert.KernelAup.nD Cert.KernelAup.τ).loc Cert.KernelAup.main_arg0) = m ((c.tc : Thread Cert.KernelAup.nD Cert.KernelAup.τ).loc Cert.KernelAup.main_arg0)
      ∧ r.2.mem ((c.tc : Thread Cert.KernelAup.nD Cert.KernelAup.τ).loc Cert.KernelAup.main_arg1) = m ((c.tc : Thread Cert.KernelAup.nD Cert.KernelAup.τ).loc Cert.KernelAup.main_arg1)
      ∧ r.2.mem ((c.tc : Thread Cert.KernelAup.nD Cert.KernelAup.τ).loc Cert.KernelAup.main_arg2) = m ((c.tc : Thread Cert.KernelAup.nD Cert.KernelAup.τ).loc Cert.KernelAup.main_arg2)
      ∧ r.2.mem ((c.tc : Thread Cert.KernelAup.nD Cert.KernelAup.τ).loc Cert.KernelAup.main_arg3) = m ((c.tc : Thread Cert.KernelAup.nD Cert.KernelAup.τ).loc Cert.KernelAup.main_arg3))
      ∧ r.2.sem = fun _ => 0)

def quiescent_KernelAupIdeal [hKernelAupIdeal : Cert.KernelAupIdeal.Facts] : Prop :=
  ∀ (m : (ℓ : Loc Cert.KernelAupIdeal.nD Cert.KernelAupIdeal.τ Cert.KernelAupIdeal.sig) → Buf (Elt Ideal) ℓ) (g : Dev Cert.KernelAupIdeal.nD → PrngReg), Pre_KernelAupIdeal m →
    θ_run (Cert.KernelAupIdeal.defs (F := Ideal)) (onTc (τ := Cert.KernelAupIdeal.τ) (Cert.KernelAupIdeal.main (F := Ideal))) ⟨m, fun _ => 0, g⟩ (fun r => (∀ c : Dev Cert.KernelAupIdeal.nD,
      r.2.mem ((c.tc : Thread Cert.KernelAupIdeal.nD Cert.KernelAupIdeal.τ).loc Cert.KernelAupIdeal.main_arg0) = m ((c.tc : Thread Cert.KernelAupIdeal.nD Cert.KernelAupIdeal.τ).loc Cert.KernelAupIdeal.main_arg0)
      ∧ r.2.mem ((c.tc : Thread Cert.KernelAupIdeal.nD Cert.KernelAupIdeal.τ).loc Cert.KernelAupIdeal.main_arg1) = m ((c.tc : Thread Cert.KernelAupIdeal.nD Cert.KernelAupIdeal.τ).loc Cert.KernelAupIdeal.main_arg1)
      ∧ r.2.mem ((c.tc : Thread Cert.KernelAupIdeal.nD Cert.KernelAupIdeal.τ).loc Cert.KernelAupIdeal.main_arg2) = m ((c.tc : Thread Cert.KernelAupIdeal.nD Cert.KernelAupIdeal.τ).loc Cert.KernelAupIdeal.main_arg2)
      ∧ r.2.mem ((c.tc : Thread Cert.KernelAupIdeal.nD Cert.KernelAupIdeal.τ).loc Cert.KernelAupIdeal.main_arg3) = m ((c.tc : Thread Cert.KernelAupIdeal.nD Cert.KernelAupIdeal.τ).loc Cert.KernelAupIdeal.main_arg3))
      ∧ r.2.sem = fun _ => 0)

def quiescent_ReferenceAupIdeal [hReferenceAupIdeal : Cert.ReferenceAupIdeal.Facts] : Prop :=
  ∀ (m : (ℓ : Loc Cert.ReferenceAupIdeal.nD Cert.ReferenceAupIdeal.τ Cert.ReferenceAupIdeal.sig) → Buf (Elt Ideal) ℓ) (g : Dev Cert.ReferenceAupIdeal.nD → PrngReg), Pre_ReferenceAupIdeal m →
    θ_run (Cert.ReferenceAupIdeal.defs (F := Ideal)) (onTc (τ := Cert.ReferenceAupIdeal.τ) (Cert.ReferenceAupIdeal.main (F := Ideal))) ⟨m, fun _ => 0, g⟩ (fun r => (∀ c : Dev Cert.ReferenceAupIdeal.nD,
      r.2.mem ((c.tc : Thread Cert.ReferenceAupIdeal.nD Cert.ReferenceAupIdeal.τ).loc Cert.ReferenceAupIdeal.main_arg0) = m ((c.tc : Thread Cert.ReferenceAupIdeal.nD Cert.ReferenceAupIdeal.τ).loc Cert.ReferenceAupIdeal.main_arg0)
      ∧ r.2.mem ((c.tc : Thread Cert.ReferenceAupIdeal.nD Cert.ReferenceAupIdeal.τ).loc Cert.ReferenceAupIdeal.main_arg1) = m ((c.tc : Thread Cert.ReferenceAupIdeal.nD Cert.ReferenceAupIdeal.τ).loc Cert.ReferenceAupIdeal.main_arg1)
      ∧ r.2.mem ((c.tc : Thread Cert.ReferenceAupIdeal.nD Cert.ReferenceAupIdeal.τ).loc Cert.ReferenceAupIdeal.main_arg2) = m ((c.tc : Thread Cert.ReferenceAupIdeal.nD Cert.ReferenceAupIdeal.τ).loc Cert.ReferenceAupIdeal.main_arg2)
      ∧ r.2.mem ((c.tc : Thread Cert.ReferenceAupIdeal.nD Cert.ReferenceAupIdeal.τ).loc Cert.ReferenceAupIdeal.main_arg3) = m ((c.tc : Thread Cert.ReferenceAupIdeal.nD Cert.ReferenceAupIdeal.τ).loc Cert.ReferenceAupIdeal.main_arg3))
      ∧ r.2.sem = fun _ => 0)

def quiescent_KernelAdown [hKernelAdown : Cert.KernelAdown.Facts] : Prop :=
  ∀ (m : (ℓ : Loc Cert.KernelAdown.nD Cert.KernelAdown.τ Cert.KernelAdown.sig) → Buf (Elt Bits) ℓ) (g : Dev Cert.KernelAdown.nD → PrngReg), Pre_KernelAdown m →
    θ_run (Cert.KernelAdown.defs (F := Bits)) (onTc (τ := Cert.KernelAdown.τ) (Cert.KernelAdown.main (F := Bits))) ⟨m, fun _ => 0, g⟩ (fun r => (∀ c : Dev Cert.KernelAdown.nD,
      r.2.mem ((c.tc : Thread Cert.KernelAdown.nD Cert.KernelAdown.τ).loc Cert.KernelAdown.main_arg0) = m ((c.tc : Thread Cert.KernelAdown.nD Cert.KernelAdown.τ).loc Cert.KernelAdown.main_arg0)
      ∧ r.2.mem ((c.tc : Thread Cert.KernelAdown.nD Cert.KernelAdown.τ).loc Cert.KernelAdown.main_arg1) = m ((c.tc : Thread Cert.KernelAdown.nD Cert.KernelAdown.τ).loc Cert.KernelAdown.main_arg1)
      ∧ r.2.mem ((c.tc : Thread Cert.KernelAdown.nD Cert.KernelAdown.τ).loc Cert.KernelAdown.main_arg2) = m ((c.tc : Thread Cert.KernelAdown.nD Cert.KernelAdown.τ).loc Cert.KernelAdown.main_arg2)
      ∧ r.2.mem ((c.tc : Thread Cert.KernelAdown.nD Cert.KernelAdown.τ).loc Cert.KernelAdown.main_arg3) = m ((c.tc : Thread Cert.KernelAdown.nD Cert.KernelAdown.τ).loc Cert.KernelAdown.main_arg3))
      ∧ r.2.sem = fun _ => 0)

def quiescent_KernelAdownIdeal [hKernelAdownIdeal : Cert.KernelAdownIdeal.Facts] : Prop :=
  ∀ (m : (ℓ : Loc Cert.KernelAdownIdeal.nD Cert.KernelAdownIdeal.τ Cert.KernelAdownIdeal.sig) → Buf (Elt Ideal) ℓ) (g : Dev Cert.KernelAdownIdeal.nD → PrngReg), Pre_KernelAdownIdeal m →
    θ_run (Cert.KernelAdownIdeal.defs (F := Ideal)) (onTc (τ := Cert.KernelAdownIdeal.τ) (Cert.KernelAdownIdeal.main (F := Ideal))) ⟨m, fun _ => 0, g⟩ (fun r => (∀ c : Dev Cert.KernelAdownIdeal.nD,
      r.2.mem ((c.tc : Thread Cert.KernelAdownIdeal.nD Cert.KernelAdownIdeal.τ).loc Cert.KernelAdownIdeal.main_arg0) = m ((c.tc : Thread Cert.KernelAdownIdeal.nD Cert.KernelAdownIdeal.τ).loc Cert.KernelAdownIdeal.main_arg0)
      ∧ r.2.mem ((c.tc : Thread Cert.KernelAdownIdeal.nD Cert.KernelAdownIdeal.τ).loc Cert.KernelAdownIdeal.main_arg1) = m ((c.tc : Thread Cert.KernelAdownIdeal.nD Cert.KernelAdownIdeal.τ).loc Cert.KernelAdownIdeal.main_arg1)
      ∧ r.2.mem ((c.tc : Thread Cert.KernelAdownIdeal.nD Cert.KernelAdownIdeal.τ).loc Cert.KernelAdownIdeal.main_arg2) = m ((c.tc : Thread Cert.KernelAdownIdeal.nD Cert.KernelAdownIdeal.τ).loc Cert.KernelAdownIdeal.main_arg2)
      ∧ r.2.mem ((c.tc : Thread Cert.KernelAdownIdeal.nD Cert.KernelAdownIdeal.τ).loc Cert.KernelAdownIdeal.main_arg3) = m ((c.tc : Thread Cert.KernelAdownIdeal.nD Cert.KernelAdownIdeal.τ).loc Cert.KernelAdownIdeal.main_arg3))
      ∧ r.2.sem = fun _ => 0)

def quiescent_ReferenceAdownIdeal [hReferenceAdownIdeal : Cert.ReferenceAdownIdeal.Facts] : Prop :=
  ∀ (m : (ℓ : Loc Cert.ReferenceAdownIdeal.nD Cert.ReferenceAdownIdeal.τ Cert.ReferenceAdownIdeal.sig) → Buf (Elt Ideal) ℓ) (g : Dev Cert.ReferenceAdownIdeal.nD → PrngReg), Pre_ReferenceAdownIdeal m →
    θ_run (Cert.ReferenceAdownIdeal.defs (F := Ideal)) (onTc (τ := Cert.ReferenceAdownIdeal.τ) (Cert.ReferenceAdownIdeal.main (F := Ideal))) ⟨m, fun _ => 0, g⟩ (fun r => (∀ c : Dev Cert.ReferenceAdownIdeal.nD,
      r.2.mem ((c.tc : Thread Cert.ReferenceAdownIdeal.nD Cert.ReferenceAdownIdeal.τ).loc Cert.ReferenceAdownIdeal.main_arg0) = m ((c.tc : Thread Cert.ReferenceAdownIdeal.nD Cert.ReferenceAdownIdeal.τ).loc Cert.ReferenceAdownIdeal.main_arg0)
      ∧ r.2.mem ((c.tc : Thread Cert.ReferenceAdownIdeal.nD Cert.ReferenceAdownIdeal.τ).loc Cert.ReferenceAdownIdeal.main_arg1) = m ((c.tc : Thread Cert.ReferenceAdownIdeal.nD Cert.ReferenceAdownIdeal.τ).loc Cert.ReferenceAdownIdeal.main_arg1)
      ∧ r.2.mem ((c.tc : Thread Cert.ReferenceAdownIdeal.nD Cert.ReferenceAdownIdeal.τ).loc Cert.ReferenceAdownIdeal.main_arg2) = m ((c.tc : Thread Cert.ReferenceAdownIdeal.nD Cert.ReferenceAdownIdeal.τ).loc Cert.ReferenceAdownIdeal.main_arg2)
      ∧ r.2.mem ((c.tc : Thread Cert.ReferenceAdownIdeal.nD Cert.ReferenceAdownIdeal.τ).loc Cert.ReferenceAdownIdeal.main_arg3) = m ((c.tc : Thread Cert.ReferenceAdownIdeal.nD Cert.ReferenceAdownIdeal.τ).loc Cert.ReferenceAdownIdeal.main_arg3))
      ∧ r.2.sem = fun _ => 0)

def quiescent_KernelAsmall [hKernelAsmall : Cert.KernelAsmall.Facts] : Prop :=
  ∀ (m : (ℓ : Loc Cert.KernelAsmall.nD Cert.KernelAsmall.τ Cert.KernelAsmall.sig) → Buf (Elt Bits) ℓ) (g : Dev Cert.KernelAsmall.nD → PrngReg), Pre_KernelAsmall m →
    θ_run (Cert.KernelAsmall.defs (F := Bits)) (onTc (τ := Cert.KernelAsmall.τ) (Cert.KernelAsmall.main (F := Bits))) ⟨m, fun _ => 0, g⟩ (fun r => (∀ c : Dev Cert.KernelAsmall.nD,
      r.2.mem ((c.tc : Thread Cert.KernelAsmall.nD Cert.KernelAsmall.τ).loc Cert.KernelAsmall.main_arg0) = m ((c.tc : Thread Cert.KernelAsmall.nD Cert.KernelAsmall.τ).loc Cert.KernelAsmall.main_arg0)
      ∧ r.2.mem ((c.tc : Thread Cert.KernelAsmall.nD Cert.KernelAsmall.τ).loc Cert.KernelAsmall.main_arg1) = m ((c.tc : Thread Cert.KernelAsmall.nD Cert.KernelAsmall.τ).loc Cert.KernelAsmall.main_arg1)
      ∧ r.2.mem ((c.tc : Thread Cert.KernelAsmall.nD Cert.KernelAsmall.τ).loc Cert.KernelAsmall.main_arg2) = m ((c.tc : Thread Cert.KernelAsmall.nD Cert.KernelAsmall.τ).loc Cert.KernelAsmall.main_arg2)
      ∧ r.2.mem ((c.tc : Thread Cert.KernelAsmall.nD Cert.KernelAsmall.τ).loc Cert.KernelAsmall.main_arg3) = m ((c.tc : Thread Cert.KernelAsmall.nD Cert.KernelAsmall.τ).loc Cert.KernelAsmall.main_arg3))
      ∧ r.2.sem = fun _ => 0)

def quiescent_KernelAsmallIdeal [hKernelAsmallIdeal : Cert.KernelAsmallIdeal.Facts] : Prop :=
  ∀ (m : (ℓ : Loc Cert.KernelAsmallIdeal.nD Cert.KernelAsmallIdeal.τ Cert.KernelAsmallIdeal.sig) → Buf (Elt Ideal) ℓ) (g : Dev Cert.KernelAsmallIdeal.nD → PrngReg), Pre_KernelAsmallIdeal m →
    θ_run (Cert.KernelAsmallIdeal.defs (F := Ideal)) (onTc (τ := Cert.KernelAsmallIdeal.τ) (Cert.KernelAsmallIdeal.main (F := Ideal))) ⟨m, fun _ => 0, g⟩ (fun r => (∀ c : Dev Cert.KernelAsmallIdeal.nD,
      r.2.mem ((c.tc : Thread Cert.KernelAsmallIdeal.nD Cert.KernelAsmallIdeal.τ).loc Cert.KernelAsmallIdeal.main_arg0) = m ((c.tc : Thread Cert.KernelAsmallIdeal.nD Cert.KernelAsmallIdeal.τ).loc Cert.KernelAsmallIdeal.main_arg0)
      ∧ r.2.mem ((c.tc : Thread Cert.KernelAsmallIdeal.nD Cert.KernelAsmallIdeal.τ).loc Cert.KernelAsmallIdeal.main_arg1) = m ((c.tc : Thread Cert.KernelAsmallIdeal.nD Cert.KernelAsmallIdeal.τ).loc Cert.KernelAsmallIdeal.main_arg1)
      ∧ r.2.mem ((c.tc : Thread Cert.KernelAsmallIdeal.nD Cert.KernelAsmallIdeal.τ).loc Cert.KernelAsmallIdeal.main_arg2) = m ((c.tc : Thread Cert.KernelAsmallIdeal.nD Cert.KernelAsmallIdeal.τ).loc Cert.KernelAsmallIdeal.main_arg2)
      ∧ r.2.mem ((c.tc : Thread Cert.KernelAsmallIdeal.nD Cert.KernelAsmallIdeal.τ).loc Cert.KernelAsmallIdeal.main_arg3) = m ((c.tc : Thread Cert.KernelAsmallIdeal.nD Cert.KernelAsmallIdeal.τ).loc Cert.KernelAsmallIdeal.main_arg3))
      ∧ r.2.sem = fun _ => 0)

def quiescent_ReferenceAsmallIdeal [hReferenceAsmallIdeal : Cert.ReferenceAsmallIdeal.Facts] : Prop :=
  ∀ (m : (ℓ : Loc Cert.ReferenceAsmallIdeal.nD Cert.ReferenceAsmallIdeal.τ Cert.ReferenceAsmallIdeal.sig) → Buf (Elt Ideal) ℓ) (g : Dev Cert.ReferenceAsmallIdeal.nD → PrngReg), Pre_ReferenceAsmallIdeal m →
    θ_run (Cert.ReferenceAsmallIdeal.defs (F := Ideal)) (onTc (τ := Cert.ReferenceAsmallIdeal.τ) (Cert.ReferenceAsmallIdeal.main (F := Ideal))) ⟨m, fun _ => 0, g⟩ (fun r => (∀ c : Dev Cert.ReferenceAsmallIdeal.nD,
      r.2.mem ((c.tc : Thread Cert.ReferenceAsmallIdeal.nD Cert.ReferenceAsmallIdeal.τ).loc Cert.ReferenceAsmallIdeal.main_arg0) = m ((c.tc : Thread Cert.ReferenceAsmallIdeal.nD Cert.ReferenceAsmallIdeal.τ).loc Cert.ReferenceAsmallIdeal.main_arg0)
      ∧ r.2.mem ((c.tc : Thread Cert.ReferenceAsmallIdeal.nD Cert.ReferenceAsmallIdeal.τ).loc Cert.ReferenceAsmallIdeal.main_arg1) = m ((c.tc : Thread Cert.ReferenceAsmallIdeal.nD Cert.ReferenceAsmallIdeal.τ).loc Cert.ReferenceAsmallIdeal.main_arg1)
      ∧ r.2.mem ((c.tc : Thread Cert.ReferenceAsmallIdeal.nD Cert.ReferenceAsmallIdeal.τ).loc Cert.ReferenceAsmallIdeal.main_arg2) = m ((c.tc : Thread Cert.ReferenceAsmallIdeal.nD Cert.ReferenceAsmallIdeal.τ).loc Cert.ReferenceAsmallIdeal.main_arg2)
      ∧ r.2.mem ((c.tc : Thread Cert.ReferenceAsmallIdeal.nD Cert.ReferenceAsmallIdeal.τ).loc Cert.ReferenceAsmallIdeal.main_arg3) = m ((c.tc : Thread Cert.ReferenceAsmallIdeal.nD Cert.ReferenceAsmallIdeal.τ).loc Cert.ReferenceAsmallIdeal.main_arg3))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4))
      ∧ r.2.sem = fun _ => 0)

def quiescent_KernelSmallSum [hKernelSmallSum : Cert.KernelSmallSum.Facts] : Prop :=
  ∀ (m : (ℓ : Loc Cert.KernelSmallSum.nD Cert.KernelSmallSum.τ Cert.KernelSmallSum.sig) → Buf (Elt Bits) ℓ) (g : Dev Cert.KernelSmallSum.nD → PrngReg), Pre_KernelSmallSum m →
    θ_run (Cert.KernelSmallSum.defs (F := Bits)) (onTc (τ := Cert.KernelSmallSum.τ) (Cert.KernelSmallSum.main (F := Bits))) ⟨m, fun _ => 0, g⟩ (fun r => (∀ c : Dev Cert.KernelSmallSum.nD,
      r.2.mem ((c.tc : Thread Cert.KernelSmallSum.nD Cert.KernelSmallSum.τ).loc Cert.KernelSmallSum.main_arg0) = m ((c.tc : Thread Cert.KernelSmallSum.nD Cert.KernelSmallSum.τ).loc Cert.KernelSmallSum.main_arg0))
      ∧ r.2.sem = fun _ => 0)

def quiescent_KernelSmallSumIdeal [hKernelSmallSumIdeal : Cert.KernelSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg), Pre_KernelSmallSumIdeal m →
    θ_run (Cert.KernelSmallSumIdeal.defs (F := Ideal)) (onTc (τ := Cert.KernelSmallSumIdeal.τ) (Cert.KernelSmallSumIdeal.main (F := Ideal))) ⟨m, fun _ => 0, g⟩ (fun r => (∀ c : Dev Cert.KernelSmallSumIdeal.nD,
      r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0))
      ∧ r.2.sem = fun _ => 0)

def quiescent_ReferenceSmallSumIdeal [hReferenceSmallSumIdeal : Cert.ReferenceSmallSumIdeal.Facts] : Prop :=
  ∀ (m : (ℓ : Loc Cert.ReferenceSmallSumIdeal.nD Cert.ReferenceSmallSumIdeal.τ Cert.ReferenceSmallSumIdeal.sig) → Buf (Elt Ideal) ℓ) (g : Dev Cert.ReferenceSmallSumIdeal.nD → PrngReg), Pre_ReferenceSmallSumIdeal m →
    θ_run (Cert.ReferenceSmallSumIdeal.defs (F := Ideal)) (onTc (τ := Cert.ReferenceSmallSumIdeal.τ) (Cert.ReferenceSmallSumIdeal.main (F := Ideal))) ⟨m, fun _ => 0, g⟩ (fun r => (∀ c : Dev Cert.ReferenceSmallSumIdeal.nD,
      r.2.mem ((c.tc : Thread Cert.ReferenceSmallSumIdeal.nD Cert.ReferenceSmallSumIdeal.τ).loc Cert.ReferenceSmallSumIdeal.main_arg0) = m ((c.tc : Thread Cert.ReferenceSmallSumIdeal.nD Cert.ReferenceSmallSumIdeal.τ).loc Cert.ReferenceSmallSumIdeal.main_arg0))
      ∧ r.2.sem = fun _ => 0)

def quiescent_KernelColSum [hKernelColSum : Cert.KernelColSum.Facts] : Prop :=
  ∀ (m : (ℓ : Loc Cert.KernelColSum.nD Cert.KernelColSum.τ Cert.KernelColSum.sig) → Buf (Elt Bits) ℓ) (g : Dev Cert.KernelColSum.nD → PrngReg), Pre_KernelColSum m →
    θ_run (Cert.KernelColSum.defs (F := Bits)) (onTc (τ := Cert.KernelColSum.τ) (Cert.KernelColSum.main (F := Bits))) ⟨m, fun _ => 0, g⟩ (fun r => (∀ c : Dev Cert.KernelColSum.nD,
      r.2.mem ((c.tc : Thread Cert.KernelColSum.nD Cert.KernelColSum.τ).loc Cert.KernelColSum.main_arg0) = m ((c.tc : Thread Cert.KernelColSum.nD Cert.KernelColSum.τ).loc Cert.KernelColSum.main_arg0)
      ∧ r.2.mem ((c.tc : Thread Cert.KernelColSum.nD Cert.KernelColSum.τ).loc Cert.KernelColSum.main_arg1) = m ((c.tc : Thread Cert.KernelColSum.nD Cert.KernelColSum.τ).loc Cert.KernelColSum.main_arg1)
      ∧ r.2.mem ((c.tc : Thread Cert.KernelColSum.nD Cert.KernelColSum.τ).loc Cert.KernelColSum.main_arg2) = m ((c.tc : Thread Cert.KernelColSum.nD Cert.KernelColSum.τ).loc Cert.KernelColSum.main_arg2)
      ∧ r.2.mem ((c.tc : Thread Cert.KernelColSum.nD Cert.KernelColSum.τ).loc Cert.KernelColSum.main_arg3) = m ((c.tc : Thread Cert.KernelColSum.nD Cert.KernelColSum.τ).loc Cert.KernelColSum.main_arg3)
      ∧ r.2.mem ((c.tc : Thread Cert.KernelColSum.nD Cert.KernelColSum.τ).loc Cert.KernelColSum.main_arg4) = m ((c.tc : Thread Cert.KernelColSum.nD Cert.KernelColSum.τ).loc Cert.KernelColSum.main_arg4))
      ∧ r.2.sem = fun _ => 0)

def quiescent_KernelColSumIdeal [hKernelColSumIdeal : Cert.KernelColSumIdeal.Facts] : Prop :=
  ∀ (m : (ℓ : Loc Cert.KernelColSumIdeal.nD Cert.KernelColSumIdeal.τ Cert.KernelColSumIdeal.sig) → Buf (Elt Ideal) ℓ) (g : Dev Cert.KernelColSumIdeal.nD → PrngReg), Pre_KernelColSumIdeal m →
    θ_run (Cert.KernelColSumIdeal.defs (F := Ideal)) (onTc (τ := Cert.KernelColSumIdeal.τ) (Cert.KernelColSumIdeal.main (F := Ideal))) ⟨m, fun _ => 0, g⟩ (fun r => (∀ c : Dev Cert.KernelColSumIdeal.nD,
      r.2.mem ((c.tc : Thread Cert.KernelColSumIdeal.nD Cert.KernelColSumIdeal.τ).loc Cert.KernelColSumIdeal.main_arg0) = m ((c.tc : Thread Cert.KernelColSumIdeal.nD Cert.KernelColSumIdeal.τ).loc Cert.KernelColSumIdeal.main_arg0)
      ∧ r.2.mem ((c.tc : Thread Cert.KernelColSumIdeal.nD Cert.KernelColSumIdeal.τ).loc Cert.KernelColSumIdeal.main_arg1) = m ((c.tc : Thread Cert.KernelColSumIdeal.nD Cert.KernelColSumIdeal.τ).loc Cert.KernelColSumIdeal.main_arg1)
      ∧ r.2.mem ((c.tc : Thread Cert.KernelColSumIdeal.nD Cert.KernelColSumIdeal.τ).loc Cert.KernelColSumIdeal.main_arg2) = m ((c.tc : Thread Cert.KernelColSumIdeal.nD Cert.KernelColSumIdeal.τ).loc Cert.KernelColSumIdeal.main_arg2)
      ∧ r.2.mem ((c.tc : Thread Cert.KernelColSumIdeal.nD Cert.KernelColSumIdeal.τ).loc Cert.KernelColSumIdeal.main_arg3) = m ((c.tc : Thread Cert.KernelColSumIdeal.nD Cert.KernelColSumIdeal.τ).loc Cert.KernelColSumIdeal.main_arg3)
      ∧ r.2.mem ((c.tc : Thread Cert.KernelColSumIdeal.nD Cert.KernelColSumIdeal.τ).loc Cert.KernelColSumIdeal.main_arg4) = m ((c.tc : Thread Cert.KernelColSumIdeal.nD Cert.KernelColSumIdeal.τ).loc Cert.KernelColSumIdeal.main_arg4))
      ∧ r.2.sem = fun _ => 0)

def quiescent_ReferenceColSumIdeal [hReferenceColSumIdeal : Cert.ReferenceColSumIdeal.Facts] : Prop :=
  ∀ (m : (ℓ : Loc Cert.ReferenceColSumIdeal.nD Cert.ReferenceColSumIdeal.τ Cert.ReferenceColSumIdeal.sig) → Buf (Elt Ideal) ℓ) (g : Dev Cert.ReferenceColSumIdeal.nD → PrngReg), Pre_ReferenceColSumIdeal m →
    θ_run (Cert.ReferenceColSumIdeal.defs (F := Ideal)) (onTc (τ := Cert.ReferenceColSumIdeal.τ) (Cert.ReferenceColSumIdeal.main (F := Ideal))) ⟨m, fun _ => 0, g⟩ (fun r => (∀ c : Dev Cert.ReferenceColSumIdeal.nD,
      r.2.mem ((c.tc : Thread Cert.ReferenceColSumIdeal.nD Cert.ReferenceColSumIdeal.τ).loc Cert.ReferenceColSumIdeal.main_arg0) = m ((c.tc : Thread Cert.ReferenceColSumIdeal.nD Cert.ReferenceColSumIdeal.τ).loc Cert.ReferenceColSumIdeal.main_arg0)
      ∧ r.2.mem ((c.tc : Thread Cert.ReferenceColSumIdeal.nD Cert.ReferenceColSumIdeal.τ).loc Cert.ReferenceColSumIdeal.main_arg1) = m ((c.tc : Thread Cert.ReferenceColSumIdeal.nD Cert.ReferenceColSumIdeal.τ).loc Cert.ReferenceColSumIdeal.main_arg1)
      ∧ r.2.mem ((c.tc : Thread Cert.ReferenceColSumIdeal.nD Cert.ReferenceColSumIdeal.τ).loc Cert.ReferenceColSumIdeal.main_arg2) = m ((c.tc : Thread Cert.ReferenceColSumIdeal.nD Cert.ReferenceColSumIdeal.τ).loc Cert.ReferenceColSumIdeal.main_arg2)
      ∧ r.2.mem ((c.tc : Thread Cert.ReferenceColSumIdeal.nD Cert.ReferenceColSumIdeal.τ).loc Cert.ReferenceColSumIdeal.main_arg3) = m ((c.tc : Thread Cert.ReferenceColSumIdeal.nD Cert.ReferenceColSumIdeal.τ).loc Cert.ReferenceColSumIdeal.main_arg3)
      ∧ r.2.mem ((c.tc : Thread Cert.ReferenceColSumIdeal.nD Cert.ReferenceColSumIdeal.τ).loc Cert.ReferenceColSumIdeal.main_arg4) = m ((c.tc : Thread Cert.ReferenceColSumIdeal.nD Cert.ReferenceColSumIdeal.τ).loc Cert.ReferenceColSumIdeal.main_arg4))
      ∧ r.2.sem = fun _ => 0)

def quiescent_KernelRowSum [hKernelRowSum : Cert.KernelRowSum.Facts] : Prop :=
  ∀ (m : (ℓ : Loc Cert.KernelRowSum.nD Cert.KernelRowSum.τ Cert.KernelRowSum.sig) → Buf (Elt Bits) ℓ) (g : Dev Cert.KernelRowSum.nD → PrngReg), Pre_KernelRowSum m →
    θ_run (Cert.KernelRowSum.defs (F := Bits)) (onTc (τ := Cert.KernelRowSum.τ) (Cert.KernelRowSum.main (F := Bits))) ⟨m, fun _ => 0, g⟩ (fun r => (∀ c : Dev Cert.KernelRowSum.nD,
      r.2.mem ((c.tc : Thread Cert.KernelRowSum.nD Cert.KernelRowSum.τ).loc Cert.KernelRowSum.main_arg0) = m ((c.tc : Thread Cert.KernelRowSum.nD Cert.KernelRowSum.τ).loc Cert.KernelRowSum.main_arg0)
      ∧ r.2.mem ((c.tc : Thread Cert.KernelRowSum.nD Cert.KernelRowSum.τ).loc Cert.KernelRowSum.main_arg1) = m ((c.tc : Thread Cert.KernelRowSum.nD Cert.KernelRowSum.τ).loc Cert.KernelRowSum.main_arg1)
      ∧ r.2.mem ((c.tc : Thread Cert.KernelRowSum.nD Cert.KernelRowSum.τ).loc Cert.KernelRowSum.main_arg2) = m ((c.tc : Thread Cert.KernelRowSum.nD Cert.KernelRowSum.τ).loc Cert.KernelRowSum.main_arg2)
      ∧ r.2.mem ((c.tc : Thread Cert.KernelRowSum.nD Cert.KernelRowSum.τ).loc Cert.KernelRowSum.main_arg3) = m ((c.tc : Thread Cert.KernelRowSum.nD Cert.KernelRowSum.τ).loc Cert.KernelRowSum.main_arg3)
      ∧ r.2.mem ((c.tc : Thread Cert.KernelRowSum.nD Cert.KernelRowSum.τ).loc Cert.KernelRowSum.main_arg4) = m ((c.tc : Thread Cert.KernelRowSum.nD Cert.KernelRowSum.τ).loc Cert.KernelRowSum.main_arg4))
      ∧ r.2.sem = fun _ => 0)

def quiescent_KernelRowSumIdeal [hKernelRowSumIdeal : Cert.KernelRowSumIdeal.Facts] : Prop :=
  ∀ (m : (ℓ : Loc Cert.KernelRowSumIdeal.nD Cert.KernelRowSumIdeal.τ Cert.KernelRowSumIdeal.sig) → Buf (Elt Ideal) ℓ) (g : Dev Cert.KernelRowSumIdeal.nD → PrngReg), Pre_KernelRowSumIdeal m →
    θ_run (Cert.KernelRowSumIdeal.defs (F := Ideal)) (onTc (τ := Cert.KernelRowSumIdeal.τ) (Cert.KernelRowSumIdeal.main (F := Ideal))) ⟨m, fun _ => 0, g⟩ (fun r => (∀ c : Dev Cert.KernelRowSumIdeal.nD,
      r.2.mem ((c.tc : Thread Cert.KernelRowSumIdeal.nD Cert.KernelRowSumIdeal.τ).loc Cert.KernelRowSumIdeal.main_arg0) = m ((c.tc : Thread Cert.KernelRowSumIdeal.nD Cert.KernelRowSumIdeal.τ).loc Cert.KernelRowSumIdeal.main_arg0)
      ∧ r.2.mem ((c.tc : Thread Cert.KernelRowSumIdeal.nD Cert.KernelRowSumIdeal.τ).loc Cert.KernelRowSumIdeal.main_arg1) = m ((c.tc : Thread Cert.KernelRowSumIdeal.nD Cert.KernelRowSumIdeal.τ).loc Cert.KernelRowSumIdeal.main_arg1)
      ∧ r.2.mem ((c.tc : Thread Cert.KernelRowSumIdeal.nD Cert.KernelRowSumIdeal.τ).loc Cert.KernelRowSumIdeal.main_arg2) = m ((c.tc : Thread Cert.KernelRowSumIdeal.nD Cert.KernelRowSumIdeal.τ).loc Cert.KernelRowSumIdeal.main_arg2)
      ∧ r.2.mem ((c.tc : Thread Cert.KernelRowSumIdeal.nD Cert.KernelRowSumIdeal.τ).loc Cert.KernelRowSumIdeal.main_arg3) = m ((c.tc : Thread Cert.KernelRowSumIdeal.nD Cert.KernelRowSumIdeal.τ).loc Cert.KernelRowSumIdeal.main_arg3)
      ∧ r.2.mem ((c.tc : Thread Cert.KernelRowSumIdeal.nD Cert.KernelRowSumIdeal.τ).loc Cert.KernelRowSumIdeal.main_arg4) = m ((c.tc : Thread Cert.KernelRowSumIdeal.nD Cert.KernelRowSumIdeal.τ).loc Cert.KernelRowSumIdeal.main_arg4))
      ∧ r.2.sem = fun _ => 0)

def quiescent_ReferenceRowSumIdeal [hReferenceRowSumIdeal : Cert.ReferenceRowSumIdeal.Facts] : Prop :=
  ∀ (m : (ℓ : Loc Cert.ReferenceRowSumIdeal.nD Cert.ReferenceRowSumIdeal.τ Cert.ReferenceRowSumIdeal.sig) → Buf (Elt Ideal) ℓ) (g : Dev Cert.ReferenceRowSumIdeal.nD → PrngReg), Pre_ReferenceRowSumIdeal m →
    θ_run (Cert.ReferenceRowSumIdeal.defs (F := Ideal)) (onTc (τ := Cert.ReferenceRowSumIdeal.τ) (Cert.ReferenceRowSumIdeal.main (F := Ideal))) ⟨m, fun _ => 0, g⟩ (fun r => (∀ c : Dev Cert.ReferenceRowSumIdeal.nD,
      r.2.mem ((c.tc : Thread Cert.ReferenceRowSumIdeal.nD Cert.ReferenceRowSumIdeal.τ).loc Cert.ReferenceRowSumIdeal.main_arg0) = m ((c.tc : Thread Cert.ReferenceRowSumIdeal.nD Cert.ReferenceRowSumIdeal.τ).loc Cert.ReferenceRowSumIdeal.main_arg0)
      ∧ r.2.mem ((c.tc : Thread Cert.ReferenceRowSumIdeal.nD Cert.ReferenceRowSumIdeal.τ).loc Cert.ReferenceRowSumIdeal.main_arg1) = m ((c.tc : Thread Cert.ReferenceRowSumIdeal.nD Cert.ReferenceRowSumIdeal.τ).loc Cert.ReferenceRowSumIdeal.main_arg1)
      ∧ r.2.mem ((c.tc : Thread Cert.ReferenceRowSumIdeal.nD Cert.ReferenceRowSumIdeal.τ).loc Cert.ReferenceRowSumIdeal.main_arg2) = m ((c.tc : Thread Cert.ReferenceRowSumIdeal.nD Cert.ReferenceRowSumIdeal.τ).loc Cert.ReferenceRowSumIdeal.main_arg2)
      ∧ r.2.mem ((c.tc : Thread Cert.ReferenceRowSumIdeal.nD Cert.ReferenceRowSumIdeal.τ).loc Cert.ReferenceRowSumIdeal.main_arg3) = m ((c.tc : Thread Cert.ReferenceRowSumIdeal.nD Cert.ReferenceRowSumIdeal.τ).loc Cert.ReferenceRowSumIdeal.main_arg3)
      ∧ r.2.mem ((c.tc : Thread Cert.ReferenceRowSumIdeal.nD Cert.ReferenceRowSumIdeal.τ).loc Cert.ReferenceRowSumIdeal.main_arg4) = m ((c.tc : Thread Cert.ReferenceRowSumIdeal.nD Cert.ReferenceRowSumIdeal.τ).loc Cert.ReferenceRowSumIdeal.main_arg4))
      ∧ r.2.sem = fun _ => 0)

def quiescent_KernelModW [hKernelModW : Cert.KernelModW.Facts] : Prop :=
  ∀ (m : (ℓ : Loc Cert.KernelModW.nD Cert.KernelModW.τ Cert.KernelModW.sig) → Buf (Elt Bits) ℓ) (g : Dev Cert.KernelModW.nD → PrngReg), Pre_KernelModW m →
    θ_run (Cert.KernelModW.defs (F := Bits)) (onTc (τ := Cert.KernelModW.τ) (Cert.KernelModW.main (F := Bits))) ⟨m, fun _ => 0, g⟩ (fun r => (∀ c : Dev Cert.KernelModW.nD,
      r.2.mem ((c.tc : Thread Cert.KernelModW.nD Cert.KernelModW.τ).loc Cert.KernelModW.main_arg0) = m ((c.tc : Thread Cert.KernelModW.nD Cert.KernelModW.τ).loc Cert.KernelModW.main_arg0)
      ∧ r.2.mem ((c.tc : Thread Cert.KernelModW.nD Cert.KernelModW.τ).loc Cert.KernelModW.main_arg1) = m ((c.tc : Thread Cert.KernelModW.nD Cert.KernelModW.τ).loc Cert.KernelModW.main_arg1))
      ∧ r.2.sem = fun _ => 0)

def quiescent_KernelModWIdeal [hKernelModWIdeal : Cert.KernelModWIdeal.Facts] : Prop :=
  ∀ (m : (ℓ : Loc Cert.KernelModWIdeal.nD Cert.KernelModWIdeal.τ Cert.KernelModWIdeal.sig) → Buf (Elt Ideal) ℓ) (g : Dev Cert.KernelModWIdeal.nD → PrngReg), Pre_KernelModWIdeal m →
    θ_run (Cert.KernelModWIdeal.defs (F := Ideal)) (onTc (τ := Cert.KernelModWIdeal.τ) (Cert.KernelModWIdeal.main (F := Ideal))) ⟨m, fun _ => 0, g⟩ (fun r => (∀ c : Dev Cert.KernelModWIdeal.nD,
      r.2.mem ((c.tc : Thread Cert.KernelModWIdeal.nD Cert.KernelModWIdeal.τ).loc Cert.KernelModWIdeal.main_arg0) = m ((c.tc : Thread Cert.KernelModWIdeal.nD Cert.KernelModWIdeal.τ).loc Cert.KernelModWIdeal.main_arg0)
      ∧ r.2.mem ((c.tc : Thread Cert.KernelModWIdeal.nD Cert.KernelModWIdeal.τ).loc Cert.KernelModWIdeal.main_arg1) = m ((c.tc : Thread Cert.KernelModWIdeal.nD Cert.KernelModWIdeal.τ).loc Cert.KernelModWIdeal.main_arg1))
      ∧ r.2.sem = fun _ => 0)

def quiescent_ReferenceModWIdeal [hReferenceModWIdeal : Cert.ReferenceModWIdeal.Facts] : Prop :=
  ∀ (m : (ℓ : Loc Cert.ReferenceModWIdeal.nD Cert.ReferenceModWIdeal.τ Cert.ReferenceModWIdeal.sig) → Buf (Elt Ideal) ℓ) (g : Dev Cert.ReferenceModWIdeal.nD → PrngReg), Pre_ReferenceModWIdeal m →
    θ_run (Cert.ReferenceModWIdeal.defs (F := Ideal)) (onTc (τ := Cert.ReferenceModWIdeal.τ) (Cert.ReferenceModWIdeal.main (F := Ideal))) ⟨m, fun _ => 0, g⟩ (fun r => (∀ c : Dev Cert.ReferenceModWIdeal.nD,
      r.2.mem ((c.tc : Thread Cert.ReferenceModWIdeal.nD Cert.ReferenceModWIdeal.τ).loc Cert.ReferenceModWIdeal.main_arg0) = m ((c.tc : Thread Cert.ReferenceModWIdeal.nD Cert.ReferenceModWIdeal.τ).loc Cert.ReferenceModWIdeal.main_arg0)
      ∧ r.2.mem ((c.tc : Thread Cert.ReferenceModWIdeal.nD Cert.ReferenceModWIdeal.τ).loc Cert.ReferenceModWIdeal.main_arg1) = m ((c.tc : Thread Cert.ReferenceModWIdeal.nD Cert.ReferenceModWIdeal.τ).loc Cert.ReferenceModWIdeal.main_arg1))
      ∧ r.2.sem = fun _ => 0)

def quiescent_KernelCctx [hKernelCctx : Cert.KernelCctx.Facts] : Prop :=
  ∀ (m : (ℓ : Loc Cert.KernelCctx.nD Cert.KernelCctx.τ Cert.KernelCctx.sig) → Buf (Elt Bits) ℓ) (g : Dev Cert.KernelCctx.nD → PrngReg), Pre_KernelCctx m →
    θ_run (Cert.KernelCctx.defs (F := Bits)) (onTc (τ := Cert.KernelCctx.τ) (Cert.KernelCctx.main (F := Bits))) ⟨m, fun _ => 0, g⟩ (fun r => (∀ c : Dev Cert.KernelCctx.nD,
      r.2.mem ((c.tc : Thread Cert.KernelCctx.nD Cert.KernelCctx.τ).loc Cert.KernelCctx.main_arg0) = m ((c.tc : Thread Cert.KernelCctx.nD Cert.KernelCctx.τ).loc Cert.KernelCctx.main_arg0)
      ∧ r.2.mem ((c.tc : Thread Cert.KernelCctx.nD Cert.KernelCctx.τ).loc Cert.KernelCctx.main_arg1) = m ((c.tc : Thread Cert.KernelCctx.nD Cert.KernelCctx.τ).loc Cert.KernelCctx.main_arg1)
      ∧ r.2.mem ((c.tc : Thread Cert.KernelCctx.nD Cert.KernelCctx.τ).loc Cert.KernelCctx.main_arg2) = m ((c.tc : Thread Cert.KernelCctx.nD Cert.KernelCctx.τ).loc Cert.KernelCctx.main_arg2))
      ∧ r.2.sem = fun _ => 0)

def quiescent_KernelCctxIdeal [hKernelCctxIdeal : Cert.KernelCctxIdeal.Facts] : Prop :=
  ∀ (m : (ℓ : Loc Cert.KernelCctxIdeal.nD Cert.KernelCctxIdeal.τ Cert.KernelCctxIdeal.sig) → Buf (Elt Ideal) ℓ) (g : Dev Cert.KernelCctxIdeal.nD → PrngReg), Pre_KernelCctxIdeal m →
    θ_run (Cert.KernelCctxIdeal.defs (F := Ideal)) (onTc (τ := Cert.KernelCctxIdeal.τ) (Cert.KernelCctxIdeal.main (F := Ideal))) ⟨m, fun _ => 0, g⟩ (fun r => (∀ c : Dev Cert.KernelCctxIdeal.nD,
      r.2.mem ((c.tc : Thread Cert.KernelCctxIdeal.nD Cert.KernelCctxIdeal.τ).loc Cert.KernelCctxIdeal.main_arg0) = m ((c.tc : Thread Cert.KernelCctxIdeal.nD Cert.KernelCctxIdeal.τ).loc Cert.KernelCctxIdeal.main_arg0)
      ∧ r.2.mem ((c.tc : Thread Cert.KernelCctxIdeal.nD Cert.KernelCctxIdeal.τ).loc Cert.KernelCctxIdeal.main_arg1) = m ((c.tc : Thread Cert.KernelCctxIdeal.nD Cert.KernelCctxIdeal.τ).loc Cert.KernelCctxIdeal.main_arg1)
      ∧ r.2.mem ((c.tc : Thread Cert.KernelCctxIdeal.nD Cert.KernelCctxIdeal.τ).loc Cert.KernelCctxIdeal.main_arg2) = m ((c.tc : Thread Cert.KernelCctxIdeal.nD Cert.KernelCctxIdeal.τ).loc Cert.KernelCctxIdeal.main_arg2))
      ∧ r.2.sem = fun _ => 0)

def quiescent_KernelCctxIdeal_pre_finite_cctx [hKernelCctxIdeal : Cert.KernelCctxIdeal.Facts] [hPre_finite_cctx : Cert.Pre_finite_cctx.Facts] : Prop :=
  ∀ (m : (ℓ : Loc Cert.KernelCctxIdeal.nD Cert.KernelCctxIdeal.τ Cert.KernelCctxIdeal.sig) → Buf (Elt Ideal) ℓ) (g : Dev Cert.KernelCctxIdeal.nD → PrngReg), Pre_KernelCctxIdeal_finite_cctx m →
    θ_run (Cert.KernelCctxIdeal.defs (F := Ideal)) (onTc (τ := Cert.KernelCctxIdeal.τ) (Cert.KernelCctxIdeal.main (F := Ideal))) ⟨m, fun _ => 0, g⟩ (fun r => (∀ c : Dev Cert.KernelCctxIdeal.nD,
      r.2.mem ((c.tc : Thread Cert.KernelCctxIdeal.nD Cert.KernelCctxIdeal.τ).loc Cert.KernelCctxIdeal.main_arg0) = m ((c.tc : Thread Cert.KernelCctxIdeal.nD Cert.KernelCctxIdeal.τ).loc Cert.KernelCctxIdeal.main_arg0)
      ∧ r.2.mem ((c.tc : Thread Cert.KernelCctxIdeal.nD Cert.KernelCctxIdeal.τ).loc Cert.KernelCctxIdeal.main_arg1) = m ((c.tc : Thread Cert.KernelCctxIdeal.nD Cert.KernelCctxIdeal.τ).loc Cert.KernelCctxIdeal.main_arg1)
      ∧ r.2.mem ((c.tc : Thread Cert.KernelCctxIdeal.nD Cert.KernelCctxIdeal.τ).loc Cert.KernelCctxIdeal.main_arg2) = m ((c.tc : Thread Cert.KernelCctxIdeal.nD Cert.KernelCctxIdeal.τ).loc Cert.KernelCctxIdeal.main_arg2))
      ∧ r.2.sem = fun _ => 0)

def quiescent_ReferenceCctxIdeal [hReferenceCctxIdeal : Cert.ReferenceCctxIdeal.Facts] : Prop :=
  ∀ (m : (ℓ : Loc Cert.ReferenceCctxIdeal.nD Cert.ReferenceCctxIdeal.τ Cert.ReferenceCctxIdeal.sig) → Buf (Elt Ideal) ℓ) (g : Dev Cert.ReferenceCctxIdeal.nD → PrngReg), Pre_ReferenceCctxIdeal m →
    θ_run (Cert.ReferenceCctxIdeal.defs (F := Ideal)) (onTc (τ := Cert.ReferenceCctxIdeal.τ) (Cert.ReferenceCctxIdeal.main (F := Ideal))) ⟨m, fun _ => 0, g⟩ (fun r => (∀ c : Dev Cert.ReferenceCctxIdeal.nD,
      r.2.mem ((c.tc : Thread Cert.ReferenceCctxIdeal.nD Cert.ReferenceCctxIdeal.τ).loc Cert.ReferenceCctxIdeal.main_arg0) = m ((c.tc : Thread Cert.ReferenceCctxIdeal.nD Cert.ReferenceCctxIdeal.τ).loc Cert.ReferenceCctxIdeal.main_arg0)
      ∧ r.2.mem ((c.tc : Thread Cert.ReferenceCctxIdeal.nD Cert.ReferenceCctxIdeal.τ).loc Cert.ReferenceCctxIdeal.main_arg1) = m ((c.tc : Thread Cert.ReferenceCctxIdeal.nD Cert.ReferenceCctxIdeal.τ).loc Cert.ReferenceCctxIdeal.main_arg1)
      ∧ r.2.mem ((c.tc : Thread Cert.ReferenceCctxIdeal.nD Cert.ReferenceCctxIdeal.τ).loc Cert.ReferenceCctxIdeal.main_arg2) = m ((c.tc : Thread Cert.ReferenceCctxIdeal.nD Cert.ReferenceCctxIdeal.τ).loc Cert.ReferenceCctxIdeal.main_arg2))
      ∧ r.2.sem = fun _ => 0)

def quiescent_ReferenceCctxIdeal_pre_finite_cctx [hReferenceCctxIdeal : Cert.ReferenceCctxIdeal.Facts] [hPre_finite_cctx : Cert.Pre_finite_cctx.Facts] : Prop :=
  ∀ (m : (ℓ : Loc Cert.ReferenceCctxIdeal.nD Cert.ReferenceCctxIdeal.τ Cert.ReferenceCctxIdeal.sig) → Buf (Elt Ideal) ℓ) (g : Dev Cert.ReferenceCctxIdeal.nD → PrngReg), Pre_ReferenceCctxIdeal_finite_cctx m →
    θ_run (Cert.ReferenceCctxIdeal.defs (F := Ideal)) (onTc (τ := Cert.ReferenceCctxIdeal.τ) (Cert.ReferenceCctxIdeal.main (F := Ideal))) ⟨m, fun _ => 0, g⟩ (fun r => (∀ c : Dev Cert.ReferenceCctxIdeal.nD,
      r.2.mem ((c.tc : Thread Cert.ReferenceCctxIdeal.nD Cert.ReferenceCctxIdeal.τ).loc Cert.ReferenceCctxIdeal.main_arg0) = m ((c.tc : Thread Cert.ReferenceCctxIdeal.nD Cert.ReferenceCctxIdeal.τ).loc Cert.ReferenceCctxIdeal.main_arg0)
      ∧ r.2.mem ((c.tc : Thread Cert.ReferenceCctxIdeal.nD Cert.ReferenceCctxIdeal.τ).loc Cert.ReferenceCctxIdeal.main_arg1) = m ((c.tc : Thread Cert.ReferenceCctxIdeal.nD Cert.ReferenceCctxIdeal.τ).loc Cert.ReferenceCctxIdeal.main_arg1)
      ∧ r.2.mem ((c.tc : Thread Cert.ReferenceCctxIdeal.nD Cert.ReferenceCctxIdeal.τ).loc Cert.ReferenceCctxIdeal.main_arg2) = m ((c.tc : Thread Cert.ReferenceCctxIdeal.nD Cert.ReferenceCctxIdeal.τ).loc Cert.ReferenceCctxIdeal.main_arg2))
      ∧ r.2.sem = fun _ => 0)

def quiescent_KernelPairCol [hKernelPairCol : Cert.KernelPairCol.Facts] : Prop :=
  ∀ (m : (ℓ : Loc Cert.KernelPairCol.nD Cert.KernelPairCol.τ Cert.KernelPairCol.sig) → Buf (Elt Bits) ℓ) (g : Dev Cert.KernelPairCol.nD → PrngReg), Pre_KernelPairCol m →
    θ_run (Cert.KernelPairCol.defs (F := Bits)) (onTc (τ := Cert.KernelPairCol.τ) (Cert.KernelPairCol.main (F := Bits))) ⟨m, fun _ => 0, g⟩ (fun r => (∀ c : Dev Cert.KernelPairCol.nD,
      r.2.mem ((c.tc : Thread Cert.KernelPairCol.nD Cert.KernelPairCol.τ).loc Cert.KernelPairCol.main_arg0) = m ((c.tc : Thread Cert.KernelPairCol.nD Cert.KernelPairCol.τ).loc Cert.KernelPairCol.main_arg0)
      ∧ r.2.mem ((c.tc : Thread Cert.KernelPairCol.nD Cert.KernelPairCol.τ).loc Cert.KernelPairCol.main_arg1) = m ((c.tc : Thread Cert.KernelPairCol.nD Cert.KernelPairCol.τ).loc Cert.KernelPairCol.main_arg1))
      ∧ r.2.sem = fun _ => 0)

def quiescent_KernelPairColIdeal [hKernelPairColIdeal : Cert.KernelPairColIdeal.Facts] : Prop :=
  ∀ (m : (ℓ : Loc Cert.KernelPairColIdeal.nD Cert.KernelPairColIdeal.τ Cert.KernelPairColIdeal.sig) → Buf (Elt Ideal) ℓ) (g : Dev Cert.KernelPairColIdeal.nD → PrngReg), Pre_KernelPairColIdeal m →
    θ_run (Cert.KernelPairColIdeal.defs (F := Ideal)) (onTc (τ := Cert.KernelPairColIdeal.τ) (Cert.KernelPairColIdeal.main (F := Ideal))) ⟨m, fun _ => 0, g⟩ (fun r => (∀ c : Dev Cert.KernelPairColIdeal.nD,
      r.2.mem ((c.tc : Thread Cert.KernelPairColIdeal.nD Cert.KernelPairColIdeal.τ).loc Cert.KernelPairColIdeal.main_arg0) = m ((c.tc : Thread Cert.KernelPairColIdeal.nD Cert.KernelPairColIdeal.τ).loc Cert.KernelPairColIdeal.main_arg0)
      ∧ r.2.mem ((c.tc : Thread Cert.KernelPairColIdeal.nD Cert.KernelPairColIdeal.τ).loc Cert.KernelPairColIdeal.main_arg1) = m ((c.tc : Thread Cert.KernelPairColIdeal.nD Cert.KernelPairColIdeal.τ).loc Cert.KernelPairColIdeal.main_arg1))
      ∧ r.2.sem = fun _ => 0)

def quiescent_ReferencePairColIdeal [hReferencePairColIdeal : Cert.ReferencePairColIdeal.Facts] : Prop :=
  ∀ (m : (ℓ : Loc Cert.ReferencePairColIdeal.nD Cert.ReferencePairColIdeal.τ Cert.ReferencePairColIdeal.sig) → Buf (Elt Ideal) ℓ) (g : Dev Cert.ReferencePairColIdeal.nD → PrngReg), Pre_ReferencePairColIdeal m →
    θ_run (Cert.ReferencePairColIdeal.defs (F := Ideal)) (onTc (τ := Cert.ReferencePairColIdeal.τ) (Cert.ReferencePairColIdeal.main (F := Ideal))) ⟨m, fun _ => 0, g⟩ (fun r => (∀ c : Dev Cert.ReferencePairColIdeal.nD,
      r.2.mem ((c.tc : Thread Cert.ReferencePairColIdeal.nD Cert.ReferencePairColIdeal.τ).loc Cert.ReferencePairColIdeal.main_arg0) = m ((c.tc : Thread Cert.ReferencePairColIdeal.nD Cert.ReferencePairColIdeal.τ).loc Cert.ReferencePairColIdeal.main_arg0)
      ∧ r.2.mem ((c.tc : Thread Cert.ReferencePairColIdeal.nD Cert.ReferencePairColIdeal.τ).loc Cert.ReferencePairColIdeal.main_arg1) = m ((c.tc : Thread Cert.ReferencePairColIdeal.nD Cert.ReferencePairColIdeal.τ).loc Cert.ReferencePairColIdeal.main_arg1))
      ∧ r.2.sem = fun _ => 0)

def quiescent_KernelPairRow [hKernelPairRow : Cert.KernelPairRow.Facts] : Prop :=
  ∀ (m : (ℓ : Loc Cert.KernelPairRow.nD Cert.KernelPairRow.τ Cert.KernelPairRow.sig) → Buf (Elt Bits) ℓ) (g : Dev Cert.KernelPairRow.nD → PrngReg), Pre_KernelPairRow m →
    θ_run (Cert.KernelPairRow.defs (F := Bits)) (onTc (τ := Cert.KernelPairRow.τ) (Cert.KernelPairRow.main (F := Bits))) ⟨m, fun _ => 0, g⟩ (fun r => (∀ c : Dev Cert.KernelPairRow.nD,
      r.2.mem ((c.tc : Thread Cert.KernelPairRow.nD Cert.KernelPairRow.τ).loc Cert.KernelPairRow.main_arg0) = m ((c.tc : Thread Cert.KernelPairRow.nD Cert.KernelPairRow.τ).loc Cert.KernelPairRow.main_arg0)
      ∧ r.2.mem ((c.tc : Thread Cert.KernelPairRow.nD Cert.KernelPairRow.τ).loc Cert.KernelPairRow.main_arg1) = m ((c.tc : Thread Cert.KernelPairRow.nD Cert.KernelPairRow.τ).loc Cert.KernelPairRow.main_arg1))
      ∧ r.2.sem = fun _ => 0)

def quiescent_KernelPairRowIdeal [hKernelPairRowIdeal : Cert.KernelPairRowIdeal.Facts] : Prop :=
  ∀ (m : (ℓ : Loc Cert.KernelPairRowIdeal.nD Cert.KernelPairRowIdeal.τ Cert.KernelPairRowIdeal.sig) → Buf (Elt Ideal) ℓ) (g : Dev Cert.KernelPairRowIdeal.nD → PrngReg), Pre_KernelPairRowIdeal m →
    θ_run (Cert.KernelPairRowIdeal.defs (F := Ideal)) (onTc (τ := Cert.KernelPairRowIdeal.τ) (Cert.KernelPairRowIdeal.main (F := Ideal))) ⟨m, fun _ => 0, g⟩ (fun r => (∀ c : Dev Cert.KernelPairRowIdeal.nD,
      r.2.mem ((c.tc : Thread Cert.KernelPairRowIdeal.nD Cert.KernelPairRowIdeal.τ).loc Cert.KernelPairRowIdeal.main_arg0) = m ((c.tc : Thread Cert.KernelPairRowIdeal.nD Cert.KernelPairRowIdeal.τ).loc Cert.KernelPairRowIdeal.main_arg0)
      ∧ r.2.mem ((c.tc : Thread Cert.KernelPairRowIdeal.nD Cert.KernelPairRowIdeal.τ).loc Cert.KernelPairRowIdeal.main_arg1) = m ((c.tc : Thread Cert.KernelPairRowIdeal.nD Cert.KernelPairRowIdeal.τ).loc Cert.KernelPairRowIdeal.main_arg1))
      ∧ r.2.sem = fun _ => 0)

def quiescent_ReferencePairRowIdeal [hReferencePairRowIdeal : Cert.ReferencePairRowIdeal.Facts] : Prop :=
  ∀ (m : (ℓ : Loc Cert.ReferencePairRowIdeal.nD Cert.ReferencePairRowIdeal.τ Cert.ReferencePairRowIdeal.sig) → Buf (Elt Ideal) ℓ) (g : Dev Cert.ReferencePairRowIdeal.nD → PrngReg), Pre_ReferencePairRowIdeal m →
    θ_run (Cert.ReferencePairRowIdeal.defs (F := Ideal)) (onTc (τ := Cert.ReferencePairRowIdeal.τ) (Cert.ReferencePairRowIdeal.main (F := Ideal))) ⟨m, fun _ => 0, g⟩ (fun r => (∀ c : Dev Cert.ReferencePairRowIdeal.nD,
      r.2.mem ((c.tc : Thread Cert.ReferencePairRowIdeal.nD Cert.ReferencePairRowIdeal.τ).loc Cert.ReferencePairRowIdeal.main_arg0) = m ((c.tc : Thread Cert.ReferencePairRowIdeal.nD Cert.ReferencePairRowIdeal.τ).loc Cert.ReferencePairRowIdeal.main_arg0)
      ∧ r.2.mem ((c.tc : Thread Cert.ReferencePairRowIdeal.nD Cert.ReferencePairRowIdeal.τ).loc Cert.ReferencePairRowIdeal.main_arg1) = m ((c.tc : Thread Cert.ReferencePairRowIdeal.nD Cert.ReferencePairRowIdeal.τ).loc Cert.ReferencePairRowIdeal.main_arg1))
      ∧ r.2.sem = fun _ => 0)

def quiescent_KernelModF [hKernelModF : Cert.KernelModF.Facts] : Prop :=
  ∀ (m : (ℓ : Loc Cert.KernelModF.nD Cert.KernelModF.τ Cert.KernelModF.sig) → Buf (Elt Bits) ℓ) (g : Dev Cert.KernelModF.nD → PrngReg), Pre_KernelModF m →
    θ_run (Cert.KernelModF.defs (F := Bits)) (onTc (τ := Cert.KernelModF.τ) (Cert.KernelModF.main (F := Bits))) ⟨m, fun _ => 0, g⟩ (fun r => (∀ c : Dev Cert.KernelModF.nD,
      r.2.mem ((c.tc : Thread Cert.KernelModF.nD Cert.KernelModF.τ).loc Cert.KernelModF.main_arg0) = m ((c.tc : Thread Cert.KernelModF.nD Cert.KernelModF.τ).loc Cert.KernelModF.main_arg0)
      ∧ r.2.mem ((c.tc : Thread Cert.KernelModF.nD Cert.KernelModF.τ).loc Cert.KernelModF.main_arg1) = m ((c.tc : Thread Cert.KernelModF.nD Cert.KernelModF.τ).loc Cert.KernelModF.main_arg1)
      ∧ r.2.mem ((c.tc : Thread Cert.KernelModF.nD Cert.KernelModF.τ).loc Cert.KernelModF.main_arg2) = m ((c.tc : Thread Cert.KernelModF.nD Cert.KernelModF.τ).loc Cert.KernelModF.main_arg2))
      ∧ r.2.sem = fun _ => 0)

def quiescent_KernelModFIdeal [hKernelModFIdeal : Cert.KernelModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg), Pre_KernelModFIdeal m →
    θ_run (Cert.KernelModFIdeal.defs (F := Ideal)) (onTc (τ := Cert.KernelModFIdeal.τ) (Cert.KernelModFIdeal.main (F := Ideal))) ⟨m, fun _ => 0, g⟩ (fun r => (∀ c : Dev Cert.KernelModFIdeal.nD,
      r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
      ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1)
      ∧ r.2.mem ((c.tc : Thread Cert.KernelModFIdeal.nD Cert.KernelModFIdeal.τ).loc Cert.KernelModFIdeal.main_arg2) = m ((c.tc : Thread Cert.KernelModFIdeal.nD Cert.KernelModFIdeal.τ).loc Cert.KernelModFIdeal.main_arg2))
      ∧ r.2.sem = fun _ => 0)

def quiescent_ReferenceModFIdeal [hReferenceModFIdeal : Cert.ReferenceModFIdeal.Facts] : Prop :=
  ∀ (m : (ℓ : Loc Cert.ReferenceModFIdeal.nD Cert.ReferenceModFIdeal.τ Cert.ReferenceModFIdeal.sig) → Buf (Elt Ideal) ℓ) (g : Dev Cert.ReferenceModFIdeal.nD → PrngReg), Pre_ReferenceModFIdeal m →
    θ_run (Cert.ReferenceModFIdeal.defs (F := Ideal)) (onTc (τ := Cert.ReferenceModFIdeal.τ) (Cert.ReferenceModFIdeal.main (F := Ideal))) ⟨m, fun _ => 0, g⟩ (fun r => (∀ c : Dev Cert.ReferenceModFIdeal.nD,
      r.2.mem ((c.tc : Thread Cert.ReferenceModFIdeal.nD Cert.ReferenceModFIdeal.τ).loc Cert.ReferenceModFIdeal.main_arg0) = m ((c.tc : Thread Cert.ReferenceModFIdeal.nD Cert.ReferenceModFIdeal.τ).loc Cert.ReferenceModFIdeal.main_arg0)
      ∧ r.2.mem ((c.tc : Thread Cert.ReferenceModFIdeal.nD Cert.ReferenceModFIdeal.τ).loc Cert.ReferenceModFIdeal.main_arg1) = m ((c.tc : Thread Cert.ReferenceModFIdeal.nD Cert.ReferenceModFIdeal.τ).loc Cert.ReferenceModFIdeal.main_arg1)
      ∧ r.2.mem ((c.tc : Thread Cert.ReferenceModFIdeal.nD Cert.ReferenceModFIdeal.τ).loc Cert.ReferenceModFIdeal.main_arg2) = m ((c.tc : Thread Cert.ReferenceModFIdeal.nD Cert.ReferenceModFIdeal.τ).loc Cert.ReferenceModFIdeal.main_arg2))
      ∧ r.2.sem = fun _ => 0)

def quiescent_KernelN1 [hKernelN1 : Cert.KernelN1.Facts] : Prop :=
  ∀ (m : (ℓ : Loc Cert.KernelN1.nD Cert.KernelN1.τ Cert.KernelN1.sig) → Buf (Elt Bits) ℓ) (g : Dev Cert.KernelN1.nD → PrngReg), Pre_KernelN1 m →
    θ_run (Cert.KernelN1.defs (F := Bits)) (onTc (τ := Cert.KernelN1.τ) (Cert.KernelN1.main (F := Bits))) ⟨m, fun _ => 0, g⟩ (fun r => (∀ c : Dev Cert.KernelN1.nD,
      r.2.mem ((c.tc : Thread Cert.KernelN1.nD Cert.KernelN1.τ).loc Cert.KernelN1.main_arg0) = m ((c.tc : Thread Cert.KernelN1.nD Cert.KernelN1.τ).loc Cert.KernelN1.main_arg0)
      ∧ r.2.mem ((c.tc : Thread Cert.KernelN1.nD Cert.KernelN1.τ).loc Cert.KernelN1.main_arg1) = m ((c.tc : Thread Cert.KernelN1.nD Cert.KernelN1.τ).loc Cert.KernelN1.main_arg1)
      ∧ r.2.mem ((c.tc : Thread Cert.KernelN1.nD Cert.KernelN1.τ).loc Cert.KernelN1.main_arg2) = m ((c.tc : Thread Cert.KernelN1.nD Cert.KernelN1.τ).loc Cert.KernelN1.main_arg2)
      ∧ r.2.mem ((c.tc : Thread Cert.KernelN1.nD Cert.KernelN1.τ).loc Cert.KernelN1.main_arg3) = m ((c.tc : Thread Cert.KernelN1.nD Cert.KernelN1.τ).loc Cert.KernelN1.main_arg3))
      ∧ r.2.sem = fun _ => 0)

def quiescent_KernelN1Ideal [hKernelN1Ideal : Cert.KernelN1Ideal.Facts] : Prop :=
  ∀ (m : (ℓ : Loc Cert.KernelN1Ideal.nD Cert.KernelN1Ideal.τ Cert.KernelN1Ideal.sig) → Buf (Elt Ideal) ℓ) (g : Dev Cert.KernelN1Ideal.nD → PrngReg), Pre_KernelN1Ideal m →
    θ_run (Cert.KernelN1Ideal.defs (F := Ideal)) (onTc (τ := Cert.KernelN1Ideal.τ) (Cert.KernelN1Ideal.main (F := Ideal))) ⟨m, fun _ => 0, g⟩ (fun r => (∀ c : Dev Cert.KernelN1Ideal.nD,
      r.2.mem ((c.tc : Thread Cert.KernelN1Ideal.nD Cert.KernelN1Ideal.τ).loc Cert.KernelN1Ideal.main_arg0) = m ((c.tc : Thread Cert.KernelN1Ideal.nD Cert.KernelN1Ideal.τ).loc Cert.KernelN1Ideal.main_arg0)
      ∧ r.2.mem ((c.tc : Thread Cert.KernelN1Ideal.nD Cert.KernelN1Ideal.τ).loc Cert.KernelN1Ideal.main_arg1) = m ((c.tc : Thread Cert.KernelN1Ideal.nD Cert.KernelN1Ideal.τ).loc Cert.KernelN1Ideal.main_arg1)
      ∧ r.2.mem ((c.tc : Thread Cert.KernelN1Ideal.nD Cert.KernelN1Ideal.τ).loc Cert.KernelN1Ideal.main_arg2) = m ((c.tc : Thread Cert.KernelN1Ideal.nD Cert.KernelN1Ideal.τ).loc Cert.KernelN1Ideal.main_arg2)
      ∧ r.2.mem ((c.tc : Thread Cert.KernelN1Ideal.nD Cert.KernelN1Ideal.τ).loc Cert.KernelN1Ideal.main_arg3) = m ((c.tc : Thread Cert.KernelN1Ideal.nD Cert.KernelN1Ideal.τ).loc Cert.KernelN1Ideal.main_arg3))
      ∧ r.2.sem = fun _ => 0)

def quiescent_ReferenceN1Ideal [hReferenceN1Ideal : Cert.ReferenceN1Ideal.Facts] : Prop :=
  ∀ (m : (ℓ : Loc Cert.ReferenceN1Ideal.nD Cert.ReferenceN1Ideal.τ Cert.ReferenceN1Ideal.sig) → Buf (Elt Ideal) ℓ) (g : Dev Cert.ReferenceN1Ideal.nD → PrngReg), Pre_ReferenceN1Ideal m →
    θ_run (Cert.ReferenceN1Ideal.defs (F := Ideal)) (onTc (τ := Cert.ReferenceN1Ideal.τ) (Cert.ReferenceN1Ideal.main (F := Ideal))) ⟨m, fun _ => 0, g⟩ (fun r => (∀ c : Dev Cert.ReferenceN1Ideal.nD,
      r.2.mem ((c.tc : Thread Cert.ReferenceN1Ideal.nD Cert.ReferenceN1Ideal.τ).loc Cert.ReferenceN1Ideal.main_arg0) = m ((c.tc : Thread Cert.ReferenceN1Ideal.nD Cert.ReferenceN1Ideal.τ).loc Cert.ReferenceN1Ideal.main_arg0)
      ∧ r.2.mem ((c.tc : Thread Cert.ReferenceN1Ideal.nD Cert.ReferenceN1Ideal.τ).loc Cert.ReferenceN1Ideal.main_arg1) = m ((c.tc : Thread Cert.ReferenceN1Ideal.nD Cert.ReferenceN1Ideal.τ).loc Cert.ReferenceN1Ideal.main_arg1)
      ∧ r.2.mem ((c.tc : Thread Cert.ReferenceN1Ideal.nD Cert.ReferenceN1Ideal.τ).loc Cert.ReferenceN1Ideal.main_arg2) = m ((c.tc : Thread Cert.ReferenceN1Ideal.nD Cert.ReferenceN1Ideal.τ).loc Cert.ReferenceN1Ideal.main_arg2)
      ∧ r.2.mem ((c.tc : Thread Cert.ReferenceN1Ideal.nD Cert.ReferenceN1Ideal.τ).loc Cert.ReferenceN1Ideal.main_arg3) = m ((c.tc : Thread Cert.ReferenceN1Ideal.nD Cert.ReferenceN1Ideal.τ).loc Cert.ReferenceN1Ideal.main_arg3))
      ∧ r.2.sem = fun _ => 0)

def quiescent_KernelN2 [hKernelN2 : Cert.KernelN2.Facts] : Prop :=
  ∀ (m : (ℓ : Loc Cert.KernelN2.nD Cert.KernelN2.τ Cert.KernelN2.sig) → Buf (Elt Bits) ℓ) (g : Dev Cert.KernelN2.nD → PrngReg), Pre_KernelN2 m →
    θ_run (Cert.KernelN2.defs (F := Bits)) (onTc (τ := Cert.KernelN2.τ) (Cert.KernelN2.main (F := Bits))) ⟨m, fun _ => 0, g⟩ (fun r => (∀ c : Dev Cert.KernelN2.nD,
      r.2.mem ((c.tc : Thread Cert.KernelN2.nD Cert.KernelN2.τ).loc Cert.KernelN2.main_arg0) = m ((c.tc : Thread Cert.KernelN2.nD Cert.KernelN2.τ).loc Cert.KernelN2.main_arg0)
      ∧ r.2.mem ((c.tc : Thread Cert.KernelN2.nD Cert.KernelN2.τ).loc Cert.KernelN2.main_arg1) = m ((c.tc : Thread Cert.KernelN2.nD Cert.KernelN2.τ).loc Cert.KernelN2.main_arg1)
      ∧ r.2.mem ((c.tc : Thread Cert.KernelN2.nD Cert.KernelN2.τ).loc Cert.KernelN2.main_arg2) = m ((c.tc : Thread Cert.KernelN2.nD Cert.KernelN2.τ).loc Cert.KernelN2.main_arg2)
      ∧ r.2.mem ((c.tc : Thread Cert.KernelN2.nD Cert.KernelN2.τ).loc Cert.KernelN2.main_arg3) = m ((c.tc : Thread Cert.KernelN2.nD Cert.KernelN2.τ).loc Cert.KernelN2.main_arg3))
      ∧ r.2.sem = fun _ => 0)

def quiescent_KernelN2Ideal [hKernelN2Ideal : Cert.KernelN2Ideal.Facts] : Prop :=
  ∀ (m : (ℓ : Loc Cert.KernelN2Ideal.nD Cert.KernelN2Ideal.τ Cert.KernelN2Ideal.sig) → Buf (Elt Ideal) ℓ) (g : Dev Cert.KernelN2Ideal.nD → PrngReg), Pre_KernelN2Ideal m →
    θ_run (Cert.KernelN2Ideal.defs (F := Ideal)) (onTc (τ := Cert.KernelN2Ideal.τ) (Cert.KernelN2Ideal.main (F := Ideal))) ⟨m, fun _ => 0, g⟩ (fun r => (∀ c : Dev Cert.KernelN2Ideal.nD,
      r.2.mem ((c.tc : Thread Cert.KernelN2Ideal.nD Cert.KernelN2Ideal.τ).loc Cert.KernelN2Ideal.main_arg0) = m ((c.tc : Thread Cert.KernelN2Ideal.nD Cert.KernelN2Ideal.τ).loc Cert.KernelN2Ideal.main_arg0)
      ∧ r.2.mem ((c.tc : Thread Cert.KernelN2Ideal.nD Cert.KernelN2Ideal.τ).loc Cert.KernelN2Ideal.main_arg1) = m ((c.tc : Thread Cert.KernelN2Ideal.nD Cert.KernelN2Ideal.τ).loc Cert.KernelN2Ideal.main_arg1)
      ∧ r.2.mem ((c.tc : Thread Cert.KernelN2Ideal.nD Cert.KernelN2Ideal.τ).loc Cert.KernelN2Ideal.main_arg2) = m ((c.tc : Thread Cert.KernelN2Ideal.nD Cert.KernelN2Ideal.τ).loc Cert.KernelN2Ideal.main_arg2)
      ∧ r.2.mem ((c.tc : Thread Cert.KernelN2Ideal.nD Cert.KernelN2Ideal.τ).loc Cert.KernelN2Ideal.main_arg3) = m ((c.tc : Thread Cert.KernelN2Ideal.nD Cert.KernelN2Ideal.τ).loc Cert.KernelN2Ideal.main_arg3))
      ∧ r.2.sem = fun _ => 0)

def quiescent_ReferenceN2Ideal [hReferenceN2Ideal : Cert.ReferenceN2Ideal.Facts] : Prop :=
  ∀ (m : (ℓ : Loc Cert.ReferenceN2Ideal.nD Cert.ReferenceN2Ideal.τ Cert.ReferenceN2Ideal.sig) → Buf (Elt Ideal) ℓ) (g : Dev Cert.ReferenceN2Ideal.nD → PrngReg), Pre_ReferenceN2Ideal m →
    θ_run (Cert.ReferenceN2Ideal.defs (F := Ideal)) (onTc (τ := Cert.ReferenceN2Ideal.τ) (Cert.ReferenceN2Ideal.main (F := Ideal))) ⟨m, fun _ => 0, g⟩ (fun r => (∀ c : Dev Cert.ReferenceN2Ideal.nD,
      r.2.mem ((c.tc : Thread Cert.ReferenceN2Ideal.nD Cert.ReferenceN2Ideal.τ).loc Cert.ReferenceN2Ideal.main_arg0) = m ((c.tc : Thread Cert.ReferenceN2Ideal.nD Cert.ReferenceN2Ideal.τ).loc Cert.ReferenceN2Ideal.main_arg0)
      ∧ r.2.mem ((c.tc : Thread Cert.ReferenceN2Ideal.nD Cert.ReferenceN2Ideal.τ).loc Cert.ReferenceN2Ideal.main_arg1) = m ((c.tc : Thread Cert.ReferenceN2Ideal.nD Cert.ReferenceN2Ideal.τ).loc Cert.ReferenceN2Ideal.main_arg1)
      ∧ r.2.mem ((c.tc : Thread Cert.ReferenceN2Ideal.nD Cert.ReferenceN2Ideal.τ).loc Cert.ReferenceN2Ideal.main_arg2) = m ((c.tc : Thread Cert.ReferenceN2Ideal.nD Cert.ReferenceN2Ideal.τ).loc Cert.ReferenceN2Ideal.main_arg2)
      ∧ r.2.mem ((c.tc : Thread Cert.ReferenceN2Ideal.nD Cert.ReferenceN2Ideal.τ).loc Cert.ReferenceN2Ideal.main_arg3) = m ((c.tc : Thread Cert.ReferenceN2Ideal.nD Cert.ReferenceN2Ideal.τ).loc Cert.ReferenceN2Ideal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1))
      ∧ r.2.sem = fun _ => 0)

def quiescent_KernelMergeB [hKernelMergeB : Cert.KernelMergeB.Facts] : Prop :=
  ∀ (m : (ℓ : Loc Cert.KernelMergeB.nD Cert.KernelMergeB.τ Cert.KernelMergeB.sig) → Buf (Elt Bits) ℓ) (g : Dev Cert.KernelMergeB.nD → PrngReg), Pre_KernelMergeB m →
    θ_run (Cert.KernelMergeB.defs (F := Bits)) (onTc (τ := Cert.KernelMergeB.τ) (Cert.KernelMergeB.main (F := Bits))) ⟨m, fun _ => 0, g⟩ (fun r => (∀ c : Dev Cert.KernelMergeB.nD,
      r.2.mem ((c.tc : Thread Cert.KernelMergeB.nD Cert.KernelMergeB.τ).loc Cert.KernelMergeB.main_arg0) = m ((c.tc : Thread Cert.KernelMergeB.nD Cert.KernelMergeB.τ).loc Cert.KernelMergeB.main_arg0)
      ∧ r.2.mem ((c.tc : Thread Cert.KernelMergeB.nD Cert.KernelMergeB.τ).loc Cert.KernelMergeB.main_arg1) = m ((c.tc : Thread Cert.KernelMergeB.nD Cert.KernelMergeB.τ).loc Cert.KernelMergeB.main_arg1)
      ∧ r.2.mem ((c.tc : Thread Cert.KernelMergeB.nD Cert.KernelMergeB.τ).loc Cert.KernelMergeB.main_arg2) = m ((c.tc : Thread Cert.KernelMergeB.nD Cert.KernelMergeB.τ).loc Cert.KernelMergeB.main_arg2))
      ∧ r.2.sem = fun _ => 0)

def quiescent_KernelMergeBIdeal [hKernelMergeBIdeal : Cert.KernelMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg), Pre_KernelMergeBIdeal m →
    θ_run (Cert.KernelMergeBIdeal.defs (F := Ideal)) (onTc (τ := Cert.KernelMergeBIdeal.τ) (Cert.KernelMergeBIdeal.main (F := Ideal))) ⟨m, fun _ => 0, g⟩ (fun r => (∀ c : Dev Cert.KernelMergeBIdeal.nD,
      r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
      ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
      ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2))
      ∧ r.2.sem = fun _ => 0)

def quiescent_ReferenceMergeBIdeal [hReferenceMergeBIdeal : Cert.ReferenceMergeBIdeal.Facts] : Prop :=
  ∀ (m : (ℓ : Loc Cert.ReferenceMergeBIdeal.nD Cert.ReferenceMergeBIdeal.τ Cert.ReferenceMergeBIdeal.sig) → Buf (Elt Ideal) ℓ) (g : Dev Cert.ReferenceMergeBIdeal.nD → PrngReg), Pre_ReferenceMergeBIdeal m →
    θ_run (Cert.ReferenceMergeBIdeal.defs (F := Ideal)) (onTc (τ := Cert.ReferenceMergeBIdeal.τ) (Cert.ReferenceMergeBIdeal.main (F := Ideal))) ⟨m, fun _ => 0, g⟩ (fun r => (∀ c : Dev Cert.ReferenceMergeBIdeal.nD,
      r.2.mem ((c.tc : Thread Cert.ReferenceMergeBIdeal.nD Cert.ReferenceMergeBIdeal.τ).loc Cert.ReferenceMergeBIdeal.main_arg0) = m ((c.tc : Thread Cert.ReferenceMergeBIdeal.nD Cert.ReferenceMergeBIdeal.τ).loc Cert.ReferenceMergeBIdeal.main_arg0)
      ∧ r.2.mem ((c.tc : Thread Cert.ReferenceMergeBIdeal.nD Cert.ReferenceMergeBIdeal.τ).loc Cert.ReferenceMergeBIdeal.main_arg1) = m ((c.tc : Thread Cert.ReferenceMergeBIdeal.nD Cert.ReferenceMergeBIdeal.τ).loc Cert.ReferenceMergeBIdeal.main_arg1)
      ∧ r.2.mem ((c.tc : Thread Cert.ReferenceMergeBIdeal.nD Cert.ReferenceMergeBIdeal.τ).loc Cert.ReferenceMergeBIdeal.main_arg2) = m ((c.tc : Thread Cert.ReferenceMergeBIdeal.nD Cert.ReferenceMergeBIdeal.τ).loc Cert.ReferenceMergeBIdeal.main_arg2))
      ∧ r.2.sem = fun _ => 0)

def quiescent_KernelActB [hKernelActB : Cert.KernelActB.Facts] : Prop :=
  ∀ (m : (ℓ : Loc Cert.KernelActB.nD Cert.KernelActB.τ Cert.KernelActB.sig) → Buf (Elt Bits) ℓ) (g : Dev Cert.KernelActB.nD → PrngReg), Pre_KernelActB m →
    θ_run (Cert.KernelActB.defs (F := Bits)) (onTc (τ := Cert.KernelActB.τ) (Cert.KernelActB.main (F := Bits))) ⟨m, fun _ => 0, g⟩ (fun r => (∀ c : Dev Cert.KernelActB.nD,
      r.2.mem ((c.tc : Thread Cert.KernelActB.nD Cert.KernelActB.τ).loc Cert.KernelActB.main_arg0) = m ((c.tc : Thread Cert.KernelActB.nD Cert.KernelActB.τ).loc Cert.KernelActB.main_arg0)
      ∧ r.2.mem ((c.tc : Thread Cert.KernelActB.nD Cert.KernelActB.τ).loc Cert.KernelActB.main_arg1) = m ((c.tc : Thread Cert.KernelActB.nD Cert.KernelActB.τ).loc Cert.KernelActB.main_arg1)
      ∧ r.2.mem ((c.tc : Thread Cert.KernelActB.nD Cert.KernelActB.τ).loc Cert.KernelActB.main_arg2) = m ((c.tc : Thread Cert.KernelActB.nD Cert.KernelActB.τ).loc Cert.KernelActB.main_arg2))
      ∧ r.2.sem = fun _ => 0)

def quiescent_KernelActBIdeal [hKernelActBIdeal : Cert.KernelActBIdeal.Facts] : Prop :=
  ∀ (m : (ℓ : Loc Cert.KernelActBIdeal.nD Cert.KernelActBIdeal.τ Cert.KernelActBIdeal.sig) → Buf (Elt Ideal) ℓ) (g : Dev Cert.KernelActBIdeal.nD → PrngReg), Pre_KernelActBIdeal m →
    θ_run (Cert.KernelActBIdeal.defs (F := Ideal)) (onTc (τ := Cert.KernelActBIdeal.τ) (Cert.KernelActBIdeal.main (F := Ideal))) ⟨m, fun _ => 0, g⟩ (fun r => (∀ c : Dev Cert.KernelActBIdeal.nD,
      r.2.mem ((c.tc : Thread Cert.KernelActBIdeal.nD Cert.KernelActBIdeal.τ).loc Cert.KernelActBIdeal.main_arg0) = m ((c.tc : Thread Cert.KernelActBIdeal.nD Cert.KernelActBIdeal.τ).loc Cert.KernelActBIdeal.main_arg0)
      ∧ r.2.mem ((c.tc : Thread Cert.KernelActBIdeal.nD Cert.KernelActBIdeal.τ).loc Cert.KernelActBIdeal.main_arg1) = m ((c.tc : Thread Cert.KernelActBIdeal.nD Cert.KernelActBIdeal.τ).loc Cert.KernelActBIdeal.main_arg1)
      ∧ r.2.mem ((c.tc : Thread Cert.KernelActBIdeal.nD Cert.KernelActBIdeal.τ).loc Cert.KernelActBIdeal.main_arg2) = m ((c.tc : Thread Cert.KernelActBIdeal.nD Cert.KernelActBIdeal.τ).loc Cert.KernelActBIdeal.main_arg2))
      ∧ r.2.sem = fun _ => 0)

def quiescent_KernelActBIdeal_pre_finite_act [hKernelActBIdeal : Cert.KernelActBIdeal.Facts] [hPre_finite_act : Cert.Pre_finite_act.Facts] : Prop :=
  ∀ (m : (ℓ : Loc Cert.KernelActBIdeal.nD Cert.KernelActBIdeal.τ Cert.KernelActBIdeal.sig) → Buf (Elt Ideal) ℓ) (g : Dev Cert.KernelActBIdeal.nD → PrngReg), Pre_KernelActBIdeal_finite_act m →
    θ_run (Cert.KernelActBIdeal.defs (F := Ideal)) (onTc (τ := Cert.KernelActBIdeal.τ) (Cert.KernelActBIdeal.main (F := Ideal))) ⟨m, fun _ => 0, g⟩ (fun r => (∀ c : Dev Cert.KernelActBIdeal.nD,
      r.2.mem ((c.tc : Thread Cert.KernelActBIdeal.nD Cert.KernelActBIdeal.τ).loc Cert.KernelActBIdeal.main_arg0) = m ((c.tc : Thread Cert.KernelActBIdeal.nD Cert.KernelActBIdeal.τ).loc Cert.KernelActBIdeal.main_arg0)
      ∧ r.2.mem ((c.tc : Thread Cert.KernelActBIdeal.nD Cert.KernelActBIdeal.τ).loc Cert.KernelActBIdeal.main_arg1) = m ((c.tc : Thread Cert.KernelActBIdeal.nD Cert.KernelActBIdeal.τ).loc Cert.KernelActBIdeal.main_arg1)
      ∧ r.2.mem ((c.tc : Thread Cert.KernelActBIdeal.nD Cert.KernelActBIdeal.τ).loc Cert.KernelActBIdeal.main_arg2) = m ((c.tc : Thread Cert.KernelActBIdeal.nD Cert.KernelActBIdeal.τ).loc Cert.KernelActBIdeal.main_arg2))
      ∧ r.2.sem = fun _ => 0)

def quiescent_ReferenceActBIdeal [hReferenceActBIdeal : Cert.ReferenceActBIdeal.Facts] : Prop :=
  ∀ (m : (ℓ : Loc Cert.ReferenceActBIdeal.nD Cert.ReferenceActBIdeal.τ Cert.ReferenceActBIdeal.sig) → Buf (Elt Ideal) ℓ) (g : Dev Cert.ReferenceActBIdeal.nD → PrngReg), Pre_ReferenceActBIdeal m →
    θ_run (Cert.ReferenceActBIdeal.defs (F := Ideal)) (onTc (τ := Cert.ReferenceActBIdeal.τ) (Cert.ReferenceActBIdeal.main (F := Ideal))) ⟨m, fun _ => 0, g⟩ (fun r => (∀ c : Dev Cert.ReferenceActBIdeal.nD,
      r.2.mem ((c.tc : Thread Cert.ReferenceActBIdeal.nD Cert.ReferenceActBIdeal.τ).loc Cert.ReferenceActBIdeal.main_arg0) = m ((c.tc : Thread Cert.ReferenceActBIdeal.nD Cert.ReferenceActBIdeal.τ).loc Cert.ReferenceActBIdeal.main_arg0)
      ∧ r.2.mem ((c.tc : Thread Cert.ReferenceActBIdeal.nD Cert.ReferenceActBIdeal.τ).loc Cert.ReferenceActBIdeal.main_arg1) = m ((c.tc : Thread Cert.ReferenceActBIdeal.nD Cert.ReferenceActBIdeal.τ).loc Cert.ReferenceActBIdeal.main_arg1)
      ∧ r.2.mem ((c.tc : Thread Cert.ReferenceActBIdeal.nD Cert.ReferenceActBIdeal.τ).loc Cert.ReferenceActBIdeal.main_arg2) = m ((c.tc : Thread Cert.ReferenceActBIdeal.nD Cert.ReferenceActBIdeal.τ).loc Cert.ReferenceActBIdeal.main_arg2))
      ∧ r.2.sem = fun _ => 0)

def quiescent_ReferenceActBIdeal_pre_finite_act [hReferenceActBIdeal : Cert.ReferenceActBIdeal.Facts] [hPre_finite_act : Cert.Pre_finite_act.Facts] : Prop :=
  ∀ (m : (ℓ : Loc Cert.ReferenceActBIdeal.nD Cert.ReferenceActBIdeal.τ Cert.ReferenceActBIdeal.sig) → Buf (Elt Ideal) ℓ) (g : Dev Cert.ReferenceActBIdeal.nD → PrngReg), Pre_ReferenceActBIdeal_finite_act m →
    θ_run (Cert.ReferenceActBIdeal.defs (F := Ideal)) (onTc (τ := Cert.ReferenceActBIdeal.τ) (Cert.ReferenceActBIdeal.main (F := Ideal))) ⟨m, fun _ => 0, g⟩ (fun r => (∀ c : Dev Cert.ReferenceActBIdeal.nD,
      r.2.mem ((c.tc : Thread Cert.ReferenceActBIdeal.nD Cert.ReferenceActBIdeal.τ).loc Cert.ReferenceActBIdeal.main_arg0) = m ((c.tc : Thread Cert.ReferenceActBIdeal.nD Cert.ReferenceActBIdeal.τ).loc Cert.ReferenceActBIdeal.main_arg0)
      ∧ r.2.mem ((c.tc : Thread Cert.ReferenceActBIdeal.nD Cert.ReferenceActBIdeal.τ).loc Cert.ReferenceActBIdeal.main_arg1) = m ((c.tc : Thread Cert.ReferenceActBIdeal.nD Cert.ReferenceActBIdeal.τ).loc Cert.ReferenceActBIdeal.main_arg1)
      ∧ r.2.mem ((c.tc : Thread Cert.ReferenceActBIdeal.nD Cert.ReferenceActBIdeal.τ).loc Cert.ReferenceActBIdeal.main_arg2) = m ((c.tc : Thread Cert.ReferenceActBIdeal.nD Cert.ReferenceActBIdeal.τ).loc Cert.ReferenceActBIdeal.main_arg2))
      ∧ r.2.sem = fun _ => 0)

def preserves_KernelZmain_KernelZmainIdeal : Prop :=
  True

def algebraic_KernelZmainIdeal_ReferenceZmainIdeal [hKernelZmainIdeal : Cert.KernelZmainIdeal.Facts] [hReferenceZmainIdeal : Cert.ReferenceZmainIdeal.Facts] : Prop :=
  ∀ (m : (ℓ : Loc Cert.KernelZmainIdeal.nD Cert.KernelZmainIdeal.τ Cert.KernelZmainIdeal.sig) → Buf (Elt Ideal) ℓ) (g : Dev Cert.KernelZmainIdeal.nD → PrngReg)
    (m' : (ℓ : Loc Cert.ReferenceZmainIdeal.nD Cert.ReferenceZmainIdeal.τ Cert.ReferenceZmainIdeal.sig) → Buf (Elt Ideal) ℓ) (g' : Dev Cert.ReferenceZmainIdeal.nD → PrngReg), Pre_KernelZmainIdeal m →
    (∀ c : Dev Cert.KernelZmainIdeal.nD,
      m' ((c.tc : Thread Cert.ReferenceZmainIdeal.nD Cert.ReferenceZmainIdeal.τ).loc Cert.ReferenceZmainIdeal.main_arg0) = m ((c.tc : Thread Cert.KernelZmainIdeal.nD Cert.KernelZmainIdeal.τ).loc Cert.KernelZmainIdeal.main_arg0)
      ∧ m' ((c.tc : Thread Cert.ReferenceZmainIdeal.nD Cert.ReferenceZmainIdeal.τ).loc Cert.ReferenceZmainIdeal.main_arg1) = m ((c.tc : Thread Cert.KernelZmainIdeal.nD Cert.KernelZmainIdeal.τ).loc Cert.KernelZmainIdeal.main_arg1)) →
    ∃ (v0 : (c : Dev Cert.KernelZmainIdeal.nD) → Buf (Elt Ideal) ((c.tc : Thread Cert.KernelZmainIdeal.nD Cert.KernelZmainIdeal.τ).loc Cert.KernelZmainIdeal.main_v2)),
      θ_run (Cert.KernelZmainIdeal.defs (F := Ideal)) (onTc (τ := Cert.KernelZmainIdeal.τ) (Cert.KernelZmainIdeal.main (F := Ideal))) ⟨m, fun _ => 0, g⟩ (fun r => ∀ c : Dev Cert.KernelZmainIdeal.nD,
          r.2.mem ((c.tc : Thread Cert.KernelZmainIdeal.nD Cert.KernelZmainIdeal.τ).loc Cert.KernelZmainIdeal.main_v2) = v0 c
          ∧ r.2.mem ((c.tc : Thread Cert.KernelZmainIdeal.nD Cert.KernelZmainIdeal.τ).loc Cert.KernelZmainIdeal.main_arg0) = m ((c.tc : Thread Cert.KernelZmainIdeal.nD Cert.KernelZmainIdeal.τ).loc Cert.KernelZmainIdeal.main_arg0)
          ∧ r.2.mem ((c.tc : Thread Cert.KernelZmainIdeal.nD Cert.KernelZmainIdeal.τ).loc Cert.KernelZmainIdeal.main_arg1) = m ((c.tc : Thread Cert.KernelZmainIdeal.nD Cert.KernelZmainIdeal.τ).loc Cert.KernelZmainIdeal.main_arg1))
      ∧ θ_run (Cert.ReferenceZmainIdeal.defs (F := Ideal)) (onTc (τ := Cert.ReferenceZmainIdeal.τ) (Cert.ReferenceZmainIdeal.main (F := Ideal))) ⟨m', fun _ => 0, g'⟩ (fun r => ∀ c : Dev Cert.ReferenceZmainIdeal.nD,
          r.2.mem ((c.tc : Thread Cert.ReferenceZmainIdeal.nD Cert.ReferenceZmainIdeal.τ).loc Cert.ReferenceZmainIdeal.main_v2) = v0 c
          ∧ r.2.mem ((c.tc : Thread Cert.ReferenceZmainIdeal.nD Cert.ReferenceZmainIdeal.τ).loc Cert.ReferenceZmainIdeal.main_arg0) = m' ((c.tc : Thread Cert.ReferenceZmainIdeal.nD Cert.ReferenceZmainIdeal.τ).loc Cert.ReferenceZmainIdeal.main_arg0)
          ∧ r.2.mem ((c.tc : Thread Cert.ReferenceZmainIdeal.nD Cert.ReferenceZmainIdeal.τ).loc Cert.ReferenceZmainIdeal.main_arg1) = m' ((c.tc : Thread Cert.ReferenceZmainIdeal.nD Cert.ReferenceZmainIdeal.τ).loc Cert.ReferenceZmainIdeal.main_arg1))

def preserves_KernelZg_KernelZgIdeal : Prop :=
  True

def algebraic_KernelZgIdeal_ReferenceZgIdeal [hKernelZgIdeal : Cert.KernelZgIdeal.Facts] [hReferenceZgIdeal : Cert.ReferenceZgIdeal.Facts] : Prop :=
  ∀ (m : (ℓ : Loc Cert.KernelZgIdeal.nD Cert.KernelZgIdeal.τ Cert.KernelZgIdeal.sig) → Buf (Elt Ideal) ℓ) (g : Dev Cert.KernelZgIdeal.nD → PrngReg)
    (m' : (ℓ : Loc Cert.ReferenceZgIdeal.nD Cert.ReferenceZgIdeal.τ Cert.ReferenceZgIdeal.sig) → Buf (Elt Ideal) ℓ) (g' : Dev Cert.ReferenceZgIdeal.nD → PrngReg), Pre_KernelZgIdeal m →
    (∀ c : Dev Cert.KernelZgIdeal.nD,
      m' ((c.tc : Thread Cert.ReferenceZgIdeal.nD Cert.ReferenceZgIdeal.τ).loc Cert.ReferenceZgIdeal.main_arg0) = m ((c.tc : Thread Cert.KernelZgIdeal.nD Cert.KernelZgIdeal.τ).loc Cert.KernelZgIdeal.main_arg0)
      ∧ m' ((c.tc : Thread Cert.ReferenceZgIdeal.nD Cert.ReferenceZgIdeal.τ).loc Cert.ReferenceZgIdeal.main_arg1) = m ((c.tc : Thread Cert.KernelZgIdeal.nD Cert.KernelZgIdeal.τ).loc Cert.KernelZgIdeal.main_arg1)) →
    ∃ (v0 : (c : Dev Cert.KernelZgIdeal.nD) → Buf (Elt Ideal) ((c.tc : Thread Cert.KernelZgIdeal.nD Cert.KernelZgIdeal.τ).loc Cert.KernelZgIdeal.main_v2)),
      θ_run (Cert.KernelZgIdeal.defs (F := Ideal)) (onTc (τ := Cert.KernelZgIdeal.τ) (Cert.KernelZgIdeal.main (F := Ideal))) ⟨m, fun _ => 0, g⟩ (fun r => ∀ c : Dev Cert.KernelZgIdeal.nD,
          r.2.mem ((c.tc : Thread Cert.KernelZgIdeal.nD Cert.KernelZgIdeal.τ).loc Cert.KernelZgIdeal.main_v2) = v0 c
          ∧ r.2.mem ((c.tc : Thread Cert.KernelZgIdeal.nD Cert.KernelZgIdeal.τ).loc Cert.KernelZgIdeal.main_arg0) = m ((c.tc : Thread Cert.KernelZgIdeal.nD Cert.KernelZgIdeal.τ).loc Cert.KernelZgIdeal.main_arg0)
          ∧ r.2.mem ((c.tc : Thread Cert.KernelZgIdeal.nD Cert.KernelZgIdeal.τ).loc Cert.KernelZgIdeal.main_arg1) = m ((c.tc : Thread Cert.KernelZgIdeal.nD Cert.KernelZgIdeal.τ).loc Cert.KernelZgIdeal.main_arg1))
      ∧ θ_run (Cert.ReferenceZgIdeal.defs (F := Ideal)) (onTc (τ := Cert.ReferenceZgIdeal.τ) (Cert.ReferenceZgIdeal.main (F := Ideal))) ⟨m', fun _ => 0, g'⟩ (fun r => ∀ c : Dev Cert.ReferenceZgIdeal.nD,
          r.2.mem ((c.tc : Thread Cert.ReferenceZgIdeal.nD Cert.ReferenceZgIdeal.τ).loc Cert.ReferenceZgIdeal.main_v3) = v0 c
          ∧ r.2.mem ((c.tc : Thread Cert.ReferenceZgIdeal.nD Cert.ReferenceZgIdeal.τ).loc Cert.ReferenceZgIdeal.main_arg0) = m' ((c.tc : Thread Cert.ReferenceZgIdeal.nD Cert.ReferenceZgIdeal.τ).loc Cert.ReferenceZgIdeal.main_arg0)
          ∧ r.2.mem ((c.tc : Thread Cert.ReferenceZgIdeal.nD Cert.ReferenceZgIdeal.τ).loc Cert.ReferenceZgIdeal.main_arg1) = m' ((c.tc : Thread Cert.ReferenceZgIdeal.nD Cert.ReferenceZgIdeal.τ).loc Cert.ReferenceZgIdeal.main_arg1))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v1) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDdown_KernelDdownIdeal : Prop :=
  True

def algebraic_KernelDdownIdeal_ReferenceDdownIdeal [hKernelDdownIdeal : Cert.KernelDdownIdeal.Facts] [hReferenceDdownIdeal : Cert.ReferenceDdownIdeal.Facts] : Prop :=
  ∀ (m : (ℓ : Loc Cert.KernelDdownIdeal.nD Cert.KernelDdownIdeal.τ Cert.KernelDdownIdeal.sig) → Buf (Elt Ideal) ℓ) (g : Dev Cert.KernelDdownIdeal.nD → PrngReg)
    (m' : (ℓ : Loc Cert.ReferenceDdownIdeal.nD Cert.ReferenceDdownIdeal.τ Cert.ReferenceDdownIdeal.sig) → Buf (Elt Ideal) ℓ) (g' : Dev Cert.ReferenceDdownIdeal.nD → PrngReg), Pre_KernelDdownIdeal m →
    (∀ c : Dev Cert.KernelDdownIdeal.nD,
      m' ((c.tc : Thread Cert.ReferenceDdownIdeal.nD Cert.ReferenceDdownIdeal.τ).loc Cert.ReferenceDdownIdeal.main_arg0) = m ((c.tc : Thread Cert.KernelDdownIdeal.nD Cert.KernelDdownIdeal.τ).loc Cert.KernelDdownIdeal.main_arg0)
      ∧ m' ((c.tc : Thread Cert.ReferenceDdownIdeal.nD Cert.ReferenceDdownIdeal.τ).loc Cert.ReferenceDdownIdeal.main_arg1) = m ((c.tc : Thread Cert.KernelDdownIdeal.nD Cert.KernelDdownIdeal.τ).loc Cert.KernelDdownIdeal.main_arg1)) →
    ∃ (v0 : (c : Dev Cert.KernelDdownIdeal.nD) → Buf (Elt Ideal) ((c.tc : Thread Cert.KernelDdownIdeal.nD Cert.KernelDdownIdeal.τ).loc Cert.KernelDdownIdeal.main_v2)),
      θ_run (Cert.KernelDdownIdeal.defs (F := Ideal)) (onTc (τ := Cert.KernelDdownIdeal.τ) (Cert.KernelDdownIdeal.main (F := Ideal))) ⟨m, fun _ => 0, g⟩ (fun r => ∀ c : Dev Cert.KernelDdownIdeal.nD,
          r.2.mem ((c.tc : Thread Cert.KernelDdownIdeal.nD Cert.KernelDdownIdeal.τ).loc Cert.KernelDdownIdeal.main_v2) = v0 c
          ∧ r.2.mem ((c.tc : Thread Cert.KernelDdownIdeal.nD Cert.KernelDdownIdeal.τ).loc Cert.KernelDdownIdeal.main_arg0) = m ((c.tc : Thread Cert.KernelDdownIdeal.nD Cert.KernelDdownIdeal.τ).loc Cert.KernelDdownIdeal.main_arg0)
          ∧ r.2.mem ((c.tc : Thread Cert.KernelDdownIdeal.nD Cert.KernelDdownIdeal.τ).loc Cert.KernelDdownIdeal.main_arg1) = m ((c.tc : Thread Cert.KernelDdownIdeal.nD Cert.KernelDdownIdeal.τ).loc Cert.KernelDdownIdeal.main_arg1))
      ∧ θ_run (Cert.ReferenceDdownIdeal.defs (F := Ideal)) (onTc (τ := Cert.ReferenceDdownIdeal.τ) (Cert.ReferenceDdownIdeal.main (F := Ideal))) ⟨m', fun _ => 0, g'⟩ (fun r => ∀ c : Dev Cert.ReferenceDdownIdeal.nD,
          r.2.mem ((c.tc : Thread Cert.ReferenceDdownIdeal.nD Cert.ReferenceDdownIdeal.τ).loc Cert.ReferenceDdownIdeal.main_v3) = v0 c
          ∧ r.2.mem ((c.tc : Thread Cert.ReferenceDdownIdeal.nD Cert.ReferenceDdownIdeal.τ).loc Cert.ReferenceDdownIdeal.main_arg0) = m' ((c.tc : Thread Cert.ReferenceDdownIdeal.nD Cert.ReferenceDdownIdeal.τ).loc Cert.ReferenceDdownIdeal.main_arg0)
          ∧ r.2.mem ((c.tc : Thread Cert.ReferenceDdownIdeal.nD Cert.ReferenceDdownIdeal.τ).loc Cert.ReferenceDdownIdeal.main_arg1) = m' ((c.tc : Thread Cert.ReferenceDdownIdeal.nD Cert.ReferenceDdownIdeal.τ).loc Cert.ReferenceDdownIdeal.main_arg1))

def preserves_KernelDup_KernelDupIdeal : Prop :=
  True

def algebraic_KernelDupIdeal_ReferenceDupIdeal [hKernelDupIdeal : Cert.KernelDupIdeal.Facts] [hReferenceDupIdeal : Cert.ReferenceDupIdeal.Facts] : Prop :=
  ∀ (m : (ℓ : Loc Cert.KernelDupIdeal.nD Cert.KernelDupIdeal.τ Cert.KernelDupIdeal.sig) → Buf (Elt Ideal) ℓ) (g : Dev Cert.KernelDupIdeal.nD → PrngReg)
    (m' : (ℓ : Loc Cert.ReferenceDupIdeal.nD Cert.ReferenceDupIdeal.τ Cert.ReferenceDupIdeal.sig) → Buf (Elt Ideal) ℓ) (g' : Dev Cert.ReferenceDupIdeal.nD → PrngReg), Pre_KernelDupIdeal m →
    (∀ c : Dev Cert.KernelDupIdeal.nD,
      m' ((c.tc : Thread Cert.ReferenceDupIdeal.nD Cert.ReferenceDupIdeal.τ).loc Cert.ReferenceDupIdeal.main_arg0) = m ((c.tc : Thread Cert.KernelDupIdeal.nD Cert.KernelDupIdeal.τ).loc Cert.KernelDupIdeal.main_arg0)
      ∧ m' ((c.tc : Thread Cert.ReferenceDupIdeal.nD Cert.ReferenceDupIdeal.τ).loc Cert.ReferenceDupIdeal.main_arg1) = m ((c.tc : Thread Cert.KernelDupIdeal.nD Cert.KernelDupIdeal.τ).loc Cert.KernelDupIdeal.main_arg1)) →
    ∃ (v0 : (c : Dev Cert.KernelDupIdeal.nD) → Buf (Elt Ideal) ((c.tc : Thread Cert.KernelDupIdeal.nD Cert.KernelDupIdeal.τ).loc Cert.KernelDupIdeal.main_v2)),
      θ_run (Cert.KernelDupIdeal.defs (F := Ideal)) (onTc (τ := Cert.KernelDupIdeal.τ) (Cert.KernelDupIdeal.main (F := Ideal))) ⟨m, fun _ => 0, g⟩ (fun r => ∀ c : Dev Cert.KernelDupIdeal.nD,
          r.2.mem ((c.tc : Thread Cert.KernelDupIdeal.nD Cert.KernelDupIdeal.τ).loc Cert.KernelDupIdeal.main_v2) = v0 c
          ∧ r.2.mem ((c.tc : Thread Cert.KernelDupIdeal.nD Cert.KernelDupIdeal.τ).loc Cert.KernelDupIdeal.main_arg0) = m ((c.tc : Thread Cert.KernelDupIdeal.nD Cert.KernelDupIdeal.τ).loc Cert.KernelDupIdeal.main_arg0)
          ∧ r.2.mem ((c.tc : Thread Cert.KernelDupIdeal.nD Cert.KernelDupIdeal.τ).loc Cert.KernelDupIdeal.main_arg1) = m ((c.tc : Thread Cert.KernelDupIdeal.nD Cert.KernelDupIdeal.τ).loc Cert.KernelDupIdeal.main_arg1))
      ∧ θ_run (Cert.ReferenceDupIdeal.defs (F := Ideal)) (onTc (τ := Cert.ReferenceDupIdeal.τ) (Cert.ReferenceDupIdeal.main (F := Ideal))) ⟨m', fun _ => 0, g'⟩ (fun r => ∀ c : Dev Cert.ReferenceDupIdeal.nD,
          r.2.mem ((c.tc : Thread Cert.ReferenceDupIdeal.nD Cert.ReferenceDupIdeal.τ).loc Cert.ReferenceDupIdeal.main_v3) = v0 c
          ∧ r.2.mem ((c.tc : Thread Cert.ReferenceDupIdeal.nD Cert.ReferenceDupIdeal.τ).loc Cert.ReferenceDupIdeal.main_arg0) = m' ((c.tc : Thread Cert.ReferenceDupIdeal.nD Cert.ReferenceDupIdeal.τ).loc Cert.ReferenceDupIdeal.main_arg0)
          ∧ r.2.mem ((c.tc : Thread Cert.ReferenceDupIdeal.nD Cert.ReferenceDupIdeal.τ).loc Cert.ReferenceDupIdeal.main_arg1) = m' ((c.tc : Thread Cert.ReferenceDupIdeal.nD Cert.ReferenceDupIdeal.τ).loc Cert.ReferenceDupIdeal.main_arg1))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)) →
    ∃ (v0 : (c : Dev Cert.KernelDoutIdeal.nD) → Buf (Elt Ideal) ((c.tc : Thread Cert.KernelDoutIdeal.nD Cert.KernelDoutIdeal.τ).loc Cert.KernelDoutIdeal.main_v2)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v2) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v3) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1))

def preserves_KernelDbranch_KernelDbranchIdeal : Prop :=
  True

def algebraic_KernelDbranchIdeal_ReferenceDbranchIdeal [hKernelDbranchIdeal : Cert.KernelDbranchIdeal.Facts] [hReferenceDbranchIdeal : Cert.ReferenceDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg)
    (m' : (ℓ : Loc Cert.ReferenceDbranchIdeal.nD Cert.ReferenceDbranchIdeal.τ Cert.ReferenceDbranchIdeal.sig) → Buf (Elt Ideal) ℓ) (g' : Dev Cert.ReferenceDbranchIdeal.nD → PrngReg), Pre_KernelDbranchIdeal m →
    (∀ c : Dev Cert.KernelDbranchIdeal.nD,
      m' ((c.tc : Thread Cert.ReferenceDbranchIdeal.nD Cert.ReferenceDbranchIdeal.τ).loc Cert.ReferenceDbranchIdeal.main_arg0) = m ((c.tc : Thread Cert.KernelDbranchIdeal.nD Cert.KernelDbranchIdeal.τ).loc Cert.KernelDbranchIdeal.main_arg0)
      ∧ m' ((c.tc : Thread Cert.ReferenceDbranchIdeal.nD Cert.ReferenceDbranchIdeal.τ).loc Cert.ReferenceDbranchIdeal.main_arg1) = m ((c.tc : Thread Cert.KernelDbranchIdeal.nD Cert.KernelDbranchIdeal.τ).loc Cert.KernelDbranchIdeal.main_arg1)) →
    ∃ (v0 : (c : Dev Cert.KernelDbranchIdeal.nD) → Buf (Elt Ideal) ((c.tc : Thread Cert.KernelDbranchIdeal.nD Cert.KernelDbranchIdeal.τ).loc Cert.KernelDbranchIdeal.main_v0)),
      θ_run (Cert.KernelDbranchIdeal.defs (F := Ideal)) (onTc (τ := Cert.KernelDbranchIdeal.τ) (Cert.KernelDbranchIdeal.main (F := Ideal))) ⟨m, fun _ => 0, g⟩ (fun r => ∀ c : Dev Cert.KernelDbranchIdeal.nD,
          r.2.mem ((c.tc : Thread Cert.KernelDbranchIdeal.nD Cert.KernelDbranchIdeal.τ).loc Cert.KernelDbranchIdeal.main_v0) = v0 c
          ∧ r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
          ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1))
      ∧ θ_run (Cert.ReferenceDbranchIdeal.defs (F := Ideal)) (onTc (τ := Cert.ReferenceDbranchIdeal.τ) (Cert.ReferenceDbranchIdeal.main (F := Ideal))) ⟨m', fun _ => 0, g'⟩ (fun r => ∀ c : Dev Cert.ReferenceDbranchIdeal.nD,
          r.2.mem ((c.tc : Thread Cert.ReferenceDbranchIdeal.nD Cert.ReferenceDbranchIdeal.τ).loc Cert.ReferenceDbranchIdeal.main_v2) = v0 c
          ∧ r.2.mem ((c.tc : Thread Cert.ReferenceDbranchIdeal.nD Cert.ReferenceDbranchIdeal.τ).loc Cert.ReferenceDbranchIdeal.main_arg0) = m' ((c.tc : Thread Cert.ReferenceDbranchIdeal.nD Cert.ReferenceDbranchIdeal.τ).loc Cert.ReferenceDbranchIdeal.main_arg0)
          ∧ r.2.mem ((c.tc : Thread Cert.ReferenceDbranchIdeal.nD Cert.ReferenceDbranchIdeal.τ).loc Cert.ReferenceDbranchIdeal.main_arg1) = m' ((c.tc : Thread Cert.ReferenceDbranchIdeal.nD Cert.ReferenceDbranchIdeal.τ).loc Cert.ReferenceDbranchIdeal.main_arg1))

def preserves_KernelDmain_KernelDmainIdeal : Prop :=
  True

def algebraic_KernelDmainIdeal_ReferenceDmainIdeal [hKernelDmainIdeal : Cert.KernelDmainIdeal.Facts] [hReferenceDmainIdeal : Cert.ReferenceDmainIdeal.Facts] : Prop :=
  ∀ (m : (ℓ : Loc Cert.KernelDmainIdeal.nD Cert.KernelDmainIdeal.τ Cert.KernelDmainIdeal.sig) → Buf (Elt Ideal) ℓ) (g : Dev Cert.KernelDmainIdeal.nD → PrngReg)
    (m' : (ℓ : Loc Cert.ReferenceDmainIdeal.nD Cert.ReferenceDmainIdeal.τ Cert.ReferenceDmainIdeal.sig) → Buf (Elt Ideal) ℓ) (g' : Dev Cert.ReferenceDmainIdeal.nD → PrngReg), Pre_KernelDmainIdeal m →
    (∀ c : Dev Cert.KernelDmainIdeal.nD,
      m' ((c.tc : Thread Cert.ReferenceDmainIdeal.nD Cert.ReferenceDmainIdeal.τ).loc Cert.ReferenceDmainIdeal.main_arg0) = m ((c.tc : Thread Cert.KernelDmainIdeal.nD Cert.KernelDmainIdeal.τ).loc Cert.KernelDmainIdeal.main_arg0)
      ∧ m' ((c.tc : Thread Cert.ReferenceDmainIdeal.nD Cert.ReferenceDmainIdeal.τ).loc Cert.ReferenceDmainIdeal.main_arg1) = m ((c.tc : Thread Cert.KernelDmainIdeal.nD Cert.KernelDmainIdeal.τ).loc Cert.KernelDmainIdeal.main_arg1)) →
    ∃ (v0 : (c : Dev Cert.KernelDmainIdeal.nD) → Buf (Elt Ideal) ((c.tc : Thread Cert.KernelDmainIdeal.nD Cert.KernelDmainIdeal.τ).loc Cert.KernelDmainIdeal.main_v2)),
      θ_run (Cert.KernelDmainIdeal.defs (F := Ideal)) (onTc (τ := Cert.KernelDmainIdeal.τ) (Cert.KernelDmainIdeal.main (F := Ideal))) ⟨m, fun _ => 0, g⟩ (fun r => ∀ c : Dev Cert.KernelDmainIdeal.nD,
          r.2.mem ((c.tc : Thread Cert.KernelDmainIdeal.nD Cert.KernelDmainIdeal.τ).loc Cert.KernelDmainIdeal.main_v2) = v0 c
          ∧ r.2.mem ((c.tc : Thread Cert.KernelDmainIdeal.nD Cert.KernelDmainIdeal.τ).loc Cert.KernelDmainIdeal.main_arg0) = m ((c.tc : Thread Cert.KernelDmainIdeal.nD Cert.KernelDmainIdeal.τ).loc Cert.KernelDmainIdeal.main_arg0)
          ∧ r.2.mem ((c.tc : Thread Cert.KernelDmainIdeal.nD Cert.KernelDmainIdeal.τ).loc Cert.KernelDmainIdeal.main_arg1) = m ((c.tc : Thread Cert.KernelDmainIdeal.nD Cert.KernelDmainIdeal.τ).loc Cert.KernelDmainIdeal.main_arg1))
      ∧ θ_run (Cert.ReferenceDmainIdeal.defs (F := Ideal)) (onTc (τ := Cert.ReferenceDmainIdeal.τ) (Cert.ReferenceDmainIdeal.main (F := Ideal))) ⟨m', fun _ => 0, g'⟩ (fun r => ∀ c : Dev Cert.ReferenceDmainIdeal.nD,
          r.2.mem ((c.tc : Thread Cert.ReferenceDmainIdeal.nD Cert.ReferenceDmainIdeal.τ).loc Cert.ReferenceDmainIdeal.main_v3) = v0 c
          ∧ r.2.mem ((c.tc : Thread Cert.ReferenceDmainIdeal.nD Cert.ReferenceDmainIdeal.τ).loc Cert.ReferenceDmainIdeal.main_arg0) = m' ((c.tc : Thread Cert.ReferenceDmainIdeal.nD Cert.ReferenceDmainIdeal.τ).loc Cert.ReferenceDmainIdeal.main_arg0)
          ∧ r.2.mem ((c.tc : Thread Cert.ReferenceDmainIdeal.nD Cert.ReferenceDmainIdeal.τ).loc Cert.ReferenceDmainIdeal.main_arg1) = m' ((c.tc : Thread Cert.ReferenceDmainIdeal.nD Cert.ReferenceDmainIdeal.τ).loc Cert.ReferenceDmainIdeal.main_arg1))

def preserves_KernelDg_KernelDgIdeal : Prop :=
  True

def algebraic_KernelDgIdeal_ReferenceDgIdeal [hKernelDgIdeal : Cert.KernelDgIdeal.Facts] [hReferenceDgIdeal : Cert.ReferenceDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg)
    (m' : (ℓ : Loc Cert.ReferenceDgIdeal.nD Cert.ReferenceDgIdeal.τ Cert.ReferenceDgIdeal.sig) → Buf (Elt Ideal) ℓ) (g' : Dev Cert.ReferenceDgIdeal.nD → PrngReg), Pre_KernelDgIdeal m →
    (∀ c : Dev Cert.KernelDgIdeal.nD,
      m' ((c.tc : Thread Cert.ReferenceDgIdeal.nD Cert.ReferenceDgIdeal.τ).loc Cert.ReferenceDgIdeal.main_arg0) = m ((c.tc : Thread Cert.KernelDgIdeal.nD Cert.KernelDgIdeal.τ).loc Cert.KernelDgIdeal.main_arg0)
      ∧ m' ((c.tc : Thread Cert.ReferenceDgIdeal.nD Cert.ReferenceDgIdeal.τ).loc Cert.ReferenceDgIdeal.main_arg1) = m ((c.tc : Thread Cert.KernelDgIdeal.nD Cert.KernelDgIdeal.τ).loc Cert.KernelDgIdeal.main_arg1)) →
    ∃ (v0 : (c : Dev Cert.KernelDgIdeal.nD) → Buf (Elt Ideal) ((c.tc : Thread Cert.KernelDgIdeal.nD Cert.KernelDgIdeal.τ).loc Cert.KernelDgIdeal.main_v2)),
      θ_run (Cert.KernelDgIdeal.defs (F := Ideal)) (onTc (τ := Cert.KernelDgIdeal.τ) (Cert.KernelDgIdeal.main (F := Ideal))) ⟨m, fun _ => 0, g⟩ (fun r => ∀ c : Dev Cert.KernelDgIdeal.nD,
          r.2.mem ((c.tc : Thread Cert.KernelDgIdeal.nD Cert.KernelDgIdeal.τ).loc Cert.KernelDgIdeal.main_v2) = v0 c
          ∧ r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
          ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1))
      ∧ θ_run (Cert.ReferenceDgIdeal.defs (F := Ideal)) (onTc (τ := Cert.ReferenceDgIdeal.τ) (Cert.ReferenceDgIdeal.main (F := Ideal))) ⟨m', fun _ => 0, g'⟩ (fun r => ∀ c : Dev Cert.ReferenceDgIdeal.nD,
          r.2.mem ((c.tc : Thread Cert.ReferenceDgIdeal.nD Cert.ReferenceDgIdeal.τ).loc Cert.ReferenceDgIdeal.main_v3) = v0 c
          ∧ r.2.mem ((c.tc : Thread Cert.ReferenceDgIdeal.nD Cert.ReferenceDgIdeal.τ).loc Cert.ReferenceDgIdeal.main_arg0) = m' ((c.tc : Thread Cert.ReferenceDgIdeal.nD Cert.ReferenceDgIdeal.τ).loc Cert.ReferenceDgIdeal.main_arg0)
          ∧ r.2.mem ((c.tc : Thread Cert.ReferenceDgIdeal.nD Cert.ReferenceDgIdeal.τ).loc Cert.ReferenceDgIdeal.main_arg1) = m' ((c.tc : Thread Cert.ReferenceDgIdeal.nD Cert.ReferenceDgIdeal.τ).loc Cert.ReferenceDgIdeal.main_arg1))

def preserves_KernelMdown_KernelMdownIdeal : Prop :=
  True

def algebraic_KernelMdownIdeal_ReferenceMdownIdeal [hKernelMdownIdeal : Cert.KernelMdownIdeal.Facts] [hReferenceMdownIdeal : Cert.ReferenceMdownIdeal.Facts] : Prop :=
  ∀ (m : (ℓ : Loc Cert.KernelMdownIdeal.nD Cert.KernelMdownIdeal.τ Cert.KernelMdownIdeal.sig) → Buf (Elt Ideal) ℓ) (g : Dev Cert.KernelMdownIdeal.nD → PrngReg)
    (m' : (ℓ : Loc Cert.ReferenceMdownIdeal.nD Cert.ReferenceMdownIdeal.τ Cert.ReferenceMdownIdeal.sig) → Buf (Elt Ideal) ℓ) (g' : Dev Cert.ReferenceMdownIdeal.nD → PrngReg), Pre_KernelMdownIdeal m →
    (∀ c : Dev Cert.KernelMdownIdeal.nD,
      m' ((c.tc : Thread Cert.ReferenceMdownIdeal.nD Cert.ReferenceMdownIdeal.τ).loc Cert.ReferenceMdownIdeal.main_arg0) = m ((c.tc : Thread Cert.KernelMdownIdeal.nD Cert.KernelMdownIdeal.τ).loc Cert.KernelMdownIdeal.main_arg0)
      ∧ m' ((c.tc : Thread Cert.ReferenceMdownIdeal.nD Cert.ReferenceMdownIdeal.τ).loc Cert.ReferenceMdownIdeal.main_arg1) = m ((c.tc : Thread Cert.KernelMdownIdeal.nD Cert.KernelMdownIdeal.τ).loc Cert.KernelMdownIdeal.main_arg1)) →
    ∃ (v0 : (c : Dev Cert.KernelMdownIdeal.nD) → Buf (Elt Ideal) ((c.tc : Thread Cert.KernelMdownIdeal.nD Cert.KernelMdownIdeal.τ).loc Cert.KernelMdownIdeal.main_v2)),
      θ_run (Cert.KernelMdownIdeal.defs (F := Ideal)) (onTc (τ := Cert.KernelMdownIdeal.τ) (Cert.KernelMdownIdeal.main (F := Ideal))) ⟨m, fun _ => 0, g⟩ (fun r => ∀ c : Dev Cert.KernelMdownIdeal.nD,
          r.2.mem ((c.tc : Thread Cert.KernelMdownIdeal.nD Cert.KernelMdownIdeal.τ).loc Cert.KernelMdownIdeal.main_v2) = v0 c
          ∧ r.2.mem ((c.tc : Thread Cert.KernelMdownIdeal.nD Cert.KernelMdownIdeal.τ).loc Cert.KernelMdownIdeal.main_arg0) = m ((c.tc : Thread Cert.KernelMdownIdeal.nD Cert.KernelMdownIdeal.τ).loc Cert.KernelMdownIdeal.main_arg0)
          ∧ r.2.mem ((c.tc : Thread Cert.KernelMdownIdeal.nD Cert.KernelMdownIdeal.τ).loc Cert.KernelMdownIdeal.main_arg1) = m ((c.tc : Thread Cert.KernelMdownIdeal.nD Cert.KernelMdownIdeal.τ).loc Cert.KernelMdownIdeal.main_arg1))
      ∧ θ_run (Cert.ReferenceMdownIdeal.defs (F := Ideal)) (onTc (τ := Cert.ReferenceMdownIdeal.τ) (Cert.ReferenceMdownIdeal.main (F := Ideal))) ⟨m', fun _ => 0, g'⟩ (fun r => ∀ c : Dev Cert.ReferenceMdownIdeal.nD,
          r.2.mem ((c.tc : Thread Cert.ReferenceMdownIdeal.nD Cert.ReferenceMdownIdeal.τ).loc Cert.ReferenceMdownIdeal.main_v4) = v0 c
          ∧ r.2.mem ((c.tc : Thread Cert.ReferenceMdownIdeal.nD Cert.ReferenceMdownIdeal.τ).loc Cert.ReferenceMdownIdeal.main_arg0) = m' ((c.tc : Thread Cert.ReferenceMdownIdeal.nD Cert.ReferenceMdownIdeal.τ).loc Cert.ReferenceMdownIdeal.main_arg0)
          ∧ r.2.mem ((c.tc : Thread Cert.ReferenceMdownIdeal.nD Cert.ReferenceMdownIdeal.τ).loc Cert.ReferenceMdownIdeal.main_arg1) = m' ((c.tc : Thread Cert.ReferenceMdownIdeal.nD Cert.ReferenceMdownIdeal.τ).loc Cert.ReferenceMdownIdeal.main_arg1))

def preserves_KernelMup_KernelMupIdeal : Prop :=
  True

def algebraic_KernelMupIdeal_ReferenceMupIdeal [hKernelMupIdeal : Cert.KernelMupIdeal.Facts] [hReferenceMupIdeal : Cert.ReferenceMupIdeal.Facts] : Prop :=
  ∀ (m : (ℓ : Loc Cert.KernelMupIdeal.nD Cert.KernelMupIdeal.τ Cert.KernelMupIdeal.sig) → Buf (Elt Ideal) ℓ) (g : Dev Cert.KernelMupIdeal.nD → PrngReg)
    (m' : (ℓ : Loc Cert.ReferenceMupIdeal.nD Cert.ReferenceMupIdeal.τ Cert.ReferenceMupIdeal.sig) → Buf (Elt Ideal) ℓ) (g' : Dev Cert.ReferenceMupIdeal.nD → PrngReg), Pre_KernelMupIdeal m →
    (∀ c : Dev Cert.KernelMupIdeal.nD,
      m' ((c.tc : Thread Cert.ReferenceMupIdeal.nD Cert.ReferenceMupIdeal.τ).loc Cert.ReferenceMupIdeal.main_arg0) = m ((c.tc : Thread Cert.KernelMupIdeal.nD Cert.KernelMupIdeal.τ).loc Cert.KernelMupIdeal.main_arg0)
      ∧ m' ((c.tc : Thread Cert.ReferenceMupIdeal.nD Cert.ReferenceMupIdeal.τ).loc Cert.ReferenceMupIdeal.main_arg1) = m ((c.tc : Thread Cert.KernelMupIdeal.nD Cert.KernelMupIdeal.τ).loc Cert.KernelMupIdeal.main_arg1)) →
    ∃ (v0 : (c : Dev Cert.KernelMupIdeal.nD) → Buf (Elt Ideal) ((c.tc : Thread Cert.KernelMupIdeal.nD Cert.KernelMupIdeal.τ).loc Cert.KernelMupIdeal.main_v2)),
      θ_run (Cert.KernelMupIdeal.defs (F := Ideal)) (onTc (τ := Cert.KernelMupIdeal.τ) (Cert.KernelMupIdeal.main (F := Ideal))) ⟨m, fun _ => 0, g⟩ (fun r => ∀ c : Dev Cert.KernelMupIdeal.nD,
          r.2.mem ((c.tc : Thread Cert.KernelMupIdeal.nD Cert.KernelMupIdeal.τ).loc Cert.KernelMupIdeal.main_v2) = v0 c
          ∧ r.2.mem ((c.tc : Thread Cert.KernelMupIdeal.nD Cert.KernelMupIdeal.τ).loc Cert.KernelMupIdeal.main_arg0) = m ((c.tc : Thread Cert.KernelMupIdeal.nD Cert.KernelMupIdeal.τ).loc Cert.KernelMupIdeal.main_arg0)
          ∧ r.2.mem ((c.tc : Thread Cert.KernelMupIdeal.nD Cert.KernelMupIdeal.τ).loc Cert.KernelMupIdeal.main_arg1) = m ((c.tc : Thread Cert.KernelMupIdeal.nD Cert.KernelMupIdeal.τ).loc Cert.KernelMupIdeal.main_arg1))
      ∧ θ_run (Cert.ReferenceMupIdeal.defs (F := Ideal)) (onTc (τ := Cert.ReferenceMupIdeal.τ) (Cert.ReferenceMupIdeal.main (F := Ideal))) ⟨m', fun _ => 0, g'⟩ (fun r => ∀ c : Dev Cert.ReferenceMupIdeal.nD,
          r.2.mem ((c.tc : Thread Cert.ReferenceMupIdeal.nD Cert.ReferenceMupIdeal.τ).loc Cert.ReferenceMupIdeal.main_v4) = v0 c
          ∧ r.2.mem ((c.tc : Thread Cert.ReferenceMupIdeal.nD Cert.ReferenceMupIdeal.τ).loc Cert.ReferenceMupIdeal.main_arg0) = m' ((c.tc : Thread Cert.ReferenceMupIdeal.nD Cert.ReferenceMupIdeal.τ).loc Cert.ReferenceMupIdeal.main_arg0)
          ∧ r.2.mem ((c.tc : Thread Cert.ReferenceMupIdeal.nD Cert.ReferenceMupIdeal.τ).loc Cert.ReferenceMupIdeal.main_arg1) = m' ((c.tc : Thread Cert.ReferenceMupIdeal.nD Cert.ReferenceMupIdeal.τ).loc Cert.ReferenceMupIdeal.main_arg1))

def preserves_KernelMout_KernelMoutIdeal : Prop :=
  True

def algebraic_KernelMoutIdeal_ReferenceMoutIdeal [hKernelMoutIdeal : Cert.KernelMoutIdeal.Facts] [hReferenceMoutIdeal : Cert.ReferenceMoutIdeal.Facts] : Prop :=
  ∀ (m : (ℓ : Loc Cert.KernelMoutIdeal.nD Cert.KernelMoutIdeal.τ Cert.KernelMoutIdeal.sig) → Buf (Elt Ideal) ℓ) (g : Dev Cert.KernelMoutIdeal.nD → PrngReg)
    (m' : (ℓ : Loc Cert.ReferenceMoutIdeal.nD Cert.ReferenceMoutIdeal.τ Cert.ReferenceMoutIdeal.sig) → Buf (Elt Ideal) ℓ) (g' : Dev Cert.ReferenceMoutIdeal.nD → PrngReg), Pre_KernelMoutIdeal m →
    (∀ c : Dev Cert.KernelMoutIdeal.nD,
      m' ((c.tc : Thread Cert.ReferenceMoutIdeal.nD Cert.ReferenceMoutIdeal.τ).loc Cert.ReferenceMoutIdeal.main_arg0) = m ((c.tc : Thread Cert.KernelMoutIdeal.nD Cert.KernelMoutIdeal.τ).loc Cert.KernelMoutIdeal.main_arg0)
      ∧ m' ((c.tc : Thread Cert.ReferenceMoutIdeal.nD Cert.ReferenceMoutIdeal.τ).loc Cert.ReferenceMoutIdeal.main_arg1) = m ((c.tc : Thread Cert.KernelMoutIdeal.nD Cert.KernelMoutIdeal.τ).loc Cert.KernelMoutIdeal.main_arg1)) →
    ∃ (v0 : (c : Dev Cert.KernelMoutIdeal.nD) → Buf (Elt Ideal) ((c.tc : Thread Cert.KernelMoutIdeal.nD Cert.KernelMoutIdeal.τ).loc Cert.KernelMoutIdeal.main_v2)),
      θ_run (Cert.KernelMoutIdeal.defs (F := Ideal)) (onTc (τ := Cert.KernelMoutIdeal.τ) (Cert.KernelMoutIdeal.main (F := Ideal))) ⟨m, fun _ => 0, g⟩ (fun r => ∀ c : Dev Cert.KernelMoutIdeal.nD,
          r.2.mem ((c.tc : Thread Cert.KernelMoutIdeal.nD Cert.KernelMoutIdeal.τ).loc Cert.KernelMoutIdeal.main_v2) = v0 c
          ∧ r.2.mem ((c.tc : Thread Cert.KernelMoutIdeal.nD Cert.KernelMoutIdeal.τ).loc Cert.KernelMoutIdeal.main_arg0) = m ((c.tc : Thread Cert.KernelMoutIdeal.nD Cert.KernelMoutIdeal.τ).loc Cert.KernelMoutIdeal.main_arg0)
          ∧ r.2.mem ((c.tc : Thread Cert.KernelMoutIdeal.nD Cert.KernelMoutIdeal.τ).loc Cert.KernelMoutIdeal.main_arg1) = m ((c.tc : Thread Cert.KernelMoutIdeal.nD Cert.KernelMoutIdeal.τ).loc Cert.KernelMoutIdeal.main_arg1))
      ∧ θ_run (Cert.ReferenceMoutIdeal.defs (F := Ideal)) (onTc (τ := Cert.ReferenceMoutIdeal.τ) (Cert.ReferenceMoutIdeal.main (F := Ideal))) ⟨m', fun _ => 0, g'⟩ (fun r => ∀ c : Dev Cert.ReferenceMoutIdeal.nD,
          r.2.mem ((c.tc : Thread Cert.ReferenceMoutIdeal.nD Cert.ReferenceMoutIdeal.τ).loc Cert.ReferenceMoutIdeal.main_v4) = v0 c
          ∧ r.2.mem ((c.tc : Thread Cert.ReferenceMoutIdeal.nD Cert.ReferenceMoutIdeal.τ).loc Cert.ReferenceMoutIdeal.main_arg0) = m' ((c.tc : Thread Cert.ReferenceMoutIdeal.nD Cert.ReferenceMoutIdeal.τ).loc Cert.ReferenceMoutIdeal.main_arg0)
          ∧ r.2.mem ((c.tc : Thread Cert.ReferenceMoutIdeal.nD Cert.ReferenceMoutIdeal.τ).loc Cert.ReferenceMoutIdeal.main_arg1) = m' ((c.tc : Thread Cert.ReferenceMoutIdeal.nD Cert.ReferenceMoutIdeal.τ).loc Cert.ReferenceMoutIdeal.main_arg1))

def preserves_KernelMbranch_KernelMbranchIdeal : Prop :=
  True

def algebraic_KernelMbranchIdeal_ReferenceMbranchIdeal [hKernelMbranchIdeal : Cert.KernelMbranchIdeal.Facts] [hReferenceMbranchIdeal : Cert.ReferenceMbranchIdeal.Facts] : Prop :=
  ∀ (m : (ℓ : Loc Cert.KernelMbranchIdeal.nD Cert.KernelMbranchIdeal.τ Cert.KernelMbranchIdeal.sig) → Buf (Elt Ideal) ℓ) (g : Dev Cert.KernelMbranchIdeal.nD → PrngReg)
    (m' : (ℓ : Loc Cert.ReferenceMbranchIdeal.nD Cert.ReferenceMbranchIdeal.τ Cert.ReferenceMbranchIdeal.sig) → Buf (Elt Ideal) ℓ) (g' : Dev Cert.ReferenceMbranchIdeal.nD → PrngReg), Pre_KernelMbranchIdeal m →
    (∀ c : Dev Cert.KernelMbranchIdeal.nD,
      m' ((c.tc : Thread Cert.ReferenceMbranchIdeal.nD Cert.ReferenceMbranchIdeal.τ).loc Cert.ReferenceMbranchIdeal.main_arg0) = m ((c.tc : Thread Cert.KernelMbranchIdeal.nD Cert.KernelMbranchIdeal.τ).loc Cert.KernelMbranchIdeal.main_arg0)
      ∧ m' ((c.tc : Thread Cert.ReferenceMbranchIdeal.nD Cert.ReferenceMbranchIdeal.τ).loc Cert.ReferenceMbranchIdeal.main_arg1) = m ((c.tc : Thread Cert.KernelMbranchIdeal.nD Cert.KernelMbranchIdeal.τ).loc Cert.KernelMbranchIdeal.main_arg1)) →
    ∃ (v0 : (c : Dev Cert.KernelMbranchIdeal.nD) → Buf (Elt Ideal) ((c.tc : Thread Cert.KernelMbranchIdeal.nD Cert.KernelMbranchIdeal.τ).loc Cert.KernelMbranchIdeal.main_v0)),
      θ_run (Cert.KernelMbranchIdeal.defs (F := Ideal)) (onTc (τ := Cert.KernelMbranchIdeal.τ) (Cert.KernelMbranchIdeal.main (F := Ideal))) ⟨m, fun _ => 0, g⟩ (fun r => ∀ c : Dev Cert.KernelMbranchIdeal.nD,
          r.2.mem ((c.tc : Thread Cert.KernelMbranchIdeal.nD Cert.KernelMbranchIdeal.τ).loc Cert.KernelMbranchIdeal.main_v0) = v0 c
          ∧ r.2.mem ((c.tc : Thread Cert.KernelMbranchIdeal.nD Cert.KernelMbranchIdeal.τ).loc Cert.KernelMbranchIdeal.main_arg0) = m ((c.tc : Thread Cert.KernelMbranchIdeal.nD Cert.KernelMbranchIdeal.τ).loc Cert.KernelMbranchIdeal.main_arg0)
          ∧ r.2.mem ((c.tc : Thread Cert.KernelMbranchIdeal.nD Cert.KernelMbranchIdeal.τ).loc Cert.KernelMbranchIdeal.main_arg1) = m ((c.tc : Thread Cert.KernelMbranchIdeal.nD Cert.KernelMbranchIdeal.τ).loc Cert.KernelMbranchIdeal.main_arg1))
      ∧ θ_run (Cert.ReferenceMbranchIdeal.defs (F := Ideal)) (onTc (τ := Cert.ReferenceMbranchIdeal.τ) (Cert.ReferenceMbranchIdeal.main (F := Ideal))) ⟨m', fun _ => 0, g'⟩ (fun r => ∀ c : Dev Cert.ReferenceMbranchIdeal.nD,
          r.2.mem ((c.tc : Thread Cert.ReferenceMbranchIdeal.nD Cert.ReferenceMbranchIdeal.τ).loc Cert.ReferenceMbranchIdeal.main_v3) = v0 c
          ∧ r.2.mem ((c.tc : Thread Cert.ReferenceMbranchIdeal.nD Cert.ReferenceMbranchIdeal.τ).loc Cert.ReferenceMbranchIdeal.main_arg0) = m' ((c.tc : Thread Cert.ReferenceMbranchIdeal.nD Cert.ReferenceMbranchIdeal.τ).loc Cert.ReferenceMbranchIdeal.main_arg0)
          ∧ r.2.mem ((c.tc : Thread Cert.ReferenceMbranchIdeal.nD Cert.ReferenceMbranchIdeal.τ).loc Cert.ReferenceMbranchIdeal.main_arg1) = m' ((c.tc : Thread Cert.ReferenceMbranchIdeal.nD Cert.ReferenceMbranchIdeal.τ).loc Cert.ReferenceMbranchIdeal.main_arg1))

def preserves_KernelMmain_KernelMmainIdeal : Prop :=
  True

def algebraic_KernelMmainIdeal_ReferenceMmainIdeal [hKernelMmainIdeal : Cert.KernelMmainIdeal.Facts] [hReferenceMmainIdeal : Cert.ReferenceMmainIdeal.Facts] : Prop :=
  ∀ (m : (ℓ : Loc Cert.KernelMmainIdeal.nD Cert.KernelMmainIdeal.τ Cert.KernelMmainIdeal.sig) → Buf (Elt Ideal) ℓ) (g : Dev Cert.KernelMmainIdeal.nD → PrngReg)
    (m' : (ℓ : Loc Cert.ReferenceMmainIdeal.nD Cert.ReferenceMmainIdeal.τ Cert.ReferenceMmainIdeal.sig) → Buf (Elt Ideal) ℓ) (g' : Dev Cert.ReferenceMmainIdeal.nD → PrngReg), Pre_KernelMmainIdeal m →
    (∀ c : Dev Cert.KernelMmainIdeal.nD,
      m' ((c.tc : Thread Cert.ReferenceMmainIdeal.nD Cert.ReferenceMmainIdeal.τ).loc Cert.ReferenceMmainIdeal.main_arg0) = m ((c.tc : Thread Cert.KernelMmainIdeal.nD Cert.KernelMmainIdeal.τ).loc Cert.KernelMmainIdeal.main_arg0)
      ∧ m' ((c.tc : Thread Cert.ReferenceMmainIdeal.nD Cert.ReferenceMmainIdeal.τ).loc Cert.ReferenceMmainIdeal.main_arg1) = m ((c.tc : Thread Cert.KernelMmainIdeal.nD Cert.KernelMmainIdeal.τ).loc Cert.KernelMmainIdeal.main_arg1)) →
    ∃ (v0 : (c : Dev Cert.KernelMmainIdeal.nD) → Buf (Elt Ideal) ((c.tc : Thread Cert.KernelMmainIdeal.nD Cert.KernelMmainIdeal.τ).loc Cert.KernelMmainIdeal.main_v2)),
      θ_run (Cert.KernelMmainIdeal.defs (F := Ideal)) (onTc (τ := Cert.KernelMmainIdeal.τ) (Cert.KernelMmainIdeal.main (F := Ideal))) ⟨m, fun _ => 0, g⟩ (fun r => ∀ c : Dev Cert.KernelMmainIdeal.nD,
          r.2.mem ((c.tc : Thread Cert.KernelMmainIdeal.nD Cert.KernelMmainIdeal.τ).loc Cert.KernelMmainIdeal.main_v2) = v0 c
          ∧ r.2.mem ((c.tc : Thread Cert.KernelMmainIdeal.nD Cert.KernelMmainIdeal.τ).loc Cert.KernelMmainIdeal.main_arg0) = m ((c.tc : Thread Cert.KernelMmainIdeal.nD Cert.KernelMmainIdeal.τ).loc Cert.KernelMmainIdeal.main_arg0)
          ∧ r.2.mem ((c.tc : Thread Cert.KernelMmainIdeal.nD Cert.KernelMmainIdeal.τ).loc Cert.KernelMmainIdeal.main_arg1) = m ((c.tc : Thread Cert.KernelMmainIdeal.nD Cert.KernelMmainIdeal.τ).loc Cert.KernelMmainIdeal.main_arg1))
      ∧ θ_run (Cert.ReferenceMmainIdeal.defs (F := Ideal)) (onTc (τ := Cert.ReferenceMmainIdeal.τ) (Cert.ReferenceMmainIdeal.main (F := Ideal))) ⟨m', fun _ => 0, g'⟩ (fun r => ∀ c : Dev Cert.ReferenceMmainIdeal.nD,
          r.2.mem ((c.tc : Thread Cert.ReferenceMmainIdeal.nD Cert.ReferenceMmainIdeal.τ).loc Cert.ReferenceMmainIdeal.main_v4) = v0 c
          ∧ r.2.mem ((c.tc : Thread Cert.ReferenceMmainIdeal.nD Cert.ReferenceMmainIdeal.τ).loc Cert.ReferenceMmainIdeal.main_arg0) = m' ((c.tc : Thread Cert.ReferenceMmainIdeal.nD Cert.ReferenceMmainIdeal.τ).loc Cert.ReferenceMmainIdeal.main_arg0)
          ∧ r.2.mem ((c.tc : Thread Cert.ReferenceMmainIdeal.nD Cert.ReferenceMmainIdeal.τ).loc Cert.ReferenceMmainIdeal.main_arg1) = m' ((c.tc : Thread Cert.ReferenceMmainIdeal.nD Cert.ReferenceMmainIdeal.τ).loc Cert.ReferenceMmainIdeal.main_arg1))

def preserves_KernelMg_KernelMgIdeal : Prop :=
  True

def algebraic_KernelMgIdeal_ReferenceMgIdeal [hKernelMgIdeal : Cert.KernelMgIdeal.Facts] [hReferenceMgIdeal : Cert.ReferenceMgIdeal.Facts] : Prop :=
  ∀ (m : (ℓ : Loc Cert.KernelMgIdeal.nD Cert.KernelMgIdeal.τ Cert.KernelMgIdeal.sig) → Buf (Elt Ideal) ℓ) (g : Dev Cert.KernelMgIdeal.nD → PrngReg)
    (m' : (ℓ : Loc Cert.ReferenceMgIdeal.nD Cert.ReferenceMgIdeal.τ Cert.ReferenceMgIdeal.sig) → Buf (Elt Ideal) ℓ) (g' : Dev Cert.ReferenceMgIdeal.nD → PrngReg), Pre_KernelMgIdeal m →
    (∀ c : Dev Cert.KernelMgIdeal.nD,
      m' ((c.tc : Thread Cert.ReferenceMgIdeal.nD Cert.ReferenceMgIdeal.τ).loc Cert.ReferenceMgIdeal.main_arg0) = m ((c.tc : Thread Cert.KernelMgIdeal.nD Cert.KernelMgIdeal.τ).loc Cert.KernelMgIdeal.main_arg0)
      ∧ m' ((c.tc : Thread Cert.ReferenceMgIdeal.nD Cert.ReferenceMgIdeal.τ).loc Cert.ReferenceMgIdeal.main_arg1) = m ((c.tc : Thread Cert.KernelMgIdeal.nD Cert.KernelMgIdeal.τ).loc Cert.KernelMgIdeal.main_arg1)) →
    ∃ (v0 : (c : Dev Cert.KernelMgIdeal.nD) → Buf (Elt Ideal) ((c.tc : Thread Cert.KernelMgIdeal.nD Cert.KernelMgIdeal.τ).loc Cert.KernelMgIdeal.main_v2)),
      θ_run (Cert.KernelMgIdeal.defs (F := Ideal)) (onTc (τ := Cert.KernelMgIdeal.τ) (Cert.KernelMgIdeal.main (F := Ideal))) ⟨m, fun _ => 0, g⟩ (fun r => ∀ c : Dev Cert.KernelMgIdeal.nD,
          r.2.mem ((c.tc : Thread Cert.KernelMgIdeal.nD Cert.KernelMgIdeal.τ).loc Cert.KernelMgIdeal.main_v2) = v0 c
          ∧ r.2.mem ((c.tc : Thread Cert.KernelMgIdeal.nD Cert.KernelMgIdeal.τ).loc Cert.KernelMgIdeal.main_arg0) = m ((c.tc : Thread Cert.KernelMgIdeal.nD Cert.KernelMgIdeal.τ).loc Cert.KernelMgIdeal.main_arg0)
          ∧ r.2.mem ((c.tc : Thread Cert.KernelMgIdeal.nD Cert.KernelMgIdeal.τ).loc Cert.KernelMgIdeal.main_arg1) = m ((c.tc : Thread Cert.KernelMgIdeal.nD Cert.KernelMgIdeal.τ).loc Cert.KernelMgIdeal.main_arg1))
      ∧ θ_run (Cert.ReferenceMgIdeal.defs (F := Ideal)) (onTc (τ := Cert.ReferenceMgIdeal.τ) (Cert.ReferenceMgIdeal.main (F := Ideal))) ⟨m', fun _ => 0, g'⟩ (fun r => ∀ c : Dev Cert.ReferenceMgIdeal.nD,
          r.2.mem ((c.tc : Thread Cert.ReferenceMgIdeal.nD Cert.ReferenceMgIdeal.τ).loc Cert.ReferenceMgIdeal.main_v4) = v0 c
          ∧ r.2.mem ((c.tc : Thread Cert.ReferenceMgIdeal.nD Cert.ReferenceMgIdeal.τ).loc Cert.ReferenceMgIdeal.main_arg0) = m' ((c.tc : Thread Cert.ReferenceMgIdeal.nD Cert.ReferenceMgIdeal.τ).loc Cert.ReferenceMgIdeal.main_arg0)
          ∧ r.2.mem ((c.tc : Thread Cert.ReferenceMgIdeal.nD Cert.ReferenceMgIdeal.τ).loc Cert.ReferenceMgIdeal.main_arg1) = m' ((c.tc : Thread Cert.ReferenceMgIdeal.nD Cert.ReferenceMgIdeal.τ).loc Cert.ReferenceMgIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)) →
    ∃ (v0 : (c : Dev Cert.Kernel1Ideal.nD) → Buf (Elt Ideal) ((c.tc : Thread Cert.Kernel1Ideal.nD Cert.Kernel1Ideal.τ).loc Cert.Kernel1Ideal.main_v0_0)) (v1 : (c : Dev Cert.Kernel1Ideal.nD) → Buf (Elt Ideal) ((c.tc : Thread Cert.Kernel1Ideal.nD Cert.Kernel1Ideal.τ).loc Cert.Kernel1Ideal.main_v0_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0_0) = v0 c
          ∧ r.2.mem ((c.tc : Thread Cert.Kernel1Ideal.nD Cert.Kernel1Ideal.τ).loc Cert.Kernel1Ideal.main_v0_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v108) = v0 c
          ∧ r.2.mem ((c.tc : Thread Cert.Reference1Ideal.nD Cert.Reference1Ideal.τ).loc Cert.Reference1Ideal.main_v107) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6))

def preserves_KernelAmod_KernelAmodIdeal : Prop :=
  IdealRules.named_const.Statement Cert.KernelAmodIdeal.κ "inv_bias1" .f32 0x3FC48605#32 (((5463681 / 8388608)⁻¹ : ℝ) : EReal)
  ∧ IdealRules.named_const.Statement Cert.KernelAmodIdeal.κ "inv_bias2" .f32 0x42C8E6D3#32 (((2672307 / 268435456)⁻¹ : ℝ) : EReal)

def algebraic_KernelAmodIdeal_ReferenceAmodIdeal [hKernelAmodIdeal : Cert.KernelAmodIdeal.Facts] [hReferenceAmodIdeal : Cert.ReferenceAmodIdeal.Facts] : Prop :=
  ∀ (m : (ℓ : Loc Cert.KernelAmodIdeal.nD Cert.KernelAmodIdeal.τ Cert.KernelAmodIdeal.sig) → Buf (Elt Ideal) ℓ) (g : Dev Cert.KernelAmodIdeal.nD → PrngReg)
    (m' : (ℓ : Loc Cert.ReferenceAmodIdeal.nD Cert.ReferenceAmodIdeal.τ Cert.ReferenceAmodIdeal.sig) → Buf (Elt Ideal) ℓ) (g' : Dev Cert.ReferenceAmodIdeal.nD → PrngReg), Pre_KernelAmodIdeal m →
    (∀ c : Dev Cert.KernelAmodIdeal.nD,
      m' ((c.tc : Thread Cert.ReferenceAmodIdeal.nD Cert.ReferenceAmodIdeal.τ).loc Cert.ReferenceAmodIdeal.main_arg0) = m ((c.tc : Thread Cert.KernelAmodIdeal.nD Cert.KernelAmodIdeal.τ).loc Cert.KernelAmodIdeal.main_arg0)
      ∧ m' ((c.tc : Thread Cert.ReferenceAmodIdeal.nD Cert.ReferenceAmodIdeal.τ).loc Cert.ReferenceAmodIdeal.main_arg1) = m ((c.tc : Thread Cert.KernelAmodIdeal.nD Cert.KernelAmodIdeal.τ).loc Cert.KernelAmodIdeal.main_arg1)
      ∧ m' ((c.tc : Thread Cert.ReferenceAmodIdeal.nD Cert.ReferenceAmodIdeal.τ).loc Cert.ReferenceAmodIdeal.main_arg2) = m ((c.tc : Thread Cert.KernelAmodIdeal.nD Cert.KernelAmodIdeal.τ).loc Cert.KernelAmodIdeal.main_arg2)
      ∧ m' ((c.tc : Thread Cert.ReferenceAmodIdeal.nD Cert.ReferenceAmodIdeal.τ).loc Cert.ReferenceAmodIdeal.main_arg3) = m ((c.tc : Thread Cert.KernelAmodIdeal.nD Cert.KernelAmodIdeal.τ).loc Cert.KernelAmodIdeal.main_arg3)) →
    ∃ (v0 : (c : Dev Cert.KernelAmodIdeal.nD) → Buf (Elt Ideal) ((c.tc : Thread Cert.KernelAmodIdeal.nD Cert.KernelAmodIdeal.τ).loc Cert.KernelAmodIdeal.main_v0_0)) (v1 : (c : Dev Cert.KernelAmodIdeal.nD) → Buf (Elt Ideal) ((c.tc : Thread Cert.KernelAmodIdeal.nD Cert.KernelAmodIdeal.τ).loc Cert.KernelAmodIdeal.main_v0_1)) (v2 : (c : Dev Cert.KernelAmodIdeal.nD) → Buf (Elt Ideal) ((c.tc : Thread Cert.KernelAmodIdeal.nD Cert.KernelAmodIdeal.τ).loc Cert.KernelAmodIdeal.main_v0_2)),
      θ_run (Cert.KernelAmodIdeal.defs (F := Ideal)) (onTc (τ := Cert.KernelAmodIdeal.τ) (Cert.KernelAmodIdeal.main (F := Ideal))) ⟨m, fun _ => 0, g⟩ (fun r => ∀ c : Dev Cert.KernelAmodIdeal.nD,
          r.2.mem ((c.tc : Thread Cert.KernelAmodIdeal.nD Cert.KernelAmodIdeal.τ).loc Cert.KernelAmodIdeal.main_v0_0) = v0 c
          ∧ r.2.mem ((c.tc : Thread Cert.KernelAmodIdeal.nD Cert.KernelAmodIdeal.τ).loc Cert.KernelAmodIdeal.main_v0_1) = v1 c
          ∧ r.2.mem ((c.tc : Thread Cert.KernelAmodIdeal.nD Cert.KernelAmodIdeal.τ).loc Cert.KernelAmodIdeal.main_v0_2) = v2 c
          ∧ r.2.mem ((c.tc : Thread Cert.KernelAmodIdeal.nD Cert.KernelAmodIdeal.τ).loc Cert.KernelAmodIdeal.main_arg0) = m ((c.tc : Thread Cert.KernelAmodIdeal.nD Cert.KernelAmodIdeal.τ).loc Cert.KernelAmodIdeal.main_arg0)
          ∧ r.2.mem ((c.tc : Thread Cert.KernelAmodIdeal.nD Cert.KernelAmodIdeal.τ).loc Cert.KernelAmodIdeal.main_arg1) = m ((c.tc : Thread Cert.KernelAmodIdeal.nD Cert.KernelAmodIdeal.τ).loc Cert.KernelAmodIdeal.main_arg1)
          ∧ r.2.mem ((c.tc : Thread Cert.KernelAmodIdeal.nD Cert.KernelAmodIdeal.τ).loc Cert.KernelAmodIdeal.main_arg2) = m ((c.tc : Thread Cert.KernelAmodIdeal.nD Cert.KernelAmodIdeal.τ).loc Cert.KernelAmodIdeal.main_arg2)
          ∧ r.2.mem ((c.tc : Thread Cert.KernelAmodIdeal.nD Cert.KernelAmodIdeal.τ).loc Cert.KernelAmodIdeal.main_arg3) = m ((c.tc : Thread Cert.KernelAmodIdeal.nD Cert.KernelAmodIdeal.τ).loc Cert.KernelAmodIdeal.main_arg3))
      ∧ θ_run (Cert.ReferenceAmodIdeal.defs (F := Ideal)) (onTc (τ := Cert.ReferenceAmodIdeal.τ) (Cert.ReferenceAmodIdeal.main (F := Ideal))) ⟨m', fun _ => 0, g'⟩ (fun r => ∀ c : Dev Cert.ReferenceAmodIdeal.nD,
          r.2.mem ((c.tc : Thread Cert.ReferenceAmodIdeal.nD Cert.ReferenceAmodIdeal.τ).loc Cert.ReferenceAmodIdeal.main_v23) = v0 c
          ∧ r.2.mem ((c.tc : Thread Cert.ReferenceAmodIdeal.nD Cert.ReferenceAmodIdeal.τ).loc Cert.ReferenceAmodIdeal.main_v4) = v1 c
          ∧ r.2.mem ((c.tc : Thread Cert.ReferenceAmodIdeal.nD Cert.ReferenceAmodIdeal.τ).loc Cert.ReferenceAmodIdeal.main_v10) = v2 c
          ∧ r.2.mem ((c.tc : Thread Cert.ReferenceAmodIdeal.nD Cert.ReferenceAmodIdeal.τ).loc Cert.ReferenceAmodIdeal.main_arg0) = m' ((c.tc : Thread Cert.ReferenceAmodIdeal.nD Cert.ReferenceAmodIdeal.τ).loc Cert.ReferenceAmodIdeal.main_arg0)
          ∧ r.2.mem ((c.tc : Thread Cert.ReferenceAmodIdeal.nD Cert.ReferenceAmodIdeal.τ).loc Cert.ReferenceAmodIdeal.main_arg1) = m' ((c.tc : Thread Cert.ReferenceAmodIdeal.nD Cert.ReferenceAmodIdeal.τ).loc Cert.ReferenceAmodIdeal.main_arg1)
          ∧ r.2.mem ((c.tc : Thread Cert.ReferenceAmodIdeal.nD Cert.ReferenceAmodIdeal.τ).loc Cert.ReferenceAmodIdeal.main_arg2) = m' ((c.tc : Thread Cert.ReferenceAmodIdeal.nD Cert.ReferenceAmodIdeal.τ).loc Cert.ReferenceAmodIdeal.main_arg2)
          ∧ r.2.mem ((c.tc : Thread Cert.ReferenceAmodIdeal.nD Cert.ReferenceAmodIdeal.τ).loc Cert.ReferenceAmodIdeal.main_arg3) = m' ((c.tc : Thread Cert.ReferenceAmodIdeal.nD Cert.ReferenceAmodIdeal.τ).loc Cert.ReferenceAmodIdeal.main_arg3))

def preserves_KernelAin_KernelAinIdeal : Prop :=
  IdealRules.named_const.Statement Cert.KernelAinIdeal.κ "inv_bias1" .f32 0x3FC48605#32 (((5463681 / 8388608)⁻¹ : ℝ) : EReal)
  ∧ IdealRules.named_const.Statement Cert.KernelAinIdeal.κ "inv_bias2" .f32 0x42C8E6D3#32 (((2672307 / 268435456)⁻¹ : ℝ) : EReal)

def algebraic_KernelAinIdeal_ReferenceAinIdeal [hKernelAinIdeal : Cert.KernelAinIdeal.Facts] [hReferenceAinIdeal : Cert.ReferenceAinIdeal.Facts] : Prop :=
  ∀ (m : (ℓ : Loc Cert.KernelAinIdeal.nD Cert.KernelAinIdeal.τ Cert.KernelAinIdeal.sig) → Buf (Elt Ideal) ℓ) (g : Dev Cert.KernelAinIdeal.nD → PrngReg)
    (m' : (ℓ : Loc Cert.ReferenceAinIdeal.nD Cert.ReferenceAinIdeal.τ Cert.ReferenceAinIdeal.sig) → Buf (Elt Ideal) ℓ) (g' : Dev Cert.ReferenceAinIdeal.nD → PrngReg), Pre_KernelAinIdeal m →
    (∀ c : Dev Cert.KernelAinIdeal.nD,
      m' ((c.tc : Thread Cert.ReferenceAinIdeal.nD Cert.ReferenceAinIdeal.τ).loc Cert.ReferenceAinIdeal.main_arg0) = m ((c.tc : Thread Cert.KernelAinIdeal.nD Cert.KernelAinIdeal.τ).loc Cert.KernelAinIdeal.main_arg0)
      ∧ m' ((c.tc : Thread Cert.ReferenceAinIdeal.nD Cert.ReferenceAinIdeal.τ).loc Cert.ReferenceAinIdeal.main_arg1) = m ((c.tc : Thread Cert.KernelAinIdeal.nD Cert.KernelAinIdeal.τ).loc Cert.KernelAinIdeal.main_arg1)
      ∧ m' ((c.tc : Thread Cert.ReferenceAinIdeal.nD Cert.ReferenceAinIdeal.τ).loc Cert.ReferenceAinIdeal.main_arg2) = m ((c.tc : Thread Cert.KernelAinIdeal.nD Cert.KernelAinIdeal.τ).loc Cert.KernelAinIdeal.main_arg2)
      ∧ m' ((c.tc : Thread Cert.ReferenceAinIdeal.nD Cert.ReferenceAinIdeal.τ).loc Cert.ReferenceAinIdeal.main_arg3) = m ((c.tc : Thread Cert.KernelAinIdeal.nD Cert.KernelAinIdeal.τ).loc Cert.KernelAinIdeal.main_arg3)) →
    ∃ (v0 : (c : Dev Cert.KernelAinIdeal.nD) → Buf (Elt Ideal) ((c.tc : Thread Cert.KernelAinIdeal.nD Cert.KernelAinIdeal.τ).loc Cert.KernelAinIdeal.main_v0_0)) (v1 : (c : Dev Cert.KernelAinIdeal.nD) → Buf (Elt Ideal) ((c.tc : Thread Cert.KernelAinIdeal.nD Cert.KernelAinIdeal.τ).loc Cert.KernelAinIdeal.main_v0_1)) (v2 : (c : Dev Cert.KernelAinIdeal.nD) → Buf (Elt Ideal) ((c.tc : Thread Cert.KernelAinIdeal.nD Cert.KernelAinIdeal.τ).loc Cert.KernelAinIdeal.main_v0_2)),
      θ_run (Cert.KernelAinIdeal.defs (F := Ideal)) (onTc (τ := Cert.KernelAinIdeal.τ) (Cert.KernelAinIdeal.main (F := Ideal))) ⟨m, fun _ => 0, g⟩ (fun r => ∀ c : Dev Cert.KernelAinIdeal.nD,
          r.2.mem ((c.tc : Thread Cert.KernelAinIdeal.nD Cert.KernelAinIdeal.τ).loc Cert.KernelAinIdeal.main_v0_0) = v0 c
          ∧ r.2.mem ((c.tc : Thread Cert.KernelAinIdeal.nD Cert.KernelAinIdeal.τ).loc Cert.KernelAinIdeal.main_v0_1) = v1 c
          ∧ r.2.mem ((c.tc : Thread Cert.KernelAinIdeal.nD Cert.KernelAinIdeal.τ).loc Cert.KernelAinIdeal.main_v0_2) = v2 c
          ∧ r.2.mem ((c.tc : Thread Cert.KernelAinIdeal.nD Cert.KernelAinIdeal.τ).loc Cert.KernelAinIdeal.main_arg0) = m ((c.tc : Thread Cert.KernelAinIdeal.nD Cert.KernelAinIdeal.τ).loc Cert.KernelAinIdeal.main_arg0)
          ∧ r.2.mem ((c.tc : Thread Cert.KernelAinIdeal.nD Cert.KernelAinIdeal.τ).loc Cert.KernelAinIdeal.main_arg1) = m ((c.tc : Thread Cert.KernelAinIdeal.nD Cert.KernelAinIdeal.τ).loc Cert.KernelAinIdeal.main_arg1)
          ∧ r.2.mem ((c.tc : Thread Cert.KernelAinIdeal.nD Cert.KernelAinIdeal.τ).loc Cert.KernelAinIdeal.main_arg2) = m ((c.tc : Thread Cert.KernelAinIdeal.nD Cert.KernelAinIdeal.τ).loc Cert.KernelAinIdeal.main_arg2)
          ∧ r.2.mem ((c.tc : Thread Cert.KernelAinIdeal.nD Cert.KernelAinIdeal.τ).loc Cert.KernelAinIdeal.main_arg3) = m ((c.tc : Thread Cert.KernelAinIdeal.nD Cert.KernelAinIdeal.τ).loc Cert.KernelAinIdeal.main_arg3))
      ∧ θ_run (Cert.ReferenceAinIdeal.defs (F := Ideal)) (onTc (τ := Cert.ReferenceAinIdeal.τ) (Cert.ReferenceAinIdeal.main (F := Ideal))) ⟨m', fun _ => 0, g'⟩ (fun r => ∀ c : Dev Cert.ReferenceAinIdeal.nD,
          r.2.mem ((c.tc : Thread Cert.ReferenceAinIdeal.nD Cert.ReferenceAinIdeal.τ).loc Cert.ReferenceAinIdeal.main_v23) = v0 c
          ∧ r.2.mem ((c.tc : Thread Cert.ReferenceAinIdeal.nD Cert.ReferenceAinIdeal.τ).loc Cert.ReferenceAinIdeal.main_v4) = v1 c
          ∧ r.2.mem ((c.tc : Thread Cert.ReferenceAinIdeal.nD Cert.ReferenceAinIdeal.τ).loc Cert.ReferenceAinIdeal.main_v10) = v2 c
          ∧ r.2.mem ((c.tc : Thread Cert.ReferenceAinIdeal.nD Cert.ReferenceAinIdeal.τ).loc Cert.ReferenceAinIdeal.main_arg0) = m' ((c.tc : Thread Cert.ReferenceAinIdeal.nD Cert.ReferenceAinIdeal.τ).loc Cert.ReferenceAinIdeal.main_arg0)
          ∧ r.2.mem ((c.tc : Thread Cert.ReferenceAinIdeal.nD Cert.ReferenceAinIdeal.τ).loc Cert.ReferenceAinIdeal.main_arg1) = m' ((c.tc : Thread Cert.ReferenceAinIdeal.nD Cert.ReferenceAinIdeal.τ).loc Cert.ReferenceAinIdeal.main_arg1)
          ∧ r.2.mem ((c.tc : Thread Cert.ReferenceAinIdeal.nD Cert.ReferenceAinIdeal.τ).loc Cert.ReferenceAinIdeal.main_arg2) = m' ((c.tc : Thread Cert.ReferenceAinIdeal.nD Cert.ReferenceAinIdeal.τ).loc Cert.ReferenceAinIdeal.main_arg2)
          ∧ r.2.mem ((c.tc : Thread Cert.ReferenceAinIdeal.nD Cert.ReferenceAinIdeal.τ).loc Cert.ReferenceAinIdeal.main_arg3) = m' ((c.tc : Thread Cert.ReferenceAinIdeal.nD Cert.ReferenceAinIdeal.τ).loc Cert.ReferenceAinIdeal.main_arg3))

def preserves_KernelAbranch_KernelAbranchIdeal : Prop :=
  IdealRules.named_const.Statement Cert.KernelAbranchIdeal.κ "inv_bias1" .f32 0x3FC48605#32 (((5463681 / 8388608)⁻¹ : ℝ) : EReal)
  ∧ IdealRules.named_const.Statement Cert.KernelAbranchIdeal.κ "inv_bias2" .f32 0x42C8E6D3#32 (((2672307 / 268435456)⁻¹ : ℝ) : EReal)

def algebraic_KernelAbranchIdeal_ReferenceAbranchIdeal [hKernelAbranchIdeal : Cert.KernelAbranchIdeal.Facts] [hReferenceAbranchIdeal : Cert.ReferenceAbranchIdeal.Facts] : Prop :=
  ∀ (m : (ℓ : Loc Cert.KernelAbranchIdeal.nD Cert.KernelAbranchIdeal.τ Cert.KernelAbranchIdeal.sig) → Buf (Elt Ideal) ℓ) (g : Dev Cert.KernelAbranchIdeal.nD → PrngReg)
    (m' : (ℓ : Loc Cert.ReferenceAbranchIdeal.nD Cert.ReferenceAbranchIdeal.τ Cert.ReferenceAbranchIdeal.sig) → Buf (Elt Ideal) ℓ) (g' : Dev Cert.ReferenceAbranchIdeal.nD → PrngReg), Pre_KernelAbranchIdeal m →
    (∀ c : Dev Cert.KernelAbranchIdeal.nD,
      m' ((c.tc : Thread Cert.ReferenceAbranchIdeal.nD Cert.ReferenceAbranchIdeal.τ).loc Cert.ReferenceAbranchIdeal.main_arg0) = m ((c.tc : Thread Cert.KernelAbranchIdeal.nD Cert.KernelAbranchIdeal.τ).loc Cert.KernelAbranchIdeal.main_arg0)
      ∧ m' ((c.tc : Thread Cert.ReferenceAbranchIdeal.nD Cert.ReferenceAbranchIdeal.τ).loc Cert.ReferenceAbranchIdeal.main_arg1) = m ((c.tc : Thread Cert.KernelAbranchIdeal.nD Cert.KernelAbranchIdeal.τ).loc Cert.KernelAbranchIdeal.main_arg1)
      ∧ m' ((c.tc : Thread Cert.ReferenceAbranchIdeal.nD Cert.ReferenceAbranchIdeal.τ).loc Cert.ReferenceAbranchIdeal.main_arg2) = m ((c.tc : Thread Cert.KernelAbranchIdeal.nD Cert.KernelAbranchIdeal.τ).loc Cert.KernelAbranchIdeal.main_arg2)
      ∧ m' ((c.tc : Thread Cert.ReferenceAbranchIdeal.nD Cert.ReferenceAbranchIdeal.τ).loc Cert.ReferenceAbranchIdeal.main_arg3) = m ((c.tc : Thread Cert.KernelAbranchIdeal.nD Cert.KernelAbranchIdeal.τ).loc Cert.KernelAbranchIdeal.main_arg3)) →
    ∃ (v0 : (c : Dev Cert.KernelAbranchIdeal.nD) → Buf (Elt Ideal) ((c.tc : Thread Cert.KernelAbranchIdeal.nD Cert.KernelAbranchIdeal.τ).loc Cert.KernelAbranchIdeal.main_v0_0)) (v1 : (c : Dev Cert.KernelAbranchIdeal.nD) → Buf (Elt Ideal) ((c.tc : Thread Cert.KernelAbranchIdeal.nD Cert.KernelAbranchIdeal.τ).loc Cert.KernelAbranchIdeal.main_v0_1)) (v2 : (c : Dev Cert.KernelAbranchIdeal.nD) → Buf (Elt Ideal) ((c.tc : Thread Cert.KernelAbranchIdeal.nD Cert.KernelAbranchIdeal.τ).loc Cert.KernelAbranchIdeal.main_v0_2)),
      θ_run (Cert.KernelAbranchIdeal.defs (F := Ideal)) (onTc (τ := Cert.KernelAbranchIdeal.τ) (Cert.KernelAbranchIdeal.main (F := Ideal))) ⟨m, fun _ => 0, g⟩ (fun r => ∀ c : Dev Cert.KernelAbranchIdeal.nD,
          r.2.mem ((c.tc : Thread Cert.KernelAbranchIdeal.nD Cert.KernelAbranchIdeal.τ).loc Cert.KernelAbranchIdeal.main_v0_0) = v0 c
          ∧ r.2.mem ((c.tc : Thread Cert.KernelAbranchIdeal.nD Cert.KernelAbranchIdeal.τ).loc Cert.KernelAbranchIdeal.main_v0_1) = v1 c
          ∧ r.2.mem ((c.tc : Thread Cert.KernelAbranchIdeal.nD Cert.KernelAbranchIdeal.τ).loc Cert.KernelAbranchIdeal.main_v0_2) = v2 c
          ∧ r.2.mem ((c.tc : Thread Cert.KernelAbranchIdeal.nD Cert.KernelAbranchIdeal.τ).loc Cert.KernelAbranchIdeal.main_arg0) = m ((c.tc : Thread Cert.KernelAbranchIdeal.nD Cert.KernelAbranchIdeal.τ).loc Cert.KernelAbranchIdeal.main_arg0)
          ∧ r.2.mem ((c.tc : Thread Cert.KernelAbranchIdeal.nD Cert.KernelAbranchIdeal.τ).loc Cert.KernelAbranchIdeal.main_arg1) = m ((c.tc : Thread Cert.KernelAbranchIdeal.nD Cert.KernelAbranchIdeal.τ).loc Cert.KernelAbranchIdeal.main_arg1)
          ∧ r.2.mem ((c.tc : Thread Cert.KernelAbranchIdeal.nD Cert.KernelAbranchIdeal.τ).loc Cert.KernelAbranchIdeal.main_arg2) = m ((c.tc : Thread Cert.KernelAbranchIdeal.nD Cert.KernelAbranchIdeal.τ).loc Cert.KernelAbranchIdeal.main_arg2)
          ∧ r.2.mem ((c.tc : Thread Cert.KernelAbranchIdeal.nD Cert.KernelAbranchIdeal.τ).loc Cert.KernelAbranchIdeal.main_arg3) = m ((c.tc : Thread Cert.KernelAbranchIdeal.nD Cert.KernelAbranchIdeal.τ).loc Cert.KernelAbranchIdeal.main_arg3))
      ∧ θ_run (Cert.ReferenceAbranchIdeal.defs (F := Ideal)) (onTc (τ := Cert.ReferenceAbranchIdeal.τ) (Cert.ReferenceAbranchIdeal.main (F := Ideal))) ⟨m', fun _ => 0, g'⟩ (fun r => ∀ c : Dev Cert.ReferenceAbranchIdeal.nD,
          r.2.mem ((c.tc : Thread Cert.ReferenceAbranchIdeal.nD Cert.ReferenceAbranchIdeal.τ).loc Cert.ReferenceAbranchIdeal.main_v23) = v0 c
          ∧ r.2.mem ((c.tc : Thread Cert.ReferenceAbranchIdeal.nD Cert.ReferenceAbranchIdeal.τ).loc Cert.ReferenceAbranchIdeal.main_v4) = v1 c
          ∧ r.2.mem ((c.tc : Thread Cert.ReferenceAbranchIdeal.nD Cert.ReferenceAbranchIdeal.τ).loc Cert.ReferenceAbranchIdeal.main_v10) = v2 c
          ∧ r.2.mem ((c.tc : Thread Cert.ReferenceAbranchIdeal.nD Cert.ReferenceAbranchIdeal.τ).loc Cert.ReferenceAbranchIdeal.main_arg0) = m' ((c.tc : Thread Cert.ReferenceAbranchIdeal.nD Cert.ReferenceAbranchIdeal.τ).loc Cert.ReferenceAbranchIdeal.main_arg0)
          ∧ r.2.mem ((c.tc : Thread Cert.ReferenceAbranchIdeal.nD Cert.ReferenceAbranchIdeal.τ).loc Cert.ReferenceAbranchIdeal.main_arg1) = m' ((c.tc : Thread Cert.ReferenceAbranchIdeal.nD Cert.ReferenceAbranchIdeal.τ).loc Cert.ReferenceAbranchIdeal.main_arg1)
          ∧ r.2.mem ((c.tc : Thread Cert.ReferenceAbranchIdeal.nD Cert.ReferenceAbranchIdeal.τ).loc Cert.ReferenceAbranchIdeal.main_arg2) = m' ((c.tc : Thread Cert.ReferenceAbranchIdeal.nD Cert.ReferenceAbranchIdeal.τ).loc Cert.ReferenceAbranchIdeal.main_arg2)
          ∧ r.2.mem ((c.tc : Thread Cert.ReferenceAbranchIdeal.nD Cert.ReferenceAbranchIdeal.τ).loc Cert.ReferenceAbranchIdeal.main_arg3) = m' ((c.tc : Thread Cert.ReferenceAbranchIdeal.nD Cert.ReferenceAbranchIdeal.τ).loc Cert.ReferenceAbranchIdeal.main_arg3))

def preserves_KernelAup_KernelAupIdeal : Prop :=
  IdealRules.named_const.Statement Cert.KernelAupIdeal.κ "inv_bias1" .f32 0x3FC48605#32 (((5463681 / 8388608)⁻¹ : ℝ) : EReal)
  ∧ IdealRules.named_const.Statement Cert.KernelAupIdeal.κ "inv_bias2" .f32 0x42C8E6D3#32 (((2672307 / 268435456)⁻¹ : ℝ) : EReal)

def algebraic_KernelAupIdeal_ReferenceAupIdeal [hKernelAupIdeal : Cert.KernelAupIdeal.Facts] [hReferenceAupIdeal : Cert.ReferenceAupIdeal.Facts] : Prop :=
  ∀ (m : (ℓ : Loc Cert.KernelAupIdeal.nD Cert.KernelAupIdeal.τ Cert.KernelAupIdeal.sig) → Buf (Elt Ideal) ℓ) (g : Dev Cert.KernelAupIdeal.nD → PrngReg)
    (m' : (ℓ : Loc Cert.ReferenceAupIdeal.nD Cert.ReferenceAupIdeal.τ Cert.ReferenceAupIdeal.sig) → Buf (Elt Ideal) ℓ) (g' : Dev Cert.ReferenceAupIdeal.nD → PrngReg), Pre_KernelAupIdeal m →
    (∀ c : Dev Cert.KernelAupIdeal.nD,
      m' ((c.tc : Thread Cert.ReferenceAupIdeal.nD Cert.ReferenceAupIdeal.τ).loc Cert.ReferenceAupIdeal.main_arg0) = m ((c.tc : Thread Cert.KernelAupIdeal.nD Cert.KernelAupIdeal.τ).loc Cert.KernelAupIdeal.main_arg0)
      ∧ m' ((c.tc : Thread Cert.ReferenceAupIdeal.nD Cert.ReferenceAupIdeal.τ).loc Cert.ReferenceAupIdeal.main_arg1) = m ((c.tc : Thread Cert.KernelAupIdeal.nD Cert.KernelAupIdeal.τ).loc Cert.KernelAupIdeal.main_arg1)
      ∧ m' ((c.tc : Thread Cert.ReferenceAupIdeal.nD Cert.ReferenceAupIdeal.τ).loc Cert.ReferenceAupIdeal.main_arg2) = m ((c.tc : Thread Cert.KernelAupIdeal.nD Cert.KernelAupIdeal.τ).loc Cert.KernelAupIdeal.main_arg2)
      ∧ m' ((c.tc : Thread Cert.ReferenceAupIdeal.nD Cert.ReferenceAupIdeal.τ).loc Cert.ReferenceAupIdeal.main_arg3) = m ((c.tc : Thread Cert.KernelAupIdeal.nD Cert.KernelAupIdeal.τ).loc Cert.KernelAupIdeal.main_arg3)) →
    ∃ (v0 : (c : Dev Cert.KernelAupIdeal.nD) → Buf (Elt Ideal) ((c.tc : Thread Cert.KernelAupIdeal.nD Cert.KernelAupIdeal.τ).loc Cert.KernelAupIdeal.main_v0_0)) (v1 : (c : Dev Cert.KernelAupIdeal.nD) → Buf (Elt Ideal) ((c.tc : Thread Cert.KernelAupIdeal.nD Cert.KernelAupIdeal.τ).loc Cert.KernelAupIdeal.main_v0_1)) (v2 : (c : Dev Cert.KernelAupIdeal.nD) → Buf (Elt Ideal) ((c.tc : Thread Cert.KernelAupIdeal.nD Cert.KernelAupIdeal.τ).loc Cert.KernelAupIdeal.main_v0_2)),
      θ_run (Cert.KernelAupIdeal.defs (F := Ideal)) (onTc (τ := Cert.KernelAupIdeal.τ) (Cert.KernelAupIdeal.main (F := Ideal))) ⟨m, fun _ => 0, g⟩ (fun r => ∀ c : Dev Cert.KernelAupIdeal.nD,
          r.2.mem ((c.tc : Thread Cert.KernelAupIdeal.nD Cert.KernelAupIdeal.τ).loc Cert.KernelAupIdeal.main_v0_0) = v0 c
          ∧ r.2.mem ((c.tc : Thread Cert.KernelAupIdeal.nD Cert.KernelAupIdeal.τ).loc Cert.KernelAupIdeal.main_v0_1) = v1 c
          ∧ r.2.mem ((c.tc : Thread Cert.KernelAupIdeal.nD Cert.KernelAupIdeal.τ).loc Cert.KernelAupIdeal.main_v0_2) = v2 c
          ∧ r.2.mem ((c.tc : Thread Cert.KernelAupIdeal.nD Cert.KernelAupIdeal.τ).loc Cert.KernelAupIdeal.main_arg0) = m ((c.tc : Thread Cert.KernelAupIdeal.nD Cert.KernelAupIdeal.τ).loc Cert.KernelAupIdeal.main_arg0)
          ∧ r.2.mem ((c.tc : Thread Cert.KernelAupIdeal.nD Cert.KernelAupIdeal.τ).loc Cert.KernelAupIdeal.main_arg1) = m ((c.tc : Thread Cert.KernelAupIdeal.nD Cert.KernelAupIdeal.τ).loc Cert.KernelAupIdeal.main_arg1)
          ∧ r.2.mem ((c.tc : Thread Cert.KernelAupIdeal.nD Cert.KernelAupIdeal.τ).loc Cert.KernelAupIdeal.main_arg2) = m ((c.tc : Thread Cert.KernelAupIdeal.nD Cert.KernelAupIdeal.τ).loc Cert.KernelAupIdeal.main_arg2)
          ∧ r.2.mem ((c.tc : Thread Cert.KernelAupIdeal.nD Cert.KernelAupIdeal.τ).loc Cert.KernelAupIdeal.main_arg3) = m ((c.tc : Thread Cert.KernelAupIdeal.nD Cert.KernelAupIdeal.τ).loc Cert.KernelAupIdeal.main_arg3))
      ∧ θ_run (Cert.ReferenceAupIdeal.defs (F := Ideal)) (onTc (τ := Cert.ReferenceAupIdeal.τ) (Cert.ReferenceAupIdeal.main (F := Ideal))) ⟨m', fun _ => 0, g'⟩ (fun r => ∀ c : Dev Cert.ReferenceAupIdeal.nD,
          r.2.mem ((c.tc : Thread Cert.ReferenceAupIdeal.nD Cert.ReferenceAupIdeal.τ).loc Cert.ReferenceAupIdeal.main_v23) = v0 c
          ∧ r.2.mem ((c.tc : Thread Cert.ReferenceAupIdeal.nD Cert.ReferenceAupIdeal.τ).loc Cert.ReferenceAupIdeal.main_v4) = v1 c
          ∧ r.2.mem ((c.tc : Thread Cert.ReferenceAupIdeal.nD Cert.ReferenceAupIdeal.τ).loc Cert.ReferenceAupIdeal.main_v10) = v2 c
          ∧ r.2.mem ((c.tc : Thread Cert.ReferenceAupIdeal.nD Cert.ReferenceAupIdeal.τ).loc Cert.ReferenceAupIdeal.main_arg0) = m' ((c.tc : Thread Cert.ReferenceAupIdeal.nD Cert.ReferenceAupIdeal.τ).loc Cert.ReferenceAupIdeal.main_arg0)
          ∧ r.2.mem ((c.tc : Thread Cert.ReferenceAupIdeal.nD Cert.ReferenceAupIdeal.τ).loc Cert.ReferenceAupIdeal.main_arg1) = m' ((c.tc : Thread Cert.ReferenceAupIdeal.nD Cert.ReferenceAupIdeal.τ).loc Cert.ReferenceAupIdeal.main_arg1)
          ∧ r.2.mem ((c.tc : Thread Cert.ReferenceAupIdeal.nD Cert.ReferenceAupIdeal.τ).loc Cert.ReferenceAupIdeal.main_arg2) = m' ((c.tc : Thread Cert.ReferenceAupIdeal.nD Cert.ReferenceAupIdeal.τ).loc Cert.ReferenceAupIdeal.main_arg2)
          ∧ r.2.mem ((c.tc : Thread Cert.ReferenceAupIdeal.nD Cert.ReferenceAupIdeal.τ).loc Cert.ReferenceAupIdeal.main_arg3) = m' ((c.tc : Thread Cert.ReferenceAupIdeal.nD Cert.ReferenceAupIdeal.τ).loc Cert.ReferenceAupIdeal.main_arg3))

def preserves_KernelAdown_KernelAdownIdeal : Prop :=
  IdealRules.named_const.Statement Cert.KernelAdownIdeal.κ "inv_bias1" .f32 0x3FC48605#32 (((5463681 / 8388608)⁻¹ : ℝ) : EReal)
  ∧ IdealRules.named_const.Statement Cert.KernelAdownIdeal.κ "inv_bias2" .f32 0x42C8E6D3#32 (((2672307 / 268435456)⁻¹ : ℝ) : EReal)

def algebraic_KernelAdownIdeal_ReferenceAdownIdeal [hKernelAdownIdeal : Cert.KernelAdownIdeal.Facts] [hReferenceAdownIdeal : Cert.ReferenceAdownIdeal.Facts] : Prop :=
  ∀ (m : (ℓ : Loc Cert.KernelAdownIdeal.nD Cert.KernelAdownIdeal.τ Cert.KernelAdownIdeal.sig) → Buf (Elt Ideal) ℓ) (g : Dev Cert.KernelAdownIdeal.nD → PrngReg)
    (m' : (ℓ : Loc Cert.ReferenceAdownIdeal.nD Cert.ReferenceAdownIdeal.τ Cert.ReferenceAdownIdeal.sig) → Buf (Elt Ideal) ℓ) (g' : Dev Cert.ReferenceAdownIdeal.nD → PrngReg), Pre_KernelAdownIdeal m →
    (∀ c : Dev Cert.KernelAdownIdeal.nD,
      m' ((c.tc : Thread Cert.ReferenceAdownIdeal.nD Cert.ReferenceAdownIdeal.τ).loc Cert.ReferenceAdownIdeal.main_arg0) = m ((c.tc : Thread Cert.KernelAdownIdeal.nD Cert.KernelAdownIdeal.τ).loc Cert.KernelAdownIdeal.main_arg0)
      ∧ m' ((c.tc : Thread Cert.ReferenceAdownIdeal.nD Cert.ReferenceAdownIdeal.τ).loc Cert.ReferenceAdownIdeal.main_arg1) = m ((c.tc : Thread Cert.KernelAdownIdeal.nD Cert.KernelAdownIdeal.τ).loc Cert.KernelAdownIdeal.main_arg1)
      ∧ m' ((c.tc : Thread Cert.ReferenceAdownIdeal.nD Cert.ReferenceAdownIdeal.τ).loc Cert.ReferenceAdownIdeal.main_arg2) = m ((c.tc : Thread Cert.KernelAdownIdeal.nD Cert.KernelAdownIdeal.τ).loc Cert.KernelAdownIdeal.main_arg2)
      ∧ m' ((c.tc : Thread Cert.ReferenceAdownIdeal.nD Cert.ReferenceAdownIdeal.τ).loc Cert.ReferenceAdownIdeal.main_arg3) = m ((c.tc : Thread Cert.KernelAdownIdeal.nD Cert.KernelAdownIdeal.τ).loc Cert.KernelAdownIdeal.main_arg3)) →
    ∃ (v0 : (c : Dev Cert.KernelAdownIdeal.nD) → Buf (Elt Ideal) ((c.tc : Thread Cert.KernelAdownIdeal.nD Cert.KernelAdownIdeal.τ).loc Cert.KernelAdownIdeal.main_v0_0)) (v1 : (c : Dev Cert.KernelAdownIdeal.nD) → Buf (Elt Ideal) ((c.tc : Thread Cert.KernelAdownIdeal.nD Cert.KernelAdownIdeal.τ).loc Cert.KernelAdownIdeal.main_v0_1)) (v2 : (c : Dev Cert.KernelAdownIdeal.nD) → Buf (Elt Ideal) ((c.tc : Thread Cert.KernelAdownIdeal.nD Cert.KernelAdownIdeal.τ).loc Cert.KernelAdownIdeal.main_v0_2)),
      θ_run (Cert.KernelAdownIdeal.defs (F := Ideal)) (onTc (τ := Cert.KernelAdownIdeal.τ) (Cert.KernelAdownIdeal.main (F := Ideal))) ⟨m, fun _ => 0, g⟩ (fun r => ∀ c : Dev Cert.KernelAdownIdeal.nD,
          r.2.mem ((c.tc : Thread Cert.KernelAdownIdeal.nD Cert.KernelAdownIdeal.τ).loc Cert.KernelAdownIdeal.main_v0_0) = v0 c
          ∧ r.2.mem ((c.tc : Thread Cert.KernelAdownIdeal.nD Cert.KernelAdownIdeal.τ).loc Cert.KernelAdownIdeal.main_v0_1) = v1 c
          ∧ r.2.mem ((c.tc : Thread Cert.KernelAdownIdeal.nD Cert.KernelAdownIdeal.τ).loc Cert.KernelAdownIdeal.main_v0_2) = v2 c
          ∧ r.2.mem ((c.tc : Thread Cert.KernelAdownIdeal.nD Cert.KernelAdownIdeal.τ).loc Cert.KernelAdownIdeal.main_arg0) = m ((c.tc : Thread Cert.KernelAdownIdeal.nD Cert.KernelAdownIdeal.τ).loc Cert.KernelAdownIdeal.main_arg0)
          ∧ r.2.mem ((c.tc : Thread Cert.KernelAdownIdeal.nD Cert.KernelAdownIdeal.τ).loc Cert.KernelAdownIdeal.main_arg1) = m ((c.tc : Thread Cert.KernelAdownIdeal.nD Cert.KernelAdownIdeal.τ).loc Cert.KernelAdownIdeal.main_arg1)
          ∧ r.2.mem ((c.tc : Thread Cert.KernelAdownIdeal.nD Cert.KernelAdownIdeal.τ).loc Cert.KernelAdownIdeal.main_arg2) = m ((c.tc : Thread Cert.KernelAdownIdeal.nD Cert.KernelAdownIdeal.τ).loc Cert.KernelAdownIdeal.main_arg2)
          ∧ r.2.mem ((c.tc : Thread Cert.KernelAdownIdeal.nD Cert.KernelAdownIdeal.τ).loc Cert.KernelAdownIdeal.main_arg3) = m ((c.tc : Thread Cert.KernelAdownIdeal.nD Cert.KernelAdownIdeal.τ).loc Cert.KernelAdownIdeal.main_arg3))
      ∧ θ_run (Cert.ReferenceAdownIdeal.defs (F := Ideal)) (onTc (τ := Cert.ReferenceAdownIdeal.τ) (Cert.ReferenceAdownIdeal.main (F := Ideal))) ⟨m', fun _ => 0, g'⟩ (fun r => ∀ c : Dev Cert.ReferenceAdownIdeal.nD,
          r.2.mem ((c.tc : Thread Cert.ReferenceAdownIdeal.nD Cert.ReferenceAdownIdeal.τ).loc Cert.ReferenceAdownIdeal.main_v23) = v0 c
          ∧ r.2.mem ((c.tc : Thread Cert.ReferenceAdownIdeal.nD Cert.ReferenceAdownIdeal.τ).loc Cert.ReferenceAdownIdeal.main_v4) = v1 c
          ∧ r.2.mem ((c.tc : Thread Cert.ReferenceAdownIdeal.nD Cert.ReferenceAdownIdeal.τ).loc Cert.ReferenceAdownIdeal.main_v10) = v2 c
          ∧ r.2.mem ((c.tc : Thread Cert.ReferenceAdownIdeal.nD Cert.ReferenceAdownIdeal.τ).loc Cert.ReferenceAdownIdeal.main_arg0) = m' ((c.tc : Thread Cert.ReferenceAdownIdeal.nD Cert.ReferenceAdownIdeal.τ).loc Cert.ReferenceAdownIdeal.main_arg0)
          ∧ r.2.mem ((c.tc : Thread Cert.ReferenceAdownIdeal.nD Cert.ReferenceAdownIdeal.τ).loc Cert.ReferenceAdownIdeal.main_arg1) = m' ((c.tc : Thread Cert.ReferenceAdownIdeal.nD Cert.ReferenceAdownIdeal.τ).loc Cert.ReferenceAdownIdeal.main_arg1)
          ∧ r.2.mem ((c.tc : Thread Cert.ReferenceAdownIdeal.nD Cert.ReferenceAdownIdeal.τ).loc Cert.ReferenceAdownIdeal.main_arg2) = m' ((c.tc : Thread Cert.ReferenceAdownIdeal.nD Cert.ReferenceAdownIdeal.τ).loc Cert.ReferenceAdownIdeal.main_arg2)
          ∧ r.2.mem ((c.tc : Thread Cert.ReferenceAdownIdeal.nD Cert.ReferenceAdownIdeal.τ).loc Cert.ReferenceAdownIdeal.main_arg3) = m' ((c.tc : Thread Cert.ReferenceAdownIdeal.nD Cert.ReferenceAdownIdeal.τ).loc Cert.ReferenceAdownIdeal.main_arg3))

def preserves_KernelAsmall_KernelAsmallIdeal : Prop :=
  IdealRules.named_const.Statement Cert.KernelAsmallIdeal.κ "inv_bias1" .f32 0x3FC48605#32 (((5463681 / 8388608)⁻¹ : ℝ) : EReal)
  ∧ IdealRules.named_const.Statement Cert.KernelAsmallIdeal.κ "inv_bias2" .f32 0x42C8E6D3#32 (((2672307 / 268435456)⁻¹ : ℝ) : EReal)

def algebraic_KernelAsmallIdeal_ReferenceAsmallIdeal [hKernelAsmallIdeal : Cert.KernelAsmallIdeal.Facts] [hReferenceAsmallIdeal : Cert.ReferenceAsmallIdeal.Facts] : Prop :=
  ∀ (m : (ℓ : Loc Cert.KernelAsmallIdeal.nD Cert.KernelAsmallIdeal.τ Cert.KernelAsmallIdeal.sig) → Buf (Elt Ideal) ℓ) (g : Dev Cert.KernelAsmallIdeal.nD → PrngReg)
    (m' : (ℓ : Loc Cert.ReferenceAsmallIdeal.nD Cert.ReferenceAsmallIdeal.τ Cert.ReferenceAsmallIdeal.sig) → Buf (Elt Ideal) ℓ) (g' : Dev Cert.ReferenceAsmallIdeal.nD → PrngReg), Pre_KernelAsmallIdeal m →
    (∀ c : Dev Cert.KernelAsmallIdeal.nD,
      m' ((c.tc : Thread Cert.ReferenceAsmallIdeal.nD Cert.ReferenceAsmallIdeal.τ).loc Cert.ReferenceAsmallIdeal.main_arg0) = m ((c.tc : Thread Cert.KernelAsmallIdeal.nD Cert.KernelAsmallIdeal.τ).loc Cert.KernelAsmallIdeal.main_arg0)
      ∧ m' ((c.tc : Thread Cert.ReferenceAsmallIdeal.nD Cert.ReferenceAsmallIdeal.τ).loc Cert.ReferenceAsmallIdeal.main_arg1) = m ((c.tc : Thread Cert.KernelAsmallIdeal.nD Cert.KernelAsmallIdeal.τ).loc Cert.KernelAsmallIdeal.main_arg1)
      ∧ m' ((c.tc : Thread Cert.ReferenceAsmallIdeal.nD Cert.ReferenceAsmallIdeal.τ).loc Cert.ReferenceAsmallIdeal.main_arg2) = m ((c.tc : Thread Cert.KernelAsmallIdeal.nD Cert.KernelAsmallIdeal.τ).loc Cert.KernelAsmallIdeal.main_arg2)
      ∧ m' ((c.tc : Thread Cert.ReferenceAsmallIdeal.nD Cert.ReferenceAsmallIdeal.τ).loc Cert.ReferenceAsmallIdeal.main_arg3) = m ((c.tc : Thread Cert.KernelAsmallIdeal.nD Cert.KernelAsmallIdeal.τ).loc Cert.KernelAsmallIdeal.main_arg3)) →
    ∃ (v0 : (c : Dev Cert.KernelAsmallIdeal.nD) → Buf (Elt Ideal) ((c.tc : Thread Cert.KernelAsmallIdeal.nD Cert.KernelAsmallIdeal.τ).loc Cert.KernelAsmallIdeal.main_v0_0)) (v1 : (c : Dev Cert.KernelAsmallIdeal.nD) → Buf (Elt Ideal) ((c.tc : Thread Cert.KernelAsmallIdeal.nD Cert.KernelAsmallIdeal.τ).loc Cert.KernelAsmallIdeal.main_v0_1)) (v2 : (c : Dev Cert.KernelAsmallIdeal.nD) → Buf (Elt Ideal) ((c.tc : Thread Cert.KernelAsmallIdeal.nD Cert.KernelAsmallIdeal.τ).loc Cert.KernelAsmallIdeal.main_v0_2)),
      θ_run (Cert.KernelAsmallIdeal.defs (F := Ideal)) (onTc (τ := Cert.KernelAsmallIdeal.τ) (Cert.KernelAsmallIdeal.main (F := Ideal))) ⟨m, fun _ => 0, g⟩ (fun r => ∀ c : Dev Cert.KernelAsmallIdeal.nD,
          r.2.mem ((c.tc : Thread Cert.KernelAsmallIdeal.nD Cert.KernelAsmallIdeal.τ).loc Cert.KernelAsmallIdeal.main_v0_0) = v0 c
          ∧ r.2.mem ((c.tc : Thread Cert.KernelAsmallIdeal.nD Cert.KernelAsmallIdeal.τ).loc Cert.KernelAsmallIdeal.main_v0_1) = v1 c
          ∧ r.2.mem ((c.tc : Thread Cert.KernelAsmallIdeal.nD Cert.KernelAsmallIdeal.τ).loc Cert.KernelAsmallIdeal.main_v0_2) = v2 c
          ∧ r.2.mem ((c.tc : Thread Cert.KernelAsmallIdeal.nD Cert.KernelAsmallIdeal.τ).loc Cert.KernelAsmallIdeal.main_arg0) = m ((c.tc : Thread Cert.KernelAsmallIdeal.nD Cert.KernelAsmallIdeal.τ).loc Cert.KernelAsmallIdeal.main_arg0)
          ∧ r.2.mem ((c.tc : Thread Cert.KernelAsmallIdeal.nD Cert.KernelAsmallIdeal.τ).loc Cert.KernelAsmallIdeal.main_arg1) = m ((c.tc : Thread Cert.KernelAsmallIdeal.nD Cert.KernelAsmallIdeal.τ).loc Cert.KernelAsmallIdeal.main_arg1)
          ∧ r.2.mem ((c.tc : Thread Cert.KernelAsmallIdeal.nD Cert.KernelAsmallIdeal.τ).loc Cert.KernelAsmallIdeal.main_arg2) = m ((c.tc : Thread Cert.KernelAsmallIdeal.nD Cert.KernelAsmallIdeal.τ).loc Cert.KernelAsmallIdeal.main_arg2)
          ∧ r.2.mem ((c.tc : Thread Cert.KernelAsmallIdeal.nD Cert.KernelAsmallIdeal.τ).loc Cert.KernelAsmallIdeal.main_arg3) = m ((c.tc : Thread Cert.KernelAsmallIdeal.nD Cert.KernelAsmallIdeal.τ).loc Cert.KernelAsmallIdeal.main_arg3))
      ∧ θ_run (Cert.ReferenceAsmallIdeal.defs (F := Ideal)) (onTc (τ := Cert.ReferenceAsmallIdeal.τ) (Cert.ReferenceAsmallIdeal.main (F := Ideal))) ⟨m', fun _ => 0, g'⟩ (fun r => ∀ c : Dev Cert.ReferenceAsmallIdeal.nD,
          r.2.mem ((c.tc : Thread Cert.ReferenceAsmallIdeal.nD Cert.ReferenceAsmallIdeal.τ).loc Cert.ReferenceAsmallIdeal.main_v23) = v0 c
          ∧ r.2.mem ((c.tc : Thread Cert.ReferenceAsmallIdeal.nD Cert.ReferenceAsmallIdeal.τ).loc Cert.ReferenceAsmallIdeal.main_v4) = v1 c
          ∧ r.2.mem ((c.tc : Thread Cert.ReferenceAsmallIdeal.nD Cert.ReferenceAsmallIdeal.τ).loc Cert.ReferenceAsmallIdeal.main_v10) = v2 c
          ∧ r.2.mem ((c.tc : Thread Cert.ReferenceAsmallIdeal.nD Cert.ReferenceAsmallIdeal.τ).loc Cert.ReferenceAsmallIdeal.main_arg0) = m' ((c.tc : Thread Cert.ReferenceAsmallIdeal.nD Cert.ReferenceAsmallIdeal.τ).loc Cert.ReferenceAsmallIdeal.main_arg0)
          ∧ r.2.mem ((c.tc : Thread Cert.ReferenceAsmallIdeal.nD Cert.ReferenceAsmallIdeal.τ).loc Cert.ReferenceAsmallIdeal.main_arg1) = m' ((c.tc : Thread Cert.ReferenceAsmallIdeal.nD Cert.ReferenceAsmallIdeal.τ).loc Cert.ReferenceAsmallIdeal.main_arg1)
          ∧ r.2.mem ((c.tc : Thread Cert.ReferenceAsmallIdeal.nD Cert.ReferenceAsmallIdeal.τ).loc Cert.ReferenceAsmallIdeal.main_arg2) = m' ((c.tc : Thread Cert.ReferenceAsmallIdeal.nD Cert.ReferenceAsmallIdeal.τ).loc Cert.ReferenceAsmallIdeal.main_arg2)
          ∧ r.2.mem ((c.tc : Thread Cert.ReferenceAsmallIdeal.nD Cert.ReferenceAsmallIdeal.τ).loc Cert.ReferenceAsmallIdeal.main_arg3) = m' ((c.tc : Thread Cert.ReferenceAsmallIdeal.nD Cert.ReferenceAsmallIdeal.τ).loc Cert.ReferenceAsmallIdeal.main_arg3))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)
      ∧ m' ((c.tc : Thread Cert.ReferenceHeadIdeal.nD Cert.ReferenceHeadIdeal.τ).loc Cert.ReferenceHeadIdeal.main_arg4) = m ((c.tc : Thread Cert.KernelHeadIdeal.nD Cert.KernelHeadIdeal.τ).loc Cert.KernelHeadIdeal.main_arg4)) →
    ∃ (v0 : (c : Dev Cert.KernelHeadIdeal.nD) → Buf (Elt Ideal) ((c.tc : Thread Cert.KernelHeadIdeal.nD Cert.KernelHeadIdeal.τ).loc Cert.KernelHeadIdeal.main_v0_0)) (v1 : (c : Dev Cert.KernelHeadIdeal.nD) → Buf (Elt Ideal) ((c.tc : Thread Cert.KernelHeadIdeal.nD Cert.KernelHeadIdeal.τ).loc Cert.KernelHeadIdeal.main_v0_1)) (v2 : (c : Dev Cert.KernelHeadIdeal.nD) → Buf (Elt Ideal) ((c.tc : Thread Cert.KernelHeadIdeal.nD Cert.KernelHeadIdeal.τ).loc Cert.KernelHeadIdeal.main_v0_2)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v0_0) = v0 c
          ∧ r.2.mem ((c.tc : Thread Cert.KernelHeadIdeal.nD Cert.KernelHeadIdeal.τ).loc Cert.KernelHeadIdeal.main_v0_1) = v1 c
          ∧ r.2.mem ((c.tc : Thread Cert.KernelHeadIdeal.nD Cert.KernelHeadIdeal.τ).loc Cert.KernelHeadIdeal.main_v0_2) = v2 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v53) = v0 c
          ∧ r.2.mem ((c.tc : Thread Cert.ReferenceHeadIdeal.nD Cert.ReferenceHeadIdeal.τ).loc Cert.ReferenceHeadIdeal.main_v62) = v1 c
          ∧ r.2.mem ((c.tc : Thread Cert.ReferenceHeadIdeal.nD Cert.ReferenceHeadIdeal.τ).loc Cert.ReferenceHeadIdeal.main_v61) = v2 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3)
          ∧ r.2.mem ((c.tc : Thread Cert.ReferenceHeadIdeal.nD Cert.ReferenceHeadIdeal.τ).loc Cert.ReferenceHeadIdeal.main_arg4) = m' ((c.tc : Thread Cert.ReferenceHeadIdeal.nD Cert.ReferenceHeadIdeal.τ).loc Cert.ReferenceHeadIdeal.main_arg4))

def preserves_KernelSmallSum_KernelSmallSumIdeal : Prop :=
  True

def algebraic_KernelSmallSumIdeal_ReferenceSmallSumIdeal [hKernelSmallSumIdeal : Cert.KernelSmallSumIdeal.Facts] [hReferenceSmallSumIdeal : Cert.ReferenceSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg)
    (m' : (ℓ : Loc Cert.ReferenceSmallSumIdeal.nD Cert.ReferenceSmallSumIdeal.τ Cert.ReferenceSmallSumIdeal.sig) → Buf (Elt Ideal) ℓ) (g' : Dev Cert.ReferenceSmallSumIdeal.nD → PrngReg), Pre_KernelSmallSumIdeal m →
    (∀ c : Dev Cert.KernelSmallSumIdeal.nD,
      m' ((c.tc : Thread Cert.ReferenceSmallSumIdeal.nD Cert.ReferenceSmallSumIdeal.τ).loc Cert.ReferenceSmallSumIdeal.main_arg0) = m ((c.tc : Thread Cert.KernelSmallSumIdeal.nD Cert.KernelSmallSumIdeal.τ).loc Cert.KernelSmallSumIdeal.main_arg0)) →
    ∃ (v0 : (c : Dev Cert.KernelSmallSumIdeal.nD) → Buf (Elt Ideal) ((c.tc : Thread Cert.KernelSmallSumIdeal.nD Cert.KernelSmallSumIdeal.τ).loc Cert.KernelSmallSumIdeal.main_v0)),
      θ_run (Cert.KernelSmallSumIdeal.defs (F := Ideal)) (onTc (τ := Cert.KernelSmallSumIdeal.τ) (Cert.KernelSmallSumIdeal.main (F := Ideal))) ⟨m, fun _ => 0, g⟩ (fun r => ∀ c : Dev Cert.KernelSmallSumIdeal.nD,
          r.2.mem ((c.tc : Thread Cert.KernelSmallSumIdeal.nD Cert.KernelSmallSumIdeal.τ).loc Cert.KernelSmallSumIdeal.main_v0) = v0 c
          ∧ r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0))
      ∧ θ_run (Cert.ReferenceSmallSumIdeal.defs (F := Ideal)) (onTc (τ := Cert.ReferenceSmallSumIdeal.τ) (Cert.ReferenceSmallSumIdeal.main (F := Ideal))) ⟨m', fun _ => 0, g'⟩ (fun r => ∀ c : Dev Cert.ReferenceSmallSumIdeal.nD,
          r.2.mem ((c.tc : Thread Cert.ReferenceSmallSumIdeal.nD Cert.ReferenceSmallSumIdeal.τ).loc Cert.ReferenceSmallSumIdeal.main_v0) = v0 c
          ∧ r.2.mem ((c.tc : Thread Cert.ReferenceSmallSumIdeal.nD Cert.ReferenceSmallSumIdeal.τ).loc Cert.ReferenceSmallSumIdeal.main_arg0) = m' ((c.tc : Thread Cert.ReferenceSmallSumIdeal.nD Cert.ReferenceSmallSumIdeal.τ).loc Cert.ReferenceSmallSumIdeal.main_arg0))

def preserves_KernelColSum_KernelColSumIdeal : Prop :=
  True

def algebraic_KernelColSumIdeal_ReferenceColSumIdeal [hKernelColSumIdeal : Cert.KernelColSumIdeal.Facts] [hReferenceColSumIdeal : Cert.ReferenceColSumIdeal.Facts] : Prop :=
  ∀ (m : (ℓ : Loc Cert.KernelColSumIdeal.nD Cert.KernelColSumIdeal.τ Cert.KernelColSumIdeal.sig) → Buf (Elt Ideal) ℓ) (g : Dev Cert.KernelColSumIdeal.nD → PrngReg)
    (m' : (ℓ : Loc Cert.ReferenceColSumIdeal.nD Cert.ReferenceColSumIdeal.τ Cert.ReferenceColSumIdeal.sig) → Buf (Elt Ideal) ℓ) (g' : Dev Cert.ReferenceColSumIdeal.nD → PrngReg), Pre_KernelColSumIdeal m →
    (∀ c : Dev Cert.KernelColSumIdeal.nD,
      m' ((c.tc : Thread Cert.ReferenceColSumIdeal.nD Cert.ReferenceColSumIdeal.τ).loc Cert.ReferenceColSumIdeal.main_arg0) = m ((c.tc : Thread Cert.KernelColSumIdeal.nD Cert.KernelColSumIdeal.τ).loc Cert.KernelColSumIdeal.main_arg0)
      ∧ m' ((c.tc : Thread Cert.ReferenceColSumIdeal.nD Cert.ReferenceColSumIdeal.τ).loc Cert.ReferenceColSumIdeal.main_arg1) = m ((c.tc : Thread Cert.KernelColSumIdeal.nD Cert.KernelColSumIdeal.τ).loc Cert.KernelColSumIdeal.main_arg1)
      ∧ m' ((c.tc : Thread Cert.ReferenceColSumIdeal.nD Cert.ReferenceColSumIdeal.τ).loc Cert.ReferenceColSumIdeal.main_arg2) = m ((c.tc : Thread Cert.KernelColSumIdeal.nD Cert.KernelColSumIdeal.τ).loc Cert.KernelColSumIdeal.main_arg2)
      ∧ m' ((c.tc : Thread Cert.ReferenceColSumIdeal.nD Cert.ReferenceColSumIdeal.τ).loc Cert.ReferenceColSumIdeal.main_arg3) = m ((c.tc : Thread Cert.KernelColSumIdeal.nD Cert.KernelColSumIdeal.τ).loc Cert.KernelColSumIdeal.main_arg3)
      ∧ m' ((c.tc : Thread Cert.ReferenceColSumIdeal.nD Cert.ReferenceColSumIdeal.τ).loc Cert.ReferenceColSumIdeal.main_arg4) = m ((c.tc : Thread Cert.KernelColSumIdeal.nD Cert.KernelColSumIdeal.τ).loc Cert.KernelColSumIdeal.main_arg4)) →
    ∃ (v0 : (c : Dev Cert.KernelColSumIdeal.nD) → Buf (Elt Ideal) ((c.tc : Thread Cert.KernelColSumIdeal.nD Cert.KernelColSumIdeal.τ).loc Cert.KernelColSumIdeal.main_v0)),
      θ_run (Cert.KernelColSumIdeal.defs (F := Ideal)) (onTc (τ := Cert.KernelColSumIdeal.τ) (Cert.KernelColSumIdeal.main (F := Ideal))) ⟨m, fun _ => 0, g⟩ (fun r => ∀ c : Dev Cert.KernelColSumIdeal.nD,
          r.2.mem ((c.tc : Thread Cert.KernelColSumIdeal.nD Cert.KernelColSumIdeal.τ).loc Cert.KernelColSumIdeal.main_v0) = v0 c
          ∧ r.2.mem ((c.tc : Thread Cert.KernelColSumIdeal.nD Cert.KernelColSumIdeal.τ).loc Cert.KernelColSumIdeal.main_arg0) = m ((c.tc : Thread Cert.KernelColSumIdeal.nD Cert.KernelColSumIdeal.τ).loc Cert.KernelColSumIdeal.main_arg0)
          ∧ r.2.mem ((c.tc : Thread Cert.KernelColSumIdeal.nD Cert.KernelColSumIdeal.τ).loc Cert.KernelColSumIdeal.main_arg1) = m ((c.tc : Thread Cert.KernelColSumIdeal.nD Cert.KernelColSumIdeal.τ).loc Cert.KernelColSumIdeal.main_arg1)
          ∧ r.2.mem ((c.tc : Thread Cert.KernelColSumIdeal.nD Cert.KernelColSumIdeal.τ).loc Cert.KernelColSumIdeal.main_arg2) = m ((c.tc : Thread Cert.KernelColSumIdeal.nD Cert.KernelColSumIdeal.τ).loc Cert.KernelColSumIdeal.main_arg2)
          ∧ r.2.mem ((c.tc : Thread Cert.KernelColSumIdeal.nD Cert.KernelColSumIdeal.τ).loc Cert.KernelColSumIdeal.main_arg3) = m ((c.tc : Thread Cert.KernelColSumIdeal.nD Cert.KernelColSumIdeal.τ).loc Cert.KernelColSumIdeal.main_arg3)
          ∧ r.2.mem ((c.tc : Thread Cert.KernelColSumIdeal.nD Cert.KernelColSumIdeal.τ).loc Cert.KernelColSumIdeal.main_arg4) = m ((c.tc : Thread Cert.KernelColSumIdeal.nD Cert.KernelColSumIdeal.τ).loc Cert.KernelColSumIdeal.main_arg4))
      ∧ θ_run (Cert.ReferenceColSumIdeal.defs (F := Ideal)) (onTc (τ := Cert.ReferenceColSumIdeal.τ) (Cert.ReferenceColSumIdeal.main (F := Ideal))) ⟨m', fun _ => 0, g'⟩ (fun r => ∀ c : Dev Cert.ReferenceColSumIdeal.nD,
          r.2.mem ((c.tc : Thread Cert.ReferenceColSumIdeal.nD Cert.ReferenceColSumIdeal.τ).loc Cert.ReferenceColSumIdeal.main_v8) = v0 c
          ∧ r.2.mem ((c.tc : Thread Cert.ReferenceColSumIdeal.nD Cert.ReferenceColSumIdeal.τ).loc Cert.ReferenceColSumIdeal.main_arg0) = m' ((c.tc : Thread Cert.ReferenceColSumIdeal.nD Cert.ReferenceColSumIdeal.τ).loc Cert.ReferenceColSumIdeal.main_arg0)
          ∧ r.2.mem ((c.tc : Thread Cert.ReferenceColSumIdeal.nD Cert.ReferenceColSumIdeal.τ).loc Cert.ReferenceColSumIdeal.main_arg1) = m' ((c.tc : Thread Cert.ReferenceColSumIdeal.nD Cert.ReferenceColSumIdeal.τ).loc Cert.ReferenceColSumIdeal.main_arg1)
          ∧ r.2.mem ((c.tc : Thread Cert.ReferenceColSumIdeal.nD Cert.ReferenceColSumIdeal.τ).loc Cert.ReferenceColSumIdeal.main_arg2) = m' ((c.tc : Thread Cert.ReferenceColSumIdeal.nD Cert.ReferenceColSumIdeal.τ).loc Cert.ReferenceColSumIdeal.main_arg2)
          ∧ r.2.mem ((c.tc : Thread Cert.ReferenceColSumIdeal.nD Cert.ReferenceColSumIdeal.τ).loc Cert.ReferenceColSumIdeal.main_arg3) = m' ((c.tc : Thread Cert.ReferenceColSumIdeal.nD Cert.ReferenceColSumIdeal.τ).loc Cert.ReferenceColSumIdeal.main_arg3)
          ∧ r.2.mem ((c.tc : Thread Cert.ReferenceColSumIdeal.nD Cert.ReferenceColSumIdeal.τ).loc Cert.ReferenceColSumIdeal.main_arg4) = m' ((c.tc : Thread Cert.ReferenceColSumIdeal.nD Cert.ReferenceColSumIdeal.τ).loc Cert.ReferenceColSumIdeal.main_arg4))

def preserves_KernelRowSum_KernelRowSumIdeal : Prop :=
  True

def algebraic_KernelRowSumIdeal_ReferenceRowSumIdeal [hKernelRowSumIdeal : Cert.KernelRowSumIdeal.Facts] [hReferenceRowSumIdeal : Cert.ReferenceRowSumIdeal.Facts] : Prop :=
  ∀ (m : (ℓ : Loc Cert.KernelRowSumIdeal.nD Cert.KernelRowSumIdeal.τ Cert.KernelRowSumIdeal.sig) → Buf (Elt Ideal) ℓ) (g : Dev Cert.KernelRowSumIdeal.nD → PrngReg)
    (m' : (ℓ : Loc Cert.ReferenceRowSumIdeal.nD Cert.ReferenceRowSumIdeal.τ Cert.ReferenceRowSumIdeal.sig) → Buf (Elt Ideal) ℓ) (g' : Dev Cert.ReferenceRowSumIdeal.nD → PrngReg), Pre_KernelRowSumIdeal m →
    (∀ c : Dev Cert.KernelRowSumIdeal.nD,
      m' ((c.tc : Thread Cert.ReferenceRowSumIdeal.nD Cert.ReferenceRowSumIdeal.τ).loc Cert.ReferenceRowSumIdeal.main_arg0) = m ((c.tc : Thread Cert.KernelRowSumIdeal.nD Cert.KernelRowSumIdeal.τ).loc Cert.KernelRowSumIdeal.main_arg0)
      ∧ m' ((c.tc : Thread Cert.ReferenceRowSumIdeal.nD Cert.ReferenceRowSumIdeal.τ).loc Cert.ReferenceRowSumIdeal.main_arg1) = m ((c.tc : Thread Cert.KernelRowSumIdeal.nD Cert.KernelRowSumIdeal.τ).loc Cert.KernelRowSumIdeal.main_arg1)
      ∧ m' ((c.tc : Thread Cert.ReferenceRowSumIdeal.nD Cert.ReferenceRowSumIdeal.τ).loc Cert.ReferenceRowSumIdeal.main_arg2) = m ((c.tc : Thread Cert.KernelRowSumIdeal.nD Cert.KernelRowSumIdeal.τ).loc Cert.KernelRowSumIdeal.main_arg2)
      ∧ m' ((c.tc : Thread Cert.ReferenceRowSumIdeal.nD Cert.ReferenceRowSumIdeal.τ).loc Cert.ReferenceRowSumIdeal.main_arg3) = m ((c.tc : Thread Cert.KernelRowSumIdeal.nD Cert.KernelRowSumIdeal.τ).loc Cert.KernelRowSumIdeal.main_arg3)
      ∧ m' ((c.tc : Thread Cert.ReferenceRowSumIdeal.nD Cert.ReferenceRowSumIdeal.τ).loc Cert.ReferenceRowSumIdeal.main_arg4) = m ((c.tc : Thread Cert.KernelRowSumIdeal.nD Cert.KernelRowSumIdeal.τ).loc Cert.KernelRowSumIdeal.main_arg4)) →
    ∃ (v0 : (c : Dev Cert.KernelRowSumIdeal.nD) → Buf (Elt Ideal) ((c.tc : Thread Cert.KernelRowSumIdeal.nD Cert.KernelRowSumIdeal.τ).loc Cert.KernelRowSumIdeal.main_v0)),
      θ_run (Cert.KernelRowSumIdeal.defs (F := Ideal)) (onTc (τ := Cert.KernelRowSumIdeal.τ) (Cert.KernelRowSumIdeal.main (F := Ideal))) ⟨m, fun _ => 0, g⟩ (fun r => ∀ c : Dev Cert.KernelRowSumIdeal.nD,
          r.2.mem ((c.tc : Thread Cert.KernelRowSumIdeal.nD Cert.KernelRowSumIdeal.τ).loc Cert.KernelRowSumIdeal.main_v0) = v0 c
          ∧ r.2.mem ((c.tc : Thread Cert.KernelRowSumIdeal.nD Cert.KernelRowSumIdeal.τ).loc Cert.KernelRowSumIdeal.main_arg0) = m ((c.tc : Thread Cert.KernelRowSumIdeal.nD Cert.KernelRowSumIdeal.τ).loc Cert.KernelRowSumIdeal.main_arg0)
          ∧ r.2.mem ((c.tc : Thread Cert.KernelRowSumIdeal.nD Cert.KernelRowSumIdeal.τ).loc Cert.KernelRowSumIdeal.main_arg1) = m ((c.tc : Thread Cert.KernelRowSumIdeal.nD Cert.KernelRowSumIdeal.τ).loc Cert.KernelRowSumIdeal.main_arg1)
          ∧ r.2.mem ((c.tc : Thread Cert.KernelRowSumIdeal.nD Cert.KernelRowSumIdeal.τ).loc Cert.KernelRowSumIdeal.main_arg2) = m ((c.tc : Thread Cert.KernelRowSumIdeal.nD Cert.KernelRowSumIdeal.τ).loc Cert.KernelRowSumIdeal.main_arg2)
          ∧ r.2.mem ((c.tc : Thread Cert.KernelRowSumIdeal.nD Cert.KernelRowSumIdeal.τ).loc Cert.KernelRowSumIdeal.main_arg3) = m ((c.tc : Thread Cert.KernelRowSumIdeal.nD Cert.KernelRowSumIdeal.τ).loc Cert.KernelRowSumIdeal.main_arg3)
          ∧ r.2.mem ((c.tc : Thread Cert.KernelRowSumIdeal.nD Cert.KernelRowSumIdeal.τ).loc Cert.KernelRowSumIdeal.main_arg4) = m ((c.tc : Thread Cert.KernelRowSumIdeal.nD Cert.KernelRowSumIdeal.τ).loc Cert.KernelRowSumIdeal.main_arg4))
      ∧ θ_run (Cert.ReferenceRowSumIdeal.defs (F := Ideal)) (onTc (τ := Cert.ReferenceRowSumIdeal.τ) (Cert.ReferenceRowSumIdeal.main (F := Ideal))) ⟨m', fun _ => 0, g'⟩ (fun r => ∀ c : Dev Cert.ReferenceRowSumIdeal.nD,
          r.2.mem ((c.tc : Thread Cert.ReferenceRowSumIdeal.nD Cert.ReferenceRowSumIdeal.τ).loc Cert.ReferenceRowSumIdeal.main_v8) = v0 c
          ∧ r.2.mem ((c.tc : Thread Cert.ReferenceRowSumIdeal.nD Cert.ReferenceRowSumIdeal.τ).loc Cert.ReferenceRowSumIdeal.main_arg0) = m' ((c.tc : Thread Cert.ReferenceRowSumIdeal.nD Cert.ReferenceRowSumIdeal.τ).loc Cert.ReferenceRowSumIdeal.main_arg0)
          ∧ r.2.mem ((c.tc : Thread Cert.ReferenceRowSumIdeal.nD Cert.ReferenceRowSumIdeal.τ).loc Cert.ReferenceRowSumIdeal.main_arg1) = m' ((c.tc : Thread Cert.ReferenceRowSumIdeal.nD Cert.ReferenceRowSumIdeal.τ).loc Cert.ReferenceRowSumIdeal.main_arg1)
          ∧ r.2.mem ((c.tc : Thread Cert.ReferenceRowSumIdeal.nD Cert.ReferenceRowSumIdeal.τ).loc Cert.ReferenceRowSumIdeal.main_arg2) = m' ((c.tc : Thread Cert.ReferenceRowSumIdeal.nD Cert.ReferenceRowSumIdeal.τ).loc Cert.ReferenceRowSumIdeal.main_arg2)
          ∧ r.2.mem ((c.tc : Thread Cert.ReferenceRowSumIdeal.nD Cert.ReferenceRowSumIdeal.τ).loc Cert.ReferenceRowSumIdeal.main_arg3) = m' ((c.tc : Thread Cert.ReferenceRowSumIdeal.nD Cert.ReferenceRowSumIdeal.τ).loc Cert.ReferenceRowSumIdeal.main_arg3)
          ∧ r.2.mem ((c.tc : Thread Cert.ReferenceRowSumIdeal.nD Cert.ReferenceRowSumIdeal.τ).loc Cert.ReferenceRowSumIdeal.main_arg4) = m' ((c.tc : Thread Cert.ReferenceRowSumIdeal.nD Cert.ReferenceRowSumIdeal.τ).loc Cert.ReferenceRowSumIdeal.main_arg4))

def preserves_KernelModW_KernelModWIdeal : Prop :=
  True

def algebraic_KernelModWIdeal_ReferenceModWIdeal [hKernelModWIdeal : Cert.KernelModWIdeal.Facts] [hReferenceModWIdeal : Cert.ReferenceModWIdeal.Facts] : Prop :=
  ∀ (m : (ℓ : Loc Cert.KernelModWIdeal.nD Cert.KernelModWIdeal.τ Cert.KernelModWIdeal.sig) → Buf (Elt Ideal) ℓ) (g : Dev Cert.KernelModWIdeal.nD → PrngReg)
    (m' : (ℓ : Loc Cert.ReferenceModWIdeal.nD Cert.ReferenceModWIdeal.τ Cert.ReferenceModWIdeal.sig) → Buf (Elt Ideal) ℓ) (g' : Dev Cert.ReferenceModWIdeal.nD → PrngReg), Pre_KernelModWIdeal m →
    (∀ c : Dev Cert.KernelModWIdeal.nD,
      m' ((c.tc : Thread Cert.ReferenceModWIdeal.nD Cert.ReferenceModWIdeal.τ).loc Cert.ReferenceModWIdeal.main_arg0) = m ((c.tc : Thread Cert.KernelModWIdeal.nD Cert.KernelModWIdeal.τ).loc Cert.KernelModWIdeal.main_arg0)
      ∧ m' ((c.tc : Thread Cert.ReferenceModWIdeal.nD Cert.ReferenceModWIdeal.τ).loc Cert.ReferenceModWIdeal.main_arg1) = m ((c.tc : Thread Cert.KernelModWIdeal.nD Cert.KernelModWIdeal.τ).loc Cert.KernelModWIdeal.main_arg1)) →
    ∃ (v0 : (c : Dev Cert.KernelModWIdeal.nD) → Buf (Elt Ideal) ((c.tc : Thread Cert.KernelModWIdeal.nD Cert.KernelModWIdeal.τ).loc Cert.KernelModWIdeal.main_v0)),
      θ_run (Cert.KernelModWIdeal.defs (F := Ideal)) (onTc (τ := Cert.KernelModWIdeal.τ) (Cert.KernelModWIdeal.main (F := Ideal))) ⟨m, fun _ => 0, g⟩ (fun r => ∀ c : Dev Cert.KernelModWIdeal.nD,
          r.2.mem ((c.tc : Thread Cert.KernelModWIdeal.nD Cert.KernelModWIdeal.τ).loc Cert.KernelModWIdeal.main_v0) = v0 c
          ∧ r.2.mem ((c.tc : Thread Cert.KernelModWIdeal.nD Cert.KernelModWIdeal.τ).loc Cert.KernelModWIdeal.main_arg0) = m ((c.tc : Thread Cert.KernelModWIdeal.nD Cert.KernelModWIdeal.τ).loc Cert.KernelModWIdeal.main_arg0)
          ∧ r.2.mem ((c.tc : Thread Cert.KernelModWIdeal.nD Cert.KernelModWIdeal.τ).loc Cert.KernelModWIdeal.main_arg1) = m ((c.tc : Thread Cert.KernelModWIdeal.nD Cert.KernelModWIdeal.τ).loc Cert.KernelModWIdeal.main_arg1))
      ∧ θ_run (Cert.ReferenceModWIdeal.defs (F := Ideal)) (onTc (τ := Cert.ReferenceModWIdeal.τ) (Cert.ReferenceModWIdeal.main (F := Ideal))) ⟨m', fun _ => 0, g'⟩ (fun r => ∀ c : Dev Cert.ReferenceModWIdeal.nD,
          r.2.mem ((c.tc : Thread Cert.ReferenceModWIdeal.nD Cert.ReferenceModWIdeal.τ).loc Cert.ReferenceModWIdeal.main_v4) = v0 c
          ∧ r.2.mem ((c.tc : Thread Cert.ReferenceModWIdeal.nD Cert.ReferenceModWIdeal.τ).loc Cert.ReferenceModWIdeal.main_arg0) = m' ((c.tc : Thread Cert.ReferenceModWIdeal.nD Cert.ReferenceModWIdeal.τ).loc Cert.ReferenceModWIdeal.main_arg0)
          ∧ r.2.mem ((c.tc : Thread Cert.ReferenceModWIdeal.nD Cert.ReferenceModWIdeal.τ).loc Cert.ReferenceModWIdeal.main_arg1) = m' ((c.tc : Thread Cert.ReferenceModWIdeal.nD Cert.ReferenceModWIdeal.τ).loc Cert.ReferenceModWIdeal.main_arg1))

def preserves_KernelCctx_KernelCctxIdeal : Prop :=
  True

def algebraic_KernelCctxIdeal_ReferenceCctxIdeal_pre_finite_cctx [hKernelCctxIdeal : Cert.KernelCctxIdeal.Facts] [hReferenceCctxIdeal : Cert.ReferenceCctxIdeal.Facts] [hPre_finite_cctx : Cert.Pre_finite_cctx.Facts] : Prop :=
  ∀ (m : (ℓ : Loc Cert.KernelCctxIdeal.nD Cert.KernelCctxIdeal.τ Cert.KernelCctxIdeal.sig) → Buf (Elt Ideal) ℓ) (g : Dev Cert.KernelCctxIdeal.nD → PrngReg)
    (m' : (ℓ : Loc Cert.ReferenceCctxIdeal.nD Cert.ReferenceCctxIdeal.τ Cert.ReferenceCctxIdeal.sig) → Buf (Elt Ideal) ℓ) (g' : Dev Cert.ReferenceCctxIdeal.nD → PrngReg), Pre_KernelCctxIdeal_finite_cctx m →
    (∀ c : Dev Cert.KernelCctxIdeal.nD,
      m' ((c.tc : Thread Cert.ReferenceCctxIdeal.nD Cert.ReferenceCctxIdeal.τ).loc Cert.ReferenceCctxIdeal.main_arg0) = m ((c.tc : Thread Cert.KernelCctxIdeal.nD Cert.KernelCctxIdeal.τ).loc Cert.KernelCctxIdeal.main_arg0)
      ∧ m' ((c.tc : Thread Cert.ReferenceCctxIdeal.nD Cert.ReferenceCctxIdeal.τ).loc Cert.ReferenceCctxIdeal.main_arg1) = m ((c.tc : Thread Cert.KernelCctxIdeal.nD Cert.KernelCctxIdeal.τ).loc Cert.KernelCctxIdeal.main_arg1)
      ∧ m' ((c.tc : Thread Cert.ReferenceCctxIdeal.nD Cert.ReferenceCctxIdeal.τ).loc Cert.ReferenceCctxIdeal.main_arg2) = m ((c.tc : Thread Cert.KernelCctxIdeal.nD Cert.KernelCctxIdeal.τ).loc Cert.KernelCctxIdeal.main_arg2)) →
    ∃ (v0 : (c : Dev Cert.KernelCctxIdeal.nD) → Buf (Elt Ideal) ((c.tc : Thread Cert.KernelCctxIdeal.nD Cert.KernelCctxIdeal.τ).loc Cert.KernelCctxIdeal.main_v0)),
      θ_run (Cert.KernelCctxIdeal.defs (F := Ideal)) (onTc (τ := Cert.KernelCctxIdeal.τ) (Cert.KernelCctxIdeal.main (F := Ideal))) ⟨m, fun _ => 0, g⟩ (fun r => ∀ c : Dev Cert.KernelCctxIdeal.nD,
          r.2.mem ((c.tc : Thread Cert.KernelCctxIdeal.nD Cert.KernelCctxIdeal.τ).loc Cert.KernelCctxIdeal.main_v0) = v0 c
          ∧ r.2.mem ((c.tc : Thread Cert.KernelCctxIdeal.nD Cert.KernelCctxIdeal.τ).loc Cert.KernelCctxIdeal.main_arg0) = m ((c.tc : Thread Cert.KernelCctxIdeal.nD Cert.KernelCctxIdeal.τ).loc Cert.KernelCctxIdeal.main_arg0)
          ∧ r.2.mem ((c.tc : Thread Cert.KernelCctxIdeal.nD Cert.KernelCctxIdeal.τ).loc Cert.KernelCctxIdeal.main_arg1) = m ((c.tc : Thread Cert.KernelCctxIdeal.nD Cert.KernelCctxIdeal.τ).loc Cert.KernelCctxIdeal.main_arg1)
          ∧ r.2.mem ((c.tc : Thread Cert.KernelCctxIdeal.nD Cert.KernelCctxIdeal.τ).loc Cert.KernelCctxIdeal.main_arg2) = m ((c.tc : Thread Cert.KernelCctxIdeal.nD Cert.KernelCctxIdeal.τ).loc Cert.KernelCctxIdeal.main_arg2))
      ∧ θ_run (Cert.ReferenceCctxIdeal.defs (F := Ideal)) (onTc (τ := Cert.ReferenceCctxIdeal.τ) (Cert.ReferenceCctxIdeal.main (F := Ideal))) ⟨m', fun _ => 0, g'⟩ (fun r => ∀ c : Dev Cert.ReferenceCctxIdeal.nD,
          r.2.mem ((c.tc : Thread Cert.ReferenceCctxIdeal.nD Cert.ReferenceCctxIdeal.τ).loc Cert.ReferenceCctxIdeal.main_v10) = v0 c
          ∧ r.2.mem ((c.tc : Thread Cert.ReferenceCctxIdeal.nD Cert.ReferenceCctxIdeal.τ).loc Cert.ReferenceCctxIdeal.main_arg0) = m' ((c.tc : Thread Cert.ReferenceCctxIdeal.nD Cert.ReferenceCctxIdeal.τ).loc Cert.ReferenceCctxIdeal.main_arg0)
          ∧ r.2.mem ((c.tc : Thread Cert.ReferenceCctxIdeal.nD Cert.ReferenceCctxIdeal.τ).loc Cert.ReferenceCctxIdeal.main_arg1) = m' ((c.tc : Thread Cert.ReferenceCctxIdeal.nD Cert.ReferenceCctxIdeal.τ).loc Cert.ReferenceCctxIdeal.main_arg1)
          ∧ r.2.mem ((c.tc : Thread Cert.ReferenceCctxIdeal.nD Cert.ReferenceCctxIdeal.τ).loc Cert.ReferenceCctxIdeal.main_arg2) = m' ((c.tc : Thread Cert.ReferenceCctxIdeal.nD Cert.ReferenceCctxIdeal.τ).loc Cert.ReferenceCctxIdeal.main_arg2))

def preserves_KernelPairCol_KernelPairColIdeal : Prop :=
  True

def algebraic_KernelPairColIdeal_ReferencePairColIdeal [hKernelPairColIdeal : Cert.KernelPairColIdeal.Facts] [hReferencePairColIdeal : Cert.ReferencePairColIdeal.Facts] : Prop :=
  ∀ (m : (ℓ : Loc Cert.KernelPairColIdeal.nD Cert.KernelPairColIdeal.τ Cert.KernelPairColIdeal.sig) → Buf (Elt Ideal) ℓ) (g : Dev Cert.KernelPairColIdeal.nD → PrngReg)
    (m' : (ℓ : Loc Cert.ReferencePairColIdeal.nD Cert.ReferencePairColIdeal.τ Cert.ReferencePairColIdeal.sig) → Buf (Elt Ideal) ℓ) (g' : Dev Cert.ReferencePairColIdeal.nD → PrngReg), Pre_KernelPairColIdeal m →
    (∀ c : Dev Cert.KernelPairColIdeal.nD,
      m' ((c.tc : Thread Cert.ReferencePairColIdeal.nD Cert.ReferencePairColIdeal.τ).loc Cert.ReferencePairColIdeal.main_arg0) = m ((c.tc : Thread Cert.KernelPairColIdeal.nD Cert.KernelPairColIdeal.τ).loc Cert.KernelPairColIdeal.main_arg0)
      ∧ m' ((c.tc : Thread Cert.ReferencePairColIdeal.nD Cert.ReferencePairColIdeal.τ).loc Cert.ReferencePairColIdeal.main_arg1) = m ((c.tc : Thread Cert.KernelPairColIdeal.nD Cert.KernelPairColIdeal.τ).loc Cert.KernelPairColIdeal.main_arg1)) →
    ∃ (v0 : (c : Dev Cert.KernelPairColIdeal.nD) → Buf (Elt Ideal) ((c.tc : Thread Cert.KernelPairColIdeal.nD Cert.KernelPairColIdeal.τ).loc Cert.KernelPairColIdeal.main_v0)),
      θ_run (Cert.KernelPairColIdeal.defs (F := Ideal)) (onTc (τ := Cert.KernelPairColIdeal.τ) (Cert.KernelPairColIdeal.main (F := Ideal))) ⟨m, fun _ => 0, g⟩ (fun r => ∀ c : Dev Cert.KernelPairColIdeal.nD,
          r.2.mem ((c.tc : Thread Cert.KernelPairColIdeal.nD Cert.KernelPairColIdeal.τ).loc Cert.KernelPairColIdeal.main_v0) = v0 c
          ∧ r.2.mem ((c.tc : Thread Cert.KernelPairColIdeal.nD Cert.KernelPairColIdeal.τ).loc Cert.KernelPairColIdeal.main_arg0) = m ((c.tc : Thread Cert.KernelPairColIdeal.nD Cert.KernelPairColIdeal.τ).loc Cert.KernelPairColIdeal.main_arg0)
          ∧ r.2.mem ((c.tc : Thread Cert.KernelPairColIdeal.nD Cert.KernelPairColIdeal.τ).loc Cert.KernelPairColIdeal.main_arg1) = m ((c.tc : Thread Cert.KernelPairColIdeal.nD Cert.KernelPairColIdeal.τ).loc Cert.KernelPairColIdeal.main_arg1))
      ∧ θ_run (Cert.ReferencePairColIdeal.defs (F := Ideal)) (onTc (τ := Cert.ReferencePairColIdeal.τ) (Cert.ReferencePairColIdeal.main (F := Ideal))) ⟨m', fun _ => 0, g'⟩ (fun r => ∀ c : Dev Cert.ReferencePairColIdeal.nD,
          r.2.mem ((c.tc : Thread Cert.ReferencePairColIdeal.nD Cert.ReferencePairColIdeal.τ).loc Cert.ReferencePairColIdeal.main_v3) = v0 c
          ∧ r.2.mem ((c.tc : Thread Cert.ReferencePairColIdeal.nD Cert.ReferencePairColIdeal.τ).loc Cert.ReferencePairColIdeal.main_arg0) = m' ((c.tc : Thread Cert.ReferencePairColIdeal.nD Cert.ReferencePairColIdeal.τ).loc Cert.ReferencePairColIdeal.main_arg0)
          ∧ r.2.mem ((c.tc : Thread Cert.ReferencePairColIdeal.nD Cert.ReferencePairColIdeal.τ).loc Cert.ReferencePairColIdeal.main_arg1) = m' ((c.tc : Thread Cert.ReferencePairColIdeal.nD Cert.ReferencePairColIdeal.τ).loc Cert.ReferencePairColIdeal.main_arg1))

def preserves_KernelPairRow_KernelPairRowIdeal : Prop :=
  True

def algebraic_KernelPairRowIdeal_ReferencePairRowIdeal [hKernelPairRowIdeal : Cert.KernelPairRowIdeal.Facts] [hReferencePairRowIdeal : Cert.ReferencePairRowIdeal.Facts] : Prop :=
  ∀ (m : (ℓ : Loc Cert.KernelPairRowIdeal.nD Cert.KernelPairRowIdeal.τ Cert.KernelPairRowIdeal.sig) → Buf (Elt Ideal) ℓ) (g : Dev Cert.KernelPairRowIdeal.nD → PrngReg)
    (m' : (ℓ : Loc Cert.ReferencePairRowIdeal.nD Cert.ReferencePairRowIdeal.τ Cert.ReferencePairRowIdeal.sig) → Buf (Elt Ideal) ℓ) (g' : Dev Cert.ReferencePairRowIdeal.nD → PrngReg), Pre_KernelPairRowIdeal m →
    (∀ c : Dev Cert.KernelPairRowIdeal.nD,
      m' ((c.tc : Thread Cert.ReferencePairRowIdeal.nD Cert.ReferencePairRowIdeal.τ).loc Cert.ReferencePairRowIdeal.main_arg0) = m ((c.tc : Thread Cert.KernelPairRowIdeal.nD Cert.KernelPairRowIdeal.τ).loc Cert.KernelPairRowIdeal.main_arg0)
      ∧ m' ((c.tc : Thread Cert.ReferencePairRowIdeal.nD Cert.ReferencePairRowIdeal.τ).loc Cert.ReferencePairRowIdeal.main_arg1) = m ((c.tc : Thread Cert.KernelPairRowIdeal.nD Cert.KernelPairRowIdeal.τ).loc Cert.KernelPairRowIdeal.main_arg1)) →
    ∃ (v0 : (c : Dev Cert.KernelPairRowIdeal.nD) → Buf (Elt Ideal) ((c.tc : Thread Cert.KernelPairRowIdeal.nD Cert.KernelPairRowIdeal.τ).loc Cert.KernelPairRowIdeal.main_v0)),
      θ_run (Cert.KernelPairRowIdeal.defs (F := Ideal)) (onTc (τ := Cert.KernelPairRowIdeal.τ) (Cert.KernelPairRowIdeal.main (F := Ideal))) ⟨m, fun _ => 0, g⟩ (fun r => ∀ c : Dev Cert.KernelPairRowIdeal.nD,
          r.2.mem ((c.tc : Thread Cert.KernelPairRowIdeal.nD Cert.KernelPairRowIdeal.τ).loc Cert.KernelPairRowIdeal.main_v0) = v0 c
          ∧ r.2.mem ((c.tc : Thread Cert.KernelPairRowIdeal.nD Cert.KernelPairRowIdeal.τ).loc Cert.KernelPairRowIdeal.main_arg0) = m ((c.tc : Thread Cert.KernelPairRowIdeal.nD Cert.KernelPairRowIdeal.τ).loc Cert.KernelPairRowIdeal.main_arg0)
          ∧ r.2.mem ((c.tc : Thread Cert.KernelPairRowIdeal.nD Cert.KernelPairRowIdeal.τ).loc Cert.KernelPairRowIdeal.main_arg1) = m ((c.tc : Thread Cert.KernelPairRowIdeal.nD Cert.KernelPairRowIdeal.τ).loc Cert.KernelPairRowIdeal.main_arg1))
      ∧ θ_run (Cert.ReferencePairRowIdeal.defs (F := Ideal)) (onTc (τ := Cert.ReferencePairRowIdeal.τ) (Cert.ReferencePairRowIdeal.main (F := Ideal))) ⟨m', fun _ => 0, g'⟩ (fun r => ∀ c : Dev Cert.ReferencePairRowIdeal.nD,
          r.2.mem ((c.tc : Thread Cert.ReferencePairRowIdeal.nD Cert.ReferencePairRowIdeal.τ).loc Cert.ReferencePairRowIdeal.main_v3) = v0 c
          ∧ r.2.mem ((c.tc : Thread Cert.ReferencePairRowIdeal.nD Cert.ReferencePairRowIdeal.τ).loc Cert.ReferencePairRowIdeal.main_arg0) = m' ((c.tc : Thread Cert.ReferencePairRowIdeal.nD Cert.ReferencePairRowIdeal.τ).loc Cert.ReferencePairRowIdeal.main_arg0)
          ∧ r.2.mem ((c.tc : Thread Cert.ReferencePairRowIdeal.nD Cert.ReferencePairRowIdeal.τ).loc Cert.ReferencePairRowIdeal.main_arg1) = m' ((c.tc : Thread Cert.ReferencePairRowIdeal.nD Cert.ReferencePairRowIdeal.τ).loc Cert.ReferencePairRowIdeal.main_arg1))

def preserves_KernelModF_KernelModFIdeal : Prop :=
  True

def algebraic_KernelModFIdeal_ReferenceModFIdeal [hKernelModFIdeal : Cert.KernelModFIdeal.Facts] [hReferenceModFIdeal : Cert.ReferenceModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg)
    (m' : (ℓ : Loc Cert.ReferenceModFIdeal.nD Cert.ReferenceModFIdeal.τ Cert.ReferenceModFIdeal.sig) → Buf (Elt Ideal) ℓ) (g' : Dev Cert.ReferenceModFIdeal.nD → PrngReg), Pre_KernelModFIdeal m →
    (∀ c : Dev Cert.KernelModFIdeal.nD,
      m' ((c.tc : Thread Cert.ReferenceModFIdeal.nD Cert.ReferenceModFIdeal.τ).loc Cert.ReferenceModFIdeal.main_arg0) = m ((c.tc : Thread Cert.KernelModFIdeal.nD Cert.KernelModFIdeal.τ).loc Cert.KernelModFIdeal.main_arg0)
      ∧ m' ((c.tc : Thread Cert.ReferenceModFIdeal.nD Cert.ReferenceModFIdeal.τ).loc Cert.ReferenceModFIdeal.main_arg1) = m ((c.tc : Thread Cert.KernelModFIdeal.nD Cert.KernelModFIdeal.τ).loc Cert.KernelModFIdeal.main_arg1)
      ∧ m' ((c.tc : Thread Cert.ReferenceModFIdeal.nD Cert.ReferenceModFIdeal.τ).loc Cert.ReferenceModFIdeal.main_arg2) = m ((c.tc : Thread Cert.KernelModFIdeal.nD Cert.KernelModFIdeal.τ).loc Cert.KernelModFIdeal.main_arg2)) →
    ∃ (v0 : (c : Dev Cert.KernelModFIdeal.nD) → Buf (Elt Ideal) ((c.tc : Thread Cert.KernelModFIdeal.nD Cert.KernelModFIdeal.τ).loc Cert.KernelModFIdeal.main_v0)),
      θ_run (Cert.KernelModFIdeal.defs (F := Ideal)) (onTc (τ := Cert.KernelModFIdeal.τ) (Cert.KernelModFIdeal.main (F := Ideal))) ⟨m, fun _ => 0, g⟩ (fun r => ∀ c : Dev Cert.KernelModFIdeal.nD,
          r.2.mem ((c.tc : Thread Cert.KernelModFIdeal.nD Cert.KernelModFIdeal.τ).loc Cert.KernelModFIdeal.main_v0) = v0 c
          ∧ r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
          ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1)
          ∧ r.2.mem ((c.tc : Thread Cert.KernelModFIdeal.nD Cert.KernelModFIdeal.τ).loc Cert.KernelModFIdeal.main_arg2) = m ((c.tc : Thread Cert.KernelModFIdeal.nD Cert.KernelModFIdeal.τ).loc Cert.KernelModFIdeal.main_arg2))
      ∧ θ_run (Cert.ReferenceModFIdeal.defs (F := Ideal)) (onTc (τ := Cert.ReferenceModFIdeal.τ) (Cert.ReferenceModFIdeal.main (F := Ideal))) ⟨m', fun _ => 0, g'⟩ (fun r => ∀ c : Dev Cert.ReferenceModFIdeal.nD,
          r.2.mem ((c.tc : Thread Cert.ReferenceModFIdeal.nD Cert.ReferenceModFIdeal.τ).loc Cert.ReferenceModFIdeal.main_v13) = v0 c
          ∧ r.2.mem ((c.tc : Thread Cert.ReferenceModFIdeal.nD Cert.ReferenceModFIdeal.τ).loc Cert.ReferenceModFIdeal.main_arg0) = m' ((c.tc : Thread Cert.ReferenceModFIdeal.nD Cert.ReferenceModFIdeal.τ).loc Cert.ReferenceModFIdeal.main_arg0)
          ∧ r.2.mem ((c.tc : Thread Cert.ReferenceModFIdeal.nD Cert.ReferenceModFIdeal.τ).loc Cert.ReferenceModFIdeal.main_arg1) = m' ((c.tc : Thread Cert.ReferenceModFIdeal.nD Cert.ReferenceModFIdeal.τ).loc Cert.ReferenceModFIdeal.main_arg1)
          ∧ r.2.mem ((c.tc : Thread Cert.ReferenceModFIdeal.nD Cert.ReferenceModFIdeal.τ).loc Cert.ReferenceModFIdeal.main_arg2) = m' ((c.tc : Thread Cert.ReferenceModFIdeal.nD Cert.ReferenceModFIdeal.τ).loc Cert.ReferenceModFIdeal.main_arg2))

def preserves_KernelN1_KernelN1Ideal : Prop :=
  True

def algebraic_KernelN1Ideal_ReferenceN1Ideal [hKernelN1Ideal : Cert.KernelN1Ideal.Facts] [hReferenceN1Ideal : Cert.ReferenceN1Ideal.Facts] : Prop :=
  ∀ (m : (ℓ : Loc Cert.KernelN1Ideal.nD Cert.KernelN1Ideal.τ Cert.KernelN1Ideal.sig) → Buf (Elt Ideal) ℓ) (g : Dev Cert.KernelN1Ideal.nD → PrngReg)
    (m' : (ℓ : Loc Cert.ReferenceN1Ideal.nD Cert.ReferenceN1Ideal.τ Cert.ReferenceN1Ideal.sig) → Buf (Elt Ideal) ℓ) (g' : Dev Cert.ReferenceN1Ideal.nD → PrngReg), Pre_KernelN1Ideal m →
    (∀ c : Dev Cert.KernelN1Ideal.nD,
      m' ((c.tc : Thread Cert.ReferenceN1Ideal.nD Cert.ReferenceN1Ideal.τ).loc Cert.ReferenceN1Ideal.main_arg0) = m ((c.tc : Thread Cert.KernelN1Ideal.nD Cert.KernelN1Ideal.τ).loc Cert.KernelN1Ideal.main_arg0)
      ∧ m' ((c.tc : Thread Cert.ReferenceN1Ideal.nD Cert.ReferenceN1Ideal.τ).loc Cert.ReferenceN1Ideal.main_arg1) = m ((c.tc : Thread Cert.KernelN1Ideal.nD Cert.KernelN1Ideal.τ).loc Cert.KernelN1Ideal.main_arg1)
      ∧ m' ((c.tc : Thread Cert.ReferenceN1Ideal.nD Cert.ReferenceN1Ideal.τ).loc Cert.ReferenceN1Ideal.main_arg2) = m ((c.tc : Thread Cert.KernelN1Ideal.nD Cert.KernelN1Ideal.τ).loc Cert.KernelN1Ideal.main_arg2)
      ∧ m' ((c.tc : Thread Cert.ReferenceN1Ideal.nD Cert.ReferenceN1Ideal.τ).loc Cert.ReferenceN1Ideal.main_arg3) = m ((c.tc : Thread Cert.KernelN1Ideal.nD Cert.KernelN1Ideal.τ).loc Cert.KernelN1Ideal.main_arg3)) →
    ∃ (v0 : (c : Dev Cert.KernelN1Ideal.nD) → Buf (Elt Ideal) ((c.tc : Thread Cert.KernelN1Ideal.nD Cert.KernelN1Ideal.τ).loc Cert.KernelN1Ideal.main_v0)),
      θ_run (Cert.KernelN1Ideal.defs (F := Ideal)) (onTc (τ := Cert.KernelN1Ideal.τ) (Cert.KernelN1Ideal.main (F := Ideal))) ⟨m, fun _ => 0, g⟩ (fun r => ∀ c : Dev Cert.KernelN1Ideal.nD,
          r.2.mem ((c.tc : Thread Cert.KernelN1Ideal.nD Cert.KernelN1Ideal.τ).loc Cert.KernelN1Ideal.main_v0) = v0 c
          ∧ r.2.mem ((c.tc : Thread Cert.KernelN1Ideal.nD Cert.KernelN1Ideal.τ).loc Cert.KernelN1Ideal.main_arg0) = m ((c.tc : Thread Cert.KernelN1Ideal.nD Cert.KernelN1Ideal.τ).loc Cert.KernelN1Ideal.main_arg0)
          ∧ r.2.mem ((c.tc : Thread Cert.KernelN1Ideal.nD Cert.KernelN1Ideal.τ).loc Cert.KernelN1Ideal.main_arg1) = m ((c.tc : Thread Cert.KernelN1Ideal.nD Cert.KernelN1Ideal.τ).loc Cert.KernelN1Ideal.main_arg1)
          ∧ r.2.mem ((c.tc : Thread Cert.KernelN1Ideal.nD Cert.KernelN1Ideal.τ).loc Cert.KernelN1Ideal.main_arg2) = m ((c.tc : Thread Cert.KernelN1Ideal.nD Cert.KernelN1Ideal.τ).loc Cert.KernelN1Ideal.main_arg2)
          ∧ r.2.mem ((c.tc : Thread Cert.KernelN1Ideal.nD Cert.KernelN1Ideal.τ).loc Cert.KernelN1Ideal.main_arg3) = m ((c.tc : Thread Cert.KernelN1Ideal.nD Cert.KernelN1Ideal.τ).loc Cert.KernelN1Ideal.main_arg3))
      ∧ θ_run (Cert.ReferenceN1Ideal.defs (F := Ideal)) (onTc (τ := Cert.ReferenceN1Ideal.τ) (Cert.ReferenceN1Ideal.main (F := Ideal))) ⟨m', fun _ => 0, g'⟩ (fun r => ∀ c : Dev Cert.ReferenceN1Ideal.nD,
          r.2.mem ((c.tc : Thread Cert.ReferenceN1Ideal.nD Cert.ReferenceN1Ideal.τ).loc Cert.ReferenceN1Ideal.main_v41) = v0 c
          ∧ r.2.mem ((c.tc : Thread Cert.ReferenceN1Ideal.nD Cert.ReferenceN1Ideal.τ).loc Cert.ReferenceN1Ideal.main_arg0) = m' ((c.tc : Thread Cert.ReferenceN1Ideal.nD Cert.ReferenceN1Ideal.τ).loc Cert.ReferenceN1Ideal.main_arg0)
          ∧ r.2.mem ((c.tc : Thread Cert.ReferenceN1Ideal.nD Cert.ReferenceN1Ideal.τ).loc Cert.ReferenceN1Ideal.main_arg1) = m' ((c.tc : Thread Cert.ReferenceN1Ideal.nD Cert.ReferenceN1Ideal.τ).loc Cert.ReferenceN1Ideal.main_arg1)
          ∧ r.2.mem ((c.tc : Thread Cert.ReferenceN1Ideal.nD Cert.ReferenceN1Ideal.τ).loc Cert.ReferenceN1Ideal.main_arg2) = m' ((c.tc : Thread Cert.ReferenceN1Ideal.nD Cert.ReferenceN1Ideal.τ).loc Cert.ReferenceN1Ideal.main_arg2)
          ∧ r.2.mem ((c.tc : Thread Cert.ReferenceN1Ideal.nD Cert.ReferenceN1Ideal.τ).loc Cert.ReferenceN1Ideal.main_arg3) = m' ((c.tc : Thread Cert.ReferenceN1Ideal.nD Cert.ReferenceN1Ideal.τ).loc Cert.ReferenceN1Ideal.main_arg3))

def preserves_KernelN2_KernelN2Ideal : Prop :=
  True

def algebraic_KernelN2Ideal_ReferenceN2Ideal [hKernelN2Ideal : Cert.KernelN2Ideal.Facts] [hReferenceN2Ideal : Cert.ReferenceN2Ideal.Facts] : Prop :=
  ∀ (m : (ℓ : Loc Cert.KernelN2Ideal.nD Cert.KernelN2Ideal.τ Cert.KernelN2Ideal.sig) → Buf (Elt Ideal) ℓ) (g : Dev Cert.KernelN2Ideal.nD → PrngReg)
    (m' : (ℓ : Loc Cert.ReferenceN2Ideal.nD Cert.ReferenceN2Ideal.τ Cert.ReferenceN2Ideal.sig) → Buf (Elt Ideal) ℓ) (g' : Dev Cert.ReferenceN2Ideal.nD → PrngReg), Pre_KernelN2Ideal m →
    (∀ c : Dev Cert.KernelN2Ideal.nD,
      m' ((c.tc : Thread Cert.ReferenceN2Ideal.nD Cert.ReferenceN2Ideal.τ).loc Cert.ReferenceN2Ideal.main_arg0) = m ((c.tc : Thread Cert.KernelN2Ideal.nD Cert.KernelN2Ideal.τ).loc Cert.KernelN2Ideal.main_arg0)
      ∧ m' ((c.tc : Thread Cert.ReferenceN2Ideal.nD Cert.ReferenceN2Ideal.τ).loc Cert.ReferenceN2Ideal.main_arg1) = m ((c.tc : Thread Cert.KernelN2Ideal.nD Cert.KernelN2Ideal.τ).loc Cert.KernelN2Ideal.main_arg1)
      ∧ m' ((c.tc : Thread Cert.ReferenceN2Ideal.nD Cert.ReferenceN2Ideal.τ).loc Cert.ReferenceN2Ideal.main_arg2) = m ((c.tc : Thread Cert.KernelN2Ideal.nD Cert.KernelN2Ideal.τ).loc Cert.KernelN2Ideal.main_arg2)
      ∧ m' ((c.tc : Thread Cert.ReferenceN2Ideal.nD Cert.ReferenceN2Ideal.τ).loc Cert.ReferenceN2Ideal.main_arg3) = m ((c.tc : Thread Cert.KernelN2Ideal.nD Cert.KernelN2Ideal.τ).loc Cert.KernelN2Ideal.main_arg3)) →
    ∃ (v0 : (c : Dev Cert.KernelN2Ideal.nD) → Buf (Elt Ideal) ((c.tc : Thread Cert.KernelN2Ideal.nD Cert.KernelN2Ideal.τ).loc Cert.KernelN2Ideal.main_v0_0)) (v1 : (c : Dev Cert.KernelN2Ideal.nD) → Buf (Elt Ideal) ((c.tc : Thread Cert.KernelN2Ideal.nD Cert.KernelN2Ideal.τ).loc Cert.KernelN2Ideal.main_v0_1)),
      θ_run (Cert.KernelN2Ideal.defs (F := Ideal)) (onTc (τ := Cert.KernelN2Ideal.τ) (Cert.KernelN2Ideal.main (F := Ideal))) ⟨m, fun _ => 0, g⟩ (fun r => ∀ c : Dev Cert.KernelN2Ideal.nD,
          r.2.mem ((c.tc : Thread Cert.KernelN2Ideal.nD Cert.KernelN2Ideal.τ).loc Cert.KernelN2Ideal.main_v0_0) = v0 c
          ∧ r.2.mem ((c.tc : Thread Cert.KernelN2Ideal.nD Cert.KernelN2Ideal.τ).loc Cert.KernelN2Ideal.main_v0_1) = v1 c
          ∧ r.2.mem ((c.tc : Thread Cert.KernelN2Ideal.nD Cert.KernelN2Ideal.τ).loc Cert.KernelN2Ideal.main_arg0) = m ((c.tc : Thread Cert.KernelN2Ideal.nD Cert.KernelN2Ideal.τ).loc Cert.KernelN2Ideal.main_arg0)
          ∧ r.2.mem ((c.tc : Thread Cert.KernelN2Ideal.nD Cert.KernelN2Ideal.τ).loc Cert.KernelN2Ideal.main_arg1) = m ((c.tc : Thread Cert.KernelN2Ideal.nD Cert.KernelN2Ideal.τ).loc Cert.KernelN2Ideal.main_arg1)
          ∧ r.2.mem ((c.tc : Thread Cert.KernelN2Ideal.nD Cert.KernelN2Ideal.τ).loc Cert.KernelN2Ideal.main_arg2) = m ((c.tc : Thread Cert.KernelN2Ideal.nD Cert.KernelN2Ideal.τ).loc Cert.KernelN2Ideal.main_arg2)
          ∧ r.2.mem ((c.tc : Thread Cert.KernelN2Ideal.nD Cert.KernelN2Ideal.τ).loc Cert.KernelN2Ideal.main_arg3) = m ((c.tc : Thread Cert.KernelN2Ideal.nD Cert.KernelN2Ideal.τ).loc Cert.KernelN2Ideal.main_arg3))
      ∧ θ_run (Cert.ReferenceN2Ideal.defs (F := Ideal)) (onTc (τ := Cert.ReferenceN2Ideal.τ) (Cert.ReferenceN2Ideal.main (F := Ideal))) ⟨m', fun _ => 0, g'⟩ (fun r => ∀ c : Dev Cert.ReferenceN2Ideal.nD,
          r.2.mem ((c.tc : Thread Cert.ReferenceN2Ideal.nD Cert.ReferenceN2Ideal.τ).loc Cert.ReferenceN2Ideal.main_v4) = v0 c
          ∧ r.2.mem ((c.tc : Thread Cert.ReferenceN2Ideal.nD Cert.ReferenceN2Ideal.τ).loc Cert.ReferenceN2Ideal.main_v25) = v1 c
          ∧ r.2.mem ((c.tc : Thread Cert.ReferenceN2Ideal.nD Cert.ReferenceN2Ideal.τ).loc Cert.ReferenceN2Ideal.main_arg0) = m' ((c.tc : Thread Cert.ReferenceN2Ideal.nD Cert.ReferenceN2Ideal.τ).loc Cert.ReferenceN2Ideal.main_arg0)
          ∧ r.2.mem ((c.tc : Thread Cert.ReferenceN2Ideal.nD Cert.ReferenceN2Ideal.τ).loc Cert.ReferenceN2Ideal.main_arg1) = m' ((c.tc : Thread Cert.ReferenceN2Ideal.nD Cert.ReferenceN2Ideal.τ).loc Cert.ReferenceN2Ideal.main_arg1)
          ∧ r.2.mem ((c.tc : Thread Cert.ReferenceN2Ideal.nD Cert.ReferenceN2Ideal.τ).loc Cert.ReferenceN2Ideal.main_arg2) = m' ((c.tc : Thread Cert.ReferenceN2Ideal.nD Cert.ReferenceN2Ideal.τ).loc Cert.ReferenceN2Ideal.main_arg2)
          ∧ r.2.mem ((c.tc : Thread Cert.ReferenceN2Ideal.nD Cert.ReferenceN2Ideal.τ).loc Cert.ReferenceN2Ideal.main_arg3) = m' ((c.tc : Thread Cert.ReferenceN2Ideal.nD Cert.ReferenceN2Ideal.τ).loc Cert.ReferenceN2Ideal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v24) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1))

def preserves_KernelMergeB_KernelMergeBIdeal : Prop :=
  True

def algebraic_KernelMergeBIdeal_ReferenceMergeBIdeal [hKernelMergeBIdeal : Cert.KernelMergeBIdeal.Facts] [hReferenceMergeBIdeal : Cert.ReferenceMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg)
    (m' : (ℓ : Loc Cert.ReferenceMergeBIdeal.nD Cert.ReferenceMergeBIdeal.τ Cert.ReferenceMergeBIdeal.sig) → Buf (Elt Ideal) ℓ) (g' : Dev Cert.ReferenceMergeBIdeal.nD → PrngReg), Pre_KernelMergeBIdeal m →
    (∀ c : Dev Cert.KernelMergeBIdeal.nD,
      m' ((c.tc : Thread Cert.ReferenceMergeBIdeal.nD Cert.ReferenceMergeBIdeal.τ).loc Cert.ReferenceMergeBIdeal.main_arg0) = m ((c.tc : Thread Cert.KernelMergeBIdeal.nD Cert.KernelMergeBIdeal.τ).loc Cert.KernelMergeBIdeal.main_arg0)
      ∧ m' ((c.tc : Thread Cert.ReferenceMergeBIdeal.nD Cert.ReferenceMergeBIdeal.τ).loc Cert.ReferenceMergeBIdeal.main_arg1) = m ((c.tc : Thread Cert.KernelMergeBIdeal.nD Cert.KernelMergeBIdeal.τ).loc Cert.KernelMergeBIdeal.main_arg1)
      ∧ m' ((c.tc : Thread Cert.ReferenceMergeBIdeal.nD Cert.ReferenceMergeBIdeal.τ).loc Cert.ReferenceMergeBIdeal.main_arg2) = m ((c.tc : Thread Cert.KernelMergeBIdeal.nD Cert.KernelMergeBIdeal.τ).loc Cert.KernelMergeBIdeal.main_arg2)) →
    ∃ (v0 : (c : Dev Cert.KernelMergeBIdeal.nD) → Buf (Elt Ideal) ((c.tc : Thread Cert.KernelMergeBIdeal.nD Cert.KernelMergeBIdeal.τ).loc Cert.KernelMergeBIdeal.main_v0_0)) (v1 : (c : Dev Cert.KernelMergeBIdeal.nD) → Buf (Elt Ideal) ((c.tc : Thread Cert.KernelMergeBIdeal.nD Cert.KernelMergeBIdeal.τ).loc Cert.KernelMergeBIdeal.main_v1)),
      θ_run (Cert.KernelMergeBIdeal.defs (F := Ideal)) (onTc (τ := Cert.KernelMergeBIdeal.τ) (Cert.KernelMergeBIdeal.main (F := Ideal))) ⟨m, fun _ => 0, g⟩ (fun r => ∀ c : Dev Cert.KernelMergeBIdeal.nD,
          r.2.mem ((c.tc : Thread Cert.KernelMergeBIdeal.nD Cert.KernelMergeBIdeal.τ).loc Cert.KernelMergeBIdeal.main_v0_0) = v0 c
          ∧ r.2.mem ((c.tc : Thread Cert.KernelMergeBIdeal.nD Cert.KernelMergeBIdeal.τ).loc Cert.KernelMergeBIdeal.main_v1) = v1 c
          ∧ r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
          ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
          ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2))
      ∧ θ_run (Cert.ReferenceMergeBIdeal.defs (F := Ideal)) (onTc (τ := Cert.ReferenceMergeBIdeal.τ) (Cert.ReferenceMergeBIdeal.main (F := Ideal))) ⟨m', fun _ => 0, g'⟩ (fun r => ∀ c : Dev Cert.ReferenceMergeBIdeal.nD,
          r.2.mem ((c.tc : Thread Cert.ReferenceMergeBIdeal.nD Cert.ReferenceMergeBIdeal.τ).loc Cert.ReferenceMergeBIdeal.main_v41) = v0 c
          ∧ r.2.mem ((c.tc : Thread Cert.ReferenceMergeBIdeal.nD Cert.ReferenceMergeBIdeal.τ).loc Cert.ReferenceMergeBIdeal.main_v44) = v1 c
          ∧ r.2.mem ((c.tc : Thread Cert.ReferenceMergeBIdeal.nD Cert.ReferenceMergeBIdeal.τ).loc Cert.ReferenceMergeBIdeal.main_arg0) = m' ((c.tc : Thread Cert.ReferenceMergeBIdeal.nD Cert.ReferenceMergeBIdeal.τ).loc Cert.ReferenceMergeBIdeal.main_arg0)
          ∧ r.2.mem ((c.tc : Thread Cert.ReferenceMergeBIdeal.nD Cert.ReferenceMergeBIdeal.τ).loc Cert.ReferenceMergeBIdeal.main_arg1) = m' ((c.tc : Thread Cert.ReferenceMergeBIdeal.nD Cert.ReferenceMergeBIdeal.τ).loc Cert.ReferenceMergeBIdeal.main_arg1)
          ∧ r.2.mem ((c.tc : Thread Cert.ReferenceMergeBIdeal.nD Cert.ReferenceMergeBIdeal.τ).loc Cert.ReferenceMergeBIdeal.main_arg2) = m' ((c.tc : Thread Cert.ReferenceMergeBIdeal.nD Cert.ReferenceMergeBIdeal.τ).loc Cert.ReferenceMergeBIdeal.main_arg2))

def preserves_KernelActB_KernelActBIdeal : Prop :=
  True

def algebraic_KernelActBIdeal_ReferenceActBIdeal_pre_finite_act [hKernelActBIdeal : Cert.KernelActBIdeal.Facts] [hReferenceActBIdeal : Cert.ReferenceActBIdeal.Facts] [hPre_finite_act : Cert.Pre_finite_act.Facts] : Prop :=
  ∀ (m : (ℓ : Loc Cert.KernelActBIdeal.nD Cert.KernelActBIdeal.τ Cert.KernelActBIdeal.sig) → Buf (Elt Ideal) ℓ) (g : Dev Cert.KernelActBIdeal.nD → PrngReg)
    (m' : (ℓ : Loc Cert.ReferenceActBIdeal.nD Cert.ReferenceActBIdeal.τ Cert.ReferenceActBIdeal.sig) → Buf (Elt Ideal) ℓ) (g' : Dev Cert.ReferenceActBIdeal.nD → PrngReg), Pre_KernelActBIdeal_finite_act m →
    (∀ c : Dev Cert.KernelActBIdeal.nD,
      m' ((c.tc : Thread Cert.ReferenceActBIdeal.nD Cert.ReferenceActBIdeal.τ).loc Cert.ReferenceActBIdeal.main_arg0) = m ((c.tc : Thread Cert.KernelActBIdeal.nD Cert.KernelActBIdeal.τ).loc Cert.KernelActBIdeal.main_arg0)
      ∧ m' ((c.tc : Thread Cert.ReferenceActBIdeal.nD Cert.ReferenceActBIdeal.τ).loc Cert.ReferenceActBIdeal.main_arg1) = m ((c.tc : Thread Cert.KernelActBIdeal.nD Cert.KernelActBIdeal.τ).loc Cert.KernelActBIdeal.main_arg1)
      ∧ m' ((c.tc : Thread Cert.ReferenceActBIdeal.nD Cert.ReferenceActBIdeal.τ).loc Cert.ReferenceActBIdeal.main_arg2) = m ((c.tc : Thread Cert.KernelActBIdeal.nD Cert.KernelActBIdeal.τ).loc Cert.KernelActBIdeal.main_arg2)) →
    ∃ (v0 : (c : Dev Cert.KernelActBIdeal.nD) → Buf (Elt Ideal) ((c.tc : Thread Cert.KernelActBIdeal.nD Cert.KernelActBIdeal.τ).loc Cert.KernelActBIdeal.main_v1)) (v1 : (c : Dev Cert.KernelActBIdeal.nD) → Buf (Elt Ideal) ((c.tc : Thread Cert.KernelActBIdeal.nD Cert.KernelActBIdeal.τ).loc Cert.KernelActBIdeal.main_v0_1)),
      θ_run (Cert.KernelActBIdeal.defs (F := Ideal)) (onTc (τ := Cert.KernelActBIdeal.τ) (Cert.KernelActBIdeal.main (F := Ideal))) ⟨m, fun _ => 0, g⟩ (fun r => ∀ c : Dev Cert.KernelActBIdeal.nD,
          r.2.mem ((c.tc : Thread Cert.KernelActBIdeal.nD Cert.KernelActBIdeal.τ).loc Cert.KernelActBIdeal.main_v1) = v0 c
          ∧ r.2.mem ((c.tc : Thread Cert.KernelActBIdeal.nD Cert.KernelActBIdeal.τ).loc Cert.KernelActBIdeal.main_v0_1) = v1 c
          ∧ r.2.mem ((c.tc : Thread Cert.KernelActBIdeal.nD Cert.KernelActBIdeal.τ).loc Cert.KernelActBIdeal.main_arg0) = m ((c.tc : Thread Cert.KernelActBIdeal.nD Cert.KernelActBIdeal.τ).loc Cert.KernelActBIdeal.main_arg0)
          ∧ r.2.mem ((c.tc : Thread Cert.KernelActBIdeal.nD Cert.KernelActBIdeal.τ).loc Cert.KernelActBIdeal.main_arg1) = m ((c.tc : Thread Cert.KernelActBIdeal.nD Cert.KernelActBIdeal.τ).loc Cert.KernelActBIdeal.main_arg1)
          ∧ r.2.mem ((c.tc : Thread Cert.KernelActBIdeal.nD Cert.KernelActBIdeal.τ).loc Cert.KernelActBIdeal.main_arg2) = m ((c.tc : Thread Cert.KernelActBIdeal.nD Cert.KernelActBIdeal.τ).loc Cert.KernelActBIdeal.main_arg2))
      ∧ θ_run (Cert.ReferenceActBIdeal.defs (F := Ideal)) (onTc (τ := Cert.ReferenceActBIdeal.τ) (Cert.ReferenceActBIdeal.main (F := Ideal))) ⟨m', fun _ => 0, g'⟩ (fun r => ∀ c : Dev Cert.ReferenceActBIdeal.nD,
          r.2.mem ((c.tc : Thread Cert.ReferenceActBIdeal.nD Cert.ReferenceActBIdeal.τ).loc Cert.ReferenceActBIdeal.main_v9) = v0 c
          ∧ r.2.mem ((c.tc : Thread Cert.ReferenceActBIdeal.nD Cert.ReferenceActBIdeal.τ).loc Cert.ReferenceActBIdeal.main_v10) = v1 c
          ∧ r.2.mem ((c.tc : Thread Cert.ReferenceActBIdeal.nD Cert.ReferenceActBIdeal.τ).loc Cert.ReferenceActBIdeal.main_arg0) = m' ((c.tc : Thread Cert.ReferenceActBIdeal.nD Cert.ReferenceActBIdeal.τ).loc Cert.ReferenceActBIdeal.main_arg0)
          ∧ r.2.mem ((c.tc : Thread Cert.ReferenceActBIdeal.nD Cert.ReferenceActBIdeal.τ).loc Cert.ReferenceActBIdeal.main_arg1) = m' ((c.tc : Thread Cert.ReferenceActBIdeal.nD Cert.ReferenceActBIdeal.τ).loc Cert.ReferenceActBIdeal.main_arg1)
          ∧ r.2.mem ((c.tc : Thread Cert.ReferenceActBIdeal.nD Cert.ReferenceActBIdeal.τ).loc Cert.ReferenceActBIdeal.main_arg2) = m' ((c.tc : Thread Cert.ReferenceActBIdeal.nD Cert.ReferenceActBIdeal.τ).loc Cert.ReferenceActBIdeal.main_arg2))

def Claim : Prop :=
  ∃ (hKernelZmain : Cert.KernelZmain.Facts) (hKernelZmainIdeal : Cert.KernelZmainIdeal.Facts) (hReferenceZmainIdeal : Cert.ReferenceZmainIdeal.Facts) (hKernelZg : Cert.KernelZg.Facts) (hKernelZgIdeal : Cert.KernelZgIdeal.Facts) (hReferenceZgIdeal : Cert.ReferenceZgIdeal.Facts) (hKernelBranch : Cert.KernelBranch.Facts) (hKernelBranchIdeal : Cert.KernelBranchIdeal.Facts) (hReferenceBranchIdeal : Cert.ReferenceBranchIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDdown : Cert.KernelDdown.Facts) (hKernelDdownIdeal : Cert.KernelDdownIdeal.Facts) (hReferenceDdownIdeal : Cert.ReferenceDdownIdeal.Facts) (hKernelDup : Cert.KernelDup.Facts) (hKernelDupIdeal : Cert.KernelDupIdeal.Facts) (hReferenceDupIdeal : Cert.ReferenceDupIdeal.Facts) (hKernelDout : Cert.KernelDout.Facts) (hKernelDoutIdeal : Cert.KernelDoutIdeal.Facts) (hReferenceDoutIdeal : Cert.ReferenceDoutIdeal.Facts) (hKernelDbranch : Cert.KernelDbranch.Facts) (hKernelDbranchIdeal : Cert.KernelDbranchIdeal.Facts) (hReferenceDbranchIdeal : Cert.ReferenceDbranchIdeal.Facts) (hKernelDmain : Cert.KernelDmain.Facts) (hKernelDmainIdeal : Cert.KernelDmainIdeal.Facts) (hReferenceDmainIdeal : Cert.ReferenceDmainIdeal.Facts) (hKernelDg : Cert.KernelDg.Facts) (hKernelDgIdeal : Cert.KernelDgIdeal.Facts) (hReferenceDgIdeal : Cert.ReferenceDgIdeal.Facts) (hKernelMdown : Cert.KernelMdown.Facts) (hKernelMdownIdeal : Cert.KernelMdownIdeal.Facts) (hReferenceMdownIdeal : Cert.ReferenceMdownIdeal.Facts) (hKernelMup : Cert.KernelMup.Facts) (hKernelMupIdeal : Cert.KernelMupIdeal.Facts) (hReferenceMupIdeal : Cert.ReferenceMupIdeal.Facts) (hKernelMout : Cert.KernelMout.Facts) (hKernelMoutIdeal : Cert.KernelMoutIdeal.Facts) (hReferenceMoutIdeal : Cert.ReferenceMoutIdeal.Facts) (hKernelMbranch : Cert.KernelMbranch.Facts) (hKernelMbranchIdeal : Cert.KernelMbranchIdeal.Facts) (hReferenceMbranchIdeal : Cert.ReferenceMbranchIdeal.Facts) (hKernelMmain : Cert.KernelMmain.Facts) (hKernelMmainIdeal : Cert.KernelMmainIdeal.Facts) (hReferenceMmainIdeal : Cert.ReferenceMmainIdeal.Facts) (hKernelMg : Cert.KernelMg.Facts) (hKernelMgIdeal : Cert.KernelMgIdeal.Facts) (hReferenceMgIdeal : Cert.ReferenceMgIdeal.Facts) (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernelAmod : Cert.KernelAmod.Facts) (hKernelAmodIdeal : Cert.KernelAmodIdeal.Facts) (hReferenceAmodIdeal : Cert.ReferenceAmodIdeal.Facts) (hKernelAin : Cert.KernelAin.Facts) (hKernelAinIdeal : Cert.KernelAinIdeal.Facts) (hReferenceAinIdeal : Cert.ReferenceAinIdeal.Facts) (hKernelAbranch : Cert.KernelAbranch.Facts) (hKernelAbranchIdeal : Cert.KernelAbranchIdeal.Facts) (hReferenceAbranchIdeal : Cert.ReferenceAbranchIdeal.Facts) (hKernelAup : Cert.KernelAup.Facts) (hKernelAupIdeal : Cert.KernelAupIdeal.Facts) (hReferenceAupIdeal : Cert.ReferenceAupIdeal.Facts) (hKernelAdown : Cert.KernelAdown.Facts) (hKernelAdownIdeal : Cert.KernelAdownIdeal.Facts) (hReferenceAdownIdeal : Cert.ReferenceAdownIdeal.Facts) (hKernelAsmall : Cert.KernelAsmall.Facts) (hKernelAsmallIdeal : Cert.KernelAsmallIdeal.Facts) (hReferenceAsmallIdeal : Cert.ReferenceAsmallIdeal.Facts) (hKernelHead : Cert.KernelHead.Facts) (hKernelHeadIdeal : Cert.KernelHeadIdeal.Facts) (hReferenceHeadIdeal : Cert.ReferenceHeadIdeal.Facts) (hKernelSmallSum : Cert.KernelSmallSum.Facts) (hKernelSmallSumIdeal : Cert.KernelSmallSumIdeal.Facts) (hReferenceSmallSumIdeal : Cert.ReferenceSmallSumIdeal.Facts) (hKernelColSum : Cert.KernelColSum.Facts) (hKernelColSumIdeal : Cert.KernelColSumIdeal.Facts) (hReferenceColSumIdeal : Cert.ReferenceColSumIdeal.Facts) (hKernelRowSum : Cert.KernelRowSum.Facts) (hKernelRowSumIdeal : Cert.KernelRowSumIdeal.Facts) (hReferenceRowSumIdeal : Cert.ReferenceRowSumIdeal.Facts) (hKernelModW : Cert.KernelModW.Facts) (hKernelModWIdeal : Cert.KernelModWIdeal.Facts) (hReferenceModWIdeal : Cert.ReferenceModWIdeal.Facts) (hKernelCctx : Cert.KernelCctx.Facts) (hKernelCctxIdeal : Cert.KernelCctxIdeal.Facts) (hReferenceCctxIdeal : Cert.ReferenceCctxIdeal.Facts) (hKernelPairCol : Cert.KernelPairCol.Facts) (hKernelPairColIdeal : Cert.KernelPairColIdeal.Facts) (hReferencePairColIdeal : Cert.ReferencePairColIdeal.Facts) (hKernelPairRow : Cert.KernelPairRow.Facts) (hKernelPairRowIdeal : Cert.KernelPairRowIdeal.Facts) (hReferencePairRowIdeal : Cert.ReferencePairRowIdeal.Facts) (hKernelModF : Cert.KernelModF.Facts) (hKernelModFIdeal : Cert.KernelModFIdeal.Facts) (hReferenceModFIdeal : Cert.ReferenceModFIdeal.Facts) (hKernelN1 : Cert.KernelN1.Facts) (hKernelN1Ideal : Cert.KernelN1Ideal.Facts) (hReferenceN1Ideal : Cert.ReferenceN1Ideal.Facts) (hKernelN2 : Cert.KernelN2.Facts) (hKernelN2Ideal : Cert.KernelN2Ideal.Facts) (hReferenceN2Ideal : Cert.ReferenceN2Ideal.Facts) (hKernelMerge : Cert.KernelMerge.Facts) (hKernelMergeIdeal : Cert.KernelMergeIdeal.Facts) (hReferenceMergeIdeal : Cert.ReferenceMergeIdeal.Facts) (hKernelMergeB : Cert.KernelMergeB.Facts) (hKernelMergeBIdeal : Cert.KernelMergeBIdeal.Facts) (hReferenceMergeBIdeal : Cert.ReferenceMergeBIdeal.Facts) (hKernelActB : Cert.KernelActB.Facts) (hKernelActBIdeal : Cert.KernelActBIdeal.Facts) (hReferenceActBIdeal : Cert.ReferenceActBIdeal.Facts) (hPre_finite_cctx : Cert.Pre_finite_cctx.Facts) (hPre_finite_act : Cert.Pre_finite_act.Facts),
    quiescent_KernelZmain (hKernelZmain := hKernelZmain)
    ∧ quiescent_KernelZmainIdeal (hKernelZmainIdeal := hKernelZmainIdeal)
    ∧ quiescent_ReferenceZmainIdeal (hReferenceZmainIdeal := hReferenceZmainIdeal)
    ∧ quiescent_KernelZg (hKernelZg := hKernelZg)
    ∧ quiescent_KernelZgIdeal (hKernelZgIdeal := hKernelZgIdeal)
    ∧ quiescent_ReferenceZgIdeal (hReferenceZgIdeal := hReferenceZgIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDdown (hKernelDdown := hKernelDdown)
    ∧ quiescent_KernelDdownIdeal (hKernelDdownIdeal := hKernelDdownIdeal)
    ∧ quiescent_ReferenceDdownIdeal (hReferenceDdownIdeal := hReferenceDdownIdeal)
    ∧ quiescent_KernelDup (hKernelDup := hKernelDup)
    ∧ quiescent_KernelDupIdeal (hKernelDupIdeal := hKernelDupIdeal)
    ∧ quiescent_ReferenceDupIdeal (hReferenceDupIdeal := hReferenceDupIdeal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelDbranch (hKernelDbranch := hKernelDbranch)
    ∧ quiescent_KernelDbranchIdeal (hKernelDbranchIdeal := hKernelDbranchIdeal)
    ∧ quiescent_ReferenceDbranchIdeal (hReferenceDbranchIdeal := hReferenceDbranchIdeal)
    ∧ quiescent_KernelDmain (hKernelDmain := hKernelDmain)
    ∧ quiescent_KernelDmainIdeal (hKernelDmainIdeal := hKernelDmainIdeal)
    ∧ quiescent_ReferenceDmainIdeal (hReferenceDmainIdeal := hReferenceDmainIdeal)
    ∧ quiescent_KernelDg (hKernelDg := hKernelDg)
    ∧ quiescent_KernelDgIdeal (hKernelDgIdeal := hKernelDgIdeal)
    ∧ quiescent_ReferenceDgIdeal (hReferenceDgIdeal := hReferenceDgIdeal)
    ∧ quiescent_KernelMdown (hKernelMdown := hKernelMdown)
    ∧ quiescent_KernelMdownIdeal (hKernelMdownIdeal := hKernelMdownIdeal)
    ∧ quiescent_ReferenceMdownIdeal (hReferenceMdownIdeal := hReferenceMdownIdeal)
    ∧ quiescent_KernelMup (hKernelMup := hKernelMup)
    ∧ quiescent_KernelMupIdeal (hKernelMupIdeal := hKernelMupIdeal)
    ∧ quiescent_ReferenceMupIdeal (hReferenceMupIdeal := hReferenceMupIdeal)
    ∧ quiescent_KernelMout (hKernelMout := hKernelMout)
    ∧ quiescent_KernelMoutIdeal (hKernelMoutIdeal := hKernelMoutIdeal)
    ∧ quiescent_ReferenceMoutIdeal (hReferenceMoutIdeal := hReferenceMoutIdeal)
    ∧ quiescent_KernelMbranch (hKernelMbranch := hKernelMbranch)
    ∧ quiescent_KernelMbranchIdeal (hKernelMbranchIdeal := hKernelMbranchIdeal)
    ∧ quiescent_ReferenceMbranchIdeal (hReferenceMbranchIdeal := hReferenceMbranchIdeal)
    ∧ quiescent_KernelMmain (hKernelMmain := hKernelMmain)
    ∧ quiescent_KernelMmainIdeal (hKernelMmainIdeal := hKernelMmainIdeal)
    ∧ quiescent_ReferenceMmainIdeal (hReferenceMmainIdeal := hReferenceMmainIdeal)
    ∧ quiescent_KernelMg (hKernelMg := hKernelMg)
    ∧ quiescent_KernelMgIdeal (hKernelMgIdeal := hKernelMgIdeal)
    ∧ quiescent_ReferenceMgIdeal (hReferenceMgIdeal := hReferenceMgIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel1 (hKernel1 := hKernel1)
    ∧ quiescent_Kernel1Ideal (hKernel1Ideal := hKernel1Ideal)
    ∧ quiescent_Reference1Ideal (hReference1Ideal := hReference1Ideal)
    ∧ quiescent_KernelAmod (hKernelAmod := hKernelAmod)
    ∧ quiescent_KernelAmodIdeal (hKernelAmodIdeal := hKernelAmodIdeal)
    ∧ quiescent_ReferenceAmodIdeal (hReferenceAmodIdeal := hReferenceAmodIdeal)
    ∧ quiescent_KernelAin (hKernelAin := hKernelAin)
    ∧ quiescent_KernelAinIdeal (hKernelAinIdeal := hKernelAinIdeal)
    ∧ quiescent_ReferenceAinIdeal (hReferenceAinIdeal := hReferenceAinIdeal)
    ∧ quiescent_KernelAbranch (hKernelAbranch := hKernelAbranch)
    ∧ quiescent_KernelAbranchIdeal (hKernelAbranchIdeal := hKernelAbranchIdeal)
    ∧ quiescent_ReferenceAbranchIdeal (hReferenceAbranchIdeal := hReferenceAbranchIdeal)
    ∧ quiescent_KernelAup (hKernelAup := hKernelAup)
    ∧ quiescent_KernelAupIdeal (hKernelAupIdeal := hKernelAupIdeal)
    ∧ quiescent_ReferenceAupIdeal (hReferenceAupIdeal := hReferenceAupIdeal)
    ∧ quiescent_KernelAdown (hKernelAdown := hKernelAdown)
    ∧ quiescent_KernelAdownIdeal (hKernelAdownIdeal := hKernelAdownIdeal)
    ∧ quiescent_ReferenceAdownIdeal (hReferenceAdownIdeal := hReferenceAdownIdeal)
    ∧ quiescent_KernelAsmall (hKernelAsmall := hKernelAsmall)
    ∧ quiescent_KernelAsmallIdeal (hKernelAsmallIdeal := hKernelAsmallIdeal)
    ∧ quiescent_ReferenceAsmallIdeal (hReferenceAsmallIdeal := hReferenceAsmallIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ quiescent_KernelSmallSum (hKernelSmallSum := hKernelSmallSum)
    ∧ quiescent_KernelSmallSumIdeal (hKernelSmallSumIdeal := hKernelSmallSumIdeal)
    ∧ quiescent_ReferenceSmallSumIdeal (hReferenceSmallSumIdeal := hReferenceSmallSumIdeal)
    ∧ quiescent_KernelColSum (hKernelColSum := hKernelColSum)
    ∧ quiescent_KernelColSumIdeal (hKernelColSumIdeal := hKernelColSumIdeal)
    ∧ quiescent_ReferenceColSumIdeal (hReferenceColSumIdeal := hReferenceColSumIdeal)
    ∧ quiescent_KernelRowSum (hKernelRowSum := hKernelRowSum)
    ∧ quiescent_KernelRowSumIdeal (hKernelRowSumIdeal := hKernelRowSumIdeal)
    ∧ quiescent_ReferenceRowSumIdeal (hReferenceRowSumIdeal := hReferenceRowSumIdeal)
    ∧ quiescent_KernelModW (hKernelModW := hKernelModW)
    ∧ quiescent_KernelModWIdeal (hKernelModWIdeal := hKernelModWIdeal)
    ∧ quiescent_ReferenceModWIdeal (hReferenceModWIdeal := hReferenceModWIdeal)
    ∧ quiescent_KernelCctx (hKernelCctx := hKernelCctx)
    ∧ quiescent_KernelCctxIdeal (hKernelCctxIdeal := hKernelCctxIdeal)
    ∧ quiescent_KernelCctxIdeal_pre_finite_cctx (hKernelCctxIdeal := hKernelCctxIdeal) (hPre_finite_cctx := hPre_finite_cctx)
    ∧ quiescent_ReferenceCctxIdeal (hReferenceCctxIdeal := hReferenceCctxIdeal)
    ∧ quiescent_ReferenceCctxIdeal_pre_finite_cctx (hReferenceCctxIdeal := hReferenceCctxIdeal) (hPre_finite_cctx := hPre_finite_cctx)
    ∧ quiescent_KernelPairCol (hKernelPairCol := hKernelPairCol)
    ∧ quiescent_KernelPairColIdeal (hKernelPairColIdeal := hKernelPairColIdeal)
    ∧ quiescent_ReferencePairColIdeal (hReferencePairColIdeal := hReferencePairColIdeal)
    ∧ quiescent_KernelPairRow (hKernelPairRow := hKernelPairRow)
    ∧ quiescent_KernelPairRowIdeal (hKernelPairRowIdeal := hKernelPairRowIdeal)
    ∧ quiescent_ReferencePairRowIdeal (hReferencePairRowIdeal := hReferencePairRowIdeal)
    ∧ quiescent_KernelModF (hKernelModF := hKernelModF)
    ∧ quiescent_KernelModFIdeal (hKernelModFIdeal := hKernelModFIdeal)
    ∧ quiescent_ReferenceModFIdeal (hReferenceModFIdeal := hReferenceModFIdeal)
    ∧ quiescent_KernelN1 (hKernelN1 := hKernelN1)
    ∧ quiescent_KernelN1Ideal (hKernelN1Ideal := hKernelN1Ideal)
    ∧ quiescent_ReferenceN1Ideal (hReferenceN1Ideal := hReferenceN1Ideal)
    ∧ quiescent_KernelN2 (hKernelN2 := hKernelN2)
    ∧ quiescent_KernelN2Ideal (hKernelN2Ideal := hKernelN2Ideal)
    ∧ quiescent_ReferenceN2Ideal (hReferenceN2Ideal := hReferenceN2Ideal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMergeB (hKernelMergeB := hKernelMergeB)
    ∧ quiescent_KernelMergeBIdeal (hKernelMergeBIdeal := hKernelMergeBIdeal)
    ∧ quiescent_ReferenceMergeBIdeal (hReferenceMergeBIdeal := hReferenceMergeBIdeal)
    ∧ quiescent_KernelActB (hKernelActB := hKernelActB)
    ∧ quiescent_KernelActBIdeal (hKernelActBIdeal := hKernelActBIdeal)
    ∧ quiescent_KernelActBIdeal_pre_finite_act (hKernelActBIdeal := hKernelActBIdeal) (hPre_finite_act := hPre_finite_act)
    ∧ quiescent_ReferenceActBIdeal (hReferenceActBIdeal := hReferenceActBIdeal)
    ∧ quiescent_ReferenceActBIdeal_pre_finite_act (hReferenceActBIdeal := hReferenceActBIdeal) (hPre_finite_act := hPre_finite_act)
    ∧ preserves_KernelZmain_KernelZmainIdeal
    ∧ algebraic_KernelZmainIdeal_ReferenceZmainIdeal (hKernelZmainIdeal := hKernelZmainIdeal) (hReferenceZmainIdeal := hReferenceZmainIdeal)
    ∧ preserves_KernelZg_KernelZgIdeal
    ∧ algebraic_KernelZgIdeal_ReferenceZgIdeal (hKernelZgIdeal := hKernelZgIdeal) (hReferenceZgIdeal := hReferenceZgIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDdown_KernelDdownIdeal
    ∧ algebraic_KernelDdownIdeal_ReferenceDdownIdeal (hKernelDdownIdeal := hKernelDdownIdeal) (hReferenceDdownIdeal := hReferenceDdownIdeal)
    ∧ preserves_KernelDup_KernelDupIdeal
    ∧ algebraic_KernelDupIdeal_ReferenceDupIdeal (hKernelDupIdeal := hKernelDupIdeal) (hReferenceDupIdeal := hReferenceDupIdeal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelDbranch_KernelDbranchIdeal
    ∧ algebraic_KernelDbranchIdeal_ReferenceDbranchIdeal (hKernelDbranchIdeal := hKernelDbranchIdeal) (hReferenceDbranchIdeal := hReferenceDbranchIdeal)
    ∧ preserves_KernelDmain_KernelDmainIdeal
    ∧ algebraic_KernelDmainIdeal_ReferenceDmainIdeal (hKernelDmainIdeal := hKernelDmainIdeal) (hReferenceDmainIdeal := hReferenceDmainIdeal)
    ∧ preserves_KernelDg_KernelDgIdeal
    ∧ algebraic_KernelDgIdeal_ReferenceDgIdeal (hKernelDgIdeal := hKernelDgIdeal) (hReferenceDgIdeal := hReferenceDgIdeal)
    ∧ preserves_KernelMdown_KernelMdownIdeal
    ∧ algebraic_KernelMdownIdeal_ReferenceMdownIdeal (hKernelMdownIdeal := hKernelMdownIdeal) (hReferenceMdownIdeal := hReferenceMdownIdeal)
    ∧ preserves_KernelMup_KernelMupIdeal
    ∧ algebraic_KernelMupIdeal_ReferenceMupIdeal (hKernelMupIdeal := hKernelMupIdeal) (hReferenceMupIdeal := hReferenceMupIdeal)
    ∧ preserves_KernelMout_KernelMoutIdeal
    ∧ algebraic_KernelMoutIdeal_ReferenceMoutIdeal (hKernelMoutIdeal := hKernelMoutIdeal) (hReferenceMoutIdeal := hReferenceMoutIdeal)
    ∧ preserves_KernelMbranch_KernelMbranchIdeal
    ∧ algebraic_KernelMbranchIdeal_ReferenceMbranchIdeal (hKernelMbranchIdeal := hKernelMbranchIdeal) (hReferenceMbranchIdeal := hReferenceMbranchIdeal)
    ∧ preserves_KernelMmain_KernelMmainIdeal
    ∧ algebraic_KernelMmainIdeal_ReferenceMmainIdeal (hKernelMmainIdeal := hKernelMmainIdeal) (hReferenceMmainIdeal := hReferenceMmainIdeal)
    ∧ preserves_KernelMg_KernelMgIdeal
    ∧ algebraic_KernelMgIdeal_ReferenceMgIdeal (hKernelMgIdeal := hKernelMgIdeal) (hReferenceMgIdeal := hReferenceMgIdeal)
    ∧ preserves_Kernel2_Kernel2Ideal
    ∧ algebraic_Kernel2Ideal_Reference2Ideal (hKernel2Ideal := hKernel2Ideal) (hReference2Ideal := hReference2Ideal)
    ∧ preserves_Kernel1_Kernel1Ideal
    ∧ algebraic_Kernel1Ideal_Reference1Ideal (hKernel1Ideal := hKernel1Ideal) (hReference1Ideal := hReference1Ideal)
    ∧ preserves_KernelAmod_KernelAmodIdeal
    ∧ algebraic_KernelAmodIdeal_ReferenceAmodIdeal (hKernelAmodIdeal := hKernelAmodIdeal) (hReferenceAmodIdeal := hReferenceAmodIdeal)
    ∧ preserves_KernelAin_KernelAinIdeal
    ∧ algebraic_KernelAinIdeal_ReferenceAinIdeal (hKernelAinIdeal := hKernelAinIdeal) (hReferenceAinIdeal := hReferenceAinIdeal)
    ∧ preserves_KernelAbranch_KernelAbranchIdeal
    ∧ algebraic_KernelAbranchIdeal_ReferenceAbranchIdeal (hKernelAbranchIdeal := hKernelAbranchIdeal) (hReferenceAbranchIdeal := hReferenceAbranchIdeal)
    ∧ preserves_KernelAup_KernelAupIdeal
    ∧ algebraic_KernelAupIdeal_ReferenceAupIdeal (hKernelAupIdeal := hKernelAupIdeal) (hReferenceAupIdeal := hReferenceAupIdeal)
    ∧ preserves_KernelAdown_KernelAdownIdeal
    ∧ algebraic_KernelAdownIdeal_ReferenceAdownIdeal (hKernelAdownIdeal := hKernelAdownIdeal) (hReferenceAdownIdeal := hReferenceAdownIdeal)
    ∧ preserves_KernelAsmall_KernelAsmallIdeal
    ∧ algebraic_KernelAsmallIdeal_ReferenceAsmallIdeal (hKernelAsmallIdeal := hKernelAsmallIdeal) (hReferenceAsmallIdeal := hReferenceAsmallIdeal)
    ∧ preserves_KernelHead_KernelHeadIdeal
    ∧ algebraic_KernelHeadIdeal_ReferenceHeadIdeal (hKernelHeadIdeal := hKernelHeadIdeal) (hReferenceHeadIdeal := hReferenceHeadIdeal)
    ∧ preserves_KernelSmallSum_KernelSmallSumIdeal
    ∧ algebraic_KernelSmallSumIdeal_ReferenceSmallSumIdeal (hKernelSmallSumIdeal := hKernelSmallSumIdeal) (hReferenceSmallSumIdeal := hReferenceSmallSumIdeal)
    ∧ preserves_KernelColSum_KernelColSumIdeal
    ∧ algebraic_KernelColSumIdeal_ReferenceColSumIdeal (hKernelColSumIdeal := hKernelColSumIdeal) (hReferenceColSumIdeal := hReferenceColSumIdeal)
    ∧ preserves_KernelRowSum_KernelRowSumIdeal
    ∧ algebraic_KernelRowSumIdeal_ReferenceRowSumIdeal (hKernelRowSumIdeal := hKernelRowSumIdeal) (hReferenceRowSumIdeal := hReferenceRowSumIdeal)
    ∧ preserves_KernelModW_KernelModWIdeal
    ∧ algebraic_KernelModWIdeal_ReferenceModWIdeal (hKernelModWIdeal := hKernelModWIdeal) (hReferenceModWIdeal := hReferenceModWIdeal)
    ∧ preserves_KernelCctx_KernelCctxIdeal
    ∧ algebraic_KernelCctxIdeal_ReferenceCctxIdeal_pre_finite_cctx (hKernelCctxIdeal := hKernelCctxIdeal) (hReferenceCctxIdeal := hReferenceCctxIdeal) (hPre_finite_cctx := hPre_finite_cctx)
    ∧ preserves_KernelPairCol_KernelPairColIdeal
    ∧ algebraic_KernelPairColIdeal_ReferencePairColIdeal (hKernelPairColIdeal := hKernelPairColIdeal) (hReferencePairColIdeal := hReferencePairColIdeal)
    ∧ preserves_KernelPairRow_KernelPairRowIdeal
    ∧ algebraic_KernelPairRowIdeal_ReferencePairRowIdeal (hKernelPairRowIdeal := hKernelPairRowIdeal) (hReferencePairRowIdeal := hReferencePairRowIdeal)
    ∧ preserves_KernelModF_KernelModFIdeal
    ∧ algebraic_KernelModFIdeal_ReferenceModFIdeal (hKernelModFIdeal := hKernelModFIdeal) (hReferenceModFIdeal := hReferenceModFIdeal)
    ∧ preserves_KernelN1_KernelN1Ideal
    ∧ algebraic_KernelN1Ideal_ReferenceN1Ideal (hKernelN1Ideal := hKernelN1Ideal) (hReferenceN1Ideal := hReferenceN1Ideal)
    ∧ preserves_KernelN2_KernelN2Ideal
    ∧ algebraic_KernelN2Ideal_ReferenceN2Ideal (hKernelN2Ideal := hKernelN2Ideal) (hReferenceN2Ideal := hReferenceN2Ideal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMergeB_KernelMergeBIdeal
    ∧ algebraic_KernelMergeBIdeal_ReferenceMergeBIdeal (hKernelMergeBIdeal := hKernelMergeBIdeal) (hReferenceMergeBIdeal := hReferenceMergeBIdeal)
    ∧ preserves_KernelActB_KernelActBIdeal
    ∧ algebraic_KernelActBIdeal_ReferenceActBIdeal_pre_finite_act (hKernelActBIdeal := hKernelActBIdeal) (hReferenceActBIdeal := hReferenceActBIdeal) (hPre_finite_act := hPre_finite_act)
-- ==== Pre_finite_act.lean ====
abbrev S16384x5632 : Shape := ⟨2, ![16384, 5632]⟩
abbrev S16384x2816 : Shape := ⟨2, ![16384, 2816]⟩
abbrev S_ : Shape := ⟨0, ![]⟩

class Facts : Prop where
  slices_S16384x5632_S16384x2816_0_2816 : S16384x5632.Slices ![0, 2816] S16384x2816
  bitsLt_bf16_f32 : FTy.bits .bf16 < FTy.bits .f32
  bcast_S_S16384x2816 : S_.BroadcastsInDim S16384x2816 (![] : Fin 0 → Fin S16384x2816.rank)

variable [Facts]

def fn {F : FTy → Type} [FloatOps F] (main_arg0 : FVec F S16384x5632 .bf16) (main_arg1 : FVec F S16384x2816 .bf16) (main_arg2 : FVec F S16384x2816 .bf16) : IVec S16384x2816 1 × IVec S16384x2816 1 :=
  let main_v0 : FVec F S16384x2816 .bf16 := (extractStridedSlice S16384x2816 ![0, 2816] · slices_S16384x5632_S16384x2816_0_2816) main_arg0
  let main_v1 : FVec F S16384x2816 .f32 := (extf .f32 · bitsLt_bf16_f32) main_v0
  let main_v2 : FVec F S16384x2816 .f32 := Host.absf main_v1
  let main_cst : FVec F S_ .f32 := constant S_ .f32 0x7F800000#32
  let main_v3 : FVec F S16384x2816 .f32 := broadcastInDim S16384x2816 ![] bcast_S_S16384x2816 main_cst
  let main_v4 : IVec S16384x2816 1 := cmpf .olt main_v2 main_v3
  let main_v5 : FVec F S16384x2816 .f32 := (extf .f32 · bitsLt_bf16_f32) main_arg2
  let main_v6 : FVec F S16384x2816 .f32 := Host.absf main_v5
  let main_cst_0 : FVec F S_ .f32 := constant S_ .f32 0x7F800000#32
  let main_v7 : FVec F S16384x2816 .f32 := broadcastInDim S16384x2816 ![] bcast_S_S16384x2816 main_cst_0
  let main_v8 : IVec S16384x2816 1 := cmpf .olt main_v6 main_v7
  (main_v4, main_v8)
-- ==== Pre_finite_cctx.lean ====
abbrev S16x2048 : Shape := ⟨2, ![16, 2048]⟩
abbrev S4x1024x3712 : Shape := ⟨3, ![4, 1024, 3712]⟩
abbrev S1x1024 : Shape := ⟨2, ![1, 1024]⟩
abbrev S_ : Shape := ⟨0, ![]⟩

class Facts : Prop where
  bcast_S_S16x2048 : S_.BroadcastsInDim S16x2048 (![] : Fin 0 → Fin S16x2048.rank)
  bitsLt_bf16_f32 : FTy.bits .bf16 < FTy.bits .f32
  bcast_S_S4x1024x3712 : S_.BroadcastsInDim S4x1024x3712 (![] : Fin 0 → Fin S4x1024x3712.rank)

variable [Facts]

def fn {F : FTy → Type} [FloatOps F] (main_arg0 : FVec F S16x2048 .f32) (main_arg1 : FVec F S4x1024x3712 .bf16) (main_arg2 : FVec F S1x1024 .f32) : IVec S16x2048 1 × IVec S4x1024x3712 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_v3 : FVec F S4x1024x3712 .f32 := (extf .f32 · bitsLt_bf16_f32) main_arg1
  let main_v4 : FVec F S4x1024x3712 .f32 := Host.absf main_v3
  let main_cst_0 : FVec F S_ .f32 := constant S_ .f32 0x7F800000#32
  let main_v5 : FVec F S4x1024x3712 .f32 := broadcastInDim S4x1024x3712 ![] bcast_S_S4x1024x3712 main_cst_0
  let main_v6 : IVec S4x1024x3712 1 := cmpf .olt main_v4 main_v5
  (main_v2, main_v6)
-- ==== KernelZmain.lean ====
abbrev S16640x1024 : Shape := ⟨2, ![16640, 1024]⟩
abbrev S1024x8192 : Shape := ⟨2, ![1024, 8192]⟩
abbrev S1x16640x1024 : Shape := ⟨3, ![1, 16640, 1024]⟩
abbrev S1x1024x8192 : Shape := ⟨3, ![1, 1024, 8192]⟩
abbrev S1x16640x8192 : Shape := ⟨3, ![1, 16640, 8192]⟩
abbrev S1x1280x1024 : Shape := ⟨3, ![1, 1280, 1024]⟩
abbrev S1x1024x2048 : Shape := ⟨3, ![1, 1024, 2048]⟩
abbrev S1x1280x2048 : Shape := ⟨3, ![1, 1280, 2048]⟩
abbrev S1280x1024 : Shape := ⟨2, ![1280, 1024]⟩
abbrev S1024x2048 : Shape := ⟨2, ![1024, 2048]⟩
abbrev S1280x2048 : Shape := ⟨2, ![1280, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S1024x8192, .bf16⟩
  | .hbm, ⟨2, _⟩ => ⟨S1x16640x1024, .bf16⟩
  | .hbm, ⟨3, _⟩ => ⟨S1x1024x8192, .bf16⟩
  | .hbm, ⟨4, _⟩ => ⟨S1x16640x8192, .bf16⟩
  | .local _ .vmem, ⟨0, _⟩ => ⟨S1x1280x1024, .bf16⟩
  | .local _ .vmem, ⟨1, _⟩ => ⟨S1x1280x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1280x2048, .bf16⟩
  | .local _ .vmem, ⟨5, _⟩ => ⟨S1x1280x2048, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 13, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1280x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceZmainIdeal.lean ====
abbrev S16640x1024 : Shape := ⟨2, ![16640, 1024]⟩
abbrev S1024x8192 : Shape := ⟨2, ![1024, 8192]⟩
abbrev S16640x8192 : Shape := ⟨2, ![16640, 8192]⟩
abbrev S1x16640x8192 : Shape := ⟨3, ![1, 16640, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x8192, .bf16⟩
  | .hbm, ⟨2, _⟩ => ⟨S16640x8192, .f32⟩
  | .hbm, ⟨3, _⟩ => ⟨S16640x8192, .bf16⟩
  | .hbm, ⟨4, _⟩ => ⟨S1x16640x8192, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZg.lean ====
abbrev S16640x1024 : Shape := ⟨2, ![16640, 1024]⟩
abbrev S1024x128 : Shape := ⟨2, ![1024, 128]⟩
abbrev S1x16640x1024 : Shape := ⟨3, ![1, 16640, 1024]⟩
abbrev S1x1024x128 : Shape := ⟨3, ![1, 1024, 128]⟩
abbrev S1x16640x128 : Shape := ⟨3, ![1, 16640, 128]⟩
abbrev S1x1280x1024 : Shape := ⟨3, ![1, 1280, 1024]⟩
abbrev S1x1280x128 : Shape := ⟨3, ![1, 1280, 128]⟩
abbrev S1280x1024 : Shape := ⟨2, ![1280, 1024]⟩
abbrev S1280x128 : Shape := ⟨2, ![1280, 128]⟩

abbrev nBuf : Space → Nat
  | .hbm => 5
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x128, .bf16⟩
  | .hbm, ⟨2, _⟩ => ⟨S1x16640x1024, .bf16⟩
  | .hbm, ⟨3, _⟩ => ⟨S1x1024x128, .bf16⟩
  | .hbm, ⟨4, _⟩ => ⟨S1x16640x128, .f32⟩
  | .local _ .vmem, ⟨0, _⟩ => ⟨S1x1280x1024, .bf16⟩
  | .local _ .vmem, ⟨1, _⟩ => ⟨S1x1280x1024, .bf16⟩
  | .local _ .vmem, ⟨2, _⟩ => ⟨S1x1024x128, .bf16⟩
  | .local _ .vmem, ⟨3, _⟩ => ⟨S1x1280x128, .f32⟩
  | .local _ .vmem, ⟨4, _⟩ => ⟨S1x1280x128, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 13, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceZgIdeal.lean ====
abbrev S16640x1024 : Shape := ⟨2, ![16640, 1024]⟩
abbrev S1024x128 : Shape := ⟨2, ![1024, 128]⟩
abbrev S16640x128 : Shape := ⟨2, ![16640, 128]⟩
abbrev S1x16640x128 : Shape := ⟨3, ![1, 16640, 128]⟩

abbrev nBuf : Space → Nat
  | .hbm => 6
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x128, .bf16⟩
  | .hbm, ⟨2, _⟩ => ⟨S16640x128, .f32⟩
  | .hbm, ⟨3, _⟩ => ⟨S16640x128, .bf16⟩
  | .hbm, ⟨4, _⟩ => ⟨S16640x128, .f32⟩
  | .hbm, ⟨5, _⟩ => ⟨S1x16640x128, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelBranch.lean ====
abbrev S2x16384x1024 : Shape := ⟨3, ![2, 16384, 1024]⟩
abbrev S2x1024x1024 : Shape := ⟨3, ![2, 1024, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x1024, .bf16⟩
  | .hbm, ⟨1, _⟩ => ⟨S2x1024x1024, .bf16⟩
  | .hbm, ⟨2, _⟩ => ⟨S2x16384x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceBranchIdeal.lean ====
abbrev S2x16384x1024 : Shape := ⟨3, ![2, 16384, 1024]⟩
abbrev S2x1024x1024 : Shape := ⟨3, ![2, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x1024x1024, .bf16⟩
  | .hbm, ⟨2, _⟩ => ⟨S2x16384x1024, .f32⟩
  | .hbm, ⟨3, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOut.lean ====
abbrev S16384x1024 : Shape := ⟨2, ![16384, 1024]⟩
abbrev S1024x1024 : Shape := ⟨2, ![1024, 1024]⟩
abbrev S1x16384x1024 : Shape := ⟨3, ![1, 16384, 1024]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1x16384x1024, .bf16⟩
  | .hbm, ⟨3, _⟩ => ⟨S1x1024x1024, .bf16⟩
  | .hbm, ⟨4, _⟩ => ⟨S1x16384x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x2048x1024, .bf16⟩
  | .local _ .vmem, ⟨4, _⟩ => ⟨S1x2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceOutIdeal.lean ====
abbrev S16384x1024 : Shape := ⟨2, ![16384, 1024]⟩
abbrev S1024x1024 : Shape := ⟨2, ![1024, 1024]⟩
abbrev S1x16384x1024 : Shape := ⟨3, ![1, 16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .bf16⟩
  | .hbm, ⟨4, _⟩ => ⟨S1x16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUp.lean ====
abbrev S16384x1024 : Shape := ⟨2, ![16384, 1024]⟩
abbrev S1024x5632 : Shape := ⟨2, ![1024, 5632]⟩
abbrev S1x16384x1024 : Shape := ⟨3, ![1, 16384, 1024]⟩
abbrev S1x1024x5632 : Shape := ⟨3, ![1, 1024, 5632]⟩
abbrev S1x16384x5632 : Shape := ⟨3, ![1, 16384, 5632]⟩
abbrev S1x2048x1024 : Shape := ⟨3, ![1, 2048, 1024]⟩
abbrev S1x1024x1408 : Shape := ⟨3, ![1, 1024, 1408]⟩
abbrev S1x2048x1408 : Shape := ⟨3, ![1, 2048, 1408]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S1x16384x1024, .bf16⟩
  | .hbm, ⟨3, _⟩ => ⟨S1x1024x5632, .bf16⟩
  | .hbm, ⟨4, _⟩ => ⟨S1x16384x5632, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceUpIdeal.lean ====
abbrev S16384x1024 : Shape := ⟨2, ![16384, 1024]⟩
abbrev S1024x5632 : Shape := ⟨2, ![1024, 5632]⟩
abbrev S16384x5632 : Shape := ⟨2, ![16384, 5632]⟩
abbrev S1x16384x5632 : Shape := ⟨3, ![1, 16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .f32⟩
  | .hbm, ⟨3, _⟩ => ⟨S16384x5632, .bf16⟩
  | .hbm, ⟨4, _⟩ => ⟨S1x16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S16384x2816 : Shape := ⟨2, ![16384, 2816]⟩
abbrev S2816x1024 : Shape := ⟨2, ![2816, 1024]⟩
abbrev S1x16384x2816 : Shape := ⟨3, ![1, 16384, 2816]⟩
abbrev S1x2816x1024 : Shape := ⟨3, ![1, 2816, 1024]⟩
abbrev S1x16384x1024 : Shape := ⟨3, ![1, 16384, 1024]⟩
abbrev S1x2048x1408 : Shape := ⟨3, ![1, 2048, 1408]⟩
abbrev S1x1408x1024 : Shape := ⟨3, ![1, 1408, 1024]⟩
abbrev S1x2048x1024 : Shape := ⟨3, ![1, 2048, 1024]⟩
abbrev S2048x1024 : Shape := ⟨2, ![2048, 1024]⟩
abbrev S2048x1408 : Shape := ⟨2, ![2048, 1408]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S1x16384x2816, .bf16⟩
  | .hbm, ⟨3, _⟩ => ⟨S1x2816x1024, .bf16⟩
  | .hbm, ⟨4, _⟩ => ⟨S1x16384x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 8, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDownIdeal.lean ====
abbrev S16384x2816 : Shape := ⟨2, ![16384, 2816]⟩
abbrev S2816x1024 : Shape := ⟨2, ![2816, 1024]⟩
abbrev S16384x1024 : Shape := ⟨2, ![16384, 1024]⟩
abbrev S1x16384x1024 : Shape := ⟨3, ![1, 16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .bf16⟩
  | .hbm, ⟨4, _⟩ => ⟨S1x16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDdown.lean ====
abbrev S16384x1024 : Shape := ⟨2, ![16384, 1024]⟩
abbrev S2816x1024 : Shape := ⟨2, ![2816, 1024]⟩
abbrev S1x16384x1024 : Shape := ⟨3, ![1, 16384, 1024]⟩
abbrev S1x2816x1024 : Shape := ⟨3, ![1, 2816, 1024]⟩
abbrev S1x16384x2816 : Shape := ⟨3, ![1, 16384, 2816]⟩
abbrev S1x2048x1024 : Shape := ⟨3, ![1, 2048, 1024]⟩
abbrev S1x1408x1024 : Shape := ⟨3, ![1, 1408, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S1x16384x1024, .bf16⟩
  | .hbm, ⟨3, _⟩ => ⟨S1x2816x1024, .bf16⟩
  | .hbm, ⟨4, _⟩ => ⟨S1x16384x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x2048x1408, .bf16⟩
  | .local _ .vmem, ⟨5, _⟩ => ⟨S1x2048x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDdownIdeal.lean ====
abbrev S16384x1024 : Shape := ⟨2, ![16384, 1024]⟩
abbrev S2816x1024 : Shape := ⟨2, ![2816, 1024]⟩
abbrev S16384x2816 : Shape := ⟨2, ![16384, 2816]⟩
abbrev S1x16384x2816 : Shape := ⟨3, ![1, 16384, 2816]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S16384x2816, .bf16⟩
  | .hbm, ⟨5, _⟩ => ⟨S1x16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDup.lean ====
abbrev S16384x5632 : Shape := ⟨2, ![16384, 5632]⟩
abbrev S1024x5632 : Shape := ⟨2, ![1024, 5632]⟩
abbrev S1x16384x5632 : Shape := ⟨3, ![1, 16384, 5632]⟩
abbrev S1x1024x5632 : Shape := ⟨3, ![1, 1024, 5632]⟩
abbrev S1x16384x1024 : Shape := ⟨3, ![1, 16384, 1024]⟩
abbrev S1x2048x1408 : Shape := ⟨3, ![1, 2048, 1408]⟩
abbrev S1x1024x1408 : Shape := ⟨3, ![1, 1024, 1408]⟩
abbrev S1x2048x1024 : Shape := ⟨3, ![1, 2048, 1024]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S1x16384x5632, .bf16⟩
  | .hbm, ⟨3, _⟩ => ⟨S1x1024x5632, .bf16⟩
  | .hbm, ⟨4, _⟩ => ⟨S1x16384x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 8, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDupIdeal.lean ====
abbrev S16384x5632 : Shape := ⟨2, ![16384, 5632]⟩
abbrev S1024x5632 : Shape := ⟨2, ![1024, 5632]⟩
abbrev S16384x1024 : Shape := ⟨2, ![16384, 1024]⟩
abbrev S1x16384x1024 : Shape := ⟨3, ![1, 16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x5632, .f32⟩
  | .hbm, ⟨3, _⟩ => ⟨S16384x1024, .f32⟩
  | .hbm, ⟨4, _⟩ => ⟨S16384x1024, .bf16⟩
  | .hbm, ⟨5, _⟩ => ⟨S1x16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDout.lean ====
abbrev S16384x1024 : Shape := ⟨2, ![16384, 1024]⟩
abbrev S1024x1024 : Shape := ⟨2, ![1024, 1024]⟩
abbrev S1x16384x1024 : Shape := ⟨3, ![1, 16384, 1024]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1x16384x1024, .bf16⟩
  | .hbm, ⟨3, _⟩ => ⟨S1x1024x1024, .bf16⟩
  | .hbm, ⟨4, _⟩ => ⟨S1x16384x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x2048x1024, .bf16⟩
  | .local _ .vmem, ⟨4, _⟩ => ⟨S1x2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDoutIdeal.lean ====
abbrev S16384x1024 : Shape := ⟨2, ![16384, 1024]⟩
abbrev S1024x1024 : Shape := ⟨2, ![1024, 1024]⟩
abbrev S1x16384x1024 : Shape := ⟨3, ![1, 16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S1x16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDbranch.lean ====
abbrev S2x16384x1024 : Shape := ⟨3, ![2, 16384, 1024]⟩
abbrev S2x1024x1024 : Shape := ⟨3, ![2, 1024, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x1024, .bf16⟩
  | .hbm, ⟨1, _⟩ => ⟨S2x1024x1024, .bf16⟩
  | .hbm, ⟨2, _⟩ => ⟨S2x16384x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDbranchIdeal.lean ====
abbrev S2x16384x1024 : Shape := ⟨3, ![2, 16384, 1024]⟩
abbrev S2x1024x1024 : Shape := ⟨3, ![2, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x1024x1024, .bf16⟩
  | .hbm, ⟨2, _⟩ => ⟨S2x16384x1024, .f32⟩
  | .hbm, ⟨3, _⟩ => ⟨S2x16384x1024, .f32⟩
  | .hbm, ⟨4, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDmain.lean ====
abbrev S16640x8192 : Shape := ⟨2, ![16640, 8192]⟩
abbrev S1024x8192 : Shape := ⟨2, ![1024, 8192]⟩
abbrev S1x16640x8192 : Shape := ⟨3, ![1, 16640, 8192]⟩
abbrev S1x1024x8192 : Shape := ⟨3, ![1, 1024, 8192]⟩
abbrev S1x16640x1024 : Shape := ⟨3, ![1, 16640, 1024]⟩
abbrev S1x1280x2048 : Shape := ⟨3, ![1, 1280, 2048]⟩
abbrev S1x1024x2048 : Shape := ⟨3, ![1, 1024, 2048]⟩
abbrev S1x1280x1024 : Shape := ⟨3, ![1, 1280, 1024]⟩
abbrev S1280x1024 : Shape := ⟨2, ![1280, 1024]⟩
abbrev S1280x2048 : Shape := ⟨2, ![1280, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16640x8192, .bf16⟩
  | .hbm, ⟨1, _⟩ => ⟨S1024x8192, .bf16⟩
  | .hbm, ⟨2, _⟩ => ⟨S1x16640x8192, .bf16⟩
  | .hbm, ⟨3, _⟩ => ⟨S1x1024x8192, .bf16⟩
  | .hbm, ⟨4, _⟩ => ⟨S1x16640x1024, .bf16⟩
  | .local _ .vmem, ⟨0, _⟩ => ⟨S1x1280x2048, .bf16⟩
  | .local _ .vmem, ⟨1, _⟩ => ⟨S1x1280x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1280x1024, .bf16⟩
  | .local _ .vmem, ⟨5, _⟩ => ⟨S1x1280x1024, .bf16⟩
  | .local _ .vmem, ⟨6, _⟩ => ⟨S1280x1024, .f32⟩
  | _, _ => ⟨S16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 13, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDmainIdeal.lean ====
abbrev S16640x8192 : Shape := ⟨2, ![16640, 8192]⟩
abbrev S1024x8192 : Shape := ⟨2, ![1024, 8192]⟩
abbrev S16640x1024 : Shape := ⟨2, ![16640, 1024]⟩
abbrev S1x16640x1024 : Shape := ⟨3, ![1, 16640, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16640x8192, .bf16⟩
  | .hbm, ⟨1, _⟩ => ⟨S1024x8192, .bf16⟩
  | .hbm, ⟨2, _⟩ => ⟨S16640x8192, .f32⟩
  | .hbm, ⟨3, _⟩ => ⟨S16640x1024, .f32⟩
  | .hbm, ⟨4, _⟩ => ⟨S16640x1024, .bf16⟩
  | .hbm, ⟨5, _⟩ => ⟨S1x16640x1024, .bf16⟩
  | _, _ => ⟨S16640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDg.lean ====
abbrev S16640x128 : Shape := ⟨2, ![16640, 128]⟩
abbrev S1024x128 : Shape := ⟨2, ![1024, 128]⟩
abbrev S1x16640x128 : Shape := ⟨3, ![1, 16640, 128]⟩
abbrev S1x1024x128 : Shape := ⟨3, ![1, 1024, 128]⟩
abbrev S1x16640x1024 : Shape := ⟨3, ![1, 16640, 1024]⟩
abbrev S1x1280x128 : Shape := ⟨3, ![1, 1280, 128]⟩
abbrev S1x1280x1024 : Shape := ⟨3, ![1, 1280, 1024]⟩
abbrev S1280x128 : Shape := ⟨2, ![1280, 128]⟩
abbrev S1280x1024 : Shape := ⟨2, ![1280, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16640x128, .bf16⟩
  | .hbm, ⟨1, _⟩ => ⟨S1024x128, .bf16⟩
  | .hbm, ⟨2, _⟩ => ⟨S1x16640x128, .bf16⟩
  | .hbm, ⟨3, _⟩ => ⟨S1x1024x128, .bf16⟩
  | .hbm, ⟨4, _⟩ => ⟨S1x16640x1024, .bf16⟩
  | .local _ .vmem, ⟨0, _⟩ => ⟨S1x1280x128, .bf16⟩
  | .local _ .vmem, ⟨1, _⟩ => ⟨S1x1280x128, .bf16⟩
  | .local _ .vmem, ⟨2, _⟩ => ⟨S1x1024x128, .bf16⟩
  | .local _ .vmem, ⟨3, _⟩ => ⟨S1x1280x1024, .bf16⟩
  | .local _ .vmem, ⟨4, _⟩ => ⟨S1x1280x1024, .bf16⟩
  | _, _ => ⟨S16640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 13, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDgIdeal.lean ====
abbrev S16640x128 : Shape := ⟨2, ![16640, 128]⟩
abbrev S1024x128 : Shape := ⟨2, ![1024, 128]⟩
abbrev S16640x1024 : Shape := ⟨2, ![16640, 1024]⟩
abbrev S1x16640x1024 : Shape := ⟨3, ![1, 16640, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16640x128, .bf16⟩
  | .hbm, ⟨1, _⟩ => ⟨S1024x128, .bf16⟩
  | .hbm, ⟨2, _⟩ => ⟨S16640x128, .f32⟩
  | .hbm, ⟨3, _⟩ => ⟨S16640x1024, .f32⟩
  | .hbm, ⟨4, _⟩ => ⟨S16640x1024, .bf16⟩
  | .hbm, ⟨5, _⟩ => ⟨S1x16640x1024, .bf16⟩
  | _, _ => ⟨S16640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMdown.lean ====
abbrev S16384x2816 : Shape := ⟨2, ![16384, 2816]⟩
abbrev S16384x1024 : Shape := ⟨2, ![16384, 1024]⟩
abbrev S1x16384x2816 : Shape := ⟨3, ![1, 16384, 2816]⟩
abbrev S1x16384x1024 : Shape := ⟨3, ![1, 16384, 1024]⟩
abbrev S1x2816x1024 : Shape := ⟨3, ![1, 2816, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S1x16384x2816, .bf16⟩
  | .hbm, ⟨3, _⟩ => ⟨S1x16384x1024, .bf16⟩
  | .hbm, ⟨4, _⟩ => ⟨S1x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceMdownIdeal.lean ====
abbrev S16384x2816 : Shape := ⟨2, ![16384, 2816]⟩
abbrev S16384x1024 : Shape := ⟨2, ![16384, 1024]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x1024, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S1x2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMup.lean ====
abbrev S16384x1024 : Shape := ⟨2, ![16384, 1024]⟩
abbrev S16384x5632 : Shape := ⟨2, ![16384, 5632]⟩
abbrev S1x16384x1024 : Shape := ⟨3, ![1, 16384, 1024]⟩
abbrev S1x16384x5632 : Shape := ⟨3, ![1, 16384, 5632]⟩
abbrev S1x1024x5632 : Shape := ⟨3, ![1, 1024, 5632]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1024 : Shape := ⟨2, ![2048, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1x16384x1024, .bf16⟩
  | .hbm, ⟨3, _⟩ => ⟨S1x16384x5632, .bf16⟩
  | .hbm, ⟨4, _⟩ => ⟨S1x1024x5632, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceMupIdeal.lean ====
abbrev S16384x1024 : Shape := ⟨2, ![16384, 1024]⟩
abbrev S16384x5632 : Shape := ⟨2, ![16384, 5632]⟩
abbrev S5632x1024 : Shape := ⟨2, ![5632, 1024]⟩
abbrev S1024x5632 : Shape := ⟨2, ![1024, 5632]⟩
abbrev S1x1024x5632 : Shape := ⟨3, ![1, 1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x5632, .f32⟩
  | .hbm, ⟨3, _⟩ => ⟨S5632x1024, .f32⟩
  | .hbm, ⟨4, _⟩ => ⟨S1024x5632, .f32⟩
  | .hbm, ⟨5, _⟩ => ⟨S1024x5632, .bf16⟩
  | .hbm, ⟨6, _⟩ => ⟨S1x1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMout.lean ====
abbrev S16384x1024 : Shape := ⟨2, ![16384, 1024]⟩
abbrev S1x16384x1024 : Shape := ⟨3, ![1, 16384, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x16384x1024, .bf16⟩
  | .hbm, ⟨3, _⟩ => ⟨S1x16384x1024, .bf16⟩
  | .hbm, ⟨4, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ReferenceMoutIdeal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1x1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMbranch.lean ====
abbrev S2x16384x1024 : Shape := ⟨3, ![2, 16384, 1024]⟩
abbrev S2x1024x1024 : Shape := ⟨3, ![2, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceMbranchIdeal.lean ====
abbrev S2x16384x1024 : Shape := ⟨3, ![2, 16384, 1024]⟩
abbrev S2x1024x1024 : Shape := ⟨3, ![2, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .f32⟩
  | .hbm, ⟨3, _⟩ => ⟨S2x1024x1024, .f32⟩
  | .hbm, ⟨4, _⟩ => ⟨S2x1024x1024, .f32⟩
  | .hbm, ⟨5, _⟩ => ⟨S2x1024x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMmain.lean ====
abbrev S16640x1024 : Shape := ⟨2, ![16640, 1024]⟩
abbrev S16640x8192 : Shape := ⟨2, ![16640, 8192]⟩
abbrev S1x16640x1024 : Shape := ⟨3, ![1, 16640, 1024]⟩
abbrev S1x16640x8192 : Shape := ⟨3, ![1, 16640, 8192]⟩
abbrev S1x1024x8192 : Shape := ⟨3, ![1, 1024, 8192]⟩
abbrev S1x1280x1024 : Shape := ⟨3, ![1, 1280, 1024]⟩
abbrev S1x1280x2048 : Shape := ⟨3, ![1, 1280, 2048]⟩
abbrev S1x1024x2048 : Shape := ⟨3, ![1, 1024, 2048]⟩
abbrev S1024x2048 : Shape := ⟨2, ![1024, 2048]⟩
abbrev S1280x1024 : Shape := ⟨2, ![1280, 1024]⟩
abbrev S1280x2048 : Shape := ⟨2, ![1280, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x8192, .bf16⟩
  | .hbm, ⟨2, _⟩ => ⟨S1x16640x1024, .bf16⟩
  | .hbm, ⟨3, _⟩ => ⟨S1x16640x8192, .bf16⟩
  | .hbm, ⟨4, _⟩ => ⟨S1x1024x8192, .bf16⟩
  | .local _ .vmem, ⟨0, _⟩ => ⟨S1x1280x1024, .bf16⟩
  | .local _ .vmem, ⟨1, _⟩ => ⟨S1x1280x1024, .bf16⟩
  | .local _ .vmem, ⟨2, _⟩ => ⟨S1x1280x2048, .bf16⟩
  | .local _ .vmem, ⟨3, _⟩ => ⟨S1x1280x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 13], ![false, false, false, false]⟩

def k0_cond2 (i : grid0.Coords) : BitVec 1 :=
  let arg3 : BitVec 32 := BitVec.ofNat 32 (i 3).val
  let c12_i32 : BitVec 32 := 12#32
  let v13 : BitVec 1 := Scalar.cmpi .eq arg3 c12_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceMmainIdeal.lean ====
abbrev S16640x1024 : Shape := ⟨2, ![16640, 1024]⟩
abbrev S16640x8192 : Shape := ⟨2, ![16640, 8192]⟩
abbrev S8192x1024 : Shape := ⟨2, ![8192, 1024]⟩
abbrev S1024x8192 : Shape := ⟨2, ![1024, 8192]⟩
abbrev S1x1024x8192 : Shape := ⟨3, ![1, 1024, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x8192, .bf16⟩
  | .hbm, ⟨2, _⟩ => ⟨S16640x8192, .f32⟩
  | .hbm, ⟨3, _⟩ => ⟨S8192x1024, .f32⟩
  | .hbm, ⟨4, _⟩ => ⟨S1024x8192, .f32⟩
  | .hbm, ⟨5, _⟩ => ⟨S1024x8192, .bf16⟩
  | .hbm, ⟨6, _⟩ => ⟨S1x1024x8192, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMg.lean ====
abbrev S16640x1024 : Shape := ⟨2, ![16640, 1024]⟩
abbrev S16640x128 : Shape := ⟨2, ![16640, 128]⟩
abbrev S1x16640x1024 : Shape := ⟨3, ![1, 16640, 1024]⟩
abbrev S1x16640x128 : Shape := ⟨3, ![1, 16640, 128]⟩
abbrev S1x1024x128 : Shape := ⟨3, ![1, 1024, 128]⟩
abbrev S1x1280x1024 : Shape := ⟨3, ![1, 1280, 1024]⟩
abbrev S1x1280x128 : Shape := ⟨3, ![1, 1280, 128]⟩
abbrev S1024x128 : Shape := ⟨2, ![1024, 128]⟩
abbrev S1280x1024 : Shape := ⟨2, ![1280, 1024]⟩
abbrev S1280x128 : Shape := ⟨2, ![1280, 128]⟩

abbrev nBuf : Space → Nat
  | .hbm => 5
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x128, .bf16⟩
  | .hbm, ⟨2, _⟩ => ⟨S1x16640x1024, .bf16⟩
  | .hbm, ⟨3, _⟩ => ⟨S1x16640x128, .bf16⟩
  | .hbm, ⟨4, _⟩ => ⟨S1x1024x128, .bf16⟩
  | .local _ .vmem, ⟨0, _⟩ => ⟨S1x1280x1024, .bf16⟩
  | .local _ .vmem, ⟨1, _⟩ => ⟨S1x1280x1024, .bf16⟩
  | .local _ .vmem, ⟨2, _⟩ => ⟨S1x1280x128, .bf16⟩
  | .local _ .vmem, ⟨3, _⟩ => ⟨S1x1280x128, .bf16⟩
  | .local _ .vmem, ⟨4, _⟩ => ⟨S1x1024x128, .bf16⟩
  | .local _ .vmem, ⟨5, _⟩ => ⟨S1024x128, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 13], ![false, false, false, false]⟩

def k0_cond2 (i : grid0.Coords) : BitVec 1 :=
  let arg3 : BitVec 32 := BitVec.ofNat 32 (i 3).val
  let c12_i32 : BitVec 32 := 12#32
  let v13 : BitVec 1 := Scalar.cmpi .eq arg3 c12_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1280x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ReferenceMgIdeal.lean ====
abbrev S16640x1024 : Shape := ⟨2, ![16640, 1024]⟩
abbrev S16640x128 : Shape := ⟨2, ![16640, 128]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x128, .bf16⟩
  | .hbm, ⟨2, _⟩ => ⟨S16640x128, .f32⟩
  | .hbm, ⟨3, _⟩ => ⟨S128x1024, .f32⟩
  | .hbm, ⟨4, _⟩ => ⟨S1024x128, .f32⟩
  | .hbm, ⟨5, _⟩ => ⟨S1024x128, .bf16⟩
  | .hbm, ⟨6, _⟩ => ⟨S1x1024x128, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S1x1024, .f32⟩
  | .hbm, ⟨5, _⟩ => ⟨S8x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S16384x1024 : Shape := ⟨2, ![16384, 1024]⟩
abbrev S1x1024 : Shape := ⟨2, ![1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S4x1024 : Shape := ⟨2, ![4, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S1x1024, .f32⟩
  | .hbm, ⟨5, _⟩ => ⟨S8x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S4x1024, .f32⟩
  | .hbm, ⟨82, _⟩ => ⟨S8x1024, .f32⟩
  | .hbm, ⟨83, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel1.lean ====
abbrev S256x1024 : Shape := ⟨2, ![256, 1024]⟩
abbrev S16384x1024 : Shape := ⟨2, ![16384, 1024]⟩
abbrev S16640x1024 : Shape := ⟨2, ![16640, 1024]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S16640x1024, .bf16⟩
  | .hbm, ⟨3, _⟩ => ⟨S16640x1024, .bf16⟩
  | .hbm, ⟨4, _⟩ => ⟨S16384x1024, .f32⟩
  | .hbm, ⟨5, _⟩ => ⟨S1x1024, .f32⟩
  | .hbm, ⟨6, _⟩ => ⟨S8x1024, .f32⟩
  | .hbm, ⟨7, _⟩ => ⟨S16384x1024, .f32⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S8x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference1Ideal.lean ====
abbrev S256x1024 : Shape := ⟨2, ![256, 1024]⟩
abbrev S16384x1024 : Shape := ⟨2, ![16384, 1024]⟩
abbrev S16640x1024 : Shape := ⟨2, ![16640, 1024]⟩
abbrev S1x1024 : Shape := ⟨2, ![1, 1024]⟩
abbrev S8x1024 : Shape := ⟨2, ![8, 1024]⟩
abbrev S_ : Shape := ⟨0, ![]⟩
abbrev S256 : Shape := ⟨1, ![256]⟩
abbrev S256x1 : Shape := ⟨2, ![256, 1]⟩
abbrev S1024 : Shape := ⟨1, ![1024]⟩
abbrev S16384 : Shape := ⟨1, ![16384]⟩
abbrev S16384x1 : Shape := ⟨2, ![16384, 1]⟩

abbrev nBuf : Space → Nat
  | .hbm => 139
  | .vmem => 0
  | .smem => 0
  | _ => 0

abbrev hbmTy0_0 (i : Nat) : BufTy := match i % 128 with
  | 0 => ⟨S256x1024, .f32⟩
  | 1 => ⟨S16384x1024, .f32⟩
  | 2 => ⟨S16640x1024, .bf16⟩
  | 3 => ⟨S16640x1024, .bf16⟩
  | 4 => ⟨S16384x1024, .f32⟩
  | 5 => ⟨S1x1024, .f32⟩
  | 6 => ⟨S8x1024, .f32⟩
  | 7 => ⟨S16640x1024, .f32⟩
  | 8 => ⟨S16640x1024, .f32⟩
  | 9 => ⟨S16640x1024, .f32⟩
  | 10 => ⟨S1x1024, .f32⟩
  | 11 => ⟨S1x1024, .f32⟩
  | 12 => ⟨S256x1024, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S_, .f32⟩
  | 20 => ⟨S256x1, .f32⟩
  | 21 => ⟨S256x1, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S256x1024, .f32⟩
  | 28 => ⟨S256x1024, .f32⟩
  | 29 => ⟨S256x1024, .f32⟩
  | 30 => ⟨S256x1024, .f32⟩
  | 31 => ⟨S_, .f32⟩
  | 32 => ⟨S1x1024, .f32⟩
  | 33 => ⟨S1x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S_, .f32⟩
  | 40 => ⟨S1024, .f32⟩
  | 41 => ⟨S1x1024, .f32⟩
  | 42 => ⟨S256x1024, .f32⟩
  | 43 => ⟨S_, .f32⟩
  | 44 => ⟨S1024, .f32⟩
  | 45 => ⟨S1x1024, .f32⟩
  | 46 => ⟨S256x1024, .f32⟩
  | 47 => ⟨S256x1024, .f32⟩
  | 48 => ⟨S256x1024, .f32⟩
  | 49 => ⟨S_, .f32⟩
  | 50 => ⟨S1024, .f32⟩
  | 51 => ⟨S1x1024, .f32⟩
  | 52 => ⟨S256x1024, .f32⟩
  | 53 => ⟨S256x1024, .f32⟩
  | 54 => ⟨S256x1024, .f32⟩
  | 55 => ⟨S_, .f32⟩
  | 56 => ⟨S256, .f32⟩
  | 57 => ⟨S256x1, .f32⟩
  | 58 => ⟨S256x1024, .f32⟩
  | 59 => ⟨S256x1024, .f32⟩
  | 60 => ⟨S256x1, .f32⟩
  | 61 => ⟨S_, .f32⟩
  | 62 => ⟨S256x1, .f32⟩
  | 63 => ⟨S256x1, .f32⟩
  | 64 => ⟨S_, .f32⟩
  | 65 => ⟨S256, .f32⟩
  | 66 => ⟨S256x1024, .f32⟩
  | 67 => ⟨S256x1024, .f32⟩
  | 68 => ⟨S256x1024, .f32⟩
  | 69 => ⟨S256x1024, .f32⟩
  | 70 => ⟨S256x1024, .f32⟩
  | 71 => ⟨S1x1024, .f32⟩
  | 72 => ⟨S1x1024, .f32⟩
  | 73 => ⟨S16384x1024, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S_, .f32⟩
  | 81 => ⟨S16384x1, .f32⟩
  | 82 => ⟨S16384x1, .f32⟩
  | 83 => ⟨S16384x1, .f32⟩
  | 84 => ⟨S16384x1, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S16384x1024, .f32⟩
  | 91 => ⟨S16384x1024, .f32⟩
  | 92 => ⟨S_, .f32⟩
  | 93 => ⟨S1x1024, .f32⟩
  | 94 => ⟨S1x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S_, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S_, .f32⟩
  | 111 => ⟨S1024, .f32⟩
  | 112 => ⟨S1x1024, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S16384x1024, .f32⟩
  | 120 => ⟨S16384x1024, .f32⟩
  | 121 => ⟨S16384x1, .f32⟩
  | 122 => ⟨S_, .f32⟩
  | 123 => ⟨S16384x1, .f32⟩
  | 124 => ⟨S16384x1, .f32⟩
  | 125 => ⟨S_, .f32⟩
  | 126 => ⟨S16384, .f32⟩
  | 127 => ⟨S16384x1024, .f32⟩
  | _ => ⟨S256x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S8x1024, .f32⟩
  | 10 => ⟨S16384x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_21 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩

abbrev nD : Nat := 1
abbrev τ : Topo := Topo.v7x

variable {F : FTy → Type} [FloatOps F]
-- ==== KernelAmod.lean ====
abbrev S1x1024x1536 : Shape := ⟨3, ![1, 1024, 1536]⟩
abbrev S1x256x1536 : Shape := ⟨3, ![1, 256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1x1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAmodIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAmodIdeal.lean ====
abbrev S1x1024x1536 : Shape := ⟨3, ![1, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1x1024x1536, .f32⟩
  | .hbm, ⟨2, _⟩ => ⟨S1x1024x1536, .f32⟩
  | .hbm, ⟨3, _⟩ => ⟨S1x1024x1536, .f32⟩
  | .hbm, ⟨4, _⟩ => ⟨S_, .f32⟩
  | .hbm, ⟨5, _⟩ => ⟨S1x1024x1536, .f32⟩
  | .hbm, ⟨6, _⟩ => ⟨S1x1024x1536, .f32⟩
  | .hbm, ⟨7, _⟩ => ⟨S_, .f32⟩
  | .hbm, ⟨8, _⟩ => ⟨S1x1024x1536, .f32⟩
  | .hbm, ⟨9, _⟩ => ⟨S1x1024x1536, .f32⟩
  | .hbm, ⟨10, _⟩ => ⟨S1x1024x1536, .f32⟩
  | .hbm, ⟨11, _⟩ => ⟨S_, .f32⟩
  | .hbm, ⟨12, _⟩ => ⟨S1x1024x1536, .f32⟩
  | .hbm, ⟨13, _⟩ => ⟨S1x1024x1536, .f32⟩
  | .hbm, ⟨14, _⟩ => ⟨S1x1024x1536, .f32⟩
  | .hbm, ⟨15, _⟩ => ⟨S_, .f32⟩
  | .hbm, ⟨16, _⟩ => ⟨S1x1024x1536, .f32⟩
  | .hbm, ⟨17, _⟩ => ⟨S1x1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S_, .f32⟩
  | .hbm, ⟨23, _⟩ => ⟨S1x1024x1536, .f32⟩
  | .hbm, ⟨24, _⟩ => ⟨S1x1024x1536, .f32⟩
  | .hbm, ⟨25, _⟩ => ⟨S1x1024x1536, .f32⟩
  | .hbm, ⟨26, _⟩ => ⟨S_, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAin.lean ====
abbrev S1x1024x2052 : Shape := ⟨3, ![1, 1024, 2052]⟩
abbrev S1x128x2052 : Shape := ⟨3, ![1, 128, 2052]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2052, .f32⟩
  | .hbm, ⟨1, _⟩ => ⟨S1x1024x2052, .f32⟩
  | .hbm, ⟨2, _⟩ => ⟨S1x1024x2052, .f32⟩
  | .hbm, ⟨3, _⟩ => ⟨S1x1024x2052, .f32⟩
  | .hbm, ⟨4, _⟩ => ⟨S1x1024x2052, .f32⟩
  | .hbm, ⟨5, _⟩ => ⟨S1x1024x2052, .f32⟩
  | .hbm, ⟨6, _⟩ => ⟨S1x1024x2052, .f32⟩
  | .local _ .vmem, ⟨0, _⟩ => ⟨S1x128x2052, .f32⟩
  | .local _ .vmem, ⟨1, _⟩ => ⟨S1x128x2052, .f32⟩
  | .local _ .vmem, ⟨2, _⟩ => ⟨S1x128x2052, .f32⟩
  | .local _ .vmem, ⟨3, _⟩ => ⟨S1x128x2052, .f32⟩
  | .local _ .vmem, ⟨4, _⟩ => ⟨S1x128x2052, .f32⟩
  | .local _ .vmem, ⟨5, _⟩ => ⟨S1x128x2052, .f32⟩
  | .local _ .vmem, ⟨6, _⟩ => ⟨S1x128x2052, .f32⟩
  | .local _ .vmem, ⟨7, _⟩ => ⟨S1x128x2052, .f32⟩
  | .local _ .vmem, ⟨8, _⟩ => ⟨S1x128x2052, .f32⟩
  | .local _ .vmem, ⟨9, _⟩ => ⟨S1x128x2052, .f32⟩
  | .local _ .vmem, ⟨10, _⟩ => ⟨S1x128x2052, .f32⟩
  | .local _ .vmem, ⟨11, _⟩ => ⟨S1x128x2052, .f32⟩
  | .local _ .vmem, ⟨12, _⟩ => ⟨S1x128x2052, .f32⟩
  | .local _ .vmem, ⟨13, _⟩ => ⟨S1x128x2052, .f32⟩
  | _, _ => ⟨S1x1024x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAinIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAinIdeal.lean ====
abbrev S1x1024x2052 : Shape := ⟨3, ![1, 1024, 2052]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x2052, .f32⟩
  | .hbm, ⟨1, _⟩ => ⟨S1x1024x2052, .f32⟩
  | .hbm, ⟨2, _⟩ => ⟨S1x1024x2052, .f32⟩
  | .hbm, ⟨3, _⟩ => ⟨S1x1024x2052, .f32⟩
  | .hbm, ⟨4, _⟩ => ⟨S_, .f32⟩
  | .hbm, ⟨5, _⟩ => ⟨S1x1024x2052, .f32⟩
  | .hbm, ⟨6, _⟩ => ⟨S1x1024x2052, .f32⟩
  | .hbm, ⟨7, _⟩ => ⟨S_, .f32⟩
  | .hbm, ⟨8, _⟩ => ⟨S1x1024x2052, .f32⟩
  | .hbm, ⟨9, _⟩ => ⟨S1x1024x2052, .f32⟩
  | .hbm, ⟨10, _⟩ => ⟨S1x1024x2052, .f32⟩
  | .hbm, ⟨11, _⟩ => ⟨S_, .f32⟩
  | .hbm, ⟨12, _⟩ => ⟨S1x1024x2052, .f32⟩
  | .hbm, ⟨13, _⟩ => ⟨S1x1024x2052, .f32⟩
  | .hbm, ⟨14, _⟩ => ⟨S1x1024x2052, .f32⟩
  | .hbm, ⟨15, _⟩ => ⟨S_, .f32⟩
  | .hbm, ⟨16, _⟩ => ⟨S1x1024x2052, .f32⟩
  | .hbm, ⟨17, _⟩ => ⟨S1x1024x2052, .f32⟩
  | .hbm, ⟨18, _⟩ => ⟨S1x1024x2052, .f32⟩
  | .hbm, ⟨19, _⟩ => ⟨S_, .f32⟩
  | .hbm, ⟨20, _⟩ => ⟨S1x1024x2052, .f32⟩
  | .hbm, ⟨21, _⟩ => ⟨S1x1024x2052, .f32⟩
  | .hbm, ⟨22, _⟩ => ⟨S_, .f32⟩
  | .hbm, ⟨23, _⟩ => ⟨S1x1024x2052, .f32⟩
  | .hbm, ⟨24, _⟩ => ⟨S1x1024x2052, .f32⟩
  | .hbm, ⟨25, _⟩ => ⟨S1x1024x2052, .f32⟩
  | .hbm, ⟨26, _⟩ => ⟨S_, .f32⟩
  | .hbm, ⟨27, _⟩ => ⟨S1x1024x2052, .f32⟩
  | .hbm, ⟨28, _⟩ => ⟨S1x1024x2052, .f32⟩
  | .hbm, ⟨29, _⟩ => ⟨S1x1024x2052, .f32⟩
  | .hbm, ⟨30, _⟩ => ⟨S_, .f32⟩
  | .hbm, ⟨31, _⟩ => ⟨S1x1024x2052, .f32⟩
  | .hbm, ⟨32, _⟩ => ⟨S1x1024x2052, .f32⟩
  | .hbm, ⟨33, _⟩ => ⟨S1x1024x2052, .f32⟩
  | .hbm, ⟨34, _⟩ => ⟨S_, .f32⟩
  | .hbm, ⟨35, _⟩ => ⟨S1x1024x2052, .f32⟩
  | .hbm, ⟨36, _⟩ => ⟨S1x1024x2052, .f32⟩
  | _, _ => ⟨S1x1024x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAbranch.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAbranchIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAbranchIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAup.lean ====
abbrev S1x1024x1408 : Shape := ⟨3, ![1, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAupIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAupIdeal.lean ====
abbrev S1x1024x1408 : Shape := ⟨3, ![1, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S_, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdown.lean ====
abbrev S1x704x1024 : Shape := ⟨3, ![1, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdownIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAdownIdeal.lean ====
abbrev S1x704x1024 : Shape := ⟨3, ![1, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAsmall.lean ====
abbrev S688x128 : Shape := ⟨2, ![688, 128]⟩

abbrev nBuf : Space → Nat
  | .hbm => 7
  | .vmem => 7
  | .smem => 0
  | _ => 0

abbrev bufTy : (tb : Table) → Fin (tcTables nBuf tb) → BufTy
  | .hbm, ⟨0, _⟩ => ⟨S688x128, .f32⟩
  | .hbm, ⟨1, _⟩ => ⟨S688x128, .f32⟩
  | .hbm, ⟨2, _⟩ => ⟨S688x128, .f32⟩
  | .hbm, ⟨3, _⟩ => ⟨S688x128, .f32⟩
  | .hbm, ⟨4, _⟩ => ⟨S688x128, .f32⟩
  | .hbm, ⟨5, _⟩ => ⟨S688x128, .f32⟩
  | .hbm, ⟨6, _⟩ => ⟨S688x128, .f32⟩
  | .local _ .vmem, ⟨0, _⟩ => ⟨S688x128, .f32⟩
  | .local _ .vmem, ⟨1, _⟩ => ⟨S688x128, .f32⟩
  | .local _ .vmem, ⟨2, _⟩ => ⟨S688x128, .f32⟩
  | .local _ .vmem, ⟨3, _⟩ => ⟨S688x128, .f32⟩
  | .local _ .vmem, ⟨4, _⟩ => ⟨S688x128, .f32⟩
  | .local _ .vmem, ⟨5, _⟩ => ⟨S688x128, .f32⟩
  | .local _ .vmem, ⟨6, _⟩ => ⟨S688x128, .f32⟩
  | _, _ => ⟨S688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S688x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S688x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S688x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S688x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S688x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S688x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAsmallIdeal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== ReferenceAsmallIdeal.lean ====
abbrev S688x128 : Shape := ⟨2, ![688, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S688x128, .f32⟩
  | .hbm, ⟨1, _⟩ => ⟨S688x128, .f32⟩
  | .hbm, ⟨2, _⟩ => ⟨S688x128, .f32⟩
  | .hbm, ⟨3, _⟩ => ⟨S688x128, .f32⟩
  | .hbm, ⟨4, _⟩ => ⟨S_, .f32⟩
  | .hbm, ⟨5, _⟩ => ⟨S688x128, .f32⟩
  | .hbm, ⟨6, _⟩ => ⟨S688x128, .f32⟩
  | .hbm, ⟨7, _⟩ => ⟨S_, .f32⟩
  | .hbm, ⟨8, _⟩ => ⟨S688x128, .f32⟩
  | .hbm, ⟨9, _⟩ => ⟨S688x128, .f32⟩
  | .hbm, ⟨10, _⟩ => ⟨S688x128, .f32⟩
  | .hbm, ⟨11, _⟩ => ⟨S_, .f32⟩
  | .hbm, ⟨12, _⟩ => ⟨S688x128, .f32⟩
  | .hbm, ⟨13, _⟩ => ⟨S688x128, .f32⟩
  | .hbm, ⟨14, _⟩ => ⟨S688x128, .f32⟩
  | .hbm, ⟨15, _⟩ => ⟨S_, .f32⟩
  | .hbm, ⟨16, _⟩ => ⟨S688x128, .f32⟩
  | .hbm, ⟨17, _⟩ => ⟨S688x128, .f32⟩
  | .hbm, ⟨18, _⟩ => ⟨S688x128, .f32⟩
  | .hbm, ⟨19, _⟩ => ⟨S_, .f32⟩
  | .hbm, ⟨20, _⟩ => ⟨S688x128, .f32⟩
  | .hbm, ⟨21, _⟩ => ⟨S688x128, .f32⟩
  | .hbm, ⟨22, _⟩ => ⟨S_, .f32⟩
  | .hbm, ⟨23, _⟩ => ⟨S688x128, .f32⟩
  | .hbm, ⟨24, _⟩ => ⟨S688x128, .f32⟩
  | .hbm, ⟨25, _⟩ => ⟨S688x128, .f32⟩
  | .hbm, ⟨26, _⟩ => ⟨S_, .f32⟩
  | .hbm, ⟨27, _⟩ => ⟨S688x128, .f32⟩
  | .hbm, ⟨28, _⟩ => ⟨S688x128, .f32⟩
  | .hbm, ⟨29, _⟩ => ⟨S688x128, .f32⟩
  | .hbm, ⟨30, _⟩ => ⟨S_, .f32⟩
  | .hbm, ⟨31, _⟩ => ⟨S688x128, .f32⟩
  | .hbm, ⟨32, _⟩ => ⟨S688x128, .f32⟩
  | .hbm, ⟨33, _⟩ => ⟨S688x128, .f32⟩
  | .hbm, ⟨34, _⟩ => ⟨S_, .f32⟩
  | .hbm, ⟨35, _⟩ => ⟨S688x128, .f32⟩
  | .hbm, ⟨36, _⟩ => ⟨S688x128, .f32⟩
  | _, _ => ⟨S688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelHead.lean ====
abbrev S16384x1024 : Shape := ⟨2, ![16384, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1x1024, .f32⟩
  | .hbm, ⟨4, _⟩ => ⟨S8x1024, .f32⟩
  | .hbm, ⟨5, _⟩ => ⟨S16384x1024, .f32⟩
  | .hbm, ⟨6, _⟩ => ⟨S16384x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceHeadIdeal.lean ====
abbrev S16384x1024 : Shape := ⟨2, ![16384, 1024]⟩
abbrev S1x1024 : Shape := ⟨2, ![1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S5x1024 : Shape := ⟨2, ![5, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1x1024, .f32⟩
  | .hbm, ⟨4, _⟩ => ⟨S8x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S5x1024, .f32⟩
  | .hbm, ⟨84, _⟩ => ⟨S8x1024, .f32⟩
  | .hbm, ⟨85, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== KernelSmallSum.lean ====
abbrev S8x968x128 : Shape := ⟨3, ![8, 968, 128]⟩
abbrev S968x128 : Shape := ⟨2, ![968, 128]⟩
abbrev S1x968x128 : Shape := ⟨3, ![1, 968, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x968x128, .f32⟩
  | .hbm, ⟨1, _⟩ => ⟨S968x128, .f32⟩
  | .local _ .vmem, ⟨0, _⟩ => ⟨S8x968x128, .f32⟩
  | .local _ .vmem, ⟨1, _⟩ => ⟨S968x128, .f32⟩
  | _, _ => ⟨S8x968x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x968x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S968x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSmallSumIdeal.lean ====
abbrev S8x968x128 : Shape := ⟨3, ![8, 968, 128]⟩
abbrev S_ : Shape := ⟨0, ![]⟩
abbrev S968x128 : Shape := ⟨2, ![968, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x968x128, .f32⟩
  | .hbm, ⟨1, _⟩ => ⟨S_, .f32⟩
  | .hbm, ⟨2, _⟩ => ⟨S968x128, .f32⟩
  | _, _ => ⟨S8x968x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelColSum.lean ====
abbrev S512x3584 : Shape := ⟨2, ![512, 3584]⟩
abbrev S128x3584 : Shape := ⟨2, ![128, 3584]⟩

abbrev nBuf : Space → Nat
  | .hbm => 6
  | .vmem => 12
  | .smem => 0
  | _ => 0

abbrev bufTy : (tb : Table) → Fin (tcTables nBuf tb) → BufTy
  | .hbm, ⟨0, _⟩ => ⟨S512x3584, .bf16⟩
  | .hbm, ⟨1, _⟩ => ⟨S512x3584, .bf16⟩
  | .hbm, ⟨2, _⟩ => ⟨S512x3584, .bf16⟩
  | .hbm, ⟨3, _⟩ => ⟨S512x3584, .bf16⟩
  | .hbm, ⟨4, _⟩ => ⟨S512x3584, .bf16⟩
  | .hbm, ⟨5, _⟩ => ⟨S512x3584, .f32⟩
  | .local _ .vmem, ⟨0, _⟩ => ⟨S128x3584, .bf16⟩
  | .local _ .vmem, ⟨1, _⟩ => ⟨S128x3584, .bf16⟩
  | .local _ .vmem, ⟨2, _⟩ => ⟨S128x3584, .bf16⟩
  | .local _ .vmem, ⟨3, _⟩ => ⟨S128x3584, .bf16⟩
  | .local _ .vmem, ⟨4, _⟩ => ⟨S128x3584, .bf16⟩
  | .local _ .vmem, ⟨5, _⟩ => ⟨S128x3584, .bf16⟩
  | .local _ .vmem, ⟨6, _⟩ => ⟨S128x3584, .bf16⟩
  | .local _ .vmem, ⟨7, _⟩ => ⟨S128x3584, .bf16⟩
  | .local _ .vmem, ⟨8, _⟩ => ⟨S128x3584, .bf16⟩
  | .local _ .vmem, ⟨9, _⟩ => ⟨S128x3584, .bf16⟩
  | .local _ .vmem, ⟨10, _⟩ => ⟨S128x3584, .f32⟩
  | .local _ .vmem, ⟨11, _⟩ => ⟨S128x3584, .f32⟩
  | _, _ => ⟨S512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelColSumIdeal.lean ====
abbrev S512x3584 : Shape := ⟨2, ![512, 3584]⟩
abbrev S128x3584 : Shape := ⟨2, ![128, 3584]⟩

abbrev nBuf : Space → Nat
  | .hbm => 6
  | .vmem => 12
  | .smem => 0
  | _ => 0

abbrev bufTy : (tb : Table) → Fin (tcTables nBuf tb) → BufTy
  | .hbm, ⟨0, _⟩ => ⟨S512x3584, .bf16⟩
  | .hbm, ⟨1, _⟩ => ⟨S512x3584, .bf16⟩
  | .hbm, ⟨2, _⟩ => ⟨S512x3584, .bf16⟩
  | .hbm, ⟨3, _⟩ => ⟨S512x3584, .bf16⟩
  | .hbm, ⟨4, _⟩ => ⟨S512x3584, .bf16⟩
  | .hbm, ⟨5, _⟩ => ⟨S512x3584, .f32⟩
  | .local _ .vmem, ⟨0, _⟩ => ⟨S128x3584, .bf16⟩
  | .local _ .vmem, ⟨1, _⟩ => ⟨S128x3584, .bf16⟩
  | .local _ .vmem, ⟨2, _⟩ => ⟨S128x3584, .bf16⟩
  | .local _ .vmem, ⟨3, _⟩ => ⟨S128x3584, .bf16⟩
  | .local _ .vmem, ⟨4, _⟩ => ⟨S128x3584, .bf16⟩
  | .local _ .vmem, ⟨5, _⟩ => ⟨S128x3584, .bf16⟩
  | .local _ .vmem, ⟨6, _⟩ => ⟨S128x3584, .bf16⟩
  | .local _ .vmem, ⟨7, _⟩ => ⟨S128x3584, .bf16⟩
  | .local _ .vmem, ⟨8, _⟩ => ⟨S128x3584, .bf16⟩
  | .local _ .vmem, ⟨9, _⟩ => ⟨S128x3584, .bf16⟩
  | .local _ .vmem, ⟨10, _⟩ => ⟨S128x3584, .f32⟩
  | .local _ .vmem, ⟨11, _⟩ => ⟨S128x3584, .f32⟩
  | _, _ => ⟨S512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceColSumIdeal.lean ====
abbrev S512x3584 : Shape := ⟨2, ![512, 3584]⟩

abbrev nBuf : Space → Nat
  | .hbm => 14
  | .vmem => 0
  | .smem => 0
  | _ => 0

abbrev bufTy : (tb : Table) → Fin (tcTables nBuf tb) → BufTy
  | .hbm, ⟨0, _⟩ => ⟨S512x3584, .bf16⟩
  | .hbm, ⟨1, _⟩ => ⟨S512x3584, .bf16⟩
  | .hbm, ⟨2, _⟩ => ⟨S512x3584, .bf16⟩
  | .hbm, ⟨3, _⟩ => ⟨S512x3584, .bf16⟩
  | .hbm, ⟨4, _⟩ => ⟨S512x3584, .bf16⟩
  | .hbm, ⟨5, _⟩ => ⟨S512x3584, .f32⟩
  | .hbm, ⟨6, _⟩ => ⟨S512x3584, .f32⟩
  | .hbm, ⟨7, _⟩ => ⟨S512x3584, .f32⟩
  | .hbm, ⟨8, _⟩ => ⟨S512x3584, .f32⟩
  | .hbm, ⟨9, _⟩ => ⟨S512x3584, .f32⟩
  | .hbm, ⟨10, _⟩ => ⟨S512x3584, .f32⟩
  | .hbm, ⟨11, _⟩ => ⟨S512x3584, .f32⟩
  | .hbm, ⟨12, _⟩ => ⟨S512x3584, .f32⟩
  | .hbm, ⟨13, _⟩ => ⟨S512x3584, .f32⟩
  | _, _ => ⟨S512x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelRowSum.lean ====
abbrev S736x1024 : Shape := ⟨2, ![736, 1024]⟩
abbrev S368x1024 : Shape := ⟨2, ![368, 1024]⟩

abbrev nBuf : Space → Nat
  | .hbm => 6
  | .vmem => 12
  | .smem => 0
  | _ => 0

abbrev bufTy : (tb : Table) → Fin (tcTables nBuf tb) → BufTy
  | .hbm, ⟨0, _⟩ => ⟨S736x1024, .bf16⟩
  | .hbm, ⟨1, _⟩ => ⟨S736x1024, .bf16⟩
  | .hbm, ⟨2, _⟩ => ⟨S736x1024, .bf16⟩
  | .hbm, ⟨3, _⟩ => ⟨S736x1024, .bf16⟩
  | .hbm, ⟨4, _⟩ => ⟨S736x1024, .bf16⟩
  | .hbm, ⟨5, _⟩ => ⟨S736x1024, .f32⟩
  | .local _ .vmem, ⟨0, _⟩ => ⟨S368x1024, .bf16⟩
  | .local _ .vmem, ⟨1, _⟩ => ⟨S368x1024, .bf16⟩
  | .local _ .vmem, ⟨2, _⟩ => ⟨S368x1024, .bf16⟩
  | .local _ .vmem, ⟨3, _⟩ => ⟨S368x1024, .bf16⟩
  | .local _ .vmem, ⟨4, _⟩ => ⟨S368x1024, .bf16⟩
  | .local _ .vmem, ⟨5, _⟩ => ⟨S368x1024, .bf16⟩
  | .local _ .vmem, ⟨6, _⟩ => ⟨S368x1024, .bf16⟩
  | .local _ .vmem, ⟨7, _⟩ => ⟨S368x1024, .bf16⟩
  | .local _ .vmem, ⟨8, _⟩ => ⟨S368x1024, .bf16⟩
  | .local _ .vmem, ⟨9, _⟩ => ⟨S368x1024, .bf16⟩
  | .local _ .vmem, ⟨10, _⟩ => ⟨S368x1024, .f32⟩
  | .local _ .vmem, ⟨11, _⟩ => ⟨S368x1024, .f32⟩
  | _, _ => ⟨S736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelRowSumIdeal.lean ====
abbrev S736x1024 : Shape := ⟨2, ![736, 1024]⟩
abbrev S368x1024 : Shape := ⟨2, ![368, 1024]⟩

abbrev nBuf : Space → Nat
  | .hbm => 6
  | .vmem => 12
  | .smem => 0
  | _ => 0

abbrev bufTy : (tb : Table) → Fin (tcTables nBuf tb) → BufTy
  | .hbm, ⟨0, _⟩ => ⟨S736x1024, .bf16⟩
  | .hbm, ⟨1, _⟩ => ⟨S736x1024, .bf16⟩
  | .hbm, ⟨2, _⟩ => ⟨S736x1024, .bf16⟩
  | .hbm, ⟨3, _⟩ => ⟨S736x1024, .bf16⟩
  | .hbm, ⟨4, _⟩ => ⟨S736x1024, .bf16⟩
  | .hbm, ⟨5, _⟩ => ⟨S736x1024, .f32⟩
  | .local _ .vmem, ⟨0, _⟩ => ⟨S368x1024, .bf16⟩
  | .local _ .vmem, ⟨1, _⟩ => ⟨S368x1024, .bf16⟩
  | .local _ .vmem, ⟨2, _⟩ => ⟨S368x1024, .bf16⟩
  | .local _ .vmem, ⟨3, _⟩ => ⟨S368x1024, .bf16⟩
  | .local _ .vmem, ⟨4, _⟩ => ⟨S368x1024, .bf16⟩
  | .local _ .vmem, ⟨5, _⟩ => ⟨S368x1024, .bf16⟩
  | .local _ .vmem, ⟨6, _⟩ => ⟨S368x1024, .bf16⟩
  | .local _ .vmem, ⟨7, _⟩ => ⟨S368x1024, .bf16⟩
  | .local _ .vmem, ⟨8, _⟩ => ⟨S368x1024, .bf16⟩
  | .local _ .vmem, ⟨9, _⟩ => ⟨S368x1024, .bf16⟩
  | .local _ .vmem, ⟨10, _⟩ => ⟨S368x1024, .f32⟩
  | .local _ .vmem, ⟨11, _⟩ => ⟨S368x1024, .f32⟩
  | _, _ => ⟨S736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceRowSumIdeal.lean ====
abbrev S736x1024 : Shape := ⟨2, ![736, 1024]⟩

abbrev nBuf : Space → Nat
  | .hbm => 14
  | .vmem => 0
  | .smem => 0
  | _ => 0

abbrev bufTy : (tb : Table) → Fin (tcTables nBuf tb) → BufTy
  | .hbm, ⟨0, _⟩ => ⟨S736x1024, .bf16⟩
  | .hbm, ⟨1, _⟩ => ⟨S736x1024, .bf16⟩
  | .hbm, ⟨2, _⟩ => ⟨S736x1024, .bf16⟩
  | .hbm, ⟨3, _⟩ => ⟨S736x1024, .bf16⟩
  | .hbm, ⟨4, _⟩ => ⟨S736x1024, .bf16⟩
  | .hbm, ⟨5, _⟩ => ⟨S736x1024, .f32⟩
  | .hbm, ⟨6, _⟩ => ⟨S736x1024, .f32⟩
  | .hbm, ⟨7, _⟩ => ⟨S736x1024, .f32⟩
  | .hbm, ⟨8, _⟩ => ⟨S736x1024, .f32⟩
  | .hbm, ⟨9, _⟩ => ⟨S736x1024, .f32⟩
  | .hbm, ⟨10, _⟩ => ⟨S736x1024, .f32⟩
  | .hbm, ⟨11, _⟩ => ⟨S736x1024, .f32⟩
  | .hbm, ⟨12, _⟩ => ⟨S736x1024, .f32⟩
  | .hbm, ⟨13, _⟩ => ⟨S736x1024, .f32⟩
  | _, _ => ⟨S736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelModW.lean ====
abbrev S16x1024 : Shape := ⟨2, ![16, 1024]⟩
abbrev S16x1536 : Shape := ⟨2, ![16, 1536]⟩
abbrev S1024x1536 : Shape := ⟨2, ![1024, 1536]⟩
abbrev S16x512 : Shape := ⟨2, ![16, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x512, .f32⟩
  | .local _ .vmem, ⟨2, _⟩ => ⟨S16x512, .f32⟩
  | .local _ .vmem, ⟨3, _⟩ => ⟨S1024x512, .f32⟩
  | .local _ .vmem, ⟨4, _⟩ => ⟨S1024x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceModWIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1536, .f32⟩
  | .hbm, ⟨14, _⟩ => ⟨S1536x1024, .f32⟩
  | .hbm, ⟨15, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelCctx.lean ====
abbrev S16x2048 : Shape := ⟨2, ![16, 2048]⟩
abbrev S4x1024x3712 : Shape := ⟨3, ![4, 1024, 3712]⟩
abbrev S1x1024 : Shape := ⟨2, ![1, 1024]⟩
abbrev S16x1024 : Shape := ⟨2, ![16, 1024]⟩
abbrev S16x512 : Shape := ⟨2, ![16, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S4x1024x3712, .bf16⟩
  | .hbm, ⟨2, _⟩ => ⟨S1x1024, .f32⟩
  | .hbm, ⟨3, _⟩ => ⟨S16x1024, .f32⟩
  | .local _ .vmem, ⟨0, _⟩ => ⟨S16x512, .f32⟩
  | .local _ .vmem, ⟨1, _⟩ => ⟨S16x512, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024, .f32⟩
  | .local _ .vmem, ⟨5, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceCctxIdeal.lean ====
abbrev S16x2048 : Shape := ⟨2, ![16, 2048]⟩
abbrev S4x1024x3712 : Shape := ⟨3, ![4, 1024, 3712]⟩
abbrev S1x1024 : Shape := ⟨2, ![1, 1024]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1024x2048 : Shape := ⟨2, ![1024, 2048]⟩
abbrev S16x1024 : Shape := ⟨2, ![16, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x1024x3712, .bf16⟩
  | .hbm, ⟨2, _⟩ => ⟨S1x1024, .f32⟩
  | .hbm, ⟨3, _⟩ => ⟨S1x1024x1536, .bf16⟩
  | .hbm, ⟨4, _⟩ => ⟨S1024x1536, .bf16⟩
  | .hbm, ⟨5, _⟩ => ⟨S1x1024x512, .bf16⟩
  | .hbm, ⟨6, _⟩ => ⟨S1024x512, .bf16⟩
  | .hbm, ⟨7, _⟩ => ⟨S1024x2048, .bf16⟩
  | .hbm, ⟨8, _⟩ => ⟨S1024x2048, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S16x1024, .f32⟩
  | .hbm, ⟨23, _⟩ => ⟨S16x2048, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S16x1024, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== KernelPairCol.lean ====
abbrev S2048x3584 : Shape := ⟨2, ![2048, 3584]⟩
abbrev S128x3584 : Shape := ⟨2, ![128, 3584]⟩

abbrev nBuf : Space → Nat
  | .hbm => 3
  | .vmem => 6
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S2048x3584, .bf16⟩
  | .local _ .vmem, ⟨0, _⟩ => ⟨S128x3584, .bf16⟩
  | .local _ .vmem, ⟨1, _⟩ => ⟨S128x3584, .bf16⟩
  | .local _ .vmem, ⟨2, _⟩ => ⟨S128x3584, .bf16⟩
  | .local _ .vmem, ⟨3, _⟩ => ⟨S128x3584, .bf16⟩
  | .local _ .vmem, ⟨4, _⟩ => ⟨S128x3584, .bf16⟩
  | .local _ .vmem, ⟨5, _⟩ => ⟨S128x3584, .bf16⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelPairColIdeal.lean ====
abbrev S2048x3584 : Shape := ⟨2, ![2048, 3584]⟩
abbrev S128x3584 : Shape := ⟨2, ![128, 3584]⟩

abbrev nBuf : Space → Nat
  | .hbm => 3
  | .vmem => 6
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S2048x3584, .bf16⟩
  | .local _ .vmem, ⟨0, _⟩ => ⟨S128x3584, .bf16⟩
  | .local _ .vmem, ⟨1, _⟩ => ⟨S128x3584, .bf16⟩
  | .local _ .vmem, ⟨2, _⟩ => ⟨S128x3584, .bf16⟩
  | .local _ .vmem, ⟨3, _⟩ => ⟨S128x3584, .bf16⟩
  | .local _ .vmem, ⟨4, _⟩ => ⟨S128x3584, .bf16⟩
  | .local _ .vmem, ⟨5, _⟩ => ⟨S128x3584, .bf16⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePairColIdeal.lean ====
abbrev S2048x3584 : Shape := ⟨2, ![2048, 3584]⟩

abbrev nBuf : Space → Nat
  | .hbm => 6
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S2048x3584, .f32⟩
  | .hbm, ⟨3, _⟩ => ⟨S2048x3584, .f32⟩
  | .hbm, ⟨4, _⟩ => ⟨S2048x3584, .f32⟩
  | .hbm, ⟨5, _⟩ => ⟨S2048x3584, .bf16⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelPairRow.lean ====
abbrev S2944x1024 : Shape := ⟨2, ![2944, 1024]⟩
abbrev S368x1024 : Shape := ⟨2, ![368, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2944x1024, .bf16⟩
  | .hbm, ⟨1, _⟩ => ⟨S2944x1024, .bf16⟩
  | .hbm, ⟨2, _⟩ => ⟨S2944x1024, .bf16⟩
  | .local _ .vmem, ⟨0, _⟩ => ⟨S368x1024, .bf16⟩
  | .local _ .vmem, ⟨1, _⟩ => ⟨S368x1024, .bf16⟩
  | .local _ .vmem, ⟨2, _⟩ => ⟨S368x1024, .bf16⟩
  | .local _ .vmem, ⟨3, _⟩ => ⟨S368x1024, .bf16⟩
  | .local _ .vmem, ⟨4, _⟩ => ⟨S368x1024, .bf16⟩
  | .local _ .vmem, ⟨5, _⟩ => ⟨S368x1024, .bf16⟩
  | _, _ => ⟨S2944x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePairRowIdeal.lean ====
abbrev S2944x1024 : Shape := ⟨2, ![2944, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2944x1024, .bf16⟩
  | .hbm, ⟨1, _⟩ => ⟨S2944x1024, .bf16⟩
  | .hbm, ⟨2, _⟩ => ⟨S2944x1024, .f32⟩
  | .hbm, ⟨3, _⟩ => ⟨S2944x1024, .f32⟩
  | .hbm, ⟨4, _⟩ => ⟨S2944x1024, .f32⟩
  | .hbm, ⟨5, _⟩ => ⟨S2944x1024, .bf16⟩
  | _, _ => ⟨S2944x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelModF.lean ====
abbrev S16x1024 : Shape := ⟨2, ![16, 1024]⟩
abbrev S4x1024x3712 : Shape := ⟨3, ![4, 1024, 3712]⟩
abbrev S1x6144 : Shape := ⟨2, ![1, 6144]⟩
abbrev S16x6144 : Shape := ⟨2, ![16, 6144]⟩
abbrev S1x1024x512 : Shape := ⟨3, ![1, 1024, 512]⟩
abbrev S1x512 : Shape := ⟨2, ![1, 512]⟩
abbrev S16x512 : Shape := ⟨2, ![16, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x3712, .bf16⟩
  | .hbm, ⟨2, _⟩ => ⟨S1x6144, .f32⟩
  | .hbm, ⟨3, _⟩ => ⟨S16x6144, .f32⟩
  | .local _ .vmem, ⟨0, _⟩ => ⟨S16x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModFIdeal.lean ====
abbrev S16x1024 : Shape := ⟨2, ![16, 1024]⟩
abbrev S4x1024x3712 : Shape := ⟨3, ![4, 1024, 3712]⟩
abbrev S1x6144 : Shape := ⟨2, ![1, 6144]⟩
abbrev S1x1024x1536 : Shape := ⟨3, ![1, 1024, 1536]⟩
abbrev S1024x1536 : Shape := ⟨2, ![1024, 1536]⟩
abbrev S1024x6144 : Shape := ⟨2, ![1024, 6144]⟩
abbrev S_ : Shape := ⟨0, ![]⟩
abbrev S16x6144 : Shape := ⟨2, ![16, 6144]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3712, .bf16⟩
  | .hbm, ⟨2, _⟩ => ⟨S1x6144, .f32⟩
  | .hbm, ⟨3, _⟩ => ⟨S1x1024x1536, .bf16⟩
  | .hbm, ⟨4, _⟩ => ⟨S1024x1536, .bf16⟩
  | .hbm, ⟨5, _⟩ => ⟨S1x1024x1536, .bf16⟩
  | .hbm, ⟨6, _⟩ => ⟨S1024x1536, .bf16⟩
  | .hbm, ⟨7, _⟩ => ⟨S1x1024x1536, .bf16⟩
  | .hbm, ⟨8, _⟩ => ⟨S1024x1536, .bf16⟩
  | .hbm, ⟨9, _⟩ => ⟨S1x1024x1536, .bf16⟩
  | .hbm, ⟨10, _⟩ => ⟨S1024x1536, .bf16⟩
  | .hbm, ⟨11, _⟩ => ⟨S1024x6144, .bf16⟩
  | .hbm, ⟨12, _⟩ => ⟨S1024x6144, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S16x6144, .f32⟩
  | .hbm, ⟨23, _⟩ => ⟨S16x6144, .f32⟩
  | .hbm, ⟨24, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== KernelN1.lean ====
abbrev S256x1024 : Shape := ⟨2, ![256, 1024]⟩
abbrev S16384x1024 : Shape := ⟨2, ![16384, 1024]⟩
abbrev S1x1024 : Shape := ⟨2, ![1, 1024]⟩
abbrev S8x1024 : Shape := ⟨2, ![8, 1024]⟩
abbrev S16640x1024 : Shape := ⟨2, ![16640, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S1x1024, .f32⟩
  | .hbm, ⟨3, _⟩ => ⟨S8x1024, .f32⟩
  | .hbm, ⟨4, _⟩ => ⟨S16640x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x1024, .f32⟩
  | .local _ .vmem, ⟨6, _⟩ => ⟨S256x1024, .bf16⟩
  | .local _ .vmem, ⟨7, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceN1Ideal.lean ====
abbrev S256x1024 : Shape := ⟨2, ![256, 1024]⟩
abbrev S16384x1024 : Shape := ⟨2, ![16384, 1024]⟩
abbrev S1x1024 : Shape := ⟨2, ![1, 1024]⟩
abbrev S8x1024 : Shape := ⟨2, ![8, 1024]⟩
abbrev S_ : Shape := ⟨0, ![]⟩
abbrev S256 : Shape := ⟨1, ![256]⟩
abbrev S256x1 : Shape := ⟨2, ![256, 1]⟩
abbrev S16384 : Shape := ⟨1, ![16384]⟩
abbrev S16384x1 : Shape := ⟨2, ![16384, 1]⟩
abbrev S16640x1024 : Shape := ⟨2, ![16640, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S16384x1024, .f32⟩
  | .hbm, ⟨2, _⟩ => ⟨S1x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16640x1024, .f32⟩
  | .hbm, ⟨53, _⟩ => ⟨S16640x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== KernelN2.lean ====
abbrev S16384x1024 : Shape := ⟨2, ![16384, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S8x1024, .f32⟩
  | .hbm, ⟨4, _⟩ => ⟨S16384x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceN2Ideal.lean ====
abbrev S16384x1024 : Shape := ⟨2, ![16384, 1024]⟩
abbrev S1x1024 : Shape := ⟨2, ![1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S8x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== KernelMerge.lean ====
abbrev S16640x8192 : Shape := ⟨2, ![16640, 8192]⟩
abbrev S2x16384x1024 : Shape := ⟨3, ![2, 16384, 1024]⟩
abbrev S16384x1024 : Shape := ⟨2, ![16384, 1024]⟩
abbrev S256x1024 : Shape := ⟨2, ![256, 1024]⟩
abbrev S2x256x1024 : Shape := ⟨3, ![2, 256, 1024]⟩
abbrev S1x256x1024 : Shape := ⟨3, ![1, 256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S16640x8192, .bf16⟩
  | .hbm, ⟨1, _⟩ => ⟨S2x16384x1024, .bf16⟩
  | .hbm, ⟨2, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2x256x1024, .bf16⟩
  | .local _ .vmem, ⟨5, _⟩ => ⟨S2x256x1024, .bf16⟩
  | .local _ .vmem, ⟨6, _⟩ => ⟨S256x1024, .bf16⟩
  | .local _ .vmem, ⟨7, _⟩ => ⟨S256x1024, .bf16⟩
  | _, _ => ⟨S16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  ![v0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMergeIdeal.lean ====
abbrev S16640x8192 : Shape := ⟨2, ![16640, 8192]⟩
abbrev S2x16384x1024 : Shape := ⟨3, ![2, 16384, 1024]⟩
abbrev S16384x8192 : Shape := ⟨2, ![16384, 8192]⟩
abbrev S16384x1024 : Shape := ⟨2, ![16384, 1024]⟩
abbrev S1x16384x1024 : Shape := ⟨3, ![1, 16384, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16640x8192, .bf16⟩
  | .hbm, ⟨1, _⟩ => ⟨S2x16384x1024, .bf16⟩
  | .hbm, ⟨2, _⟩ => ⟨S16384x8192, .bf16⟩
  | .hbm, ⟨3, _⟩ => ⟨S16384x8192, .f32⟩
  | .hbm, ⟨4, _⟩ => ⟨S2x16384x1024, .f32⟩
  | .hbm, ⟨5, _⟩ => ⟨S16384x1024, .f32⟩
  | .hbm, ⟨6, _⟩ => ⟨S16384x1024, .f32⟩
  | .hbm, ⟨7, _⟩ => ⟨S1x16384x1024, .f32⟩
  | .hbm, ⟨8, _⟩ => ⟨S16384x1024, .f32⟩
  | .hbm, ⟨9, _⟩ => ⟨S1x16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | _, _ => ⟨S16640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelMergeB.lean ====
abbrev S16640x8192 : Shape := ⟨2, ![16640, 8192]⟩
abbrev S2x16384x1024 : Shape := ⟨3, ![2, 16384, 1024]⟩
abbrev S16384x1024 : Shape := ⟨2, ![16384, 1024]⟩
abbrev S256x1024 : Shape := ⟨2, ![256, 1024]⟩
abbrev S1x256x1024 : Shape := ⟨3, ![1, 256, 1024]⟩
abbrev S16640x2048 : Shape := ⟨2, ![16640, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16640x8192, .bf16⟩
  | .hbm, ⟨1, _⟩ => ⟨S2x16384x1024, .bf16⟩
  | .hbm, ⟨2, _⟩ => ⟨S16384x1024, .bf16⟩
  | .hbm, ⟨3, _⟩ => ⟨S2x16384x1024, .bf16⟩
  | .hbm, ⟨4, _⟩ => ⟨S16640x8192, .bf16⟩
  | .hbm, ⟨5, _⟩ => ⟨S16640x2048, .bf16⟩
  | .local _ .vmem, ⟨0, _⟩ => ⟨S256x1024, .bf16⟩
  | .local _ .vmem, ⟨1, _⟩ => ⟨S256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .bf16⟩
  | .local _ .vmem, ⟨9, _⟩ => ⟨S256x1024, .bf16⟩
  | _, _ => ⟨S16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 65], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMergeBIdeal.lean ====
abbrev S16640x8192 : Shape := ⟨2, ![16640, 8192]⟩
abbrev S2x16384x1024 : Shape := ⟨3, ![2, 16384, 1024]⟩
abbrev S16384x1024 : Shape := ⟨2, ![16384, 1024]⟩
abbrev S16384x8192 : Shape := ⟨2, ![16384, 8192]⟩
abbrev S1x16384x1024 : Shape := ⟨3, ![1, 16384, 1024]⟩
abbrev S_ : Shape := ⟨0, ![]⟩
abbrev S16384x2048 : Shape := ⟨2, ![16384, 2048]⟩
abbrev S256x2048 : Shape := ⟨2, ![256, 2048]⟩
abbrev S16640x2048 : Shape := ⟨2, ![16640, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16640x8192, .bf16⟩
  | .hbm, ⟨1, _⟩ => ⟨S2x16384x1024, .bf16⟩
  | .hbm, ⟨2, _⟩ => ⟨S16384x1024, .bf16⟩
  | .hbm, ⟨3, _⟩ => ⟨S16384x8192, .bf16⟩
  | .hbm, ⟨4, _⟩ => ⟨S16384x8192, .f32⟩
  | .hbm, ⟨5, _⟩ => ⟨S2x16384x1024, .f32⟩
  | .hbm, ⟨6, _⟩ => ⟨S16384x1024, .f32⟩
  | .hbm, ⟨7, _⟩ => ⟨S16384x1024, .f32⟩
  | .hbm, ⟨8, _⟩ => ⟨S1x16384x1024, .f32⟩
  | .hbm, ⟨9, _⟩ => ⟨S16384x1024, .f32⟩
  | .hbm, ⟨10, _⟩ => ⟨S1x16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x2048, .f32⟩
  | .hbm, ⟨47, _⟩ => ⟨S1x16384x1024, .f32⟩
  | .hbm, ⟨48, _⟩ => ⟨S1x16384x1024, .f32⟩
  | .hbm, ⟨49, _⟩ => ⟨S2x16384x1024, .f32⟩
  | .hbm, ⟨50, _⟩ => ⟨S2x16384x1024, .bf16⟩
  | .hbm, ⟨51, _⟩ => ⟨S_, .f32⟩
  | .hbm, ⟨52, _⟩ => ⟨S256x2048, .f32⟩
  | .hbm, ⟨53, _⟩ => ⟨S16640x2048, .f32⟩
  | .hbm, ⟨54, _⟩ => ⟨S16640x2048, .bf16⟩
  | _, _ => ⟨S16640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== KernelActB.lean ====
abbrev S16384x5632 : Shape := ⟨2, ![16384, 5632]⟩
abbrev S16384x2816 : Shape := ⟨2, ![16384, 2816]⟩
abbrev S512x1408 : Shape := ⟨2, ![512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x2816, .bf16⟩
  | .hbm, ⟨3, _⟩ => ⟨S16384x5632, .bf16⟩
  | .hbm, ⟨4, _⟩ => ⟨S16384x2816, .bf16⟩
  | .hbm, ⟨5, _⟩ => ⟨S16384x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceActBIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x2816, .bf16⟩
  | .hbm, ⟨3, _⟩ => ⟨S16384x2816, .f32⟩
  | .hbm, ⟨4, _⟩ => ⟨S16384x2816, .bf16⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .bf16⟩
  | .hbm, ⟨28, _⟩ => ⟨S16384x2816, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Proof.ProductBranch.lean ====
/- The two branches' forward products: what the tiled kernel leaves is the plain product of the reference. -/
module

public import proofs.«01_k».proof.Defs
public import proofs.«01_k».proof.Proof.Gen.KernelBranchIdeal.Value
public import proofs.«01_k».proof.Proof.Gen.ReferenceBranchIdeal
public import proofs.«01_k».proof.Proof.Gen.KernelBranch.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelBranchIdeal.Value

open Cert.KernelBranchIdeal Cert.KernelBranchIdeal.Gen

variable (m : (ℓ : Loc nD τ sig) → Buf (Elt Ideal) ℓ)

/-- The product as the reference's lines compute it. -/
abbrev prod (a : FVec Ideal S2x16384x1024 .bf16) (b : FVec Ideal S2x1024x1024 .bf16) : FVec Ideal S2x16384x1024 .bf16 :=
  truncf .bf16 (Host.dotGeneral (F := Ideal) Cert.ReferenceBranchIdeal.dot_S2x16384x1024_S2x1024x1024_S2x16384x1024_2_1_1_2_0_0 none a b) Cert.ReferenceBranchIdeal.Gen.bitsLt_bf16_f32

/-- The block of each window at grid point `t`. -/
theorem idx : ∀ t : Fin cfg0.N, win0_0.index t = ![t.val / 8, t.val % 8, 0] ∧ win0_1.index t = ![t.val / 8, 0, 0]
    ∧ win0_2.index t = ![t.val / 8, t.val % 8, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelBranchIdeal.Value

namespace Cert.Proof

theorem quiescent_KernelBranch : Cert.quiescent_KernelBranch := fun m g _ => Cert.KernelBranch.Gen.frame m g

theorem quiescent_KernelBranchIdeal : Cert.quiescent_KernelBranchIdeal := fun m g _ => Cert.KernelBranchIdeal.Gen.frame m g

theorem quiescent_ReferenceBranchIdeal : Cert.quiescent_ReferenceBranchIdeal := by
  intro m g _
  hlo_run
  · exact fun _ => ⟨trivial, trivial⟩
  · exact sem_eq_zero_of_no_sems (by decide) _

/-- Kernel and reference compute the same array over the extended reals. -/
theorem algebraic_KernelBranchIdeal_ReferenceBranchIdeal : Cert.algebraic_KernelBranchIdeal_ReferenceBranchIdeal := by
  pair_intro
  · run_from Cert.KernelBranchIdeal.Gen.run_main m g
  · hlo_run
    exact (Cert.KernelBranchIdeal.Value.final m c).symm

end Cert.Proof

end
-- ==== Proof.ProductDbranch.lean ====
/- The gradient of the two branches' products in their inputs: what the tiled kernel leaves is the plain product of the reference. -/
module

public import proofs.«01_k».proof.Defs
public import proofs.«01_k».proof.Proof.Gen.KernelDbranchIdeal.Value
public import proofs.«01_k».proof.Proof.Gen.ReferenceDbranchIdeal
public import proofs.«01_k».proof.Proof.Gen.KernelDbranch.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDbranchIdeal.Value

open Cert.KernelDbranchIdeal Cert.KernelDbranchIdeal.Gen

variable (m : (ℓ : Loc nD τ sig) → Buf (Elt Ideal) ℓ)

/-- The product as the reference's lines compute it. -/
abbrev prod (a : FVec Ideal S2x16384x1024 .bf16) (b : FVec Ideal S2x1024x1024 .bf16) : FVec Ideal S2x16384x1024 .bf16 :=
  truncf .bf16 (Host.dotGeneral (F := Ideal) Cert.ReferenceDbranchIdeal.dot_S2x16384x1024_S2x1024x1024_S2x16384x1024_2_2_1_1_0_0 none
      (extf .f32 a Cert.ReferenceDbranchIdeal.Gen.bitsLt_bf16_f32) b) Cert.ReferenceDbranchIdeal.Gen.bitsLt_bf16_f32

/-- The block of each window at grid point `t`. -/
theorem idx : ∀ t : Fin cfg0.N, win0_0.index t = ![t.val / 8, t.val % 8, 0] ∧ win0_1.index t = ![t.val / 8, 0, 0]
    ∧ win0_2.index t = ![t.val / 8, t.val % 8, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelDbranchIdeal.Value

namespace Cert.Proof

theorem quiescent_KernelDbranch : Cert.quiescent_KernelDbranch := fun m g _ => Cert.KernelDbranch.Gen.frame m g

theorem quiescent_KernelDbranchIdeal : Cert.quiescent_KernelDbranchIdeal := fun m g _ => Cert.KernelDbranchIdeal.Gen.frame m g

theorem quiescent_ReferenceDbranchIdeal : Cert.quiescent_ReferenceDbranchIdeal := by
  intro m g _
  hlo_run
  · exact fun _ => ⟨trivial, trivial⟩
  · exact sem_eq_zero_of_no_sems (by decide) _

/-- Kernel and reference compute the same array over the extended reals. -/
theorem algebraic_KernelDbranchIdeal_ReferenceDbranchIdeal : Cert.algebraic_KernelDbranchIdeal_ReferenceDbranchIdeal := by
  pair_intro
  · run_from Cert.KernelDbranchIdeal.Gen.run_main m g
  · hlo_run
    exact (Cert.KernelDbranchIdeal.Value.final m c).symm

end Cert.Proof

end
-- ==== Proof.ProductDdown.lean ====
/- The gradient of the product with `w_down` in its input: what the tiled kernel leaves is the plain product of the reference. -/
module

public import proofs.«01_k».proof.Defs
public import proofs.«01_k».proof.Proof.Gen.KernelDdownIdeal.Value
public import proofs.«01_k».proof.Proof.Gen.ReferenceDdownIdeal
public import proofs.«01_k».proof.Proof.Gen.KernelDdown.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDdownIdeal.Value

open Cert.KernelDdownIdeal Cert.KernelDdownIdeal.Gen

variable (m : (ℓ : Loc nD τ sig) → Buf (Elt Ideal) ℓ)

/-- The product as the reference's lines compute it. -/
abbrev prod (a : FVec Ideal S16384x1024 .bf16) (b : FVec Ideal S2816x1024 .bf16) : FVec Ideal S1x16384x2816 .bf16 :=
  broadcastInDim Cert.ReferenceDdownIdeal.S1x16384x2816 ![1, 2] Cert.ReferenceDdownIdeal.Gen.bcast_S16384x2816_S1x16384x2816_1_2
    (truncf .bf16 (Host.dotGeneral (F := Ideal) Cert.ReferenceDdownIdeal.dot_S16384x1024_S2816x1024_S16384x2816_1_1_0_0_n_n none
      (extf .f32 a Cert.ReferenceDdownIdeal.Gen.bitsLt_bf16_f32) b) Cert.ReferenceDdownIdeal.Gen.bitsLt_bf16_f32)

/-- The block of each window at grid point `t`. -/
theorem idx : ∀ t : Fin cfg0.N, win0_0.index t = ![0, t.val % 8, 0] ∧ win0_1.index t = ![0, t.val / 8, 0]
    ∧ win0_2.index t = ![0, t.val % 8, t.val / 8] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelDdownIdeal.Value

namespace Cert.Proof

theorem quiescent_KernelDdown : Cert.quiescent_KernelDdown := fun m g _ => Cert.KernelDdown.Gen.frame m g

theorem quiescent_KernelDdownIdeal : Cert.quiescent_KernelDdownIdeal := fun m g _ => Cert.KernelDdownIdeal.Gen.frame m g

theorem quiescent_ReferenceDdownIdeal : Cert.quiescent_ReferenceDdownIdeal := by
  intro m g _
  hlo_run
  · exact fun _ => ⟨trivial, trivial⟩
  · exact sem_eq_zero_of_no_sems (by decide) _

/-- Kernel and reference compute the same array over the extended reals. -/
theorem algebraic_KernelDdownIdeal_ReferenceDdownIdeal : Cert.algebraic_KernelDdownIdeal_ReferenceDdownIdeal := by
  pair_intro
  · run_from Cert.KernelDdownIdeal.Gen.run_main m g
  · hlo_run
    exact (Cert.KernelDdownIdeal.Value.final m c).symm

end Cert.Proof

end
-- ==== Proof.ProductDg.lean ====
/- The gradient of the product with the gate columns of `w_in` in its input: what the tiled kernel leaves is the plain product of the reference. -/
module

public import proofs.«01_k».proof.Defs
public import proofs.«01_k».proof.Proof.Gen.KernelDgIdeal.Value
public import proofs.«01_k».proof.Proof.Gen.ReferenceDgIdeal
public import proofs.«01_k».proof.Proof.Gen.KernelDg.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDgIdeal.Value

open Cert.KernelDgIdeal Cert.KernelDgIdeal.Gen

variable (m : (ℓ : Loc nD τ sig) → Buf (Elt Ideal) ℓ)

/-- The product as the reference's lines compute it. -/
abbrev prod (a : FVec Ideal S16640x128 .bf16) (b : FVec Ideal S1024x128 .bf16) : FVec Ideal S1x16640x1024 .bf16 :=
  broadcastInDim Cert.ReferenceDgIdeal.S1x16640x1024 ![1, 2] Cert.ReferenceDgIdeal.Gen.bcast_S16640x1024_S1x16640x1024_1_2
    (truncf .bf16 (Host.dotGeneral (F := Ideal) Cert.ReferenceDgIdeal.dot_S16640x128_S1024x128_S16640x1024_1_1_0_0_n_n none
      (extf .f32 a Cert.ReferenceDgIdeal.Gen.bitsLt_bf16_f32) b) Cert.ReferenceDgIdeal.Gen.bitsLt_bf16_f32)

/-- The block of each window at grid point `t`. -/
theorem idx : ∀ t : Fin cfg0.N, win0_0.index t = ![0, t.val, 0] ∧ win0_1.index t = ![0, 0, 0]
    ∧ win0_2.index t = ![0, t.val, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelDgIdeal.Value

namespace Cert.Proof

theorem quiescent_KernelDg : Cert.quiescent_KernelDg := fun m g _ => Cert.KernelDg.Gen.frame m g

theorem quiescent_KernelDgIdeal : Cert.quiescent_KernelDgIdeal := fun m g _ => Cert.KernelDgIdeal.Gen.frame m g

theorem quiescent_ReferenceDgIdeal : Cert.quiescent_ReferenceDgIdeal := by
  intro m g _
  hlo_run
  · exact fun _ => ⟨trivial, trivial⟩
  · exact sem_eq_zero_of_no_sems (by decide) _

/-- Kernel and reference compute the same array over the extended reals. -/
theorem algebraic_KernelDgIdeal_ReferenceDgIdeal : Cert.algebraic_KernelDgIdeal_ReferenceDgIdeal := by
  pair_intro
  · run_from Cert.KernelDgIdeal.Gen.run_main m g
  · hlo_run
    exact (Cert.KernelDgIdeal.Value.final m c).symm

end Cert.Proof

end
-- ==== Proof.ProductDmain.lean ====
/- The gradient of the product with the main columns of `w_in` in its input: what the tiled kernel leaves is the plain product of the reference. -/
module

public import proofs.«01_k».proof.Defs
public import proofs.«01_k».proof.Proof.Gen.KernelDmainIdeal.Value
public import proofs.«01_k».proof.Proof.Gen.ReferenceDmainIdeal
public import proofs.«01_k».proof.Proof.Gen.KernelDmain.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDmainIdeal.Value

open Cert.KernelDmainIdeal Cert.KernelDmainIdeal.Gen

variable (m : (ℓ : Loc nD τ sig) → Buf (Elt Ideal) ℓ)

/-- The product as the reference's lines compute it. -/
abbrev prod (a : FVec Ideal S16640x8192 .bf16) (b : FVec Ideal S1024x8192 .bf16) : FVec Ideal S1x16640x1024 .bf16 :=
  broadcastInDim Cert.ReferenceDmainIdeal.S1x16640x1024 ![1, 2] Cert.ReferenceDmainIdeal.Gen.bcast_S16640x1024_S1x16640x1024_1_2
    (truncf .bf16 (Host.dotGeneral (F := Ideal) Cert.ReferenceDmainIdeal.dot_S16640x8192_S1024x8192_S16640x1024_1_1_0_0_n_n none
      (extf .f32 a Cert.ReferenceDmainIdeal.Gen.bitsLt_bf16_f32) b) Cert.ReferenceDmainIdeal.Gen.bitsLt_bf16_f32)

/-- The block of each window at grid point `t`. -/
theorem idx : ∀ t : Fin cfg0.N, win0_0.index t = ![0, t.val / 4, t.val % 4] ∧ win0_1.index t = ![0, 0, t.val % 4]
    ∧ win0_2.index t = ![0, t.val / 4, 0] :=
  (by decide +kernel : ∀ t : Fin grid0.N, _)

/-- A step adds one tile's products to the accumulator. -/
theorem step (acc : FVec Ideal S1280x1024 .f32) (x : FVec Ideal S1x1280x2048 .bf16) (w : FVec Ideal S1x1024x2048 .bf16)
    (j : S1280x1024.Idx) : k0_pay2 acc x w j = acc j + k0_pay2 (fun _ => (0 : EReal)) x w j := by
  pointwise [k0_pay2]

/-- The accumulator starts at zero. -/
theorem start (j : S1280x1024.Idx) : k0_pay1 (F := Ideal) j = 0 := by pointwise [k0_pay1]

/-- At the end of a run of 4 points the accumulator holds the sum of the tiles' products. -/
theorem acc_eq (c : Dev nD) (t : Fin cfg0.N) (h : t.val % 4 = 3) (j : S1280x1024.Idx) :
    (outsAt0 m c t.val t.isLt).2 j
      = ∑ s : Fin 4, k0_pay2 (fun _ => (0 : EReal)) (iblk m c 0 ⟨4 * (t.val / 4) + s.val, Pipeline.run_point_lt_of_flush t h s⟩)
          (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 4 = 3
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  blk_point [iblk, V, idx t, idx ⟨_, Pipeline.run_point_lt_of_flush t hl s⟩]

end Cert.KernelDmainIdeal.Value

namespace Cert.Proof

theorem quiescent_KernelDmain : Cert.quiescent_KernelDmain := fun m g _ => Cert.KernelDmain.Gen.frame m g

theorem quiescent_KernelDmainIdeal : Cert.quiescent_KernelDmainIdeal := fun m g _ => Cert.KernelDmainIdeal.Gen.frame m g

theorem quiescent_ReferenceDmainIdeal : Cert.quiescent_ReferenceDmainIdeal := by
  intro m g _
  hlo_run
  · exact fun _ => ⟨trivial, trivial⟩
  · exact sem_eq_zero_of_no_sems (by decide) _

/-- Kernel and reference compute the same array over the extended reals. -/
theorem algebraic_KernelDmainIdeal_ReferenceDmainIdeal : Cert.algebraic_KernelDmainIdeal_ReferenceDmainIdeal := by
  pair_intro
  · run_from Cert.KernelDmainIdeal.Gen.run_main m g
  · hlo_run
    exact (Cert.KernelDmainIdeal.Value.final m c).symm

end Cert.Proof

end
-- ==== Proof.ProductDout.lean ====
/- The gradient of the product with `w_out` in its input: what the tiled kernel leaves is the plain product of the reference. -/
module

public import proofs.«01_k».proof.Defs
public import proofs.«01_k».proof.Proof.Gen.KernelDoutIdeal.Value
public import proofs.«01_k».proof.Proof.Gen.ReferenceDoutIdeal
public import proofs.«01_k».proof.Proof.Gen.KernelDout.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDoutIdeal.Value

open Cert.KernelDoutIdeal Cert.KernelDoutIdeal.Gen

variable (m : (ℓ : Loc nD τ sig) → Buf (Elt Ideal) ℓ)

/-- The product as the reference's lines compute it. -/
abbrev prod (a : FVec Ideal S16384x1024 .bf16) (b : FVec Ideal S1024x1024 .bf16) : FVec Ideal S1x16384x1024 .bf16 :=
  broadcastInDim Cert.ReferenceDoutIdeal.S1x16384x1024 ![1, 2] Cert.ReferenceDoutIdeal.Gen.bcast_S16384x1024_S1x16384x1024_1_2
    (truncf .bf16 (Host.dotGeneral (F := Ideal) Cert.ReferenceDoutIdeal.dot_S16384x1024_S1024x1024_S16384x1024_1_1_0_0_n_n none
      (extf .f32 a Cert.ReferenceDoutIdeal.Gen.bitsLt_bf16_f32) b) Cert.ReferenceDoutIdeal.Gen.bitsLt_bf16_f32)

/-- The block of each window at grid point `t`. -/
theorem idx : ∀ t : Fin cfg0.N, win0_0.index t = ![0, t.val, 0] ∧ win0_1.index t = ![0, 0, 0]
    ∧ win0_2.index t = ![0, t.val, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelDoutIdeal.Value

namespace Cert.Proof

theorem quiescent_KernelDout : Cert.quiescent_KernelDout := fun m g _ => Cert.KernelDout.Gen.frame m g

theorem quiescent_KernelDoutIdeal : Cert.quiescent_KernelDoutIdeal := fun m g _ => Cert.KernelDoutIdeal.Gen.frame m g

theorem quiescent_ReferenceDoutIdeal : Cert.quiescent_ReferenceDoutIdeal := by
  intro m g _
  hlo_run
  · exact fun _ => ⟨trivial, trivial⟩
  · exact sem_eq_zero_of_no_sems (by decide) _

/-- Kernel and reference compute the same array over the extended reals. -/
theorem algebraic_KernelDoutIdeal_ReferenceDoutIdeal : Cert.algebraic_KernelDoutIdeal_ReferenceDoutIdeal := by
  pair_intro
  · run_from Cert.KernelDoutIdeal.Gen.run_main m g
  · hlo_run
    exact (Cert.KernelDoutIdeal.Value.final m c).symm

end Cert.Proof

end
-- ==== Proof.ProductDown.lean ====
/- The forward product with `w_down`: what the tiled kernel leaves is the plain product of the reference. -/
module

public import proofs.«01_k».proof.Defs
public import proofs.«01_k».proof.Proof.Gen.KernelDownIdeal.Value
public import proofs.«01_k».proof.Proof.Gen.ReferenceDownIdeal
public import proofs.«01_k».proof.Proof.Gen.KernelDown.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDownIdeal.Value

open Cert.KernelDownIdeal Cert.KernelDownIdeal.Gen

variable (m : (ℓ : Loc nD τ sig) → Buf (Elt Ideal) ℓ)

/-- The product as the reference's lines compute it. -/
abbrev prod (a : FVec Ideal S16384x2816 .bf16) (b : FVec Ideal S2816x1024 .bf16) : FVec Ideal S1x16384x1024 .bf16 :=
  broadcastInDim Cert.ReferenceDownIdeal.S1x16384x1024 ![1, 2] Cert.ReferenceDownIdeal.Gen.bcast_S16384x1024_S1x16384x1024_1_2
    (truncf .bf16 (Host.dotGeneral (F := Ideal) Cert.ReferenceDownIdeal.dot_S16384x2816_S2816x1024_S16384x1024_1_0_0_1_n_n none a b) Cert.ReferenceDownIdeal.Gen.bitsLt_bf16_f32)

/-- The block of each window at grid point `t`. -/
theorem idx : ∀ t : Fin cfg0.N, win0_0.index t = ![0, t.val / 2, t.val % 2] ∧ win0_1.index t = ![0, t.val % 2, 0]
    ∧ win0_2.index t = ![0, t.val / 2, 0] :=
  (by decide +kernel : ∀ t : Fin grid0.N, _)

/-- A step adds one tile's products to the accumulator. -/
theorem step (acc : FVec Ideal S2048x1024 .f32) (x : FVec Ideal S1x2048x1408 .bf16) (w : FVec Ideal S1x1408x1024 .bf16)
    (j : S2048x1024.Idx) : k0_pay2 acc x w j = acc j + k0_pay2 (fun _ => (0 : EReal)) x w j := by
  pointwise [k0_pay2]

/-- The accumulator starts at zero. -/
theorem start (j : S2048x1024.Idx) : k0_pay1 (F := Ideal) j = 0 := by pointwise [k0_pay1]

/-- At the end of a run of 2 points the accumulator holds the sum of the tiles' products. -/
theorem acc_eq (c : Dev nD) (t : Fin cfg0.N) (h : t.val % 2 = 1) (j : S2048x1024.Idx) :
    (outsAt0 m c t.val t.isLt).2 j
      = ∑ s : Fin 2, k0_pay2 (fun _ => (0 : EReal)) (iblk m c 0 ⟨2 * (t.val / 2) + s.val, Pipeline.run_point_lt_of_flush t h s⟩)
          (iblk m c 1 ⟨2 * (t.val / 2) + s.val, Pipeline.run_point_lt_of_flush t h s⟩) j := by
  rw [Pipeline.eq_sum_fin_of_reset_step_apply_of_flush (fun n h => (outsAt0 m c n h).2) 2 (fun _ => 0)
    (fun t j => k0_pay2 (fun _ => (0 : EReal)) (iblk m c 0 t) (iblk m c 1 t) j)
    (fun t h j => by rw [outsAt0_A m c t h (by omega)]; frame_out; rw [step, start])
    (fun t h j => by
      rw [outsAt0_B m c t (by omega) (by omega)]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have e : (outsAt0 m c t.val t.isLt).1 = k0_pay3 (outsAt0 m c t.val t.isLt).2 := by
    rw [outsAt0_B m c t (by omega) hl]; frame_out
  blk_simp
  rw [after0_2, e]
  pointwise [k0_pay3, prod]
  rw [acc_eq m c t hl]
  pointwise [k0_pay2]
  refine Fin.sum_mul_add_congr fun s k hk => ?_
  blk_point [iblk, V, idx t, idx ⟨_, Pipeline.run_point_lt_of_flush t hl s⟩]

end Cert.KernelDownIdeal.Value

namespace Cert.Proof

theorem quiescent_KernelDown : Cert.quiescent_KernelDown := fun m g _ => Cert.KernelDown.Gen.frame m g

theorem quiescent_KernelDownIdeal : Cert.quiescent_KernelDownIdeal := fun m g _ => Cert.KernelDownIdeal.Gen.frame m g

theorem quiescent_ReferenceDownIdeal : Cert.quiescent_ReferenceDownIdeal := by
  intro m g _
  hlo_run
  · exact fun _ => ⟨trivial, trivial⟩
  · exact sem_eq_zero_of_no_sems (by decide) _

/-- Kernel and reference compute the same array over the extended reals. -/
theorem algebraic_KernelDownIdeal_ReferenceDownIdeal : Cert.algebraic_KernelDownIdeal_ReferenceDownIdeal := by
  pair_intro
  · run_from Cert.KernelDownIdeal.Gen.run_main m g
  · hlo_run
    exact (Cert.KernelDownIdeal.Value.final m c).symm

end Cert.Proof

end
-- ==== Proof.ProductDup.lean ====
/- The gradient of the product with `w_up` in its input: what the tiled kernel leaves is the plain product of the reference. -/
module

public import proofs.«01_k».proof.Defs
public import proofs.«01_k».proof.Proof.Gen.KernelDupIdeal.Value
public import proofs.«01_k».proof.Proof.Gen.ReferenceDupIdeal
public import proofs.«01_k».proof.Proof.Gen.KernelDup.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDupIdeal.Value

open Cert.KernelDupIdeal Cert.KernelDupIdeal.Gen

variable (m : (ℓ : Loc nD τ sig) → Buf (Elt Ideal) ℓ)

/-- The product as the reference's lines compute it. -/
abbrev prod (a : FVec Ideal S16384x5632 .bf16) (b : FVec Ideal S1024x5632 .bf16) : FVec Ideal S1x16384x1024 .bf16 :=
  broadcastInDim Cert.ReferenceDupIdeal.S1x16384x1024 ![1, 2] Cert.ReferenceDupIdeal.Gen.bcast_S16384x1024_S1x16384x1024_1_2
    (truncf .bf16 (Host.dotGeneral (F := Ideal) Cert.ReferenceDupIdeal.dot_S16384x5632_S1024x5632_S16384x1024_1_1_0_0_n_n none
      (extf .f32 a Cert.ReferenceDupIdeal.Gen.bitsLt_bf16_f32) b) Cert.ReferenceDupIdeal.Gen.bitsLt_bf16_f32)

/-- The block of each window at grid point `t`. -/
theorem idx : ∀ t : Fin cfg0.N, win0_0.index t = ![0, t.val / 4, t.val % 4] ∧ win0_1.index t = ![0, 0, t.val % 4]
    ∧ win0_2.index t = ![0, t.val / 4, 0] :=
  (by decide +kernel : ∀ t : Fin grid0.N, _)

/-- A step adds one tile's products to the accumulator. -/
theorem step (acc : FVec Ideal S2048x1024 .f32) (x : FVec Ideal S1x2048x1408 .bf16) (w : FVec Ideal S1x1024x1408 .bf16)
    (j : S2048x1024.Idx) : k0_pay2 acc x w j = acc j + k0_pay2 (fun _ => (0 : EReal)) x w j := by
  pointwise [k0_pay2]

/-- The accumulator starts at zero. -/
theorem start (j : S2048x1024.Idx) : k0_pay1 (F := Ideal) j = 0 := by pointwise [k0_pay1]

/-- At the end of a run of 4 points the accumulator holds the sum of the tiles' products. -/
theorem acc_eq (c : Dev nD) (t : Fin cfg0.N) (h : t.val % 4 = 3) (j : S2048x1024.Idx) :
    (outsAt0 m c t.val t.isLt).2 j
      = ∑ s : Fin 4, k0_pay2 (fun _ => (0 : EReal)) (iblk m c 0 ⟨4 * (t.val / 4) + s.val, Pipeline.run_point_lt_of_flush t h s⟩)
          (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 4 = 3
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  blk_point [iblk, V, idx t, idx ⟨_, Pipeline.run_point_lt_of_flush t hl s⟩]

end Cert.KernelDupIdeal.Value

namespace Cert.Proof

theorem quiescent_KernelDup : Cert.quiescent_KernelDup := fun m g _ => Cert.KernelDup.Gen.frame m g

theorem quiescent_KernelDupIdeal : Cert.quiescent_KernelDupIdeal := fun m g _ => Cert.KernelDupIdeal.Gen.frame m g

theorem quiescent_ReferenceDupIdeal : Cert.quiescent_ReferenceDupIdeal := by
  intro m g _
  hlo_run
  · exact fun _ => ⟨trivial, trivial⟩
  · exact sem_eq_zero_of_no_sems (by decide) _

/-- Kernel and reference compute the same array over the extended reals. -/
theorem algebraic_KernelDupIdeal_ReferenceDupIdeal : Cert.algebraic_KernelDupIdeal_ReferenceDupIdeal := by
  pair_intro
  · run_from Cert.KernelDupIdeal.Gen.run_main m g
  · hlo_run
    exact (Cert.KernelDupIdeal.Value.final m c).symm

end Cert.Proof

end
-- ==== Proof.ProductMbranch.lean ====
/- The gradient of the two branches' weights: what the tiled kernel leaves is the plain product of the reference. -/
module

public import proofs.«01_k».proof.Defs
public import proofs.«01_k».proof.Proof.Gen.KernelMbranchIdeal.Value
public import proofs.«01_k».proof.Proof.Gen.ReferenceMbranchIdeal
public import proofs.«01_k».proof.Proof.Gen.KernelMbranch.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMbranchIdeal.Value

open Cert.KernelMbranchIdeal Cert.KernelMbranchIdeal.Gen

variable (m : (ℓ : Loc nD τ sig) → Buf (Elt Ideal) ℓ)

/-- The product as the reference's lines compute it. -/
abbrev prod (a : FVec Ideal S2x16384x1024 .bf16) (b : FVec Ideal S2x16384x1024 .bf16) : FVec Ideal S2x1024x1024 .bf16 :=
  truncf .bf16 (transpose Cert.ReferenceMbranchIdeal.S2x1024x1024 [0, 2, 1] (Host.dotGeneral (F := Ideal) Cert.ReferenceMbranchIdeal.dot_S2x16384x1024_S2x16384x1024_S2x1024x1024_1_1_2_2_0_0 none
      (extf .f32 b Cert.ReferenceMbranchIdeal.Gen.bitsLt_bf16_f32) a) Cert.ReferenceMbranchIdeal.Gen.transposes_S2x1024x1024_S2x1024x1024_0_2_1) Cert.ReferenceMbranchIdeal.Gen.bitsLt_bf16_f32

/-- The block of each window at grid point `t`. -/
theorem idx : ∀ t : Fin cfg0.N, win0_0.index t = ![t.val / 8, t.val % 8, 0] ∧ win0_1.index t = ![t.val / 8, t.val % 8, 0]
    ∧ win0_2.index t = ![t.val / 8, 0, 0] :=
  (by decide +kernel : ∀ t : Fin grid0.N, _)

/-- A step adds one tile's products to the accumulator. -/
theorem step (acc : FVec Ideal S1024x1024 .f32) (x : FVec Ideal S1x2048x1024 .bf16) (w : FVec Ideal S1x2048x1024 .bf16)
    (j : S1024x1024.Idx) : k0_pay2 acc x w j = acc j + k0_pay2 (fun _ => (0 : EReal)) x w j := by
  pointwise [k0_pay2]

/-- The accumulator starts at zero. -/
theorem start (j : S1024x1024.Idx) : k0_pay1 (F := Ideal) j = 0 := by pointwise [k0_pay1]

/-- At the end of a run of 8 points the accumulator holds the sum of the tiles' products. -/
theorem acc_eq (c : Dev nD) (t : Fin cfg0.N) (h : t.val % 8 = 7) (j : S1024x1024.Idx) :
    (outsAt0 m c t.val t.isLt).2 j
      = ∑ s : Fin 8, k0_pay2 (fun _ => (0 : EReal)) (iblk m c 0 ⟨8 * (t.val / 8) + s.val, Pipeline.run_point_lt_of_flush t h s⟩)
          (iblk m c 1 ⟨8 * (t.val / 8) + s.val, Pipeline.run_point_lt_of_flush t h s⟩) j := by
  rw [Pipeline.eq_sum_fin_of_reset_step_apply_of_flush (fun n h => (outsAt0 m c n h).2) 8 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 8 = 7
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMbranchIdeal.Value

namespace Cert.Proof

theorem quiescent_KernelMbranch : Cert.quiescent_KernelMbranch := fun m g _ => Cert.KernelMbranch.Gen.frame m g

theorem quiescent_KernelMbranchIdeal : Cert.quiescent_KernelMbranchIdeal := fun m g _ => Cert.KernelMbranchIdeal.Gen.frame m g

theorem quiescent_ReferenceMbranchIdeal : Cert.quiescent_ReferenceMbranchIdeal := by
  intro m g _
  hlo_run
  · exact fun _ => ⟨trivial, trivial⟩
  · exact sem_eq_zero_of_no_sems (by decide) _

/-- Kernel and reference compute the same array over the extended reals. -/
theorem algebraic_KernelMbranchIdeal_ReferenceMbranchIdeal : Cert.algebraic_KernelMbranchIdeal_ReferenceMbranchIdeal := by
  pair_intro
  · run_from Cert.KernelMbranchIdeal.Gen.run_main m g
  · hlo_run
    exact (Cert.KernelMbranchIdeal.Value.final m c).symm

end Cert.Proof

end
-- ==== Proof.ProductMdown.lean ====
/- The gradient of `w_down`: what the tiled kernel leaves is the plain product of the reference. -/
module

public import proofs.«01_k».proof.Defs
public import proofs.«01_k».proof.Proof.Gen.KernelMdownIdeal.Value
public import proofs.«01_k».proof.Proof.Gen.ReferenceMdownIdeal
public import proofs.«01_k».proof.Proof.Gen.KernelMdown.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMdownIdeal.Value

open Cert.KernelMdownIdeal Cert.KernelMdownIdeal.Gen

variable (m : (ℓ : Loc nD τ sig) → Buf (Elt Ideal) ℓ)

/-- The product as the reference's lines compute it. -/
abbrev prod (a : FVec Ideal S16384x2816 .bf16) (b : FVec Ideal S16384x1024 .bf16) : FVec Ideal S1x2816x1024 .bf16 :=
  broadcastInDim Cert.ReferenceMdownIdeal.S1x2816x1024 ![1, 2] Cert.ReferenceMdownIdeal.Gen.bcast_S2816x1024_S1x2816x1024_1_2
    (truncf .bf16 (transpose Cert.ReferenceMdownIdeal.S2816x1024 [1, 0] (Host.dotGeneral (F := Ideal) Cert.ReferenceMdownIdeal.dot_S16384x1024_S16384x2816_S1024x2816_0_0_1_1_n_n none
      (extf .f32 b Cert.ReferenceMdownIdeal.Gen.bitsLt_bf16_f32) a) Cert.ReferenceMdownIdeal.Gen.transposes_S1024x2816_S2816x1024_1_0) Cert.ReferenceMdownIdeal.Gen.bitsLt_bf16_f32)

/-- The block of each window at grid point `t`. -/
theorem idx : ∀ t : Fin cfg0.N, win0_0.index t = ![0, t.val % 8, t.val / 8] ∧ win0_1.index t = ![0, t.val % 8, 0]
    ∧ win0_2.index t = ![0, t.val / 8, 0] :=
  (by decide +kernel : ∀ t : Fin grid0.N, _)

/-- A step adds one tile's products to the accumulator. -/
theorem step (acc : FVec Ideal S1408x1024 .f32) (x : FVec Ideal S1x2048x1408 .bf16) (w : FVec Ideal S1x2048x1024 .bf16)
    (j : S1408x1024.Idx) : k0_pay2 acc x w j = acc j + k0_pay2 (fun _ => (0 : EReal)) x w j := by
  pointwise [k0_pay2]

/-- The accumulator starts at zero. -/
theorem start (j : S1408x1024.Idx) : k0_pay1 (F := Ideal) j = 0 := by pointwise [k0_pay1]

/-- At the end of a run of 8 points the accumulator holds the sum of the tiles' products. -/
theorem acc_eq (c : Dev nD) (t : Fin cfg0.N) (h : t.val % 8 = 7) (j : S1408x1024.Idx) :
    (outsAt0 m c t.val t.isLt).2 j
      = ∑ s : Fin 8, k0_pay2 (fun _ => (0 : EReal)) (iblk m c 0 ⟨8 * (t.val / 8) + s.val, Pipeline.run_point_lt_of_flush t h s⟩)
          (iblk m c 1 ⟨8 * (t.val / 8) + s.val, Pipeline.run_point_lt_of_flush t h s⟩) j := by
  rw [Pipeline.eq_sum_fin_of_reset_step_apply_of_flush (fun n h => (outsAt0 m c n h).2) 8 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 8 = 7
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMdownIdeal.Value

namespace Cert.Proof

theorem quiescent_KernelMdown : Cert.quiescent_KernelMdown := fun m g _ => Cert.KernelMdown.Gen.frame m g

theorem quiescent_KernelMdownIdeal : Cert.quiescent_KernelMdownIdeal := fun m g _ => Cert.KernelMdownIdeal.Gen.frame m g

theorem quiescent_ReferenceMdownIdeal : Cert.quiescent_ReferenceMdownIdeal := by
  intro m g _
  hlo_run
  · exact fun _ => ⟨trivial, trivial⟩
  · exact sem_eq_zero_of_no_sems (by decide) _

/-- Kernel and reference compute the same array over the extended reals. -/
theorem algebraic_KernelMdownIdeal_ReferenceMdownIdeal : Cert.algebraic_KernelMdownIdeal_ReferenceMdownIdeal := by
  pair_intro
  · run_from Cert.KernelMdownIdeal.Gen.run_main m g
  · hlo_run
    exact (Cert.KernelMdownIdeal.Value.final m c).symm

end Cert.Proof

end
-- ==== Proof.ProductMg.lean ====
/- The gradient of the gate columns of `w_in`: what the tiled kernel leaves is the plain product of the reference. -/
module

public import proofs.«01_k».proof.Defs
public import proofs.«01_k».proof.Proof.Gen.KernelMgIdeal.Value
public import proofs.«01_k».proof.Proof.Gen.ReferenceMgIdeal
public import proofs.«01_k».proof.Proof.Gen.KernelMg.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMgIdeal.Value

open Cert.KernelMgIdeal Cert.KernelMgIdeal.Gen

variable (m : (ℓ : Loc nD τ sig) → Buf (Elt Ideal) ℓ)

/-- The product as the reference's lines compute it. -/
abbrev prod (a : FVec Ideal S16640x1024 .bf16) (b : FVec Ideal S16640x128 .bf16) : FVec Ideal S1x1024x128 .bf16 :=
  broadcastInDim Cert.ReferenceMgIdeal.S1x1024x128 ![1, 2] Cert.ReferenceMgIdeal.Gen.bcast_S1024x128_S1x1024x128_1_2
    (truncf .bf16 (transpose Cert.ReferenceMgIdeal.S1024x128 [1, 0] (Host.dotGeneral (F := Ideal) Cert.ReferenceMgIdeal.dot_S16640x128_S16640x1024_S128x1024_0_0_1_1_n_n none
      (extf .f32 b Cert.ReferenceMgIdeal.Gen.bitsLt_bf16_f32) a) Cert.ReferenceMgIdeal.Gen.transposes_S128x1024_S1024x128_1_0) Cert.ReferenceMgIdeal.Gen.bitsLt_bf16_f32)

/-- The block of each window at grid point `t`. -/
theorem idx : ∀ t : Fin cfg0.N, win0_0.index t = ![0, t.val, 0] ∧ win0_1.index t = ![0, t.val, 0]
    ∧ win0_2.index t = ![0, 0, 0] :=
  (by decide +kernel : ∀ t : Fin grid0.N, _)

/-- A step adds one tile's products to the accumulator. -/
theorem step (acc : FVec Ideal S1024x128 .f32) (x : FVec Ideal S1x1280x1024 .bf16) (w : FVec Ideal S1x1280x128 .bf16)
    (j : S1024x128.Idx) : k0_pay2 acc x w j = acc j + k0_pay2 (fun _ => (0 : EReal)) x w j := by
  pointwise [k0_pay2]

/-- The accumulator starts at zero. -/
theorem start (j : S1024x128.Idx) : k0_pay1 (F := Ideal) j = 0 := by pointwise [k0_pay1]

/-- At the end of a run of 13 points the accumulator holds the sum of the tiles' products. -/
theorem acc_eq (c : Dev nD) (t : Fin cfg0.N) (h : t.val % 13 = 12) (j : S1024x128.Idx) :
    (outsAt0 m c t.val t.isLt).2 j
      = ∑ s : Fin 13, k0_pay2 (fun _ => (0 : EReal)) (iblk m c 0 ⟨13 * (t.val / 13) + s.val, Pipeline.run_point_lt_of_flush t h s⟩)
          (iblk m c 1 ⟨13 * (t.val / 13) + s.val, Pipeline.run_point_lt_of_flush t h s⟩) j := by
  rw [Pipeline.eq_sum_fin_of_reset_step_apply_of_flush (fun n h => (outsAt0 m c n h).2) 13 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 13 = 12
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 13 = 12 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMgIdeal.Value

namespace Cert.Proof

theorem quiescent_KernelMg : Cert.quiescent_KernelMg := fun m g _ => Cert.KernelMg.Gen.frame m g

theorem quiescent_KernelMgIdeal : Cert.quiescent_KernelMgIdeal := fun m g _ => Cert.KernelMgIdeal.Gen.frame m g

theorem quiescent_ReferenceMgIdeal : Cert.quiescent_ReferenceMgIdeal := by
  intro m g _
  hlo_run
  · exact fun _ => ⟨trivial, trivial⟩
  · exact sem_eq_zero_of_no_sems (by decide) _

/-- Kernel and reference compute the same array over the extended reals. -/
theorem algebraic_KernelMgIdeal_ReferenceMgIdeal : Cert.algebraic_KernelMgIdeal_ReferenceMgIdeal := by
  pair_intro
  · run_from Cert.KernelMgIdeal.Gen.run_main m g
  · hlo_run
    exact (Cert.KernelMgIdeal.Value.final m c).symm

end Cert.Proof

end
-- ==== Proof.ProductMmain.lean ====
/- The gradient of the main columns of `w_in`: what the tiled kernel leaves is the plain product of the reference. -/
module

public import proofs.«01_k».proof.Defs
public import proofs.«01_k».proof.Proof.Gen.KernelMmainIdeal.Value
public import proofs.«01_k».proof.Proof.Gen.ReferenceMmainIdeal
public import proofs.«01_k».proof.Proof.Gen.KernelMmain.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMmainIdeal.Value

open Cert.KernelMmainIdeal Cert.KernelMmainIdeal.Gen

variable (m : (ℓ : Loc nD τ sig) → Buf (Elt Ideal) ℓ)

/-- The product as the reference's lines compute it. -/
abbrev prod (a : FVec Ideal S16640x1024 .bf16) (b : FVec Ideal S16640x8192 .bf16) : FVec Ideal S1x1024x8192 .bf16 :=
  broadcastInDim Cert.ReferenceMmainIdeal.S1x1024x8192 ![1, 2] Cert.ReferenceMmainIdeal.Gen.bcast_S1024x8192_S1x1024x8192_1_2
    (truncf .bf16 (transpose Cert.ReferenceMmainIdeal.S1024x8192 [1, 0] (Host.dotGeneral (F := Ideal) Cert.ReferenceMmainIdeal.dot_S16640x8192_S16640x1024_S8192x1024_0_0_1_1_n_n none
      (extf .f32 b Cert.ReferenceMmainIdeal.Gen.bitsLt_bf16_f32) a) Cert.ReferenceMmainIdeal.Gen.transposes_S8192x1024_S1024x8192_1_0) Cert.ReferenceMmainIdeal.Gen.bitsLt_bf16_f32)

/-- The block of each window at grid point `t`. -/
theorem idx : ∀ t : Fin cfg0.N, win0_0.index t = ![0, t.val % 13, 0] ∧ win0_1.index t = ![0, t.val % 13, t.val / 13]
    ∧ win0_2.index t = ![0, 0, t.val / 13] :=
  (by decide +kernel : ∀ t : Fin grid0.N, _)

/-- A step adds one tile's products to the accumulator. -/
theorem step (acc : FVec Ideal S1024x2048 .f32) (x : FVec Ideal S1x1280x1024 .bf16) (w : FVec Ideal S1x1280x2048 .bf16)
    (j : S1024x2048.Idx) : k0_pay2 acc x w j = acc j + k0_pay2 (fun _ => (0 : EReal)) x w j := by
  pointwise [k0_pay2]

/-- The accumulator starts at zero. -/
theorem start (j : S1024x2048.Idx) : k0_pay1 (F := Ideal) j = 0 := by pointwise [k0_pay1]

/-- At the end of a run of 13 points the accumulator holds the sum of the tiles' products. -/
theorem acc_eq (c : Dev nD) (t : Fin cfg0.N) (h : t.val % 13 = 12) (j : S1024x2048.Idx) :
    (outsAt0 m c t.val t.isLt).2 j
      = ∑ s : Fin 13, k0_pay2 (fun _ => (0 : EReal)) (iblk m c 0 ⟨13 * (t.val / 13) + s.val, Pipeline.run_point_lt_of_flush t h s⟩)
          (iblk m c 1 ⟨13 * (t.val / 13) + s.val, Pipeline.run_point_lt_of_flush t h s⟩) j := by
  rw [Pipeline.eq_sum_fin_of_reset_step_apply_of_flush (fun n h => (outsAt0 m c n h).2) 13 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 13 = 12
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 13 = 12 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMmainIdeal.Value

namespace Cert.Proof

theorem quiescent_KernelMmain : Cert.quiescent_KernelMmain := fun m g _ => Cert.KernelMmain.Gen.frame m g

theorem quiescent_KernelMmainIdeal : Cert.quiescent_KernelMmainIdeal := fun m g _ => Cert.KernelMmainIdeal.Gen.frame m g

theorem quiescent_ReferenceMmainIdeal : Cert.quiescent_ReferenceMmainIdeal := by
  intro m g _
  hlo_run
  · exact fun _ => ⟨trivial, trivial⟩
  · exact sem_eq_zero_of_no_sems (by decide) _

/-- Kernel and reference compute the same array over the extended reals. -/
theorem algebraic_KernelMmainIdeal_ReferenceMmainIdeal : Cert.algebraic_KernelMmainIdeal_ReferenceMmainIdeal := by
  pair_intro
  · run_from Cert.KernelMmainIdeal.Gen.run_main m g
  · hlo_run
    exact (Cert.KernelMmainIdeal.Value.final m c).symm

end Cert.Proof

end
-- ==== Proof.ProductMout.lean ====
/- The gradient of `w_out`: what the tiled kernel leaves is the plain product of the reference. -/
module

public import proofs.«01_k».proof.Defs
public import proofs.«01_k».proof.Proof.Gen.KernelMoutIdeal.Value
public import proofs.«01_k».proof.Proof.Gen.ReferenceMoutIdeal
public import proofs.«01_k».proof.Proof.Gen.KernelMout.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMoutIdeal.Value

open Cert.KernelMoutIdeal Cert.KernelMoutIdeal.Gen

variable (m : (ℓ : Loc nD τ sig) → Buf (Elt Ideal) ℓ)

/-- The product as the reference's lines compute it. -/
abbrev prod (a : FVec Ideal S16384x1024 .bf16) (b : FVec Ideal S16384x1024 .bf16) : FVec Ideal S1x1024x1024 .bf16 :=
  broadcastInDim Cert.ReferenceMoutIdeal.S1x1024x1024 ![1, 2] Cert.ReferenceMoutIdeal.Gen.bcast_S1024x1024_S1x1024x1024_1_2
    (truncf .bf16 (transpose Cert.ReferenceMoutIdeal.S1024x1024 [1, 0] (Host.dotGeneral (F := Ideal) Cert.ReferenceMoutIdeal.dot_S16384x1024_S16384x1024_S1024x1024_0_0_1_1_n_n none
      (extf .f32 b Cert.ReferenceMoutIdeal.Gen.bitsLt_bf16_f32) a) Cert.ReferenceMoutIdeal.Gen.transposes_S1024x1024_S1024x1024_1_0) Cert.ReferenceMoutIdeal.Gen.bitsLt_bf16_f32)

/-- The block of each window at grid point `t`. -/
theorem idx : ∀ t : Fin cfg0.N, win0_0.index t = ![0, t.val, 0] ∧ win0_1.index t = ![0, t.val, 0]
    ∧ win0_2.index t = ![0, 0, 0] :=
  (by decide +kernel : ∀ t : Fin grid0.N, _)

/-- A step adds one tile's products to the accumulator. -/
theorem step (acc : FVec Ideal S1024x1024 .f32) (x : FVec Ideal S1x2048x1024 .bf16) (w : FVec Ideal S1x2048x1024 .bf16)
    (j : S1024x1024.Idx) : k0_pay2 acc x w j = acc j + k0_pay2 (fun _ => (0 : EReal)) x w j := by
  pointwise [k0_pay2]

/-- The accumulator starts at zero. -/
theorem start (j : S1024x1024.Idx) : k0_pay1 (F := Ideal) j = 0 := by pointwise [k0_pay1]

/-- At the end of a run of 8 points the accumulator holds the sum of the tiles' products. -/
theorem acc_eq (c : Dev nD) (t : Fin cfg0.N) (h : t.val % 8 = 7) (j : S1024x1024.Idx) :
    (outsAt0 m c t.val t.isLt).2 j
      = ∑ s : Fin 8, k0_pay2 (fun _ => (0 : EReal)) (iblk m c 0 ⟨8 * (t.val / 8) + s.val, Pipeline.run_point_lt_of_flush t h s⟩)
          (iblk m c 1 ⟨8 * (t.val / 8) + s.val, Pipeline.run_point_lt_of_flush t h s⟩) j := by
  rw [Pipeline.eq_sum_fin_of_reset_step_apply_of_flush (fun n h => (outsAt0 m c n h).2) 8 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 8 = 7
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMoutIdeal.Value

namespace Cert.Proof

theorem quiescent_KernelMout : Cert.quiescent_KernelMout := fun m g _ => Cert.KernelMout.Gen.frame m g

theorem quiescent_KernelMoutIdeal : Cert.quiescent_KernelMoutIdeal := fun m g _ => Cert.KernelMoutIdeal.Gen.frame m g

theorem quiescent_ReferenceMoutIdeal : Cert.quiescent_ReferenceMoutIdeal := by
  intro m g _
  hlo_run
  · exact fun _ => ⟨trivial, trivial⟩
  · exact sem_eq_zero_of_no_sems (by decide) _

/-- Kernel and reference compute the same array over the extended reals. -/
theorem algebraic_KernelMoutIdeal_ReferenceMoutIdeal : Cert.algebraic_KernelMoutIdeal_ReferenceMoutIdeal := by
  pair_intro
  · run_from Cert.KernelMoutIdeal.Gen.run_main m g
  · hlo_run
    exact (Cert.KernelMoutIdeal.Value.final m c).symm

end Cert.Proof

end
-- ==== Proof.ProductMup.lean ====
/- The gradient of `w_up`: what the tiled kernel leaves is the plain product of the reference. -/
module

public import proofs.«01_k».proof.Defs
public import proofs.«01_k».proof.Proof.Gen.KernelMupIdeal.Value
public import proofs.«01_k».proof.Proof.Gen.ReferenceMupIdeal
public import proofs.«01_k».proof.Proof.Gen.KernelMup.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMupIdeal.Value

open Cert.KernelMupIdeal Cert.KernelMupIdeal.Gen

variable (m : (ℓ : Loc nD τ sig) → Buf (Elt Ideal) ℓ)

/-- The product as the reference's lines compute it. -/
abbrev prod (a : FVec Ideal S16384x1024 .bf16) (b : FVec Ideal S16384x5632 .bf16) : FVec Ideal S1x1024x5632 .bf16 :=
  broadcastInDim Cert.ReferenceMupIdeal.S1x1024x5632 ![1, 2] Cert.ReferenceMupIdeal.Gen.bcast_S1024x5632_S1x1024x5632_1_2
    (truncf .bf16 (transpose Cert.ReferenceMupIdeal.S1024x5632 [1, 0] (Host.dotGeneral (F := Ideal) Cert.ReferenceMupIdeal.dot_S16384x5632_S16384x1024_S5632x1024_0_0_1_1_n_n none
      (extf .f32 b Cert.ReferenceMupIdeal.Gen.bitsLt_bf16_f32) a) Cert.ReferenceMupIdeal.Gen.transposes_S5632x1024_S1024x5632_1_0) Cert.ReferenceMupIdeal.Gen.bitsLt_bf16_f32)

/-- The block of each window at grid point `t`. -/
theorem idx : ∀ t : Fin cfg0.N, win0_0.index t = ![0, t.val % 8, 0] ∧ win0_1.index t = ![0, t.val % 8, t.val / 8]
    ∧ win0_2.index t = ![0, 0, t.val / 8] :=
  (by decide +kernel : ∀ t : Fin grid0.N, _)

/-- A step adds one tile's products to the accumulator. -/
theorem step (acc : FVec Ideal S1024x1408 .f32) (x : FVec Ideal S1x2048x1024 .bf16) (w : FVec Ideal S1x2048x1408 .bf16)
    (j : S1024x1408.Idx) : k0_pay2 acc x w j = acc j + k0_pay2 (fun _ => (0 : EReal)) x w j := by
  pointwise [k0_pay2]

/-- The accumulator starts at zero. -/
theorem start (j : S1024x1408.Idx) : k0_pay1 (F := Ideal) j = 0 := by pointwise [k0_pay1]

/-- At the end of a run of 8 points the accumulator holds the sum of the tiles' products. -/
theorem acc_eq (c : Dev nD) (t : Fin cfg0.N) (h : t.val % 8 = 7) (j : S1024x1408.Idx) :
    (outsAt0 m c t.val t.isLt).2 j
      = ∑ s : Fin 8, k0_pay2 (fun _ => (0 : EReal)) (iblk m c 0 ⟨8 * (t.val / 8) + s.val, Pipeline.run_point_lt_of_flush t h s⟩)
          (iblk m c 1 ⟨8 * (t.val / 8) + s.val, Pipeline.run_point_lt_of_flush t h s⟩) j := by
  rw [Pipeline.eq_sum_fin_of_reset_step_apply_of_flush (fun n h => (outsAt0 m c n h).2) 8 (fun _ => 0)
    (fun t j => k0_pay2 (fun _ => (0 : EReal)) (iblk m c 0 t) (iblk m c 1 t) j)
    (fun t h j => by rw [outsAt0_A m c t h (by omega)]; frame_out; rw [step, start])
    (fun t h j => by
      by_cases hl : t.val % 8 = 7
      · rw [outsAt0_C m c t h hl]; frame_out; rw [step, read_unread_whole]
      · rw [outsAt0_B m c t h hl]; frame_out; rw [step, read_unread_whole])
    t h j, zero_add]

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  have e : (outsAt0 m c t.val t.isLt).1 = k0_pay3 (outsAt0 m c t.val t.isLt).2 := by
    rw [outsAt0_C m c t (by omega) hl]; frame_out
  blk_simp
  rw [after0_2, e]
  pointwise [k0_pay3, prod]
  rw [acc_eq m c t hl]
  pointwise [k0_pay2]
  refine Fin.sum_mul_add_congr fun s k hk => ?_
  refine (mul_comm (_ : EReal) _).trans ?_
  blk_point [iblk, V, idx t, idx ⟨_, Pipeline.run_point_lt_of_flush t hl s⟩]

end Cert.KernelMupIdeal.Value

namespace Cert.Proof

theorem quiescent_KernelMup : Cert.quiescent_KernelMup := fun m g _ => Cert.KernelMup.Gen.frame m g

theorem quiescent_KernelMupIdeal : Cert.quiescent_KernelMupIdeal := fun m g _ => Cert.KernelMupIdeal.Gen.frame m g

theorem quiescent_ReferenceMupIdeal : Cert.quiescent_ReferenceMupIdeal := by
  intro m g _
  hlo_run
  · exact fun _ => ⟨trivial, trivial⟩
  · exact sem_eq_zero_of_no_sems (by decide) _

/-- Kernel and reference compute the same array over the extended reals. -/
theorem algebraic_KernelMupIdeal_ReferenceMupIdeal : Cert.algebraic_KernelMupIdeal_ReferenceMupIdeal := by
  pair_intro
  · run_from Cert.KernelMupIdeal.Gen.run_main m g
  · hlo_run
    exact (Cert.KernelMupIdeal.Value.final m c).symm

end Cert.Proof

end
-- ==== Proof.ProductOut.lean ====
/- The forward product with `w_out`: what the tiled kernel leaves is the plain product of the reference. -/
module

public import proofs.«01_k».proof.Defs
public import proofs.«01_k».proof.Proof.Gen.KernelOutIdeal.Value
public import proofs.«01_k».proof.Proof.Gen.ReferenceOutIdeal
public import proofs.«01_k».proof.Proof.Gen.KernelOut.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutIdeal.Value

open Cert.KernelOutIdeal Cert.KernelOutIdeal.Gen

variable (m : (ℓ : Loc nD τ sig) → Buf (Elt Ideal) ℓ)

/-- The product as the reference's lines compute it. -/
abbrev prod (a : FVec Ideal S16384x1024 .bf16) (b : FVec Ideal S1024x1024 .bf16) : FVec Ideal S1x16384x1024 .bf16 :=
  broadcastInDim Cert.ReferenceOutIdeal.S1x16384x1024 ![1, 2] Cert.ReferenceOutIdeal.Gen.bcast_S16384x1024_S1x16384x1024_1_2
    (truncf .bf16 (Host.dotGeneral (F := Ideal) Cert.ReferenceOutIdeal.dot_S16384x1024_S1024x1024_S16384x1024_1_0_0_1_n_n none a b) Cert.ReferenceOutIdeal.Gen.bitsLt_bf16_f32)

/-- The block of each window at grid point `t`. -/
theorem idx : ∀ t : Fin cfg0.N, win0_0.index t = ![0, t.val, 0] ∧ win0_1.index t = ![0, 0, 0]
    ∧ win0_2.index t = ![0, t.val, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelOutIdeal.Value

namespace Cert.Proof

theorem quiescent_KernelOut : Cert.quiescent_KernelOut := fun m g _ => Cert.KernelOut.Gen.frame m g

theorem quiescent_KernelOutIdeal : Cert.quiescent_KernelOutIdeal := fun m g _ => Cert.KernelOutIdeal.Gen.frame m g

theorem quiescent_ReferenceOutIdeal : Cert.quiescent_ReferenceOutIdeal := by
  intro m g _
  hlo_run
  · exact fun _ => ⟨trivial, trivial⟩
  · exact sem_eq_zero_of_no_sems (by decide) _

/-- Kernel and reference compute the same array over the extended reals. -/
theorem algebraic_KernelOutIdeal_ReferenceOutIdeal : Cert.algebraic_KernelOutIdeal_ReferenceOutIdeal := by
  pair_intro
  · run_from Cert.KernelOutIdeal.Gen.run_main m g
  · hlo_run
    exact (Cert.KernelOutIdeal.Value.final m c).symm

end Cert.Proof

end
-- ==== Proof.ProductUp.lean ====
/- The forward product with `w_up`: what the tiled kernel leaves is the plain product of the reference. -/
module

public import proofs.«01_k».proof.Defs
public import proofs.«01_k».proof.Proof.Gen.KernelUpIdeal.Value
public import proofs.«01_k».proof.Proof.Gen.ReferenceUpIdeal
public import proofs.«01_k».proof.Proof.Gen.KernelUp.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelUpIdeal.Value

open Cert.KernelUpIdeal Cert.KernelUpIdeal.Gen

variable (m : (ℓ : Loc nD τ sig) → Buf (Elt Ideal) ℓ)

/-- The product as the reference's lines compute it. -/
abbrev prod (a : FVec Ideal S16384x1024 .bf16) (b : FVec Ideal S1024x5632 .bf16) : FVec Ideal S1x16384x5632 .bf16 :=
  broadcastInDim Cert.ReferenceUpIdeal.S1x16384x5632 ![1, 2] Cert.ReferenceUpIdeal.Gen.bcast_S16384x5632_S1x16384x5632_1_2
    (truncf .bf16 (Host.dotGeneral (F := Ideal) Cert.ReferenceUpIdeal.dot_S16384x1024_S1024x5632_S16384x5632_1_0_0_1_n_n none a b) Cert.ReferenceUpIdeal.Gen.bitsLt_bf16_f32)

/-- The block of each window at grid point `t`. -/
theorem idx : ∀ t : Fin cfg0.N, win0_0.index t = ![0, t.val % 8, 0] ∧ win0_1.index t = ![0, 0, t.val / 8]
    ∧ win0_2.index t = ![0, t.val % 8, t.val / 8] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelUpIdeal.Value

namespace Cert.Proof

theorem quiescent_KernelUp : Cert.quiescent_KernelUp := fun m g _ => Cert.KernelUp.Gen.frame m g

theorem quiescent_KernelUpIdeal : Cert.quiescent_KernelUpIdeal := fun m g _ => Cert.KernelUpIdeal.Gen.frame m g

theorem quiescent_ReferenceUpIdeal : Cert.quiescent_ReferenceUpIdeal := by
  intro m g _
  hlo_run
  · exact fun _ => ⟨trivial, trivial⟩
  · exact sem_eq_zero_of_no_sems (by decide) _

/-- Kernel and reference compute the same array over the extended reals. -/
theorem algebraic_KernelUpIdeal_ReferenceUpIdeal : Cert.algebraic_KernelUpIdeal_ReferenceUpIdeal := by
  pair_intro
  · run_from Cert.KernelUpIdeal.Gen.run_main m g
  · hlo_run
    exact (Cert.KernelUpIdeal.Value.final m c).symm

end Cert.Proof

end
-- ==== Proof.ProductZg.lean ====
/- The forward product of the normed sequence with the gate columns of `w_in`: what the tiled kernel leaves is the plain product of the reference. -/
module

public import proofs.«01_k».proof.Defs
public import proofs.«01_k».proof.Proof.Gen.KernelZgIdeal.Value
public import proofs.«01_k».proof.Proof.Gen.ReferenceZgIdeal
public import proofs.«01_k».proof.Proof.Gen.KernelZg.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelZgIdeal.Value

open Cert.KernelZgIdeal Cert.KernelZgIdeal.Gen

variable (m : (ℓ : Loc nD τ sig) → Buf (Elt Ideal) ℓ)

/-- The product as the reference's lines compute it. -/
abbrev prod (a : FVec Ideal S16640x1024 .bf16) (b : FVec Ideal S1024x128 .bf16) : FVec Ideal S1x16640x128 .f32 :=
  broadcastInDim Cert.ReferenceZgIdeal.S1x16640x128 ![1, 2] Cert.ReferenceZgIdeal.Gen.bcast_S16640x128_S1x16640x128_1_2
    (extf .f32 (truncf .bf16 (Host.dotGeneral (F := Ideal) Cert.ReferenceZgIdeal.dot_S16640x1024_S1024x128_S16640x128_1_0_0_1_n_n none a b) Cert.ReferenceZgIdeal.Gen.bitsLt_bf16_f32) Cert.ReferenceZgIdeal.Gen.bitsLt_bf16_f32)

/-- The block of each window at grid point `t`. -/
theorem idx : ∀ t : Fin cfg0.N, win0_0.index t = ![0, t.val, 0] ∧ win0_1.index t = ![0, 0, 0]
    ∧ win0_2.index t = ![0, t.val, 0] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelZgIdeal.Value

namespace Cert.Proof

theorem quiescent_KernelZg : Cert.quiescent_KernelZg := fun m g _ => Cert.KernelZg.Gen.frame m g

theorem quiescent_KernelZgIdeal : Cert.quiescent_KernelZgIdeal := fun m g _ => Cert.KernelZgIdeal.Gen.frame m g

theorem quiescent_ReferenceZgIdeal : Cert.quiescent_ReferenceZgIdeal := by
  intro m g _
  hlo_run
  · exact fun _ => ⟨trivial, trivial⟩
  · exact sem_eq_zero_of_no_sems (by decide) _

/-- Kernel and reference compute the same array over the extended reals. -/
theorem algebraic_KernelZgIdeal_ReferenceZgIdeal : Cert.algebraic_KernelZgIdeal_ReferenceZgIdeal := by
  pair_intro
  · run_from Cert.KernelZgIdeal.Gen.run_main m g
  · hlo_run
    exact (Cert.KernelZgIdeal.Value.final m c).symm

end Cert.Proof

end
-- ==== Proof.ProductZmain.lean ====
/- The forward product of the normed sequence with the main columns of `w_in`: what the tiled kernel leaves is the plain product of the reference. -/
module

public import proofs.«01_k».proof.Defs
public import proofs.«01_k».proof.Proof.Gen.KernelZmainIdeal.Value
public import proofs.«01_k».proof.Proof.Gen.ReferenceZmainIdeal
public import proofs.«01_k».proof.Proof.Gen.KernelZmain.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelZmainIdeal.Value

open Cert.KernelZmainIdeal Cert.KernelZmainIdeal.Gen

variable (m : (ℓ : Loc nD τ sig) → Buf (Elt Ideal) ℓ)

/-- The product as the reference's lines compute it. -/
abbrev prod (a : FVec Ideal S16640x1024 .bf16) (b : FVec Ideal S1024x8192 .bf16) : FVec Ideal S1x16640x8192 .bf16 :=
  broadcastInDim Cert.ReferenceZmainIdeal.S1x16640x8192 ![1, 2] Cert.ReferenceZmainIdeal.Gen.bcast_S16640x8192_S1x16640x8192_1_2
    (truncf .bf16 (Host.dotGeneral (F := Ideal) Cert.ReferenceZmainIdeal.dot_S16640x1024_S1024x8192_S16640x8192_1_0_0_1_n_n none a b) Cert.ReferenceZmainIdeal.Gen.bitsLt_bf16_f32)

/-- The block of each window at grid point `t`. -/
theorem idx : ∀ t : Fin cfg0.N, win0_0.index t = ![0, t.val % 13, 0] ∧ win0_1.index t = ![0, 0, t.val / 13]
    ∧ win0_2.index t = ![0, t.val % 13, t.val / 13] :=
  (by decide +kernel : ∀ t : Fin grid0.N, _)

/-- The kernel's result is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.KernelZmainIdeal.Value

namespace Cert.Proof

theorem quiescent_KernelZmain : Cert.quiescent_KernelZmain := fun m g _ => Cert.KernelZmain.Gen.frame m g

theorem quiescent_KernelZmainIdeal : Cert.quiescent_KernelZmainIdeal := fun m g _ => Cert.KernelZmainIdeal.Gen.frame m g

theorem quiescent_ReferenceZmainIdeal : Cert.quiescent_ReferenceZmainIdeal := by
  intro m g _
  hlo_run
  · exact fun _ => ⟨trivial, trivial⟩
  · exact sem_eq_zero_of_no_sems (by decide) _

/-- Kernel and reference compute the same array over the extended reals. -/
theorem algebraic_KernelZmainIdeal_ReferenceZmainIdeal : Cert.algebraic_KernelZmainIdeal_ReferenceZmainIdeal := by
  pair_intro
  · run_from Cert.KernelZmainIdeal.Gen.run_main m g
  · hlo_run
    exact (Cert.KernelZmainIdeal.Value.final m c).symm

end Cert.Proof

end
-- ==== Proof.NormGradient.lean ====
/- The gradient of a root-mean-square norm in its input, over the extended reals: the kernel's
   arrangement of the terms equals the one that the derivative of the forward lines has. -/
module

public import Idealize.ShloMosaic.Lib.Pipeline.ValueKit
public import Idealize.ShloMosaic.Lib.Pointwise

@[expose] public section

noncomputable section

open Idealize.ShloMosaic

namespace Cert.Norm

/-- An extended real that is a real number. -/
def Fin' (x : EReal) : Prop := ∃ r : ℝ, x = (r : EReal)

theorem bits_1024 : Ideal.ofBits .f32 1149239296#32 = ((1024 : ℝ) : EReal) := by
  simp [Ideal.ofBits, Ideal.ieee, -EReal.coe_mul]; norm_num

theorem bits_neg_half : Ideal.ofBits .f32 3204448256#32 = ((-(1 / 2) : ℝ) : EReal) := by
  simp [Ideal.ofBits, Ideal.ieee, -EReal.coe_mul]; norm_num

/-- The small constant under the root is a positive real number. -/
theorem bits_eps : ∃ e : ℝ, 0 < e ∧ Ideal.ofBits .f32 897988541#32 = (e : EReal) := by
  refine ⟨_, ?_, by simp [Ideal.ofBits, Ideal.ieee, -EReal.coe_mul]; norm_num; rfl⟩
  norm_num

theorem coe_sum {n : ℕ} (f : Fin n → ℝ) : ∑ x, (f x : EReal) = ((∑ x, f x : ℝ) : EReal) := by
  induction n with
  | zero => simp
  | succ n ih => rw [Fin.sum_univ_succ, Fin.sum_univ_succ, ih, EReal.coe_add]

/-- The mean of the squares of a row plus the small constant, as both programs compute it. -/
def meanSq (h : Fin 1024 → EReal) : EReal :=
  Ideal.div (∑ x, h x * h x) (Ideal.ofBits .f32 1149239296#32) + Ideal.ofBits .f32 897988541#32

/-- The gradient of the normed row in its input as the kernel arranges it: `h` the row, `e` the gradient of the normed row, `a` what comes
    from elsewhere. -/
def gradKernel (h e : Fin 1024 → EReal) (a : EReal) (j : Fin 1024) : EReal :=
  a + Ideal.rsqrt (meanSq h) * (e j - h j * Ideal.rsqrt (meanSq h)
    * Ideal.div (∑ x, e x * (h x * Ideal.rsqrt (meanSq h))) (Ideal.ofBits .f32 1149239296#32))

/-- What reaches the row through the root, in the derivative's arrangement. -/
def throughRoot (h e : Fin 1024 → EReal) : EReal :=
  ∑ x : Fin 1, Ideal.div ((∑ x, h x * e x) * (Ideal.ofBits .f32 3204448256#32 * Ideal.div (Ideal.rsqrt (meanSq h)) (meanSq h)))
    (Ideal.ofBits .f32 1149239296#32)

/-- The same gradient as the derivative of the forward lines has it. -/
def gradPlain (h e : Fin 1024 → EReal) (a : EReal) (j : Fin 1024) : EReal :=
  a + e j * Ideal.rsqrt (meanSq h) + h j * throughRoot h e + throughRoot h e * h j

/-- A real factor that is not negative comes out of a sum, whatever the terms. -/
theorem coe_mul_sum {n : ℕ} (c : ℝ) (hc : 0 ≤ c) (f : Fin n → EReal) : ∑ x, (c : EReal) * f x = (c : EReal) * ∑ x, f x := by
  induction n with
  | zero => simp
  | succ n ih =>
    rw [Fin.sum_univ_succ, Fin.sum_univ_succ, ih, EReal.left_distrib_of_nonneg_of_ne_top (by exact_mod_cast hc) (EReal.coe_ne_top c)]

/-- A term added to itself. -/
theorem twice (y : EReal) : y + y = (2 : ℝ) * y := by
  induction y with
  | bot => rw [EReal.coe_mul_bot_of_pos (by norm_num)]; rfl
  | top => rw [EReal.coe_mul_top_of_pos (by norm_num)]; rfl
  | coe r => rw [← EReal.coe_mul, ← EReal.coe_add, two_mul]

/-- A square is not negative. -/
theorem square_nonneg (x : EReal) : 0 ≤ x * x := by
  induction x with
  | bot => simp
  | top => simp
  | coe r => rw [← EReal.coe_mul]; exact_mod_cast mul_self_nonneg r

/-- The square of an infinite element. -/
theorem sq_top (x : EReal) (hx : ¬ Fin' x) : x * x = ⊤ := by
  induction x with
  | bot => simp
  | top => simp
  | coe r => exact absurd ⟨r, rfl⟩ hx

/-- The mean square of a row of real numbers, with the constant, is a positive real number. -/
theorem meanSq_real (h : Fin 1024 → EReal) (hh : ∀ x, Fin' (h x)) : ∃ q : ℝ, 0 < q ∧ meanSq h = (q : EReal) := by
  choose h' hh using hh
  obtain ⟨ε, hε, hb⟩ := bits_eps
  refine ⟨(∑ x, h' x * h' x) * (1 / 1024) + ε, ?_, ?_⟩
  · have : 0 ≤ ∑ x, h' x * h' x := Finset.sum_nonneg fun x _ => mul_self_nonneg _
    positivity
  · unfold meanSq
    rw [bits_1024, hb, Ideal.div_coe (by norm_num)]
    simp only [hh, ← EReal.coe_mul, coe_sum, ← EReal.coe_add]

/-- The mean square of a row with an infinite element. -/
theorem meanSq_top (h : Fin 1024 → EReal) (i : Fin 1024) (hi : ¬ Fin' (h i)) : meanSq h = ⊤ := by
  obtain ⟨ε, hε, hb⟩ := bits_eps
  have hs : ∑ x, h x * h x = ⊤ :=
    top_le_iff.mp ((sq_top _ hi).symm.le.trans (Finset.single_le_sum (f := fun x => h x * h x) (fun x _ => square_nonneg _) (Finset.mem_univ i)))
  unfold meanSq
  rw [hs, bits_1024, hb, Ideal.div_coe (by norm_num), EReal.top_mul_coe_of_pos (by norm_num), EReal.top_add_coe]

/-- The two agree, for every row and every gradient. With an infinite element in the row the reciprocal root is zero, and both give what comes from elsewhere. -/
theorem grad_eq (h e : Fin 1024 → EReal) (a : EReal) (j : Fin 1024) : gradKernel h e a j = gradPlain h e a j := by
  unfold gradKernel gradPlain throughRoot
  by_cases hh : ∀ x, Fin' (h x)
  · obtain ⟨q, hq, hms⟩ := meanSq_real h hh
    have hr : Ideal.rsqrt (meanSq h) = (((Real.sqrt q)⁻¹ : ℝ) : EReal) := by
      rw [hms, Ideal.rsqrt_coe, if_neg (by linarith), if_neg hq.ne']
    have hs : (Real.sqrt q)⁻¹ * (Real.sqrt q)⁻¹ = 1 / q := by
      rw [← mul_inv, Real.mul_self_sqrt hq.le, one_div]
    have hp : 0 ≤ (Real.sqrt q)⁻¹ := by positivity
    rw [hr, hms, bits_1024, bits_neg_half, Ideal.div_coe (x := (((Real.sqrt q)⁻¹ : ℝ) : EReal)) hq.ne']
    generalize (Real.sqrt q)⁻¹ = ρ at *
    simp only [Ideal.div_coe (show (1024 : ℝ) ≠ 0 by norm_num), Finset.univ_unique, Finset.sum_singleton]
    have hsum : ∑ x, e x * (h x * (ρ : EReal)) = (ρ : EReal) * ∑ x, h x * e x := by
      rw [← coe_mul_sum ρ hp]
      exact Finset.sum_congr rfl fun x _ => by rw [mul_comm (e x), mul_comm (h x) (ρ : EReal), mul_assoc]
    rw [hsum]
    generalize ∑ x, h x * e x = S
    rw [add_assoc, add_assoc, mul_comm _ (h j), twice, sub_eq_add_neg,
      EReal.left_distrib_of_nonneg_of_ne_top (by exact_mod_cast hp) (EReal.coe_ne_top _), mul_comm (ρ : EReal) (e j)]
    congr 2
    have hW : h j * (ρ : EReal) * ((ρ : EReal) * S * ((1 / 1024 : ℝ) : EReal)) = ((ρ * ρ * (1 / 1024) : ℝ) : EReal) * (h j * S) := by
      push_cast
      ac_rfl
    have hW' : ((2 : ℝ) : EReal) * (h j * (S * (((-(1 / 2) : ℝ) : EReal) * ((ρ : EReal) * ((1 / q : ℝ) : EReal))) * ((1 / 1024 : ℝ) : EReal)))
        = ((2 * (-(1 / 2)) * ρ * (1 / q) * (1 / 1024) : ℝ) : EReal) * (h j * S) := by
      simp only [EReal.coe_mul]
      ac_rfl
    rw [hW, hW', ← EReal.neg_mul, ← EReal.coe_neg, ← mul_assoc, ← EReal.coe_mul, ← hs]
    congr 2
    ring
  · obtain ⟨i, hi⟩ := not_forall.mp hh
    have h0 : Ideal.div 0 ⊤ = 0 := by simp [Ideal.div]
    rw [meanSq_top h i hi]
    simp only [Ideal.rsqrt_top, h0, bits_1024, Ideal.div_coe (show (1024 : ℝ) ≠ 0 by norm_num), mul_zero, zero_mul, Finset.sum_const_zero, add_zero]

end Cert.Norm

end
-- ==== Proof.RowStores.lean ====
/- A buffer of eight rows into which single rows are stored: what the stores leave, as a function of what was there before. -/
module

public import Idealize.ShloMosaic.Lib.Pipeline.ValueKit
public import Idealize.ShloMosaic.Lib.Pipeline.FrameBody
public import Idealize.ShloMosaic.Lib.WritesUnit

@[expose] public section

noncomputable section

open Idealize.ShloMosaic

namespace Cert.Rows

abbrev S8 : Shape := ⟨2, ![8, 1024]⟩
abbrev S1 : Shape := ⟨2, ![1, 1024]⟩

/-- Row `o` of the buffer, as an array of one row. -/
def row (A : S8.Idx → EReal) (o : ℕ) : S1.Idx → EReal := fun x => A (ix2 (Fin.ofNat 8 o) (x 1))

/-- The buffer with row `o` replaced. -/
def put (A : S8.Idx → EReal) (o : ℕ) (w : S1.Idx → EReal) : S8.Idx → EReal :=
  fun y => if (y 0).val = o then w (ix2 0 (y 1)) else A y

theorem row_put_ne (A : S8.Idx → EReal) (o : ℕ) (o' : ℕ) (w : S1.Idx → EReal) (h : (Fin.ofNat 8 o).val ≠ o') :
    row (put A o' w) o = row A o := by
  funext x
  exact if_neg h

theorem put_at (A : S8.Idx → EReal) (o : ℕ) (w : S1.Idx → EReal) (y : S8.Idx) :
    put A o w y = if (y 0).val = o then w (ix2 0 (y 1)) else A y := rfl

variable {sig : RefSig} {κ : Kind} {sp : Space}

/-- A load of one row. -/
theorem ld_row (X : S8.Idx → EReal) (o : ℕ) (ho : o < 8) (inb : ∀ a, (![o, 0] : Fin 2 → ℕ) a + (![1, 1024] : Fin 2 → ℕ) a ≤ S8.size a) :
    View.ld (Val := Elt Ideal) (e' := .f32) X (Rect.unit (s := S8) ![o, 0] ![1, 1024] inb) = row X o := by
  funext x
  refine congrArg X (funext fun a => Fin.ext ?_)
  fin_cases a
  · show o + 1 * (x 0).val = o % 8
    have : (x 0).val < 1 := (x 0).isLt
    omega
  · show 0 + 1 * (x 1).val = (x 1).val
    omega

/-- A store of one row over earlier contents. -/
theorem read_writes_row (v : View sig κ sp S8 .f32) (f : v.ty.Contents (Elt Ideal)) (o : ℕ) (inb : ∀ a, (![o, 0] : Fin 2 → ℕ) a + (![1, 1024] : Fin 2 → ℕ) a ≤ S8.size a)
    (w : S1.Idx → EReal) (L : List (View.Piece (Elt Ideal) S8 .f32)) :
    v.read (Elt Ideal) (v.writes (Elt Ideal) f ((⟨Rect.unit (s := S8) ![o, 0] ![1, 1024] inb, w⟩ : View.Piece (Elt Ideal) S8 .f32) :: L))
      = put (v.read (Elt Ideal) (v.writes (Elt Ideal) f L)) o w := by
  funext y
  unfold put
  split_ifs with h
  · exact View.read_writes_cons_rows_of_mem v f inb w L y (ix2 0 (y 1)) rfl h rfl
  · exact View.read_writes_cons_rows_of_not_mem v f inb w L y rfl (W := 1) rfl (by omega)

/-- The same among the stores into a buffer that nothing was known of. -/
theorem canon_row (v : View sig κ sp S8 .f32) (o : ℕ) (inb : ∀ a, (![o, 0] : Fin 2 → ℕ) a + (![1, 1024] : Fin 2 → ℕ) a ≤ S8.size a)
    (w : S1.Idx → EReal) (L : List (View.Piece (Elt Ideal) S8 .f32)) :
    View.canon ((⟨Rect.unit (s := S8) ![o, 0] ![1, 1024] inb, w⟩ : View.Piece (Elt Ideal) S8 .f32) :: L)
      = put (View.canon L) o w := by
  rw [← View.read_writes_junk_eq_canon v, ← View.read_writes_junk_eq_canon v, read_writes_row]

/-- A load of one row after stores that leave `canon`. -/
theorem readCov_row (v : View sig κ sp S8 .f32) (o : ℕ) (ho : o < 8) (inb : ∀ a, (![o, 0] : Fin 2 → ℕ) a + (![1, 1024] : Fin 2 → ℕ) a ≤ S8.size a)
    (L : List (View.Piece (Elt Ideal) S8 .f32)) :
    v.readCov L (Rect.unit (s := S8) ![o, 0] ![1, 1024] inb).toLoadRect = row (View.canon L) o := by
  rw [View.readCov_eq_canon']
  exact ld_row (View.canon L) o ho inb

end Cert.Rows

end
-- ==== Proof.Norm2.lean ====
/- The gradient of the second norm with the residual branch before it: one step of the kernel, and the four rows that it accumulates, at a grid point. -/
module

public import proofs.«01_k».proof.Defs
public import proofs.«01_k».proof.Proof.NormGradient
public import proofs.«01_k».proof.Proof.RowStores
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows

variable (m : (ℓ : Loc nD τ sig) → Buf (Elt Ideal) ℓ)

/-- The block of each window at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] :=
  (by decide +kernel : ∀ t : Fin grid0.N, _)

/-- What one grid point does to the rows of the accumulator. -/
def step (x0 x2 : FVec Ideal S512x1024 .f32) (x1 x3 : FVec Ideal S512x1024 .bf16) (x4 : FVec Ideal S1x1024 .f32) (x5 : FVec Ideal S8x1024 .f32)
    (X : S8x1024.Idx → EReal) : S8x1024.Idx → EReal :=
  put (put (put (put X 0 (k0_pay7 (F := Ideal) x1 (row X 0))) 1 (k0_pay8 (F := Ideal) x0 x4 x1 (row X 1)))
    2 (k0_pay10 (F := Ideal) (k0_pay5 x0) (k0_pay6 x1) (row x5 2) (row X 2)))
    3 (k0_pay12 (F := Ideal) (k0_pay4 x0) (k0_pay5 x0) x4 (k0_pay6 x1) (row x5 2) x2 (row X 3) x3)

theorem step_add (x0 x2 : FVec Ideal S512x1024 .f32) (x1 x3 : FVec Ideal S512x1024 .bf16) (x4 : FVec Ideal S1x1024 .f32) (x5 : FVec Ideal S8x1024 .f32)
    (X : S8x1024.Idx → EReal) (y : S8x1024.Idx) : step x0 x2 x1 x3 x4 x5 X y = X y + step x0 x2 x1 x3 x4 x5 (fun _ => 0) y := by
  have hy : ∀ o : ℕ, (y 0).val = o → X y = row X o (ix2 0 (y 1)) := fun o h =>
    congrArg X (funext fun a => by revert a; exact Fin.forall_fin_two.mpr ⟨Fin.ext (by rw [h]; exact (Nat.mod_eq_of_lt (h ▸ (y 0).isLt)).symm), rfl⟩)
  have hz : ∀ o : ℕ, row (fun _ => 0) o = fun _ => 0 := fun o => rfl
  unfold step
  simp only [put_at]
  split_ifs with h3 h2 h1 h0
  · rw [hy 3 h3, hz]; pointwise [k0_pay12]
  · rw [hy 2 h2, hz]; pointwise [k0_pay10]
  · rw [hy 1 h1, hz]; pointwise [k0_pay8]
  · rw [hy 0 h0, hz]; pointwise [k0_pay7]
  · exact (add_zero _).symm

theorem acc_first (c : Dev nD) (t : Fin cfg0.N) (h0 : t.val % 32 = 0) : (outsAt0 m c t.val t.isLt).2.2
    = step (iblk m c 0 t) (iblk m c 2 t) (iblk m c 1 t) (iblk m c 3 t) (iblk m c 4 t) (iblk m c 5 t) (fun _ => 0) := by
  have hz : k0_pay2 (F := Ideal) = fun _ => (0 : EReal) := by funext j; pointwise [k0_pay2]
  rw [outsAt0_A m c t h0]
  frame_out
  rw [hz]
  simp only [readCov_row (ms0_8 t).view 0 (by decide), readCov_row (ms0_8 t).view 1 (by decide), readCov_row (ms0_8 t).view 2 (by decide),
    readCov_row (ms0_8 t).view 3 (by decide), ld_row _ 2 (by decide), canon_row (ms0_8 t).view]
  simp (disch := decide) only [View.canon_cons_unit_lit', row_put_ne]
  rfl

theorem acc_next (c : Dev nD) (t : Fin cfg0.N) (h0 : ¬ t.val % 32 = 0) : (outsAt0 m c t.val t.isLt).2.2
    = step (iblk m c 0 t) (iblk m c 2 t) (iblk m c 1 t) (iblk m c 3 t) (iblk m c 4 t) (iblk m c 5 t)
      (outsAt0 m c (t.val - 1) (Nat.lt_of_le_of_lt (Nat.sub_le _ _) t.isLt)).2.2 := by
  rw [outsAt0_B m c t h0]
  frame_out
  simp only [read_writes_row, ld_row _ 0 (by decide), ld_row _ 1 (by decide), ld_row _ 2 (by decide), ld_row _ 3 (by decide)]
  rw [View.writes_nil, Memref.IsWhole.read_unread]
  rfl

abbrev A0 (c : Dev nD) : S16384x1024.Idx → EReal := m ((c : Thread nD τ).loc main_arg0)
abbrev A1 (c : Dev nD) : S16384x1024.Idx → EReal := m ((c : Thread nD τ).loc main_arg1)
abbrev A2 (c : Dev nD) : S16384x1024.Idx → EReal := m ((c : Thread nD τ).loc main_arg2)
abbrev A3 (c : Dev nD) : S16384x1024.Idx → EReal := m ((c : Thread nD τ).loc main_arg3)
abbrev A4 (c : Dev nD) : S1x1024.Idx → EReal := m ((c : Thread nD τ).loc main_arg4)
abbrev A5 (c : Dev nD) : S8x1024.Idx → EReal := m ((c : Thread nD τ).loc main_arg5)

/-- Row `i` of the sequence after the branch is added. -/
def hrow (c : Dev nD) (i : Fin 16384) : Fin 1024 → EReal :=
  fun x => A0 m c (ix2 i x) + A5 m c (ix2 0 x) * A1 m c (ix2 i x)

/-- Row `i` of the gradient of the normed sequence. -/
def erow (c : Dev nD) (i : Fin 16384) : Fin 1024 → EReal :=
  fun x => A2 m c (ix2 i x) * (1 + A5 m c (ix2 2 x)) * A4 m c (ix2 0 x)

/-- Where row `i` of the tile of grid point `t` lies. -/
def at_ (t : Fin cfg0.N) (i : Fin 512) : Fin 16384 := ⟨t.val * 512 + i.val, by have := t.isLt; have : cfg0.N = 32 := rfl; omega⟩

open Cert.Norm

open Cert.Reference2Ideal.Read in
theorem plain_dh1 (c : Dev nD) (i : Fin 16384) (j : Fin 1024) :
    val_main_v55 (F := Ideal) (A0 m c) (A1 m c) (A2 m c) (A3 m c) (A4 m c) (A5 m c) (ix2 i j) = gradPlain (hrow m c i) (erow m c i) (A3 m c (ix2 i j)) j := by
  unfold gradPlain throughRoot meanSq
  pointwise [val_main_v0, val_main_v1, val_main_v3, val_main_v4, val_main_v5, val_main_v6, val_main_v7, val_main_cst, val_main_v8, val_main_v9,
    val_main_cst_0, val_main_v10, val_main_v11, val_main_cst_1, val_main_v12, val_main_v13, val_main_v14, val_main_v15, val_main_cst_2,
    val_main_v16, val_main_v17, val_main_cst_3, val_main_v22, val_main_v23, val_main_v28, val_main_v34, val_main_v35, val_main_v39,
    val_main_v40, val_main_v41, val_main_cst_7, val_main_v42, val_main_v43, val_main_v44, val_main_v45, val_main_v46, val_main_v47,
    val_main_cst_8, val_main_v48, val_main_v49, val_main_cst_9, val_main_v50, val_main_v51, val_main_v52, val_main_v53, val_main_v54,
    val_main_v55]
  rfl

theorem tile_dh1 (x0 x2 : FVec Ideal S512x1024 .f32) (x1 : FVec Ideal S512x1024 .bf16) (x4 : FVec Ideal S1x1024 .f32) (x5 : FVec Ideal S8x1024 .f32)
    (i : Fin 512) (j : Fin 1024) :
    k0_pay11 (F := Ideal) (k0_pay4 x0) (k0_pay5 x0) x4 (k0_pay6 x1) (row x5 2) x2 (ix2 i j)
      = gradKernel (fun x => x0 (ix2 i x)) (fun x => (x1 (ix2 i x) : EReal) * ((1 : EReal) + x5 (ix2 2 x)) * x4 (ix2 0 x)) (x2 (ix2 i j)) j := by
  unfold gradKernel meanSq
  pointwise [k0_pay11, k0_pay9, k0_pay6, k0_pay5, k0_pay4, k0_pay3]
  rfl

theorem blk_dn (c : Dev nD) (t : Fin cfg0.N) (i : Fin 512) (x : Fin 1024) : (iblk m c 1 t (ix2 i x) : EReal) = A2 m c (ix2 (at_ t i) x) := by
  unfold at_
  blk_point [iblk, V, idx t]

theorem blk_d (c : Dev nD) (t : Fin cfg0.N) (i : Fin 512) (x : Fin 1024) : (iblk m c 2 t (ix2 i x) : EReal) = A3 m c (ix2 (at_ t i) x) := by
  unfold at_
  blk_point [iblk, V, idx t]

theorem blk_o (c : Dev nD) (t : Fin cfg0.N) (i : Fin 512) (x : Fin 1024) : (iblk m c 3 t (ix2 i x) : EReal) = A1 m c (ix2 (at_ t i) x) := by
  unfold at_
  blk_point [iblk, V, idx t]

theorem blk_g (c : Dev nD) (t : Fin cfg0.N) (x : Fin 1024) : (iblk m c 4 t (ix2 0 x) : EReal) = A4 m c (ix2 0 x) := by
  blk_point [iblk, V, idx t]

theorem blk_t (c : Dev nD) (t : Fin cfg0.N) (i : Fin 8) (x : Fin 1024) : (iblk m c 5 t (ix2 i x) : EReal) = A5 m c (ix2 i x) := by
  blk_point [iblk, V, idx t]

end Cert.Kernel2Ideal.Value
end
-- ==== Proof.Norm3.lean ====
/- The gradient of the second norm with the residual branch before it: the gradients of the input and of the branch equal the derivative of the forward lines. -/
module

public import proofs.«01_k».proof.Defs
public import proofs.«01_k».proof.Proof.NormGradient
public import proofs.«01_k».proof.Proof.RowStores
public import proofs.«01_k».proof.Proof.Norm2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows Cert.Norm

variable (m : (ℓ : Loc nD τ sig) → Buf (Elt Ideal) ℓ)

theorem emb_h (t : Fin cfg0.N) (i : Fin 512) (x : Fin 1024) : (win0_0.blk t).view.emb (ix2 i x) = ix2 (at_ t i) x := by
  unfold at_
  blk_ext [idx t]

theorem emb_dh1 (t : Fin cfg0.N) (i : Fin 512) (x : Fin 1024) : (win0_6.blk t).view.emb (ix2 i x) = ix2 (at_ t i) x := by
  unfold at_
  blk_ext [idx t]

theorem emb_dout (t : Fin cfg0.N) (i : Fin 512) (x : Fin 1024) : (win0_7.blk t).view.emb (ix2 i x) = ix2 (at_ t i) x := by
  unfold at_
  blk_ext [idx t]

theorem emb_acc (t : Fin cfg0.N) (i : Fin 8) (x : Fin 1024) : (win0_8.blk t).view.emb (ix2 i x) = ix2 i x := by
  blk_ext [idx t]

theorem blk_h (c : Dev nD) (t : Fin cfg0.N) (i : Fin 512) (x : Fin 1024) :
    (iblk m c 0 t (ix2 i x) : EReal) = hrow m c (at_ t i) x := by
  unfold hrow
  blk_simp [iblk, V]
  entry_read
  pointwise
  rw [show ((View.whole main_v4).slice (win0_0.rect t)).emb (ix2 i x) = ix2 (at_ t i) x from emb_h t i x]
  rfl

open Cert.Reference2Ideal.Read in
theorem tile_eq (c : Dev nD) (t : Fin cfg0.N) (i : Fin 512) (j : Fin 1024) :
    (k0_pay11 (F := Ideal) (k0_pay4 (iblk m c 0 t)) (k0_pay5 (iblk m c 0 t)) (iblk m c 4 t) (k0_pay6 (iblk m c 1 t)) (row (iblk m c 5 t) 2) (iblk m c 2 t)
      (ix2 i j) : EReal) = val_main_v55 (F := Ideal) (A0 m c) (A1 m c) (A2 m c) (A3 m c) (A4 m c) (A5 m c) (ix2 (at_ t i) j) := by
  rw [tile_dh1, plain_dh1, ← grad_eq]
  refine congr (congr (congrArg₂ gradKernel ?_ ?_) ?_) rfl
  · exact funext fun x => blk_h m c t i x
  · exact funext fun x => by rw [blk_dn, blk_t, blk_g]; rfl
  · exact blk_d m c t i j

open Cert.Reference2Ideal.Read in
theorem final_dh1 (c : Dev nD) : (dats m 0 c).arrAt 6 (cfgs 0).N
    = val_main_v55 (F := Ideal) (A0 m c) (A1 m c) (A2 m c) (A3 m c) (A4 m c) (A5 m c) := by
  refine (dats m 0 c).arrAt_eq_of_covers 6 _ (by decide +kernel) fun t hf y => ?_
  blk_simp
  obtain ⟨i, j, rfl⟩ : ∃ i j, y = ix2 i j := ⟨y 0, y 1, eq_ix2 y⟩
  refine Eq.trans ?_ (congrArg _ (emb_dh1 t i j).symm)
  rw [← tile_eq m c t i j, after0_6]
  by_cases h0 : t.val % 32 = 0
  · rw [outsAt0_A m c t h0]
    frame_out
    simp only [ld_row _ 2 (by decide)]
  · rw [outsAt0_B m c t h0]
    frame_out
    simp only [ld_row _ 2 (by decide)]

open Cert.Reference2Ideal.Read in
theorem plain_dout (c : Dev nD) (i : Fin 16384) (j : Fin 1024) :
    val_main_v64 (F := Ideal) (A0 m c) (A1 m c) (A2 m c) (A3 m c) (A4 m c) (A5 m c) (ix2 i j)
      = val_main_v55 (F := Ideal) (A0 m c) (A1 m c) (A2 m c) (A3 m c) (A4 m c) (A5 m c) (ix2 i j) * A5 m c (ix2 0 j) := by
  rw [mul_comm]
  pointwise [val_main_v64, val_main_v58, val_main_v57, val_main_v56, val_main_v1]

theorem tile_dout (v : FVec Ideal S512x1024 .f32) (x5 : FVec Ideal S8x1024 .f32) (i : Fin 512) (j : Fin 1024) :
    k0_pay1 (F := Ideal) v (row x5 0) (ix2 i j) = (v (ix2 i j) : EReal) * x5 (ix2 0 j) := by
  pointwise [k0_pay1]
  rfl

open Cert.Reference2Ideal.Read in
theorem final_dout (c : Dev nD) : (dats m 0 c).arrAt 7 (cfgs 0).N
    = val_main_v64 (F := Ideal) (A0 m c) (A1 m c) (A2 m c) (A3 m c) (A4 m c) (A5 m c) := by
  refine (dats m 0 c).arrAt_eq_of_covers 7 _ (by decide +kernel) fun t hf y => ?_
  blk_simp
  obtain ⟨i, j, rfl⟩ : ∃ i j, y = ix2 i j := ⟨y 0, y 1, eq_ix2 y⟩
  refine Eq.trans ?_ (congrArg _ (emb_dout t i j).symm)
  rw [plain_dout, ← tile_eq m c t i j, ← blk_t m c t, ← tile_dout, after0_7]
  by_cases h0 : t.val % 32 = 0
  · rw [outsAt0_A m c t h0]
    frame_out
    simp only [ld_row _ 2 (by decide), ld_row _ 0 (by decide)]
  · rw [outsAt0_B m c t h0]
    frame_out
    simp only [ld_row _ 2 (by decide), ld_row _ 0 (by decide)]

end Cert.Kernel2Ideal.Value
end
-- ==== Proof.Norm4.lean ====
/- The gradient of the second norm with the residual branch before it: the accumulated rows equal the gradients of the modulation and of the norm's weight. -/
module

public import proofs.«01_k».proof.Defs
public import proofs.«01_k».proof.Proof.NormGradient
public import proofs.«01_k».proof.Proof.RowStores
public import proofs.«01_k».proof.Proof.Norm3
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows Cert.Norm

variable (m : (ℓ : Loc nD τ sig) → Buf (Elt Ideal) ℓ)

/-- The reciprocal root of a row. -/
def rs (c : Dev nD) (k : Fin 16384) : EReal := Ideal.rsqrt (meanSq (hrow m c k))

open Cert.Reference2Ideal.Read in
/-- What row `k` of the sequence adds to column `j` of row `o` of the accumulator. -/
def part_ (c : Dev nD) (o : ℕ) (j : Fin 1024) (k : Fin 16384) : EReal :=
  if o = 0 then A2 m c (ix2 k j)
  else if o = 1 then hrow m c k j * rs m c k * A4 m c (ix2 0 j) * A2 m c (ix2 k j)
  else if o = 2 then hrow m c k j * rs m c k * (A2 m c (ix2 k j) * (1 + A5 m c (ix2 2 j)))
  else if o = 3 then
    (val_main_v55 (F := Ideal) (A0 m c) (A1 m c) (A2 m c) (A3 m c) (A4 m c) (A5 m c) (ix2 k j) : EReal) * A1 m c (ix2 k j)
  else 0

open Cert.Reference2Ideal.Read in
theorem plain_shift (c : Dev nD) (j : Fin 1024) :
    val_main_v63 (F := Ideal) (A0 m c) (A1 m c) (A2 m c) (A3 m c) (A4 m c) (A5 m c) (ix2 0 j) = ∑ k, part_ m c 0 j k := by
  unfold val_main_v63
  pointwise [val_main_v30, val_main_v29, val_main_v28, val_main_cst_4]
  rfl

open Cert.Reference2Ideal.Read in
theorem plain_scale (c : Dev nD) (j : Fin 1024) :
    val_main_v63 (F := Ideal) (A0 m c) (A1 m c) (A2 m c) (A3 m c) (A4 m c) (A5 m c) (ix2 1 j) = ∑ k, part_ m c 1 j k := by
  unfold val_main_v63
  pointwise [val_main_v33, val_main_v32, val_main_v31, val_main_cst_5, val_main_v21, val_main_v20, val_main_v19, val_main_v18, val_main_v28,
    val_main_v0, val_main_v1, val_main_v4, val_main_v5, val_main_v6, val_main_v7, val_main_cst, val_main_v8, val_main_v9,
    val_main_cst_0, val_main_v10, val_main_v11, val_main_cst_1, val_main_v12, val_main_v13, val_main_v14]
  rfl

open Cert.Reference2Ideal.Read in
theorem plain_weight (c : Dev nD) (j : Fin 1024) :
    val_main_v63 (F := Ideal) (A0 m c) (A1 m c) (A2 m c) (A3 m c) (A4 m c) (A5 m c) (ix2 2 j) = ∑ k, part_ m c 2 j k := by
  unfold val_main_v63
  pointwise [val_main_v38, val_main_v37, val_main_v36, val_main_v35, val_main_v34, val_main_v23, val_main_v22, val_main_cst_3, val_main_v3,
    val_main_cst_6, val_main_v19, val_main_v18, val_main_v28,
    val_main_v0, val_main_v1, val_main_v4, val_main_v5, val_main_v6, val_main_v7, val_main_cst, val_main_v8, val_main_v9,
    val_main_cst_0, val_main_v10, val_main_v11, val_main_cst_1, val_main_v12, val_main_v13, val_main_v14]
  rfl

open Cert.Reference2Ideal.Read in
theorem plain_gate (c : Dev nD) (j : Fin 1024) :
    val_main_v63 (F := Ideal) (A0 m c) (A1 m c) (A2 m c) (A3 m c) (A4 m c) (A5 m c) (ix2 3 j) = ∑ k, part_ m c 3 j k := by
  unfold val_main_v63
  pointwise [val_main_v61, val_main_v60, val_main_v59, val_main_v56, val_main_v0, val_main_cst_10]
  rfl

open Cert.Reference2Ideal.Read in
theorem plain_rest (c : Dev nD) (o : Fin 8) (ho : 4 ≤ o.val) (j : Fin 1024) :
    val_main_v63 (F := Ideal) (A0 m c) (A1 m c) (A2 m c) (A3 m c) (A4 m c) (A5 m c) (ix2 o j) = ∑ k, part_ m c o.val j k := by
  have hp : ∀ k, part_ m c o.val j k = 0 := fun k => by
    unfold part_
    rw [if_neg (by omega), if_neg (by omega), if_neg (by omega), if_neg (by omega)]
  rw [Finset.sum_congr rfl fun k _ => hp k, Finset.sum_const_zero]
  have : o = 4 ∨ o = 5 ∨ o = 6 ∨ o = 7 := by omega
  rcases this with rfl | rfl | rfl | rfl <;> (unfold val_main_v63; pointwise [val_main_v62, val_main_cst_11])

open Cert.Reference2Ideal.Read in
theorem plain_acc (c : Dev nD) (o : Fin 8) (j : Fin 1024) :
    val_main_v63 (F := Ideal) (A0 m c) (A1 m c) (A2 m c) (A3 m c) (A4 m c) (A5 m c) (ix2 o j) = ∑ k, part_ m c o.val j k := by
  by_cases ho : 4 ≤ o.val
  · exact plain_rest m c o ho j
  · have : o = 0 ∨ o = 1 ∨ o = 2 ∨ o = 3 := by omega
    rcases this with rfl | rfl | rfl | rfl
    exacts [plain_shift m c j, plain_scale m c j, plain_weight m c j, plain_gate m c j]

/-- What one grid point adds: the parts of the rows of its tile. -/
theorem tile_acc (c : Dev nD) (t : Fin cfg0.N) (o : Fin 8) (j : Fin 1024) :
    step (iblk m c 0 t) (iblk m c 2 t) (iblk m c 1 t) (iblk m c 3 t) (iblk m c 4 t) (iblk m c 5 t) (fun _ => 0) (ix2 o j)
      = ∑ i, part_ m c o.val j (at_ t i) := by
  have hz : ∀ o : ℕ, row (fun _ => 0) o = fun _ => 0 := fun o => rfl
  have hr : ∀ i, Ideal.rsqrt (meanSq fun x => iblk m c 0 t (ix2 i x)) = rs m c (at_ t i) := fun i =>
    congrArg (fun f => Ideal.rsqrt (meanSq f)) (funext fun x => blk_h m c t i x)
  unfold meanSq at hr
  beta_reduce at hr
  unfold step
  simp only [put_at, hz, ix2_0, ix2_1]
  by_cases h3 : o.val = 3
  · refine (if_pos h3).trans ?_
    rw [h3]
    pointwise [k0_pay12]
    refine Fin.sum_fin_congr fun i => ?_
    rw [tile_eq m c, blk_o]
    rfl
  refine (if_neg h3).trans ?_
  by_cases h2 : o.val = 2
  · refine (if_pos h2).trans ?_
    rw [h2]
    pointwise [k0_pay10, k0_pay6, k0_pay5, k0_pay4, k0_pay3, k0_pay9]
    refine Fin.sum_fin_congr fun i => ?_
    rw [hr, blk_h, blk_dn, mul_comm (_ : EReal) _]
    exact congrArg (fun z : EReal => hrow m c (at_ t i) j * rs m c (at_ t i) * (A2 m c (ix2 (at_ t i) j) * (1 + z))) (blk_t m c t 2 j)
  refine (if_neg h2).trans ?_
  by_cases h1 : o.val = 1
  · refine (if_pos h1).trans ?_
    rw [h1]
    pointwise [k0_pay8, k0_pay6, k0_pay5, k0_pay4, k0_pay3]
    refine Fin.sum_fin_congr fun i => ?_
    rw [hr, blk_h, blk_dn, blk_g]
    show A2 m c (ix2 (at_ t i) j) * (hrow m c (at_ t i) j * rs m c (at_ t i)) * A4 m c (ix2 0 j) = hrow m c (at_ t i) j * rs m c (at_ t i) * A4 m c (ix2 0 j) * A2 m c (ix2 (at_ t i) j)
    rw [mul_assoc, mul_comm]
  refine (if_neg h1).trans ?_
  by_cases h0 : o.val = 0
  · refine (if_pos h0).trans ?_
    rw [h0]
    pointwise [k0_pay7, k0_pay6]
    exact Fin.sum_fin_congr fun i => blk_dn m c t i j
  refine (if_neg h0).trans ?_
  have hp : ∀ k, part_ m c o.val j k = 0 := fun k => by
    unfold part_
    rw [if_neg h0, if_neg h1, if_neg h2, if_neg h3]
  simp only [hp]
  exact Finset.sum_const_zero.symm

open Cert.Reference2Ideal.Read in
theorem final_acc (c : Dev nD) : (dats m 0 c).arrAt 8 (cfgs 0).N
    = val_main_v63 (F := Ideal) (A0 m c) (A1 m c) (A2 m c) (A3 m c) (A4 m c) (A5 m c) := by
  refine (dats m 0 c).arrAt_eq_of_covers 8 _ (by decide +kernel) fun t hf y => ?_
  have hl := (flush0_8 t).mp hf
  blk_simp
  obtain ⟨o, j, rfl⟩ : ∃ i j, y = ix2 i j := ⟨y 0, y 1, eq_ix2 y⟩
  refine Eq.trans ?_ (congrArg _ (emb_acc t o j).symm)
  rw [after0_8, plain_acc]
  refine (Pipeline.eq_sum_fin_of_reset_step_apply_of_flush (fun n hn => (outsAt0 m c n hn).2.2) 32 (fun _ => (0 : EReal))
    (fun t => step (iblk m c 0 t) (iblk m c 2 t) (iblk m c 1 t) (iblk m c 3 t) (iblk m c 4 t) (iblk m c 5 t) (fun _ => 0))
    (fun t h y => (congrFun (acc_first m c t h) y).trans (zero_add _).symm)
    (fun t h y => (congrFun (acc_next m c t h) y).trans (step_add _ _ _ _ _ _ _ _)) t hl (ix2 o j)).trans ?_
  rw [zero_add]
  refine (Finset.sum_congr rfl fun s _ => tile_acc m c _ o j).trans ?_
  have ht : t.val / 32 = 0 := by have := t.isLt; have : cfg0.N = 32 := rfl; omega
  refine Eq.trans (Finset.sum_congr rfl fun s _ => Finset.sum_congr rfl fun i _ => congrArg (part_ m c o.val j) (Fin.ext ?_))
    (Fin.sum_mul_add_fin (n := 512) (S := 32) (part_ m c o.val j))
  show (32 * (t.val / 32) + s.val) * 512 + i.val = s.val * 512 + i.val
  omega

end Cert.Kernel2Ideal.Value
end
-- ==== Proof.Norm5.lean ====
/- The gradient of the second norm with the residual branch before it: the claims. -/
module

public import proofs.«01_k».proof.Defs
public import proofs.«01_k».proof.Proof.NormGradient
public import proofs.«01_k».proof.Proof.RowStores
public import proofs.«01_k».proof.Proof.Norm4
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

theorem quiescent_Kernel2 : Cert.quiescent_Kernel2 := fun m g _ => Cert.Kernel2.Gen.frame m g

theorem quiescent_Kernel2Ideal : Cert.quiescent_Kernel2Ideal := fun m g _ => Cert.Kernel2Ideal.Gen.frame m g

theorem quiescent_Reference2Ideal : Cert.quiescent_Reference2Ideal := by
  intro m g _
  hlo_run
  · exact fun _ => ⟨trivial, trivial, trivial, trivial, trivial, trivial⟩
  · exact sem_eq_zero_of_no_sems (by decide) _

/-- Kernel and reference compute the same three arrays over the extended reals. -/
theorem algebraic_Kernel2Ideal_Reference2Ideal : Cert.algebraic_Kernel2Ideal_Reference2Ideal := by
  pair_intro
  · run_from Cert.Kernel2Ideal.Gen.run_main m g
  · refine (θ_run _ _ _).mono (fun r h c => ?_) (Cert.Reference2Ideal.Value.run m' g')
    obtain ⟨h55, h64, h63, hargs⟩ := h c
    obtain ⟨e0, e1, e2, e3, e4, e5⟩ := hagree c
    refine ⟨h55.trans ?_, h64.trans ?_, h63.trans ?_, hargs⟩
    · rw [Cert.Reference2Ideal.Read.val_main_v55_eq, e0, e1, e2, e3, e4, e5]
      exact (Cert.Kernel2Ideal.Value.final_dh1 m c).symm
    · rw [Cert.Reference2Ideal.Read.val_main_v64_eq, e0, e1, e2, e3, e4, e5]
      exact (Cert.Kernel2Ideal.Value.final_dout m c).symm
    · rw [Cert.Reference2Ideal.Read.val_main_v63_eq, e0, e1, e2, e3, e4, e5]
      exact (Cert.Kernel2Ideal.Value.final_acc m c).symm

end Cert.Proof
end
-- ==== Proof.Inverses.lean ====
/-
  The two inverses of the AdamW step. The reference divides by the float32 constants of `1 - 0.9 ^ 10` and of
  `1 - 0.999 ^ 10`; the kernel multiplies by their inverses. Over the extended reals the two agree, at every value.
-/
module

public import Idealize.ShloMosaic.Lib.Pipeline.ValueKit

@[expose] public section

noncomputable section

namespace Cert.AdamW

open Idealize.ShloMosaic

/-- The float32 constant of `1 - 0.9 ^ 10`, as a real. -/
theorem bias1 : Ideal.ofBits .f32 0x3F26BD02#32 = ((5463681 / 8388608 : ℝ) : EReal) := by
  simp [Ideal.ofBits, Ideal.ieee, -EReal.coe_mul]; norm_num

/-- The float32 constant of `1 - 0.999 ^ 10`, as a real. -/
theorem bias2 : Ideal.ofBits .f32 0x3C231ACC#32 = ((2672307 / 268435456 : ℝ) : EReal) := by
  simp [Ideal.ofBits, Ideal.ieee, -EReal.coe_mul]; norm_num

/-- A quotient by the first constant is a product with its inverse. -/
theorem div_bias1 (x : EReal) :
    Ideal.div x (Ideal.ofBits .f32 0x3F26BD02#32) = x * (((5463681 / 8388608)⁻¹ : ℝ) : EReal) := by
  rw [bias1, Ideal.div_coe (by norm_num), one_div]

/-- A quotient by the second constant is a product with its inverse. -/
theorem div_bias2 (x : EReal) :
    Ideal.div x (Ideal.ofBits .f32 0x3C231ACC#32) = x * (((2672307 / 268435456)⁻¹ : ℝ) : EReal) := by
  rw [bias2, Ideal.div_coe (by norm_num), one_div]

end Cert.AdamW

end
-- ==== Proof.AdamWMod.lean ====
/-
  The AdamW step of the modulation weight: the kernel's update and both moments are the reference's, element by element.
-/
module

public import proofs.«01_k».proof.Defs
public import proofs.«01_k».proof.Proof.Inverses
public import proofs.«01_k».proof.Proof.Gen.KernelAmod.Frame
public import proofs.«01_k».proof.Proof.Gen.KernelAmodIdeal.Value
public import proofs.«01_k».proof.Proof.Gen.ReferenceAmodIdeal.Run
public import Idealize.ShloMosaic.Lib.Quiescent

@[expose] public section

noncomputable section

open Idealize.ShloMosaic Idealize.ShloMosaic.TcCoe Idealize.SL.Sem

namespace Cert.ReferenceAmodIdeal.Update

open Cert.ReferenceAmodIdeal Cert.ReferenceAmodIdeal.Gen

/-- The kernel's first named constant is the inverse of the first bias correction. -/
theorem inv_bias1 : Named.named (F := Ideal) Cert.KernelAmodIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAmodIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S1x1024x1536 .f32 :=
  broadcastInDim S1x1024x1536 ![] bcast_S_S1x1024x1536 (constant S_ .f32 b)

/-- The reference's first moment. -/
abbrev moment1 (g m : FVec Ideal S1x1024x1536 .f32) : FVec Ideal S1x1024x1536 .f32 :=
  addf (mulf (all 0x3F666666#32) m) (mulf (all 0x3DCCCCCD#32) g)

/-- The reference's second moment. -/
abbrev moment2 (g v : FVec Ideal S1x1024x1536 .f32) : FVec Ideal S1x1024x1536 .f32 :=
  addf (mulf (all 0x3F7FBE77#32) v) (mulf (all 0x3A83126F#32) (mulf g g))

/-- The first moments agree. -/
theorem moment1_eq (g m : FVec Ideal S1x1024x1536 .f32) : moment1 g m = Cert.KernelAmodIdeal.Value.G5 (F := Ideal) g m := rfl

/-- The second moments agree. -/
theorem moment2_eq (g v : FVec Ideal S1x1024x1536 .f32) : moment2 g v = Cert.KernelAmodIdeal.Value.G6 (F := Ideal) g v := rfl

/-- The updates agree: the reference's quotients by the bias corrections are products with their inverses. -/
theorem update_eq (w g m v : FVec Ideal S1x1024x1536 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAmodIdeal.Value.G4 (F := Ideal) g m v w := by
  funext i
  simp only [Cert.KernelAmodIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAmodIdeal.Update

namespace Cert.Proof

theorem quiescent_KernelAmod : Cert.quiescent_KernelAmod := fun m g _ => Cert.KernelAmod.Gen.frame m g

theorem quiescent_KernelAmodIdeal : Cert.quiescent_KernelAmodIdeal := fun m g _ => Cert.KernelAmodIdeal.Gen.frame m g

theorem quiescent_ReferenceAmodIdeal : Cert.quiescent_ReferenceAmodIdeal := fun m g _ =>
  (θ_run Cert.ReferenceAmodIdeal.defs _ _).mono (fun r h => ⟨fun c => (h c).2.2.2, sem_eq_zero_of_no_sems (by decide) r.2⟩)
    (Cert.ReferenceAmodIdeal.Value.run (F := Ideal) m g)

/-- The two named constants. -/
theorem preserves_KernelAmod_KernelAmodIdeal : Cert.preserves_KernelAmod_KernelAmodIdeal :=
  ⟨IdealRules.named_const.statement Cert.KernelAmodIdeal.κ "inv_bias1" .f32 0x3FC48605#32
      (((5463681 / 8388608)⁻¹ : ℝ) : EReal) rfl,
    IdealRules.named_const.statement Cert.KernelAmodIdeal.κ "inv_bias2" .f32 0x42C8E6D3#32
      (((2672307 / 268435456)⁻¹ : ℝ) : EReal) rfl⟩

theorem algebraic_KernelAmodIdeal_ReferenceAmodIdeal : Cert.algebraic_KernelAmodIdeal_ReferenceAmodIdeal := by
  intro m g m' g' _ hagree
  refine ⟨_, _, _, Cert.KernelAmodIdeal.Value.run (F := Ideal) m g, ?_⟩
  refine (θ_run Cert.ReferenceAmodIdeal.defs _ _).mono (fun r h c => ?_) (Cert.ReferenceAmodIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAmodIdeal.Update.update_eq _ _ _ _
  · rw [e2]
    exact Cert.ReferenceAmodIdeal.Update.moment1_eq _ _
  · rw [e3]
    exact Cert.ReferenceAmodIdeal.Update.moment2_eq _ _

end Cert.Proof

end
-- ==== Proof.AdamWIn.lean ====
/-
  The AdamW step of the mixer's input weight: the kernel's update and both moments are the reference's, element by element.
-/
module

public import proofs.«01_k».proof.Defs
public import proofs.«01_k».proof.Proof.Inverses
public import proofs.«01_k».proof.Proof.Gen.KernelAin.Frame
public import proofs.«01_k».proof.Proof.Gen.KernelAinIdeal.Value
public import proofs.«01_k».proof.Proof.Gen.ReferenceAinIdeal.Run
public import Idealize.ShloMosaic.Lib.Quiescent

@[expose] public section

noncomputable section

open Idealize.ShloMosaic Idealize.ShloMosaic.TcCoe Idealize.SL.Sem

namespace Cert.ReferenceAinIdeal.Update

open Cert.ReferenceAinIdeal Cert.ReferenceAinIdeal.Gen

/-- The kernel's first named constant is the inverse of the first bias correction. -/
theorem inv_bias1 : Named.named (F := Ideal) Cert.KernelAinIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAinIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S1x1024x2052 .f32 :=
  broadcastInDim S1x1024x2052 ![] bcast_S_S1x1024x2052 (constant S_ .f32 b)

/-- The reference's first moment. -/
abbrev moment1 (g m : FVec Ideal S1x1024x2052 .f32) : FVec Ideal S1x1024x2052 .f32 :=
  addf (mulf (all 0x3F666666#32) m) (mulf (all 0x3DCCCCCD#32) g)

/-- The reference's second moment. -/
abbrev moment2 (g v : FVec Ideal S1x1024x2052 .f32) : FVec Ideal S1x1024x2052 .f32 :=
  addf (mulf (all 0x3F7FBE77#32) v) (mulf (all 0x3A83126F#32) (mulf g g))

/-- The first moments agree. -/
theorem moment1_eq (g m : FVec Ideal S1x1024x2052 .f32) : moment1 g m = Cert.KernelAinIdeal.Value.G5 (F := Ideal) g m := rfl

/-- The second moments agree. -/
theorem moment2_eq (g v : FVec Ideal S1x1024x2052 .f32) : moment2 g v = Cert.KernelAinIdeal.Value.G6 (F := Ideal) g v := rfl

/-- The updates agree: the reference's quotients by the bias corrections are products with their inverses. -/
theorem update_eq (w g m v : FVec Ideal S1x1024x2052 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAinIdeal.Value.G4 (F := Ideal) g m v w := by
  funext i
  simp only [Cert.KernelAinIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAinIdeal.Update

namespace Cert.Proof

theorem quiescent_KernelAin : Cert.quiescent_KernelAin := fun m g _ => Cert.KernelAin.Gen.frame m g

theorem quiescent_KernelAinIdeal : Cert.quiescent_KernelAinIdeal := fun m g _ => Cert.KernelAinIdeal.Gen.frame m g

theorem quiescent_ReferenceAinIdeal : Cert.quiescent_ReferenceAinIdeal := fun m g _ =>
  (θ_run Cert.ReferenceAinIdeal.defs _ _).mono (fun r h => ⟨fun c => (h c).2.2.2, sem_eq_zero_of_no_sems (by decide) r.2⟩)
    (Cert.ReferenceAinIdeal.Value.run (F := Ideal) m g)

/-- The two named constants. -/
theorem preserves_KernelAin_KernelAinIdeal : Cert.preserves_KernelAin_KernelAinIdeal :=
  ⟨IdealRules.named_const.statement Cert.KernelAinIdeal.κ "inv_bias1" .f32 0x3FC48605#32
      (((5463681 / 8388608)⁻¹ : ℝ) : EReal) rfl,
    IdealRules.named_const.statement Cert.KernelAinIdeal.κ "inv_bias2" .f32 0x42C8E6D3#32
      (((2672307 / 268435456)⁻¹ : ℝ) : EReal) rfl⟩

theorem algebraic_KernelAinIdeal_ReferenceAinIdeal : Cert.algebraic_KernelAinIdeal_ReferenceAinIdeal := by
  intro m g m' g' _ hagree
  refine ⟨_, _, _, Cert.KernelAinIdeal.Value.run (F := Ideal) m g, ?_⟩
  refine (θ_run Cert.ReferenceAinIdeal.defs _ _).mono (fun r h c => ?_) (Cert.ReferenceAinIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAinIdeal.Update.update_eq _ _ _ _
  · rw [e2]
    exact Cert.ReferenceAinIdeal.Update.moment1_eq _ _
  · rw [e3]
    exact Cert.ReferenceAinIdeal.Update.moment2_eq _ _

end Cert.Proof

end
-- ==== Proof.AdamWBranch.lean ====
/-
  The AdamW step of a weight of 256 rows on one device: the two branch weights and the output weight: the kernel's update and both moments are the reference's, element by element.
-/
module

public import proofs.«01_k».proof.Defs
public import proofs.«01_k».proof.Proof.Inverses
public import proofs.«01_k».proof.Proof.Gen.KernelAbranch.Frame
public import proofs.«01_k».proof.Proof.Gen.KernelAbranchIdeal.Value
public import proofs.«01_k».proof.Proof.Gen.ReferenceAbranchIdeal.Run
public import Idealize.ShloMosaic.Lib.Quiescent

@[expose] public section

noncomputable section

open Idealize.ShloMosaic Idealize.ShloMosaic.TcCoe Idealize.SL.Sem

namespace Cert.ReferenceAbranchIdeal.Update

open Cert.ReferenceAbranchIdeal Cert.ReferenceAbranchIdeal.Gen

/-- The kernel's first named constant is the inverse of the first bias correction. -/
theorem inv_bias1 : Named.named (F := Ideal) Cert.KernelAbranchIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAbranchIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S1x256x1024 .f32 :=
  broadcastInDim S1x256x1024 ![] bcast_S_S1x256x1024 (constant S_ .f32 b)

/-- The reference's first moment. -/
abbrev moment1 (g m : FVec Ideal S1x256x1024 .f32) : FVec Ideal S1x256x1024 .f32 :=
  addf (mulf (all 0x3F666666#32) m) (mulf (all 0x3DCCCCCD#32) g)

/-- The reference's second moment. -/
abbrev moment2 (g v : FVec Ideal S1x256x1024 .f32) : FVec Ideal S1x256x1024 .f32 :=
  addf (mulf (all 0x3F7FBE77#32) v) (mulf (all 0x3A83126F#32) (mulf g g))

/-- The first moments agree. -/
theorem moment1_eq (g m : FVec Ideal S1x256x1024 .f32) : moment1 g m = Cert.KernelAbranchIdeal.Value.G5 (F := Ideal) g m := rfl

/-- The second moments agree. -/
theorem moment2_eq (g v : FVec Ideal S1x256x1024 .f32) : moment2 g v = Cert.KernelAbranchIdeal.Value.G6 (F := Ideal) g v := rfl

/-- The updates agree: the reference's quotients by the bias corrections are products with their inverses. -/
theorem update_eq (w g m v : FVec Ideal S1x256x1024 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAbranchIdeal.Value.G4 (F := Ideal) g m v w := by
  funext i
  simp only [Cert.KernelAbranchIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAbranchIdeal.Update

namespace Cert.Proof

theorem quiescent_KernelAbranch : Cert.quiescent_KernelAbranch := fun m g _ => Cert.KernelAbranch.Gen.frame m g

theorem quiescent_KernelAbranchIdeal : Cert.quiescent_KernelAbranchIdeal := fun m g _ => Cert.KernelAbranchIdeal.Gen.frame m g

theorem quiescent_ReferenceAbranchIdeal : Cert.quiescent_ReferenceAbranchIdeal := fun m g _ =>
  (θ_run Cert.ReferenceAbranchIdeal.defs _ _).mono (fun r h => ⟨fun c => (h c).2.2.2, sem_eq_zero_of_no_sems (by decide) r.2⟩)
    (Cert.ReferenceAbranchIdeal.Value.run (F := Ideal) m g)

/-- The two named constants. -/
theorem preserves_KernelAbranch_KernelAbranchIdeal : Cert.preserves_KernelAbranch_KernelAbranchIdeal :=
  ⟨IdealRules.named_const.statement Cert.KernelAbranchIdeal.κ "inv_bias1" .f32 0x3FC48605#32
      (((5463681 / 8388608)⁻¹ : ℝ) : EReal) rfl,
    IdealRules.named_const.statement Cert.KernelAbranchIdeal.κ "inv_bias2" .f32 0x42C8E6D3#32
      (((2672307 / 268435456)⁻¹ : ℝ) : EReal) rfl⟩

theorem algebraic_KernelAbranchIdeal_ReferenceAbranchIdeal : Cert.algebraic_KernelAbranchIdeal_ReferenceAbranchIdeal := by
  intro m g m' g' _ hagree
  refine ⟨_, _, _, Cert.KernelAbranchIdeal.Value.run (F := Ideal) m g, ?_⟩
  refine (θ_run Cert.ReferenceAbranchIdeal.defs _ _).mono (fun r h c => ?_) (Cert.ReferenceAbranchIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAbranchIdeal.Update.update_eq _ _ _ _
  · rw [e2]
    exact Cert.ReferenceAbranchIdeal.Update.moment1_eq _ _
  · rw [e3]
    exact Cert.ReferenceAbranchIdeal.Update.moment2_eq _ _

end Cert.Proof

end
-- ==== Proof.AdamWUp.lean ====
/-
  The AdamW step of the feed-forward input weight: the kernel's update and both moments are the reference's, element by element.
-/
module

public import proofs.«01_k».proof.Defs
public import proofs.«01_k».proof.Proof.Inverses
public import proofs.«01_k».proof.Proof.Gen.KernelAup.Frame
public import proofs.«01_k».proof.Proof.Gen.KernelAupIdeal.Value
public import proofs.«01_k».proof.Proof.Gen.ReferenceAupIdeal.Run
public import Idealize.ShloMosaic.Lib.Quiescent

@[expose] public section

noncomputable section

open Idealize.ShloMosaic Idealize.ShloMosaic.TcCoe Idealize.SL.Sem

namespace Cert.ReferenceAupIdeal.Update

open Cert.ReferenceAupIdeal Cert.ReferenceAupIdeal.Gen

/-- The kernel's first named constant is the inverse of the first bias correction. -/
theorem inv_bias1 : Named.named (F := Ideal) Cert.KernelAupIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAupIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S1x1024x1408 .f32 :=
  broadcastInDim S1x1024x1408 ![] bcast_S_S1x1024x1408 (constant S_ .f32 b)

/-- The reference's first moment. -/
abbrev moment1 (g m : FVec Ideal S1x1024x1408 .f32) : FVec Ideal S1x1024x1408 .f32 :=
  addf (mulf (all 0x3F666666#32) m) (mulf (all 0x3DCCCCCD#32) g)

/-- The reference's second moment. -/
abbrev moment2 (g v : FVec Ideal S1x1024x1408 .f32) : FVec Ideal S1x1024x1408 .f32 :=
  addf (mulf (all 0x3F7FBE77#32) v) (mulf (all 0x3A83126F#32) (mulf g g))

/-- The first moments agree. -/
theorem moment1_eq (g m : FVec Ideal S1x1024x1408 .f32) : moment1 g m = Cert.KernelAupIdeal.Value.G5 (F := Ideal) g m := rfl

/-- The second moments agree. -/
theorem moment2_eq (g v : FVec Ideal S1x1024x1408 .f32) : moment2 g v = Cert.KernelAupIdeal.Value.G6 (F := Ideal) g v := rfl

/-- The updates agree: the reference's quotients by the bias corrections are products with their inverses. -/
theorem update_eq (w g m v : FVec Ideal S1x1024x1408 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAupIdeal.Value.G4 (F := Ideal) g m v w := by
  funext i
  simp only [Cert.KernelAupIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAupIdeal.Update

namespace Cert.Proof

theorem quiescent_KernelAup : Cert.quiescent_KernelAup := fun m g _ => Cert.KernelAup.Gen.frame m g

theorem quiescent_KernelAupIdeal : Cert.quiescent_KernelAupIdeal := fun m g _ => Cert.KernelAupIdeal.Gen.frame m g

theorem quiescent_ReferenceAupIdeal : Cert.quiescent_ReferenceAupIdeal := fun m g _ =>
  (θ_run Cert.ReferenceAupIdeal.defs _ _).mono (fun r h => ⟨fun c => (h c).2.2.2, sem_eq_zero_of_no_sems (by decide) r.2⟩)
    (Cert.ReferenceAupIdeal.Value.run (F := Ideal) m g)

/-- The two named constants. -/
theorem preserves_KernelAup_KernelAupIdeal : Cert.preserves_KernelAup_KernelAupIdeal :=
  ⟨IdealRules.named_const.statement Cert.KernelAupIdeal.κ "inv_bias1" .f32 0x3FC48605#32
      (((5463681 / 8388608)⁻¹ : ℝ) : EReal) rfl,
    IdealRules.named_const.statement Cert.KernelAupIdeal.κ "inv_bias2" .f32 0x42C8E6D3#32
      (((2672307 / 268435456)⁻¹ : ℝ) : EReal) rfl⟩

theorem algebraic_KernelAupIdeal_ReferenceAupIdeal : Cert.algebraic_KernelAupIdeal_ReferenceAupIdeal := by
  intro m g m' g' _ hagree
  refine ⟨_, _, _, Cert.KernelAupIdeal.Value.run (F := Ideal) m g, ?_⟩
  refine (θ_run Cert.ReferenceAupIdeal.defs _ _).mono (fun r h c => ?_) (Cert.ReferenceAupIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAupIdeal.Update.update_eq _ _ _ _
  · rw [e2]
    exact Cert.ReferenceAupIdeal.Update.moment1_eq _ _
  · rw [e3]
    exact Cert.ReferenceAupIdeal.Update.moment2_eq _ _

end Cert.Proof

end
-- ==== Proof.AdamWDown.lean ====
/-
  The AdamW step of the feed-forward output weight: the kernel's update and both moments are the reference's, element by element.
-/
module

public import proofs.«01_k».proof.Defs
public import proofs.«01_k».proof.Proof.Inverses
public import proofs.«01_k».proof.Proof.Gen.KernelAdown.Frame
public import proofs.«01_k».proof.Proof.Gen.KernelAdownIdeal.Value
public import proofs.«01_k».proof.Proof.Gen.ReferenceAdownIdeal.Run
public import Idealize.ShloMosaic.Lib.Quiescent

@[expose] public section

noncomputable section

open Idealize.ShloMosaic Idealize.ShloMosaic.TcCoe Idealize.SL.Sem

namespace Cert.ReferenceAdownIdeal.Update

open Cert.ReferenceAdownIdeal Cert.ReferenceAdownIdeal.Gen

/-- The kernel's first named constant is the inverse of the first bias correction. -/
theorem inv_bias1 : Named.named (F := Ideal) Cert.KernelAdownIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAdownIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S1x704x1024 .f32 :=
  broadcastInDim S1x704x1024 ![] bcast_S_S1x704x1024 (constant S_ .f32 b)

/-- The reference's first moment. -/
abbrev moment1 (g m : FVec Ideal S1x704x1024 .f32) : FVec Ideal S1x704x1024 .f32 :=
  addf (mulf (all 0x3F666666#32) m) (mulf (all 0x3DCCCCCD#32) g)

/-- The reference's second moment. -/
abbrev moment2 (g v : FVec Ideal S1x704x1024 .f32) : FVec Ideal S1x704x1024 .f32 :=
  addf (mulf (all 0x3F7FBE77#32) v) (mulf (all 0x3A83126F#32) (mulf g g))

/-- The first moments agree. -/
theorem moment1_eq (g m : FVec Ideal S1x704x1024 .f32) : moment1 g m = Cert.KernelAdownIdeal.Value.G5 (F := Ideal) g m := rfl

/-- The second moments agree. -/
theorem moment2_eq (g v : FVec Ideal S1x704x1024 .f32) : moment2 g v = Cert.KernelAdownIdeal.Value.G6 (F := Ideal) g v := rfl

/-- The updates agree: the reference's quotients by the bias corrections are products with their inverses. -/
theorem update_eq (w g m v : FVec Ideal S1x704x1024 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAdownIdeal.Value.G4 (F := Ideal) g m v w := by
  funext i
  simp only [Cert.KernelAdownIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAdownIdeal.Update

namespace Cert.Proof

theorem quiescent_KernelAdown : Cert.quiescent_KernelAdown := fun m g _ => Cert.KernelAdown.Gen.frame m g

theorem quiescent_KernelAdownIdeal : Cert.quiescent_KernelAdownIdeal := fun m g _ => Cert.KernelAdownIdeal.Gen.frame m g

theorem quiescent_ReferenceAdownIdeal : Cert.quiescent_ReferenceAdownIdeal := fun m g _ =>
  (θ_run Cert.ReferenceAdownIdeal.defs _ _).mono (fun r h => ⟨fun c => (h c).2.2.2, sem_eq_zero_of_no_sems (by decide) r.2⟩)
    (Cert.ReferenceAdownIdeal.Value.run (F := Ideal) m g)

/-- The two named constants. -/
theorem preserves_KernelAdown_KernelAdownIdeal : Cert.preserves_KernelAdown_KernelAdownIdeal :=
  ⟨IdealRules.named_const.statement Cert.KernelAdownIdeal.κ "inv_bias1" .f32 0x3FC48605#32
      (((5463681 / 8388608)⁻¹ : ℝ) : EReal) rfl,
    IdealRules.named_const.statement Cert.KernelAdownIdeal.κ "inv_bias2" .f32 0x42C8E6D3#32
      (((2672307 / 268435456)⁻¹ : ℝ) : EReal) rfl⟩

theorem algebraic_KernelAdownIdeal_ReferenceAdownIdeal : Cert.algebraic_KernelAdownIdeal_ReferenceAdownIdeal := by
  intro m g m' g' _ hagree
  refine ⟨_, _, _, Cert.KernelAdownIdeal.Value.run (F := Ideal) m g, ?_⟩
  refine (θ_run Cert.ReferenceAdownIdeal.defs _ _).mono (fun r h c => ?_) (Cert.ReferenceAdownIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAdownIdeal.Update.update_eq _ _ _ _
  · rw [e2]
    exact Cert.ReferenceAdownIdeal.Update.moment1_eq _ _
  · rw [e3]
    exact Cert.ReferenceAdownIdeal.Update.moment2_eq _ _

end Cert.Proof

end
-- ==== Proof.AdamWSmall.lean ====
/-
  The AdamW step of the small weights, packed in one array: the kernel's update and both moments are the reference's, element by element.
-/
module

public import proofs.«01_k».proof.Defs
public import proofs.«01_k».proof.Proof.Inverses
public import proofs.«01_k».proof.Proof.Gen.KernelAsmall.Frame
public import proofs.«01_k».proof.Proof.Gen.KernelAsmallIdeal.Value
public import proofs.«01_k».proof.Proof.Gen.ReferenceAsmallIdeal.Run
public import Idealize.ShloMosaic.Lib.Quiescent

@[expose] public section

noncomputable section

open Idealize.ShloMosaic Idealize.ShloMosaic.TcCoe Idealize.SL.Sem

namespace Cert.ReferenceAsmallIdeal.Update

open Cert.ReferenceAsmallIdeal Cert.ReferenceAsmallIdeal.Gen

/-- The kernel's first named constant is the inverse of the first bias correction. -/
theorem inv_bias1 : Named.named (F := Ideal) Cert.KernelAsmallIdeal.κ "inv_bias1" (φ := .f32) 0x3FC48605#32
    = (((5463681 / 8388608)⁻¹ : ℝ) : EReal) :=
  IdealRules.named_const.ideal_named_scalar _ _ _ _ rfl

/-- The kernel's second named constant is the inverse of the second bias correction. -/
theorem inv_bias2 : Named.named (F := Ideal) Cert.KernelAsmallIdeal.κ "inv_bias2" (φ := .f32) 0x42C8E6D3#32
    = (((2672307 / 268435456)⁻¹ : ℝ) : EReal) :=
  IdealRules.named_const.ideal_named_scalar _ _ _ _ rfl

/-- A constant of every element. -/
abbrev all (b : BitVec 32) : FVec Ideal S688x128 .f32 :=
  broadcastInDim S688x128 ![] bcast_S_S688x128 (constant S_ .f32 b)

/-- The reference's first moment. -/
abbrev moment1 (g m : FVec Ideal S688x128 .f32) : FVec Ideal S688x128 .f32 :=
  addf (mulf (all 0x3F666666#32) m) (mulf (all 0x3DCCCCCD#32) g)

/-- The reference's second moment. -/
abbrev moment2 (g v : FVec Ideal S688x128 .f32) : FVec Ideal S688x128 .f32 :=
  addf (mulf (all 0x3F7FBE77#32) v) (mulf (all 0x3A83126F#32) (mulf g g))

/-- The first moments agree. -/
theorem moment1_eq (g m : FVec Ideal S688x128 .f32) : moment1 g m = Cert.KernelAsmallIdeal.Value.G5 (F := Ideal) g m := rfl

/-- The second moments agree. -/
theorem moment2_eq (g v : FVec Ideal S688x128 .f32) : moment2 g v = Cert.KernelAsmallIdeal.Value.G6 (F := Ideal) g v := rfl

/-- The updates agree: the reference's quotients by the bias corrections are products with their inverses. -/
theorem update_eq (w g m v : FVec Ideal S688x128 .f32) :
    mulf (all 0xBA83126F#32) (addf (Host.divf (Host.divf (moment1 g m) (all 0x3F26BD02#32))
      (addf (Host.sqrt (Host.divf (moment2 g v) (all 0x3C231ACC#32))) (all 0x322BCC77#32))) (mulf (all 0x3C23D70A#32) w))
    = Cert.KernelAsmallIdeal.Value.G4 (F := Ideal) g m v w := by
  funext i
  simp only [Cert.KernelAsmallIdeal.Value.G4, all, moment1, moment2, mulf, addf, Host.divf, Host.sqrt, broadcastInDim, constant,
    Ideal.hostDivf_def, Ideal.divf_def, Ideal.sqrt_def, Ideal.hostUnary_sqrt_def, Ideal.mulf_def, Ideal.addf_def,
    Ideal.ofBits_def, AdamW.div_bias1, AdamW.div_bias2, inv_bias1, inv_bias2]

end Cert.ReferenceAsmallIdeal.Update

namespace Cert.Proof

theorem quiescent_KernelAsmall : Cert.quiescent_KernelAsmall := fun m g _ => Cert.KernelAsmall.Gen.frame m g

theorem quiescent_KernelAsmallIdeal : Cert.quiescent_KernelAsmallIdeal := fun m g _ => Cert.KernelAsmallIdeal.Gen.frame m g

theorem quiescent_ReferenceAsmallIdeal : Cert.quiescent_ReferenceAsmallIdeal := fun m g _ =>
  (θ_run Cert.ReferenceAsmallIdeal.defs _ _).mono (fun r h => ⟨fun c => (h c).2.2.2, sem_eq_zero_of_no_sems (by decide) r.2⟩)
    (Cert.ReferenceAsmallIdeal.Value.run (F := Ideal) m g)

/-- The two named constants. -/
theorem preserves_KernelAsmall_KernelAsmallIdeal : Cert.preserves_KernelAsmall_KernelAsmallIdeal :=
  ⟨IdealRules.named_const.statement Cert.KernelAsmallIdeal.κ "inv_bias1" .f32 0x3FC48605#32
      (((5463681 / 8388608)⁻¹ : ℝ) : EReal) rfl,
    IdealRules.named_const.statement Cert.KernelAsmallIdeal.κ "inv_bias2" .f32 0x42C8E6D3#32
      (((2672307 / 268435456)⁻¹ : ℝ) : EReal) rfl⟩

theorem algebraic_KernelAsmallIdeal_ReferenceAsmallIdeal : Cert.algebraic_KernelAsmallIdeal_ReferenceAsmallIdeal := by
  intro m g m' g' _ hagree
  refine ⟨_, _, _, Cert.KernelAsmallIdeal.Value.run (F := Ideal) m g, ?_⟩
  refine (θ_run Cert.ReferenceAsmallIdeal.defs _ _).mono (fun r h c => ?_) (Cert.ReferenceAsmallIdeal.Value.run (F := Ideal) m' g')
  obtain ⟨h0, h1, h2, hargs⟩ := h c
  obtain ⟨e0, e1, e2, e3⟩ := hagree c
  refine ⟨h0.trans ?_, h1.trans ?_, h2.trans ?_, hargs⟩ <;> rw [e1]
  · rw [e0, e2, e3]
    exact Cert.ReferenceAsmallIdeal.Update.update_eq _ _ _ _
  · rw [e2]
    exact Cert.ReferenceAsmallIdeal.Update.moment1_eq _ _
  · rw [e3]
    exact Cert.ReferenceAsmallIdeal.Update.moment2_eq _ _

end Cert.Proof

end
-- ==== Proof.FirstNormStep.lean ====
/- The gradient of the first norm: one step of the kernel, and the rows that it accumulates, at a grid point. -/
module

public import proofs.«01_k».proof.Defs
public import proofs.«01_k».proof.Proof.NormGradient
public import proofs.«01_k».proof.Proof.RowStores
public import proofs.«01_k».proof.Proof.Gen.Kernel1Ideal.Value
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen Cert.Rows

variable (m : (ℓ : Loc nD τ sig) → Buf (Elt Ideal) ℓ)

/-- The block of each window at grid point `t`: the first tile is the context's, tile `t` after it is tile `t - 1` of the sequence. -/
theorem idx : ∀ t : Fin cfg0.N, win0_0.index t = ![0, 0] ∧ win0_1.index t = ![t.val - 1, 0] ∧ win0_2.index t = ![t.val, 0]
    ∧ win0_3.index t = ![t.val, 0] ∧ win0_4.index t = ![t.val - 1, 0] ∧ win0_5.index t = ![0, 0] ∧ win0_6.index t = ![0, 0]
    ∧ win0_7.index t = ![t.val - 1, 0] ∧ win0_8.index t = ![0, 0] :=
  (by decide +kernel : ∀ t : Fin grid0.N, _)

/-- The kernel's test for the context's tile. -/
def isCtx (t : Fin cfg0.N) : BitVec 1 := Scalar.cmpi .slt (BitVec.ofNat 32 (grid0.coords t 0).val) 1#32

theorem isCtx_eq : ∀ t : Fin cfg0.N, isCtx t = if t.val = 0 then 1#1 else 0#1 :=
  (by decide +kernel : ∀ t : Fin grid0.N, _)

theorem select_zero {α : Type} (t : Fin cfg0.N) (h : t.val = 0) (a b : α) : Scalar.select (isCtx t) a b = a := by
  rw [isCtx_eq, if_pos h]; rfl

theorem select_pos {α : Type} (t : Fin cfg0.N) (h : ¬ t.val = 0) (a b : α) : Scalar.select (isCtx t) a b = b := by
  rw [isCtx_eq, if_neg h]; rfl

/-- What one grid point does to the rows of the accumulator; its shift and scale go to the rows from `a` on. -/
def step (a : ℕ) (t : Fin cfg0.N) (x0 x1 : FVec Ideal S256x1024 .f32) (x2 x3 : FVec Ideal S256x1024 .bf16) (x5 : FVec Ideal S1x1024 .f32)
    (x6 : FVec Ideal S8x1024 .f32) (X : S8x1024.Idx → EReal) : S8x1024.Idx → EReal :=
  put (put (put (put (put X a (k0_pay9 (F := Ideal) x2 x3 (row X a)))
    (a + 1) (k0_pay10 (F := Ideal) (grid0.coords t) x0 x1 x5 x2 x3 (row X (a + 1))))
    5 (k0_pay13 (F := Ideal) (k0_pay7 x2 x3) (row X 5)))
    6 (k0_pay14 (F := Ideal) (k0_pay8 (grid0.coords t) x0 x1 x5 x2 x3) (row X 6)))
    4 (k0_pay16 (F := Ideal) (isCtx t) (k0_pay5 (grid0.coords t) x0 x1) (k0_pay6 x2 x3) (row x6 1) (row x6 3) (row X 4))

theorem step_add (a : ℕ) (t : Fin cfg0.N) (x0 x1 : FVec Ideal S256x1024 .f32) (x2 x3 : FVec Ideal S256x1024 .bf16) (x5 : FVec Ideal S1x1024 .f32)
    (x6 : FVec Ideal S8x1024 .f32) (X : S8x1024.Idx → EReal) (y : S8x1024.Idx) :
    step a t x0 x1 x2 x3 x5 x6 X y = X y + step a t x0 x1 x2 x3 x5 x6 (fun _ => 0) y := by
  have hy : ∀ o : ℕ, (y 0).val = o → X y = row X o (ix2 0 (y 1)) := fun o h =>
    congrArg X (funext fun a => by revert a; exact Fin.forall_fin_two.mpr ⟨Fin.ext (by rw [h]; exact (Nat.mod_eq_of_lt (h ▸ (y 0).isLt)).symm), rfl⟩)
  have hz : ∀ o : ℕ, row (fun _ => 0) o = fun _ => 0 := fun o => rfl
  unfold step
  simp only [put_at]
  split_ifs with h4 h6 h5 h1 h0
  · rw [hy 4 h4, hz]; pointwise [k0_pay16]
  · rw [hy 6 h6, hz]; pointwise [k0_pay14]
  · rw [hy 5 h5, hz]; pointwise [k0_pay13]
  · rw [hy (a + 1) h1, hz]; pointwise [k0_pay10]
  · rw [hy a h0, hz]; pointwise [k0_pay9]
  · exact (add_zero _).symm

theorem acc_first (c : Dev nD) (t : Fin cfg0.N) (h0 : t.val % 65 = 0) : (outsAt0 m c t.val t.isLt).2
    = step 0 t (iblk m c 0 t) (iblk m c 1 t) (iblk m c 2 t) (iblk m c 3 t) (iblk m c 5 t) (iblk m c 6 t) (fun _ => 0) := by
  have hz : k0_pay2 (F := Ideal) = fun _ => (0 : EReal) := by funext j; pointwise [k0_pay2]
  rw [outsAt0_A m c t h0 h0 (by have := t.isLt; have : cfg0.N = 65 := rfl; omega)]
  frame_out
  rw [hz]
  simp only [readCov_row (ms0_8 t).view 0 (by decide), readCov_row (ms0_8 t).view 1 (by decide), readCov_row (ms0_8 t).view 4 (by decide),
    readCov_row (ms0_8 t).view 5 (by decide), readCov_row (ms0_8 t).view 6 (by decide), ld_row _ 1 (by decide), ld_row _ 3 (by decide), canon_row (ms0_8 t).view]
  simp (disch := decide) only [View.canon_cons_unit_lit', row_put_ne]
  rfl

theorem acc_next (c : Dev nD) (t : Fin cfg0.N) (h0 : ¬ t.val % 65 = 0) : (outsAt0 m c t.val t.isLt).2
    = step 2 t (iblk m c 0 t) (iblk m c 1 t) (iblk m c 2 t) (iblk m c 3 t) (iblk m c 5 t) (iblk m c 6 t)
      (outsAt0 m c (t.val - 1) (Nat.lt_of_le_of_lt (Nat.sub_le _ _) t.isLt)).2 := by
  rw [outsAt0_B m c t h0 h0 (by omega)]
  frame_out
  simp only [read_writes_row, ld_row _ 1 (by decide), ld_row _ 2 (by decide), ld_row _ 3 (by decide), ld_row _ 4 (by decide), ld_row _ 5 (by decide), ld_row _ 6 (by decide)]
  rw [View.writes_nil, Memref.IsWhole.read_unread]
  rfl

end Cert.Kernel1Ideal.Value
end
-- ==== Proof.FirstNormGradient.lean ====
/- The gradient of the first norm: the gradient of the input equals the derivative of the forward lines. -/
module

public import proofs.«01_k».proof.Defs
public import proofs.«01_k».proof.Proof.NormGradient
public import proofs.«01_k».proof.Proof.RowStores
public import proofs.«01_k».proof.Proof.FirstNormStep
public import proofs.«01_k».proof.Proof.Gen.Reference1Ideal.Run
public import proofs.«01_k».proof.Proof.Gen.Reference1Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen Cert.Rows Cert.Norm

variable (m : (ℓ : Loc nD τ sig) → Buf (Elt Ideal) ℓ)

abbrev A0 (c : Dev nD) : S256x1024.Idx → EReal := m ((c : Thread nD τ).loc main_arg0)
abbrev A1 (c : Dev nD) : S16384x1024.Idx → EReal := m ((c : Thread nD τ).loc main_arg1)
abbrev A2 (c : Dev nD) : S16640x1024.Idx → EReal := m ((c : Thread nD τ).loc main_arg2)
abbrev A3 (c : Dev nD) : S16640x1024.Idx → EReal := m ((c : Thread nD τ).loc main_arg3)
abbrev A4 (c : Dev nD) : S16384x1024.Idx → EReal := m ((c : Thread nD τ).loc main_arg4)
abbrev A5 (c : Dev nD) : S1x1024.Idx → EReal := m ((c : Thread nD τ).loc main_arg5)
abbrev A6 (c : Dev nD) : S8x1024.Idx → EReal := m ((c : Thread nD τ).loc main_arg6)

/-- Row `k` of context and sequence, the context first. -/
def hrow (c : Dev nD) (k : Fin 16640) : Fin 1024 → EReal :=
  fun x => if h : k.val < 256 then A0 m c (ix2 ⟨k.val, h⟩ x) else A1 m c (ix2 ⟨k.val - 256, by omega⟩ x)

/-- The scale of the modulation that row `k` gets. -/
def scale (c : Dev nD) (k : Fin 16640) : Fin 1024 → EReal := fun x => if k.val < 256 then A6 m c (ix2 1 x) else A6 m c (ix2 3 x)

/-- The gradient that reaches row `k`, from both of its readers. -/
def drow (c : Dev nD) (k : Fin 16640) : Fin 1024 → EReal := fun x => A2 m c (ix2 k x) + A3 m c (ix2 k x)

/-- The gradient of the normed row, before the modulation's scale and the weight. -/
def nrow (c : Dev nD) (k : Fin 16640) : Fin 1024 → EReal := fun x => drow m c k x * (1 + scale m c k x)

/-- The gradient of the normed row. -/
def erow (c : Dev nD) (k : Fin 16640) : Fin 1024 → EReal := fun x => nrow m c k x * A5 m c (ix2 0 x)

/-- The reciprocal root of a row. -/
def rs (c : Dev nD) (k : Fin 16640) : EReal := Ideal.rsqrt (meanSq (hrow m c k))

/-- The place of row `i` of the sequence. -/
abbrev seq (i : Fin 16384) : Fin 16640 := ⟨i.val + 256, by omega⟩

/-- The place of row `i` of the context. -/
abbrev ctx (i : Fin 256) : Fin 16640 := ⟨i.val, by omega⟩

/-- Where row `i` of the tile of grid point `t` lies. -/
def at_ (t : Fin cfg0.N) (i : Fin 256) : Fin 16640 := ⟨t.val * 256 + i.val, by have := t.isLt; have : cfg0.N = 65 := rfl; omega⟩

theorem hrow_seq (c : Dev nD) (i : Fin 16384) (x : Fin 1024) : hrow m c (seq i) x = A1 m c (ix2 i x) := by
  unfold hrow
  rw [dif_neg (by simp)]
  rfl

theorem scale_seq (c : Dev nD) (i : Fin 16384) (x : Fin 1024) : scale m c (seq i) x = A6 m c (ix2 3 x) := by
  unfold scale
  rw [if_neg (by simp)]

theorem hrow_ctx (c : Dev nD) (i : Fin 256) (x : Fin 1024) : hrow m c (ctx i) x = A0 m c (ix2 i x) := by
  unfold hrow
  rw [dif_pos i.isLt]

theorem scale_ctx (c : Dev nD) (i : Fin 256) (x : Fin 1024) : scale m c (ctx i) x = A6 m c (ix2 1 x) := by
  unfold scale
  rw [if_pos i.isLt]

open Cert.Reference1Ideal.Read in
theorem plain_d (c : Dev nD) (i : Fin 16384) (j : Fin 1024) : val_main_v76 (F := Ideal) (A2 m c) (A3 m c) (ix2 i j) = drow m c (seq i) j := by
  unfold drow
  pointwise [val_main_v76, val_main_v0, val_main_v1, val_main_v2]
  rw [show (⟨256 + i.val, by omega⟩ : Fin 16640) = seq i from Fin.ext (Nat.add_comm _ _)]

open Cert.Reference1Ideal.Read in
theorem plain_n (c : Dev nD) (i : Fin 16384) (j : Fin 1024) :
    val_main_v83 (F := Ideal) (A2 m c) (A3 m c) (A6 m c) (ix2 i j) = nrow m c (seq i) j := by
  unfold nrow
  rw [← plain_d, scale_seq]
  pointwise [val_main_v83, val_main_v82, val_main_v71, val_main_v70, val_main_cst_14, val_main_v54]

open Cert.Reference1Ideal.Read in
theorem plain_e (c : Dev nD) (i : Fin 16384) (j : Fin 1024) :
    val_main_v88 (F := Ideal) (A2 m c) (A3 m c) (A5 m c) (A6 m c) (ix2 i j) = erow m c (seq i) j := by
  unfold erow
  rw [← plain_n]
  pointwise [val_main_v88, val_main_v87]

open Cert.Reference1Ideal.Read in
theorem plain_dx (c : Dev nD) (i : Fin 16384) (j : Fin 1024) :
    val_main_v108 (F := Ideal) (A1 m c) (A2 m c) (A3 m c) (A4 m c) (A5 m c) (A6 m c) (ix2 i j)
      = gradPlain (hrow m c (seq i)) (erow m c (seq i)) (A4 m c (ix2 i j)) j := by
  unfold gradPlain throughRoot meanSq
  pointwise [val_main_v108, val_main_v102, val_main_v101, val_main_v100, val_main_v99, val_main_v98, val_main_v97, val_main_cst_20, val_main_v96,
    val_main_v95, val_main_cst_19, val_main_v94, val_main_v93, val_main_v92, val_main_v91, val_main_v90, val_main_cst_18, val_main_v89,
    val_main_v65, val_main_v64, val_main_cst_13, val_main_v63, val_main_v55, val_main_cst_10, val_main_v56, val_main_v57, val_main_cst_11, val_main_v58, val_main_v59, val_main_cst_12, val_main_v60,
    val_main_v61, val_main_v62]
  simp only [plain_e, hrow_seq, add_assoc]

theorem blk_d2 (c : Dev nD) (t : Fin cfg0.N) (i : Fin 256) (x : Fin 1024) : (iblk m c 2 t (ix2 i x) : EReal) = A2 m c (ix2 (at_ t i) x) := by
  unfold at_
  blk_point [iblk, V, idx t]

theorem blk_d3 (c : Dev nD) (t : Fin cfg0.N) (i : Fin 256) (x : Fin 1024) : (iblk m c 3 t (ix2 i x) : EReal) = A3 m c (ix2 (at_ t i) x) := by
  unfold at_
  blk_point [iblk, V, idx t]

theorem blk_g (c : Dev nD) (t : Fin cfg0.N) (x : Fin 1024) : (iblk m c 5 t (ix2 0 x) : EReal) = A5 m c (ix2 0 x) := by
  blk_point [iblk, V, idx t]

theorem blk_t (c : Dev nD) (t : Fin cfg0.N) (i : Fin 8) (x : Fin 1024) : (iblk m c 6 t (ix2 i x) : EReal) = A6 m c (ix2 i x) := by
  blk_point [iblk, V, idx t]

theorem blk_ctx (c : Dev nD) (t : Fin cfg0.N) (i : Fin 256) (x : Fin 1024) : (iblk m c 0 t (ix2 i x) : EReal) = A0 m c (ix2 i x) := by
  blk_point [iblk, V, idx t]

/-- Where row `i` of tile `t` lies in the sequence, after the context's tile. -/
def sq_ (t : Fin cfg0.N) (i : Fin 256) : Fin 16384 := ⟨(t.val - 1) * 256 + i.val, by have := t.isLt; have : cfg0.N = 65 := rfl; omega⟩

theorem seq_sq (t : Fin cfg0.N) (h : ¬ t.val = 0) (i : Fin 256) : seq (sq_ t i) = at_ t i := by
  unfold sq_ at_ seq
  refine Fin.ext ?_
  show (t.val - 1) * 256 + i.val + 256 = t.val * 256 + i.val
  omega

theorem ctx_at (t : Fin cfg0.N) (h : t.val = 0) (i : Fin 256) : ctx i = at_ t i := by
  unfold at_ ctx
  refine Fin.ext ?_
  show i.val = t.val * 256 + i.val
  omega

theorem blk_x (c : Dev nD) (t : Fin cfg0.N) (i : Fin 256) (x : Fin 1024) : (iblk m c 1 t (ix2 i x) : EReal) = A1 m c (ix2 (sq_ t i) x) := by
  unfold sq_
  blk_point [iblk, V, idx t]

theorem blk_dh (c : Dev nD) (t : Fin cfg0.N) (i : Fin 256) (x : Fin 1024) : (iblk m c 4 t (ix2 i x) : EReal) = A4 m c (ix2 (sq_ t i) x) := by
  unfold sq_
  blk_point [iblk, V, idx t]

theorem emb_dx (t : Fin cfg0.N) (i : Fin 256) (x : Fin 1024) : (win0_7.blk t).view.emb (ix2 i x) = ix2 (sq_ t i) x := by
  unfold sq_
  blk_ext [idx t]

theorem emb_acc (t : Fin cfg0.N) (i : Fin 8) (x : Fin 1024) : (win0_8.blk t).view.emb (ix2 i x) = ix2 i x := by
  blk_ext [idx t]

/-- The row as the tile of grid point `t` chooses it. -/
theorem tile_h (c : Dev nD) (t : Fin cfg0.N) (i : Fin 256) (x : Fin 1024) :
    k0_pay3 (F := Ideal) (grid0.coords t) (iblk m c 0 t) (iblk m c 1 t) (ix2 i x) = hrow m c (at_ t i) x := by
  show (Scalar.select (isCtx t) (iblk m c 0 t) (iblk m c 1 t)) (ix2 i x) = _
  by_cases h : t.val = 0
  · rw [select_zero t h, ← ctx_at t h, hrow_ctx]
    exact blk_ctx m c t i x
  · rw [select_pos t h, ← seq_sq t h, hrow_seq]
    exact blk_x m c t i x

/-- The modulation's scale as the tile chooses it. -/
theorem tile_scale (c : Dev nD) (t : Fin cfg0.N) (i : Fin 256) (x : Fin 1024) :
    (Scalar.select (isCtx t) (row (iblk m c 6 t) 1) (row (iblk m c 6 t) 3)) (ix2 0 x) = scale m c (at_ t i) x := by
  by_cases h : t.val = 0
  · rw [select_zero t h, ← ctx_at t h, scale_ctx]
    exact blk_t m c t 1 x
  · rw [select_pos t h, ← seq_sq t h, scale_seq]
    exact blk_t m c t 3 x

theorem tile_r (c : Dev nD) (t : Fin cfg0.N) (i : Fin 256) :
    k0_pay4 (F := Ideal) (grid0.coords t) (iblk m c 0 t) (iblk m c 1 t) (ix2 i 0) = rs m c (at_ t i) := by
  unfold rs meanSq
  pointwise [k0_pay4]
  simp only [tile_h]

theorem tile_x (c : Dev nD) (t : Fin cfg0.N) (i : Fin 256) (x : Fin 1024) :
    k0_pay5 (F := Ideal) (grid0.coords t) (iblk m c 0 t) (iblk m c 1 t) (ix2 i x) = hrow m c (at_ t i) x * rs m c (at_ t i) := by
  rw [← tile_r m c t, ← tile_h m c t]
  pointwise [k0_pay5]

theorem tile_d (c : Dev nD) (t : Fin cfg0.N) (i : Fin 256) (x : Fin 1024) :
    k0_pay6 (F := Ideal) (iblk m c 2 t) (iblk m c 3 t) (ix2 i x) = drow m c (at_ t i) x := by
  unfold drow
  rw [← blk_d2, ← blk_d3]
  pointwise [k0_pay6]

theorem tile_n (c : Dev nD) (t : Fin cfg0.N) (i : Fin 256) (x : Fin 1024) :
    k0_pay15 (F := Ideal) (isCtx t) (k0_pay6 (iblk m c 2 t) (iblk m c 3 t)) (row (iblk m c 6 t) 1) (row (iblk m c 6 t) 3) (ix2 i x)
      = nrow m c (at_ t i) x := by
  unfold nrow
  rw [← tile_d m c t, ← tile_scale m c t i]
  unfold k0_pay15
  generalize Scalar.select (isCtx t) (row (iblk m c 6 t) 1) (row (iblk m c 6 t) 3) = s
  pointwise []

/-- What the tile adds to the gradient that comes from elsewhere. -/
abbrev tile (c : Dev nD) (t : Fin cfg0.N) : FVec Ideal S256x1024 .f32 :=
  k0_pay1 (F := Ideal) (iblk m c 4 t) (k0_pay17 (isCtx t) (k0_pay4 (grid0.coords t) (iblk m c 0 t) (iblk m c 1 t))
    (k0_pay5 (grid0.coords t) (iblk m c 0 t) (iblk m c 1 t)) (iblk m c 5 t) (k0_pay6 (iblk m c 2 t) (iblk m c 3 t))
    (row (iblk m c 6 t) 1) (row (iblk m c 6 t) 3))

open Cert.Reference1Ideal.Read in
theorem tile_eq (c : Dev nD) (t : Fin cfg0.N) (h : ¬ t.val = 0) (i : Fin 256) (j : Fin 1024) : (tile m c t (ix2 i j) : EReal)
    = val_main_v108 (F := Ideal) (A1 m c) (A2 m c) (A3 m c) (A4 m c) (A5 m c) (A6 m c) (ix2 (sq_ t i) j) := by
  rw [plain_dx, ← grad_eq, seq_sq t h, ← blk_dh]
  unfold gradKernel tile
  pointwise [k0_pay1, k0_pay17]
  simp only [tile_r, tile_x, tile_n, blk_g]
  rfl

open Cert.Reference1Ideal.Read in
theorem final_dx (c : Dev nD) : (dats m 0 c).arrAt 7 (cfgs 0).N
    = val_main_v108 (F := Ideal) (A1 m c) (A2 m c) (A3 m c) (A4 m c) (A5 m c) (A6 m c) := by
  refine (dats m 0 c).arrAt_eq_of_covers 7 _ (by decide +kernel) fun t hf y => ?_
  have h : ¬ t.val = 0 := fun h => by
    have := (by decide +kernel : ∀ t : Fin grid0.N, win0_7.flush t = true → ¬ t.val = 0) t hf
    exact this h
  blk_simp
  obtain ⟨i, j, rfl⟩ : ∃ i j, y = ix2 i j := ⟨y 0, y 1, eq_ix2 y⟩
  refine Eq.trans ?_ (congrArg _ (emb_dx t i j).symm)
  rw [← tile_eq m c t h i j, after0_7]
  have h65 : ¬ t.val % 65 = 0 := fun h' => h (by have ht : t.val < 65 := t.isLt; omega)
  rw [outsAt0_B m c t h65 h65 (by omega)]
  frame_out
  simp only [ld_row _ 1 (by decide), ld_row _ 3 (by decide)]
  rfl

end Cert.Kernel1Ideal.Value
end
-- ==== Proof.FirstNormRows.lean ====
/- The gradient of the first norm: the accumulated rows equal the gradients of the two modulations and of the norm's weight. -/
module

public import proofs.«01_k».proof.Defs
public import proofs.«01_k».proof.Proof.NormGradient
public import proofs.«01_k».proof.Proof.RowStores
public import proofs.«01_k».proof.Proof.FirstNormGradient
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen Cert.Rows Cert.Norm

variable (m : (ℓ : Loc nD τ sig) → Buf (Elt Ideal) ℓ)

/-- The gradient of a row's scale. -/
def srow (c : Dev nD) (k : Fin 16640) : Fin 1024 → EReal := fun x => hrow m c k x * rs m c k * A5 m c (ix2 0 x) * drow m c k x

/-- The gradient of the weight in a row. -/
def wrow (c : Dev nD) (k : Fin 16640) : Fin 1024 → EReal := fun x => hrow m c k x * rs m c k * nrow m c k x

/-- What row `k` of context and sequence adds to column `j` of row `o` of the accumulator. -/
def part_ (c : Dev nD) (o : ℕ) (j : Fin 1024) (k : Fin 16640) : EReal :=
  if o = 0 then (if k.val < 256 then drow m c k j else 0)
  else if o = 1 then (if k.val < 256 then srow m c k j else 0)
  else if o = 2 then (if k.val < 256 then 0 else drow m c k j)
  else if o = 3 then (if k.val < 256 then 0 else srow m c k j)
  else if o = 4 then wrow m c k j
  else if o = 5 then drow m c k j
  else if o = 6 then srow m c k j
  else 0

/-- A sum over all rows is the context's sum and the sequence's. -/
theorem sum_split (f : Fin 16640 → EReal) : ∑ k, f k = ∑ i, f (ctx i) + ∑ i, f (seq i) := by
  refine (Fin.sum_univ_add (a := 256) (b := 16384) f).trans (congrArg₂ (· + ·) rfl ?_)
  exact Finset.sum_congr rfl fun i _ => congrArg f (Fin.ext (Nat.add_comm _ _))

open Cert.Reference1Ideal.Read in
theorem ctx_d (c : Dev nD) (i : Fin 256) (j : Fin 1024) : val_main_v26 (F := Ideal) (A2 m c) (A3 m c) (ix2 i j) = drow m c (ctx i) j := by
  unfold drow
  pointwise [val_main_v26, val_main_v0, val_main_v1, val_main_v2]

open Cert.Reference1Ideal.Read in
theorem ctx_x (c : Dev nD) (i : Fin 256) (j : Fin 1024) :
    val_main_v17 (F := Ideal) (A0 m c) (ix2 i j) = hrow m c (ctx i) j * rs m c (ctx i) := by
  unfold rs meanSq
  simp only [hrow_ctx]
  pointwise [val_main_v17, val_main_v16, val_main_v5, val_main_cst, val_main_v6, val_main_v7, val_main_cst_0, val_main_v8, val_main_v9,
    val_main_cst_1, val_main_v10, val_main_v11, val_main_v12]

open Cert.Reference1Ideal.Read in
theorem ctx_n (c : Dev nD) (i : Fin 256) (j : Fin 1024) :
    val_main_v33 (F := Ideal) (A2 m c) (A3 m c) (A6 m c) (ix2 i j) = nrow m c (ctx i) j := by
  unfold nrow
  rw [← ctx_d, scale_ctx]
  pointwise [val_main_v33, val_main_v32, val_main_v21, val_main_v20, val_main_cst_3, val_main_v4]

open Cert.Reference1Ideal.Read in
theorem ctx_shift (c : Dev nD) (j : Fin 1024) :
    val_main_v28 (F := Ideal) (A2 m c) (A3 m c) (ix2 0 j) = ∑ i, drow m c (ctx i) j := by
  pointwise [val_main_v28, val_main_v27, val_main_cst_4]
  simp only [ctx_d]

open Cert.Reference1Ideal.Read in
theorem ctx_scale (c : Dev nD) (j : Fin 1024) :
    val_main_v31 (F := Ideal) (A0 m c) (A2 m c) (A3 m c) (A5 m c) (ix2 0 j) = ∑ i, srow m c (ctx i) j := by
  unfold srow
  pointwise [val_main_v31, val_main_v30, val_main_cst_5, val_main_v29, val_main_v19, val_main_v18]
  simp only [ctx_d, ctx_x]

open Cert.Reference1Ideal.Read in
theorem ctx_weight (c : Dev nD) (j : Fin 1024) :
    val_main_v36 (F := Ideal) (A0 m c) (A2 m c) (A3 m c) (A6 m c) (ix2 0 j) = ∑ i, wrow m c (ctx i) j := by
  unfold wrow
  pointwise [val_main_v36, val_main_v35, val_main_cst_6, val_main_v34]
  simp only [ctx_n, ctx_x]

open Cert.Reference1Ideal.Read in
theorem seq_x (c : Dev nD) (i : Fin 16384) (j : Fin 1024) :
    val_main_v67 (F := Ideal) (A1 m c) (ix2 i j) = hrow m c (seq i) j * rs m c (seq i) := by
  unfold rs meanSq
  simp only [hrow_seq]
  pointwise [val_main_v67, val_main_v66, val_main_v55, val_main_cst_10, val_main_v56, val_main_v57, val_main_cst_11, val_main_v58, val_main_v59,
    val_main_cst_12, val_main_v60, val_main_v61, val_main_v62]

open Cert.Reference1Ideal.Read in
theorem seq_shift (c : Dev nD) (j : Fin 1024) :
    val_main_v78 (F := Ideal) (A2 m c) (A3 m c) (ix2 0 j) = ∑ i, drow m c (seq i) j := by
  pointwise [val_main_v78, val_main_v77, val_main_cst_15]
  simp only [plain_d]

open Cert.Reference1Ideal.Read in
theorem seq_scale (c : Dev nD) (j : Fin 1024) :
    val_main_v81 (F := Ideal) (A1 m c) (A2 m c) (A3 m c) (A5 m c) (ix2 0 j) = ∑ i, srow m c (seq i) j := by
  unfold srow
  pointwise [val_main_v81, val_main_v80, val_main_cst_16, val_main_v79, val_main_v69, val_main_v68]
  simp only [plain_d, seq_x]

open Cert.Reference1Ideal.Read in
theorem seq_weight (c : Dev nD) (j : Fin 1024) :
    val_main_v86 (F := Ideal) (A1 m c) (A2 m c) (A3 m c) (A6 m c) (ix2 0 j) = ∑ i, wrow m c (seq i) j := by
  unfold wrow
  pointwise [val_main_v86, val_main_v85, val_main_cst_17, val_main_v84]
  simp only [plain_n, seq_x]

open Cert.Reference1Ideal.Read in
theorem plain_acc (c : Dev nD) (o : Fin 8) (j : Fin 1024) :
    val_main_v107 (F := Ideal) (A0 m c) (A1 m c) (A2 m c) (A3 m c) (A5 m c) (A6 m c) (ix2 o j) = ∑ k, part_ m c o.val j k := by
  have hc : ∀ i : Fin 256, (ctx i).val < 256 := fun i => i.isLt
  have hs : ∀ i : Fin 16384, ¬ (seq i).val < 256 := fun i => by simp
  rw [sum_split]
  have : o = 0 ∨ o = 1 ∨ o = 2 ∨ o = 3 ∨ o = 4 ∨ o = 5 ∨ o = 6 ∨ o = 7 := by omega
  unfold val_main_v107
  rcases this with rfl | rfl | rfl | rfl | rfl | rfl | rfl | rfl
  · refine Eq.trans ?_ ((ctx_shift m c j).trans ?_)
    · pointwise []
    · simp [part_, hc, hs]
  · refine Eq.trans ?_ ((ctx_scale m c j).trans ?_)
    · pointwise []
    · simp [part_, hc, hs]
  · refine Eq.trans ?_ ((seq_shift m c j).trans ?_)
    · pointwise []
    · simp [part_, hc, hs]
  · refine Eq.trans ?_ ((seq_scale m c j).trans ?_)
    · pointwise []
    · simp [part_, hc, hs]
  · refine Eq.trans ?_ ((congrArg₂ (· + ·) (ctx_weight m c j) (seq_weight m c j)).trans ?_)
    · pointwise [val_main_v103]
    · simp [part_]
  · refine Eq.trans ?_ ((congrArg₂ (· + ·) (ctx_shift m c j) (seq_shift m c j)).trans ?_)
    · pointwise [val_main_v104]
    · simp [part_]
  · refine Eq.trans ?_ ((congrArg₂ (· + ·) (ctx_scale m c j) (seq_scale m c j)).trans ?_)
    · pointwise [val_main_v105]
    · simp [part_]
  · refine Eq.trans (b := 0) ?_ ?_
    · pointwise [val_main_v106, val_main_cst_21]
    · simp [part_]

/-- The first of the two rows that take a tile's own shift and scale: the context's or the sequence's. -/
def base (t : Fin cfg0.N) : ℕ := if t.val = 0 then 0 else 2

/-- A row of the accumulator that is the tile's own takes what the tile's rows add. -/
theorem part_shift (c : Dev nD) (t : Fin cfg0.N) (i : Fin 256) (j : Fin 1024) : part_ m c (base t) j (at_ t i) = drow m c (at_ t i) j := by
  unfold base
  by_cases h : t.val = 0
  · have hk : (at_ t i).val < 256 := by unfold at_; simp [h]
    rw [if_pos h]; simp [part_, hk]
  · have hk : ¬ (at_ t i).val < 256 := by unfold at_; show ¬ t.val * 256 + i.val < 256; omega
    rw [if_neg h]; simp [part_, hk]

theorem part_scale (c : Dev nD) (t : Fin cfg0.N) (i : Fin 256) (j : Fin 1024) : part_ m c (base t + 1) j (at_ t i) = srow m c (at_ t i) j := by
  unfold base
  by_cases h : t.val = 0
  · have hk : (at_ t i).val < 256 := by unfold at_; simp [h]
    rw [if_pos h]; simp [part_, hk]
  · have hk : ¬ (at_ t i).val < 256 := by unfold at_; show ¬ t.val * 256 + i.val < 256; omega
    rw [if_neg h]; simp [part_, hk]

/-- The other rows take nothing. -/
theorem part_none (c : Dev nD) (t : Fin cfg0.N) (i : Fin 256) (j : Fin 1024) (o : ℕ) (h4 : ¬ o = 4) (h5 : ¬ o = 5) (h6 : ¬ o = 6)
    (h1 : ¬ o = base t + 1) (h0 : ¬ o = base t) : part_ m c o j (at_ t i) = 0 := by
  unfold base at h0 h1
  by_cases h : t.val = 0
  · have hk : (at_ t i).val < 256 := by unfold at_; simp [h]
    rw [if_pos h] at h0 h1
    unfold part_
    rw [if_neg h0, if_neg (by omega), if_neg h4, if_neg h5, if_neg h6]
    simp [hk]
  · have hk : ¬ (at_ t i).val < 256 := by unfold at_; show ¬ t.val * 256 + i.val < 256; omega
    rw [if_neg h] at h0 h1
    unfold part_
    rw [if_neg h4, if_neg h5, if_neg h6, if_neg h0, if_neg (show ¬ o = 3 by omega)]
    simp [hk]

theorem tile_scale_row (c : Dev nD) (t : Fin cfg0.N) (j : Fin 1024) :
    k0_pay8 (F := Ideal) (grid0.coords t) (iblk m c 0 t) (iblk m c 1 t) (iblk m c 5 t) (iblk m c 2 t) (iblk m c 3 t) (ix2 0 j)
      = ∑ i, srow m c (at_ t i) j := by
  pointwise [k0_pay8]
  refine Fin.sum_fin_congr fun i => ?_
  rw [tile_d, tile_x, blk_g]
  unfold srow
  rw [mul_assoc, mul_comm]

theorem tile_shift_row (c : Dev nD) (t : Fin cfg0.N) (j : Fin 1024) :
    k0_pay7 (F := Ideal) (iblk m c 2 t) (iblk m c 3 t) (ix2 0 j) = ∑ i, drow m c (at_ t i) j := by
  pointwise [k0_pay7]
  exact Fin.sum_fin_congr fun i => tile_d m c t i j

/-- What one grid point adds: the parts of the rows of its tile. -/
theorem tile_acc (c : Dev nD) (t : Fin cfg0.N) (o : Fin 8) (j : Fin 1024) :
    step (base t) t (iblk m c 0 t) (iblk m c 1 t) (iblk m c 2 t) (iblk m c 3 t) (iblk m c 5 t) (iblk m c 6 t) (fun _ => 0) (ix2 o j)
      = ∑ i, part_ m c o.val j (at_ t i) := by
  have hz : ∀ o : ℕ, row (fun _ => 0) o = fun _ => 0 := fun o => rfl
  unfold step
  simp only [put_at, hz, ix2_0, ix2_1]
  by_cases h4 : o.val = 4
  · refine (if_pos h4).trans ?_
    rw [h4]
    pointwise [k0_pay16]
    refine Fin.sum_fin_congr fun i => ?_
    rw [tile_n, tile_x, mul_comm]
    rfl
  refine (if_neg h4).trans ?_
  by_cases h6 : o.val = 6
  · refine (if_pos h6).trans ?_
    rw [h6]
    pointwise [k0_pay14]
    exact tile_scale_row m c t j
  refine (if_neg h6).trans ?_
  by_cases h5 : o.val = 5
  · refine (if_pos h5).trans ?_
    rw [h5]
    pointwise [k0_pay13]
    exact tile_shift_row m c t j
  refine (if_neg h5).trans ?_
  by_cases h1 : o.val = base t + 1
  · refine (if_pos h1).trans ?_
    rw [h1]
    simp only [part_scale]
    pointwise [k0_pay10]
    exact tile_scale_row m c t j
  refine (if_neg h1).trans ?_
  by_cases h0 : o.val = base t
  · refine (if_pos h0).trans ?_
    rw [h0]
    simp only [part_shift]
    pointwise [k0_pay9]
    exact tile_shift_row m c t j
  refine (if_neg h0).trans ?_
  simp only [part_none m c t _ j o.val h4 h5 h6 h1 h0]
  exact Finset.sum_const_zero.symm

open Cert.Reference1Ideal.Read in
theorem final_acc (c : Dev nD) : (dats m 0 c).arrAt 8 (cfgs 0).N
    = val_main_v107 (F := Ideal) (A0 m c) (A1 m c) (A2 m c) (A3 m c) (A5 m c) (A6 m c) := by
  refine (dats m 0 c).arrAt_eq_of_covers 8 _ (by decide +kernel) fun t hf y => ?_
  have hl := (flush0_8 t).mp hf
  blk_simp
  obtain ⟨o, j, rfl⟩ : ∃ i j, y = ix2 i j := ⟨y 0, y 1, eq_ix2 y⟩
  refine Eq.trans ?_ (congrArg _ (emb_acc t o j).symm)
  rw [after0_8, plain_acc]
  have hb0 : ∀ t : Fin cfg0.N, t.val % 65 = 0 → base t = 0 := fun t h => if_pos (by have ht : t.val < 65 := t.isLt; omega)
  have hb1 : ∀ t : Fin cfg0.N, ¬ t.val % 65 = 0 → base t = 2 := fun t h => if_neg (by omega)
  refine (Pipeline.eq_sum_fin_of_reset_step_apply_of_flush (fun n hn => (outsAt0 m c n hn).2) 65 (fun _ => (0 : EReal))
    (fun t => step (base t) t (iblk m c 0 t) (iblk m c 1 t) (iblk m c 2 t) (iblk m c 3 t) (iblk m c 5 t) (iblk m c 6 t) (fun _ => 0))
    (fun t h y => by rw [hb0 t h]; exact (congrFun (acc_first m c t h) y).trans (zero_add _).symm)
    (fun t h y => by rw [hb1 t h]; exact (congrFun (acc_next m c t h) y).trans (step_add _ _ _ _ _ _ _ _ _ _)) t hl (ix2 o j)).trans ?_
  rw [zero_add]
  refine (Finset.sum_congr rfl fun s _ => tile_acc m c _ o j).trans ?_
  have ht : t.val / 65 = 0 := by have ht : t.val < 65 := t.isLt; omega
  refine Eq.trans (Finset.sum_congr rfl fun s _ => Finset.sum_congr rfl fun i _ => congrArg (part_ m c o.val j) (Fin.ext ?_))
    (Fin.sum_mul_add_fin (n := 256) (S := 65) (part_ m c o.val j))
  show (65 * (t.val / 65) + s.val) * 256 + i.val = s.val * 256 + i.val
  omega

end Cert.Kernel1Ideal.Value
end
-- ==== Proof.FirstNorm.lean ====
/- The gradient of the first norm: the claims. -/
module

public import proofs.«01_k».proof.Defs
public import proofs.«01_k».proof.Proof.NormGradient
public import proofs.«01_k».proof.Proof.RowStores
public import proofs.«01_k».proof.Proof.FirstNormRows
public import proofs.«01_k».proof.Proof.Gen.Kernel1.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

theorem quiescent_Kernel1 : Cert.quiescent_Kernel1 := fun m g _ => Cert.Kernel1.Gen.frame m g

theorem quiescent_Kernel1Ideal : Cert.quiescent_Kernel1Ideal := fun m g _ => Cert.Kernel1Ideal.Gen.frame m g

theorem quiescent_Reference1Ideal : Cert.quiescent_Reference1Ideal := fun m g _ =>
  (θ_run Cert.Reference1Ideal.defs _ _).mono (fun r h => ⟨fun c => (h c).2.2, sem_eq_zero_of_no_sems (by decide) r.2⟩)
    (Cert.Reference1Ideal.Value.run (F := Ideal) m g)

/-- Kernel and reference compute the same two arrays over the extended reals. -/
theorem algebraic_Kernel1Ideal_Reference1Ideal : Cert.algebraic_Kernel1Ideal_Reference1Ideal := by
  pair_intro
  · run_from Cert.Kernel1Ideal.Gen.run_main m g
  · refine (θ_run _ _ _).mono (fun r h c => ?_) (Cert.Reference1Ideal.Value.run m' g')
    obtain ⟨h108, h107, hargs⟩ := h c
    obtain ⟨e0, e1, e2, e3, e4, e5, e6⟩ := hagree c
    refine ⟨h108.trans ?_, h107.trans ?_, hargs⟩
    · rw [Cert.Reference1Ideal.Read.val_main_v108_eq, e1, e2, e3, e4, e5, e6]
      exact (Cert.Kernel1Ideal.Value.final_dx m c).symm
    · rw [Cert.Reference1Ideal.Read.val_main_v107_eq, e0, e1, e2, e3, e5, e6]
      exact (Cert.Kernel1Ideal.Value.final_acc m c).symm

end Cert.Proof
end
-- ==== Proof.LossHeadStep.lean ====
/- The loss head, its value and its gradient: one step of the kernel, and the rows that it accumulates, at a grid point. -/
module

public import proofs.«01_k».proof.Defs
public import proofs.«01_k».proof.Proof.NormGradient
public import proofs.«01_k».proof.Proof.RowStores
public import proofs.«01_k».proof.Proof.Gen.KernelHeadIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelHeadIdeal.Value

open Cert.KernelHeadIdeal Cert.KernelHeadIdeal.Gen Cert.Rows

variable (m : (ℓ : Loc nD τ sig) → Buf (Elt Ideal) ℓ)

/-- The block of each window at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] :=
  (by decide +kernel : ∀ t : Fin grid0.N, _)

/-- What one grid point does to the rows of the accumulator. -/
def step (x0 x2 : FVec Ideal S512x1024 .f32) (x1 : FVec Ideal S512x1024 .bf16) (x3 : FVec Ideal S1x1024 .f32) (x4 : FVec Ideal S8x1024 .f32)
    (X : S8x1024.Idx → EReal) : S8x1024.Idx → EReal :=
  put (put (put X 0 (k0_pay9 (F := Ideal) (k0_pay7 (row X 0)) (k0_pay8 (row x4 0) x1 x0 x3 x2)))
    1 (k0_pay11 (F := Ideal) (k0_pay5 (row x4 0) x1 x0) (k0_pay6 (row x4 0) x1 x0 x3 x2) (row X 1)))
    2 (k0_pay13 (F := Ideal) (k0_pay2 x1) (k0_pay4 (row x4 0) x1 x0) (k0_pay5 (row x4 0) x1 x0) x3 (k0_pay6 (row x4 0) x1 x0 x3 x2) (row X 2))

theorem step_add (x0 x2 : FVec Ideal S512x1024 .f32) (x1 : FVec Ideal S512x1024 .bf16) (x3 : FVec Ideal S1x1024 .f32) (x4 : FVec Ideal S8x1024 .f32)
    (X : S8x1024.Idx → EReal) (y : S8x1024.Idx) : step x0 x2 x1 x3 x4 X y = X y + step x0 x2 x1 x3 x4 (fun _ => 0) y := by
  have hy : ∀ o : ℕ, (y 0).val = o → X y = row X o (ix2 0 (y 1)) := fun o h =>
    congrArg X (funext fun a => by revert a; exact Fin.forall_fin_two.mpr ⟨Fin.ext (by rw [h]; exact (Nat.mod_eq_of_lt (h ▸ (y 0).isLt)).symm), rfl⟩)
  have hz : ∀ o : ℕ, row (fun _ => 0) o = fun _ => 0 := fun o => rfl
  unfold step
  simp only [put_at]
  split_ifs with h2 h1 h0
  · rw [hy 2 h2, hz]; pointwise [k0_pay13]
  · rw [hy 1 h1, hz]; pointwise [k0_pay11]
  · rw [hy 0 h0, hz]; pointwise [k0_pay9, k0_pay7]
  · exact (add_zero _).symm

theorem acc_first (c : Dev nD) (t : Fin cfg0.N) (h0 : t.val % 32 = 0) : (outsAt0 m c t.val t.isLt).2.2
    = step (iblk m c 0 t) (iblk m c 2 t) (iblk m c 1 t) (iblk m c 3 t) (iblk m c 4 t) (fun _ => 0) := by
  have hz : k0_pay1 (F := Ideal) = fun _ => (0 : EReal) := by funext j; pointwise [k0_pay1]
  rw [outsAt0_A m c t h0]
  frame_out
  rw [hz]
  simp only [readCov_row (ms0_7 t).view 0 (by decide), readCov_row (ms0_7 t).view 1 (by decide), readCov_row (ms0_7 t).view 2 (by decide),
    ld_row _ 0 (by decide), canon_row (ms0_7 t).view]
  simp (disch := decide) only [View.canon_cons_unit_lit', row_put_ne]
  rfl

theorem acc_next (c : Dev nD) (t : Fin cfg0.N) (h0 : ¬ t.val % 32 = 0) : (outsAt0 m c t.val t.isLt).2.2
    = step (iblk m c 0 t) (iblk m c 2 t) (iblk m c 1 t) (iblk m c 3 t) (iblk m c 4 t)
      (outsAt0 m c (t.val - 1) (Nat.lt_of_le_of_lt (Nat.sub_le _ _) t.isLt)).2.2 := by
  rw [outsAt0_B m c t h0]
  frame_out
  simp only [read_writes_row, ld_row _ 0 (by decide), ld_row _ 1 (by decide), ld_row _ 2 (by decide)]
  rw [View.writes_nil, Memref.IsWhole.read_unread]
  rfl

end Cert.KernelHeadIdeal.Value
end
-- ==== Proof.LossHeadGradient.lean ====
/- The loss head: the gradients of the residual stream and of the branch equal the derivative of the forward lines. -/
module

public import proofs.«01_k».proof.Defs
public import proofs.«01_k».proof.Proof.NormGradient
public import proofs.«01_k».proof.Proof.RowStores
public import proofs.«01_k».proof.Proof.LossHeadStep
public import proofs.«01_k».proof.Proof.Gen.ReferenceHeadIdeal.Run
public import proofs.«01_k».proof.Proof.Gen.ReferenceHeadIdeal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelHeadIdeal.Value

open Cert.KernelHeadIdeal Cert.KernelHeadIdeal.Gen Cert.Rows Cert.Norm

variable (m : (ℓ : Loc nD τ sig) → Buf (Elt Ideal) ℓ)

abbrev A0 (c : Dev nD) : S16384x1024.Idx → EReal := m ((c : Thread nD τ).loc main_arg0)
abbrev A1 (c : Dev nD) : S16384x1024.Idx → EReal := m ((c : Thread nD τ).loc main_arg1)
abbrev A2 (c : Dev nD) : S16384x1024.Idx → EReal := m ((c : Thread nD τ).loc main_arg2)
abbrev A3 (c : Dev nD) : S1x1024.Idx → EReal := m ((c : Thread nD τ).loc main_arg3)
abbrev A4 (c : Dev nD) : S8x1024.Idx → EReal := m ((c : Thread nD τ).loc main_arg4)

/-- Row `i` of the residual stream after the branch is added. -/
def hrow (c : Dev nD) (i : Fin 16384) : Fin 1024 → EReal :=
  fun x => A0 m c (ix2 i x) + A4 m c (ix2 0 x) * A1 m c (ix2 i x)

/-- The normed row. -/
def xrow (c : Dev nD) (i : Fin 16384) : Fin 1024 → EReal := fun x => hrow m c i x * Ideal.rsqrt (meanSq (hrow m c i))

/-- How far the output is from the target in row `i`. -/
def err (c : Dev nD) (i : Fin 16384) : Fin 1024 → EReal := fun x => xrow m c i x * A3 m c (ix2 0 x) - A2 m c (ix2 i x)

/-- The gradient of the loss in the output. -/
def drow (c : Dev nD) (i : Fin 16384) : Fin 1024 → EReal := fun x => err m c i x * Ideal.ofBits .f32 981467136#32

/-- The gradient of the loss in the normed row. -/
def erow (c : Dev nD) (i : Fin 16384) : Fin 1024 → EReal := fun x => drow m c i x * A3 m c (ix2 0 x)

/-- Where row `i` of the tile of grid point `t` lies. -/
def at_ (t : Fin cfg0.N) (i : Fin 512) : Fin 16384 := ⟨t.val * 512 + i.val, by have := t.isLt; have : cfg0.N = 32 := rfl; omega⟩

theorem bits_half : Ideal.ofBits .f32 1056964608#32 = ((1 / 2 : ℝ) : EReal) := by
  simp [Ideal.ofBits, Ideal.ieee, -EReal.coe_mul]; norm_num

theorem bits_two : Ideal.ofBits .f32 1073741824#32 = ((2 : ℝ) : EReal) := by
  simp [Ideal.ofBits, Ideal.ieee, -EReal.coe_mul]; norm_num

theorem bits_inv : Ideal.ofBits .f32 981467136#32 = ((1 / 1024 : ℝ) : EReal) := by
  simp [Ideal.ofBits, Ideal.ieee, -EReal.coe_mul]; norm_num

/-- Half of twice the mean's factor is the mean's factor. -/
theorem factor (x : EReal) : Ideal.div (Ideal.ofBits .f32 1056964608#32) (Ideal.ofBits .f32 1149239296#32) * (Ideal.ofBits .f32 1073741824#32 * x)
    = x * Ideal.ofBits .f32 981467136#32 := by
  rw [bits_1024, Ideal.div_coe (by norm_num), bits_half, bits_two, bits_inv, ← mul_assoc, ← EReal.coe_mul, ← EReal.coe_mul, mul_comm]
  norm_num

open Cert.ReferenceHeadIdeal.Read in
theorem plain_err (c : Dev nD) (i : Fin 16384) (j : Fin 1024) :
    val_main_v20 (F := Ideal) (A0 m c) (A1 m c) (A2 m c) (A3 m c) (A4 m c) (ix2 i j) = err m c i j := by
  unfold err xrow meanSq
  pointwise [val_main_v20, val_main_v19, val_main_v18, val_main_v17, val_main_v16, val_main_v12, val_main_v11, val_main_v10, val_main_cst_1,
    val_main_v9, val_main_v8, val_main_cst_0, val_main_v7, val_main_v6, val_main_cst, val_main_v5, val_main_v4, val_main_v3, val_main_v2,
    val_main_v1, val_main_v0]
  rfl

open Cert.ReferenceHeadIdeal.Read in
theorem plain_d (c : Dev nD) (i : Fin 16384) (j : Fin 1024) :
    val_main_v34 (F := Ideal) (A0 m c) (A1 m c) (A2 m c) (A3 m c) (A4 m c) (ix2 i j) = drow m c i j := by
  unfold drow
  rw [← plain_err, ← factor]
  pointwise [val_main_v34, val_main_v33, val_main_v32, val_main_v31, val_main_cst_10, val_main_v30, val_main_v29, val_main_cst_9, val_main_cst_8,
    val_main_v23, val_main_v22, val_main_cst_3]

open Cert.ReferenceHeadIdeal.Read in
theorem plain_e (c : Dev nD) (i : Fin 16384) (j : Fin 1024) :
    val_main_v39 (F := Ideal) (A0 m c) (A1 m c) (A2 m c) (A3 m c) (A4 m c) (ix2 i j) = erow m c i j := by
  unfold erow
  rw [← plain_d]
  pointwise [val_main_v39, val_main_v38]

open Cert.ReferenceHeadIdeal.Read in
theorem plain_dh2 (c : Dev nD) (i : Fin 16384) (j : Fin 1024) :
    val_main_v53 (F := Ideal) (A0 m c) (A1 m c) (A2 m c) (A3 m c) (A4 m c) (ix2 i j) = gradPlain (hrow m c i) (erow m c i) 0 j := by
  unfold gradPlain throughRoot meanSq
  rw [zero_add]
  pointwise [val_main_v53, val_main_v52, val_main_v51, val_main_v50, val_main_v49, val_main_v48, val_main_cst_14, val_main_v47, val_main_v46,
    val_main_cst_13, val_main_v45, val_main_v44, val_main_v43, val_main_v42, val_main_v41, val_main_cst_12, val_main_v40,
    val_main_v15, val_main_v14, val_main_cst_2, val_main_v13, val_main_v12, val_main_v11, val_main_v10, val_main_cst_1,
    val_main_v9, val_main_v8, val_main_cst_0, val_main_v7, val_main_v6, val_main_cst, val_main_v5, val_main_v4, val_main_v3, val_main_v2,
    val_main_v1, val_main_v0]
  simp only [plain_e]
  rfl

theorem blk_h1 (c : Dev nD) (t : Fin cfg0.N) (i : Fin 512) (x : Fin 1024) : (iblk m c 0 t (ix2 i x) : EReal) = A0 m c (ix2 (at_ t i) x) := by
  unfold at_
  blk_point [iblk, V, idx t]

theorem blk_f (c : Dev nD) (t : Fin cfg0.N) (i : Fin 512) (x : Fin 1024) : (iblk m c 1 t (ix2 i x) : EReal) = A1 m c (ix2 (at_ t i) x) := by
  unfold at_
  blk_point [iblk, V, idx t]

theorem blk_y (c : Dev nD) (t : Fin cfg0.N) (i : Fin 512) (x : Fin 1024) : (iblk m c 2 t (ix2 i x) : EReal) = A2 m c (ix2 (at_ t i) x) := by
  unfold at_
  blk_point [iblk, V, idx t]

theorem blk_g (c : Dev nD) (t : Fin cfg0.N) (x : Fin 1024) : (iblk m c 3 t (ix2 0 x) : EReal) = A3 m c (ix2 0 x) := by
  blk_point [iblk, V, idx t]

theorem blk_t (c : Dev nD) (t : Fin cfg0.N) (i : Fin 8) (x : Fin 1024) : (iblk m c 4 t (ix2 i x) : EReal) = A4 m c (ix2 i x) := by
  blk_point [iblk, V, idx t]

theorem emb_dh2 (t : Fin cfg0.N) (i : Fin 512) (x : Fin 1024) : (win0_5.blk t).view.emb (ix2 i x) = ix2 (at_ t i) x := by
  unfold at_
  blk_ext [idx t]

theorem emb_df (t : Fin cfg0.N) (i : Fin 512) (x : Fin 1024) : (win0_6.blk t).view.emb (ix2 i x) = ix2 (at_ t i) x := by
  unfold at_
  blk_ext [idx t]

theorem emb_acc (t : Fin cfg0.N) (i : Fin 8) (x : Fin 1024) : (win0_7.blk t).view.emb (ix2 i x) = ix2 i x := by
  blk_ext [idx t]

/-- The row, its reciprocal root, the normed row and the error, as the tile of grid point `t` has them. -/
theorem tile_h (c : Dev nD) (t : Fin cfg0.N) (i : Fin 512) (x : Fin 1024) :
    k0_pay3 (F := Ideal) (row (iblk m c 4 t) 0) (iblk m c 1 t) (iblk m c 0 t) (ix2 i x) = hrow m c (at_ t i) x := by
  unfold hrow
  rw [← blk_h1, ← blk_f, ← blk_t m c t]
  pointwise [k0_pay3, k0_pay2]
  rfl

theorem tile_r (c : Dev nD) (t : Fin cfg0.N) (i : Fin 512) :
    k0_pay4 (F := Ideal) (row (iblk m c 4 t) 0) (iblk m c 1 t) (iblk m c 0 t) (ix2 i 0) = Ideal.rsqrt (meanSq (hrow m c (at_ t i))) := by
  unfold meanSq
  pointwise [k0_pay4]
  simp only [tile_h]

theorem tile_x (c : Dev nD) (t : Fin cfg0.N) (i : Fin 512) (x : Fin 1024) :
    k0_pay5 (F := Ideal) (row (iblk m c 4 t) 0) (iblk m c 1 t) (iblk m c 0 t) (ix2 i x) = xrow m c (at_ t i) x := by
  unfold xrow
  rw [← tile_r m c t, ← tile_h m c t]
  pointwise [k0_pay5]

theorem tile_err (c : Dev nD) (t : Fin cfg0.N) (i : Fin 512) (x : Fin 1024) :
    k0_pay6 (F := Ideal) (row (iblk m c 4 t) 0) (iblk m c 1 t) (iblk m c 0 t) (iblk m c 3 t) (iblk m c 2 t) (ix2 i x) = err m c (at_ t i) x := by
  unfold err
  rw [← tile_x m c t, ← blk_y, ← blk_g m c t]
  pointwise [k0_pay6]

theorem tile_d (c : Dev nD) (t : Fin cfg0.N) (i : Fin 512) (x : Fin 1024) :
    k0_pay10 (F := Ideal) (k0_pay6 (row (iblk m c 4 t) 0) (iblk m c 1 t) (iblk m c 0 t) (iblk m c 3 t) (iblk m c 2 t)) (ix2 i x)
      = drow m c (at_ t i) x := by
  unfold drow
  rw [← tile_err m c t]
  pointwise [k0_pay10]

/-- The gradient of the residual stream as the tile computes it. -/
abbrev tile (c : Dev nD) (t : Fin cfg0.N) : FVec Ideal S512x1024 .f32 :=
  k0_pay12 (F := Ideal) (k0_pay4 (row (iblk m c 4 t) 0) (iblk m c 1 t) (iblk m c 0 t)) (k0_pay5 (row (iblk m c 4 t) 0) (iblk m c 1 t) (iblk m c 0 t))
    (iblk m c 3 t) (k0_pay6 (row (iblk m c 4 t) 0) (iblk m c 1 t) (iblk m c 0 t) (iblk m c 3 t) (iblk m c 2 t))

open Cert.ReferenceHeadIdeal.Read in
theorem tile_eq (c : Dev nD) (t : Fin cfg0.N) (i : Fin 512) (j : Fin 1024) : (tile m c t (ix2 i j) : EReal)
    = val_main_v53 (F := Ideal) (A0 m c) (A1 m c) (A2 m c) (A3 m c) (A4 m c) (ix2 (at_ t i) j) := by
  rw [plain_dh2, ← grad_eq]
  unfold gradKernel tile
  rw [zero_add]
  pointwise [k0_pay12]
  simp only [tile_r, tile_x, tile_d, blk_g]
  rfl

open Cert.ReferenceHeadIdeal.Read in
theorem final_dh2 (c : Dev nD) : (dats m 0 c).arrAt 5 (cfgs 0).N
    = val_main_v53 (F := Ideal) (A0 m c) (A1 m c) (A2 m c) (A3 m c) (A4 m c) := by
  refine (dats m 0 c).arrAt_eq_of_covers 5 _ (by decide +kernel) fun t hf y => ?_
  blk_simp
  obtain ⟨i, j, rfl⟩ : ∃ i j, y = ix2 i j := ⟨y 0, y 1, eq_ix2 y⟩
  refine Eq.trans ?_ (congrArg _ (emb_dh2 t i j).symm)
  rw [← tile_eq m c t i j, after0_5]
  by_cases h0 : t.val % 32 = 0
  · rw [outsAt0_A m c t h0]
    frame_out
    simp only [ld_row _ 0 (by decide)]
  · rw [outsAt0_B m c t h0]
    frame_out
    simp only [ld_row _ 0 (by decide)]

open Cert.ReferenceHeadIdeal.Read in
theorem plain_df (c : Dev nD) (i : Fin 16384) (j : Fin 1024) :
    val_main_v62 (F := Ideal) (A0 m c) (A1 m c) (A2 m c) (A3 m c) (A4 m c) (ix2 i j)
      = val_main_v53 (F := Ideal) (A0 m c) (A1 m c) (A2 m c) (A3 m c) (A4 m c) (ix2 i j) * A4 m c (ix2 0 j) := by
  rw [mul_comm]
  pointwise [val_main_v62, val_main_v55, val_main_v54, val_main_v1]

open Cert.ReferenceHeadIdeal.Read in
theorem final_df (c : Dev nD) : (dats m 0 c).arrAt 6 (cfgs 0).N
    = val_main_v62 (F := Ideal) (A0 m c) (A1 m c) (A2 m c) (A3 m c) (A4 m c) := by
  refine (dats m 0 c).arrAt_eq_of_covers 6 _ (by decide +kernel) fun t hf y => ?_
  blk_simp
  obtain ⟨i, j, rfl⟩ : ∃ i j, y = ix2 i j := ⟨y 0, y 1, eq_ix2 y⟩
  refine Eq.trans ?_ (congrArg _ (emb_df t i j).symm)
  rw [plain_df, ← tile_eq m c t i j, ← blk_t m c t, after0_6]
  by_cases h0 : t.val % 32 = 0
  · rw [outsAt0_A m c t h0]
    frame_out
    simp only [ld_row _ 0 (by decide)]
    pointwise [k0_pay14]
    rfl
  · rw [outsAt0_B m c t h0]
    frame_out
    simp only [ld_row _ 0 (by decide)]
    pointwise [k0_pay14]
    rfl

end Cert.KernelHeadIdeal.Value
end
-- ==== Proof.LossHeadRows.lean ====
/- The loss head: the accumulated rows equal the loss and the gradients of the final norm's weight and of the gate. -/
module

public import proofs.«01_k».proof.Defs
public import proofs.«01_k».proof.Proof.NormGradient
public import proofs.«01_k».proof.Proof.RowStores
public import proofs.«01_k».proof.Proof.LossHeadGradient
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelHeadIdeal.Value

open Cert.KernelHeadIdeal Cert.KernelHeadIdeal.Gen Cert.Rows Cert.Norm

variable (m : (ℓ : Loc nD τ sig) → Buf (Elt Ideal) ℓ)

open Cert.ReferenceHeadIdeal.Read in
/-- What row `k` of the sequence adds to column `j` of row `o` of the accumulator. -/
def part_ (c : Dev nD) (o : ℕ) (j : Fin 1024) (k : Fin 16384) : EReal :=
  if o = 0 then Ideal.ofBits .f32 1056964608#32 * Ideal.div (∑ x, err m c k x * err m c k x) (Ideal.ofBits .f32 1149239296#32)
  else if o = 1 then drow m c k j * xrow m c k j
  else if o = 2 then
    (val_main_v53 (F := Ideal) (A0 m c) (A1 m c) (A2 m c) (A3 m c) (A4 m c) (ix2 k j) : EReal) * A1 m c (ix2 k j)
  else 0

open Cert.ReferenceHeadIdeal.Read in
theorem plain_loss (c : Dev nD) (j : Fin 1024) :
    val_main_v61 (F := Ideal) (A0 m c) (A1 m c) (A2 m c) (A3 m c) (A4 m c) (ix2 0 j) = ∑ k, part_ m c 0 j k := by
  have hp : ∀ k, part_ m c 0 j k = ((1 / 2 : ℝ) : EReal) * Ideal.div (∑ x, err m c k x * err m c k x) (Ideal.ofBits .f32 1149239296#32) :=
    fun k => by rw [← bits_half]; rfl
  rw [Finset.sum_congr rfl fun k _ => hp k, coe_mul_sum _ (by norm_num), ← bits_half]
  unfold val_main_v61
  pointwise [val_main_v59, val_main_v28, val_main_cst_7, val_main_v27, val_main_cst_6, val_main_v26, val_main_v25, val_main_cst_5, val_main_v24,
    val_main_cst_4, val_main_v21]
  simp only [plain_err]

open Cert.ReferenceHeadIdeal.Read in
theorem plain_x (c : Dev nD) (i : Fin 16384) (j : Fin 1024) :
    val_main_v17 (F := Ideal) (A0 m c) (A1 m c) (A4 m c) (ix2 i j) = xrow m c i j := by
  unfold xrow meanSq
  pointwise [val_main_v17, val_main_v16, val_main_v12, val_main_v11, val_main_v10, val_main_cst_1,
    val_main_v9, val_main_v8, val_main_cst_0, val_main_v7, val_main_v6, val_main_cst, val_main_v5, val_main_v4, val_main_v3, val_main_v2,
    val_main_v1, val_main_v0]
  rfl

open Cert.ReferenceHeadIdeal.Read in
theorem plain_weight (c : Dev nD) (j : Fin 1024) :
    val_main_v61 (F := Ideal) (A0 m c) (A1 m c) (A2 m c) (A3 m c) (A4 m c) (ix2 1 j) = ∑ k, part_ m c 1 j k := by
  unfold val_main_v61
  pointwise [val_main_v37, val_main_v36, val_main_cst_11, val_main_v35]
  refine Fin.sum_fin_congr fun k => ?_
  rw [plain_x, plain_d, mul_comm]
  rfl

open Cert.ReferenceHeadIdeal.Read in
theorem plain_gate (c : Dev nD) (j : Fin 1024) :
    val_main_v61 (F := Ideal) (A0 m c) (A1 m c) (A2 m c) (A3 m c) (A4 m c) (ix2 2 j) = ∑ k, part_ m c 2 j k := by
  unfold val_main_v61
  pointwise [val_main_v58, val_main_v57, val_main_cst_15, val_main_v56, val_main_v0]
  rfl

open Cert.ReferenceHeadIdeal.Read in
theorem plain_rest (c : Dev nD) (o : Fin 8) (ho : 3 ≤ o.val) (j : Fin 1024) :
    val_main_v61 (F := Ideal) (A0 m c) (A1 m c) (A2 m c) (A3 m c) (A4 m c) (ix2 o j) = ∑ k, part_ m c o.val j k := by
  have hp : ∀ k, part_ m c o.val j k = 0 := fun k => by
    unfold part_
    rw [if_neg (by omega), if_neg (by omega), if_neg (by omega)]
  rw [Finset.sum_congr rfl fun k _ => hp k, Finset.sum_const_zero]
  have : o = 3 ∨ o = 4 ∨ o = 5 ∨ o = 6 ∨ o = 7 := by omega
  rcases this with rfl | rfl | rfl | rfl | rfl <;> (unfold val_main_v61; pointwise [val_main_v60, val_main_cst_16])

open Cert.ReferenceHeadIdeal.Read in
theorem plain_acc (c : Dev nD) (o : Fin 8) (j : Fin 1024) :
    val_main_v61 (F := Ideal) (A0 m c) (A1 m c) (A2 m c) (A3 m c) (A4 m c) (ix2 o j) = ∑ k, part_ m c o.val j k := by
  by_cases ho : 3 ≤ o.val
  · exact plain_rest m c o ho j
  · have : o = 0 ∨ o = 1 ∨ o = 2 := by omega
    rcases this with rfl | rfl | rfl
    exacts [plain_loss m c j, plain_weight m c j, plain_gate m c j]

/-- What one grid point adds: the parts of the rows of its tile. -/
theorem tile_acc (c : Dev nD) (t : Fin cfg0.N) (o : Fin 8) (j : Fin 1024) :
    step (iblk m c 0 t) (iblk m c 2 t) (iblk m c 1 t) (iblk m c 3 t) (iblk m c 4 t) (fun _ => 0) (ix2 o j)
      = ∑ i, part_ m c o.val j (at_ t i) := by
  have hz : ∀ o : ℕ, row (fun _ => 0) o = fun _ => 0 := fun o => rfl
  unfold step
  simp only [put_at, hz, ix2_0, ix2_1]
  by_cases h2 : o.val = 2
  · refine (if_pos h2).trans ?_
    rw [h2]
    pointwise [k0_pay13, k0_pay2]
    refine Fin.sum_fin_congr fun i => ?_
    have hd := tile_eq m c t i j
    unfold tile at hd
    rw [hd, blk_f]
    rfl
  refine (if_neg h2).trans ?_
  by_cases h1 : o.val = 1
  · refine (if_pos h1).trans ?_
    rw [h1]
    pointwise [k0_pay11]
    refine Fin.sum_fin_congr fun i => ?_
    rw [tile_d, tile_x]
    rfl
  refine (if_neg h1).trans ?_
  by_cases h0 : o.val = 0
  · refine (if_pos h0).trans ?_
    rw [h0]
    pointwise [k0_pay9, k0_pay8, k0_pay7]
    refine Fin.sum_fin_congr fun i => ?_
    simp only [tile_err]
    rfl
  refine (if_neg h0).trans ?_
  have hp : ∀ k, part_ m c o.val j k = 0 := fun k => by
    unfold part_
    rw [if_neg h0, if_neg h1, if_neg h2]
  simp only [hp]
  exact Finset.sum_const_zero.symm

open Cert.ReferenceHeadIdeal.Read in
theorem final_acc (c : Dev nD) : (dats m 0 c).arrAt 7 (cfgs 0).N
    = val_main_v61 (F := Ideal) (A0 m c) (A1 m c) (A2 m c) (A3 m c) (A4 m c) := by
  refine (dats m 0 c).arrAt_eq_of_covers 7 _ (by decide +kernel) fun t hf y => ?_
  have hl := (flush0_7 t).mp hf
  blk_simp
  obtain ⟨o, j, rfl⟩ : ∃ i j, y = ix2 i j := ⟨y 0, y 1, eq_ix2 y⟩
  refine Eq.trans ?_ (congrArg _ (emb_acc t o j).symm)
  rw [after0_7, plain_acc]
  refine (Pipeline.eq_sum_fin_of_reset_step_apply_of_flush (fun n hn => (outsAt0 m c n hn).2.2) 32 (fun _ => (0 : EReal))
    (fun t => step (iblk m c 0 t) (iblk m c 2 t) (iblk m c 1 t) (iblk m c 3 t) (iblk m c 4 t) (fun _ => 0))
    (fun t h y => (congrFun (acc_first m c t h) y).trans (zero_add _).symm)
    (fun t h y => (congrFun (acc_next m c t h) y).trans (step_add _ _ _ _ _ _ _)) t hl (ix2 o j)).trans ?_
  rw [zero_add]
  refine (Finset.sum_congr rfl fun s _ => tile_acc m c _ o j).trans ?_
  have ht : t.val / 32 = 0 := by have := t.isLt; have : cfg0.N = 32 := rfl; omega
  refine Eq.trans (Finset.sum_congr rfl fun s _ => Finset.sum_congr rfl fun i _ => congrArg (part_ m c o.val j) (Fin.ext ?_))
    (Fin.sum_mul_add_fin (n := 512) (S := 32) (part_ m c o.val j))
  show (32 * (t.val / 32) + s.val) * 512 + i.val = s.val * 512 + i.val
  omega

end Cert.KernelHeadIdeal.Value
end
-- ==== Proof.LossHead.lean ====
/- The loss head: the claims. -/
module

public import proofs.«01_k».proof.Defs
public import proofs.«01_k».proof.Proof.NormGradient
public import proofs.«01_k».proof.Proof.RowStores
public import proofs.«01_k».proof.Proof.LossHeadRows
public import proofs.«01_k».proof.Proof.Gen.KernelHead.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

theorem quiescent_KernelHead : Cert.quiescent_KernelHead := fun m g _ => Cert.KernelHead.Gen.frame m g

theorem quiescent_KernelHeadIdeal : Cert.quiescent_KernelHeadIdeal := fun m g _ => Cert.KernelHeadIdeal.Gen.frame m g

theorem quiescent_ReferenceHeadIdeal : Cert.quiescent_ReferenceHeadIdeal := fun m g _ =>
  (θ_run Cert.ReferenceHeadIdeal.defs _ _).mono (fun r h => ⟨fun c => (h c).2.2.2, sem_eq_zero_of_no_sems (by decide) r.2⟩)
    (Cert.ReferenceHeadIdeal.Value.run (F := Ideal) m g)

/-- Kernel and reference compute the same three arrays over the extended reals. -/
theorem algebraic_KernelHeadIdeal_ReferenceHeadIdeal : Cert.algebraic_KernelHeadIdeal_ReferenceHeadIdeal := by
  pair_intro
  · run_from Cert.KernelHeadIdeal.Gen.run_main m g
  · refine (θ_run _ _ _).mono (fun r h c => ?_) (Cert.ReferenceHeadIdeal.Value.run m' g')
    obtain ⟨h53, h62, h61, hargs⟩ := h c
    obtain ⟨e0, e1, e2, e3, e4⟩ := hagree c
    refine ⟨h53.trans ?_, h62.trans ?_, h61.trans ?_, hargs⟩
    · rw [Cert.ReferenceHeadIdeal.Read.val_main_v53_eq, e0, e1, e2, e3, e4]
      exact (Cert.KernelHeadIdeal.Value.final_dh2 m c).symm
    · rw [Cert.ReferenceHeadIdeal.Read.val_main_v62_eq, e0, e1, e2, e3, e4]
      exact (Cert.KernelHeadIdeal.Value.final_df m c).symm
    · rw [Cert.ReferenceHeadIdeal.Read.val_main_v61_eq, e0, e1, e2, e3, e4]
      exact (Cert.KernelHeadIdeal.Value.final_acc m c).symm

end Cert.Proof
end
-- ==== Proof.Sums.lean ====
/-
  The sums of the gradients over devices: four further devices' parts and a device's own (for a column block and for a row block of
  the weights), and the eight devices' parts of the small weights' gradients and of the loss.
-/
module

public import proofs.«01_k».proof.Defs
public import proofs.«01_k».proof.Proof.Gen.KernelColSum.Frame
public import proofs.«01_k».proof.Proof.Gen.KernelRowSum.Frame
public import proofs.«01_k».proof.Proof.Gen.KernelSmallSum.Frame
public import proofs.«01_k».proof.Proof.Gen.KernelColSumIdeal.Value
public import proofs.«01_k».proof.Proof.Gen.KernelRowSumIdeal.Value
public import proofs.«01_k».proof.Proof.Gen.KernelSmallSumIdeal.Value
public import proofs.«01_k».proof.Proof.Gen.ReferenceColSumIdeal.Run
public import proofs.«01_k».proof.Proof.Gen.ReferenceRowSumIdeal.Run
public import proofs.«01_k».proof.Proof.Gen.ReferenceSmallSumIdeal.Run
public import proofs.«01_k».proof.Proof.Gen.ReferenceSmallSumIdeal.Read
public import Idealize.ShloMosaic.Lib.Quiescent
public import Idealize.ShloMosaic.Lib.Claim
public import Idealize.ShloMosaic.Lib.Pipeline.ValueKit
public import Idealize.ShloMosaic.Lib.Pointwise

@[expose] public section

noncomputable section

open Idealize.ShloMosaic Idealize.ShloMosaic.TcCoe Idealize.SL.Sem

namespace Cert.Proof

theorem quiescent_KernelColSum : Cert.quiescent_KernelColSum := fun m g _ => Cert.KernelColSum.Gen.frame m g

theorem quiescent_KernelColSumIdeal : Cert.quiescent_KernelColSumIdeal := fun m g _ => Cert.KernelColSumIdeal.Gen.frame m g

theorem quiescent_ReferenceColSumIdeal : Cert.quiescent_ReferenceColSumIdeal := by
  intro m g _
  refine (θ_run Cert.ReferenceColSumIdeal.defs _ _).mono (fun r h => ⟨fun c => (h c).2, sem_eq_zero_of_no_sems (by decide) r.2⟩)
    (Cert.ReferenceColSumIdeal.Value.run (F := Ideal) m g)

/-- Kernel and reference compute the same sum of five parts. -/
theorem algebraic_KernelColSumIdeal_ReferenceColSumIdeal : Cert.algebraic_KernelColSumIdeal_ReferenceColSumIdeal := by
  intro m g m' g' _ hagree
  refine ⟨_, Cert.KernelColSumIdeal.Value.run (F := Ideal) m g, ?_⟩
  refine (θ_run Cert.ReferenceColSumIdeal.defs _ _).mono (fun r h c => ?_) (Cert.ReferenceColSumIdeal.Value.run (F := Ideal) m' g')
  obtain ⟨h0, hargs⟩ := h c
  obtain ⟨e0, e1, e2, e3, e4⟩ := hagree c
  refine ⟨?_, hargs⟩
  rw [h0, e0, e1, e2, e3, e4]
  rfl

theorem quiescent_KernelRowSum : Cert.quiescent_KernelRowSum := fun m g _ => Cert.KernelRowSum.Gen.frame m g

theorem quiescent_KernelRowSumIdeal : Cert.quiescent_KernelRowSumIdeal := fun m g _ => Cert.KernelRowSumIdeal.Gen.frame m g

theorem quiescent_ReferenceRowSumIdeal : Cert.quiescent_ReferenceRowSumIdeal := by
  intro m g _
  refine (θ_run Cert.ReferenceRowSumIdeal.defs _ _).mono (fun r h => ⟨fun c => (h c).2, sem_eq_zero_of_no_sems (by decide) r.2⟩)
    (Cert.ReferenceRowSumIdeal.Value.run (F := Ideal) m g)

/-- The same for a block of rows. -/
theorem algebraic_KernelRowSumIdeal_ReferenceRowSumIdeal : Cert.algebraic_KernelRowSumIdeal_ReferenceRowSumIdeal := by
  intro m g m' g' _ hagree
  refine ⟨_, Cert.KernelRowSumIdeal.Value.run (F := Ideal) m g, ?_⟩
  refine (θ_run Cert.ReferenceRowSumIdeal.defs _ _).mono (fun r h c => ?_) (Cert.ReferenceRowSumIdeal.Value.run (F := Ideal) m' g')
  obtain ⟨h0, hargs⟩ := h c
  obtain ⟨e0, e1, e2, e3, e4⟩ := hagree c
  refine ⟨?_, hargs⟩
  rw [h0, e0, e1, e2, e3, e4]
  rfl

theorem quiescent_KernelSmallSum : Cert.quiescent_KernelSmallSum := fun m g _ => Cert.KernelSmallSum.Gen.frame m g

theorem quiescent_KernelSmallSumIdeal : Cert.quiescent_KernelSmallSumIdeal := fun m g _ => Cert.KernelSmallSumIdeal.Gen.frame m g

theorem quiescent_ReferenceSmallSumIdeal : Cert.quiescent_ReferenceSmallSumIdeal := by
  intro m g _
  refine (θ_run Cert.ReferenceSmallSumIdeal.defs _ _).mono (fun r h => ⟨fun c => (h c).2, sem_eq_zero_of_no_sems (by decide) r.2⟩)
    (Cert.ReferenceSmallSumIdeal.Value.run (F := Ideal) m g)

open Cert.KernelSmallSumIdeal Cert.KernelSmallSumIdeal.Gen in
/-- The kernel adds the eight parts one after the other; the reference sums the axis. -/
theorem small_eq (x : S8x968x128.Idx → EReal) :
    Cert.ReferenceSmallSumIdeal.Read.val_main_v0 (F := Ideal) x = Cert.KernelSmallSumIdeal.Value.G1 (F := Ideal) x := by
  funext y
  obtain ⟨i, j, rfl⟩ : ∃ i j, y = ix2 i j := ⟨y 0, y 1, eq_ix2 y⟩
  unfold Cert.KernelSmallSumIdeal.Value.G1
  pointwise [Cert.ReferenceSmallSumIdeal.Read.val_main_v0, Cert.ReferenceSmallSumIdeal.Read.val_main_cst, k0_pay1]
  rw [Fin.sum_univ_eight]

/-- Kernel and reference compute the same sum of eight parts. -/
theorem algebraic_KernelSmallSumIdeal_ReferenceSmallSumIdeal : Cert.algebraic_KernelSmallSumIdeal_ReferenceSmallSumIdeal := by
  intro m g m' g' _ hagree
  refine ⟨_, Cert.KernelSmallSumIdeal.Value.run (F := Ideal) m g, ?_⟩
  refine (θ_run Cert.ReferenceSmallSumIdeal.defs _ _).mono (fun r h c => ?_) (Cert.ReferenceSmallSumIdeal.Value.run (F := Ideal) m' g')
  obtain ⟨h0, hargs⟩ := h c
  have e0 := hagree c
  refine ⟨?_, hargs⟩
  rw [h0, ← small_eq, e0]
  rfl

end Cert.Proof
end
-- ==== Proof.ModulationWeight.lean ====
/- The gradient of the modulation weight: the transposed product of the activated conditioning vectors with the modulation's gradients. -/
module

public import proofs.«01_k».proof.Defs
public import proofs.«01_k».proof.Proof.Gen.KernelModWIdeal.Value
public import proofs.«01_k».proof.Proof.Gen.ReferenceModWIdeal.Run
public import proofs.«01_k».proof.Proof.Gen.ReferenceModWIdeal.Read
public import proofs.«01_k».proof.Proof.Gen.KernelModW.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelModWIdeal.Value

open Cert.KernelModWIdeal Cert.KernelModWIdeal.Gen

variable (m : (ℓ : Loc nD τ sig) → Buf (Elt Ideal) ℓ)

/-- The block of each window at grid point `t`. -/
theorem idx : ∀ t : Fin cfg0.N, win0_0.index t = ![0, 0] ∧ win0_1.index t = ![0, t.val] ∧ win0_2.index t = ![0, t.val] :=
  (by decide +kernel : ∀ t : Fin grid0.N, _)

open Cert.ReferenceModWIdeal.Read in
/-- The kernel's result is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v4, val_main_v3, val_main_v1, val_main_call0_v5, val_main_call0_v4, val_main_call0_v3, val_main_call0_v2,
    val_main_call0_v1, val_main_call0_v0, val_main_call0_cst, val_main_call0_cst_0]
  refine Fin.sum_fin_congr fun b => ?_
  have e0 : (iblk m c 0 t (ix2 b (y 0)) : EReal) = m ((c : Thread nD τ).loc main_arg0) (ix2 b ((win0_2.blk t).view.emb y 0)) := by
    blk_point [iblk, V, idx t]
  have e1 : (iblk m c 1 t (ix2 b (y 1)) : EReal) = m ((c : Thread nD τ).loc main_arg1) (ix2 b ((win0_2.blk t).view.emb y 1)) := by
    blk_point [iblk, V, idx t]
  rw [e0, e1, zero_sub, mul_comm (_ : EReal) _]

end Cert.KernelModWIdeal.Value

namespace Cert.Proof

theorem quiescent_KernelModW : Cert.quiescent_KernelModW := fun m g _ => Cert.KernelModW.Gen.frame m g

theorem quiescent_KernelModWIdeal : Cert.quiescent_KernelModWIdeal := fun m g _ => Cert.KernelModWIdeal.Gen.frame m g

theorem quiescent_ReferenceModWIdeal : Cert.quiescent_ReferenceModWIdeal := fun m g _ =>
  (θ_run Cert.ReferenceModWIdeal.defs _ _).mono (fun r h => ⟨fun c => (h c).2, sem_eq_zero_of_no_sems (by decide) r.2⟩)
    (Cert.ReferenceModWIdeal.Value.run (F := Ideal) m g)

/-- Kernel and reference compute the same array over the extended reals. -/
theorem algebraic_KernelModWIdeal_ReferenceModWIdeal : Cert.algebraic_KernelModWIdeal_ReferenceModWIdeal := by
  pair_intro
  · run_from Cert.KernelModWIdeal.Gen.run_main m g
  · refine (θ_run _ _ _).mono (fun r h c => ?_) (Cert.ReferenceModWIdeal.Value.run m' g')
    obtain ⟨h0, hargs⟩ := h c
    obtain ⟨e0, e1⟩ := hagree c
    refine ⟨h0.trans ?_, hargs⟩
    rw [Cert.ReferenceModWIdeal.Read.val_main_v4_eq, e0, e1]
    exact (Cert.KernelModWIdeal.Value.final m c).symm

end Cert.Proof
end
-- ==== Proof.Slope.lean ====
/- The activation's derivative in its two spellings, and finiteness read off a comparison. -/
module

public import Idealize.ShloMosaic.Lib.Claim
public import Idealize.ShloMosaic.Lib.Pointwise

@[expose] public section

noncomputable section

open Idealize.ShloMosaic

namespace Cert.Slope

/-- The two spellings of the activation's derivative agree at a finite factor. -/
theorem slope (a : ℝ) (x : EReal) :
    (a : EReal) * (Ideal.div 1 (1 + Ideal.exp (-x)) * (1 + x * (1 - Ideal.div 1 (1 + Ideal.exp (-x)))))
      = a * Ideal.div 1 (1 + Ideal.exp (-x)) + x * a * (Ideal.div 1 (1 + Ideal.exp (-x)) * (1 - Ideal.div 1 (1 + Ideal.exp (-x)))) := by
  induction x with
  | bot =>
    have h : Ideal.div 1 (1 + Ideal.exp (-(⊥ : EReal))) = 0 := by
      have t : (1 : EReal) + ⊤ = ⊤ := EReal.add_top_of_ne_bot (by decide)
      simp [Ideal.div, t]
    rw [h]; simp
  | top =>
    have h : Ideal.div 1 (1 + Ideal.exp (-(⊤ : EReal))) = 1 := by
      simp [Ideal.div]
    have z : (1 : EReal) - 1 = 0 := by rw [← EReal.coe_one, ← EReal.coe_sub]; simp
    rw [h, z]; simp
  | coe x =>
    have hp : (1 + Real.exp (-x)) ≠ 0 := by positivity
    have h : Ideal.div 1 (1 + Ideal.exp (-(x : EReal))) = ((1 / (1 + Real.exp (-x)) : ℝ) : EReal) := by
      rw [← EReal.coe_neg, Ideal.exp_coe, ← EReal.coe_one, ← EReal.coe_add, Ideal.div_coe hp, EReal.coe_one, one_mul]
    rw [h]
    generalize 1 / (1 + Real.exp (-x)) = s
    rw [← EReal.coe_one]
    simp only [← EReal.coe_mul, ← EReal.coe_add, ← EReal.coe_sub]
    exact congrArg Real.toEReal (by ring)

/-- A value whose magnitude is below infinity is a real. -/
theorem real_of_below (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe x => exact ⟨x, rfl⟩

end Cert.Slope
end
-- ==== Proof.ContextVector.lean ====
/- The gradient of the learned context vector: the transposed product with the modulation weight's columns, times the activation's derivative. -/
module

public import proofs.«01_k».proof.Defs
public import proofs.«01_k».proof.Proof.Slope
public import proofs.«01_k».proof.Proof.Gen.KernelCctxIdeal.Value
public import proofs.«01_k».proof.Proof.Gen.ReferenceCctxIdeal.Run
public import proofs.«01_k».proof.Proof.Gen.ReferenceCctxIdeal.Read
public import proofs.«01_k».proof.Proof.Gen.Pre_finite_cctx
public import proofs.«01_k».proof.Proof.Gen.KernelCctx.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelCctxIdeal.Value

open Cert.KernelCctxIdeal Cert.KernelCctxIdeal.Gen Cert.Slope

variable (m : (ℓ : Loc nD τ sig) → Buf (Elt Ideal) ℓ)

/-- The arguments: the modulation's gradients, the gathered columns of the weight, the context vector. -/
abbrev A0 (c : Dev nD) : S16x2048.Idx → EReal := m ((c : Thread nD τ).loc main_arg0)
abbrev A1 (c : Dev nD) : S4x1024x3712.Idx → EReal := m ((c : Thread nD τ).loc main_arg1)
abbrev A2 (c : Dev nD) : S1x1024.Idx → EReal := m ((c : Thread nD τ).loc main_arg2)

/-- A sum of finite terms is finite. -/
theorem sum_finite {n : ℕ} (f : Fin n → EReal) (h : ∀ k, ∃ r : ℝ, f k = r) : ∃ r : ℝ, ∑ k, f k = r := by
  choose g hg using h
  refine ⟨∑ k, g k, ?_⟩
  simp only [hg]
  exact (map_sum (⟨⟨Real.toEReal, EReal.coe_zero⟩, EReal.coe_add⟩ : ℝ →+ EReal) g Finset.univ).symm

/-- The block of each window at grid point `t`. -/
theorem idx : ∀ t : Fin cfg0.N, win0_0.index t = ![0, t.val] ∧ win0_1.index t = ![t.val / 3, 0, t.val % 3] ∧ win0_2.index t = ![0, 0]
    ∧ win0_3.index t = ![0, 0] :=
  (by decide +kernel : ∀ t : Fin grid0.N, _)

/-- A step adds one tile's products to the accumulator. -/
theorem step (acc : FVec Ideal S16x1024 .f32) (x : FVec Ideal S16x512 .f32) (w : FVec Ideal S1x1024x512 .bf16)
    (j : S16x1024.Idx) : k0_pay2 acc x w j = acc j + k0_pay2 (fun _ => (0 : EReal)) x w j := by
  pointwise [k0_pay2]

theorem start (j : S16x1024.Idx) : k0_pay1 (F := Ideal) j = 0 := by pointwise [k0_pay1]

/-- What one tile adds. -/
def tile (c : Dev nD) (t : Fin cfg0.N) (j : S16x1024.Idx) : EReal := k0_pay2 (F := Ideal) (fun _ => (0 : EReal)) (iblk m c 0 t) (X0_1 m c t) j

theorem acc_first (c : Dev nD) (t : Fin cfg0.N) (h : t.val % 4 = 0) (j : S16x1024.Idx) : outsAt0 m c t.val t.isLt j = 0 + tile m c t j := by
  rw [outsAt0_A m c t h (by omega)]; frame_out; rw [step, start]; rfl

theorem acc_next (c : Dev nD) (t : Fin cfg0.N) (h : ¬ t.val % 4 = 0) (hl : ¬ t.val % 4 = 3) (j : S16x1024.Idx) :
    outsAt0 m c t.val t.isLt j = outsAt0 m c (t.val - 1) (Nat.lt_of_le_of_lt (Nat.sub_le _ _) t.isLt) j + tile m c t j := by
  rw [outsAt0_B m c t h hl]; frame_out; rw [step]; rfl

theorem acc_last (c : Dev nD) (t : Fin cfg0.N) (hl : t.val % 4 = 3) :
    outsAt0 m c t.val t.isLt
      = k0_pay3 (F := Ideal) (fun j => outsAt0 m c (t.val - 1) (Nat.lt_of_le_of_lt (Nat.sub_le _ _) t.isLt) j + tile m c t j) (iblk m c 2 t) := by
  rw [outsAt0_C m c t (by omega) hl]; frame_out
  refine congrArg (fun a => k0_pay3 (F := Ideal) a _) (funext fun j => ?_)
  rw [step]; rfl

/-- The column of the weight that a tile's column is. -/
abbrev at_ (t : Fin cfg0.N) (l : Fin 512) : Fin 2048 := ⟨512 * t.val + l.val, by have ht : t.val < 4 := t.isLt; omega⟩

theorem blk_d (c : Dev nD) (t : Fin cfg0.N) (i : Fin 16) (l : Fin 512) : (iblk m c 0 t (ix2 i l) : EReal) = A0 m c (ix2 i (at_ t l)) := by
  blk_point [iblk, V, idx t]

theorem blk_c (c : Dev nD) (t : Fin cfg0.N) (j : Fin 1024) : (iblk m c 2 t (ix2 0 j) : EReal) = A2 m c (ix2 0 j) := by
  blk_point [iblk, V, idx t]

theorem blk_w (c : Dev nD) (t : Fin cfg0.N) (j : Fin 1024) (l : Fin 512) : (X0_1 m c t (ix3 0 j l) : EReal)
    = A1 m c (ix3 ⟨t.val / 3, by have ht : t.val < 4 := t.isLt; omega⟩ j ⟨512 * (t.val % 3) + l.val, by omega⟩) := by
  unfold X0_1 Pipeline.Window.fill
  rw [dif_pos (moved0_1 t _)]
  blk_point [iblk, V, idx t]

open Cert.ReferenceCctxIdeal.Read in
theorem plain_w (c : Dev nD) (t : Fin cfg0.N) (j : Fin 1024) (l : Fin 512) :
    val_main_v5 (F := Ideal) (A1 m c) (ix2 j (at_ t l)) = (X0_1 m c t (ix3 0 j l) : EReal) := by
  rw [blk_w]
  have ht : t.val < 4 := t.isLt
  have : t = ⟨0, by decide⟩ ∨ t = ⟨1, by decide⟩ ∨ t = ⟨2, by decide⟩ ∨ t = ⟨3, by decide⟩ := by
    rcases t with ⟨v, hv⟩
    have : v < 4 := hv
    simp only [Fin.mk.injEq]
    omega
  unfold at_
  rcases this with rfl | rfl | rfl | rfl <;> pointwise [val_main_v5, val_main_v4, val_main_v3, val_main_v2, val_main_v1, val_main_v0]
  all_goals exact dif_pos (by omega)

theorem tile_eq (c : Dev nD) (t : Fin cfg0.N) (i : Fin 16) (j : Fin 1024) :
    tile m c t (ix2 i j) = ∑ l, A0 m c (ix2 i (at_ t l)) * Cert.ReferenceCctxIdeal.Read.val_main_v5 (F := Ideal) (A1 m c) (ix2 j (at_ t l)) := by
  unfold tile
  pointwise [k0_pay2]
  refine Fin.sum_fin_congr fun l => ?_
  rw [blk_d, plain_w]

attribute [local irreducible] outsAt0 tile in
/-- Before the last step's factor the accumulator holds the whole product. -/
theorem acc_eq (c : Dev nD) (t : Fin cfg0.N) (hl : t.val % 4 = 3) (i : Fin 16) (j : Fin 1024) :
    outsAt0 m c (t.val - 1) (Nat.lt_of_le_of_lt (Nat.sub_le _ _) t.isLt) (ix2 i j) + tile m c t (ix2 i j)
      = ∑ k : Fin 2048, A0 m c (ix2 i k) * Cert.ReferenceCctxIdeal.Read.val_main_v5 (F := Ideal) (A1 m c) (ix2 j k) := by
  have ht : t = ⟨3, by decide⟩ := Fin.ext (by have ht : t.val < 4 := t.isLt; show t.val = 3; omega)
  subst ht
  have h2 : outsAt0 m c 2 (by decide) (ix2 i j) = outsAt0 m c 1 (by decide) (ix2 i j) + tile m c ⟨2, by decide⟩ (ix2 i j) :=
    acc_next m c ⟨2, by decide⟩ (by decide) (by decide) (ix2 i j)
  have h1 : outsAt0 m c 1 (by decide) (ix2 i j) = outsAt0 m c 0 (by decide) (ix2 i j) + tile m c ⟨1, by decide⟩ (ix2 i j) :=
    acc_next m c ⟨1, by decide⟩ (by decide) (by decide) (ix2 i j)
  have h0 : outsAt0 m c 0 (by decide) (ix2 i j) = 0 + tile m c ⟨0, by decide⟩ (ix2 i j) := acc_first m c ⟨0, by decide⟩ (by decide) (ix2 i j)
  have h3 : outsAt0 m c 2 (by decide) (ix2 i j) + tile m c ⟨3, by decide⟩ (ix2 i j)
      = ∑ s : Fin 4, tile m c ⟨s.val, s.isLt⟩ (ix2 i j) := by
    rw [h2, h1, h0, zero_add, Fin.sum_univ_four]
    rfl
  refine h3.trans ?_
  simp only [tile_eq]
  refine Eq.trans (Finset.sum_congr rfl fun s _ => Finset.sum_congr rfl fun l _ =>
      congrArg (fun k => A0 m c (ix2 i k) * Cert.ReferenceCctxIdeal.Read.val_main_v5 (F := Ideal) (A1 m c) (ix2 j k)) (Fin.ext ?_))
    (Fin.sum_mul_add_fin (n := 512) (S := 4)
      (fun k : Fin 2048 => A0 m c (ix2 i k) * Cert.ReferenceCctxIdeal.Read.val_main_v5 (F := Ideal) (A1 m c) (ix2 j k)))
  show 512 * s.val + l.val = s.val * 512 + l.val
  omega

/-- The columns the product reads are entries of the gathered weight. -/
theorem finite_w (c : Dev nD) (h1 : ∀ y, ∃ r : ℝ, A1 m c y = r) (j : Fin 1024) (k : Fin 2048) :
    ∃ r : ℝ, Cert.ReferenceCctxIdeal.Read.val_main_v5 (F := Ideal) (A1 m c) (ix2 j k) = r := by
  have e : k = at_ ⟨k.val / 512, by show k.val / 512 < 4; omega⟩ ⟨k.val % 512, by omega⟩ := Fin.ext (by show k.val = 512 * (k.val / 512) + k.val % 512; omega)
  rw [e, plain_w, blk_w]
  exact h1 _

open Cert.ReferenceCctxIdeal.Read in
/-- The kernel's result is the reference's gradient. -/
theorem final (c : Dev nD) (h0 : ∀ y, ∃ r : ℝ, A0 m c y = r) (h1 : ∀ y, ∃ r : ℝ, A1 m c y = r) : (dats m 0 c).arrAt 3 (cfgs 0).N
    = val_main_v10 (F := Ideal) (A0 m c) (A1 m c) (A2 m c) := by
  refine (dats m 0 c).arrAt_eq_of_covers 3 _ (by decide +kernel) fun t hf y => ?_
  have hl := (flush0_3 t).mp hf
  blk_simp
  obtain ⟨i, j, rfl⟩ : ∃ i j, y = ix2 i j := ⟨y 0, y 1, eq_ix2 y⟩
  have emb : (win0_3.blk t).view.emb (ix2 i j) = ix2 i j := by
    blk_ext [idx t]
  refine Eq.trans ?_ (congrArg _ emb.symm)
  have hs := sum_finite (fun k : Fin 2048 => A0 m c (ix2 i k) * val_main_v5 (F := Ideal) (A1 m c) (ix2 j k)) fun k => by
    obtain ⟨x, hx⟩ := h0 (ix2 i k)
    obtain ⟨w, hw⟩ := finite_w m c h1 j k
    exact ⟨x * w, by rw [hx, hw, EReal.coe_mul]⟩
  obtain ⟨a, ha⟩ := hs
  rw [after0_3, acc_last m c t hl]
  pointwise [k0_pay3]
  rw [acc_eq m c t hl i j, blk_c, ha]
  pointwise [val_main_v10, val_main_call1_v2, val_main_call1_v1, val_main_call1_v0, val_main_v9, val_main_v7_1, val_main_v7_2, val_main_call0_v7,
    val_main_call0_v6, val_main_call0_cst_1, val_main_call0_v4, val_main_call0_cst_0, val_main_call0_v3, val_main_call0_v2, val_main_call0_cst,
    val_main_call0_v1, val_main_call0_v0, val_main_v6]
  rw [ha, zero_sub]
  exact slope a _

end Cert.KernelCctxIdeal.Value

namespace Cert.Proof

open Cert.KernelCctxIdeal.Value Cert.Slope

theorem quiescent_KernelCctx : Cert.quiescent_KernelCctx := fun m g _ => Cert.KernelCctx.Gen.frame m g

theorem quiescent_KernelCctxIdeal : Cert.quiescent_KernelCctxIdeal := fun m g _ => Cert.KernelCctxIdeal.Gen.frame m g

theorem quiescent_KernelCctxIdeal_pre_finite_cctx : Cert.quiescent_KernelCctxIdeal_pre_finite_cctx := fun m g _ =>
  Cert.KernelCctxIdeal.Gen.frame m g

theorem quiescent_ReferenceCctxIdeal : Cert.quiescent_ReferenceCctxIdeal := fun m g _ =>
  (θ_run Cert.ReferenceCctxIdeal.defs _ _).mono (fun r h => ⟨fun c => (h c).2, sem_eq_zero_of_no_sems (by decide) r.2⟩)
    (Cert.ReferenceCctxIdeal.Value.run (F := Ideal) m g)

theorem quiescent_ReferenceCctxIdeal_pre_finite_cctx : Cert.quiescent_ReferenceCctxIdeal_pre_finite_cctx := fun m g _ =>
  quiescent_ReferenceCctxIdeal m g trivial

/-- Where the gradients and the weight are finite, kernel and reference compute the same array over the extended reals. -/
theorem algebraic_KernelCctxIdeal_ReferenceCctxIdeal_pre_finite_cctx : Cert.algebraic_KernelCctxIdeal_ReferenceCctxIdeal_pre_finite_cctx := by
  pair_intro
  · run_from Cert.KernelCctxIdeal.Gen.run_main m g
  · refine (θ_run _ _ _).mono (fun r h c => ?_) (Cert.ReferenceCctxIdeal.Value.run m' g')
    obtain ⟨h10, hargs⟩ := h c
    obtain ⟨e0, e1, e2⟩ := hagree c
    refine ⟨h10.trans ?_, hargs⟩
    rw [Cert.ReferenceCctxIdeal.Read.val_main_v10_eq, e0, e1, e2]
    exact (final m c (fun y => real_of_below _ (congrFun (hpre c).1 y)) fun y => real_of_below _ (congrFun (hpre c).2 y)).symm

end Cert.Proof
end
-- ==== Proof.PairSums.lean ====
/- The sums of two devices' parts of a gradient, for a column block and for a row block of the weights. -/
module

public import proofs.«01_k».proof.Defs
public import proofs.«01_k».proof.Proof.Gen.KernelPairColIdeal.Value
public import proofs.«01_k».proof.Proof.Gen.KernelPairRowIdeal.Value
public import proofs.«01_k».proof.Proof.Gen.ReferencePairColIdeal.Run
public import proofs.«01_k».proof.Proof.Gen.ReferencePairColIdeal.Read
public import proofs.«01_k».proof.Proof.Gen.ReferencePairRowIdeal.Run
public import proofs.«01_k».proof.Proof.Gen.ReferencePairRowIdeal.Read
public import proofs.«01_k».proof.Proof.Gen.KernelPairCol.Frame
public import proofs.«01_k».proof.Proof.Gen.KernelPairRow.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

theorem quiescent_KernelPairCol : Cert.quiescent_KernelPairCol := fun m g _ => Cert.KernelPairCol.Gen.frame m g

theorem quiescent_KernelPairColIdeal : Cert.quiescent_KernelPairColIdeal := fun m g _ => Cert.KernelPairColIdeal.Gen.frame m g

theorem quiescent_ReferencePairColIdeal : Cert.quiescent_ReferencePairColIdeal := fun m g _ =>
  (θ_run Cert.ReferencePairColIdeal.defs _ _).mono (fun r h => ⟨fun c => (h c).2, sem_eq_zero_of_no_sems (by decide) r.2⟩)
    (Cert.ReferencePairColIdeal.Value.run (F := Ideal) m g)

/-- Kernel and reference compute the same sum of two parts. -/
theorem algebraic_KernelPairColIdeal_ReferencePairColIdeal : Cert.algebraic_KernelPairColIdeal_ReferencePairColIdeal := by
  intro m g m' g' _ hagree
  refine ⟨_, Cert.KernelPairColIdeal.Value.run (F := Ideal) m g, ?_⟩
  refine (θ_run Cert.ReferencePairColIdeal.defs _ _).mono (fun r h c => ?_) (Cert.ReferencePairColIdeal.Value.run (F := Ideal) m' g')
  obtain ⟨h0, hargs⟩ := h c
  obtain ⟨e0, e1⟩ := hagree c
  refine ⟨?_, hargs⟩
  rw [h0, e0, e1]
  rfl

theorem quiescent_KernelPairRow : Cert.quiescent_KernelPairRow := fun m g _ => Cert.KernelPairRow.Gen.frame m g

theorem quiescent_KernelPairRowIdeal : Cert.quiescent_KernelPairRowIdeal := fun m g _ => Cert.KernelPairRowIdeal.Gen.frame m g

theorem quiescent_ReferencePairRowIdeal : Cert.quiescent_ReferencePairRowIdeal := fun m g _ =>
  (θ_run Cert.ReferencePairRowIdeal.defs _ _).mono (fun r h => ⟨fun c => (h c).2, sem_eq_zero_of_no_sems (by decide) r.2⟩)
    (Cert.ReferencePairRowIdeal.Value.run (F := Ideal) m g)

/-- The same for a block of rows. -/
theorem algebraic_KernelPairRowIdeal_ReferencePairRowIdeal : Cert.algebraic_KernelPairRowIdeal_ReferencePairRowIdeal := by
  intro m g m' g' _ hagree
  refine ⟨_, Cert.KernelPairRowIdeal.Value.run (F := Ideal) m g, ?_⟩
  refine (θ_run Cert.ReferencePairRowIdeal.defs _ _).mono (fun r h c => ?_) (Cert.ReferencePairRowIdeal.Value.run (F := Ideal) m' g')
  obtain ⟨h0, hargs⟩ := h c
  obtain ⟨e0, e1⟩ := hagree c
  refine ⟨?_, hargs⟩
  rw [h0, e0, e1]
  rfl

end Cert.Proof
end
-- ==== Proof.ForwardModulation.lean ====
/- The modulation's table: the product of the activated conditioning vectors with the gathered columns of the weight, plus the bias. -/
module

public import proofs.«01_k».proof.Defs
public import proofs.«01_k».proof.Proof.Gen.KernelModFIdeal.Value
public import proofs.«01_k».proof.Proof.Gen.ReferenceModFIdeal.Run
public import proofs.«01_k».proof.Proof.Gen.ReferenceModFIdeal.Read
public import proofs.«01_k».proof.Proof.Gen.KernelModF.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelModFIdeal.Value

open Cert.KernelModFIdeal Cert.KernelModFIdeal.Gen

variable (m : (ℓ : Loc nD τ sig) → Buf (Elt Ideal) ℓ)

/-- The arguments: the conditioning vectors, the gathered columns of the weight, the bias. -/
abbrev A0 (c : Dev nD) : S16x1024.Idx → EReal := m ((c : Thread nD τ).loc main_arg0)
abbrev A1 (c : Dev nD) : S4x1024x3712.Idx → EReal := m ((c : Thread nD τ).loc main_arg1)
abbrev A2 (c : Dev nD) : S1x6144.Idx → EReal := m ((c : Thread nD τ).loc main_arg2)

/-- The block of each window at grid point `t`. -/
theorem idx : ∀ t : Fin cfg0.N, win0_0.index t = ![0, 0] ∧ win0_1.index t = ![t.val / 3, 0, t.val % 3] ∧ win0_2.index t = ![0, t.val]
    ∧ win0_3.index t = ![0, t.val] :=
  (by decide +kernel : ∀ t : Fin grid0.N, _)

/-- The column of the table that a tile's column is. -/
abbrev at_ (t : Fin cfg0.N) (l : Fin 512) : Fin 6144 := ⟨512 * t.val + l.val, by have ht : t.val < 12 := t.isLt; omega⟩

theorem blk_w (c : Dev nD) (t : Fin cfg0.N) (j : Fin 1024) (l : Fin 512) : (X0_1 m c t (ix3 0 j l) : EReal)
    = A1 m c (ix3 ⟨t.val / 3, by have ht : t.val < 12 := t.isLt; omega⟩ j ⟨512 * (t.val % 3) + l.val, by omega⟩) := by
  unfold X0_1 Pipeline.Window.fill
  rw [dif_pos (moved0_1 t _)]
  blk_point [iblk, V, idx t]

open Cert.ReferenceModFIdeal.Read in
/-- The concatenated columns at a column of slab `s`. -/
theorem plain_w (x : S4x1024x3712.Idx → EReal) (s : Fin 4) (j : Fin 1024) (l : Fin 1536) :
    val_main_v9 (F := Ideal) x (ix2 j ⟨1536 * s.val + l.val, by omega⟩) = x (ix3 s j ⟨l.val, by omega⟩) := by
  have hs : s.val < 4 := s.isLt
  pointwise [val_main_v9, val_main_v8, val_main_v7, val_main_v6, val_main_v5, val_main_v4, val_main_v3, val_main_v2, val_main_v1, val_main_v0]
  have same : ∀ (a : Fin 4) (q : Fin 3712), s = a → q.val = l.val → x (ix3 a j q) = x (ix3 s j ⟨l.val, by omega⟩) := fun a q h h' => by
    rw [h, show q = ⟨l.val, by omega⟩ from Fin.ext h']
  by_cases h0 : 1536 * s.val + l.val < 1536
  · exact (dif_pos h0).trans (same 0 _ (Fin.ext (by show s.val = 0; omega)) (by show 1536 * s.val + l.val = l.val; omega))
  refine (dif_neg h0).trans ?_
  by_cases h1 : 1536 * s.val + l.val - 1536 < 1536
  · exact (dif_pos h1).trans (same 1 _ (Fin.ext (by show s.val = 1; omega)) (by show 1536 * s.val + l.val - 1536 = l.val; omega))
  refine (dif_neg h1).trans ?_
  by_cases h2 : 1536 * s.val + l.val - 1536 - 1536 < 1536
  · exact (dif_pos h2).trans (same 2 _ (Fin.ext (by show s.val = 2; omega)) (by show 1536 * s.val + l.val - 1536 - 1536 = l.val; omega))
  · exact (dif_neg h2).trans (same 3 _ (Fin.ext (by show s.val = 3; omega)) (by show 1536 * s.val + l.val - 1536 - 1536 - 1536 = l.val; omega))

theorem blk_c (c : Dev nD) (t : Fin cfg0.N) (i : Fin 16) (x : Fin 1024) : (iblk m c 0 t (ix2 i x) : EReal) = A0 m c (ix2 i x) := by
  blk_point [iblk, V, idx t]

theorem blk_b (c : Dev nD) (t : Fin cfg0.N) (l : Fin 512) : (iblk m c 2 t (ix2 0 l) : EReal) = A2 m c (ix2 0 (at_ t l)) := by
  blk_point [iblk, V, idx t]

theorem tile_w (c : Dev nD) (t : Fin cfg0.N) (j : Fin 1024) (l : Fin 512) :
    (X0_1 m c t (ix3 0 j l) : EReal) = Cert.ReferenceModFIdeal.Read.val_main_v9 (F := Ideal) (A1 m c) (ix2 j (at_ t l)) := by
  have ht : t.val < 12 := t.isLt
  rw [blk_w, show at_ t l = ⟨1536 * (⟨t.val / 3, by omega⟩ : Fin 4).val + (⟨512 * (t.val % 3) + l.val, by omega⟩ : Fin 1536).val, by
    show 1536 * (t.val / 3) + (512 * (t.val % 3) + l.val) < 6144; omega⟩ from Fin.ext (by
    show 512 * t.val + l.val = 1536 * (t.val / 3) + (512 * (t.val % 3) + l.val); omega), plain_w]

open Cert.ReferenceModFIdeal.Read in
/-- The kernel's result is the reference's table. -/
theorem final (c : Dev nD) : (dats m 0 c).arrAt 3 (cfgs 0).N = val_main_v13 (F := Ideal) (A0 m c) (A1 m c) (A2 m c) := by
  refine (dats m 0 c).arrAt_eq_of_covers 3 _ (by decide +kernel) fun t hf y => ?_
  blk_simp
  obtain ⟨i, l, rfl⟩ : ∃ i l, y = ix2 i l := ⟨y 0, y 1, eq_ix2 y⟩
  have emb : (win0_3.blk t).view.emb (ix2 i l) = ix2 i (at_ t l) := by
    blk_ext [idx t]
  refine Eq.trans ?_ (congrArg _ emb.symm)
  rw [after0_3]
  unfold outsAt0
  frame_out
  pointwise [k0_pay1, val_main_v13, val_main_v12, val_main_v11, val_main_v10, val_main_call0_v5, val_main_call0_v4, val_main_call0_v3,
    val_main_call0_v2, val_main_call0_v1, val_main_call0_v0, val_main_call0_cst, val_main_call0_cst_0]
  simp only [blk_c, tile_w, zero_sub]
  rw [blk_b]

end Cert.KernelModFIdeal.Value

namespace Cert.Proof

theorem quiescent_KernelModF : Cert.quiescent_KernelModF := fun m g _ => Cert.KernelModF.Gen.frame m g

theorem quiescent_KernelModFIdeal : Cert.quiescent_KernelModFIdeal := fun m g _ => Cert.KernelModFIdeal.Gen.frame m g

theorem quiescent_ReferenceModFIdeal : Cert.quiescent_ReferenceModFIdeal := fun m g _ =>
  (θ_run Cert.ReferenceModFIdeal.defs _ _).mono (fun r h => ⟨fun c => (h c).2, sem_eq_zero_of_no_sems (by decide) r.2⟩)
    (Cert.ReferenceModFIdeal.Value.run (F := Ideal) m g)

/-- Kernel and reference compute the same array over the extended reals. -/
theorem algebraic_KernelModFIdeal_ReferenceModFIdeal : Cert.algebraic_KernelModFIdeal_ReferenceModFIdeal := by
  pair_intro
  · run_from Cert.KernelModFIdeal.Gen.run_main m g
  · refine (θ_run _ _ _).mono (fun r h c => ?_) (Cert.ReferenceModFIdeal.Value.run m' g')
    obtain ⟨h0, hargs⟩ := h c
    obtain ⟨e0, e1, e2⟩ := hagree c
    refine ⟨h0.trans ?_, hargs⟩
    rw [Cert.ReferenceModFIdeal.Read.val_main_v13_eq, e0, e1, e2]
    exact (Cert.KernelModFIdeal.Value.final m c).symm

end Cert.Proof
end
-- ==== Proof.ForwardNorm.lean ====
/- The residual branch and the second norm with its modulation, and what such a norm of one row is. -/
module

public import proofs.«01_k».proof.Defs
public import proofs.«01_k».proof.Proof.NormGradient
public import proofs.«01_k».proof.Proof.RowStores
public import proofs.«01_k».proof.Proof.Gen.KernelN2Ideal.Value
public import proofs.«01_k».proof.Proof.Gen.ReferenceN2Ideal.Run
public import proofs.«01_k».proof.Proof.Gen.ReferenceN2Ideal.Read
public import proofs.«01_k».proof.Proof.Gen.KernelN2.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norm

/-- A row's norm with its weight, scaled and shifted. -/
def forward (h g sh sc : Fin 1024 → EReal) (j : Fin 1024) : EReal := h j * Ideal.rsqrt (meanSq h) * g j * (1 + sc j) + sh j

end Cert.Norm

namespace Cert.KernelN2Ideal.Value

open Cert.KernelN2Ideal Cert.KernelN2Ideal.Gen Cert.Rows Cert.Norm

variable (m : (ℓ : Loc nD τ sig) → Buf (Elt Ideal) ℓ)

/-- The arguments: the sequence, the branch's output, the norm's weight, the table whose rows 0 to 2 are gate, shift and scale. -/
abbrev A0 (c : Dev nD) : S16384x1024.Idx → EReal := m ((c : Thread nD τ).loc main_arg0)
abbrev A1 (c : Dev nD) : S16384x1024.Idx → EReal := m ((c : Thread nD τ).loc main_arg1)
abbrev A2 (c : Dev nD) : S1x1024.Idx → EReal := m ((c : Thread nD τ).loc main_arg2)
abbrev A3 (c : Dev nD) : S8x1024.Idx → EReal := m ((c : Thread nD τ).loc main_arg3)

/-- The block of each window at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Where row `i` of the tile of grid point `t` lies. -/
def at_ (t : Fin cfg0.N) (i : Fin 512) : Fin 16384 := ⟨t.val * 512 + i.val, by have ht : t.val < 32 := t.isLt; omega⟩

/-- Row `i` of the sequence after the branch is added. -/
def hrow (c : Dev nD) (i : Fin 16384) : Fin 1024 → EReal := fun x => A0 m c (ix2 i x) + A3 m c (ix2 0 x) * A1 m c (ix2 i x)

theorem blk_x (c : Dev nD) (t : Fin cfg0.N) (i : Fin 512) (x : Fin 1024) : (iblk m c 0 t (ix2 i x) : EReal) = A0 m c (ix2 (at_ t i) x) := by
  unfold at_
  blk_point [iblk, V, idx t]

theorem blk_o (c : Dev nD) (t : Fin cfg0.N) (i : Fin 512) (x : Fin 1024) : (iblk m c 1 t (ix2 i x) : EReal) = A1 m c (ix2 (at_ t i) x) := by
  unfold at_
  blk_point [iblk, V, idx t]

theorem blk_g (c : Dev nD) (t : Fin cfg0.N) (x : Fin 1024) : (iblk m c 2 t (ix2 0 x) : EReal) = A2 m c (ix2 0 x) := by
  blk_point [iblk, V, idx t]

theorem blk_t (c : Dev nD) (t : Fin cfg0.N) (i : Fin 8) (x : Fin 1024) : (iblk m c 3 t (ix2 i x) : EReal) = A3 m c (ix2 i x) := by
  blk_point [iblk, V, idx t]

/-- The tile's row after the branch is added. -/
theorem tile_h (c : Dev nD) (t : Fin cfg0.N) (i : Fin 512) (j : Fin 1024) :
    k0_pay1 (F := Ideal) (iblk m c 0 t) (row (iblk m c 3 t) 0) (iblk m c 1 t) (ix2 i j) = hrow m c (at_ t i) j := by
  unfold hrow
  rw [← blk_x, ← blk_o, ← blk_t m c t]
  pointwise [k0_pay1]
  rfl

/-- The tile's normed row. -/
theorem tile_n (c : Dev nD) (t : Fin cfg0.N) (i : Fin 512) (j : Fin 1024) :
    k0_pay2 (F := Ideal) (iblk m c 0 t) (row (iblk m c 3 t) 0) (iblk m c 1 t) (iblk m c 2 t) (row (iblk m c 3 t) 2) (row (iblk m c 3 t) 1) (ix2 i j)
      = forward (hrow m c (at_ t i)) (fun x => A2 m c (ix2 0 x)) (fun x => A3 m c (ix2 1 x)) (fun x => A3 m c (ix2 2 x)) j := by
  unfold forward meanSq
  pointwise [k0_pay2]
  simp only [tile_h, ← blk_t m c t, ← blk_g m c t]
  rfl

open Cert.ReferenceN2Ideal.Read in
theorem plain_h (c : Dev nD) (i : Fin 16384) (j : Fin 1024) : val_main_v4 (F := Ideal) (A0 m c) (A1 m c) (A3 m c) (ix2 i j) = hrow m c i j := by
  unfold hrow
  pointwise [val_main_v4, val_main_v3, val_main_v2, val_main_v1, val_main_v0]

open Cert.ReferenceN2Ideal.Read in
theorem plain_n (c : Dev nD) (i : Fin 16384) (j : Fin 1024) : val_main_v25 (F := Ideal) (A0 m c) (A1 m c) (A2 m c) (A3 m c) (ix2 i j)
    = forward (hrow m c i) (fun x => A2 m c (ix2 0 x)) (fun x => A3 m c (ix2 1 x)) (fun x => A3 m c (ix2 2 x)) j := by
  unfold forward meanSq
  pointwise [val_main_v25, val_main_v24, val_main_v23, val_main_v22, val_main_v21, val_main_v20, val_main_v19, val_main_cst_2, val_main_v18,
    val_main_v17, val_main_v16, val_main_v15, val_main_v14, val_main_v13, val_main_v12, val_main_cst_1, val_main_v11, val_main_v10,
    val_main_cst_0, val_main_v9, val_main_v8, val_main_cst, val_main_v7, val_main_v6, val_main_v5]
  simp only [plain_h]

theorem emb_h (t : Fin cfg0.N) (i : Fin 512) (x : Fin 1024) : (win0_4.blk t).view.emb (ix2 i x) = ix2 (at_ t i) x := by
  unfold at_
  blk_ext [idx t]

theorem emb_n (t : Fin cfg0.N) (i : Fin 512) (x : Fin 1024) : (win0_5.blk t).view.emb (ix2 i x) = ix2 (at_ t i) x := by
  unfold at_
  blk_ext [idx t]

open Cert.ReferenceN2Ideal.Read in
theorem final_h (c : Dev nD) : (dats m 0 c).arrAt 4 (cfgs 0).N = val_main_v4 (F := Ideal) (A0 m c) (A1 m c) (A3 m c) := by
  refine (dats m 0 c).arrAt_eq_of_covers 4 _ (by decide +kernel) fun t hf y => ?_
  blk_simp
  obtain ⟨i, j, rfl⟩ : ∃ i j, y = ix2 i j := ⟨y 0, y 1, eq_ix2 y⟩
  refine Eq.trans ?_ (congrArg _ (emb_h t i j).symm)
  rw [plain_h, ← tile_h, after0_4]
  unfold out0_4
  frame_out
  simp only [ld_row _ 0 (by decide)]

open Cert.ReferenceN2Ideal.Read in
theorem final_n (c : Dev nD) : (dats m 0 c).arrAt 5 (cfgs 0).N = val_main_v25 (F := Ideal) (A0 m c) (A1 m c) (A2 m c) (A3 m c) := by
  refine (dats m 0 c).arrAt_eq_of_covers 5 _ (by decide +kernel) fun t hf y => ?_
  blk_simp
  obtain ⟨i, j, rfl⟩ : ∃ i j, y = ix2 i j := ⟨y 0, y 1, eq_ix2 y⟩
  refine Eq.trans ?_ (congrArg _ (emb_n t i j).symm)
  rw [plain_n, ← tile_n, after0_5]
  unfold out0_5
  frame_out
  simp only [ld_row _ 0 (by decide), ld_row _ 1 (by decide), ld_row _ 2 (by decide)]

end Cert.KernelN2Ideal.Value

namespace Cert.Proof

theorem quiescent_KernelN2 : Cert.quiescent_KernelN2 := fun m g _ => Cert.KernelN2.Gen.frame m g

theorem quiescent_KernelN2Ideal : Cert.quiescent_KernelN2Ideal := fun m g _ => Cert.KernelN2Ideal.Gen.frame m g

theorem quiescent_ReferenceN2Ideal : Cert.quiescent_ReferenceN2Ideal := fun m g _ =>
  (θ_run Cert.ReferenceN2Ideal.defs _ _).mono (fun r h => ⟨fun c => (h c).2.2, sem_eq_zero_of_no_sems (by decide) r.2⟩)
    (Cert.ReferenceN2Ideal.Value.run (F := Ideal) m g)

/-- Kernel and reference compute the same two arrays over the extended reals. -/
theorem algebraic_KernelN2Ideal_ReferenceN2Ideal : Cert.algebraic_KernelN2Ideal_ReferenceN2Ideal := by
  pair_intro
  · run_from Cert.KernelN2Ideal.Gen.run_main m g
  · refine (θ_run _ _ _).mono (fun r h c => ?_) (Cert.ReferenceN2Ideal.Value.run m' g')
    obtain ⟨h0, h1, hargs⟩ := h c
    obtain ⟨e0, e1, e2, e3⟩ := hagree c
    refine ⟨h0.trans ?_, h1.trans ?_, hargs⟩
    · rw [Cert.ReferenceN2Ideal.Read.val_main_v4_eq, e0, e1, e3]
      exact (Cert.KernelN2Ideal.Value.final_h m c).symm
    · rw [Cert.ReferenceN2Ideal.Read.val_main_v25_eq, e0, e1, e2, e3]
      exact (Cert.KernelN2Ideal.Value.final_n m c).symm

end Cert.Proof
end
-- ==== Proof.ForwardFirstNorm.lean ====
/- The first norm with its modulation, of the context and of the sequence. -/
module

public import proofs.«01_k».proof.Defs
public import proofs.«01_k».proof.Proof.ForwardNorm
public import proofs.«01_k».proof.Proof.RowStores
public import proofs.«01_k».proof.Proof.Gen.KernelN1Ideal.Value
public import proofs.«01_k».proof.Proof.Gen.ReferenceN1Ideal.Run
public import proofs.«01_k».proof.Proof.Gen.ReferenceN1Ideal.Read
public import proofs.«01_k».proof.Proof.Gen.KernelN1.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelN1Ideal.Value

open Cert.KernelN1Ideal Cert.KernelN1Ideal.Gen Cert.Rows Cert.Norm

variable (m : (ℓ : Loc nD τ sig) → Buf (Elt Ideal) ℓ)

/-- The arguments: context, sequence, the norm's weight, the table with shift and scale of the context, then of the sequence. -/
abbrev A0 (c : Dev nD) : S256x1024.Idx → EReal := m ((c : Thread nD τ).loc main_arg0)
abbrev A1 (c : Dev nD) : S16384x1024.Idx → EReal := m ((c : Thread nD τ).loc main_arg1)
abbrev A2 (c : Dev nD) : S1x1024.Idx → EReal := m ((c : Thread nD τ).loc main_arg2)
abbrev A3 (c : Dev nD) : S8x1024.Idx → EReal := m ((c : Thread nD τ).loc main_arg3)

/-- The block of each window at grid point `t`: the first tile is the context's, tile `t` after it is tile `t - 1` of the sequence. -/
theorem idx : ∀ t : Fin cfg0.N, win0_0.index t = ![0, 0] ∧ win0_1.index t = ![t.val - 1, 0] ∧ win0_2.index t = ![0, 0]
    ∧ win0_3.index t = ![0, 0] ∧ win0_4.index t = ![t.val, 0] :=
  (by decide +kernel : ∀ t : Fin grid0.N, _)

/-- The kernel's test for the context's tile. -/
def isCtx (t : Fin cfg0.N) : BitVec 1 := Scalar.cmpi .slt (BitVec.ofNat 32 (grid0.coords t 0).val) 1#32

theorem isCtx_eq : ∀ t : Fin cfg0.N, isCtx t = if t.val = 0 then 1#1 else 0#1 :=
  (by decide +kernel : ∀ t : Fin grid0.N, _)

theorem select_zero {α : Type} (t : Fin cfg0.N) (h : t.val = 0) (a b : α) : Scalar.select (isCtx t) a b = a := by
  rw [isCtx_eq, if_pos h]; rfl

theorem select_pos {α : Type} (t : Fin cfg0.N) (h : ¬ t.val = 0) (a b : α) : Scalar.select (isCtx t) a b = b := by
  rw [isCtx_eq, if_neg h]; rfl

/-- Where row `i` of the tile of grid point `t` lies, and where in the sequence after the context's tile. -/
abbrev at_ (t : Fin cfg0.N) (i : Fin 256) : Fin 16640 := ⟨t.val * 256 + i.val, by have ht : t.val < 65 := t.isLt; omega⟩
abbrev sq_ (t : Fin cfg0.N) (i : Fin 256) : Fin 16384 := ⟨(t.val - 1) * 256 + i.val, by have ht : t.val < 65 := t.isLt; omega⟩

theorem blk_ctx (c : Dev nD) (t : Fin cfg0.N) (i : Fin 256) (x : Fin 1024) : (iblk m c 0 t (ix2 i x) : EReal) = A0 m c (ix2 i x) := by
  blk_point [iblk, V, idx t]

theorem blk_x (c : Dev nD) (t : Fin cfg0.N) (i : Fin 256) (x : Fin 1024) : (iblk m c 1 t (ix2 i x) : EReal) = A1 m c (ix2 (sq_ t i) x) := by
  blk_point [iblk, V, idx t]

theorem blk_g (c : Dev nD) (t : Fin cfg0.N) (x : Fin 1024) : (iblk m c 2 t (ix2 0 x) : EReal) = A2 m c (ix2 0 x) := by
  blk_point [iblk, V, idx t]

theorem blk_t (c : Dev nD) (t : Fin cfg0.N) (i : Fin 8) (x : Fin 1024) : (iblk m c 3 t (ix2 i x) : EReal) = A3 m c (ix2 i x) := by
  blk_point [iblk, V, idx t]

/-- The tile's normed row, of whichever rows and modulation the tile chooses. -/
theorem tile (t : Fin cfg0.N) (x0 x1 : FVec Ideal S256x1024 .f32) (x2 a0 a2 b1 b3 : FVec Ideal S1x1024 .f32) (i : Fin 256) (j : Fin 1024) :
    k0_pay1 (F := Ideal) (grid0.coords t) x0 x1 x2 a0 a2 b1 b3 (ix2 i j)
      = forward (fun x => Scalar.select (isCtx t) x0 x1 (ix2 i x)) (fun x => x2 (ix2 0 x)) (fun x => Scalar.select (isCtx t) a0 a2 (ix2 0 x))
        (fun x => Scalar.select (isCtx t) b1 b3 (ix2 0 x)) j := by
  by_cases h : t.val = 0
  · simp only [select_zero t h]
    unfold forward meanSq
    have e : Scalar.cmpi .slt (BitVec.ofNat 32 (grid0.coords t 0).val) 1#32 = 1#1 := (isCtx_eq t).trans (if_pos h)
    unfold k0_pay1
    rw [e]
    pointwise [Scalar.select]
    rfl
  · simp only [select_pos t h]
    unfold forward meanSq
    have e : Scalar.cmpi .slt (BitVec.ofNat 32 (grid0.coords t 0).val) 1#32 = 0#1 := (isCtx_eq t).trans (if_neg h)
    unfold k0_pay1
    rw [e]
    pointwise [Scalar.select]
    rfl

open Cert.ReferenceN1Ideal.Read in
theorem plain_ctx (c : Dev nD) (i : Fin 256) (j : Fin 1024) : val_main_v19 (F := Ideal) (A0 m c) (A2 m c) (A3 m c) (ix2 i j)
    = forward (fun x => A0 m c (ix2 i x)) (fun x => A2 m c (ix2 0 x)) (fun x => A3 m c (ix2 0 x)) (fun x => A3 m c (ix2 1 x)) j := by
  unfold forward meanSq
  pointwise [val_main_v0, val_main_v1, val_main_v2, val_main_cst, val_main_v3, val_main_v4, val_main_cst_0, val_main_v5, val_main_v6,
    val_main_cst_1, val_main_v7, val_main_v8, val_main_v9, val_main_v10, val_main_v11, val_main_v12, val_main_v13, val_main_cst_2,
    val_main_v14, val_main_v15, val_main_v16, val_main_v17, val_main_v18, val_main_v19]

open Cert.ReferenceN1Ideal.Read in
theorem plain_x (c : Dev nD) (i : Fin 16384) (j : Fin 1024) : val_main_v39 (F := Ideal) (A1 m c) (A2 m c) (A3 m c) (ix2 i j)
    = forward (fun x => A1 m c (ix2 i x)) (fun x => A2 m c (ix2 0 x)) (fun x => A3 m c (ix2 2 x)) (fun x => A3 m c (ix2 3 x)) j := by
  unfold forward meanSq
  pointwise [val_main_v20, val_main_v21, val_main_v22, val_main_cst_3, val_main_v23, val_main_v24, val_main_cst_4, val_main_v25, val_main_v26,
    val_main_cst_5, val_main_v27, val_main_v28, val_main_v29, val_main_v30, val_main_v31, val_main_v32, val_main_v33, val_main_cst_6,
    val_main_v34, val_main_v35, val_main_v36, val_main_v37, val_main_v38, val_main_v39]

theorem emb (t : Fin cfg0.N) (i : Fin 256) (x : Fin 1024) : (win0_4.blk t).view.emb (ix2 i x) = ix2 (at_ t i) x := by
  blk_ext [idx t]

open Cert.ReferenceN1Ideal.Read in
/-- The kernel's result is the reference's. -/
theorem final (c : Dev nD) : (dats m 0 c).arrAt 4 (cfgs 0).N = val_main_v41 (F := Ideal) (A0 m c) (A1 m c) (A2 m c) (A3 m c) := by
  refine (dats m 0 c).arrAt_eq_of_covers 4 _ (by decide +kernel) fun t hf y => ?_
  blk_simp
  obtain ⟨i, j, rfl⟩ : ∃ i j, y = ix2 i j := ⟨y 0, y 1, eq_ix2 y⟩
  refine Eq.trans ?_ (congrArg _ (emb t i j).symm)
  rw [after0_4]
  unfold out0_4
  frame_out
  simp only [ld_row _ 0 (by decide), ld_row _ 1 (by decide), ld_row _ 2 (by decide), ld_row _ 3 (by decide)]
  refine (tile t _ _ _ _ _ _ _ i j).trans ?_
  pointwise [val_main_v41, val_main_v40]
  by_cases h : t.val = 0
  · have hi : t.val * 256 + i.val < 256 := by omega
    refine Eq.trans ?_ (dif_pos hi).symm
    rw [show (⟨t.val * 256 + i.val, hi⟩ : Fin 256) = i from Fin.ext (by show t.val * 256 + i.val = i.val; omega), plain_ctx]
    simp only [select_zero t h, blk_ctx, blk_g]
    simp only [← blk_t m c t]
    rfl
  · have hi : ¬ t.val * 256 + i.val < 256 := by omega
    refine Eq.trans ?_ (dif_neg hi).symm
    have ht : t.val < 65 := t.isLt
    rw [show (⟨t.val * 256 + i.val - 256, by omega⟩ : Fin 16384) = sq_ t i from
      Fin.ext (by show t.val * 256 + i.val - 256 = (t.val - 1) * 256 + i.val; omega), plain_x]
    simp only [select_pos t h, blk_x, blk_g]
    simp only [← blk_t m c t]
    rfl

end Cert.KernelN1Ideal.Value

namespace Cert.Proof

theorem quiescent_KernelN1 : Cert.quiescent_KernelN1 := fun m g _ => Cert.KernelN1.Gen.frame m g

theorem quiescent_KernelN1Ideal : Cert.quiescent_KernelN1Ideal := fun m g _ => Cert.KernelN1Ideal.Gen.frame m g

theorem quiescent_ReferenceN1Ideal : Cert.quiescent_ReferenceN1Ideal := fun m g _ =>
  (θ_run Cert.ReferenceN1Ideal.defs _ _).mono (fun r h => ⟨fun c => (h c).2, sem_eq_zero_of_no_sems (by decide) r.2⟩)
    (Cert.ReferenceN1Ideal.Value.run (F := Ideal) m g)

/-- Kernel and reference compute the same array over the extended reals. -/
theorem algebraic_KernelN1Ideal_ReferenceN1Ideal : Cert.algebraic_KernelN1Ideal_ReferenceN1Ideal := by
  pair_intro
  · run_from Cert.KernelN1Ideal.Gen.run_main m g
  · refine (θ_run _ _ _).mono (fun r h c => ?_) (Cert.ReferenceN1Ideal.Value.run m' g')
    obtain ⟨h0, hargs⟩ := h c
    obtain ⟨e0, e1, e2, e3⟩ := hagree c
    refine ⟨h0.trans ?_, hargs⟩
    rw [Cert.ReferenceN1Ideal.Read.val_main_v41_eq, e0, e1, e2, e3]
    exact (Cert.KernelN1Ideal.Value.final m c).symm

end Cert.Proof
end
-- ==== Proof.Merge.lean ====
/- The gated sum of the two branches. -/
module

public import proofs.«01_k».proof.Defs
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Gen.KernelMerge.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMergeIdeal.Value

open Cert.KernelMergeIdeal Cert.KernelMergeIdeal.Gen

variable (m : (ℓ : Loc nD τ sig) → Buf (Elt Ideal) ℓ)

/-- The arguments: the mixer's input columns, context first, and the two branches. -/
abbrev A0 (c : Dev nD) : S16640x8192.Idx → EReal := m ((c : Thread nD τ).loc main_arg0)
abbrev A1 (c : Dev nD) : S2x16384x1024.Idx → EReal := m ((c : Thread nD τ).loc main_arg1)

/-- The block of each window at grid point `t`: the gates are columns 3 and 4, their rows after the context's tile. -/
theorem idx : ∀ t : Fin cfg0.N, win0_0.index t = ![t.val + 1, 3] ∧ win0_1.index t = ![t.val + 1, 4] ∧ win0_2.index t = ![0, t.val, 0]
    ∧ win0_3.index t = ![t.val, 0] :=
  (by decide +kernel : ∀ t : Fin grid0.N, _)

/-- Where row `i` of the tile of grid point `t` lies. -/
abbrev at_ (t : Fin cfg0.N) (i : Fin 256) : Fin 16384 := ⟨t.val * 256 + i.val, by have ht : t.val < 64 := t.isLt; omega⟩

theorem blk_m (c : Dev nD) (t : Fin cfg0.N) (i : Fin 256) (j : Fin 1024) :
    (iblk m c 0 t (ix2 i j) : EReal) = A0 m c (ix2 ⟨256 + (at_ t i).val, by omega⟩ ⟨3072 + j.val, by omega⟩) := by
  blk_point [iblk, V, idx t]

theorem blk_s (c : Dev nD) (t : Fin cfg0.N) (i : Fin 256) (j : Fin 1024) :
    (iblk m c 1 t (ix2 i j) : EReal) = A0 m c (ix2 ⟨256 + (at_ t i).val, by omega⟩ ⟨4096 + j.val, by omega⟩) := by
  blk_point [iblk, V, idx t]

theorem blk_p (c : Dev nD) (t : Fin cfg0.N) (b : Fin 2) (i : Fin 256) (j : Fin 1024) :
    (iblk m c 2 t (ix3 b i j) : EReal) = A1 m c (ix3 b (at_ t i) j) := by
  blk_point [iblk, V, idx t]

open Cert.ReferenceMergeIdeal.Read in
/-- The kernel's result is the reference's sum. -/
theorem final (c : Dev nD) : (dats m 0 c).arrAt 3 (cfgs 0).N = val_main_v24 (F := Ideal) (A0 m c) (A1 m c) := by
  refine (dats m 0 c).arrAt_eq_of_covers 3 _ (by decide +kernel) fun t hf y => ?_
  blk_simp
  obtain ⟨i, j, rfl⟩ : ∃ i j, y = ix2 i j := ⟨y 0, y 1, eq_ix2 y⟩
  have emb : (win0_3.blk t).view.emb (ix2 i j) = ix2 (at_ t i) j := by
    blk_ext [idx t]
  refine Eq.trans ?_ (congrArg _ emb.symm)
  rw [after0_3]
  unfold out0_3
  frame_out
  pointwise [k0_pay1, val_main_v24, val_main_v23, val_main_v22, val_main_v21, val_main_v20, val_main_cst_2, val_main_v19, val_main_v18,
    val_main_cst_1, val_main_v17, val_main_v16, val_main_v15, val_main_v14, val_main_v13, val_main_cst_0, val_main_v12, val_main_v11,
    val_main_cst, val_main_v10, val_main_v9, val_main_v8, val_main_v7, val_main_v6, val_main_v5, val_main_v4, val_main_v3, val_main_v2,
    val_main_v1, val_main_v0]
  simp only [blk_m, blk_s, blk_p, zero_sub]

end Cert.KernelMergeIdeal.Value

namespace Cert.Proof

theorem quiescent_KernelMerge : Cert.quiescent_KernelMerge := fun m g _ => Cert.KernelMerge.Gen.frame m g

theorem quiescent_KernelMergeIdeal : Cert.quiescent_KernelMergeIdeal := fun m g _ => Cert.KernelMergeIdeal.Gen.frame m g

theorem quiescent_ReferenceMergeIdeal : Cert.quiescent_ReferenceMergeIdeal := fun m g _ =>
  (θ_run Cert.ReferenceMergeIdeal.defs _ _).mono (fun r h => ⟨fun c => (h c).2, sem_eq_zero_of_no_sems (by decide) r.2⟩)
    (Cert.ReferenceMergeIdeal.Value.run (F := Ideal) m g)

/-- Kernel and reference compute the same array over the extended reals. -/
theorem algebraic_KernelMergeIdeal_ReferenceMergeIdeal : Cert.algebraic_KernelMergeIdeal_ReferenceMergeIdeal := by
  pair_intro
  · run_from Cert.KernelMergeIdeal.Gen.run_main m g
  · refine (θ_run _ _ _).mono (fun r h c => ?_) (Cert.ReferenceMergeIdeal.Value.run m' g')
    obtain ⟨h0, hargs⟩ := h c
    obtain ⟨e0, e1⟩ := hagree c
    refine ⟨h0.trans ?_, hargs⟩
    rw [Cert.ReferenceMergeIdeal.Read.val_main_v24_eq, e0, e1]
    exact (Cert.KernelMergeIdeal.Value.final m c).symm

end Cert.Proof
end
-- ==== Proof.MergeGradient.lean ====
/- The gradient of the gated sum of the two branches, in the branches and in the gates' columns. -/
module

public import proofs.«01_k».proof.Defs
public import proofs.«01_k».proof.Proof.Gen.KernelMergeBIdeal.Frame
public import proofs.«01_k».proof.Proof.Gen.ReferenceMergeBIdeal.Run
public import proofs.«01_k».proof.Proof.Gen.ReferenceMergeBIdeal.Read
public import proofs.«01_k».proof.Proof.Gen.KernelMergeB.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMergeBIdeal.Value

open Cert.KernelMergeBIdeal Cert.KernelMergeBIdeal.Gen

variable (m : (ℓ : Loc nD τ sig) → Buf (Elt Ideal) ℓ)

/-- The arguments: the mixer's input columns, context first, the two branches, and the gradient of their gated sum. -/
abbrev A0 (c : Dev nD) : S16640x8192.Idx → EReal := m ((c : Thread nD τ).loc main_arg0)
abbrev A1 (c : Dev nD) : S2x16384x1024.Idx → EReal := m ((c : Thread nD τ).loc main_arg1)
abbrev A2 (c : Dev nD) : S16384x1024.Idx → EReal := m ((c : Thread nD τ).loc main_arg2)

/-- The block of each window at grid point `t`: one branch's tiles after the other's, the context's tile first in each. -/
theorem idx : ∀ t : Fin cfg0.N, win0_0.index t = ![t.val % 65, 3 + t.val / 65] ∧ win0_1.index t = ![t.val / 65, t.val % 65 - 1, 0]
    ∧ win0_2.index t = ![t.val % 65 - 1, 0] ∧ win0_3.index t = ![t.val / 65, t.val % 65 - 1, 0]
    ∧ win0_4.index t = ![t.val % 65, 3 + t.val / 65] :=
  (by decide +kernel : ∀ t : Fin grid0.N, _)

/-- The kernel's test for a tile of the sequence. -/
def isSeq (t : Fin cfg0.N) : BitVec 1 := Scalar.cmpi .sge (BitVec.ofNat 32 (grid0.coords t 1).val) 1#32

theorem isSeq_eq : ∀ t : Fin cfg0.N, isSeq t = if t.val % 65 = 0 then 0#1 else 1#1 :=
  (by decide +kernel : ∀ t : Fin grid0.N, _)

/-- The tile's branch; where its row `i` lies, and where in the sequence after the context's tile. -/
abbrev br (t : Fin cfg0.N) : Fin 2 := ⟨t.val / 65, by have ht : t.val < 130 := t.isLt; omega⟩
abbrev at_ (t : Fin cfg0.N) (i : Fin 256) : Fin 16640 := ⟨t.val % 65 * 256 + i.val, by omega⟩
abbrev sq_ (t : Fin cfg0.N) (i : Fin 256) : Fin 16384 := ⟨(t.val % 65 - 1) * 256 + i.val, by omega⟩

/-- The column of branch `b`'s gate. -/
abbrev col (b : Fin 2) (j : Fin 1024) : Fin 8192 := ⟨(3 + b.val) * 1024 + j.val, by omega⟩

/-- The gate. -/
def gate (x : EReal) : EReal := Ideal.div 1 (1 + Ideal.exp (-x))

theorem blk_z (c : Dev nD) (t : Fin cfg0.N) (i : Fin 256) (j : Fin 1024) :
    (iblk m c 0 t (ix2 i j) : EReal) = A0 m c (ix2 (at_ t i) (col (br t) j)) := by
  blk_point [iblk, V, idx t]

theorem blk_p (c : Dev nD) (t : Fin cfg0.N) (i : Fin 256) (j : Fin 1024) :
    (iblk m c 1 t (ix3 0 i j) : EReal) = A1 m c (ix3 (br t) (sq_ t i) j) := by
  blk_point [iblk, V, idx t]

theorem blk_d (c : Dev nD) (t : Fin cfg0.N) (i : Fin 256) (j : Fin 1024) : (iblk m c 2 t (ix2 i j) : EReal) = A2 m c (ix2 (sq_ t i) j) := by
  blk_point [iblk, V, idx t]

/-- Row `i` of the sequence among the rows of context and sequence. -/
abbrev seq (i : Fin 16384) : Fin 16640 := ⟨256 + i.val, by omega⟩

theorem seq_sq (t : Fin cfg0.N) (h : ¬ t.val % 65 = 0) (i : Fin 256) : seq (sq_ t i) = at_ t i :=
  Fin.ext (by show 256 + ((t.val % 65 - 1) * 256 + i.val) = t.val % 65 * 256 + i.val; omega)

open Cert.ReferenceMergeBIdeal.Read in
/-- The reference's gradient in a branch. -/
theorem plain_p (c : Dev nD) (b : Fin 2) (i : Fin 16384) (j : Fin 1024) :
    val_main_v41 (F := Ideal) (A0 m c) (A2 m c) (ix3 b i j) = gate (A0 m c (ix2 (seq i) (col b j))) * A2 m c (ix2 i j) := by
  unfold gate
  revert b
  refine Fin.forall_fin_two.mpr ⟨?_, ?_⟩ <;>
    pointwise [val_main_v41, val_main_v40, val_main_v39, val_main_v38, val_main_v34, val_main_v31, val_main_v30, val_main_v24, val_main_v23,
      val_main_cst_3, val_main_v22, val_main_v21, val_main_cst_2, val_main_v20, val_main_v19, val_main_v14, val_main_v13, val_main_cst_0,
      val_main_v12, val_main_v11, val_main_cst, val_main_v10, val_main_v9, val_main_v4, val_main_v3, val_main_v1, val_main_v0]
  all_goals rfl

open Cert.ReferenceMergeBIdeal.Read in
/-- The reference's gradient in a gate, at a row of the sequence. -/
theorem plain_z (c : Dev nD) (b : Fin 2) (i : Fin 16384) (j : Fin 1024) :
    val_main_v44 (F := Ideal) (A0 m c) (A1 m c) (A2 m c) (ix2 (seq i) ⟨1024 * b.val + j.val, by omega⟩)
      = A2 m c (ix2 i j) * A1 m c (ix3 b i j)
        * (gate (A0 m c (ix2 (seq i) (col b j))) * (1 - gate (A0 m c (ix2 (seq i) (col b j))))) := by
  unfold gate
  revert b
  refine Fin.forall_fin_two.mpr ⟨?_, ?_⟩ <;>
    pointwise [val_main_v44, val_main_v43, val_main_v37, val_main_v36, val_main_v35, val_main_v33, val_main_v32, val_main_v30, val_main_v27,
      val_main_v26, val_main_v25, val_main_cst_4, val_main_v24, val_main_v23,
      val_main_cst_3, val_main_v22, val_main_v21, val_main_cst_2, val_main_v20, val_main_v19, val_main_v17, val_main_v16, val_main_v15,
      val_main_cst_1, val_main_v14, val_main_v13, val_main_cst_0,
      val_main_v12, val_main_v11, val_main_cst, val_main_v10, val_main_v9, val_main_v8, val_main_v7, val_main_v6, val_main_v5, val_main_v4,
      val_main_v3, val_main_v2, val_main_v1, val_main_v0]
  all_goals rfl

open Cert.ReferenceMergeBIdeal.Read in
/-- And at a row of the context. -/
theorem plain_ctx (c : Dev nD) (i : Fin 16640) (h : i.val < 256) (j : Fin 2048) :
    val_main_v44 (F := Ideal) (A0 m c) (A1 m c) (A2 m c) (ix2 i j) = 0 := by
  pointwise [val_main_v44, val_main_v43, val_main_v42, val_main_cst_5]
  exact dif_pos h

theorem emb_p (t : Fin cfg0.N) (i : Fin 256) (j : Fin 1024) : (win0_3.blk t).view.emb (ix3 0 i j) = ix3 (br t) (sq_ t i) j := by
  blk_ext [idx t]

theorem emb_z (t : Fin cfg0.N) (i : Fin 256) (j : Fin 1024) : (win0_4.blk t).view.emb (ix2 i j) = ix2 (at_ t i) (col (br t) j) := by
  blk_ext [idx t]

open Cert.ReferenceMergeBIdeal.Read in
theorem final_p (c : Dev nD) : (dats m 0 c).arrAt 3 (cfgs 0).N = val_main_v41 (F := Ideal) (A0 m c) (A2 m c) := by
  refine (dats m 0 c).arrAt_eq_of_covers 3 _ (by decide +kernel) fun t hf y => ?_
  have h : ¬ t.val % 65 = 0 := fun h =>
    (by decide +kernel : ∀ t : Fin grid0.N, win0_3.flush t = true → ¬ t.val % 65 = 0) t hf h
  blk_simp
  obtain ⟨i, j, rfl⟩ : ∃ i j, y = ix3 0 i j := ⟨y 1, y 2, by rw [eq_ix3 y]; congr 1; exact Subsingleton.elim _ _⟩
  refine Eq.trans ?_ (congrArg _ (emb_p t i j).symm)
  rw [plain_p, seq_sq t h, after0_3]
  unfold out0_3 gate
  frame_out
  pointwise [k0_pay3, k0_pay2, k0_pay1]
  rw [blk_z, blk_d, zero_sub, mul_comm (_ : EReal) _]

/-- The kernel's value in a gate at a tile of the context, and of the sequence. -/
theorem tile_ctx (t : Fin cfg0.N) (h : t.val % 65 = 0) (x0 x2 : FVec Ideal S256x1024 .bf16) (x1 : FVec Ideal S1x256x1024 .bf16)
    (i : Fin 256) (j : Fin 1024) : k0_pay4 (F := Ideal) (grid0.coords t) x0 x2 x1 (ix2 i j) = (0 : EReal) := by
  have e : Scalar.cmpi .sge (BitVec.ofNat 32 (grid0.coords t 1).val) 1#32 = 0#1 := (isSeq_eq t).trans (if_pos h)
  unfold k0_pay4
  rw [e]
  pointwise [Scalar.select]
  rfl

theorem tile_seq (t : Fin cfg0.N) (h : ¬ t.val % 65 = 0) (x0 x2 : FVec Ideal S256x1024 .bf16) (x1 : FVec Ideal S1x256x1024 .bf16)
    (i : Fin 256) (j : Fin 1024) : k0_pay4 (F := Ideal) (grid0.coords t) x0 x2 x1 (ix2 i j)
      = (x2 (ix2 i j) : EReal) * x1 (ix3 0 i j) * (gate (x0 (ix2 i j)) * (1 - gate (x0 (ix2 i j)))) := by
  have e : Scalar.cmpi .sge (BitVec.ofNat 32 (grid0.coords t 1).val) 1#32 = 1#1 := (isSeq_eq t).trans (if_neg h)
  unfold k0_pay4 gate
  rw [e, ← mul_assoc, ← zero_sub]
  refine (congrFun (congrArg (truncf (F := Ideal) .bf16 · bitsLt_bf16_f32)
    (show Scalar.select 1#1 _ _ = _ from rfl)) (ix2 i j)).trans ?_
  pointwise [k0_pay1, k0_pay2]

/-- What the gates' columns hold at the end, at row `i` of the tile of point `t`. -/
theorem arr_z (c : Dev nD) (t : Fin cfg0.N) (i : Fin 256) (j : Fin 1024) : ((dats m 0 c).arrAt 4 (cfgs 0).N (ix2 (at_ t i) (col (br t) j)) : EReal)
    = k0_pay4 (F := Ideal) (grid0.coords t) (iblk m c 0 t) (iblk m c 2 t) (iblk m c 1 t) (ix2 i j) := by
  have hd := Pipeline.Window.hdisj_of_index_inj win0_4 fun t t' _ _ e => Fin.ext (by
    have ht : t.val < 130 := t.isLt
    have ht' : t'.val < 130 := t'.isLt
    rw [(idx t).2.2.2.2, (idx t').2.2.2.2] at e
    have e0 : t.val % 65 = t'.val % 65 := congrFun e 0
    have e1 : 3 + t.val / 65 = 3 + t'.val / 65 := congrFun e 1
    omega)
  have hf : ∀ t : Fin grid0.N, win0_4.flush t = true := by decide +kernel
  have := (dats m 0 c).arrAt_emb_eq_flushed 4 hd t (hf t) (ix2 i j)
  rw [← emb_z]
  refine this.trans ?_
  blk_simp
  rw [after0_4]
  unfold out0_4
  frame_out

/-- So the slice of the gates' columns is the reference's gradient. -/
theorem final_z (c : Dev nD) (r : Fin 16640) (q : Fin 2048) : ((dats m 0 c).arrAt 4 (cfgs 0).N (ix2 r ⟨3072 + q.val, by omega⟩) : EReal)
    = Cert.ReferenceMergeBIdeal.Read.val_main_v44 (F := Ideal) (A0 m c) (A1 m c) (A2 m c) (ix2 r q) := by
  have hN : q.val / 1024 * 65 + r.val / 256 < 130 := by omega
  obtain ⟨t, ht⟩ : ∃ t : Fin cfg0.N, t.val = q.val / 1024 * 65 + r.val / 256 := ⟨⟨_, hN⟩, rfl⟩
  obtain ⟨i, hi⟩ : ∃ i : Fin 256, i.val = r.val % 256 := ⟨⟨_, Nat.mod_lt _ (by decide)⟩, rfl⟩
  obtain ⟨j, hj⟩ : ∃ j : Fin 1024, j.val = q.val % 1024 := ⟨⟨_, Nat.mod_lt _ (by decide)⟩, rfl⟩
  have er : r = at_ t i := Fin.ext (by show r.val = t.val % 65 * 256 + i.val; omega)
  have eq : (⟨3072 + q.val, by omega⟩ : Fin 8192) = col (br t) j := Fin.ext (by show 3072 + q.val = (3 + t.val / 65) * 1024 + j.val; omega)
  have ej : q = ⟨1024 * (br t).val + j.val, by omega⟩ := Fin.ext (by show q.val = 1024 * (t.val / 65) + j.val; omega)
  rw [eq, er, arr_z]
  by_cases h : t.val % 65 = 0
  · rw [tile_ctx t h]
    exact (plain_ctx m c _ (by show t.val % 65 * 256 + i.val < 256; omega) q).symm
  · rw [tile_seq t h, ej, ← seq_sq t h, plain_z, seq_sq t h, blk_z, blk_p, blk_d]

/-- The kernel's second result is that slice. -/
theorem tail (c : Dev nD) : Pipeline.afterTail₀ cfgs (dats m) 0 (V0 m) [hostOps1] c main_v1
    = extractStridedSlice S16640x2048 ![0, 3072] ((dats m 0 c).arrAt 4 (cfgs 0).N : S16640x8192.Idx → EReal) slices_S16640x8192_S16640x2048_0_3072 := by
  unfold Pipeline.afterTail₀
  have e := Pipeline.withArrays_arr (cfgs 0).spec winFacts0.arr_inj c (V0 m c) (fun w => (dats m 0 c).arrAt w (cfgs 0).N) 4
  show StableHlo.after [_] _ _ = _
  simp only [StableHlo.after_cons, StableHlo.after_nil]
  rw [StableHlo.unary_result]
  exact congrArg (fun x : S16640x8192.Idx → EReal => extractStridedSlice S16640x2048 ![0, 3072] x slices_S16640x8192_S16640x2048_0_3072) e

theorem final_z' (c : Dev nD) : Cert.ReferenceMergeBIdeal.Read.val_main_v44 (F := Ideal) (A0 m c) (A1 m c) (A2 m c)
    = Pipeline.afterTail₀ cfgs (dats m) 0 (V0 m) [hostOps1] c main_v1 := by
  rw [tail]
  funext y
  obtain ⟨r, q, rfl⟩ : ∃ r q, y = ix2 r q := ⟨y 0, y 1, eq_ix2 y⟩
  refine (final_z m c r q).symm.trans ?_
  show _ = (dats m 0 c).arrAt 4 (cfgs 0).N _
  congr 1
  funext a
  match a with
  | 0 => exact Fin.ext (Nat.zero_add _).symm
  | 1 => rfl

end Cert.KernelMergeBIdeal.Value

namespace Cert.Proof

theorem quiescent_KernelMergeB : Cert.quiescent_KernelMergeB := fun m g _ => Cert.KernelMergeB.Gen.frame m g

theorem quiescent_KernelMergeBIdeal : Cert.quiescent_KernelMergeBIdeal := fun m g _ => Cert.KernelMergeBIdeal.Gen.frame m g

theorem quiescent_ReferenceMergeBIdeal : Cert.quiescent_ReferenceMergeBIdeal := fun m g _ =>
  (θ_run Cert.ReferenceMergeBIdeal.defs _ _).mono (fun r h => ⟨fun c => (h c).2.2, sem_eq_zero_of_no_sems (by decide) r.2⟩)
    (Cert.ReferenceMergeBIdeal.Value.run (F := Ideal) m g)

/-- Kernel and reference compute the same two arrays over the extended reals. -/
theorem algebraic_KernelMergeBIdeal_ReferenceMergeBIdeal : Cert.algebraic_KernelMergeBIdeal_ReferenceMergeBIdeal := by
  pair_intro
  · run_from Cert.KernelMergeBIdeal.Gen.run_main m g
  · refine (θ_run _ _ _).mono (fun r h c => ?_) (Cert.ReferenceMergeBIdeal.Value.run m' g')
    obtain ⟨h0, h1, hargs⟩ := h c
    obtain ⟨e0, e1, e2⟩ := hagree c
    refine ⟨h0.trans ?_, h1.trans ?_, hargs⟩
    · rw [Cert.ReferenceMergeBIdeal.Read.val_main_v41_eq, e0, e2]
      exact (Cert.KernelMergeBIdeal.Value.final_p m c).symm
    · rw [Cert.ReferenceMergeBIdeal.Read.val_main_v44_eq, e0, e1, e2]
      exact Cert.KernelMergeBIdeal.Value.final_z' m c

end Cert.Proof
end
-- ==== Proof.ActivationGradient.lean ====
/- The gradient of the gated activation, in its two halves. -/
module

public import proofs.«01_k».proof.Defs
public import proofs.«01_k».proof.Proof.Slope
public import proofs.«01_k».proof.Proof.Gen.KernelActBIdeal.Frame
public import proofs.«01_k».proof.Proof.Gen.ReferenceActBIdeal.Run
public import proofs.«01_k».proof.Proof.Gen.ReferenceActBIdeal.Read
public import proofs.«01_k».proof.Proof.Gen.Pre_finite_act
public import proofs.«01_k».proof.Proof.Gen.KernelActB.Frame
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelActBIdeal.Value

open Cert.KernelActBIdeal Cert.KernelActBIdeal.Gen Cert.Slope

variable (m : (ℓ : Loc nD τ sig) → Buf (Elt Ideal) ℓ)

/-- The arguments: the two halves before the activation, whose second gates; the first after its convolution; the gradient. -/
abbrev A0 (c : Dev nD) : S16384x5632.Idx → EReal := m ((c : Thread nD τ).loc main_arg0)
abbrev A1 (c : Dev nD) : S16384x2816.Idx → EReal := m ((c : Thread nD τ).loc main_arg1)
abbrev A2 (c : Dev nD) : S16384x2816.Idx → EReal := m ((c : Thread nD τ).loc main_arg2)

/-- The block of each window at grid point `t`. -/
theorem idx : ∀ t : Fin cfg0.N, win0_0.index t = ![t.val / 2, 2 + t.val % 2] ∧ win0_1.index t = ![t.val / 2, t.val % 2]
    ∧ win0_2.index t = ![t.val / 2, t.val % 2] ∧ win0_3.index t = ![t.val / 2, 2 + t.val % 2] ∧ win0_4.index t = ![t.val / 2, t.val % 2] :=
  (by decide +kernel : ∀ t : Fin grid0.N, _)

/-- Where row `i` and column `j` of the tile of point `t` lie. -/
abbrev row (t : Fin cfg0.N) (i : Fin 512) : Fin 16384 := ⟨t.val / 2 * 512 + i.val, by have ht : t.val < 64 := t.isLt; omega⟩
abbrev col (t : Fin cfg0.N) (j : Fin 1408) : Fin 2816 := ⟨t.val % 2 * 1408 + j.val, by omega⟩

/-- A column among those of the second half. -/
abbrev right (j : Fin 2816) : Fin 5632 := ⟨2816 + j.val, by omega⟩

theorem right_col (t : Fin cfg0.N) (j : Fin 1408) : right (col t j) = ⟨(2 + t.val % 2) * 1408 + j.val, by omega⟩ :=
  Fin.ext (by show 2816 + (t.val % 2 * 1408 + j.val) = (2 + t.val % 2) * 1408 + j.val; omega)

theorem blk_b (c : Dev nD) (t : Fin cfg0.N) (i : Fin 512) (j : Fin 1408) :
    (iblk m c 0 t (ix2 i j) : EReal) = A0 m c (ix2 (row t i) (right (col t j))) := by
  rw [right_col]
  blk_point [iblk, V, idx t]

theorem blk_a (c : Dev nD) (t : Fin cfg0.N) (i : Fin 512) (j : Fin 1408) : (iblk m c 1 t (ix2 i j) : EReal) = A1 m c (ix2 (row t i) (col t j)) := by
  blk_point [iblk, V, idx t]

theorem blk_d (c : Dev nD) (t : Fin cfg0.N) (i : Fin 512) (j : Fin 1408) : (iblk m c 2 t (ix2 i j) : EReal) = A2 m c (ix2 (row t i) (col t j)) := by
  blk_point [iblk, V, idx t]

/-- The sigmoid. -/
def sig_ (x : EReal) : EReal := Ideal.div 1 (1 + Ideal.exp (-x))

open Cert.ReferenceActBIdeal.Read in
/-- The reference's two gradients. -/
theorem plain_b (c : Dev nD) (i : Fin 16384) (j : Fin 2816) : val_main_v9 (F := Ideal) (A1 m c) (A2 m c) (ix2 i j)
    = A1 m c (ix2 i j) * sig_ (A1 m c (ix2 i j)) * A2 m c (ix2 i j) := by
  unfold sig_
  pointwise [val_main_v9, val_main_v6, val_main_v5, val_main_v3_0, val_main_v3_2, val_main_call0_v4, val_main_call0_cst_0, val_main_call0_v3,
    val_main_call0_v2, val_main_call0_cst, val_main_call0_v1, val_main_call0_v0, val_main_v0]

open Cert.ReferenceActBIdeal.Read in
theorem plain_a (c : Dev nD) (i : Fin 16384) (j : Fin 2816) : val_main_v10 (F := Ideal) (A0 m c) (A1 m c) (A2 m c) (ix2 i j)
    = A2 m c (ix2 i j) * A0 m c (ix2 i (right j)) * sig_ (A1 m c (ix2 i j))
      + A1 m c (ix2 i j) * (A2 m c (ix2 i j) * A0 m c (ix2 i (right j))) * (sig_ (A1 m c (ix2 i j)) * (1 - sig_ (A1 m c (ix2 i j)))) := by
  unfold sig_
  pointwise [val_main_v10, val_main_v8, val_main_call1_v2, val_main_call1_v1, val_main_call1_v0, val_main_v7, val_main_v5, val_main_v3_1,
    val_main_call0_v7, val_main_call0_v6, val_main_call0_cst_1, val_main_v3_2, val_main_call0_v4, val_main_call0_cst_0, val_main_call0_v3,
    val_main_call0_v2, val_main_call0_cst, val_main_call0_v1, val_main_call0_v0, val_main_v2, val_main_v1, val_main_v0]
  all_goals rfl

theorem emb_b (t : Fin cfg0.N) (i : Fin 512) (j : Fin 1408) : (win0_3.blk t).view.emb (ix2 i j) = ix2 (row t i) (right (col t j)) := by
  rw [right_col]
  blk_ext [idx t]

theorem emb_a (t : Fin cfg0.N) (i : Fin 512) (j : Fin 1408) : (win0_4.blk t).view.emb (ix2 i j) = ix2 (row t i) (col t j) := by
  blk_ext [idx t]

open Cert.ReferenceActBIdeal.Read in
theorem final_a (c : Dev nD) (h0 : ∀ i j, ∃ r : ℝ, A0 m c (ix2 i (right j)) = r) (h2 : ∀ y, ∃ r : ℝ, A2 m c y = r) :
    (dats m 0 c).arrAt 4 (cfgs 0).N = val_main_v10 (F := Ideal) (A0 m c) (A1 m c) (A2 m c) := by
  refine (dats m 0 c).arrAt_eq_of_covers 4 _ (by decide +kernel) fun t hf y => ?_
  blk_simp
  obtain ⟨i, j, rfl⟩ : ∃ i j, y = ix2 i j := ⟨y 0, y 1, eq_ix2 y⟩
  refine Eq.trans ?_ (congrArg _ (emb_a t i j).symm)
  obtain ⟨b, hb⟩ := h0 (row t i) (col t j)
  obtain ⟨d, hd⟩ := h2 (ix2 (row t i) (col t j))
  rw [plain_a, after0_4, hb, hd, ← EReal.coe_mul]
  refine Eq.trans ?_ (slope (d * b) _)
  unfold out0_4
  frame_out
  pointwise [k0_pay5, k0_pay3, k0_pay2, k0_pay1]
  rw [blk_a, blk_b, blk_d, hb, hd, zero_sub, ← EReal.coe_mul, mul_assoc]

/-- What the second half's columns hold at the end. -/
theorem arr_b (c : Dev nD) (t : Fin cfg0.N) (i : Fin 512) (j : Fin 1408) :
    ((dats m 0 c).arrAt 3 (cfgs 0).N (ix2 (row t i) (right (col t j))) : EReal)
      = Cert.ReferenceActBIdeal.Read.val_main_v9 (F := Ideal) (A1 m c) (A2 m c) (ix2 (row t i) (col t j)) := by
  have hd := Pipeline.Window.hdisj_of_index_inj win0_3 fun t t' _ _ e => Fin.ext (by
    rw [(idx t).2.2.2.1, (idx t').2.2.2.1] at e
    have e0 : t.val / 2 = t'.val / 2 := congrFun e 0
    have e1 : 2 + t.val % 2 = 2 + t'.val % 2 := congrFun e 1
    omega)
  have hf : ∀ t : Fin grid0.N, win0_3.flush t = true := by decide +kernel
  have := (dats m 0 c).arrAt_emb_eq_flushed 3 hd t (hf t) (ix2 i j)
  rw [← emb_b]
  refine this.trans ?_
  blk_simp
  rw [after0_3, plain_b]
  unfold out0_3 sig_
  frame_out
  pointwise [k0_pay4, k0_pay3, k0_pay2, k0_pay1]
  rw [blk_a, blk_d, zero_sub, mul_assoc, mul_comm]

/-- The kernel's first result is the slice of those columns. -/
theorem tail (c : Dev nD) : Pipeline.afterTail₀ cfgs (dats m) 0 (V0 m) [hostOps1] c main_v1
    = extractStridedSlice S16384x2816 ![0, 2816] ((dats m 0 c).arrAt 3 (cfgs 0).N : S16384x5632.Idx → EReal) slices_S16384x5632_S16384x2816_0_2816 := by
  unfold Pipeline.afterTail₀
  have e := Pipeline.withArrays_arr (cfgs 0).spec winFacts0.arr_inj c (V0 m c) (fun w => (dats m 0 c).arrAt w (cfgs 0).N) 3
  show StableHlo.after [_] _ _ = _
  simp only [StableHlo.after_cons, StableHlo.after_nil]
  rw [StableHlo.unary_result]
  exact congrArg (fun x : S16384x5632.Idx → EReal => extractStridedSlice S16384x2816 ![0, 2816] x slices_S16384x5632_S16384x2816_0_2816) e

/-- The slice of the second half, at an index. -/
theorem slice (x : S16384x5632.Idx → EReal) (i : Fin 16384) (j : Fin 2816) :
    extractStridedSlice S16384x2816 ![0, 2816] x slices_S16384x5632_S16384x2816_0_2816 (ix2 i j) = x (ix2 i (right j)) := by
  refine congrArg x (funext fun a => ?_)
  match a with
  | 0 => exact Fin.ext (Nat.zero_add _)
  | 1 => rfl

theorem final_b (c : Dev nD) : Cert.ReferenceActBIdeal.Read.val_main_v9 (F := Ideal) (A1 m c) (A2 m c)
    = Pipeline.afterTail₀ cfgs (dats m) 0 (V0 m) [hostOps1] c main_v1 := by
  rw [tail]
  funext y
  obtain ⟨r, q, rfl⟩ : ∃ r q, y = ix2 r q := ⟨y 0, y 1, eq_ix2 y⟩
  refine Eq.trans ?_ (slice _ r q).symm
  have hN : r.val / 512 * 2 + q.val / 1408 < 64 := by omega
  obtain ⟨t, ht⟩ : ∃ t : Fin cfg0.N, t.val = r.val / 512 * 2 + q.val / 1408 := ⟨⟨_, hN⟩, rfl⟩
  obtain ⟨i, hi⟩ : ∃ i : Fin 512, i.val = r.val % 512 := ⟨⟨_, Nat.mod_lt _ (by decide)⟩, rfl⟩
  obtain ⟨j, hj⟩ : ∃ j : Fin 1408, j.val = q.val % 1408 := ⟨⟨_, Nat.mod_lt _ (by decide)⟩, rfl⟩
  have er : r = row t i := Fin.ext (by show r.val = t.val / 2 * 512 + i.val; omega)
  have eq : q = col t j := Fin.ext (by show q.val = t.val % 2 * 1408 + j.val; omega)
  rw [er, eq]
  exact (arr_b m c t i j).symm

end Cert.KernelActBIdeal.Value

namespace Cert.Proof

open Cert.KernelActBIdeal.Value Cert.Slope

theorem quiescent_KernelActB : Cert.quiescent_KernelActB := fun m g _ => Cert.KernelActB.Gen.frame m g

theorem quiescent_KernelActBIdeal : Cert.quiescent_KernelActBIdeal := fun m g _ => Cert.KernelActBIdeal.Gen.frame m g

theorem quiescent_KernelActBIdeal_pre_finite_act : Cert.quiescent_KernelActBIdeal_pre_finite_act := fun m g _ =>
  Cert.KernelActBIdeal.Gen.frame m g

theorem quiescent_ReferenceActBIdeal : Cert.quiescent_ReferenceActBIdeal := fun m g _ =>
  (θ_run Cert.ReferenceActBIdeal.defs _ _).mono (fun r h => ⟨fun c => (h c).2.2, sem_eq_zero_of_no_sems (by decide) r.2⟩)
    (Cert.ReferenceActBIdeal.Value.run (F := Ideal) m g)

theorem quiescent_ReferenceActBIdeal_pre_finite_act : Cert.quiescent_ReferenceActBIdeal_pre_finite_act := fun m g _ =>
  quiescent_ReferenceActBIdeal m g trivial

/-- Where the gradient and the gating half are finite, kernel and reference compute the same two arrays over the extended reals. -/
theorem algebraic_KernelActBIdeal_ReferenceActBIdeal_pre_finite_act : Cert.algebraic_KernelActBIdeal_ReferenceActBIdeal_pre_finite_act := by
  pair_intro
  · run_from Cert.KernelActBIdeal.Gen.run_main m g
  · refine (θ_run _ _ _).mono (fun r h c => ?_) (Cert.ReferenceActBIdeal.Value.run m' g')
    obtain ⟨h0, h1, hargs⟩ := h c
    obtain ⟨e0, e1, e2⟩ := hagree c
    refine ⟨h0.trans ?_, h1.trans ?_, hargs⟩
    · rw [Cert.ReferenceActBIdeal.Read.val_main_v9_eq, e1, e2]
      exact final_b m c
    · rw [Cert.ReferenceActBIdeal.Read.val_main_v10_eq, e0, e1, e2]
      refine (final_a m c (fun i j => ?_) fun y => real_of_below _ (congrFun (hpre c).2 y)).symm
      rw [← slice (A0 m c)]
      exact real_of_below _ (congrFun (hpre c).1 (ix2 i j))

end Cert.Proof
end
-- ==== Proof.lean ====
/- The certificate: the statement and its proof. -/
module

public import proofs.«01_k».proof.Defs
public import proofs.«01_k».proof.Proof.ProductBranch
public import proofs.«01_k».proof.Proof.ProductDbranch
public import proofs.«01_k».proof.Proof.ProductDdown
public import proofs.«01_k».proof.Proof.ProductDg
public import proofs.«01_k».proof.Proof.ProductDmain
public import proofs.«01_k».proof.Proof.ProductDout
public import proofs.«01_k».proof.Proof.ProductDown
public import proofs.«01_k».proof.Proof.ProductDup
public import proofs.«01_k».proof.Proof.ProductMbranch
public import proofs.«01_k».proof.Proof.ProductMdown
public import proofs.«01_k».proof.Proof.ProductMg
public import proofs.«01_k».proof.Proof.ProductMmain
public import proofs.«01_k».proof.Proof.ProductMout
public import proofs.«01_k».proof.Proof.ProductMup
public import proofs.«01_k».proof.Proof.ProductOut
public import proofs.«01_k».proof.Proof.ProductUp
public import proofs.«01_k».proof.Proof.ProductZg
public import proofs.«01_k».proof.Proof.ProductZmain
public import proofs.«01_k».proof.Proof.Norm5
public import proofs.«01_k».proof.Proof.AdamWMod
public import proofs.«01_k».proof.Proof.AdamWIn
public import proofs.«01_k».proof.Proof.AdamWBranch
public import proofs.«01_k».proof.Proof.AdamWUp
public import proofs.«01_k».proof.Proof.AdamWDown
public import proofs.«01_k».proof.Proof.AdamWSmall
public import proofs.«01_k».proof.Proof.FirstNorm
public import proofs.«01_k».proof.Proof.LossHead
public import proofs.«01_k».proof.Proof.Sums
public import proofs.«01_k».proof.Proof.ModulationWeight
public import proofs.«01_k».proof.Proof.ContextVector
public import proofs.«01_k».proof.Proof.PairSums
public import proofs.«01_k».proof.Proof.ForwardModulation
public import proofs.«01_k».proof.Proof.ForwardNorm
public import proofs.«01_k».proof.Proof.ForwardFirstNorm
public import proofs.«01_k».proof.Proof.Merge
public import proofs.«01_k».proof.Proof.MergeGradient
public import proofs.«01_k».proof.Proof.ActivationGradient

@[expose] public section

set_option maxRecDepth 16384

namespace Cert.Proof

/-- Every claim of the certificate. -/
theorem claim : Cert.Claim := ⟨
  Cert.KernelZmain.Gen.facts, Cert.KernelZmainIdeal.Gen.facts, Cert.ReferenceZmainIdeal.Gen.facts,
  Cert.KernelZg.Gen.facts, Cert.KernelZgIdeal.Gen.facts, Cert.ReferenceZgIdeal.Gen.facts,
  Cert.KernelBranch.Gen.facts, Cert.KernelBranchIdeal.Gen.facts, Cert.ReferenceBranchIdeal.Gen.facts,
  Cert.KernelOut.Gen.facts, Cert.KernelOutIdeal.Gen.facts, Cert.ReferenceOutIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelDdown.Gen.facts, Cert.KernelDdownIdeal.Gen.facts, Cert.ReferenceDdownIdeal.Gen.facts,
  Cert.KernelDup.Gen.facts, Cert.KernelDupIdeal.Gen.facts, Cert.ReferenceDupIdeal.Gen.facts,
  Cert.KernelDout.Gen.facts, Cert.KernelDoutIdeal.Gen.facts, Cert.ReferenceDoutIdeal.Gen.facts,
  Cert.KernelDbranch.Gen.facts, Cert.KernelDbranchIdeal.Gen.facts, Cert.ReferenceDbranchIdeal.Gen.facts,
  Cert.KernelDmain.Gen.facts, Cert.KernelDmainIdeal.Gen.facts, Cert.ReferenceDmainIdeal.Gen.facts,
  Cert.KernelDg.Gen.facts, Cert.KernelDgIdeal.Gen.facts, Cert.ReferenceDgIdeal.Gen.facts,
  Cert.KernelMdown.Gen.facts, Cert.KernelMdownIdeal.Gen.facts, Cert.ReferenceMdownIdeal.Gen.facts,
  Cert.KernelMup.Gen.facts, Cert.KernelMupIdeal.Gen.facts, Cert.ReferenceMupIdeal.Gen.facts,
  Cert.KernelMout.Gen.facts, Cert.KernelMoutIdeal.Gen.facts, Cert.ReferenceMoutIdeal.Gen.facts,
  Cert.KernelMbranch.Gen.facts, Cert.KernelMbranchIdeal.Gen.facts, Cert.ReferenceMbranchIdeal.Gen.facts,
  Cert.KernelMmain.Gen.facts, Cert.KernelMmainIdeal.Gen.facts, Cert.ReferenceMmainIdeal.Gen.facts,
  Cert.KernelMg.Gen.facts, Cert.KernelMgIdeal.Gen.facts, Cert.ReferenceMgIdeal.Gen.facts, Cert.Kernel2.Gen.facts,
  Cert.Kernel2Ideal.Gen.facts, Cert.Reference2Ideal.Gen.facts, Cert.Kernel1.Gen.facts,
  Cert.Kernel1Ideal.Gen.facts, Cert.Reference1Ideal.Gen.facts, Cert.KernelAmod.Gen.facts,
  Cert.KernelAmodIdeal.Gen.facts, Cert.ReferenceAmodIdeal.Gen.facts, Cert.KernelAin.Gen.facts,
  Cert.KernelAinIdeal.Gen.facts, Cert.ReferenceAinIdeal.Gen.facts, Cert.KernelAbranch.Gen.facts,
  Cert.KernelAbranchIdeal.Gen.facts, Cert.ReferenceAbranchIdeal.Gen.facts, Cert.KernelAup.Gen.facts,
  Cert.KernelAupIdeal.Gen.facts, Cert.ReferenceAupIdeal.Gen.facts, Cert.KernelAdown.Gen.facts,
  Cert.KernelAdownIdeal.Gen.facts, Cert.ReferenceAdownIdeal.Gen.facts, Cert.KernelAsmall.Gen.facts,
  Cert.KernelAsmallIdeal.Gen.facts, Cert.ReferenceAsmallIdeal.Gen.facts, Cert.KernelHead.Gen.facts,
  Cert.KernelHeadIdeal.Gen.facts, Cert.ReferenceHeadIdeal.Gen.facts, Cert.KernelSmallSum.Gen.facts,
  Cert.KernelSmallSumIdeal.Gen.facts, Cert.ReferenceSmallSumIdeal.Gen.facts, Cert.KernelColSum.Gen.facts,
  Cert.KernelColSumIdeal.Gen.facts, Cert.ReferenceColSumIdeal.Gen.facts, Cert.KernelRowSum.Gen.facts,
  Cert.KernelRowSumIdeal.Gen.facts, Cert.ReferenceRowSumIdeal.Gen.facts, Cert.KernelModW.Gen.facts,
  Cert.KernelModWIdeal.Gen.facts, Cert.ReferenceModWIdeal.Gen.facts, Cert.KernelCctx.Gen.facts,
  Cert.KernelCctxIdeal.Gen.facts, Cert.ReferenceCctxIdeal.Gen.facts, Cert.KernelPairCol.Gen.facts,
  Cert.KernelPairColIdeal.Gen.facts, Cert.ReferencePairColIdeal.Gen.facts, Cert.KernelPairRow.Gen.facts,
  Cert.KernelPairRowIdeal.Gen.facts, Cert.ReferencePairRowIdeal.Gen.facts, Cert.KernelModF.Gen.facts,
  Cert.KernelModFIdeal.Gen.facts, Cert.ReferenceModFIdeal.Gen.facts, Cert.KernelN1.Gen.facts,
  Cert.KernelN1Ideal.Gen.facts, Cert.ReferenceN1Ideal.Gen.facts, Cert.KernelN2.Gen.facts,
  Cert.KernelN2Ideal.Gen.facts, Cert.ReferenceN2Ideal.Gen.facts, Cert.KernelMerge.Gen.facts,
  Cert.KernelMergeIdeal.Gen.facts, Cert.ReferenceMergeIdeal.Gen.facts, Cert.KernelMergeB.Gen.facts,
  Cert.KernelMergeBIdeal.Gen.facts, Cert.ReferenceMergeBIdeal.Gen.facts, Cert.KernelActB.Gen.facts,
  Cert.KernelActBIdeal.Gen.facts, Cert.ReferenceActBIdeal.Gen.facts, Cert.Pre_finite_cctx.Gen.facts,
  Cert.Pre_finite_act.Gen.facts,
  quiescent_KernelZmain,
  quiescent_KernelZmainIdeal,
  quiescent_ReferenceZmainIdeal,
  quiescent_KernelZg,
  quiescent_KernelZgIdeal,
  quiescent_ReferenceZgIdeal,
  quiescent_KernelBranch,
  quiescent_KernelBranchIdeal,
  quiescent_ReferenceBranchIdeal,
  quiescent_KernelOut,
  quiescent_KernelOutIdeal,
  quiescent_ReferenceOutIdeal,
  quiescent_KernelUp,
  quiescent_KernelUpIdeal,
  quiescent_ReferenceUpIdeal,
  quiescent_KernelDown,
  quiescent_KernelDownIdeal,
  quiescent_ReferenceDownIdeal,
  quiescent_KernelDdown,
  quiescent_KernelDdownIdeal,
  quiescent_ReferenceDdownIdeal,
  quiescent_KernelDup,
  quiescent_KernelDupIdeal,
  quiescent_ReferenceDupIdeal,
  quiescent_KernelDout,
  quiescent_KernelDoutIdeal,
  quiescent_ReferenceDoutIdeal,
  quiescent_KernelDbranch,
  quiescent_KernelDbranchIdeal,
  quiescent_ReferenceDbranchIdeal,
  quiescent_KernelDmain,
  quiescent_KernelDmainIdeal,
  quiescent_ReferenceDmainIdeal,
  quiescent_KernelDg,
  quiescent_KernelDgIdeal,
  quiescent_ReferenceDgIdeal,
  quiescent_KernelMdown,
  quiescent_KernelMdownIdeal,
  quiescent_ReferenceMdownIdeal,
  quiescent_KernelMup,
  quiescent_KernelMupIdeal,
  quiescent_ReferenceMupIdeal,
  quiescent_KernelMout,
  quiescent_KernelMoutIdeal,
  quiescent_ReferenceMoutIdeal,
  quiescent_KernelMbranch,
  quiescent_KernelMbranchIdeal,
  quiescent_ReferenceMbranchIdeal,
  quiescent_KernelMmain,
  quiescent_KernelMmainIdeal,
  quiescent_ReferenceMmainIdeal,
  quiescent_KernelMg,
  quiescent_KernelMgIdeal,
  quiescent_ReferenceMgIdeal,
  quiescent_Kernel2,
  quiescent_Kernel2Ideal,
  quiescent_Reference2Ideal,
  quiescent_Kernel1,
  quiescent_Kernel1Ideal,
  quiescent_Reference1Ideal,
  quiescent_KernelAmod,
  quiescent_KernelAmodIdeal,
  quiescent_ReferenceAmodIdeal,
  quiescent_KernelAin,
  quiescent_KernelAinIdeal,
  quiescent_ReferenceAinIdeal,
  quiescent_KernelAbranch,
  quiescent_KernelAbranchIdeal,
  quiescent_ReferenceAbranchIdeal,
  quiescent_KernelAup,
  quiescent_KernelAupIdeal,
  quiescent_ReferenceAupIdeal,
  quiescent_KernelAdown,
  quiescent_KernelAdownIdeal,
  quiescent_ReferenceAdownIdeal,
  quiescent_KernelAsmall,
  quiescent_KernelAsmallIdeal,
  quiescent_ReferenceAsmallIdeal,
  quiescent_KernelHead,
  quiescent_KernelHeadIdeal,
  quiescent_ReferenceHeadIdeal,
  quiescent_KernelSmallSum,
  quiescent_KernelSmallSumIdeal,
  quiescent_ReferenceSmallSumIdeal,
  quiescent_KernelColSum,
  quiescent_KernelColSumIdeal,
  quiescent_ReferenceColSumIdeal,
  quiescent_KernelRowSum,
  quiescent_KernelRowSumIdeal,
  quiescent_ReferenceRowSumIdeal,
  quiescent_KernelModW,
  quiescent_KernelModWIdeal,
  quiescent_ReferenceModWIdeal,
  quiescent_KernelCctx,
  quiescent_KernelCctxIdeal,
  quiescent_KernelCctxIdeal_pre_finite_cctx,
  quiescent_ReferenceCctxIdeal,
  quiescent_ReferenceCctxIdeal_pre_finite_cctx,
  quiescent_KernelPairCol,
  quiescent_KernelPairColIdeal,
  quiescent_ReferencePairColIdeal,
  quiescent_KernelPairRow,
  quiescent_KernelPairRowIdeal,
  quiescent_ReferencePairRowIdeal,
  quiescent_KernelModF,
  quiescent_KernelModFIdeal,
  quiescent_ReferenceModFIdeal,
  quiescent_KernelN1,
  quiescent_KernelN1Ideal,
  quiescent_ReferenceN1Ideal,
  quiescent_KernelN2,
  quiescent_KernelN2Ideal,
  quiescent_ReferenceN2Ideal,
  quiescent_KernelMerge,
  quiescent_KernelMergeIdeal,
  quiescent_ReferenceMergeIdeal,
  quiescent_KernelMergeB,
  quiescent_KernelMergeBIdeal,
  quiescent_ReferenceMergeBIdeal,
  quiescent_KernelActB,
  quiescent_KernelActBIdeal,
  quiescent_KernelActBIdeal_pre_finite_act,
  quiescent_ReferenceActBIdeal,
  quiescent_ReferenceActBIdeal_pre_finite_act,
  trivial,
  algebraic_KernelZmainIdeal_ReferenceZmainIdeal,
  trivial,
  algebraic_KernelZgIdeal_ReferenceZgIdeal,
  trivial,
  algebraic_KernelBranchIdeal_ReferenceBranchIdeal,
  trivial,
  algebraic_KernelOutIdeal_ReferenceOutIdeal,
  trivial,
  algebraic_KernelUpIdeal_ReferenceUpIdeal,
  trivial,
  algebraic_KernelDownIdeal_ReferenceDownIdeal,
  trivial,
  algebraic_KernelDdownIdeal_ReferenceDdownIdeal,
  trivial,
  algebraic_KernelDupIdeal_ReferenceDupIdeal,
  trivial,
  algebraic_KernelDoutIdeal_ReferenceDoutIdeal,
  trivial,
  algebraic_KernelDbranchIdeal_ReferenceDbranchIdeal,
  trivial,
  algebraic_KernelDmainIdeal_ReferenceDmainIdeal,
  trivial,
  algebraic_KernelDgIdeal_ReferenceDgIdeal,
  trivial,
  algebraic_KernelMdownIdeal_ReferenceMdownIdeal,
  trivial,
  algebraic_KernelMupIdeal_ReferenceMupIdeal,
  trivial,
  algebraic_KernelMoutIdeal_ReferenceMoutIdeal,
  trivial,
  algebraic_KernelMbranchIdeal_ReferenceMbranchIdeal,
  trivial,
  algebraic_KernelMmainIdeal_ReferenceMmainIdeal,
  trivial,
  algebraic_KernelMgIdeal_ReferenceMgIdeal,
  trivial,
  algebraic_Kernel2Ideal_Reference2Ideal,
  trivial,
  algebraic_Kernel1Ideal_Reference1Ideal,
  preserves_KernelAmod_KernelAmodIdeal,
  algebraic_KernelAmodIdeal_ReferenceAmodIdeal,
  preserves_KernelAin_KernelAinIdeal,
  algebraic_KernelAinIdeal_ReferenceAinIdeal,
  preserves_KernelAbranch_KernelAbranchIdeal,
  algebraic_KernelAbranchIdeal_ReferenceAbranchIdeal,
  preserves_KernelAup_KernelAupIdeal,
  algebraic_KernelAupIdeal_ReferenceAupIdeal,
  preserves_KernelAdown_KernelAdownIdeal,
  algebraic_KernelAdownIdeal_ReferenceAdownIdeal,
  preserves_KernelAsmall_KernelAsmallIdeal,
  algebraic_KernelAsmallIdeal_ReferenceAsmallIdeal,
  trivial,
  algebraic_KernelHeadIdeal_ReferenceHeadIdeal,
  trivial,
  algebraic_KernelSmallSumIdeal_ReferenceSmallSumIdeal,
  trivial,
  algebraic_KernelColSumIdeal_ReferenceColSumIdeal,
  trivial,
  algebraic_KernelRowSumIdeal_ReferenceRowSumIdeal,
  trivial,
  algebraic_KernelModWIdeal_ReferenceModWIdeal,
  trivial,
  algebraic_KernelCctxIdeal_ReferenceCctxIdeal_pre_finite_cctx,
  trivial,
  algebraic_KernelPairColIdeal_ReferencePairColIdeal,
  trivial,
  algebraic_KernelPairRowIdeal_ReferencePairRowIdeal,
  trivial,
  algebraic_KernelModFIdeal_ReferenceModFIdeal,
  trivial,
  algebraic_KernelN1Ideal_ReferenceN1Ideal,
  trivial,
  algebraic_KernelN2Ideal_ReferenceN2Ideal,
  trivial,
  algebraic_KernelMergeIdeal_ReferenceMergeIdeal,
  trivial,
  algebraic_KernelMergeBIdeal_ReferenceMergeBIdeal,
  trivial,
  algebraic_KernelActBIdeal_ReferenceActBIdeal_pre_finite_act⟩

end Cert.Proof

end
